-- ==== Defs.lean ====
def Pre_Kernel [hPre_ids_in_rows : Cert.Pre_ids_in_rows.Facts] (m : (ℓ : Loc Cert.Kernel.nD Cert.Kernel.τ Cert.Kernel.sig) → Buf (Elt Bits) ℓ) : Prop :=
  ∀ c : Dev Cert.Kernel.nD,
    (Cert.Pre_ids_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_ids_in_rows : Cert.Pre_ids_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_KernelIdeal_ids_in_rows_floats_finite [hPre_ids_in_rows_floats_finite : Cert.Pre_ids_in_rows_floats_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_rows_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_rows_floats_finite [hPre_ids_in_rows_floats_finite : Cert.Pre_ids_in_rows_floats_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_rows_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def quiescent_Kernel [hKernel : Cert.Kernel.Facts] [hPre_ids_in_rows : Cert.Pre_ids_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))
      ∧ r.2.sem = fun _ => 0)

def quiescent_KernelIdeal [hKernelIdeal : Cert.KernelIdeal.Facts] [hPre_ids_in_rows : Cert.Pre_ids_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ r.2.sem = fun _ => 0)

def quiescent_KernelIdeal_pre_ids_in_rows_floats_finite [hKernelIdeal : Cert.KernelIdeal.Facts] [hPre_ids_in_rows_floats_finite : Cert.Pre_ids_in_rows_floats_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_rows_floats_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))
      ∧ r.2.sem = fun _ => 0)

def quiescent_ReferenceIdeal_pre_ids_in_rows_floats_finite [hReferenceIdeal : Cert.ReferenceIdeal.Facts] [hPre_ids_in_rows_floats_finite : Cert.Pre_ids_in_rows_floats_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_rows_floats_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))
      ∧ r.2.sem = fun _ => 0)

def preserves_Kernel_KernelIdeal : Prop :=
  True

def algebraic_KernelIdeal_ReferenceIdeal_pre_ids_in_rows_floats_finite [hKernelIdeal : Cert.KernelIdeal.Facts] [hReferenceIdeal : Cert.ReferenceIdeal.Facts] [hPre_ids_in_rows_floats_finite : Cert.Pre_ids_in_rows_floats_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_rows_floats_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v347) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_ids_in_rows : Cert.Pre_ids_in_rows.Facts) (hPre_ids_in_rows_floats_finite : Cert.Pre_ids_in_rows_floats_finite.Facts),
    quiescent_Kernel (hKernel := hKernel) (hPre_ids_in_rows := hPre_ids_in_rows)
    ∧ quiescent_KernelIdeal (hKernelIdeal := hKernelIdeal) (hPre_ids_in_rows := hPre_ids_in_rows)
    ∧ quiescent_KernelIdeal_pre_ids_in_rows_floats_finite (hKernelIdeal := hKernelIdeal) (hPre_ids_in_rows_floats_finite := hPre_ids_in_rows_floats_finite)
    ∧ quiescent_ReferenceIdeal (hReferenceIdeal := hReferenceIdeal)
    ∧ quiescent_ReferenceIdeal_pre_ids_in_rows_floats_finite (hReferenceIdeal := hReferenceIdeal) (hPre_ids_in_rows_floats_finite := hPre_ids_in_rows_floats_finite)
    ∧ preserves_Kernel_KernelIdeal
    ∧ algebraic_KernelIdeal_ReferenceIdeal_pre_ids_in_rows_floats_finite (hKernelIdeal := hKernelIdeal) (hReferenceIdeal := hReferenceIdeal) (hPre_ids_in_rows_floats_finite := hPre_ids_in_rows_floats_finite)
-- ==== Pre_ids_in_rows.lean ====
abbrev S4096 : Shape := ⟨1, ![4096]⟩
abbrev S4096x200 : Shape := ⟨2, ![4096, 200]⟩
abbrev S1000000x16 : Shape := ⟨2, ![1000000, 16]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S80x32 : Shape := ⟨2, ![80, 32]⟩
abbrev S32 : Shape := ⟨1, ![32]⟩
abbrev S32x16 : Shape := ⟨2, ![32, 16]⟩
abbrev S16x1 : Shape := ⟨2, ![16, 1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg3 : IVec S4096 32) (main_arg4 : IVec S4096x200 32) (main_arg6 : IVec S4096 32) (main_v12 : IVec S_ 1) (main_v14 : IVec S4096 1) (main_v15 : IVec S4096 32) : IVec S_ 1 :=
  let main_v16 : IVec S4096 1 := cmpi .slt main_arg3 main_v15
  let main_v17 : IVec S4096 1 := andi main_v14 main_v16
  let main_c_7 : IVec S_ 1 := constantI S_ 1 1#1
  let main_v18 : IVec S_ 1 := (fun x v => Host.reduce IntOp.andi x v reducesTo_S4096_S_d0 h_S_) main_v17 main_c_7
  let main_v19 : IVec S_ 1 := andi main_v12 main_v18
  let main_c_8 : IVec S_ 32 := constantI S_ 32 0#32
  let main_v20 : IVec S4096x200 32 := broadcastInDim S4096x200 ![] bcast_S_S4096x200 main_c_8
  let main_v21 : IVec S4096x200 1 := cmpi .sge main_arg4 main_v20
  let main_c_9 : IVec S_ 32 := constantI S_ 32 1000000#32
  let main_v22 : IVec S4096x200 32 := broadcastInDim S4096x200 ![] bcast_S_S4096x200 main_c_9
  let main_v23 : IVec S4096x200 1 := cmpi .slt main_arg4 main_v22
  let main_v24 : IVec S4096x200 1 := andi main_v21 main_v23
  let main_c_10 : IVec S_ 1 := constantI S_ 1 1#1
  let main_v25 : IVec S_ 1 := (fun x v => Host.reduce IntOp.andi x v reducesTo_S4096x200_S_d0_1 h_S_) main_v24 main_c_10
  let main_v26 : IVec S_ 1 := andi main_v19 main_v25
  let main_c_11 : IVec S_ 32 := constantI S_ 32 0#32
  let main_v27 : IVec S4096 32 := broadcastInDim S4096 ![] bcast_S_S4096 main_c_11
  let main_v28 : IVec S4096 1 := cmpi .sge main_arg6 main_v27
  let main_c_12 : IVec S_ 32 := constantI S_ 32 1000000#32
  let main_v29 : IVec S4096 32 := broadcastInDim S4096 ![] bcast_S_S4096 main_c_12
  let main_v30 : IVec S4096 1 := cmpi .slt main_arg6 main_v29
  let main_v31 : IVec S4096 1 := andi main_v28 main_v30
  let main_c_13 : IVec S_ 1 := constantI S_ 1 1#1
  let main_v32 : IVec S_ 1 := (fun x v => Host.reduce IntOp.andi x v reducesTo_S4096_S_d0 h_S_) main_v31 main_c_13
  fn_part2 (F := F) main_v26 main_v32

def fn {F : FTy → Type} [FloatOps F] (main_arg0 : IVec S4096 32) (main_arg1 : IVec S4096x200 32) (main_arg2 : IVec S4096 32) (main_arg3 : IVec S4096 32) (main_arg4 : IVec S4096x200 32) (main_arg5 : IVec S4096 32) (main_arg6 : IVec S4096 32) (main_arg7 : FVec F S1000000x16 .f32) (main_arg8 : FVec F S64x16 .f32) (main_arg9 : FVec F S16 .f32) (main_arg10 : FVec F S16 .f32) (main_arg11 : FVec F S16 .f32) (main_arg12 : FVec F S16 .f32) (main_arg13 : FVec F S16x8 .f32) (main_arg14 : FVec F S8 .f32) (main_arg15 : FVec F S8 .f32) (main_arg16 : FVec F S8 .f32) (main_arg17 : FVec F S8 .f32) (main_arg18 : FVec F S8x1 .f32) (main_arg19 : FVec F S1 .f32) (main_arg20 : FVec F S80x32 .f32) (main_arg21 : FVec F S32 .f32) (main_arg22 : FVec F S32 .f32) (main_arg23 : FVec F S32 .f32) (main_arg24 : FVec F S32 .f32) (main_arg25 : FVec F S32x16 .f32) (main_arg26 : FVec F S16 .f32) (main_arg27 : FVec F S16 .f32) (main_arg28 : FVec F S16 .f32) (main_arg29 : FVec F S16 .f32) (main_arg30 : FVec F S16x1 .f32) (main_arg31 : FVec F S1 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 1000000#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096x200 32 := broadcastInDim S4096x200 ![] bcast_S_S4096x200 main_c_2
  let main_v7 : IVec S4096x200 1 := cmpi .sge main_arg1 main_v6
  let main_c_3 : IVec S_ 32 := constantI S_ 32 1000000#32
  let main_v8 : IVec S4096x200 32 := broadcastInDim S4096x200 ![] bcast_S_S4096x200 main_c_3
  let main_v9 : IVec S4096x200 1 := cmpi .slt main_arg1 main_v8
  let main_v10 : IVec S4096x200 1 := andi main_v7 main_v9
  let main_c_4 : IVec S_ 1 := constantI S_ 1 1#1
  let main_v11 : IVec S_ 1 := (fun x v => Host.reduce IntOp.andi x v reducesTo_S4096x200_S_d0_1 h_S_) main_v10 main_c_4
  let main_v12 : IVec S_ 1 := andi main_v5 main_v11
  let main_c_5 : IVec S_ 32 := constantI S_ 32 0#32
  let main_v13 : IVec S4096 32 := broadcastInDim S4096 ![] bcast_S_S4096 main_c_5
  let main_v14 : IVec S4096 1 := cmpi .sge main_arg3 main_v13
  let main_c_6 : IVec S_ 32 := constantI S_ 32 1000000#32
  let main_v15 : IVec S4096 32 := broadcastInDim S4096 ![] bcast_S_S4096 main_c_6
  fn_part1 (F := F) main_arg3 main_arg4 main_arg6 main_v12 main_v14 main_v15
-- ==== Pre_ids_in_rows_floats_finite.lean ====
abbrev S4096 : Shape := ⟨1, ![4096]⟩
abbrev S4096x200 : Shape := ⟨2, ![4096, 200]⟩
abbrev S1000000x16 : Shape := ⟨2, ![1000000, 16]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S80x32 : Shape := ⟨2, ![80, 32]⟩
abbrev S32 : Shape := ⟨1, ![32]⟩
abbrev S32x16 : Shape := ⟨2, ![32, 16]⟩
abbrev S16x1 : Shape := ⟨2, ![16, 1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x200 : S_.BroadcastsInDim S4096x200 (![] : Fin 0 → Fin S4096x200.rank)
  reducesTo_S4096x200_S_d0_1 : S4096x200.ReducesTo [0, 1] S_
  bcast_S_S1000000x16 : S_.BroadcastsInDim S1000000x16 (![] : Fin 0 → Fin S1000000x16.rank)
  reducesTo_S1000000x16_S_d0_1 : S1000000x16.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S80x32 : S_.BroadcastsInDim S80x32 (![] : Fin 0 → Fin S80x32.rank)
  reducesTo_S80x32_S_d0_1 : S80x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16x1 : S_.BroadcastsInDim S16x1 (![] : Fin 0 → Fin S16x1.rank)
  reducesTo_S16x1_S_d0_1 : S16x1.ReducesTo [0, 1] S_

variable [Facts]

def fn_part9 {F : FTy → Type} [FloatOps F] (main_arg31 : FVec F S1 .f32) (main_v148 : IVec S_ 1) (main_v152 : IVec S_ 1) : IVec S_ 1 :=
  let main_v153 : IVec S_ 1 := andi main_v148 main_v152
  let main_v154 : FVec F S1 .f32 := Host.absf main_arg31
  let main_cst_61 : FVec F S_ .f32 := constant S_ .f32 0x7F800000#32
  let main_v155 : FVec F S1 .f32 := broadcastInDim S1 ![] bcast_S_S1 main_cst_61
  let main_v156 : IVec S1 1 := cmpf .olt main_v154 main_v155
  let main_c_62 : IVec S_ 1 := constantI S_ 1 1#1
  let main_v157 : IVec S_ 1 := (fun x v => Host.reduce IntOp.andi x v reducesTo_S1_S_d0 h_S_) main_v156 main_c_62
  let main_v158 : IVec S_ 1 := andi main_v153 main_v157
  main_v158

def fn_part8 {F : FTy → Type} [FloatOps F] (main_arg28 : FVec F S16 .f32) (main_arg29 : FVec F S16 .f32) (main_arg30 : FVec F S16x1 .f32) (main_arg31 : FVec F S1 .f32) (main_v133 : IVec S_ 1) (main_v134 : FVec F S16 .f32) (main_v135 : FVec F S16 .f32) : IVec S_ 1 :=
  let main_v136 : IVec S16 1 := cmpf .olt main_v134 main_v135
  let main_c_54 : IVec S_ 1 := constantI S_ 1 1#1
  let main_v137 : IVec S_ 1 := (fun x v => Host.reduce IntOp.andi x v reducesTo_S16_S_d0 h_S_) main_v136 main_c_54
  let main_v138 : IVec S_ 1 := andi main_v133 main_v137
  let main_v139 : FVec F S16 .f32 := Host.absf main_arg28
  let main_cst_55 : FVec F S_ .f32 := constant S_ .f32 0x7F800000#32
  let main_v140 : FVec F S16 .f32 := broadcastInDim S16 ![] bcast_S_S16 main_cst_55
  let main_v141 : IVec S16 1 := cmpf .olt main_v139 main_v140
  let main_c_56 : IVec S_ 1 := constantI S_ 1 1#1
  let main_v142 : IVec S_ 1 := (fun x v => Host.reduce IntOp.andi x v reducesTo_S16_S_d0 h_S_) main_v141 main_c_56
  let main_v143 : IVec S_ 1 := andi main_v138 main_v142
  let main_v144 : FVec F S16 .f32 := Host.absf main_arg29
  let main_cst_57 : FVec F S_ .f32 := constant S_ .f32 0x7F800000#32
  let main_v145 : FVec F S16 .f32 := broadcastInDim S16 ![] bcast_S_S16 main_cst_57
  let main_v146 : IVec S16 1 := cmpf .olt main_v144 main_v145
  let main_c_58 : IVec S_ 1 := constantI S_ 1 1#1
  let main_v147 : IVec S_ 1 := (fun x v => Host.reduce IntOp.andi x v reducesTo_S16_S_d0 h_S_) main_v146 main_c_58
  let main_v148 : IVec S_ 1 := andi main_v143 main_v147
  let main_v149 : FVec F S16x1 .f32 := Host.absf main_arg30
  let main_cst_59 : FVec F S_ .f32 := constant S_ .f32 0x7F800000#32
  let main_v150 : FVec F S16x1 .f32 := broadcastInDim S16x1 ![] bcast_S_S16x1 main_cst_59
  let main_v151 : IVec S16x1 1 := cmpf .olt main_v149 main_v150
  let main_c_60 : IVec S_ 1 := constantI S_ 1 1#1
  let main_v152 : IVec S_ 1 := (fun x v => Host.reduce IntOp.andi x v reducesTo_S16x1_S_d0_1 h_S_) main_v151 main_c_60
  fn_part9 (F := F) main_arg31 main_v148 main_v152

def fn_part7 {F : FTy → Type} [FloatOps F] (main_arg24 : FVec F S32 .f32) (main_arg25 : FVec F S32x16 .f32) (main_arg26 : FVec F S16 .f32) (main_arg27 : FVec F S16 .f32) (main_arg28 : FVec F S16 .f32) (main_arg29 : FVec F S16 .f32) (main_arg30 : FVec F S16x1 .f32) (main_arg31 : FVec F S1 .f32) (main_v118 : IVec S_ 1) : IVec S_ 1 :=
  let main_v119 : FVec F S32 .f32 := Host.absf main_arg24
  let main_cst_47 : FVec F S_ .f32 := constant S_ .f32 0x7F800000#32
  let main_v120 : FVec F S32 .f32 := broadcastInDim S32 ![] bcast_S_S32 main_cst_47
  let main_v121 : IVec S32 1 := cmpf .olt main_v119 main_v120
  let main_c_48 : IVec S_ 1 := constantI S_ 1 1#1
  let main_v122 : IVec S_ 1 := (fun x v => Host.reduce IntOp.andi x v reducesTo_S32_S_d0 h_S_) main_v121 main_c_48
  let main_v123 : IVec S_ 1 := andi main_v118 main_v122
  let main_v124 : FVec F S32x16 .f32 := Host.absf main_arg25
  let main_cst_49 : FVec F S_ .f32 := constant S_ .f32 0x7F800000#32
  let main_v125 : FVec F S32x16 .f32 := broadcastInDim S32x16 ![] bcast_S_S32x16 main_cst_49
  let main_v126 : IVec S32x16 1 := cmpf .olt main_v124 main_v125
  let main_c_50 : IVec S_ 1 := constantI S_ 1 1#1
  let main_v127 : IVec S_ 1 := (fun x v => Host.reduce IntOp.andi x v reducesTo_S32x16_S_d0_1 h_S_) main_v126 main_c_50
  let main_v128 : IVec S_ 1 := andi main_v123 main_v127
  let main_v129 : FVec F S16 .f32 := Host.absf main_arg26
  let main_cst_51 : FVec F S_ .f32 := constant S_ .f32 0x7F800000#32
  let main_v130 : FVec F S16 .f32 := broadcastInDim S16 ![] bcast_S_S16 main_cst_51
  let main_v131 : IVec S16 1 := cmpf .olt main_v129 main_v130
  let main_c_52 : IVec S_ 1 := constantI S_ 1 1#1
  let main_v132 : IVec S_ 1 := (fun x v => Host.reduce IntOp.andi x v reducesTo_S16_S_d0 h_S_) main_v131 main_c_52
  let main_v133 : IVec S_ 1 := andi main_v128 main_v132
  let main_v134 : FVec F S16 .f32 := Host.absf main_arg27
  let main_cst_53 : FVec F S_ .f32 := constant S_ .f32 0x7F800000#32
  let main_v135 : FVec F S16 .f32 := broadcastInDim S16 ![] bcast_S_S16 main_cst_53
  fn_part8 (F := F) main_arg28 main_arg29 main_arg30 main_arg31 main_v133 main_v134 main_v135

def fn_part6 {F : FTy → Type} [FloatOps F] (main_arg21 : FVec F S32 .f32) (main_arg22 : FVec F S32 .f32) (main_arg23 : FVec F S32 .f32) (main_arg24 : FVec F S32 .f32) (main_arg25 : FVec F S32x16 .f32) (main_arg26 : FVec F S16 .f32) (main_arg27 : FVec F S16 .f32) (main_arg28 : FVec F S16 .f32) (main_arg29 : FVec F S16 .f32) (main_arg30 : FVec F S16x1 .f32) (main_arg31 : FVec F S1 .f32) (main_v98 : IVec S_ 1) (main_v101 : IVec S80x32 1) : IVec S_ 1 :=
  let main_c_40 : IVec S_ 1 := constantI S_ 1 1#1
  let main_v102 : IVec S_ 1 := (fun x v => Host.reduce IntOp.andi x v reducesTo_S80x32_S_d0_1 h_S_) main_v101 main_c_40
  let main_v103 : IVec S_ 1 := andi main_v98 main_v102
  let main_v104 : FVec F S32 .f32 := Host.absf main_arg21
  let main_cst_41 : FVec F S_ .f32 := constant S_ .f32 0x7F800000#32
  let main_v105 : FVec F S32 .f32 := broadcastInDim S32 ![] bcast_S_S32 main_cst_41
  let main_v106 : IVec S32 1 := cmpf .olt main_v104 main_v105
  let main_c_42 : IVec S_ 1 := constantI S_ 1 1#1
  let main_v107 : IVec S_ 1 := (fun x v => Host.reduce IntOp.andi x v reducesTo_S32_S_d0 h_S_) main_v106 main_c_42
  let main_v108 : IVec S_ 1 := andi main_v103 main_v107
  let main_v109 : FVec F S32 .f32 := Host.absf main_arg22
  let main_cst_43 : FVec F S_ .f32 := constant S_ .f32 0x7F800000#32
  let main_v110 : FVec F S32 .f32 := broadcastInDim S32 ![] bcast_S_S32 main_cst_43
  let main_v111 : IVec S32 1 := cmpf .olt main_v109 main_v110
  let main_c_44 : IVec S_ 1 := constantI S_ 1 1#1
  let main_v112 : IVec S_ 1 := (fun x v => Host.reduce IntOp.andi x v reducesTo_S32_S_d0 h_S_) main_v111 main_c_44
  let main_v113 : IVec S_ 1 := andi main_v108 main_v112
  let main_v114 : FVec F S32 .f32 := Host.absf main_arg23
  let main_cst_45 : FVec F S_ .f32 := constant S_ .f32 0x7F800000#32
  let main_v115 : FVec F S32 .f32 := broadcastInDim S32 ![] bcast_S_S32 main_cst_45
  let main_v116 : IVec S32 1 := cmpf .olt main_v114 main_v115
  let main_c_46 : IVec S_ 1 := constantI S_ 1 1#1
  let main_v117 : IVec S_ 1 := (fun x v => Host.reduce IntOp.andi x v reducesTo_S32_S_d0 h_S_) main_v116 main_c_46
  let main_v118 : IVec S_ 1 := andi main_v113 main_v117
  fn_part7 (F := F) main_arg24 main_arg25 main_arg26 main_arg27 main_arg28 main_arg29 main_arg30 main_arg31 main_v118

def fn_part5 {F : FTy → Type} [FloatOps F] (main_arg18 : FVec F S8x1 .f32) (main_arg19 : FVec F S1 .f32) (main_arg20 : FVec F S80x32 .f32) (main_arg21 : FVec F S32 .f32) (main_arg22 : FVec F S32 .f32) (main_arg23 : FVec F S32 .f32) (main_arg24 : FVec F S32 .f32) (main_arg25 : FVec F S32x16 .f32) (main_arg26 : FVec F S16 .f32) (main_arg27 : FVec F S16 .f32) (main_arg28 : FVec F S16 .f32) (main_arg29 : FVec F S16 .f32) (main_arg30 : FVec F S16x1 .f32) (main_arg31 : FVec F S1 .f32) (main_v83 : IVec S_ 1) (main_v84 : FVec F S8 .f32) : IVec S_ 1 :=
  let main_cst_33 : FVec F S_ .f32 := constant S_ .f32 0x7F800000#32
  let main_v85 : FVec F S8 .f32 := broadcastInDim S8 ![] bcast_S_S8 main_cst_33
  let main_v86 : IVec S8 1 := cmpf .olt main_v84 main_v85
  let main_c_34 : IVec S_ 1 := constantI S_ 1 1#1
  let main_v87 : IVec S_ 1 := (fun x v => Host.reduce IntOp.andi x v reducesTo_S8_S_d0 h_S_) main_v86 main_c_34
  let main_v88 : IVec S_ 1 := andi main_v83 main_v87
  let main_v89 : FVec F S8x1 .f32 := Host.absf main_arg18
  let main_cst_35 : FVec F S_ .f32 := constant S_ .f32 0x7F800000#32
  let main_v90 : FVec F S8x1 .f32 := broadcastInDim S8x1 ![] bcast_S_S8x1 main_cst_35
  let main_v91 : IVec S8x1 1 := cmpf .olt main_v89 main_v90
  let main_c_36 : IVec S_ 1 := constantI S_ 1 1#1
  let main_v92 : IVec S_ 1 := (fun x v => Host.reduce IntOp.andi x v reducesTo_S8x1_S_d0_1 h_S_) main_v91 main_c_36
  let main_v93 : IVec S_ 1 := andi main_v88 main_v92
  let main_v94 : FVec F S1 .f32 := Host.absf main_arg19
  let main_cst_37 : FVec F S_ .f32 := constant S_ .f32 0x7F800000#32
  let main_v95 : FVec F S1 .f32 := broadcastInDim S1 ![] bcast_S_S1 main_cst_37
  let main_v96 : IVec S1 1 := cmpf .olt main_v94 main_v95
  let main_c_38 : IVec S_ 1 := constantI S_ 1 1#1
  let main_v97 : IVec S_ 1 := (fun x v => Host.reduce IntOp.andi x v reducesTo_S1_S_d0 h_S_) main_v96 main_c_38
  let main_v98 : IVec S_ 1 := andi main_v93 main_v97
  let main_v99 : FVec F S80x32 .f32 := Host.absf main_arg20
  let main_cst_39 : FVec F S_ .f32 := constant S_ .f32 0x7F800000#32
  let main_v100 : FVec F S80x32 .f32 := broadcastInDim S80x32 ![] bcast_S_S80x32 main_cst_39
  let main_v101 : IVec S80x32 1 := cmpf .olt main_v99 main_v100
  fn_part6 (F := F) main_arg21 main_arg22 main_arg23 main_arg24 main_arg25 main_arg26 main_arg27 main_arg28 main_arg29 main_arg30 main_arg31 main_v98 main_v101

def fn_part4 {F : FTy → Type} [FloatOps F] (main_arg14 : FVec F S8 .f32) (main_arg15 : FVec F S8 .f32) (main_arg16 : FVec F S8 .f32) (main_arg17 : FVec F S8 .f32) (main_arg18 : FVec F S8x1 .f32) (main_arg19 : FVec F S1 .f32) (main_arg20 : FVec F S80x32 .f32) (main_arg21 : FVec F S32 .f32) (main_arg22 : FVec F S32 .f32) (main_arg23 : FVec F S32 .f32) (main_arg24 : FVec F S32 .f32) (main_arg25 : FVec F S32x16 .f32) (main_arg26 : FVec F S16 .f32) (main_arg27 : FVec F S16 .f32) (main_arg28 : FVec F S16 .f32) (main_arg29 : FVec F S16 .f32) (main_arg30 : FVec F S16x1 .f32) (main_arg31 : FVec F S1 .f32) (main_v63 : IVec S_ 1) (main_v66 : IVec S16x8 1) (main_c_26 : IVec S_ 1) : IVec S_ 1 :=
  let main_v67 : IVec S_ 1 := (fun x v => Host.reduce IntOp.andi x v reducesTo_S16x8_S_d0_1 h_S_) main_v66 main_c_26
  let main_v68 : IVec S_ 1 := andi main_v63 main_v67
  let main_v69 : FVec F S8 .f32 := Host.absf main_arg14
  let main_cst_27 : FVec F S_ .f32 := constant S_ .f32 0x7F800000#32
  let main_v70 : FVec F S8 .f32 := broadcastInDim S8 ![] bcast_S_S8 main_cst_27
  let main_v71 : IVec S8 1 := cmpf .olt main_v69 main_v70
  let main_c_28 : IVec S_ 1 := constantI S_ 1 1#1
  let main_v72 : IVec S_ 1 := (fun x v => Host.reduce IntOp.andi x v reducesTo_S8_S_d0 h_S_) main_v71 main_c_28
  let main_v73 : IVec S_ 1 := andi main_v68 main_v72
  let main_v74 : FVec F S8 .f32 := Host.absf main_arg15
  let main_cst_29 : FVec F S_ .f32 := constant S_ .f32 0x7F800000#32
  let main_v75 : FVec F S8 .f32 := broadcastInDim S8 ![] bcast_S_S8 main_cst_29
  let main_v76 : IVec S8 1 := cmpf .olt main_v74 main_v75
  let main_c_30 : IVec S_ 1 := constantI S_ 1 1#1
  let main_v77 : IVec S_ 1 := (fun x v => Host.reduce IntOp.andi x v reducesTo_S8_S_d0 h_S_) main_v76 main_c_30
  let main_v78 : IVec S_ 1 := andi main_v73 main_v77
  let main_v79 : FVec F S8 .f32 := Host.absf main_arg16
  let main_cst_31 : FVec F S_ .f32 := constant S_ .f32 0x7F800000#32
  let main_v80 : FVec F S8 .f32 := broadcastInDim S8 ![] bcast_S_S8 main_cst_31
  let main_v81 : IVec S8 1 := cmpf .olt main_v79 main_v80
  let main_c_32 : IVec S_ 1 := constantI S_ 1 1#1
  let main_v82 : IVec S_ 1 := (fun x v => Host.reduce IntOp.andi x v reducesTo_S8_S_d0 h_S_) main_v81 main_c_32
  let main_v83 : IVec S_ 1 := andi main_v78 main_v82
  let main_v84 : FVec F S8 .f32 := Host.absf main_arg17
  fn_part5 (F := F) main_arg18 main_arg19 main_arg20 main_arg21 main_arg22 main_arg23 main_arg24 main_arg25 main_arg26 main_arg27 main_arg28 main_arg29 main_arg30 main_arg31 main_v83 main_v84

def fn_part3 {F : FTy → Type} [FloatOps F] (main_arg11 : FVec F S16 .f32) (main_arg12 : FVec F S16 .f32) (main_arg13 : FVec F S16x8 .f32) (main_arg14 : FVec F S8 .f32) (main_arg15 : FVec F S8 .f32) (main_arg16 : FVec F S8 .f32) (main_arg17 : FVec F S8 .f32) (main_arg18 : FVec F S8x1 .f32) (main_arg19 : FVec F S1 .f32) (main_arg20 : FVec F S80x32 .f32) (main_arg21 : FVec F S32 .f32) (main_arg22 : FVec F S32 .f32) (main_arg23 : FVec F S32 .f32) (main_arg24 : FVec F S32 .f32) (main_arg25 : FVec F S32x16 .f32) (main_arg26 : FVec F S16 .f32) (main_arg27 : FVec F S16 .f32) (main_arg28 : FVec F S16 .f32) (main_arg29 : FVec F S16 .f32) (main_arg30 : FVec F S16x1 .f32) (main_arg31 : FVec F S1 .f32) (main_v48 : IVec S_ 1) (main_v49 : FVec F S16 .f32) (main_cst_19 : FVec F S_ .f32) : IVec S_ 1 :=
  let main_v50 : FVec F S16 .f32 := broadcastInDim S16 ![] bcast_S_S16 main_cst_19
  let main_v51 : IVec S16 1 := cmpf .olt main_v49 main_v50
  let main_c_20 : IVec S_ 1 := constantI S_ 1 1#1
  let main_v52 : IVec S_ 1 := (fun x v => Host.reduce IntOp.andi x v reducesTo_S16_S_d0 h_S_) main_v51 main_c_20
  let main_v53 : IVec S_ 1 := andi main_v48 main_v52
  let main_v54 : FVec F S16 .f32 := Host.absf main_arg11
  let main_cst_21 : FVec F S_ .f32 := constant S_ .f32 0x7F800000#32
  let main_v55 : FVec F S16 .f32 := broadcastInDim S16 ![] bcast_S_S16 main_cst_21
  let main_v56 : IVec S16 1 := cmpf .olt main_v54 main_v55
  let main_c_22 : IVec S_ 1 := constantI S_ 1 1#1
  let main_v57 : IVec S_ 1 := (fun x v => Host.reduce IntOp.andi x v reducesTo_S16_S_d0 h_S_) main_v56 main_c_22
  let main_v58 : IVec S_ 1 := andi main_v53 main_v57
  let main_v59 : FVec F S16 .f32 := Host.absf main_arg12
  let main_cst_23 : FVec F S_ .f32 := constant S_ .f32 0x7F800000#32
  let main_v60 : FVec F S16 .f32 := broadcastInDim S16 ![] bcast_S_S16 main_cst_23
  let main_v61 : IVec S16 1 := cmpf .olt main_v59 main_v60
  let main_c_24 : IVec S_ 1 := constantI S_ 1 1#1
  let main_v62 : IVec S_ 1 := (fun x v => Host.reduce IntOp.andi x v reducesTo_S16_S_d0 h_S_) main_v61 main_c_24
  let main_v63 : IVec S_ 1 := andi main_v58 main_v62
  let main_v64 : FVec F S16x8 .f32 := Host.absf main_arg13
  let main_cst_25 : FVec F S_ .f32 := constant S_ .f32 0x7F800000#32
  let main_v65 : FVec F S16x8 .f32 := broadcastInDim S16x8 ![] bcast_S_S16x8 main_cst_25
  let main_v66 : IVec S16x8 1 := cmpf .olt main_v64 main_v65
  let main_c_26 : IVec S_ 1 := constantI S_ 1 1#1
  fn_part4 (F := F) main_arg14 main_arg15 main_arg16 main_arg17 main_arg18 main_arg19 main_arg20 main_arg21 main_arg22 main_arg23 main_arg24 main_arg25 main_arg26 main_arg27 main_arg28 main_arg29 main_arg30 main_arg31 main_v63 main_v66 main_c_26

def fn_part2 {F : FTy → Type} [FloatOps F] (main_arg7 : FVec F S1000000x16 .f32) (main_arg8 : FVec F S64x16 .f32) (main_arg9 : FVec F S16 .f32) (main_arg10 : FVec F S16 .f32) (main_arg11 : FVec F S16 .f32) (main_arg12 : FVec F S16 .f32) (main_arg13 : FVec F S16x8 .f32) (main_arg14 : FVec F S8 .f32) (main_arg15 : FVec F S8 .f32) (main_arg16 : FVec F S8 .f32) (main_arg17 : FVec F S8 .f32) (main_arg18 : FVec F S8x1 .f32) (main_arg19 : FVec F S1 .f32) (main_arg20 : FVec F S80x32 .f32) (main_arg21 : FVec F S32 .f32) (main_arg22 : FVec F S32 .f32) (main_arg23 : FVec F S32 .f32) (main_arg24 : FVec F S32 .f32) (main_arg25 : FVec F S32x16 .f32) (main_arg26 : FVec F S16 .f32) (main_arg27 : FVec F S16 .f32) (main_arg28 : FVec F S16 .f32) (main_arg29 : FVec F S16 .f32) (main_arg30 : FVec F S16x1 .f32) (main_arg31 : FVec F S1 .f32) (main_v26 : IVec S_ 1) (main_v32 : IVec S_ 1) : IVec S_ 1 :=
  let main_v33 : IVec S_ 1 := andi main_v26 main_v32
  let main_v34 : FVec F S1000000x16 .f32 := Host.absf main_arg7
  let main_cst : FVec F S_ .f32 := constant S_ .f32 0x7F800000#32
  let main_v35 : FVec F S1000000x16 .f32 := broadcastInDim S1000000x16 ![] bcast_S_S1000000x16 main_cst
  let main_v36 : IVec S1000000x16 1 := cmpf .olt main_v34 main_v35
  let main_c_14 : IVec S_ 1 := constantI S_ 1 1#1
  let main_v37 : IVec S_ 1 := (fun x v => Host.reduce IntOp.andi x v reducesTo_S1000000x16_S_d0_1 h_S_) main_v36 main_c_14
  let main_v38 : IVec S_ 1 := andi main_v33 main_v37
  let main_v39 : FVec F S64x16 .f32 := Host.absf main_arg8
  let main_cst_15 : FVec F S_ .f32 := constant S_ .f32 0x7F800000#32
  let main_v40 : FVec F S64x16 .f32 := broadcastInDim S64x16 ![] bcast_S_S64x16 main_cst_15
  let main_v41 : IVec S64x16 1 := cmpf .olt main_v39 main_v40
  let main_c_16 : IVec S_ 1 := constantI S_ 1 1#1
  let main_v42 : IVec S_ 1 := (fun x v => Host.reduce IntOp.andi x v reducesTo_S64x16_S_d0_1 h_S_) main_v41 main_c_16
  let main_v43 : IVec S_ 1 := andi main_v38 main_v42
  let main_v44 : FVec F S16 .f32 := Host.absf main_arg9
  let main_cst_17 : FVec F S_ .f32 := constant S_ .f32 0x7F800000#32
  let main_v45 : FVec F S16 .f32 := broadcastInDim S16 ![] bcast_S_S16 main_cst_17
  let main_v46 : IVec S16 1 := cmpf .olt main_v44 main_v45
  let main_c_18 : IVec S_ 1 := constantI S_ 1 1#1
  let main_v47 : IVec S_ 1 := (fun x v => Host.reduce IntOp.andi x v reducesTo_S16_S_d0 h_S_) main_v46 main_c_18
  let main_v48 : IVec S_ 1 := andi main_v43 main_v47
  let main_v49 : FVec F S16 .f32 := Host.absf main_arg10
  let main_cst_19 : FVec F S_ .f32 := constant S_ .f32 0x7F800000#32
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_cst_19

def fn_part1 {F : FTy → Type} [FloatOps F] (main_arg3 : IVec S4096 32) (main_arg4 : IVec S4096x200 32) (main_arg6 : IVec S4096 32) (main_arg7 : FVec F S1000000x16 .f32) (main_arg8 : FVec F S64x16 .f32) (main_arg9 : FVec F S16 .f32) (main_arg10 : FVec F S16 .f32) (main_arg11 : FVec F S16 .f32) (main_arg12 : FVec F S16 .f32) (main_arg13 : FVec F S16x8 .f32) (main_arg14 : FVec F S8 .f32) (main_arg15 : FVec F S8 .f32) (main_arg16 : FVec F S8 .f32) (main_arg17 : FVec F S8 .f32) (main_arg18 : FVec F S8x1 .f32) (main_arg19 : FVec F S1 .f32) (main_arg20 : FVec F S80x32 .f32) (main_arg21 : FVec F S32 .f32) (main_arg22 : FVec F S32 .f32) (main_arg23 : FVec F S32 .f32) (main_arg24 : FVec F S32 .f32) (main_arg25 : FVec F S32x16 .f32) (main_arg26 : FVec F S16 .f32) (main_arg27 : FVec F S16 .f32) (main_arg28 : FVec F S16 .f32) (main_arg29 : FVec F S16 .f32) (main_arg30 : FVec F S16x1 .f32) (main_arg31 : FVec F S1 .f32) (main_v12 : IVec S_ 1) (main_v14 : IVec S4096 1) (main_v15 : IVec S4096 32) : IVec S_ 1 :=
  let main_v16 : IVec S4096 1 := cmpi .slt main_arg3 main_v15
  let main_v17 : IVec S4096 1 := andi main_v14 main_v16
  let main_c_7 : IVec S_ 1 := constantI S_ 1 1#1
  let main_v18 : IVec S_ 1 := (fun x v => Host.reduce IntOp.andi x v reducesTo_S4096_S_d0 h_S_) main_v17 main_c_7
  let main_v19 : IVec S_ 1 := andi main_v12 main_v18
  let main_c_8 : IVec S_ 32 := constantI S_ 32 0#32
  let main_v20 : IVec S4096x200 32 := broadcastInDim S4096x200 ![] bcast_S_S4096x200 main_c_8
  let main_v21 : IVec S4096x200 1 := cmpi .sge main_arg4 main_v20
  let main_c_9 : IVec S_ 32 := constantI S_ 32 1000000#32
  let main_v22 : IVec S4096x200 32 := broadcastInDim S4096x200 ![] bcast_S_S4096x200 main_c_9
  let main_v23 : IVec S4096x200 1 := cmpi .slt main_arg4 main_v22
  let main_v24 : IVec S4096x200 1 := andi main_v21 main_v23
  let main_c_10 : IVec S_ 1 := constantI S_ 1 1#1
  let main_v25 : IVec S_ 1 := (fun x v => Host.reduce IntOp.andi x v reducesTo_S4096x200_S_d0_1 h_S_) main_v24 main_c_10
  let main_v26 : IVec S_ 1 := andi main_v19 main_v25
  let main_c_11 : IVec S_ 32 := constantI S_ 32 0#32
  let main_v27 : IVec S4096 32 := broadcastInDim S4096 ![] bcast_S_S4096 main_c_11
  let main_v28 : IVec S4096 1 := cmpi .sge main_arg6 main_v27
  let main_c_12 : IVec S_ 32 := constantI S_ 32 1000000#32
  let main_v29 : IVec S4096 32 := broadcastInDim S4096 ![] bcast_S_S4096 main_c_12
  let main_v30 : IVec S4096 1 := cmpi .slt main_arg6 main_v29
  let main_v31 : IVec S4096 1 := andi main_v28 main_v30
  let main_c_13 : IVec S_ 1 := constantI S_ 1 1#1
  let main_v32 : IVec S_ 1 := (fun x v => Host.reduce IntOp.andi x v reducesTo_S4096_S_d0 h_S_) main_v31 main_c_13
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v26 main_v32

def fn {F : FTy → Type} [FloatOps F] (main_arg0 : IVec S4096 32) (main_arg1 : IVec S4096x200 32) (main_arg2 : IVec S4096 32) (main_arg3 : IVec S4096 32) (main_arg4 : IVec S4096x200 32) (main_arg5 : IVec S4096 32) (main_arg6 : IVec S4096 32) (main_arg7 : FVec F S1000000x16 .f32) (main_arg8 : FVec F S64x16 .f32) (main_arg9 : FVec F S16 .f32) (main_arg10 : FVec F S16 .f32) (main_arg11 : FVec F S16 .f32) (main_arg12 : FVec F S16 .f32) (main_arg13 : FVec F S16x8 .f32) (main_arg14 : FVec F S8 .f32) (main_arg15 : FVec F S8 .f32) (main_arg16 : FVec F S8 .f32) (main_arg17 : FVec F S8 .f32) (main_arg18 : FVec F S8x1 .f32) (main_arg19 : FVec F S1 .f32) (main_arg20 : FVec F S80x32 .f32) (main_arg21 : FVec F S32 .f32) (main_arg22 : FVec F S32 .f32) (main_arg23 : FVec F S32 .f32) (main_arg24 : FVec F S32 .f32) (main_arg25 : FVec F S32x16 .f32) (main_arg26 : FVec F S16 .f32) (main_arg27 : FVec F S16 .f32) (main_arg28 : FVec F S16 .f32) (main_arg29 : FVec F S16 .f32) (main_arg30 : FVec F S16x1 .f32) (main_arg31 : FVec F S1 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 1000000#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096x200 32 := broadcastInDim S4096x200 ![] bcast_S_S4096x200 main_c_2
  let main_v7 : IVec S4096x200 1 := cmpi .sge main_arg1 main_v6
  let main_c_3 : IVec S_ 32 := constantI S_ 32 1000000#32
  let main_v8 : IVec S4096x200 32 := broadcastInDim S4096x200 ![] bcast_S_S4096x200 main_c_3
  let main_v9 : IVec S4096x200 1 := cmpi .slt main_arg1 main_v8
  let main_v10 : IVec S4096x200 1 := andi main_v7 main_v9
  let main_c_4 : IVec S_ 1 := constantI S_ 1 1#1
  let main_v11 : IVec S_ 1 := (fun x v => Host.reduce IntOp.andi x v reducesTo_S4096x200_S_d0_1 h_S_) main_v10 main_c_4
  let main_v12 : IVec S_ 1 := andi main_v5 main_v11
  let main_c_5 : IVec S_ 32 := constantI S_ 32 0#32
  let main_v13 : IVec S4096 32 := broadcastInDim S4096 ![] bcast_S_S4096 main_c_5
  let main_v14 : IVec S4096 1 := cmpi .sge main_arg3 main_v13
  let main_c_6 : IVec S_ 32 := constantI S_ 32 1000000#32
  let main_v15 : IVec S4096 32 := broadcastInDim S4096 ![] bcast_S_S4096 main_c_6
  fn_part1 (F := F) main_arg3 main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v12 main_v14 main_v15
-- ==== Kernel.lean ====
abbrev S4096 : Shape := ⟨1, ![4096]⟩
abbrev S4096x200 : Shape := ⟨2, ![4096, 200]⟩
abbrev S1000000x16 : Shape := ⟨2, ![1000000, 16]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S80x32 : Shape := ⟨2, ![80, 32]⟩
abbrev S32 : Shape := ⟨1, ![32]⟩
abbrev S32x16 : Shape := ⟨2, ![32, 16]⟩
abbrev S16x1 : Shape := ⟨2, ![16, 1]⟩
abbrev S819200 : Shape := ⟨1, ![819200]⟩
abbrev S_ : Shape := ⟨0, ![]⟩
abbrev S20480 : Shape := ⟨1, ![20480]⟩
abbrev S1671168 : Shape := ⟨1, ![1671168]⟩
abbrev S1671168x16 : Shape := ⟨2, ![1671168, 16]⟩
abbrev S52224 : Shape := ⟨1, ![52224]⟩
abbrev S1536x16 : Shape := ⟨2, ![1536, 16]⟩
abbrev S1536 : Shape := ⟨1, ![1536]⟩
abbrev S4096x16 : Shape := ⟨2, ![4096, 16]⟩
abbrev S208896x128 : Shape := ⟨2, ![208896, 128]⟩
abbrev S16x16 : Shape := ⟨2, ![16, 16]⟩
abbrev S8x8 : Shape := ⟨2, ![8, 8]⟩
abbrev S3200 : Shape := ⟨1, ![3200]⟩
abbrev S128 : Shape := ⟨1, ![128]⟩
abbrev S1x128 : Shape := ⟨2, ![1, 128]⟩
abbrev S16x128 : Shape := ⟨2, ![16, 128]⟩
abbrev S128x16 : Shape := ⟨2, ![128, 16]⟩
abbrev S3200x1 : Shape := ⟨2, ![3200, 1]⟩
abbrev S3200x128 : Shape := ⟨2, ![3200, 128]⟩
abbrev S8x128 : Shape := ⟨2, ![8, 128]⟩
abbrev S8x1x8x1 : Shape := ⟨4, ![8, 1, 8, 1]⟩
abbrev S1x16x1x1 : Shape := ⟨4, ![1, 16, 1, 1]⟩
abbrev S8x16x8x1 : Shape := ⟨4, ![8, 16, 8, 1]⟩
abbrev S128x8 : Shape := ⟨2, ![128, 8]⟩
abbrev S128x8x16 : Shape := ⟨3, ![128, 8, 16]⟩
abbrev S128x128 : Shape := ⟨2, ![128, 128]⟩
abbrev S1x16x1x16 : Shape := ⟨4, ![1, 16, 1, 16]⟩
abbrev S8x16x8x16 : Shape := ⟨4, ![8, 16, 8, 16]⟩
abbrev S1x16x8x16 : Shape := ⟨4, ![1, 16, 8, 16]⟩
abbrev S4096x1 : Shape := ⟨2, ![4096, 1]⟩
abbrev S4096x2 : Shape := ⟨2, ![4096, 2]⟩
abbrev S1x16 : Shape := ⟨2, ![1, 16]⟩
abbrev S1x1x1x16 : Shape := ⟨4, ![1, 1, 1, 16]⟩
abbrev S1x1x8x16 : Shape := ⟨4, ![1, 1, 8, 16]⟩
abbrev S1x8 : Shape := ⟨2, ![1, 8]⟩
abbrev S1x1 : Shape := ⟨2, ![1, 1]⟩
abbrev S1x32 : Shape := ⟨2, ![1, 32]⟩
abbrev S8x16 : Shape := ⟨2, ![8, 16]⟩
abbrev S1x3200 : Shape := ⟨2, ![1, 3200]⟩
abbrev S128x2 : Shape := ⟨2, ![128, 2]⟩
abbrev S3200x2 : Shape := ⟨2, ![3200, 2]⟩
abbrev S16x32 : Shape := ⟨2, ![16, 32]⟩
abbrev S4096x32 : Shape := ⟨2, ![4096, 32]⟩
abbrev S1x4096 : Shape := ⟨2, ![1, 4096]⟩

abbrev nBuf : Table → Nat
  | .hbm => 270
  | .local .tc .vmem => 42
  | .local .scVector .vmem => 3
  | _ => 0

abbrev hbmTy0_0 (i : Nat) : BufTy := match i % 128 with
  | 0 => ⟨S4096, .i32⟩
  | 1 => ⟨S4096x200, .i32⟩
  | 2 => ⟨S4096, .i32⟩
  | 3 => ⟨S4096, .i32⟩
  | 4 => ⟨S4096x200, .i32⟩
  | 5 => ⟨S4096, .i32⟩
  | 6 => ⟨S4096, .i32⟩
  | 7 => ⟨S1000000x16, .f32⟩
  | 8 => ⟨S64x16, .f32⟩
  | 9 => ⟨S16, .f32⟩
  | 10 => ⟨S16, .f32⟩
  | 11 => ⟨S16, .f32⟩
  | 12 => ⟨S16, .f32⟩
  | 13 => ⟨S16x8, .f32⟩
  | 14 => ⟨S8, .f32⟩
  | 15 => ⟨S8, .f32⟩
  | 16 => ⟨S8, .f32⟩
  | 17 => ⟨S8, .f32⟩
  | 18 => ⟨S8x1, .f32⟩
  | 19 => ⟨S1, .f32⟩
  | 20 => ⟨S80x32, .f32⟩
  | 21 => ⟨S32, .f32⟩
  | 22 => ⟨S32, .f32⟩
  | 23 => ⟨S32, .f32⟩
  | 24 => ⟨S32, .f32⟩
  | 25 => ⟨S32x16, .f32⟩
  | 26 => ⟨S16, .f32⟩
  | 27 => ⟨S16, .f32⟩
  | 28 => ⟨S16, .f32⟩
  | 29 => ⟨S16, .f32⟩
  | 30 => ⟨S16x1, .f32⟩
  | 31 => ⟨S1, .f32⟩
  | 32 => ⟨S819200, .i32⟩
  | 33 => ⟨S819200, .i32⟩
  | 34 => ⟨S_, .i32⟩
  | 35 => ⟨S20480, .i32⟩
  | 36 => ⟨S1671168, .i32⟩
  | 37 => ⟨S1671168x16, .f32⟩
  | 38 => ⟨S4096x16, .f32⟩
  | 39 => ⟨S4096x16, .f32⟩
  | 40 => ⟨S4096x16, .f32⟩
  | 41 => ⟨S208896x128, .f32⟩
  | 42 => ⟨S16x16, .f32⟩
  | 43 => ⟨S16x16, .f32⟩
  | 44 => ⟨S16x16, .f32⟩
  | 45 => ⟨S16x16, .f32⟩
  | 46 => ⟨S8x8, .i32⟩
  | 47 => ⟨S8x8, .i32⟩
  | 48 => ⟨S_, .i32⟩
  | 49 => ⟨S8x8, .i32⟩
  | 50 => ⟨S8x8, .i32⟩
  | 51 => ⟨S8x8, .i1⟩
  | 52 => ⟨S8x8, .f32⟩
  | 53 => ⟨S_, .i32⟩
  | 54 => ⟨S_, .f32⟩
  | 55 => ⟨S16x16, .f32⟩
  | 56 => ⟨S_, .i32⟩
  | 57 => ⟨S_, .f32⟩
  | 58 => ⟨S16x1, .f32⟩
  | 59 => ⟨S3200, .i32⟩
  | 60 => ⟨S128, .i32⟩
  | 61 => ⟨S1x128, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S1x128, .i32⟩
  | 69 => ⟨S1x128, .i32⟩
  | 70 => ⟨S_, .i32⟩
  | 71 => ⟨S1x128, .i32⟩
  | 72 => ⟨S1x128, .i1⟩
  | 73 => ⟨S_, .i32⟩
  | 74 => ⟨S1x128, .i32⟩
  | 75 => ⟨S1x128, .i1⟩
  | 76 => ⟨S_, .i32⟩
  | 77 => ⟨S_, .i1⟩
  | 78 => ⟨S1x128, .i1⟩
  | 79 => ⟨S1x128, .i1⟩
  | 80 => ⟨S1x128, .i1⟩
  | 81 => ⟨S1x128, .i32⟩
  | 82 => ⟨S1x128, .i32⟩
  | 83 => ⟨S1x128, .i32⟩
  | 84 => ⟨S16, .i32⟩
  | 85 => ⟨S16x1, .i32⟩
  | 86 => ⟨S16x128, .i32⟩
  | 87 => ⟨S16x128, .i32⟩
  | 88 => ⟨S16x128, .i1⟩
  | 89 => ⟨S16x128, .f32⟩
  | 90 => ⟨S128x16, .f32⟩
  | 91 => ⟨S3200x1, .i32⟩
  | 92 => ⟨S_, .i32⟩
  | 93 => ⟨S_, .i32⟩
  | 94 => ⟨S3200x1, .i32⟩
  | 95 => ⟨S3200x1, .i32⟩
  | 96 => ⟨S3200x1, .i32⟩
  | 97 => ⟨S_, .i32⟩
  | 98 => ⟨S3200x1, .i32⟩
  | 99 => ⟨S3200x1, .i1⟩
  | 100 => ⟨S3200x1, .i32⟩
  | 101 => ⟨S3200x1, .i32⟩
  | 102 => ⟨S_, .i32⟩
  | 103 => ⟨S3200x1, .i32⟩
  | 104 => ⟨S3200x1, .i1⟩
  | 105 => ⟨S3200x1, .i1⟩
  | 106 => ⟨S_, .i32⟩
  | 107 => ⟨S3200x1, .i32⟩
  | 108 => ⟨S3200x1, .i32⟩
  | 109 => ⟨S3200x1, .i32⟩
  | 110 => ⟨S128, .i32⟩
  | 111 => ⟨S1x128, .i32⟩
  | 112 => ⟨S3200x128, .i32⟩
  | 113 => ⟨S3200x128, .i32⟩
  | 114 => ⟨S3200x128, .i1⟩
  | 115 => ⟨S3200x128, .f32⟩
  | 116 => ⟨S3200x1, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S3200x1, .i32⟩
  | 124 => ⟨S3200x1, .i32⟩
  | 125 => ⟨S_, .i32⟩
  | 126 => ⟨S3200x1, .i32⟩
  | 127 => ⟨S3200x1, .i1⟩
  | _ => ⟨S4096, .i32⟩

abbrev hbmTy0_1 (i : Nat) : BufTy := match i % 128 with
  | 0 => ⟨S_, .i32⟩
  | 1 => ⟨S3200x1, .i32⟩
  | 2 => ⟨S3200x1, .i1⟩
  | 3 => ⟨S_, .i32⟩
  | 4 => ⟨S_, .i1⟩
  | 5 => ⟨S3200x1, .i1⟩
  | 6 => ⟨S3200x1, .i1⟩
  | 7 => ⟨S3200x1, .i1⟩
  | 8 => ⟨S3200x1, .i32⟩
  | 9 => ⟨S3200x1, .i32⟩
  | 10 => ⟨S3200x1, .i32⟩
  | 11 => ⟨S_, .i32⟩
  | 12 => ⟨S3200x1, .i32⟩
  | 13 => ⟨S3200x1, .i32⟩
  | 14 => ⟨S128, .i32⟩
  | 15 => ⟨S1x128, .i32⟩
  | 16 => ⟨S_, .i32⟩
  | 17 => ⟨S_, .i32⟩
  | 18 => ⟨S1x128, .i32⟩
  | 19 => ⟨S1x128, .i32⟩
  | 20 => ⟨S1x128, .i32⟩
  | 21 => ⟨S_, .i32⟩
  | 22 => ⟨S1x128, .i32⟩
  | 23 => ⟨S1x128, .i1⟩
  | 24 => ⟨S1x128, .i32⟩
  | 25 => ⟨S1x128, .i32⟩
  | 26 => ⟨S_, .i32⟩
  | 27 => ⟨S1x128, .i32⟩
  | 28 => ⟨S1x128, .i1⟩
  | 29 => ⟨S1x128, .i1⟩
  | 30 => ⟨S_, .i32⟩
  | 31 => ⟨S1x128, .i32⟩
  | 32 => ⟨S1x128, .i32⟩
  | 33 => ⟨S1x128, .i32⟩
  | 34 => ⟨S3200x128, .i32⟩
  | 35 => ⟨S3200x128, .i32⟩
  | 36 => ⟨S3200x128, .i32⟩
  | 37 => ⟨S3200x128, .f32⟩
  | 38 => ⟨S128, .i32⟩
  | 39 => ⟨S1x128, .i32⟩
  | 40 => ⟨S_, .i32⟩
  | 41 => ⟨S_, .i32⟩
  | 42 => ⟨S1x128, .i32⟩
  | 43 => ⟨S1x128, .i32⟩
  | 44 => ⟨S1x128, .i32⟩
  | 45 => ⟨S_, .i32⟩
  | 46 => ⟨S1x128, .i32⟩
  | 47 => ⟨S1x128, .i1⟩
  | 48 => ⟨S1x128, .i32⟩
  | 49 => ⟨S1x128, .i32⟩
  | 50 => ⟨S_, .i32⟩
  | 51 => ⟨S1x128, .i32⟩
  | 52 => ⟨S1x128, .i1⟩
  | 53 => ⟨S1x128, .i1⟩
  | 54 => ⟨S_, .i32⟩
  | 55 => ⟨S1x128, .i32⟩
  | 56 => ⟨S1x128, .i32⟩
  | 57 => ⟨S1x128, .i32⟩
  | 58 => ⟨S8, .i32⟩
  | 59 => ⟨S8x1, .i32⟩
  | 60 => ⟨S8x128, .i32⟩
  | 61 => ⟨S8x128, .i32⟩
  | 62 => ⟨S8x128, .i1⟩
  | 63 => ⟨S8x128, .f32⟩
  | 64 => ⟨S8x1x8x1, .f32⟩
  | 65 => ⟨S1x16x1x1, .f32⟩
  | 66 => ⟨S8x16x8x1, .f32⟩
  | 67 => ⟨S8x16x8x1, .f32⟩
  | 68 => ⟨S8x16x8x1, .f32⟩
  | 69 => ⟨S128x8, .f32⟩
  | 70 => ⟨S128x8x16, .f32⟩
  | 71 => ⟨S128x128, .f32⟩
  | 72 => ⟨S16x16, .f32⟩
  | 73 => ⟨S8x1x8x1, .f32⟩
  | 74 => ⟨S1x16x1x16, .f32⟩
  | 75 => ⟨S8x16x8x16, .f32⟩
  | 76 => ⟨S8x16x8x16, .f32⟩
  | 77 => ⟨S8x16x8x16, .f32⟩
  | 78 => ⟨S128x128, .f32⟩
  | 79 => ⟨S8x1x8x1, .f32⟩
  | 80 => ⟨S1x16x1x16, .f32⟩
  | 81 => ⟨S8x16x8x16, .f32⟩
  | 82 => ⟨S8x16x8x16, .f32⟩
  | 83 => ⟨S8x16x8x16, .f32⟩
  | 84 => ⟨S128x128, .f32⟩
  | 85 => ⟨S16x16, .f32⟩
  | 86 => ⟨S1x16x1x16, .f32⟩
  | 87 => ⟨S1x16x8x16, .f32⟩
  | 88 => ⟨S16x128, .f32⟩
  | 89 => ⟨S4096x1, .i32⟩
  | 90 => ⟨S4096x1, .i32⟩
  | 91 => ⟨S4096x2, .i32⟩
  | 92 => ⟨S4096x2, .f32⟩
  | 93 => ⟨S1x16, .f32⟩
  | 94 => ⟨S1x1x1x16, .f32⟩
  | 95 => ⟨S1x1x8x16, .f32⟩
  | 96 => ⟨S1x128, .f32⟩
  | 97 => ⟨S1x16, .f32⟩
  | 98 => ⟨S1x16, .f32⟩
  | 99 => ⟨S1x16, .f32⟩
  | 100 => ⟨S1x1x1x16, .f32⟩
  | 101 => ⟨S1x1x8x16, .f32⟩
  | 102 => ⟨S1x128, .f32⟩
  | 103 => ⟨S8x1x8x1, .f32⟩
  | 104 => ⟨S1x16x1x16, .f32⟩
  | 105 => ⟨S8x16x8x16, .f32⟩
  | 106 => ⟨S8x16x8x16, .f32⟩
  | 107 => ⟨S8x16x8x16, .f32⟩
  | 108 => ⟨S128x128, .f32⟩
  | 109 => ⟨S1x8, .f32⟩
  | 110 => ⟨S_, .i32⟩
  | 111 => ⟨S_, .f32⟩
  | 112 => ⟨S1x16, .f32⟩
  | 113 => ⟨S1x1x1x16, .f32⟩
  | 114 => ⟨S1x1x8x16, .f32⟩
  | 115 => ⟨S1x128, .f32⟩
  | 116 => ⟨S1x8, .f32⟩
  | 117 => ⟨S_, .i32⟩
  | 118 => ⟨S_, .f32⟩
  | 119 => ⟨S1x16, .f32⟩
  | 120 => ⟨S1x8, .f32⟩
  | 121 => ⟨S_, .i32⟩
  | 122 => ⟨S_, .f32⟩
  | 123 => ⟨S1x16, .f32⟩
  | 124 => ⟨S1x8, .f32⟩
  | 125 => ⟨S_, .i32⟩
  | 126 => ⟨S_, .f32⟩
  | 127 => ⟨S1x16, .f32⟩
  | _ => ⟨S4096, .i32⟩

abbrev hbmTy0_2 (i : Nat) : BufTy := match i % 128 with
  | 0 => ⟨S1x1x1x16, .f32⟩
  | 1 => ⟨S1x1x8x16, .f32⟩
  | 2 => ⟨S1x128, .f32⟩
  | 3 => ⟨S1x1, .f32⟩
  | 4 => ⟨S1x32, .f32⟩
  | 5 => ⟨S1x32, .f32⟩
  | 6 => ⟨S1x32, .f32⟩
  | 7 => ⟨S1x32, .f32⟩
  | 8 => ⟨S1x16, .f32⟩
  | 9 => ⟨S1x16, .f32⟩
  | 10 => ⟨S1x16, .f32⟩
  | 11 => ⟨S1x16, .f32⟩
  | 12 => ⟨S1x1, .f32⟩
  | 13 => ⟨S4096x1, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (nBuf tb) → BufTy
  | .hbm, ⟨i, _⟩ => hbmTy i
  | .local .tc .vmem, ⟨0, _⟩ => ⟨S3200x128, .f32⟩
  | .local .tc .vmem, ⟨1, _⟩ => ⟨S3200x128, .f32⟩
  | .local .tc .vmem, ⟨2, _⟩ => ⟨S3200x128, .f32⟩
  | .local .tc .vmem, ⟨3, _⟩ => ⟨S3200x128, .f32⟩
  | .local .tc .vmem, ⟨4, _⟩ => ⟨S4096x16, .f32⟩
  | .local .tc .vmem, ⟨5, _⟩ => ⟨S4096x16, .f32⟩
  | .local .tc .vmem, ⟨6, _⟩ => ⟨S4096x16, .f32⟩
  | .local .tc .vmem, ⟨7, _⟩ => ⟨S4096x2, .f32⟩
  | .local .tc .vmem, ⟨8, _⟩ => ⟨S3200x128, .f32⟩
  | .local .tc .vmem, ⟨9, _⟩ => ⟨S3200x128, .f32⟩
  | .local .tc .vmem, ⟨10, _⟩ => ⟨S16x128, .f32⟩
  | .local .tc .vmem, ⟨11, _⟩ => ⟨S128x16, .f32⟩
  | .local .tc .vmem, ⟨12, _⟩ => ⟨S16x128, .f32⟩
  | .local .tc .vmem, ⟨13, _⟩ => ⟨S128x128, .f32⟩
  | .local .tc .vmem, ⟨14, _⟩ => ⟨S128x128, .f32⟩
  | .local .tc .vmem, ⟨15, _⟩ => ⟨S1x128, .f32⟩
  | .local .tc .vmem, ⟨16, _⟩ => ⟨S1x16, .f32⟩
  | .local .tc .vmem, ⟨17, _⟩ => ⟨S1x16, .f32⟩
  | .local .tc .vmem, ⟨18, _⟩ => ⟨S1x128, .f32⟩
  | .local .tc .vmem, ⟨19, _⟩ => ⟨S128x128, .f32⟩
  | .local .tc .vmem, ⟨20, _⟩ => ⟨S1x128, .f32⟩
  | .local .tc .vmem, ⟨21, _⟩ => ⟨S1x16, .f32⟩
  | .local .tc .vmem, ⟨22, _⟩ => ⟨S1x16, .f32⟩
  | .local .tc .vmem, ⟨23, _⟩ => ⟨S1x128, .f32⟩
  | .local .tc .vmem, ⟨24, _⟩ => ⟨S128x128, .f32⟩
  | .local .tc .vmem, ⟨25, _⟩ => ⟨S1x1, .f32⟩
  | .local .tc .vmem, ⟨26, _⟩ => ⟨S80x32, .f32⟩
  | .local .tc .vmem, ⟨27, _⟩ => ⟨S1x32, .f32⟩
  | .local .tc .vmem, ⟨28, _⟩ => ⟨S1x32, .f32⟩
  | .local .tc .vmem, ⟨29, _⟩ => ⟨S1x32, .f32⟩
  | .local .tc .vmem, ⟨30, _⟩ => ⟨S1x32, .f32⟩
  | .local .tc .vmem, ⟨31, _⟩ => ⟨S32x16, .f32⟩
  | .local .tc .vmem, ⟨32, _⟩ => ⟨S1x16, .f32⟩
  | .local .tc .vmem, ⟨33, _⟩ => ⟨S1x16, .f32⟩
  | .local .tc .vmem, ⟨34, _⟩ => ⟨S1x16, .f32⟩
  | .local .tc .vmem, ⟨35, _⟩ => ⟨S1x16, .f32⟩
  | .local .tc .vmem, ⟨36, _⟩ => ⟨S16x1, .f32⟩
  | .local .tc .vmem, ⟨37, _⟩ => ⟨S1x1, .f32⟩
  | .local .tc .vmem, ⟨38, _⟩ => ⟨S4096x1, .f32⟩
  | .local .tc .vmem, ⟨39, _⟩ => ⟨S8x16, .f32⟩
  | .local .tc .vmem, ⟨40, _⟩ => ⟨S4096x16, .f32⟩
  | .local .tc .vmem, ⟨41, _⟩ => ⟨S4096x16, .f32⟩
  | .local .scVector .vmem, ⟨0, _⟩ => ⟨S52224, .i32⟩
  | .local .scVector .vmem, ⟨1, _⟩ => ⟨S1536x16, .f32⟩
  | .local .scVector .vmem, ⟨2, _⟩ => ⟨S1536x16, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_c : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_c_0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c_1 : Ref sig .tc := ⟨.hbm, 53, rfl⟩
abbrev main_call0_v0 : Ref sig .tc := ⟨.hbm, 54, rfl⟩
abbrev main_v19 : Ref sig .tc := ⟨.hbm, 55, rfl⟩
abbrev main_c_2 : Ref sig .tc := ⟨.hbm, 56, rfl⟩
abbrev main_call1_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c_3 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_c_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_c : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_0 : Ref sig .tc := ⟨.hbm, 106, rfl⟩
abbrev main_call3_v12 : Ref sig .tc := ⟨.hbm, 107, rfl⟩
abbrev main_call3_v13 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_c_5 : Ref sig .tc := ⟨.hbm, 117, rfl⟩
abbrev main_call4_v0 : Ref sig .tc := ⟨.hbm, 118, rfl⟩
abbrev main_call4_c : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_c_1 : Ref sig .tc := ⟨.hbm, 125, rfl⟩
abbrev main_call4_v5 : Ref sig .tc := ⟨.hbm, 126, rfl⟩
abbrev main_call4_v6 : Ref sig .tc := ⟨.hbm, 127, rfl⟩
abbrev main_call4_c_2 : Ref sig .tc := ⟨.hbm, 128, rfl⟩
abbrev main_call4_v7 : Ref sig .tc := ⟨.hbm, 129, rfl⟩
abbrev main_call4_v8 : Ref sig .tc := ⟨.hbm, 130, rfl⟩
abbrev main_call4_c_3 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_v12 : Ref sig .tc := ⟨.hbm, 135, rfl⟩
abbrev main_call4_v13 : Ref sig .tc := ⟨.hbm, 136, rfl⟩
abbrev main_call4_v14 : Ref sig .tc := ⟨.hbm, 137, rfl⟩
abbrev main_v41 : Ref sig .tc := ⟨.hbm, 138, rfl⟩
abbrev main_c_6 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_c_7 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_v5 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_c : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_0 : Ref sig .tc := ⟨.hbm, 158, rfl⟩
abbrev main_call5_v12 : Ref sig .tc := ⟨.hbm, 159, rfl⟩
abbrev main_call5_v13 : Ref sig .tc := ⟨.hbm, 160, rfl⟩
abbrev main_v46 : Ref sig .tc := ⟨.hbm, 161, rfl⟩
abbrev main_v47 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_v51 : Ref sig .tc := ⟨.hbm, 166, rfl⟩
abbrev main_v52 : Ref sig .tc := ⟨.hbm, 167, rfl⟩
abbrev main_c_8 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_v6 : Ref sig .tc := ⟨.hbm, 175, rfl⟩
abbrev main_call6_v7 : Ref sig .tc := ⟨.hbm, 176, rfl⟩
abbrev main_call6_v8 : Ref sig .tc := ⟨.hbm, 177, rfl⟩
abbrev main_call6_c : Ref sig .tc := ⟨.hbm, 178, rfl⟩
abbrev main_call6_v9 : Ref sig .tc := ⟨.hbm, 179, rfl⟩
abbrev main_call6_v10 : Ref sig .tc := ⟨.hbm, 180, rfl⟩
abbrev main_call6_v11 : Ref sig .tc := ⟨.hbm, 181, rfl⟩
abbrev main_call6_c_0 : Ref sig .tc := ⟨.hbm, 182, rfl⟩
abbrev main_call6_v12 : Ref sig .tc := ⟨.hbm, 183, rfl⟩
abbrev main_call6_v13 : Ref sig .tc := ⟨.hbm, 184, rfl⟩
abbrev main_v53 : Ref sig .tc := ⟨.hbm, 185, rfl⟩
abbrev main_v54 : Ref sig .tc := ⟨.hbm, 186, rfl⟩
abbrev main_v55 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_v59 : Ref sig .tc := ⟨.hbm, 191, rfl⟩
abbrev main_call7_v0 : Ref sig .tc := ⟨.hbm, 192, rfl⟩
abbrev main_call7_v1 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_v60 : Ref sig .tc := ⟨.hbm, 197, rfl⟩
abbrev main_v61 : Ref sig .tc := ⟨.hbm, 198, rfl⟩
abbrev main_v62 : Ref sig .tc := ⟨.hbm, 199, rfl⟩
abbrev main_v63 : Ref sig .tc := ⟨.hbm, 200, rfl⟩
abbrev main_call8_v0 : Ref sig .tc := ⟨.hbm, 201, rfl⟩
abbrev main_call8_v1 : Ref sig .tc := ⟨.hbm, 202, rfl⟩
abbrev main_call8_v2 : Ref sig .tc := ⟨.hbm, 203, rfl⟩
abbrev main_call8_v3 : Ref sig .tc := ⟨.hbm, 204, rfl⟩
abbrev main_call8_v4 : Ref sig .tc := ⟨.hbm, 205, rfl⟩
abbrev main_v64 : Ref sig .tc := ⟨.hbm, 206, rfl⟩
abbrev main_call9_v0 : Ref sig .tc := ⟨.hbm, 207, rfl⟩
abbrev main_call9_v1 : Ref sig .tc := ⟨.hbm, 208, rfl⟩
abbrev main_call9_v2 : Ref sig .tc := ⟨.hbm, 209, rfl⟩
abbrev main_call9_v3 : Ref sig .tc := ⟨.hbm, 210, rfl⟩
abbrev main_call9_v4 : Ref sig .tc := ⟨.hbm, 211, rfl⟩
abbrev main_v65 : Ref sig .tc := ⟨.hbm, 212, rfl⟩
abbrev main_v66 : Ref sig .tc := ⟨.hbm, 213, rfl⟩
abbrev main_v67 : Ref sig .tc := ⟨.hbm, 214, rfl⟩
abbrev main_v68 : Ref sig .tc := ⟨.hbm, 215, rfl⟩
abbrev main_v69 : Ref sig .tc := ⟨.hbm, 216, rfl⟩
abbrev main_v70 : Ref sig .tc := ⟨.hbm, 217, rfl⟩
abbrev main_v71 : Ref sig .tc := ⟨.hbm, 218, rfl⟩
abbrev main_v72 : Ref sig .tc := ⟨.hbm, 219, rfl⟩
abbrev main_v73 : Ref sig .tc := ⟨.hbm, 220, rfl⟩
abbrev main_v74 : Ref sig .tc := ⟨.hbm, 221, rfl⟩
abbrev main_v75 : Ref sig .tc := ⟨.hbm, 222, rfl⟩
abbrev main_v76 : Ref sig .tc := ⟨.hbm, 223, rfl⟩
abbrev main_v77 : Ref sig .tc := ⟨.hbm, 224, rfl⟩
abbrev main_v78 : Ref sig .tc := ⟨.hbm, 225, rfl⟩
abbrev main_v79 : Ref sig .tc := ⟨.hbm, 226, rfl⟩
abbrev main_v80 : Ref sig .tc := ⟨.hbm, 227, rfl⟩
abbrev main_v81 : Ref sig .tc := ⟨.hbm, 228, rfl⟩
abbrev main_v82 : Ref sig .tc := ⟨.hbm, 229, rfl⟩
abbrev main_v83 : Ref sig .tc := ⟨.hbm, 230, rfl⟩
abbrev main_call10_v0 : Ref sig .tc := ⟨.hbm, 231, rfl⟩
abbrev main_call10_v1 : Ref sig .tc := ⟨.hbm, 232, rfl⟩
abbrev main_call10_v2 : Ref sig .tc := ⟨.hbm, 233, rfl⟩
abbrev main_call10_v3 : Ref sig .tc := ⟨.hbm, 234, rfl⟩
abbrev main_call10_v4 : Ref sig .tc := ⟨.hbm, 235, rfl⟩
abbrev main_v84 : Ref sig .tc := ⟨.hbm, 236, rfl⟩
abbrev main_v85 : Ref sig .tc := ⟨.hbm, 237, rfl⟩
abbrev main_c_9 : Ref sig .tc := ⟨.hbm, 238, rfl⟩
abbrev main_call11_v0 : Ref sig .tc := ⟨.hbm, 239, rfl⟩
abbrev main_v86 : Ref sig .tc := ⟨.hbm, 240, rfl⟩
abbrev main_v87 : Ref sig .tc := ⟨.hbm, 241, rfl⟩
abbrev main_v88 : Ref sig .tc := ⟨.hbm, 242, rfl⟩
abbrev main_v89 : Ref sig .tc := ⟨.hbm, 243, rfl⟩
abbrev main_v90 : Ref sig .tc := ⟨.hbm, 244, rfl⟩
abbrev main_c_10 : Ref sig .tc := ⟨.hbm, 245, rfl⟩
abbrev main_call12_v0 : Ref sig .tc := ⟨.hbm, 246, rfl⟩
abbrev main_v91 : Ref sig .tc := ⟨.hbm, 247, rfl⟩
abbrev main_v92 : Ref sig .tc := ⟨.hbm, 248, rfl⟩
abbrev main_c_11 : Ref sig .tc := ⟨.hbm, 249, rfl⟩
abbrev main_call13_v0 : Ref sig .tc := ⟨.hbm, 250, rfl⟩
abbrev main_v93 : Ref sig .tc := ⟨.hbm, 251, rfl⟩
abbrev main_v94 : Ref sig .tc := ⟨.hbm, 252, rfl⟩
abbrev main_c_12 : Ref sig .tc := ⟨.hbm, 253, rfl⟩
abbrev main_call14_v0 : Ref sig .tc := ⟨.hbm, 254, rfl⟩
abbrev main_v95 : Ref sig .tc := ⟨.hbm, 255, rfl⟩
abbrev main_v96 : Ref sig .tc := ⟨.hbm, 256, rfl⟩
abbrev main_v97 : Ref sig .tc := ⟨.hbm, 257, rfl⟩
abbrev main_v98 : Ref sig .tc := ⟨.hbm, 258, rfl⟩
abbrev main_v99 : Ref sig .tc := ⟨.hbm, 259, rfl⟩
abbrev main_v100 : Ref sig .tc := ⟨.hbm, 260, rfl⟩
abbrev main_v101 : Ref sig .tc := ⟨.hbm, 261, rfl⟩
abbrev main_v102 : Ref sig .tc := ⟨.hbm, 262, rfl⟩
abbrev main_v103 : Ref sig .tc := ⟨.hbm, 263, rfl⟩
abbrev main_v104 : Ref sig .tc := ⟨.hbm, 264, rfl⟩
abbrev main_v105 : Ref sig .tc := ⟨.hbm, 265, rfl⟩
abbrev main_v106 : Ref sig .tc := ⟨.hbm, 266, rfl⟩
abbrev main_v107 : Ref sig .tc := ⟨.hbm, 267, rfl⟩
abbrev main_v108 : Ref sig .tc := ⟨.hbm, 268, rfl⟩
abbrev main_v109 : Ref sig .tc := ⟨.hbm, 269, rfl⟩
abbrev main_arg7_scv : Ref sig .scVector := ⟨.hbm, 7, rfl⟩
abbrev main_v3_scv : Ref sig .scVector := ⟨.hbm, 36, rfl⟩
abbrev main_v4_scv : Ref sig .scVector := ⟨.hbm, 37, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg14_0 : Ref sig .tc := ⟨.vmem, 16, rfl⟩
abbrev cc1_stg15_0 : Ref sig .tc := ⟨.vmem, 17, rfl⟩
abbrev cc1_stg16_0 : Ref sig .tc := ⟨.vmem, 18, rfl⟩
abbrev cc1_stg17_0 : Ref sig .tc := ⟨.vmem, 19, rfl⟩
abbrev cc1_stg18_0 : Ref sig .tc := ⟨.vmem, 20, rfl⟩
abbrev cc1_stg19_0 : Ref sig .tc := ⟨.vmem, 21, rfl⟩
abbrev cc1_stg20_0 : Ref sig .tc := ⟨.vmem, 22, rfl⟩
abbrev cc1_stg21_0 : Ref sig .tc := ⟨.vmem, 23, rfl⟩
abbrev cc1_stg22_0 : Ref sig .tc := ⟨.vmem, 24, rfl⟩
abbrev cc1_stg23_0 : Ref sig .tc := ⟨.vmem, 25, rfl⟩
abbrev cc1_stg24_0 : Ref sig .tc := ⟨.vmem, 26, rfl⟩
abbrev cc1_stg25_0 : Ref sig .tc := ⟨.vmem, 27, rfl⟩
abbrev cc1_stg26_0 : Ref sig .tc := ⟨.vmem, 28, rfl⟩
abbrev cc1_stg27_0 : Ref sig .tc := ⟨.vmem, 29, rfl⟩
abbrev cc1_stg28_0 : Ref sig .tc := ⟨.vmem, 30, rfl⟩
abbrev cc1_stg29_0 : Ref sig .tc := ⟨.vmem, 31, rfl⟩
abbrev cc1_stg30_0 : Ref sig .tc := ⟨.vmem, 32, rfl⟩
abbrev cc1_stg31_0 : Ref sig .tc := ⟨.vmem, 33, rfl⟩
abbrev cc1_stg32_0 : Ref sig .tc := ⟨.vmem, 34, rfl⟩
abbrev cc1_stg33_0 : Ref sig .tc := ⟨.vmem, 35, rfl⟩
abbrev cc1_stg34_0 : Ref sig .tc := ⟨.vmem, 36, rfl⟩
abbrev cc1_stg35_0 : Ref sig .tc := ⟨.vmem, 37, rfl⟩
abbrev cc1_stg36_0 : Ref sig .tc := ⟨.vmem, 38, rfl⟩
abbrev cc1_scratch0 : Ref sig .tc := ⟨.vmem, 39, rfl⟩
abbrev cc1_scratch1 : Ref sig .tc := ⟨.vmem, 40, rfl⟩
abbrev cc1_scratch2 : Ref sig .tc := ⟨.vmem, 41, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem20_0 : DmaSem sig := 27
abbrev cc1_sem21_0 : DmaSem sig := 28
abbrev cc1_sem22_0 : DmaSem sig := 29
abbrev cc1_sem23_0 : DmaSem sig := 30
abbrev cc1_sem24_0 : DmaSem sig := 31
abbrev cc1_sem25_0 : DmaSem sig := 32
abbrev cc1_sem26_0 : DmaSem sig := 33
abbrev cc1_sem27_0 : DmaSem sig := 34
abbrev cc1_sem28_0 : DmaSem sig := 35
abbrev cc1_sem29_0 : DmaSem sig := 36
abbrev cc1_sem30_0 : DmaSem sig := 37
abbrev cc1_sem31_0 : DmaSem sig := 38
abbrev cc1_sem32_0 : DmaSem sig := 39
abbrev cc1_sem33_0 : DmaSem sig := 40
abbrev cc1_sem34_0 : DmaSem sig := 41
abbrev cc1_sem35_0 : DmaSem sig := 42
abbrev cc1_sem36_0 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c52224_i32 : BitVec 32 := 52224#32
  let v2 : BitVec 32 := Scalar.muli v1 c52224_i32
  ![v2.toNat]
def k0_off2 (i : grid0.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c52224_i32_0 : BitVec 32 := 52224#32
  let v3 : BitVec 32 := Scalar.muli v1 c52224_i32_0
  let v10 : BitVec 32 := Scalar.addi v3 c0_i32_8
  let c0_i32_9 : BitVec 32 := 0#32
  ![v10.toNat, 0]
@[reducible] def k0_t1_loop : Scf.Loop 32 :=
  let c0_i32_12 : BitVec 32 := 0#32
  let c16_i32 : BitVec 32 := 16#32
  let v13 : BitVec 32 := Scalar.addi c0_i32_12 c16_i32
  let c1_i32 : BitVec 32 := 1#32
  ⟨c0_i32_12, v13, c1_i32⟩
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c52224_i32_0 : BitVec 32 := 52224#32
  let v3 : BitVec 32 := Scalar.muli v1 c52224_i32_0
  let c0_i32_25 : BitVec 32 := 0#32
  ![v3.toNat, 0]
def k0_off4 (k0_t1 : Fin k0_t1_loop.trips) (c1_i32_24 : BitVec 32) : Fin 1 → Nat :=
  let c2_i32_23 : BitVec 32 := 2#32
  let c0_i32_12 : BitVec 32 := 0#32
  let c1_i32 : BitVec 32 := 1#32
  let arg12 : BitVec 32 := Scf.iv c0_i32_12 c1_i32 k0_t1
  let v24 : BitVec 32 := Scalar.muli c2_i32_23 arg12
  let v25 : BitVec 32 := Scalar.addi v24 c1_i32_24
  let c1_i32_27 : BitVec 32 := 1#32
  let v28 : BitVec 32 := Scalar.addi v25 c1_i32_27
  let c1536_i32_28 : BitVec 32 := 1536#32
  let v29 : BitVec 32 := Scalar.muli v28 c1536_i32_28
  ![v29.toNat]
def k0_off5 (i : grid0.Coords) (k0_t1 : Fin k0_t1_loop.trips) (c1_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c52224_i32_0 : BitVec 32 := 52224#32
  let v3 : BitVec 32 := Scalar.muli v1 c52224_i32_0
  let c2_i32_23 : BitVec 32 := 2#32
  let c0_i32_12 : BitVec 32 := 0#32
  let c1_i32 : BitVec 32 := 1#32
  let arg12 : BitVec 32 := Scf.iv c0_i32_12 c1_i32 k0_t1
  let v24 : BitVec 32 := Scalar.muli c2_i32_23 arg12
  let v25 : BitVec 32 := Scalar.addi v24 c1_i32_24
  let c1536_i32_34 : BitVec 32 := 1536#32
  let v34 : BitVec 32 := Scalar.muli v25 c1536_i32_34
  let v35 : BitVec 32 := Scalar.addi v3 v34
  let c0_i32_35 : BitVec 32 := 0#32
  ![v35.toNat, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c52224_i32_0 : BitVec 32 := 52224#32
  let v3 : BitVec 32 := Scalar.muli v1 c52224_i32_0
  let c0_i32_19 : BitVec 32 := 0#32
  ![v3.toNat, 0]
abbrev grid1 : Pipeline.Grid := ⟨2, ![3, 32], ![false, false]⟩

def k1_cond2 (i : grid1.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k1_off1 (i : grid1.Coords) : Fin 2 → Nat :=
  let arg1 : BitVec 32 := BitVec.ofNat 32 (i 1).val
  let c128_i32 : BitVec 32 := 128#32
  let v30 : BitVec 32 := Scalar.muli arg1 c128_i32
  let v31 : Index := Scalar.indexCast v30
  let c0_15 : Index := 0#32
  ![v31.toNat, 0]
def k1_cond3 (i : grid1.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k1_off2 (i : grid1.Coords) : Fin 2 → Nat :=
  let arg1 : BitVec 32 := BitVec.ofNat 32 (i 1).val
  let c128_i32 : BitVec 32 := 128#32
  let v30 : BitVec 32 := Scalar.muli arg1 c128_i32
  let v31 : Index := Scalar.indexCast v30
  let c0_15 : Index := 0#32
  ![v31.toNat, 0]
def k1_cond4 (i : grid1.Coords) : BitVec 1 :=
  let arg0 : BitVec 32 := BitVec.ofNat 32 (i 0).val
  let c2_i32 : BitVec 32 := 2#32
  let v11 : BitVec 1 := Scalar.cmpi .eq arg0 c2_i32
  let v12 : BitVec 32 := Scalar.extui v11
  let c0_i32_5 : BitVec 32 := 0#32
  let v13 : BitVec 1 := Scalar.cmpi .ne v12 c0_i32_5
  v13

def k1_off3 (i : grid1.Coords) : Fin 2 → Nat :=
  let arg1 : BitVec 32 := BitVec.ofNat 32 (i 1).val
  let c128_i32 : BitVec 32 := 128#32
  let v30 : BitVec 32 := Scalar.muli arg1 c128_i32
  let v31 : Index := Scalar.indexCast v30
  let c0_15 : Index := 0#32
  ![v31.toNat, 0]
def k1_off4 (i : grid1.Coords) : Fin 2 → Nat :=
  let arg1 : BitVec 32 := BitVec.ofNat 32 (i 1).val
  let c128_i32_96 : BitVec 32 := 128#32
  let v196 : BitVec 32 := Scalar.muli arg1 c128_i32_96
  let v197 : Index := Scalar.indexCast v196
  let c0_97 : Index := 0#32
  ![v197.toNat, 0]
def k1_cond5 (i : grid1.Coords) : BitVec 1 :=
  let arg0 : BitVec 32 := BitVec.ofNat 32 (i 0).val
  let c0_i32_6 : BitVec 32 := 0#32
  let v14 : BitVec 1 := Scalar.cmpi .eq arg0 c0_i32_6
  let v15 : BitVec 32 := Scalar.extui v14
  let c0_i32_7 : BitVec 32 := 0#32
  let v16 : BitVec 1 := Scalar.cmpi .ne v15 c0_i32_7
  v16

def k1_off5 (i : grid1.Coords) : Fin 2 → Nat :=
  let arg1 : BitVec 32 := BitVec.ofNat 32 (i 1).val
  let c128_i32 : BitVec 32 := 128#32
  let v30 : BitVec 32 := Scalar.muli arg1 c128_i32
  let v31 : Index := Scalar.indexCast v30
  let c0_15 : Index := 0#32
  ![v31.toNat, 0]
def k1_cond6 (i : grid1.Coords) : BitVec 1 :=
  let arg0 : BitVec 32 := BitVec.ofNat 32 (i 0).val
  let c1_i32_8 : BitVec 32 := 1#32
  let v17 : BitVec 1 := Scalar.cmpi .eq arg0 c1_i32_8
  let v18 : BitVec 32 := Scalar.extui v17
  let c0_i32_9 : BitVec 32 := 0#32
  let v19 : BitVec 1 := Scalar.cmpi .ne v18 c0_i32_9
  v19

def k1_off6 (i : grid1.Coords) : Fin 2 → Nat :=
  let arg1 : BitVec 32 := BitVec.ofNat 32 (i 1).val
  let c128_i32 : BitVec 32 := 128#32
  let v30 : BitVec 32 := Scalar.muli arg1 c128_i32
  let v31 : Index := Scalar.indexCast v30
  let c0_15 : Index := 0#32
  ![v31.toNat, 0]
def k1_cond7 (i : grid1.Coords) : BitVec 1 :=
  let arg0 : BitVec 32 := BitVec.ofNat 32 (i 0).val
  let c2_i32_10 : BitVec 32 := 2#32
  let v20 : BitVec 1 := Scalar.cmpi .eq arg0 c2_i32_10
  let v21 : BitVec 32 := Scalar.extui v20
  let c0_i32_11 : BitVec 32 := 0#32
  let v22 : BitVec 1 := Scalar.cmpi .ne v21 c0_i32_11
  v22

def k1_off7 (i : grid1.Coords) : Fin 2 → Nat :=
  let arg1 : BitVec 32 := BitVec.ofNat 32 (i 1).val
  let c128_i32 : BitVec 32 := 128#32
  let v30 : BitVec 32 := Scalar.muli arg1 c128_i32
  let v31 : Index := Scalar.indexCast v30
  let c0_15 : Index := 0#32
  ![v31.toNat, 0]
def k1_off8 (i : grid1.Coords) : Fin 2 → Nat :=
  let arg1 : BitVec 32 := BitVec.ofNat 32 (i 1).val
  let c128_i32_95 : BitVec 32 := 128#32
  let v196 : BitVec 32 := Scalar.muli arg1 c128_i32_95
  let v197 : Index := Scalar.indexCast v196
  let c0_96 : Index := 0#32
  ![v197.toNat, 0]
def k1_cond8 (i : grid1.Coords) : BitVec 1 :=
  let arg0 : BitVec 32 := BitVec.ofNat 32 (i 0).val
  let c2_i32_12 : BitVec 32 := 2#32
  let v23 : BitVec 1 := Scalar.cmpi .eq arg0 c2_i32_12
  let arg1 : BitVec 32 := BitVec.ofNat 32 (i 1).val
  let c31_i32 : BitVec 32 := 31#32
  let v24 : BitVec 1 := Scalar.cmpi .eq arg1 c31_i32
  let v25 : BitVec 1 := Scalar.andi v23 v24
  let v26 : BitVec 32 := Scalar.extui v25
  let c0_i32_13 : BitVec 32 := 0#32
  let v27 : BitVec 1 := Scalar.cmpi .ne v26 c0_i32_13
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_27 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_28 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_29 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_30 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_31 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_32 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_33 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_34 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_35 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_36 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S4096x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4096x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S4096x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S3200x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S3200x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S16x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S128x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S16x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x16 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x16 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S128x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 1 → Memref sig .tc .vmem S1x16 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false, false]

abbrev stage1_20 : Fin 1 → Memref sig .tc .vmem S1x16 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false, false]

abbrev stage1_21 : Fin 1 → Memref sig .tc .vmem S1x128 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false, false]

abbrev stage1_22 : Fin 1 → Memref sig .tc .vmem S128x128 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false, false]

abbrev stage1_23 : Fin 1 → Memref sig .tc .vmem S1x1 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false, false]

abbrev stage1_24 : Fin 1 → Memref sig .tc .vmem S80x32 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false, false]

abbrev stage1_25 : Fin 1 → Memref sig .tc .vmem S1x32 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false, false]

abbrev stage1_26 : Fin 1 → Memref sig .tc .vmem S1x32 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false, false]

abbrev stage1_27 : Fin 1 → Memref sig .tc .vmem S1x32 .f32 := fun | 0 => Memref.whole cc1_stg27_0 | ⟨_ + 1, h⟩ => absurd h (Nat.not_lt.2 (Nat.le_add_left _ _))
abbrev sem1_27 : Fin 1 → DmaSem sig := fun | 0 => cc1_sem27_0 | ⟨_ + 1, h⟩ => absurd h (Nat.not_lt.2 (Nat.le_add_left _ _))
abbrev reads1_27 : Fin grid1.rank → Bool := ![false, false]

abbrev stage1_28 : Fin 1 → Memref sig .tc .vmem S1x32 .f32 := fun | 0 => Memref.whole cc1_stg28_0 | ⟨_ + 1, h⟩ => absurd h (Nat.not_lt.2 (Nat.le_add_left _ _))
abbrev sem1_28 : Fin 1 → DmaSem sig := fun | 0 => cc1_sem28_0 | ⟨_ + 1, h⟩ => absurd h (Nat.not_lt.2 (Nat.le_add_left _ _))
abbrev reads1_28 : Fin grid1.rank → Bool := ![false, false]

abbrev stage1_29 : Fin 1 → Memref sig .tc .vmem S32x16 .f32 := fun | 0 => Memref.whole cc1_stg29_0 | ⟨_ + 1, h⟩ => absurd h (Nat.not_lt.2 (Nat.le_add_left _ _))
abbrev sem1_29 : Fin 1 → DmaSem sig := fun | 0 => cc1_sem29_0 | ⟨_ + 1, h⟩ => absurd h (Nat.not_lt.2 (Nat.le_add_left _ _))
abbrev reads1_29 : Fin grid1.rank → Bool := ![false, false]

abbrev stage1_30 : Fin 1 → Memref sig .tc .vmem S1x16 .f32 := fun | 0 => Memref.whole cc1_stg30_0 | ⟨_ + 1, h⟩ => absurd h (Nat.not_lt.2 (Nat.le_add_left _ _))
abbrev sem1_30 : Fin 1 → DmaSem sig := fun | 0 => cc1_sem30_0 | ⟨_ + 1, h⟩ => absurd h (Nat.not_lt.2 (Nat.le_add_left _ _))
abbrev reads1_30 : Fin grid1.rank → Bool := ![false, false]

abbrev stage1_31 : Fin 1 → Memref sig .tc .vmem S1x16 .f32 := fun | 0 => Memref.whole cc1_stg31_0 | ⟨_ + 1, h⟩ => absurd h (Nat.not_lt.2 (Nat.le_add_left _ _))
abbrev sem1_31 : Fin 1 → DmaSem sig := fun | 0 => cc1_sem31_0 | ⟨_ + 1, h⟩ => absurd h (Nat.not_lt.2 (Nat.le_add_left _ _))
abbrev reads1_31 : Fin grid1.rank → Bool := ![false, false]

abbrev stage1_32 : Fin 1 → Memref sig .tc .vmem S1x16 .f32 := fun | 0 => Memref.whole cc1_stg32_0 | ⟨_ + 1, h⟩ => absurd h (Nat.not_lt.2 (Nat.le_add_left _ _))
abbrev sem1_32 : Fin 1 → DmaSem sig := fun | 0 => cc1_sem32_0 | ⟨_ + 1, h⟩ => absurd h (Nat.not_lt.2 (Nat.le_add_left _ _))
abbrev reads1_32 : Fin grid1.rank → Bool := ![false, false]

abbrev stage1_33 : Fin 1 → Memref sig .tc .vmem S1x16 .f32 := fun | 0 => Memref.whole cc1_stg33_0 | ⟨_ + 1, h⟩ => absurd h (Nat.not_lt.2 (Nat.le_add_left _ _))
abbrev sem1_33 : Fin 1 → DmaSem sig := fun | 0 => cc1_sem33_0 | ⟨_ + 1, h⟩ => absurd h (Nat.not_lt.2 (Nat.le_add_left _ _))
abbrev reads1_33 : Fin grid1.rank → Bool := ![false, false]

abbrev stage1_34 : Fin 1 → Memref sig .tc .vmem S16x1 .f32 := fun | 0 => Memref.whole cc1_stg34_0 | ⟨_ + 1, h⟩ => absurd h (Nat.not_lt.2 (Nat.le_add_left _ _))
abbrev sem1_34 : Fin 1 → DmaSem sig := fun | 0 => cc1_sem34_0 | ⟨_ + 1, h⟩ => absurd h (Nat.not_lt.2 (Nat.le_add_left _ _))
abbrev reads1_34 : Fin grid1.rank → Bool := ![false, false]

abbrev stage1_35 : Fin 1 → Memref sig .tc .vmem S1x1 .f32 := fun | 0 => Memref.whole cc1_stg35_0 | ⟨_ + 1, h⟩ => absurd h (Nat.not_lt.2 (Nat.le_add_left _ _))
abbrev sem1_35 : Fin 1 → DmaSem sig := fun | 0 => cc1_sem35_0 | ⟨_ + 1, h⟩ => absurd h (Nat.not_lt.2 (Nat.le_add_left _ _))
abbrev reads1_35 : Fin grid1.rank → Bool := ![false, false]

abbrev stage1_36 : Fin 1 → Memref sig .tc .vmem S4096x1 .f32 := fun | 0 => Memref.whole cc1_stg36_0 | ⟨_ + 1, h⟩ => absurd h (Nat.not_lt.2 (Nat.le_add_left _ _))
abbrev sem1_36 : Fin 1 → DmaSem sig := fun | 0 => cc1_sem36_0 | ⟨_ + 1, h⟩ => absurd h (Nat.not_lt.2 (Nat.le_add_left _ _))
abbrev reads1_36 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S4096x200 : Shape := ⟨2, ![4096, 200]⟩
abbrev S1000000x16 : Shape := ⟨2, ![1000000, 16]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S80x32 : Shape := ⟨2, ![80, 32]⟩
abbrev S32 : Shape := ⟨1, ![32]⟩
abbrev S32x16 : Shape := ⟨2, ![32, 16]⟩
abbrev S16x1 : Shape := ⟨2, ![16, 1]⟩
abbrev S_ : Shape := ⟨0, ![]⟩
abbrev S4096x1 : Shape := ⟨2, ![4096, 1]⟩
abbrev S1x1 : Shape := ⟨2, ![1, 1]⟩
abbrev S4096x16 : Shape := ⟨2, ![4096, 16]⟩
abbrev S4096x200x1 : Shape := ⟨3, ![4096, 200, 1]⟩
abbrev S1x1x1 : Shape := ⟨3, ![1, 1, 1]⟩
abbrev S4096x200x16 : Shape := ⟨3, ![4096, 200, 16]⟩
abbrev S4096x1x16 : Shape := ⟨3, ![4096, 1, 16]⟩
abbrev S4096x200x64 : Shape := ⟨3, ![4096, 200, 64]⟩
abbrev S819200x64 : Shape := ⟨2, ![819200, 64]⟩
abbrev S819200x16 : Shape := ⟨2, ![819200, 16]⟩
abbrev S1x16 : Shape := ⟨2, ![1, 16]⟩
abbrev S819200x8 : Shape := ⟨2, ![819200, 8]⟩
abbrev S1x8 : Shape := ⟨2, ![1, 8]⟩
abbrev S819200x1 : Shape := ⟨2, ![819200, 1]⟩
abbrev S200 : Shape := ⟨1, ![200]⟩
abbrev S1x200 : Shape := ⟨2, ![1, 200]⟩
abbrev S4096x80 : Shape := ⟨2, ![4096, 80]⟩
abbrev S4096x32 : Shape := ⟨2, ![4096, 32]⟩
abbrev S1x32 : Shape := ⟨2, ![1, 32]⟩

abbrev nBuf : Space → Nat
  | .hbm => 830
  | .vmem => 0
  | .smem => 0
  | _ => 0

abbrev hbmTy0_0 (i : Nat) : BufTy := match i % 128 with
  | 0 => ⟨S4096, .i32⟩
  | 1 => ⟨S4096x200, .i32⟩
  | 2 => ⟨S4096, .i32⟩
  | 3 => ⟨S4096, .i32⟩
  | 4 => ⟨S4096x200, .i32⟩
  | 5 => ⟨S4096, .i32⟩
  | 6 => ⟨S4096, .i32⟩
  | 7 => ⟨S1000000x16, .f32⟩
  | 8 => ⟨S64x16, .f32⟩
  | 9 => ⟨S16, .f32⟩
  | 10 => ⟨S16, .f32⟩
  | 11 => ⟨S16, .f32⟩
  | 12 => ⟨S16, .f32⟩
  | 13 => ⟨S16x8, .f32⟩
  | 14 => ⟨S8, .f32⟩
  | 15 => ⟨S8, .f32⟩
  | 16 => ⟨S8, .f32⟩
  | 17 => ⟨S8, .f32⟩
  | 18 => ⟨S8x1, .f32⟩
  | 19 => ⟨S1, .f32⟩
  | 20 => ⟨S80x32, .f32⟩
  | 21 => ⟨S32, .f32⟩
  | 22 => ⟨S32, .f32⟩
  | 23 => ⟨S32, .f32⟩
  | 24 => ⟨S32, .f32⟩
  | 25 => ⟨S32x16, .f32⟩
  | 26 => ⟨S16, .f32⟩
  | 27 => ⟨S16, .f32⟩
  | 28 => ⟨S16, .f32⟩
  | 29 => ⟨S16, .f32⟩
  | 30 => ⟨S16x1, .f32⟩
  | 31 => ⟨S1, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S1, .i32⟩
  | 41 => ⟨S_, .i32⟩
  | 42 => ⟨S4096x1, .i32⟩
  | 43 => ⟨S4096x1, .i1⟩
  | 44 => ⟨S1x1, .i32⟩
  | 45 => ⟨S4096x1, .i32⟩
  | 46 => ⟨S4096x1, .i1⟩
  | 47 => ⟨S4096x1, .i1⟩
  | 48 => ⟨S_, .i1⟩
  | 49 => ⟨S4096, .i1⟩
  | 50 => ⟨S4096x16, .f32⟩
  | 51 => ⟨S4096x16, .i1⟩
  | 52 => ⟨S_, .f32⟩
  | 53 => ⟨S4096x16, .f32⟩
  | 54 => ⟨S4096x16, .f32⟩
  | 55 => ⟨S_, .i32⟩
  | 56 => ⟨S4096x200, .i32⟩
  | 57 => ⟨S4096x200, .i1⟩
  | 58 => ⟨S_, .i32⟩
  | 59 => ⟨S4096x200, .i32⟩
  | 60 => ⟨S4096x200, .i32⟩
  | 61 => ⟨S4096x200, .i32⟩
  | 62 => ⟨S4096x200x1, .i32⟩
  | 63 => ⟨S1, .i32⟩
  | 64 => ⟨S_, .i32⟩
  | 65 => ⟨S4096x200x1, .i32⟩
  | 66 => ⟨S4096x200x1, .i1⟩
  | 67 => ⟨S1x1x1, .i32⟩
  | 68 => ⟨S4096x200x1, .i32⟩
  | 69 => ⟨S4096x200x1, .i1⟩
  | 70 => ⟨S4096x200x1, .i1⟩
  | 71 => ⟨S_, .i1⟩
  | 72 => ⟨S4096x200, .i1⟩
  | 73 => ⟨S4096x200x16, .f32⟩
  | 74 => ⟨S4096x200x16, .i1⟩
  | 75 => ⟨S_, .f32⟩
  | 76 => ⟨S4096x200x16, .f32⟩
  | 77 => ⟨S4096x200x16, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S1, .i32⟩
  | 87 => ⟨S_, .i32⟩
  | 88 => ⟨S4096x1, .i32⟩
  | 89 => ⟨S4096x1, .i1⟩
  | 90 => ⟨S1x1, .i32⟩
  | 91 => ⟨S4096x1, .i32⟩
  | 92 => ⟨S4096x1, .i1⟩
  | 93 => ⟨S4096x1, .i1⟩
  | 94 => ⟨S_, .i1⟩
  | 95 => ⟨S4096, .i1⟩
  | 96 => ⟨S4096x16, .f32⟩
  | 97 => ⟨S4096x16, .i1⟩
  | 98 => ⟨S_, .f32⟩
  | 99 => ⟨S4096x16, .f32⟩
  | 100 => ⟨S4096x16, .f32⟩
  | 101 => ⟨S_, .i32⟩
  | 102 => ⟨S4096x200, .i32⟩
  | 103 => ⟨S4096x200, .i1⟩
  | 104 => ⟨S_, .i32⟩
  | 105 => ⟨S4096x200, .i32⟩
  | 106 => ⟨S4096x200, .i32⟩
  | 107 => ⟨S4096x200, .i32⟩
  | 108 => ⟨S4096x200x1, .i32⟩
  | 109 => ⟨S1, .i32⟩
  | 110 => ⟨S_, .i32⟩
  | 111 => ⟨S4096x200x1, .i32⟩
  | 112 => ⟨S4096x200x1, .i1⟩
  | 113 => ⟨S1x1x1, .i32⟩
  | 114 => ⟨S4096x200x1, .i32⟩
  | 115 => ⟨S4096x200x1, .i1⟩
  | 116 => ⟨S4096x200x1, .i1⟩
  | 117 => ⟨S_, .i1⟩
  | 118 => ⟨S4096x200, .i1⟩
  | 119 => ⟨S4096x200x16, .f32⟩
  | 120 => ⟨S4096x200x16, .i1⟩
  | 121 => ⟨S_, .f32⟩
  | 122 => ⟨S4096x200x16, .f32⟩
  | 123 => ⟨S4096x200x16, .f32⟩
  | 124 => ⟨S_, .i32⟩
  | 125 => ⟨S4096, .i32⟩
  | 126 => ⟨S4096, .i1⟩
  | 127 => ⟨S_, .i32⟩
  | _ => ⟨S4096, .i32⟩

abbrev hbmTy0_1 (i : Nat) : BufTy := match i % 128 with
  | 0 => ⟨S4096, .i32⟩
  | 1 => ⟨S4096, .i32⟩
  | 2 => ⟨S4096, .i32⟩
  | 3 => ⟨S4096x1, .i32⟩
  | 4 => ⟨S1, .i32⟩
  | 5 => ⟨S_, .i32⟩
  | 6 => ⟨S4096x1, .i32⟩
  | 7 => ⟨S4096x1, .i1⟩
  | 8 => ⟨S1x1, .i32⟩
  | 9 => ⟨S4096x1, .i32⟩
  | 10 => ⟨S4096x1, .i1⟩
  | 11 => ⟨S4096x1, .i1⟩
  | 12 => ⟨S_, .i1⟩
  | 13 => ⟨S4096, .i1⟩
  | 14 => ⟨S4096x16, .f32⟩
  | 15 => ⟨S4096x16, .i1⟩
  | 16 => ⟨S_, .f32⟩
  | 17 => ⟨S4096x16, .f32⟩
  | 18 => ⟨S4096x16, .f32⟩
  | 19 => ⟨S4096x1x16, .f32⟩
  | 20 => ⟨S4096x200x16, .f32⟩
  | 21 => ⟨S4096x200x16, .f32⟩
  | 22 => ⟨S4096x200x16, .f32⟩
  | 23 => ⟨S4096x200x64, .f32⟩
  | 24 => ⟨S819200x64, .f32⟩
  | 25 => ⟨S819200x16, .f32⟩
  | 26 => ⟨S1x16, .f32⟩
  | 27 => ⟨S819200x16, .f32⟩
  | 28 => ⟨S819200x16, .f32⟩
  | 29 => ⟨S_, .f32⟩
  | 30 => ⟨S16, .f32⟩
  | 31 => ⟨S1x16, .f32⟩
  | 32 => ⟨S_, .f32⟩
  | 33 => ⟨S1x16, .f32⟩
  | 34 => ⟨S1x16, .f32⟩
  | 35 => ⟨S_, .i32⟩
  | 36 => ⟨S_, .f32⟩
  | 37 => ⟨S16, .f32⟩
  | 38 => ⟨S1x16, .f32⟩
  | 39 => ⟨S_, .f32⟩
  | 40 => ⟨S1x16, .f32⟩
  | 41 => ⟨S1x16, .f32⟩
  | 42 => ⟨S819200x16, .f32⟩
  | 43 => ⟨S819200x16, .f32⟩
  | 44 => ⟨S819200x16, .f32⟩
  | 45 => ⟨S_, .f32⟩
  | 46 => ⟨S_, .f32⟩
  | 47 => ⟨S_, .f32⟩
  | 48 => ⟨S_, .f32⟩
  | 49 => ⟨S16, .f32⟩
  | 50 => ⟨S1x16, .f32⟩
  | 51 => ⟨S1x16, .f32⟩
  | 52 => ⟨S1x16, .f32⟩
  | 53 => ⟨S_, .f32⟩
  | 54 => ⟨S_, .i1⟩
  | 55 => ⟨S_, .f32⟩
  | 56 => ⟨S_, .f32⟩
  | 57 => ⟨S1x16, .f32⟩
  | 58 => ⟨S1x16, .f32⟩
  | 59 => ⟨S819200x16, .f32⟩
  | 60 => ⟨S819200x16, .f32⟩
  | 61 => ⟨S_, .f32⟩
  | 62 => ⟨S1x16, .f32⟩
  | 63 => ⟨S1x16, .f32⟩
  | 64 => ⟨S1x16, .f32⟩
  | 65 => ⟨S819200x16, .f32⟩
  | 66 => ⟨S819200x16, .f32⟩
  | 67 => ⟨S1x16, .f32⟩
  | 68 => ⟨S819200x16, .f32⟩
  | 69 => ⟨S819200x16, .f32⟩
  | 70 => ⟨S1x16, .f32⟩
  | 71 => ⟨S819200x16, .f32⟩
  | 72 => ⟨S819200x16, .f32⟩
  | 73 => ⟨S_, .f32⟩
  | 74 => ⟨S16, .f32⟩
  | 75 => ⟨S1x16, .f32⟩
  | 76 => ⟨S_, .f32⟩
  | 77 => ⟨S1x16, .f32⟩
  | 78 => ⟨S1x16, .f32⟩
  | 79 => ⟨S_, .i32⟩
  | 80 => ⟨S_, .f32⟩
  | 81 => ⟨S16, .f32⟩
  | 82 => ⟨S1x16, .f32⟩
  | 83 => ⟨S_, .f32⟩
  | 84 => ⟨S1x16, .f32⟩
  | 85 => ⟨S1x16, .f32⟩
  | 86 => ⟨S819200x16, .f32⟩
  | 87 => ⟨S819200x16, .f32⟩
  | 88 => ⟨S819200x16, .f32⟩
  | 89 => ⟨S_, .f32⟩
  | 90 => ⟨S_, .f32⟩
  | 91 => ⟨S_, .f32⟩
  | 92 => ⟨S_, .f32⟩
  | 93 => ⟨S16, .f32⟩
  | 94 => ⟨S1x16, .f32⟩
  | 95 => ⟨S1x16, .f32⟩
  | 96 => ⟨S1x16, .f32⟩
  | 97 => ⟨S_, .f32⟩
  | 98 => ⟨S_, .i1⟩
  | 99 => ⟨S_, .f32⟩
  | 100 => ⟨S_, .f32⟩
  | 101 => ⟨S1x16, .f32⟩
  | 102 => ⟨S1x16, .f32⟩
  | 103 => ⟨S819200x16, .f32⟩
  | 104 => ⟨S819200x16, .f32⟩
  | 105 => ⟨S_, .f32⟩
  | 106 => ⟨S1x16, .f32⟩
  | 107 => ⟨S1x16, .f32⟩
  | 108 => ⟨S1x16, .f32⟩
  | 109 => ⟨S819200x16, .f32⟩
  | 110 => ⟨S819200x16, .f32⟩
  | 111 => ⟨S819200x16, .f32⟩
  | 112 => ⟨S819200x16, .f32⟩
  | 113 => ⟨S_, .f32⟩
  | 114 => ⟨S819200x16, .f32⟩
  | 115 => ⟨S819200x16, .f32⟩
  | 116 => ⟨S_, .f32⟩
  | 117 => ⟨S819200x16, .f32⟩
  | 118 => ⟨S819200x16, .f32⟩
  | 119 => ⟨S819200x16, .f32⟩
  | 120 => ⟨S_, .f32⟩
  | 121 => ⟨S819200x16, .f32⟩
  | 122 => ⟨S819200x16, .f32⟩
  | 123 => ⟨S1x16, .f32⟩
  | 124 => ⟨S819200x16, .f32⟩
  | 125 => ⟨S819200x16, .f32⟩
  | 126 => ⟨S819200x16, .f32⟩
  | 127 => ⟨S819200x16, .f32⟩
  | _ => ⟨S4096, .i32⟩

abbrev hbmTy0_2 (i : Nat) : BufTy := match i % 128 with
  | 0 => ⟨S819200x8, .f32⟩
  | 1 => ⟨S1x8, .f32⟩
  | 2 => ⟨S819200x8, .f32⟩
  | 3 => ⟨S819200x8, .f32⟩
  | 4 => ⟨S_, .f32⟩
  | 5 => ⟨S8, .f32⟩
  | 6 => ⟨S1x8, .f32⟩
  | 7 => ⟨S_, .f32⟩
  | 8 => ⟨S1x8, .f32⟩
  | 9 => ⟨S1x8, .f32⟩
  | 10 => ⟨S_, .i32⟩
  | 11 => ⟨S_, .f32⟩
  | 12 => ⟨S8, .f32⟩
  | 13 => ⟨S1x8, .f32⟩
  | 14 => ⟨S_, .f32⟩
  | 15 => ⟨S1x8, .f32⟩
  | 16 => ⟨S1x8, .f32⟩
  | 17 => ⟨S819200x8, .f32⟩
  | 18 => ⟨S819200x8, .f32⟩
  | 19 => ⟨S819200x8, .f32⟩
  | 20 => ⟨S_, .f32⟩
  | 21 => ⟨S_, .f32⟩
  | 22 => ⟨S_, .f32⟩
  | 23 => ⟨S_, .f32⟩
  | 24 => ⟨S8, .f32⟩
  | 25 => ⟨S1x8, .f32⟩
  | 26 => ⟨S1x8, .f32⟩
  | 27 => ⟨S1x8, .f32⟩
  | 28 => ⟨S_, .f32⟩
  | 29 => ⟨S_, .i1⟩
  | 30 => ⟨S_, .f32⟩
  | 31 => ⟨S_, .f32⟩
  | 32 => ⟨S1x8, .f32⟩
  | 33 => ⟨S1x8, .f32⟩
  | 34 => ⟨S819200x8, .f32⟩
  | 35 => ⟨S819200x8, .f32⟩
  | 36 => ⟨S_, .f32⟩
  | 37 => ⟨S1x8, .f32⟩
  | 38 => ⟨S1x8, .f32⟩
  | 39 => ⟨S1x8, .f32⟩
  | 40 => ⟨S819200x8, .f32⟩
  | 41 => ⟨S819200x8, .f32⟩
  | 42 => ⟨S1x8, .f32⟩
  | 43 => ⟨S819200x8, .f32⟩
  | 44 => ⟨S819200x8, .f32⟩
  | 45 => ⟨S1x8, .f32⟩
  | 46 => ⟨S819200x8, .f32⟩
  | 47 => ⟨S819200x8, .f32⟩
  | 48 => ⟨S_, .f32⟩
  | 49 => ⟨S8, .f32⟩
  | 50 => ⟨S1x8, .f32⟩
  | 51 => ⟨S_, .f32⟩
  | 52 => ⟨S1x8, .f32⟩
  | 53 => ⟨S1x8, .f32⟩
  | 54 => ⟨S_, .i32⟩
  | 55 => ⟨S_, .f32⟩
  | 56 => ⟨S8, .f32⟩
  | 57 => ⟨S1x8, .f32⟩
  | 58 => ⟨S_, .f32⟩
  | 59 => ⟨S1x8, .f32⟩
  | 60 => ⟨S1x8, .f32⟩
  | 61 => ⟨S819200x8, .f32⟩
  | 62 => ⟨S819200x8, .f32⟩
  | 63 => ⟨S819200x8, .f32⟩
  | 64 => ⟨S_, .f32⟩
  | 65 => ⟨S_, .f32⟩
  | 66 => ⟨S_, .f32⟩
  | 67 => ⟨S_, .f32⟩
  | 68 => ⟨S8, .f32⟩
  | 69 => ⟨S1x8, .f32⟩
  | 70 => ⟨S1x8, .f32⟩
  | 71 => ⟨S1x8, .f32⟩
  | 72 => ⟨S_, .f32⟩
  | 73 => ⟨S_, .i1⟩
  | 74 => ⟨S_, .f32⟩
  | 75 => ⟨S_, .f32⟩
  | 76 => ⟨S1x8, .f32⟩
  | 77 => ⟨S1x8, .f32⟩
  | 78 => ⟨S819200x8, .f32⟩
  | 79 => ⟨S819200x8, .f32⟩
  | 80 => ⟨S_, .f32⟩
  | 81 => ⟨S1x8, .f32⟩
  | 82 => ⟨S1x8, .f32⟩
  | 83 => ⟨S1x8, .f32⟩
  | 84 => ⟨S819200x8, .f32⟩
  | 85 => ⟨S819200x8, .f32⟩
  | 86 => ⟨S819200x8, .f32⟩
  | 87 => ⟨S819200x8, .f32⟩
  | 88 => ⟨S_, .f32⟩
  | 89 => ⟨S819200x8, .f32⟩
  | 90 => ⟨S819200x8, .f32⟩
  | 91 => ⟨S_, .f32⟩
  | 92 => ⟨S819200x8, .f32⟩
  | 93 => ⟨S819200x8, .f32⟩
  | 94 => ⟨S819200x8, .f32⟩
  | 95 => ⟨S_, .f32⟩
  | 96 => ⟨S819200x8, .f32⟩
  | 97 => ⟨S819200x8, .f32⟩
  | 98 => ⟨S1x8, .f32⟩
  | 99 => ⟨S819200x8, .f32⟩
  | 100 => ⟨S819200x8, .f32⟩
  | 101 => ⟨S819200x8, .f32⟩
  | 102 => ⟨S819200x8, .f32⟩
  | 103 => ⟨S819200x1, .f32⟩
  | 104 => ⟨S1x1, .f32⟩
  | 105 => ⟨S819200x1, .f32⟩
  | 106 => ⟨S819200x1, .f32⟩
  | 107 => ⟨S4096x200, .f32⟩
  | 108 => ⟨S200, .i32⟩
  | 109 => ⟨S1x200, .i32⟩
  | 110 => ⟨S4096x1, .i32⟩
  | 111 => ⟨S4096x200, .i32⟩
  | 112 => ⟨S4096x200, .i32⟩
  | 113 => ⟨S4096x200, .i1⟩
  | 114 => ⟨S_, .f32⟩
  | 115 => ⟨S_, .f32⟩
  | 116 => ⟨S4096x200, .f32⟩
  | 117 => ⟨S4096x200, .f32⟩
  | 118 => ⟨S4096x200x1, .f32⟩
  | 119 => ⟨S4096x200x16, .f32⟩
  | 120 => ⟨S4096x200x16, .f32⟩
  | 121 => ⟨S_, .f32⟩
  | 122 => ⟨S4096x16, .f32⟩
  | 123 => ⟨S4096x1x16, .f32⟩
  | 124 => ⟨S4096x200x16, .f32⟩
  | 125 => ⟨S4096x200x16, .f32⟩
  | 126 => ⟨S4096x200x16, .f32⟩
  | 127 => ⟨S4096x200x64, .f32⟩
  | _ => ⟨S4096, .i32⟩

abbrev hbmTy0_3 (i : Nat) : BufTy := match i % 128 with
  | 0 => ⟨S819200x64, .f32⟩
  | 1 => ⟨S819200x16, .f32⟩
  | 2 => ⟨S1x16, .f32⟩
  | 3 => ⟨S819200x16, .f32⟩
  | 4 => ⟨S819200x16, .f32⟩
  | 5 => ⟨S_, .f32⟩
  | 6 => ⟨S16, .f32⟩
  | 7 => ⟨S1x16, .f32⟩
  | 8 => ⟨S_, .f32⟩
  | 9 => ⟨S1x16, .f32⟩
  | 10 => ⟨S1x16, .f32⟩
  | 11 => ⟨S_, .i32⟩
  | 12 => ⟨S_, .f32⟩
  | 13 => ⟨S16, .f32⟩
  | 14 => ⟨S1x16, .f32⟩
  | 15 => ⟨S_, .f32⟩
  | 16 => ⟨S1x16, .f32⟩
  | 17 => ⟨S1x16, .f32⟩
  | 18 => ⟨S819200x16, .f32⟩
  | 19 => ⟨S819200x16, .f32⟩
  | 20 => ⟨S819200x16, .f32⟩
  | 21 => ⟨S_, .f32⟩
  | 22 => ⟨S_, .f32⟩
  | 23 => ⟨S_, .f32⟩
  | 24 => ⟨S_, .f32⟩
  | 25 => ⟨S16, .f32⟩
  | 26 => ⟨S1x16, .f32⟩
  | 27 => ⟨S1x16, .f32⟩
  | 28 => ⟨S1x16, .f32⟩
  | 29 => ⟨S_, .f32⟩
  | 30 => ⟨S_, .i1⟩
  | 31 => ⟨S_, .f32⟩
  | 32 => ⟨S_, .f32⟩
  | 33 => ⟨S1x16, .f32⟩
  | 34 => ⟨S1x16, .f32⟩
  | 35 => ⟨S819200x16, .f32⟩
  | 36 => ⟨S819200x16, .f32⟩
  | 37 => ⟨S_, .f32⟩
  | 38 => ⟨S1x16, .f32⟩
  | 39 => ⟨S1x16, .f32⟩
  | 40 => ⟨S1x16, .f32⟩
  | 41 => ⟨S819200x16, .f32⟩
  | 42 => ⟨S819200x16, .f32⟩
  | 43 => ⟨S1x16, .f32⟩
  | 44 => ⟨S819200x16, .f32⟩
  | 45 => ⟨S819200x16, .f32⟩
  | 46 => ⟨S1x16, .f32⟩
  | 47 => ⟨S819200x16, .f32⟩
  | 48 => ⟨S819200x16, .f32⟩
  | 49 => ⟨S_, .f32⟩
  | 50 => ⟨S16, .f32⟩
  | 51 => ⟨S1x16, .f32⟩
  | 52 => ⟨S_, .f32⟩
  | 53 => ⟨S1x16, .f32⟩
  | 54 => ⟨S1x16, .f32⟩
  | 55 => ⟨S_, .i32⟩
  | 56 => ⟨S_, .f32⟩
  | 57 => ⟨S16, .f32⟩
  | 58 => ⟨S1x16, .f32⟩
  | 59 => ⟨S_, .f32⟩
  | 60 => ⟨S1x16, .f32⟩
  | 61 => ⟨S1x16, .f32⟩
  | 62 => ⟨S819200x16, .f32⟩
  | 63 => ⟨S819200x16, .f32⟩
  | 64 => ⟨S819200x16, .f32⟩
  | 65 => ⟨S_, .f32⟩
  | 66 => ⟨S_, .f32⟩
  | 67 => ⟨S_, .f32⟩
  | 68 => ⟨S_, .f32⟩
  | 69 => ⟨S16, .f32⟩
  | 70 => ⟨S1x16, .f32⟩
  | 71 => ⟨S1x16, .f32⟩
  | 72 => ⟨S1x16, .f32⟩
  | 73 => ⟨S_, .f32⟩
  | 74 => ⟨S_, .i1⟩
  | 75 => ⟨S_, .f32⟩
  | 76 => ⟨S_, .f32⟩
  | 77 => ⟨S1x16, .f32⟩
  | 78 => ⟨S1x16, .f32⟩
  | 79 => ⟨S819200x16, .f32⟩
  | 80 => ⟨S819200x16, .f32⟩
  | 81 => ⟨S_, .f32⟩
  | 82 => ⟨S1x16, .f32⟩
  | 83 => ⟨S1x16, .f32⟩
  | 84 => ⟨S1x16, .f32⟩
  | 85 => ⟨S819200x16, .f32⟩
  | 86 => ⟨S819200x16, .f32⟩
  | 87 => ⟨S819200x16, .f32⟩
  | 88 => ⟨S819200x16, .f32⟩
  | 89 => ⟨S_, .f32⟩
  | 90 => ⟨S819200x16, .f32⟩
  | 91 => ⟨S819200x16, .f32⟩
  | 92 => ⟨S_, .f32⟩
  | 93 => ⟨S819200x16, .f32⟩
  | 94 => ⟨S819200x16, .f32⟩
  | 95 => ⟨S819200x16, .f32⟩
  | 96 => ⟨S_, .f32⟩
  | 97 => ⟨S819200x16, .f32⟩
  | 98 => ⟨S819200x16, .f32⟩
  | 99 => ⟨S1x16, .f32⟩
  | 100 => ⟨S819200x16, .f32⟩
  | 101 => ⟨S819200x16, .f32⟩
  | 102 => ⟨S819200x16, .f32⟩
  | 103 => ⟨S819200x16, .f32⟩
  | 104 => ⟨S819200x8, .f32⟩
  | 105 => ⟨S1x8, .f32⟩
  | 106 => ⟨S819200x8, .f32⟩
  | 107 => ⟨S819200x8, .f32⟩
  | 108 => ⟨S_, .f32⟩
  | 109 => ⟨S8, .f32⟩
  | 110 => ⟨S1x8, .f32⟩
  | 111 => ⟨S_, .f32⟩
  | 112 => ⟨S1x8, .f32⟩
  | 113 => ⟨S1x8, .f32⟩
  | 114 => ⟨S_, .i32⟩
  | 115 => ⟨S_, .f32⟩
  | 116 => ⟨S8, .f32⟩
  | 117 => ⟨S1x8, .f32⟩
  | 118 => ⟨S_, .f32⟩
  | 119 => ⟨S1x8, .f32⟩
  | 120 => ⟨S1x8, .f32⟩
  | 121 => ⟨S819200x8, .f32⟩
  | 122 => ⟨S819200x8, .f32⟩
  | 123 => ⟨S819200x8, .f32⟩
  | 124 => ⟨S_, .f32⟩
  | 125 => ⟨S_, .f32⟩
  | 126 => ⟨S_, .f32⟩
  | 127 => ⟨S_, .f32⟩
  | _ => ⟨S4096, .i32⟩

abbrev hbmTy0_4 (i : Nat) : BufTy := match i % 128 with
  | 0 => ⟨S8, .f32⟩
  | 1 => ⟨S1x8, .f32⟩
  | 2 => ⟨S1x8, .f32⟩
  | 3 => ⟨S1x8, .f32⟩
  | 4 => ⟨S_, .f32⟩
  | 5 => ⟨S_, .i1⟩
  | 6 => ⟨S_, .f32⟩
  | 7 => ⟨S_, .f32⟩
  | 8 => ⟨S1x8, .f32⟩
  | 9 => ⟨S1x8, .f32⟩
  | 10 => ⟨S819200x8, .f32⟩
  | 11 => ⟨S819200x8, .f32⟩
  | 12 => ⟨S_, .f32⟩
  | 13 => ⟨S1x8, .f32⟩
  | 14 => ⟨S1x8, .f32⟩
  | 15 => ⟨S1x8, .f32⟩
  | 16 => ⟨S819200x8, .f32⟩
  | 17 => ⟨S819200x8, .f32⟩
  | 18 => ⟨S1x8, .f32⟩
  | 19 => ⟨S819200x8, .f32⟩
  | 20 => ⟨S819200x8, .f32⟩
  | 21 => ⟨S1x8, .f32⟩
  | 22 => ⟨S819200x8, .f32⟩
  | 23 => ⟨S819200x8, .f32⟩
  | 24 => ⟨S_, .f32⟩
  | 25 => ⟨S8, .f32⟩
  | 26 => ⟨S1x8, .f32⟩
  | 27 => ⟨S_, .f32⟩
  | 28 => ⟨S1x8, .f32⟩
  | 29 => ⟨S1x8, .f32⟩
  | 30 => ⟨S_, .i32⟩
  | 31 => ⟨S_, .f32⟩
  | 32 => ⟨S8, .f32⟩
  | 33 => ⟨S1x8, .f32⟩
  | 34 => ⟨S_, .f32⟩
  | 35 => ⟨S1x8, .f32⟩
  | 36 => ⟨S1x8, .f32⟩
  | 37 => ⟨S819200x8, .f32⟩
  | 38 => ⟨S819200x8, .f32⟩
  | 39 => ⟨S819200x8, .f32⟩
  | 40 => ⟨S_, .f32⟩
  | 41 => ⟨S_, .f32⟩
  | 42 => ⟨S_, .f32⟩
  | 43 => ⟨S_, .f32⟩
  | 44 => ⟨S8, .f32⟩
  | 45 => ⟨S1x8, .f32⟩
  | 46 => ⟨S1x8, .f32⟩
  | 47 => ⟨S1x8, .f32⟩
  | 48 => ⟨S_, .f32⟩
  | 49 => ⟨S_, .i1⟩
  | 50 => ⟨S_, .f32⟩
  | 51 => ⟨S_, .f32⟩
  | 52 => ⟨S1x8, .f32⟩
  | 53 => ⟨S1x8, .f32⟩
  | 54 => ⟨S819200x8, .f32⟩
  | 55 => ⟨S819200x8, .f32⟩
  | 56 => ⟨S_, .f32⟩
  | 57 => ⟨S1x8, .f32⟩
  | 58 => ⟨S1x8, .f32⟩
  | 59 => ⟨S1x8, .f32⟩
  | 60 => ⟨S819200x8, .f32⟩
  | 61 => ⟨S819200x8, .f32⟩
  | 62 => ⟨S819200x8, .f32⟩
  | 63 => ⟨S819200x8, .f32⟩
  | 64 => ⟨S_, .f32⟩
  | 65 => ⟨S819200x8, .f32⟩
  | 66 => ⟨S819200x8, .f32⟩
  | 67 => ⟨S_, .f32⟩
  | 68 => ⟨S819200x8, .f32⟩
  | 69 => ⟨S819200x8, .f32⟩
  | 70 => ⟨S819200x8, .f32⟩
  | 71 => ⟨S_, .f32⟩
  | 72 => ⟨S819200x8, .f32⟩
  | 73 => ⟨S819200x8, .f32⟩
  | 74 => ⟨S1x8, .f32⟩
  | 75 => ⟨S819200x8, .f32⟩
  | 76 => ⟨S819200x8, .f32⟩
  | 77 => ⟨S819200x8, .f32⟩
  | 78 => ⟨S819200x8, .f32⟩
  | 79 => ⟨S819200x1, .f32⟩
  | 80 => ⟨S1x1, .f32⟩
  | 81 => ⟨S819200x1, .f32⟩
  | 82 => ⟨S819200x1, .f32⟩
  | 83 => ⟨S4096x200, .f32⟩
  | 84 => ⟨S200, .i32⟩
  | 85 => ⟨S1x200, .i32⟩
  | 86 => ⟨S4096x1, .i32⟩
  | 87 => ⟨S4096x200, .i32⟩
  | 88 => ⟨S4096x200, .i32⟩
  | 89 => ⟨S4096x200, .i1⟩
  | 90 => ⟨S_, .f32⟩
  | 91 => ⟨S_, .f32⟩
  | 92 => ⟨S4096x200, .f32⟩
  | 93 => ⟨S4096x200, .f32⟩
  | 94 => ⟨S4096x200x1, .f32⟩
  | 95 => ⟨S4096x200x16, .f32⟩
  | 96 => ⟨S4096x200x16, .f32⟩
  | 97 => ⟨S_, .f32⟩
  | 98 => ⟨S4096x16, .f32⟩
  | 99 => ⟨S4096x80, .f32⟩
  | 100 => ⟨S4096x32, .f32⟩
  | 101 => ⟨S1x32, .f32⟩
  | 102 => ⟨S4096x32, .f32⟩
  | 103 => ⟨S4096x32, .f32⟩
  | 104 => ⟨S_, .f32⟩
  | 105 => ⟨S32, .f32⟩
  | 106 => ⟨S1x32, .f32⟩
  | 107 => ⟨S_, .f32⟩
  | 108 => ⟨S1x32, .f32⟩
  | 109 => ⟨S1x32, .f32⟩
  | 110 => ⟨S_, .i32⟩
  | 111 => ⟨S_, .f32⟩
  | 112 => ⟨S32, .f32⟩
  | 113 => ⟨S1x32, .f32⟩
  | 114 => ⟨S_, .f32⟩
  | 115 => ⟨S1x32, .f32⟩
  | 116 => ⟨S1x32, .f32⟩
  | 117 => ⟨S4096x32, .f32⟩
  | 118 => ⟨S4096x32, .f32⟩
  | 119 => ⟨S4096x32, .f32⟩
  | 120 => ⟨S_, .f32⟩
  | 121 => ⟨S_, .f32⟩
  | 122 => ⟨S_, .f32⟩
  | 123 => ⟨S_, .f32⟩
  | 124 => ⟨S32, .f32⟩
  | 125 => ⟨S1x32, .f32⟩
  | 126 => ⟨S1x32, .f32⟩
  | 127 => ⟨S1x32, .f32⟩
  | _ => ⟨S4096, .i32⟩

abbrev hbmTy0_5 (i : Nat) : BufTy := match i % 128 with
  | 0 => ⟨S_, .f32⟩
  | 1 => ⟨S_, .i1⟩
  | 2 => ⟨S_, .f32⟩
  | 3 => ⟨S_, .f32⟩
  | 4 => ⟨S1x32, .f32⟩
  | 5 => ⟨S1x32, .f32⟩
  | 6 => ⟨S4096x32, .f32⟩
  | 7 => ⟨S4096x32, .f32⟩
  | 8 => ⟨S_, .f32⟩
  | 9 => ⟨S1x32, .f32⟩
  | 10 => ⟨S1x32, .f32⟩
  | 11 => ⟨S1x32, .f32⟩
  | 12 => ⟨S4096x32, .f32⟩
  | 13 => ⟨S4096x32, .f32⟩
  | 14 => ⟨S1x32, .f32⟩
  | 15 => ⟨S4096x32, .f32⟩
  | 16 => ⟨S4096x32, .f32⟩
  | 17 => ⟨S1x32, .f32⟩
  | 18 => ⟨S4096x32, .f32⟩
  | 19 => ⟨S4096x32, .f32⟩
  | 20 => ⟨S_, .f32⟩
  | 21 => ⟨S32, .f32⟩
  | 22 => ⟨S1x32, .f32⟩
  | 23 => ⟨S_, .f32⟩
  | 24 => ⟨S1x32, .f32⟩
  | 25 => ⟨S1x32, .f32⟩
  | 26 => ⟨S_, .i32⟩
  | 27 => ⟨S_, .f32⟩
  | 28 => ⟨S32, .f32⟩
  | 29 => ⟨S1x32, .f32⟩
  | 30 => ⟨S_, .f32⟩
  | 31 => ⟨S1x32, .f32⟩
  | 32 => ⟨S1x32, .f32⟩
  | 33 => ⟨S4096x32, .f32⟩
  | 34 => ⟨S4096x32, .f32⟩
  | 35 => ⟨S4096x32, .f32⟩
  | 36 => ⟨S_, .f32⟩
  | 37 => ⟨S_, .f32⟩
  | 38 => ⟨S_, .f32⟩
  | 39 => ⟨S_, .f32⟩
  | 40 => ⟨S32, .f32⟩
  | 41 => ⟨S1x32, .f32⟩
  | 42 => ⟨S1x32, .f32⟩
  | 43 => ⟨S1x32, .f32⟩
  | 44 => ⟨S_, .f32⟩
  | 45 => ⟨S_, .i1⟩
  | 46 => ⟨S_, .f32⟩
  | 47 => ⟨S_, .f32⟩
  | 48 => ⟨S1x32, .f32⟩
  | 49 => ⟨S1x32, .f32⟩
  | 50 => ⟨S4096x32, .f32⟩
  | 51 => ⟨S4096x32, .f32⟩
  | 52 => ⟨S_, .f32⟩
  | 53 => ⟨S1x32, .f32⟩
  | 54 => ⟨S1x32, .f32⟩
  | 55 => ⟨S1x32, .f32⟩
  | 56 => ⟨S4096x32, .f32⟩
  | 57 => ⟨S4096x32, .f32⟩
  | 58 => ⟨S4096x32, .f32⟩
  | 59 => ⟨S4096x32, .f32⟩
  | 60 => ⟨S_, .f32⟩
  | 61 => ⟨S4096x32, .f32⟩
  | 62 => ⟨S4096x32, .f32⟩
  | 63 => ⟨S_, .f32⟩
  | 64 => ⟨S4096x32, .f32⟩
  | 65 => ⟨S4096x32, .f32⟩
  | 66 => ⟨S4096x32, .f32⟩
  | 67 => ⟨S_, .f32⟩
  | 68 => ⟨S4096x32, .f32⟩
  | 69 => ⟨S4096x32, .f32⟩
  | 70 => ⟨S1x32, .f32⟩
  | 71 => ⟨S4096x32, .f32⟩
  | 72 => ⟨S4096x32, .f32⟩
  | 73 => ⟨S4096x32, .f32⟩
  | 74 => ⟨S4096x32, .f32⟩
  | 75 => ⟨S4096x16, .f32⟩
  | 76 => ⟨S1x16, .f32⟩
  | 77 => ⟨S4096x16, .f32⟩
  | 78 => ⟨S4096x16, .f32⟩
  | 79 => ⟨S_, .f32⟩
  | 80 => ⟨S16, .f32⟩
  | 81 => ⟨S1x16, .f32⟩
  | 82 => ⟨S_, .f32⟩
  | 83 => ⟨S1x16, .f32⟩
  | 84 => ⟨S1x16, .f32⟩
  | 85 => ⟨S_, .i32⟩
  | 86 => ⟨S_, .f32⟩
  | 87 => ⟨S16, .f32⟩
  | 88 => ⟨S1x16, .f32⟩
  | 89 => ⟨S_, .f32⟩
  | 90 => ⟨S1x16, .f32⟩
  | 91 => ⟨S1x16, .f32⟩
  | 92 => ⟨S4096x16, .f32⟩
  | 93 => ⟨S4096x16, .f32⟩
  | 94 => ⟨S4096x16, .f32⟩
  | 95 => ⟨S_, .f32⟩
  | 96 => ⟨S_, .f32⟩
  | 97 => ⟨S_, .f32⟩
  | 98 => ⟨S_, .f32⟩
  | 99 => ⟨S16, .f32⟩
  | 100 => ⟨S1x16, .f32⟩
  | 101 => ⟨S1x16, .f32⟩
  | 102 => ⟨S1x16, .f32⟩
  | 103 => ⟨S_, .f32⟩
  | 104 => ⟨S_, .i1⟩
  | 105 => ⟨S_, .f32⟩
  | 106 => ⟨S_, .f32⟩
  | 107 => ⟨S1x16, .f32⟩
  | 108 => ⟨S1x16, .f32⟩
  | 109 => ⟨S4096x16, .f32⟩
  | 110 => ⟨S4096x16, .f32⟩
  | 111 => ⟨S_, .f32⟩
  | 112 => ⟨S1x16, .f32⟩
  | 113 => ⟨S1x16, .f32⟩
  | 114 => ⟨S1x16, .f32⟩
  | 115 => ⟨S4096x16, .f32⟩
  | 116 => ⟨S4096x16, .f32⟩
  | 117 => ⟨S1x16, .f32⟩
  | 118 => ⟨S4096x16, .f32⟩
  | 119 => ⟨S4096x16, .f32⟩
  | 120 => ⟨S1x16, .f32⟩
  | 121 => ⟨S4096x16, .f32⟩
  | 122 => ⟨S4096x16, .f32⟩
  | 123 => ⟨S_, .f32⟩
  | 124 => ⟨S16, .f32⟩
  | 125 => ⟨S1x16, .f32⟩
  | 126 => ⟨S_, .f32⟩
  | 127 => ⟨S1x16, .f32⟩
  | _ => ⟨S4096, .i32⟩

abbrev hbmTy0_6 (i : Nat) : BufTy := match i % 128 with
  | 0 => ⟨S1x16, .f32⟩
  | 1 => ⟨S_, .i32⟩
  | 2 => ⟨S_, .f32⟩
  | 3 => ⟨S16, .f32⟩
  | 4 => ⟨S1x16, .f32⟩
  | 5 => ⟨S_, .f32⟩
  | 6 => ⟨S1x16, .f32⟩
  | 7 => ⟨S1x16, .f32⟩
  | 8 => ⟨S4096x16, .f32⟩
  | 9 => ⟨S4096x16, .f32⟩
  | 10 => ⟨S4096x16, .f32⟩
  | 11 => ⟨S_, .f32⟩
  | 12 => ⟨S_, .f32⟩
  | 13 => ⟨S_, .f32⟩
  | 14 => ⟨S_, .f32⟩
  | 15 => ⟨S16, .f32⟩
  | 16 => ⟨S1x16, .f32⟩
  | 17 => ⟨S1x16, .f32⟩
  | 18 => ⟨S1x16, .f32⟩
  | 19 => ⟨S_, .f32⟩
  | 20 => ⟨S_, .i1⟩
  | 21 => ⟨S_, .f32⟩
  | 22 => ⟨S_, .f32⟩
  | 23 => ⟨S1x16, .f32⟩
  | 24 => ⟨S1x16, .f32⟩
  | 25 => ⟨S4096x16, .f32⟩
  | 26 => ⟨S4096x16, .f32⟩
  | 27 => ⟨S_, .f32⟩
  | 28 => ⟨S1x16, .f32⟩
  | 29 => ⟨S1x16, .f32⟩
  | 30 => ⟨S1x16, .f32⟩
  | 31 => ⟨S4096x16, .f32⟩
  | 32 => ⟨S4096x16, .f32⟩
  | 33 => ⟨S4096x16, .f32⟩
  | 34 => ⟨S4096x16, .f32⟩
  | 35 => ⟨S_, .f32⟩
  | 36 => ⟨S4096x16, .f32⟩
  | 37 => ⟨S4096x16, .f32⟩
  | 38 => ⟨S_, .f32⟩
  | 39 => ⟨S4096x16, .f32⟩
  | 40 => ⟨S4096x16, .f32⟩
  | 41 => ⟨S4096x16, .f32⟩
  | 42 => ⟨S_, .f32⟩
  | 43 => ⟨S4096x16, .f32⟩
  | 44 => ⟨S4096x16, .f32⟩
  | 45 => ⟨S1x16, .f32⟩
  | 46 => ⟨S4096x16, .f32⟩
  | 47 => ⟨S4096x16, .f32⟩
  | 48 => ⟨S4096x16, .f32⟩
  | 49 => ⟨S4096x16, .f32⟩
  | 50 => ⟨S4096x1, .f32⟩
  | 51 => ⟨S1x1, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096x1, .f32⟩
  | 61 => ⟨S4096x1, .f32⟩
  | _ => ⟨S4096, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v0 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v1 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v2 : Ref sig .tc := ⟨.hbm, 100, rfl⟩
abbrev main_call3_c : Ref sig .tc := ⟨.hbm, 101, rfl⟩
abbrev main_call3_v0 : Ref sig .tc := ⟨.hbm, 102, rfl⟩
abbrev main_call3_v1 : Ref sig .tc := ⟨.hbm, 103, rfl⟩
abbrev main_call3_c_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_c_1 : Ref sig .tc := ⟨.hbm, 109, rfl⟩
abbrev main_call3_c_2 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_c_3 : Ref sig .tc := ⟨.hbm, 117, rfl⟩
abbrev main_call3_v12 : Ref sig .tc := ⟨.hbm, 118, rfl⟩
abbrev main_call3_v13 : Ref sig .tc := ⟨.hbm, 119, rfl⟩
abbrev main_call3_v14 : Ref sig .tc := ⟨.hbm, 120, rfl⟩
abbrev main_call3_cst : Ref sig .tc := ⟨.hbm, 121, rfl⟩
abbrev main_call3_v15 : Ref sig .tc := ⟨.hbm, 122, rfl⟩
abbrev main_v3 : Ref sig .tc := ⟨.hbm, 123, rfl⟩
abbrev main_call4_c : Ref sig .tc := ⟨.hbm, 124, rfl⟩
abbrev main_call4_v0 : Ref sig .tc := ⟨.hbm, 125, rfl⟩
abbrev main_call4_v1 : Ref sig .tc := ⟨.hbm, 126, rfl⟩
abbrev main_call4_c_0 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_c_1 : Ref sig .tc := ⟨.hbm, 132, rfl⟩
abbrev main_call4_c_2 : Ref sig .tc := ⟨.hbm, 133, rfl⟩
abbrev main_call4_v6 : Ref sig .tc := ⟨.hbm, 134, rfl⟩
abbrev main_call4_v7 : Ref sig .tc := ⟨.hbm, 135, rfl⟩
abbrev main_call4_v8 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_3 : Ref sig .tc := ⟨.hbm, 140, rfl⟩
abbrev main_call4_v12 : Ref sig .tc := ⟨.hbm, 141, rfl⟩
abbrev main_call4_v13 : Ref sig .tc := ⟨.hbm, 142, rfl⟩
abbrev main_call4_v14 : Ref sig .tc := ⟨.hbm, 143, rfl⟩
abbrev main_call4_cst : Ref sig .tc := ⟨.hbm, 144, rfl⟩
abbrev main_call4_v15 : Ref sig .tc := ⟨.hbm, 145, rfl⟩
abbrev main_v4 : Ref sig .tc := ⟨.hbm, 146, rfl⟩
abbrev main_v5 : Ref sig .tc := ⟨.hbm, 147, rfl⟩
abbrev main_v6 : Ref sig .tc := ⟨.hbm, 148, rfl⟩
abbrev main_v7 : Ref sig .tc := ⟨.hbm, 149, rfl⟩
abbrev main_v8 : Ref sig .tc := ⟨.hbm, 150, rfl⟩
abbrev main_v9 : Ref sig .tc := ⟨.hbm, 151, rfl⟩
abbrev main_v10 : Ref sig .tc := ⟨.hbm, 152, rfl⟩
abbrev main_v11 : Ref sig .tc := ⟨.hbm, 153, rfl⟩
abbrev main_v12 : Ref sig .tc := ⟨.hbm, 154, rfl⟩
abbrev main_v13 : Ref sig .tc := ⟨.hbm, 155, rfl⟩
abbrev main_v14 : Ref sig .tc := ⟨.hbm, 156, rfl⟩
abbrev main_cst : Ref sig .tc := ⟨.hbm, 157, rfl⟩
abbrev main_v15 : Ref sig .tc := ⟨.hbm, 158, rfl⟩
abbrev main_v16 : Ref sig .tc := ⟨.hbm, 159, rfl⟩
abbrev main_cst_0 : Ref sig .tc := ⟨.hbm, 160, rfl⟩
abbrev main_v17 : Ref sig .tc := ⟨.hbm, 161, rfl⟩
abbrev main_v18 : Ref sig .tc := ⟨.hbm, 162, rfl⟩
abbrev main_c : Ref sig .tc := ⟨.hbm, 163, rfl⟩
abbrev main_call5_cst : Ref sig .tc := ⟨.hbm, 164, rfl⟩
abbrev main_call5_v0 : Ref sig .tc := ⟨.hbm, 165, rfl⟩
abbrev main_call5_v1 : Ref sig .tc := ⟨.hbm, 166, rfl⟩
abbrev main_call5_cst_0 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_v6 : Ref sig .tc := ⟨.hbm, 172, rfl⟩
abbrev main_call5_v7 : Ref sig .tc := ⟨.hbm, 173, rfl⟩
abbrev main_call5_cst_1 : Ref sig .tc := ⟨.hbm, 174, rfl⟩
abbrev main_call5_v8 : Ref sig .tc := ⟨.hbm, 175, rfl⟩
abbrev main_call5_cst_2 : Ref sig .tc := ⟨.hbm, 176, rfl⟩
abbrev main_call5_v9 : Ref sig .tc := ⟨.hbm, 177, rfl⟩
abbrev main_call5_v10 : Ref sig .tc := ⟨.hbm, 178, rfl⟩
abbrev main_call5_v11 : Ref sig .tc := ⟨.hbm, 179, rfl⟩
abbrev main_call5_v12 : Ref sig .tc := ⟨.hbm, 180, rfl⟩
abbrev main_call5_cst_3 : Ref sig .tc := ⟨.hbm, 181, rfl⟩
abbrev main_call5_v13 : Ref sig .tc := ⟨.hbm, 182, rfl⟩
abbrev main_call5_cst_4 : Ref sig .tc := ⟨.hbm, 183, rfl⟩
abbrev main_call5_call0_v0 : Ref sig .tc := ⟨.hbm, 184, rfl⟩
abbrev main_call5_call0_v1 : Ref sig .tc := ⟨.hbm, 185, rfl⟩
abbrev main_v19 : Ref sig .tc := ⟨.hbm, 186, rfl⟩
abbrev main_v20 : Ref sig .tc := ⟨.hbm, 187, rfl⟩
abbrev main_v21 : Ref sig .tc := ⟨.hbm, 188, rfl⟩
abbrev main_cst_1 : Ref sig .tc := ⟨.hbm, 189, rfl⟩
abbrev main_v22 : Ref sig .tc := ⟨.hbm, 190, rfl⟩
abbrev main_v23 : Ref sig .tc := ⟨.hbm, 191, rfl⟩
abbrev main_v24 : Ref sig .tc := ⟨.hbm, 192, rfl⟩
abbrev main_v25 : Ref sig .tc := ⟨.hbm, 193, rfl⟩
abbrev main_v26 : Ref sig .tc := ⟨.hbm, 194, rfl⟩
abbrev main_v27 : Ref sig .tc := ⟨.hbm, 195, rfl⟩
abbrev main_v28 : Ref sig .tc := ⟨.hbm, 196, rfl⟩
abbrev main_v29 : Ref sig .tc := ⟨.hbm, 197, rfl⟩
abbrev main_v30 : Ref sig .tc := ⟨.hbm, 198, rfl⟩
abbrev main_v31 : Ref sig .tc := ⟨.hbm, 199, rfl⟩
abbrev main_v32 : Ref sig .tc := ⟨.hbm, 200, rfl⟩
abbrev main_cst_2 : Ref sig .tc := ⟨.hbm, 201, rfl⟩
abbrev main_v33 : Ref sig .tc := ⟨.hbm, 202, rfl⟩
abbrev main_v34 : Ref sig .tc := ⟨.hbm, 203, rfl⟩
abbrev main_cst_3 : Ref sig .tc := ⟨.hbm, 204, rfl⟩
abbrev main_v35 : Ref sig .tc := ⟨.hbm, 205, rfl⟩
abbrev main_v36 : Ref sig .tc := ⟨.hbm, 206, rfl⟩
abbrev main_c_4 : Ref sig .tc := ⟨.hbm, 207, rfl⟩
abbrev main_call6_cst : Ref sig .tc := ⟨.hbm, 208, rfl⟩
abbrev main_call6_v0 : Ref sig .tc := ⟨.hbm, 209, rfl⟩
abbrev main_call6_v1 : Ref sig .tc := ⟨.hbm, 210, rfl⟩
abbrev main_call6_cst_0 : Ref sig .tc := ⟨.hbm, 211, rfl⟩
abbrev main_call6_v2 : Ref sig .tc := ⟨.hbm, 212, rfl⟩
abbrev main_call6_v3 : Ref sig .tc := ⟨.hbm, 213, rfl⟩
abbrev main_call6_v4 : Ref sig .tc := ⟨.hbm, 214, rfl⟩
abbrev main_call6_v5 : Ref sig .tc := ⟨.hbm, 215, rfl⟩
abbrev main_call6_v6 : Ref sig .tc := ⟨.hbm, 216, rfl⟩
abbrev main_call6_v7 : Ref sig .tc := ⟨.hbm, 217, rfl⟩
abbrev main_call6_cst_1 : Ref sig .tc := ⟨.hbm, 218, rfl⟩
abbrev main_call6_v8 : Ref sig .tc := ⟨.hbm, 219, rfl⟩
abbrev main_call6_cst_2 : Ref sig .tc := ⟨.hbm, 220, rfl⟩
abbrev main_call6_v9 : Ref sig .tc := ⟨.hbm, 221, rfl⟩
abbrev main_call6_v10 : Ref sig .tc := ⟨.hbm, 222, rfl⟩
abbrev main_call6_v11 : Ref sig .tc := ⟨.hbm, 223, rfl⟩
abbrev main_call6_v12 : Ref sig .tc := ⟨.hbm, 224, rfl⟩
abbrev main_call6_cst_3 : Ref sig .tc := ⟨.hbm, 225, rfl⟩
abbrev main_call6_v13 : Ref sig .tc := ⟨.hbm, 226, rfl⟩
abbrev main_call6_cst_4 : Ref sig .tc := ⟨.hbm, 227, rfl⟩
abbrev main_call6_call0_v0 : Ref sig .tc := ⟨.hbm, 228, rfl⟩
abbrev main_call6_call0_v1 : Ref sig .tc := ⟨.hbm, 229, rfl⟩
abbrev main_v37 : Ref sig .tc := ⟨.hbm, 230, rfl⟩
abbrev main_v38 : Ref sig .tc := ⟨.hbm, 231, rfl⟩
abbrev main_v39 : Ref sig .tc := ⟨.hbm, 232, rfl⟩
abbrev main_cst_5 : Ref sig .tc := ⟨.hbm, 233, rfl⟩
abbrev main_v40 : Ref sig .tc := ⟨.hbm, 234, rfl⟩
abbrev main_v41 : Ref sig .tc := ⟨.hbm, 235, rfl⟩
abbrev main_v42 : Ref sig .tc := ⟨.hbm, 236, rfl⟩
abbrev main_v43 : Ref sig .tc := ⟨.hbm, 237, rfl⟩
abbrev main_v44 : Ref sig .tc := ⟨.hbm, 238, rfl⟩
abbrev main_v45 : Ref sig .tc := ⟨.hbm, 239, rfl⟩
abbrev main_v46 : Ref sig .tc := ⟨.hbm, 240, rfl⟩
abbrev main_cst_6 : Ref sig .tc := ⟨.hbm, 241, rfl⟩
abbrev main_v47 : Ref sig .tc := ⟨.hbm, 242, rfl⟩
abbrev main_v48 : Ref sig .tc := ⟨.hbm, 243, rfl⟩
abbrev main_cst_7 : Ref sig .tc := ⟨.hbm, 244, rfl⟩
abbrev main_v49 : Ref sig .tc := ⟨.hbm, 245, rfl⟩
abbrev main_v50 : Ref sig .tc := ⟨.hbm, 246, rfl⟩
abbrev main_v51 : Ref sig .tc := ⟨.hbm, 247, rfl⟩
abbrev main_cst_8 : Ref sig .tc := ⟨.hbm, 248, rfl⟩
abbrev main_v52 : Ref sig .tc := ⟨.hbm, 249, rfl⟩
abbrev main_v53 : Ref sig .tc := ⟨.hbm, 250, rfl⟩
abbrev main_v54 : Ref sig .tc := ⟨.hbm, 251, rfl⟩
abbrev main_v55 : Ref sig .tc := ⟨.hbm, 252, rfl⟩
abbrev main_v56 : Ref sig .tc := ⟨.hbm, 253, rfl⟩
abbrev main_v57 : Ref sig .tc := ⟨.hbm, 254, rfl⟩
abbrev main_v58 : Ref sig .tc := ⟨.hbm, 255, rfl⟩
abbrev main_v59 : Ref sig .tc := ⟨.hbm, 256, rfl⟩
abbrev main_v60 : Ref sig .tc := ⟨.hbm, 257, rfl⟩
abbrev main_v61 : Ref sig .tc := ⟨.hbm, 258, rfl⟩
abbrev main_v62 : Ref sig .tc := ⟨.hbm, 259, rfl⟩
abbrev main_cst_9 : Ref sig .tc := ⟨.hbm, 260, rfl⟩
abbrev main_v63 : Ref sig .tc := ⟨.hbm, 261, rfl⟩
abbrev main_v64 : Ref sig .tc := ⟨.hbm, 262, rfl⟩
abbrev main_cst_10 : Ref sig .tc := ⟨.hbm, 263, rfl⟩
abbrev main_v65 : Ref sig .tc := ⟨.hbm, 264, rfl⟩
abbrev main_v66 : Ref sig .tc := ⟨.hbm, 265, rfl⟩
abbrev main_c_11 : Ref sig .tc := ⟨.hbm, 266, rfl⟩
abbrev main_call7_cst : Ref sig .tc := ⟨.hbm, 267, rfl⟩
abbrev main_call7_v0 : Ref sig .tc := ⟨.hbm, 268, rfl⟩
abbrev main_call7_v1 : Ref sig .tc := ⟨.hbm, 269, rfl⟩
abbrev main_call7_cst_0 : Ref sig .tc := ⟨.hbm, 270, rfl⟩
abbrev main_call7_v2 : Ref sig .tc := ⟨.hbm, 271, rfl⟩
abbrev main_call7_v3 : Ref sig .tc := ⟨.hbm, 272, rfl⟩
abbrev main_call7_v4 : Ref sig .tc := ⟨.hbm, 273, rfl⟩
abbrev main_call7_v5 : Ref sig .tc := ⟨.hbm, 274, rfl⟩
abbrev main_call7_v6 : Ref sig .tc := ⟨.hbm, 275, rfl⟩
abbrev main_call7_v7 : Ref sig .tc := ⟨.hbm, 276, rfl⟩
abbrev main_call7_cst_1 : Ref sig .tc := ⟨.hbm, 277, rfl⟩
abbrev main_call7_v8 : Ref sig .tc := ⟨.hbm, 278, rfl⟩
abbrev main_call7_cst_2 : Ref sig .tc := ⟨.hbm, 279, rfl⟩
abbrev main_call7_v9 : Ref sig .tc := ⟨.hbm, 280, rfl⟩
abbrev main_call7_v10 : Ref sig .tc := ⟨.hbm, 281, rfl⟩
abbrev main_call7_v11 : Ref sig .tc := ⟨.hbm, 282, rfl⟩
abbrev main_call7_v12 : Ref sig .tc := ⟨.hbm, 283, rfl⟩
abbrev main_call7_cst_3 : Ref sig .tc := ⟨.hbm, 284, rfl⟩
abbrev main_call7_v13 : Ref sig .tc := ⟨.hbm, 285, rfl⟩
abbrev main_call7_cst_4 : Ref sig .tc := ⟨.hbm, 286, rfl⟩
abbrev main_call7_call0_v0 : Ref sig .tc := ⟨.hbm, 287, rfl⟩
abbrev main_call7_call0_v1 : Ref sig .tc := ⟨.hbm, 288, rfl⟩
abbrev main_v67 : Ref sig .tc := ⟨.hbm, 289, rfl⟩
abbrev main_v68 : Ref sig .tc := ⟨.hbm, 290, rfl⟩
abbrev main_v69 : Ref sig .tc := ⟨.hbm, 291, rfl⟩
abbrev main_cst_12 : Ref sig .tc := ⟨.hbm, 292, rfl⟩
abbrev main_v70 : Ref sig .tc := ⟨.hbm, 293, rfl⟩
abbrev main_v71 : Ref sig .tc := ⟨.hbm, 294, rfl⟩
abbrev main_v72 : Ref sig .tc := ⟨.hbm, 295, rfl⟩
abbrev main_v73 : Ref sig .tc := ⟨.hbm, 296, rfl⟩
abbrev main_v74 : Ref sig .tc := ⟨.hbm, 297, rfl⟩
abbrev main_v75 : Ref sig .tc := ⟨.hbm, 298, rfl⟩
abbrev main_v76 : Ref sig .tc := ⟨.hbm, 299, rfl⟩
abbrev main_v77 : Ref sig .tc := ⟨.hbm, 300, rfl⟩
abbrev main_v78 : Ref sig .tc := ⟨.hbm, 301, rfl⟩
abbrev main_v79 : Ref sig .tc := ⟨.hbm, 302, rfl⟩
abbrev main_v80 : Ref sig .tc := ⟨.hbm, 303, rfl⟩
abbrev main_cst_13 : Ref sig .tc := ⟨.hbm, 304, rfl⟩
abbrev main_v81 : Ref sig .tc := ⟨.hbm, 305, rfl⟩
abbrev main_v82 : Ref sig .tc := ⟨.hbm, 306, rfl⟩
abbrev main_cst_14 : Ref sig .tc := ⟨.hbm, 307, rfl⟩
abbrev main_v83 : Ref sig .tc := ⟨.hbm, 308, rfl⟩
abbrev main_v84 : Ref sig .tc := ⟨.hbm, 309, rfl⟩
abbrev main_c_15 : Ref sig .tc := ⟨.hbm, 310, rfl⟩
abbrev main_call8_cst : Ref sig .tc := ⟨.hbm, 311, rfl⟩
abbrev main_call8_v0 : Ref sig .tc := ⟨.hbm, 312, rfl⟩
abbrev main_call8_v1 : Ref sig .tc := ⟨.hbm, 313, rfl⟩
abbrev main_call8_cst_0 : Ref sig .tc := ⟨.hbm, 314, rfl⟩
abbrev main_call8_v2 : Ref sig .tc := ⟨.hbm, 315, rfl⟩
abbrev main_call8_v3 : Ref sig .tc := ⟨.hbm, 316, rfl⟩
abbrev main_call8_v4 : Ref sig .tc := ⟨.hbm, 317, rfl⟩
abbrev main_call8_v5 : Ref sig .tc := ⟨.hbm, 318, rfl⟩
abbrev main_call8_v6 : Ref sig .tc := ⟨.hbm, 319, rfl⟩
abbrev main_call8_v7 : Ref sig .tc := ⟨.hbm, 320, rfl⟩
abbrev main_call8_cst_1 : Ref sig .tc := ⟨.hbm, 321, rfl⟩
abbrev main_call8_v8 : Ref sig .tc := ⟨.hbm, 322, rfl⟩
abbrev main_call8_cst_2 : Ref sig .tc := ⟨.hbm, 323, rfl⟩
abbrev main_call8_v9 : Ref sig .tc := ⟨.hbm, 324, rfl⟩
abbrev main_call8_v10 : Ref sig .tc := ⟨.hbm, 325, rfl⟩
abbrev main_call8_v11 : Ref sig .tc := ⟨.hbm, 326, rfl⟩
abbrev main_call8_v12 : Ref sig .tc := ⟨.hbm, 327, rfl⟩
abbrev main_call8_cst_3 : Ref sig .tc := ⟨.hbm, 328, rfl⟩
abbrev main_call8_v13 : Ref sig .tc := ⟨.hbm, 329, rfl⟩
abbrev main_call8_cst_4 : Ref sig .tc := ⟨.hbm, 330, rfl⟩
abbrev main_call8_call0_v0 : Ref sig .tc := ⟨.hbm, 331, rfl⟩
abbrev main_call8_call0_v1 : Ref sig .tc := ⟨.hbm, 332, rfl⟩
abbrev main_v85 : Ref sig .tc := ⟨.hbm, 333, rfl⟩
abbrev main_v86 : Ref sig .tc := ⟨.hbm, 334, rfl⟩
abbrev main_v87 : Ref sig .tc := ⟨.hbm, 335, rfl⟩
abbrev main_cst_16 : Ref sig .tc := ⟨.hbm, 336, rfl⟩
abbrev main_v88 : Ref sig .tc := ⟨.hbm, 337, rfl⟩
abbrev main_v89 : Ref sig .tc := ⟨.hbm, 338, rfl⟩
abbrev main_v90 : Ref sig .tc := ⟨.hbm, 339, rfl⟩
abbrev main_v91 : Ref sig .tc := ⟨.hbm, 340, rfl⟩
abbrev main_v92 : Ref sig .tc := ⟨.hbm, 341, rfl⟩
abbrev main_v93 : Ref sig .tc := ⟨.hbm, 342, rfl⟩
abbrev main_v94 : Ref sig .tc := ⟨.hbm, 343, rfl⟩
abbrev main_cst_17 : Ref sig .tc := ⟨.hbm, 344, rfl⟩
abbrev main_v95 : Ref sig .tc := ⟨.hbm, 345, rfl⟩
abbrev main_v96 : Ref sig .tc := ⟨.hbm, 346, rfl⟩
abbrev main_cst_18 : Ref sig .tc := ⟨.hbm, 347, rfl⟩
abbrev main_v97 : Ref sig .tc := ⟨.hbm, 348, rfl⟩
abbrev main_v98 : Ref sig .tc := ⟨.hbm, 349, rfl⟩
abbrev main_v99 : Ref sig .tc := ⟨.hbm, 350, rfl⟩
abbrev main_cst_19 : Ref sig .tc := ⟨.hbm, 351, rfl⟩
abbrev main_v100 : Ref sig .tc := ⟨.hbm, 352, rfl⟩
abbrev main_v101 : Ref sig .tc := ⟨.hbm, 353, rfl⟩
abbrev main_v102 : Ref sig .tc := ⟨.hbm, 354, rfl⟩
abbrev main_v103 : Ref sig .tc := ⟨.hbm, 355, rfl⟩
abbrev main_v104 : Ref sig .tc := ⟨.hbm, 356, rfl⟩
abbrev main_v105 : Ref sig .tc := ⟨.hbm, 357, rfl⟩
abbrev main_v106 : Ref sig .tc := ⟨.hbm, 358, rfl⟩
abbrev main_v107 : Ref sig .tc := ⟨.hbm, 359, rfl⟩
abbrev main_v108 : Ref sig .tc := ⟨.hbm, 360, rfl⟩
abbrev main_v109 : Ref sig .tc := ⟨.hbm, 361, rfl⟩
abbrev main_v110 : Ref sig .tc := ⟨.hbm, 362, rfl⟩
abbrev main_v111 : Ref sig .tc := ⟨.hbm, 363, rfl⟩
abbrev main_v112 : Ref sig .tc := ⟨.hbm, 364, rfl⟩
abbrev main_v113 : Ref sig .tc := ⟨.hbm, 365, rfl⟩
abbrev main_v114 : Ref sig .tc := ⟨.hbm, 366, rfl⟩
abbrev main_v115 : Ref sig .tc := ⟨.hbm, 367, rfl⟩
abbrev main_v116 : Ref sig .tc := ⟨.hbm, 368, rfl⟩
abbrev main_v117 : Ref sig .tc := ⟨.hbm, 369, rfl⟩
abbrev main_cst_20 : Ref sig .tc := ⟨.hbm, 370, rfl⟩
abbrev main_call9_v0 : Ref sig .tc := ⟨.hbm, 371, rfl⟩
abbrev main_call9_v1 : Ref sig .tc := ⟨.hbm, 372, rfl⟩
abbrev main_v118 : Ref sig .tc := ⟨.hbm, 373, rfl⟩
abbrev main_v119 : Ref sig .tc := ⟨.hbm, 374, rfl⟩
abbrev main_v120 : Ref sig .tc := ⟨.hbm, 375, rfl⟩
abbrev main_v121 : Ref sig .tc := ⟨.hbm, 376, rfl⟩
abbrev main_cst_21 : Ref sig .tc := ⟨.hbm, 377, rfl⟩
abbrev main_v122 : Ref sig .tc := ⟨.hbm, 378, rfl⟩
abbrev main_v123 : Ref sig .tc := ⟨.hbm, 379, rfl⟩
abbrev main_v124 : Ref sig .tc := ⟨.hbm, 380, rfl⟩
abbrev main_v125 : Ref sig .tc := ⟨.hbm, 381, rfl⟩
abbrev main_v126 : Ref sig .tc := ⟨.hbm, 382, rfl⟩
abbrev main_v127 : Ref sig .tc := ⟨.hbm, 383, rfl⟩
abbrev main_v128 : Ref sig .tc := ⟨.hbm, 384, rfl⟩
abbrev main_v129 : Ref sig .tc := ⟨.hbm, 385, rfl⟩
abbrev main_v130 : Ref sig .tc := ⟨.hbm, 386, rfl⟩
abbrev main_v131 : Ref sig .tc := ⟨.hbm, 387, rfl⟩
abbrev main_v132 : Ref sig .tc := ⟨.hbm, 388, rfl⟩
abbrev main_cst_22 : Ref sig .tc := ⟨.hbm, 389, rfl⟩
abbrev main_v133 : Ref sig .tc := ⟨.hbm, 390, rfl⟩
abbrev main_v134 : Ref sig .tc := ⟨.hbm, 391, rfl⟩
abbrev main_cst_23 : Ref sig .tc := ⟨.hbm, 392, rfl⟩
abbrev main_v135 : Ref sig .tc := ⟨.hbm, 393, rfl⟩
abbrev main_v136 : Ref sig .tc := ⟨.hbm, 394, rfl⟩
abbrev main_c_24 : Ref sig .tc := ⟨.hbm, 395, rfl⟩
abbrev main_call10_cst : Ref sig .tc := ⟨.hbm, 396, rfl⟩
abbrev main_call10_v0 : Ref sig .tc := ⟨.hbm, 397, rfl⟩
abbrev main_call10_v1 : Ref sig .tc := ⟨.hbm, 398, rfl⟩
abbrev main_call10_cst_0 : Ref sig .tc := ⟨.hbm, 399, rfl⟩
abbrev main_call10_v2 : Ref sig .tc := ⟨.hbm, 400, rfl⟩
abbrev main_call10_v3 : Ref sig .tc := ⟨.hbm, 401, rfl⟩
abbrev main_call10_v4 : Ref sig .tc := ⟨.hbm, 402, rfl⟩
abbrev main_call10_v5 : Ref sig .tc := ⟨.hbm, 403, rfl⟩
abbrev main_call10_v6 : Ref sig .tc := ⟨.hbm, 404, rfl⟩
abbrev main_call10_v7 : Ref sig .tc := ⟨.hbm, 405, rfl⟩
abbrev main_call10_cst_1 : Ref sig .tc := ⟨.hbm, 406, rfl⟩
abbrev main_call10_v8 : Ref sig .tc := ⟨.hbm, 407, rfl⟩
abbrev main_call10_cst_2 : Ref sig .tc := ⟨.hbm, 408, rfl⟩
abbrev main_call10_v9 : Ref sig .tc := ⟨.hbm, 409, rfl⟩
abbrev main_call10_v10 : Ref sig .tc := ⟨.hbm, 410, rfl⟩
abbrev main_call10_v11 : Ref sig .tc := ⟨.hbm, 411, rfl⟩
abbrev main_call10_v12 : Ref sig .tc := ⟨.hbm, 412, rfl⟩
abbrev main_call10_cst_3 : Ref sig .tc := ⟨.hbm, 413, rfl⟩
abbrev main_call10_v13 : Ref sig .tc := ⟨.hbm, 414, rfl⟩
abbrev main_call10_cst_4 : Ref sig .tc := ⟨.hbm, 415, rfl⟩
abbrev main_call10_call0_v0 : Ref sig .tc := ⟨.hbm, 416, rfl⟩
abbrev main_call10_call0_v1 : Ref sig .tc := ⟨.hbm, 417, rfl⟩
abbrev main_v137 : Ref sig .tc := ⟨.hbm, 418, rfl⟩
abbrev main_v138 : Ref sig .tc := ⟨.hbm, 419, rfl⟩
abbrev main_v139 : Ref sig .tc := ⟨.hbm, 420, rfl⟩
abbrev main_cst_25 : Ref sig .tc := ⟨.hbm, 421, rfl⟩
abbrev main_v140 : Ref sig .tc := ⟨.hbm, 422, rfl⟩
abbrev main_v141 : Ref sig .tc := ⟨.hbm, 423, rfl⟩
abbrev main_v142 : Ref sig .tc := ⟨.hbm, 424, rfl⟩
abbrev main_v143 : Ref sig .tc := ⟨.hbm, 425, rfl⟩
abbrev main_v144 : Ref sig .tc := ⟨.hbm, 426, rfl⟩
abbrev main_v145 : Ref sig .tc := ⟨.hbm, 427, rfl⟩
abbrev main_v146 : Ref sig .tc := ⟨.hbm, 428, rfl⟩
abbrev main_v147 : Ref sig .tc := ⟨.hbm, 429, rfl⟩
abbrev main_v148 : Ref sig .tc := ⟨.hbm, 430, rfl⟩
abbrev main_v149 : Ref sig .tc := ⟨.hbm, 431, rfl⟩
abbrev main_v150 : Ref sig .tc := ⟨.hbm, 432, rfl⟩
abbrev main_cst_26 : Ref sig .tc := ⟨.hbm, 433, rfl⟩
abbrev main_v151 : Ref sig .tc := ⟨.hbm, 434, rfl⟩
abbrev main_v152 : Ref sig .tc := ⟨.hbm, 435, rfl⟩
abbrev main_cst_27 : Ref sig .tc := ⟨.hbm, 436, rfl⟩
abbrev main_v153 : Ref sig .tc := ⟨.hbm, 437, rfl⟩
abbrev main_v154 : Ref sig .tc := ⟨.hbm, 438, rfl⟩
abbrev main_c_28 : Ref sig .tc := ⟨.hbm, 439, rfl⟩
abbrev main_call11_cst : Ref sig .tc := ⟨.hbm, 440, rfl⟩
abbrev main_call11_v0 : Ref sig .tc := ⟨.hbm, 441, rfl⟩
abbrev main_call11_v1 : Ref sig .tc := ⟨.hbm, 442, rfl⟩
abbrev main_call11_cst_0 : Ref sig .tc := ⟨.hbm, 443, rfl⟩
abbrev main_call11_v2 : Ref sig .tc := ⟨.hbm, 444, rfl⟩
abbrev main_call11_v3 : Ref sig .tc := ⟨.hbm, 445, rfl⟩
abbrev main_call11_v4 : Ref sig .tc := ⟨.hbm, 446, rfl⟩
abbrev main_call11_v5 : Ref sig .tc := ⟨.hbm, 447, rfl⟩
abbrev main_call11_v6 : Ref sig .tc := ⟨.hbm, 448, rfl⟩
abbrev main_call11_v7 : Ref sig .tc := ⟨.hbm, 449, rfl⟩
abbrev main_call11_cst_1 : Ref sig .tc := ⟨.hbm, 450, rfl⟩
abbrev main_call11_v8 : Ref sig .tc := ⟨.hbm, 451, rfl⟩
abbrev main_call11_cst_2 : Ref sig .tc := ⟨.hbm, 452, rfl⟩
abbrev main_call11_v9 : Ref sig .tc := ⟨.hbm, 453, rfl⟩
abbrev main_call11_v10 : Ref sig .tc := ⟨.hbm, 454, rfl⟩
abbrev main_call11_v11 : Ref sig .tc := ⟨.hbm, 455, rfl⟩
abbrev main_call11_v12 : Ref sig .tc := ⟨.hbm, 456, rfl⟩
abbrev main_call11_cst_3 : Ref sig .tc := ⟨.hbm, 457, rfl⟩
abbrev main_call11_v13 : Ref sig .tc := ⟨.hbm, 458, rfl⟩
abbrev main_call11_cst_4 : Ref sig .tc := ⟨.hbm, 459, rfl⟩
abbrev main_call11_call0_v0 : Ref sig .tc := ⟨.hbm, 460, rfl⟩
abbrev main_call11_call0_v1 : Ref sig .tc := ⟨.hbm, 461, rfl⟩
abbrev main_v155 : Ref sig .tc := ⟨.hbm, 462, rfl⟩
abbrev main_v156 : Ref sig .tc := ⟨.hbm, 463, rfl⟩
abbrev main_v157 : Ref sig .tc := ⟨.hbm, 464, rfl⟩
abbrev main_cst_29 : Ref sig .tc := ⟨.hbm, 465, rfl⟩
abbrev main_v158 : Ref sig .tc := ⟨.hbm, 466, rfl⟩
abbrev main_v159 : Ref sig .tc := ⟨.hbm, 467, rfl⟩
abbrev main_v160 : Ref sig .tc := ⟨.hbm, 468, rfl⟩
abbrev main_v161 : Ref sig .tc := ⟨.hbm, 469, rfl⟩
abbrev main_v162 : Ref sig .tc := ⟨.hbm, 470, rfl⟩
abbrev main_v163 : Ref sig .tc := ⟨.hbm, 471, rfl⟩
abbrev main_v164 : Ref sig .tc := ⟨.hbm, 472, rfl⟩
abbrev main_cst_30 : Ref sig .tc := ⟨.hbm, 473, rfl⟩
abbrev main_v165 : Ref sig .tc := ⟨.hbm, 474, rfl⟩
abbrev main_v166 : Ref sig .tc := ⟨.hbm, 475, rfl⟩
abbrev main_cst_31 : Ref sig .tc := ⟨.hbm, 476, rfl⟩
abbrev main_v167 : Ref sig .tc := ⟨.hbm, 477, rfl⟩
abbrev main_v168 : Ref sig .tc := ⟨.hbm, 478, rfl⟩
abbrev main_v169 : Ref sig .tc := ⟨.hbm, 479, rfl⟩
abbrev main_cst_32 : Ref sig .tc := ⟨.hbm, 480, rfl⟩
abbrev main_v170 : Ref sig .tc := ⟨.hbm, 481, rfl⟩
abbrev main_v171 : Ref sig .tc := ⟨.hbm, 482, rfl⟩
abbrev main_v172 : Ref sig .tc := ⟨.hbm, 483, rfl⟩
abbrev main_v173 : Ref sig .tc := ⟨.hbm, 484, rfl⟩
abbrev main_v174 : Ref sig .tc := ⟨.hbm, 485, rfl⟩
abbrev main_v175 : Ref sig .tc := ⟨.hbm, 486, rfl⟩
abbrev main_v176 : Ref sig .tc := ⟨.hbm, 487, rfl⟩
abbrev main_v177 : Ref sig .tc := ⟨.hbm, 488, rfl⟩
abbrev main_v178 : Ref sig .tc := ⟨.hbm, 489, rfl⟩
abbrev main_v179 : Ref sig .tc := ⟨.hbm, 490, rfl⟩
abbrev main_v180 : Ref sig .tc := ⟨.hbm, 491, rfl⟩
abbrev main_cst_33 : Ref sig .tc := ⟨.hbm, 492, rfl⟩
abbrev main_v181 : Ref sig .tc := ⟨.hbm, 493, rfl⟩
abbrev main_v182 : Ref sig .tc := ⟨.hbm, 494, rfl⟩
abbrev main_cst_34 : Ref sig .tc := ⟨.hbm, 495, rfl⟩
abbrev main_v183 : Ref sig .tc := ⟨.hbm, 496, rfl⟩
abbrev main_v184 : Ref sig .tc := ⟨.hbm, 497, rfl⟩
abbrev main_c_35 : Ref sig .tc := ⟨.hbm, 498, rfl⟩
abbrev main_call12_cst : Ref sig .tc := ⟨.hbm, 499, rfl⟩
abbrev main_call12_v0 : Ref sig .tc := ⟨.hbm, 500, rfl⟩
abbrev main_call12_v1 : Ref sig .tc := ⟨.hbm, 501, rfl⟩
abbrev main_call12_cst_0 : Ref sig .tc := ⟨.hbm, 502, rfl⟩
abbrev main_call12_v2 : Ref sig .tc := ⟨.hbm, 503, rfl⟩
abbrev main_call12_v3 : Ref sig .tc := ⟨.hbm, 504, rfl⟩
abbrev main_call12_v4 : Ref sig .tc := ⟨.hbm, 505, rfl⟩
abbrev main_call12_v5 : Ref sig .tc := ⟨.hbm, 506, rfl⟩
abbrev main_call12_v6 : Ref sig .tc := ⟨.hbm, 507, rfl⟩
abbrev main_call12_v7 : Ref sig .tc := ⟨.hbm, 508, rfl⟩
abbrev main_call12_cst_1 : Ref sig .tc := ⟨.hbm, 509, rfl⟩
abbrev main_call12_v8 : Ref sig .tc := ⟨.hbm, 510, rfl⟩
abbrev main_call12_cst_2 : Ref sig .tc := ⟨.hbm, 511, rfl⟩
abbrev main_call12_v9 : Ref sig .tc := ⟨.hbm, 512, rfl⟩
abbrev main_call12_v10 : Ref sig .tc := ⟨.hbm, 513, rfl⟩
abbrev main_call12_v11 : Ref sig .tc := ⟨.hbm, 514, rfl⟩
abbrev main_call12_v12 : Ref sig .tc := ⟨.hbm, 515, rfl⟩
abbrev main_call12_cst_3 : Ref sig .tc := ⟨.hbm, 516, rfl⟩
abbrev main_call12_v13 : Ref sig .tc := ⟨.hbm, 517, rfl⟩
abbrev main_call12_cst_4 : Ref sig .tc := ⟨.hbm, 518, rfl⟩
abbrev main_call12_call0_v0 : Ref sig .tc := ⟨.hbm, 519, rfl⟩
abbrev main_call12_call0_v1 : Ref sig .tc := ⟨.hbm, 520, rfl⟩
abbrev main_v185 : Ref sig .tc := ⟨.hbm, 521, rfl⟩
abbrev main_v186 : Ref sig .tc := ⟨.hbm, 522, rfl⟩
abbrev main_v187 : Ref sig .tc := ⟨.hbm, 523, rfl⟩
abbrev main_cst_36 : Ref sig .tc := ⟨.hbm, 524, rfl⟩
abbrev main_v188 : Ref sig .tc := ⟨.hbm, 525, rfl⟩
abbrev main_v189 : Ref sig .tc := ⟨.hbm, 526, rfl⟩
abbrev main_v190 : Ref sig .tc := ⟨.hbm, 527, rfl⟩
abbrev main_v191 : Ref sig .tc := ⟨.hbm, 528, rfl⟩
abbrev main_v192 : Ref sig .tc := ⟨.hbm, 529, rfl⟩
abbrev main_v193 : Ref sig .tc := ⟨.hbm, 530, rfl⟩
abbrev main_v194 : Ref sig .tc := ⟨.hbm, 531, rfl⟩
abbrev main_v195 : Ref sig .tc := ⟨.hbm, 532, rfl⟩
abbrev main_v196 : Ref sig .tc := ⟨.hbm, 533, rfl⟩
abbrev main_v197 : Ref sig .tc := ⟨.hbm, 534, rfl⟩
abbrev main_v198 : Ref sig .tc := ⟨.hbm, 535, rfl⟩
abbrev main_cst_37 : Ref sig .tc := ⟨.hbm, 536, rfl⟩
abbrev main_v199 : Ref sig .tc := ⟨.hbm, 537, rfl⟩
abbrev main_v200 : Ref sig .tc := ⟨.hbm, 538, rfl⟩
abbrev main_cst_38 : Ref sig .tc := ⟨.hbm, 539, rfl⟩
abbrev main_v201 : Ref sig .tc := ⟨.hbm, 540, rfl⟩
abbrev main_v202 : Ref sig .tc := ⟨.hbm, 541, rfl⟩
abbrev main_c_39 : Ref sig .tc := ⟨.hbm, 542, rfl⟩
abbrev main_call13_cst : Ref sig .tc := ⟨.hbm, 543, rfl⟩
abbrev main_call13_v0 : Ref sig .tc := ⟨.hbm, 544, rfl⟩
abbrev main_call13_v1 : Ref sig .tc := ⟨.hbm, 545, rfl⟩
abbrev main_call13_cst_0 : Ref sig .tc := ⟨.hbm, 546, rfl⟩
abbrev main_call13_v2 : Ref sig .tc := ⟨.hbm, 547, rfl⟩
abbrev main_call13_v3 : Ref sig .tc := ⟨.hbm, 548, rfl⟩
abbrev main_call13_v4 : Ref sig .tc := ⟨.hbm, 549, rfl⟩
abbrev main_call13_v5 : Ref sig .tc := ⟨.hbm, 550, rfl⟩
abbrev main_call13_v6 : Ref sig .tc := ⟨.hbm, 551, rfl⟩
abbrev main_call13_v7 : Ref sig .tc := ⟨.hbm, 552, rfl⟩
abbrev main_call13_cst_1 : Ref sig .tc := ⟨.hbm, 553, rfl⟩
abbrev main_call13_v8 : Ref sig .tc := ⟨.hbm, 554, rfl⟩
abbrev main_call13_cst_2 : Ref sig .tc := ⟨.hbm, 555, rfl⟩
abbrev main_call13_v9 : Ref sig .tc := ⟨.hbm, 556, rfl⟩
abbrev main_call13_v10 : Ref sig .tc := ⟨.hbm, 557, rfl⟩
abbrev main_call13_v11 : Ref sig .tc := ⟨.hbm, 558, rfl⟩
abbrev main_call13_v12 : Ref sig .tc := ⟨.hbm, 559, rfl⟩
abbrev main_call13_cst_3 : Ref sig .tc := ⟨.hbm, 560, rfl⟩
abbrev main_call13_v13 : Ref sig .tc := ⟨.hbm, 561, rfl⟩
abbrev main_call13_cst_4 : Ref sig .tc := ⟨.hbm, 562, rfl⟩
abbrev main_call13_call0_v0 : Ref sig .tc := ⟨.hbm, 563, rfl⟩
abbrev main_call13_call0_v1 : Ref sig .tc := ⟨.hbm, 564, rfl⟩
abbrev main_v203 : Ref sig .tc := ⟨.hbm, 565, rfl⟩
abbrev main_v204 : Ref sig .tc := ⟨.hbm, 566, rfl⟩
abbrev main_v205 : Ref sig .tc := ⟨.hbm, 567, rfl⟩
abbrev main_cst_40 : Ref sig .tc := ⟨.hbm, 568, rfl⟩
abbrev main_v206 : Ref sig .tc := ⟨.hbm, 569, rfl⟩
abbrev main_v207 : Ref sig .tc := ⟨.hbm, 570, rfl⟩
abbrev main_v208 : Ref sig .tc := ⟨.hbm, 571, rfl⟩
abbrev main_v209 : Ref sig .tc := ⟨.hbm, 572, rfl⟩
abbrev main_v210 : Ref sig .tc := ⟨.hbm, 573, rfl⟩
abbrev main_v211 : Ref sig .tc := ⟨.hbm, 574, rfl⟩
abbrev main_v212 : Ref sig .tc := ⟨.hbm, 575, rfl⟩
abbrev main_cst_41 : Ref sig .tc := ⟨.hbm, 576, rfl⟩
abbrev main_v213 : Ref sig .tc := ⟨.hbm, 577, rfl⟩
abbrev main_v214 : Ref sig .tc := ⟨.hbm, 578, rfl⟩
abbrev main_cst_42 : Ref sig .tc := ⟨.hbm, 579, rfl⟩
abbrev main_v215 : Ref sig .tc := ⟨.hbm, 580, rfl⟩
abbrev main_v216 : Ref sig .tc := ⟨.hbm, 581, rfl⟩
abbrev main_v217 : Ref sig .tc := ⟨.hbm, 582, rfl⟩
abbrev main_cst_43 : Ref sig .tc := ⟨.hbm, 583, rfl⟩
abbrev main_v218 : Ref sig .tc := ⟨.hbm, 584, rfl⟩
abbrev main_v219 : Ref sig .tc := ⟨.hbm, 585, rfl⟩
abbrev main_v220 : Ref sig .tc := ⟨.hbm, 586, rfl⟩
abbrev main_v221 : Ref sig .tc := ⟨.hbm, 587, rfl⟩
abbrev main_v222 : Ref sig .tc := ⟨.hbm, 588, rfl⟩
abbrev main_v223 : Ref sig .tc := ⟨.hbm, 589, rfl⟩
abbrev main_v224 : Ref sig .tc := ⟨.hbm, 590, rfl⟩
abbrev main_v225 : Ref sig .tc := ⟨.hbm, 591, rfl⟩
abbrev main_v226 : Ref sig .tc := ⟨.hbm, 592, rfl⟩
abbrev main_v227 : Ref sig .tc := ⟨.hbm, 593, rfl⟩
abbrev main_v228 : Ref sig .tc := ⟨.hbm, 594, rfl⟩
abbrev main_v229 : Ref sig .tc := ⟨.hbm, 595, rfl⟩
abbrev main_v230 : Ref sig .tc := ⟨.hbm, 596, rfl⟩
abbrev main_v231 : Ref sig .tc := ⟨.hbm, 597, rfl⟩
abbrev main_v232 : Ref sig .tc := ⟨.hbm, 598, rfl⟩
abbrev main_v233 : Ref sig .tc := ⟨.hbm, 599, rfl⟩
abbrev main_v234 : Ref sig .tc := ⟨.hbm, 600, rfl⟩
abbrev main_v235 : Ref sig .tc := ⟨.hbm, 601, rfl⟩
abbrev main_cst_44 : Ref sig .tc := ⟨.hbm, 602, rfl⟩
abbrev main_call14_v0 : Ref sig .tc := ⟨.hbm, 603, rfl⟩
abbrev main_call14_v1 : Ref sig .tc := ⟨.hbm, 604, rfl⟩
abbrev main_v236 : Ref sig .tc := ⟨.hbm, 605, rfl⟩
abbrev main_v237 : Ref sig .tc := ⟨.hbm, 606, rfl⟩
abbrev main_v238 : Ref sig .tc := ⟨.hbm, 607, rfl⟩
abbrev main_v239 : Ref sig .tc := ⟨.hbm, 608, rfl⟩
abbrev main_cst_45 : Ref sig .tc := ⟨.hbm, 609, rfl⟩
abbrev main_v240 : Ref sig .tc := ⟨.hbm, 610, rfl⟩
abbrev main_v241 : Ref sig .tc := ⟨.hbm, 611, rfl⟩
abbrev main_v242 : Ref sig .tc := ⟨.hbm, 612, rfl⟩
abbrev main_v243 : Ref sig .tc := ⟨.hbm, 613, rfl⟩
abbrev main_v244 : Ref sig .tc := ⟨.hbm, 614, rfl⟩
abbrev main_v245 : Ref sig .tc := ⟨.hbm, 615, rfl⟩
abbrev main_cst_46 : Ref sig .tc := ⟨.hbm, 616, rfl⟩
abbrev main_v246 : Ref sig .tc := ⟨.hbm, 617, rfl⟩
abbrev main_v247 : Ref sig .tc := ⟨.hbm, 618, rfl⟩
abbrev main_cst_47 : Ref sig .tc := ⟨.hbm, 619, rfl⟩
abbrev main_v248 : Ref sig .tc := ⟨.hbm, 620, rfl⟩
abbrev main_v249 : Ref sig .tc := ⟨.hbm, 621, rfl⟩
abbrev main_c_48 : Ref sig .tc := ⟨.hbm, 622, rfl⟩
abbrev main_call15_cst : Ref sig .tc := ⟨.hbm, 623, rfl⟩
abbrev main_call15_v0 : Ref sig .tc := ⟨.hbm, 624, rfl⟩
abbrev main_call15_v1 : Ref sig .tc := ⟨.hbm, 625, rfl⟩
abbrev main_call15_cst_0 : Ref sig .tc := ⟨.hbm, 626, rfl⟩
abbrev main_call15_v2 : Ref sig .tc := ⟨.hbm, 627, rfl⟩
abbrev main_call15_v3 : Ref sig .tc := ⟨.hbm, 628, rfl⟩
abbrev main_call15_v4 : Ref sig .tc := ⟨.hbm, 629, rfl⟩
abbrev main_call15_v5 : Ref sig .tc := ⟨.hbm, 630, rfl⟩
abbrev main_call15_v6 : Ref sig .tc := ⟨.hbm, 631, rfl⟩
abbrev main_call15_v7 : Ref sig .tc := ⟨.hbm, 632, rfl⟩
abbrev main_call15_cst_1 : Ref sig .tc := ⟨.hbm, 633, rfl⟩
abbrev main_call15_v8 : Ref sig .tc := ⟨.hbm, 634, rfl⟩
abbrev main_call15_cst_2 : Ref sig .tc := ⟨.hbm, 635, rfl⟩
abbrev main_call15_v9 : Ref sig .tc := ⟨.hbm, 636, rfl⟩
abbrev main_call15_v10 : Ref sig .tc := ⟨.hbm, 637, rfl⟩
abbrev main_call15_v11 : Ref sig .tc := ⟨.hbm, 638, rfl⟩
abbrev main_call15_v12 : Ref sig .tc := ⟨.hbm, 639, rfl⟩
abbrev main_call15_cst_3 : Ref sig .tc := ⟨.hbm, 640, rfl⟩
abbrev main_call15_v13 : Ref sig .tc := ⟨.hbm, 641, rfl⟩
abbrev main_call15_cst_4 : Ref sig .tc := ⟨.hbm, 642, rfl⟩
abbrev main_call15_call0_v0 : Ref sig .tc := ⟨.hbm, 643, rfl⟩
abbrev main_call15_call0_v1 : Ref sig .tc := ⟨.hbm, 644, rfl⟩
abbrev main_v250 : Ref sig .tc := ⟨.hbm, 645, rfl⟩
abbrev main_v251 : Ref sig .tc := ⟨.hbm, 646, rfl⟩
abbrev main_v252 : Ref sig .tc := ⟨.hbm, 647, rfl⟩
abbrev main_cst_49 : Ref sig .tc := ⟨.hbm, 648, rfl⟩
abbrev main_v253 : Ref sig .tc := ⟨.hbm, 649, rfl⟩
abbrev main_v254 : Ref sig .tc := ⟨.hbm, 650, rfl⟩
abbrev main_v255 : Ref sig .tc := ⟨.hbm, 651, rfl⟩
abbrev main_v256 : Ref sig .tc := ⟨.hbm, 652, rfl⟩
abbrev main_v257 : Ref sig .tc := ⟨.hbm, 653, rfl⟩
abbrev main_v258 : Ref sig .tc := ⟨.hbm, 654, rfl⟩
abbrev main_v259 : Ref sig .tc := ⟨.hbm, 655, rfl⟩
abbrev main_v260 : Ref sig .tc := ⟨.hbm, 656, rfl⟩
abbrev main_v261 : Ref sig .tc := ⟨.hbm, 657, rfl⟩
abbrev main_v262 : Ref sig .tc := ⟨.hbm, 658, rfl⟩
abbrev main_v263 : Ref sig .tc := ⟨.hbm, 659, rfl⟩
abbrev main_cst_50 : Ref sig .tc := ⟨.hbm, 660, rfl⟩
abbrev main_v264 : Ref sig .tc := ⟨.hbm, 661, rfl⟩
abbrev main_v265 : Ref sig .tc := ⟨.hbm, 662, rfl⟩
abbrev main_cst_51 : Ref sig .tc := ⟨.hbm, 663, rfl⟩
abbrev main_v266 : Ref sig .tc := ⟨.hbm, 664, rfl⟩
abbrev main_v267 : Ref sig .tc := ⟨.hbm, 665, rfl⟩
abbrev main_c_52 : Ref sig .tc := ⟨.hbm, 666, rfl⟩
abbrev main_call16_cst : Ref sig .tc := ⟨.hbm, 667, rfl⟩
abbrev main_call16_v0 : Ref sig .tc := ⟨.hbm, 668, rfl⟩
abbrev main_call16_v1 : Ref sig .tc := ⟨.hbm, 669, rfl⟩
abbrev main_call16_cst_0 : Ref sig .tc := ⟨.hbm, 670, rfl⟩
abbrev main_call16_v2 : Ref sig .tc := ⟨.hbm, 671, rfl⟩
abbrev main_call16_v3 : Ref sig .tc := ⟨.hbm, 672, rfl⟩
abbrev main_call16_v4 : Ref sig .tc := ⟨.hbm, 673, rfl⟩
abbrev main_call16_v5 : Ref sig .tc := ⟨.hbm, 674, rfl⟩
abbrev main_call16_v6 : Ref sig .tc := ⟨.hbm, 675, rfl⟩
abbrev main_call16_v7 : Ref sig .tc := ⟨.hbm, 676, rfl⟩
abbrev main_call16_cst_1 : Ref sig .tc := ⟨.hbm, 677, rfl⟩
abbrev main_call16_v8 : Ref sig .tc := ⟨.hbm, 678, rfl⟩
abbrev main_call16_cst_2 : Ref sig .tc := ⟨.hbm, 679, rfl⟩
abbrev main_call16_v9 : Ref sig .tc := ⟨.hbm, 680, rfl⟩
abbrev main_call16_v10 : Ref sig .tc := ⟨.hbm, 681, rfl⟩
abbrev main_call16_v11 : Ref sig .tc := ⟨.hbm, 682, rfl⟩
abbrev main_call16_v12 : Ref sig .tc := ⟨.hbm, 683, rfl⟩
abbrev main_call16_cst_3 : Ref sig .tc := ⟨.hbm, 684, rfl⟩
abbrev main_call16_v13 : Ref sig .tc := ⟨.hbm, 685, rfl⟩
abbrev main_call16_cst_4 : Ref sig .tc := ⟨.hbm, 686, rfl⟩
abbrev main_call16_call0_v0 : Ref sig .tc := ⟨.hbm, 687, rfl⟩
abbrev main_call16_call0_v1 : Ref sig .tc := ⟨.hbm, 688, rfl⟩
abbrev main_v268 : Ref sig .tc := ⟨.hbm, 689, rfl⟩
abbrev main_v269 : Ref sig .tc := ⟨.hbm, 690, rfl⟩
abbrev main_v270 : Ref sig .tc := ⟨.hbm, 691, rfl⟩
abbrev main_cst_53 : Ref sig .tc := ⟨.hbm, 692, rfl⟩
abbrev main_v271 : Ref sig .tc := ⟨.hbm, 693, rfl⟩
abbrev main_v272 : Ref sig .tc := ⟨.hbm, 694, rfl⟩
abbrev main_v273 : Ref sig .tc := ⟨.hbm, 695, rfl⟩
abbrev main_v274 : Ref sig .tc := ⟨.hbm, 696, rfl⟩
abbrev main_v275 : Ref sig .tc := ⟨.hbm, 697, rfl⟩
abbrev main_v276 : Ref sig .tc := ⟨.hbm, 698, rfl⟩
abbrev main_v277 : Ref sig .tc := ⟨.hbm, 699, rfl⟩
abbrev main_cst_54 : Ref sig .tc := ⟨.hbm, 700, rfl⟩
abbrev main_v278 : Ref sig .tc := ⟨.hbm, 701, rfl⟩
abbrev main_v279 : Ref sig .tc := ⟨.hbm, 702, rfl⟩
abbrev main_cst_55 : Ref sig .tc := ⟨.hbm, 703, rfl⟩
abbrev main_v280 : Ref sig .tc := ⟨.hbm, 704, rfl⟩
abbrev main_v281 : Ref sig .tc := ⟨.hbm, 705, rfl⟩
abbrev main_v282 : Ref sig .tc := ⟨.hbm, 706, rfl⟩
abbrev main_cst_56 : Ref sig .tc := ⟨.hbm, 707, rfl⟩
abbrev main_v283 : Ref sig .tc := ⟨.hbm, 708, rfl⟩
abbrev main_v284 : Ref sig .tc := ⟨.hbm, 709, rfl⟩
abbrev main_v285 : Ref sig .tc := ⟨.hbm, 710, rfl⟩
abbrev main_v286 : Ref sig .tc := ⟨.hbm, 711, rfl⟩
abbrev main_v287 : Ref sig .tc := ⟨.hbm, 712, rfl⟩
abbrev main_v288 : Ref sig .tc := ⟨.hbm, 713, rfl⟩
abbrev main_v289 : Ref sig .tc := ⟨.hbm, 714, rfl⟩
abbrev main_v290 : Ref sig .tc := ⟨.hbm, 715, rfl⟩
abbrev main_v291 : Ref sig .tc := ⟨.hbm, 716, rfl⟩
abbrev main_v292 : Ref sig .tc := ⟨.hbm, 717, rfl⟩
abbrev main_v293 : Ref sig .tc := ⟨.hbm, 718, rfl⟩
abbrev main_cst_57 : Ref sig .tc := ⟨.hbm, 719, rfl⟩
abbrev main_v294 : Ref sig .tc := ⟨.hbm, 720, rfl⟩
abbrev main_v295 : Ref sig .tc := ⟨.hbm, 721, rfl⟩
abbrev main_cst_58 : Ref sig .tc := ⟨.hbm, 722, rfl⟩
abbrev main_v296 : Ref sig .tc := ⟨.hbm, 723, rfl⟩
abbrev main_v297 : Ref sig .tc := ⟨.hbm, 724, rfl⟩
abbrev main_c_59 : Ref sig .tc := ⟨.hbm, 725, rfl⟩
abbrev main_call17_cst : Ref sig .tc := ⟨.hbm, 726, rfl⟩
abbrev main_call17_v0 : Ref sig .tc := ⟨.hbm, 727, rfl⟩
abbrev main_call17_v1 : Ref sig .tc := ⟨.hbm, 728, rfl⟩
abbrev main_call17_cst_0 : Ref sig .tc := ⟨.hbm, 729, rfl⟩
abbrev main_call17_v2 : Ref sig .tc := ⟨.hbm, 730, rfl⟩
abbrev main_call17_v3 : Ref sig .tc := ⟨.hbm, 731, rfl⟩
abbrev main_call17_v4 : Ref sig .tc := ⟨.hbm, 732, rfl⟩
abbrev main_call17_v5 : Ref sig .tc := ⟨.hbm, 733, rfl⟩
abbrev main_call17_v6 : Ref sig .tc := ⟨.hbm, 734, rfl⟩
abbrev main_call17_v7 : Ref sig .tc := ⟨.hbm, 735, rfl⟩
abbrev main_call17_cst_1 : Ref sig .tc := ⟨.hbm, 736, rfl⟩
abbrev main_call17_v8 : Ref sig .tc := ⟨.hbm, 737, rfl⟩
abbrev main_call17_cst_2 : Ref sig .tc := ⟨.hbm, 738, rfl⟩
abbrev main_call17_v9 : Ref sig .tc := ⟨.hbm, 739, rfl⟩
abbrev main_call17_v10 : Ref sig .tc := ⟨.hbm, 740, rfl⟩
abbrev main_call17_v11 : Ref sig .tc := ⟨.hbm, 741, rfl⟩
abbrev main_call17_v12 : Ref sig .tc := ⟨.hbm, 742, rfl⟩
abbrev main_call17_cst_3 : Ref sig .tc := ⟨.hbm, 743, rfl⟩
abbrev main_call17_v13 : Ref sig .tc := ⟨.hbm, 744, rfl⟩
abbrev main_call17_cst_4 : Ref sig .tc := ⟨.hbm, 745, rfl⟩
abbrev main_call17_call0_v0 : Ref sig .tc := ⟨.hbm, 746, rfl⟩
abbrev main_call17_call0_v1 : Ref sig .tc := ⟨.hbm, 747, rfl⟩
abbrev main_v298 : Ref sig .tc := ⟨.hbm, 748, rfl⟩
abbrev main_v299 : Ref sig .tc := ⟨.hbm, 749, rfl⟩
abbrev main_v300 : Ref sig .tc := ⟨.hbm, 750, rfl⟩
abbrev main_cst_60 : Ref sig .tc := ⟨.hbm, 751, rfl⟩
abbrev main_v301 : Ref sig .tc := ⟨.hbm, 752, rfl⟩
abbrev main_v302 : Ref sig .tc := ⟨.hbm, 753, rfl⟩
abbrev main_v303 : Ref sig .tc := ⟨.hbm, 754, rfl⟩
abbrev main_v304 : Ref sig .tc := ⟨.hbm, 755, rfl⟩
abbrev main_v305 : Ref sig .tc := ⟨.hbm, 756, rfl⟩
abbrev main_v306 : Ref sig .tc := ⟨.hbm, 757, rfl⟩
abbrev main_v307 : Ref sig .tc := ⟨.hbm, 758, rfl⟩
abbrev main_v308 : Ref sig .tc := ⟨.hbm, 759, rfl⟩
abbrev main_v309 : Ref sig .tc := ⟨.hbm, 760, rfl⟩
abbrev main_v310 : Ref sig .tc := ⟨.hbm, 761, rfl⟩
abbrev main_v311 : Ref sig .tc := ⟨.hbm, 762, rfl⟩
abbrev main_cst_61 : Ref sig .tc := ⟨.hbm, 763, rfl⟩
abbrev main_v312 : Ref sig .tc := ⟨.hbm, 764, rfl⟩
abbrev main_v313 : Ref sig .tc := ⟨.hbm, 765, rfl⟩
abbrev main_cst_62 : Ref sig .tc := ⟨.hbm, 766, rfl⟩
abbrev main_v314 : Ref sig .tc := ⟨.hbm, 767, rfl⟩
abbrev main_v315 : Ref sig .tc := ⟨.hbm, 768, rfl⟩
abbrev main_c_63 : Ref sig .tc := ⟨.hbm, 769, rfl⟩
abbrev main_call18_cst : Ref sig .tc := ⟨.hbm, 770, rfl⟩
abbrev main_call18_v0 : Ref sig .tc := ⟨.hbm, 771, rfl⟩
abbrev main_call18_v1 : Ref sig .tc := ⟨.hbm, 772, rfl⟩
abbrev main_call18_cst_0 : Ref sig .tc := ⟨.hbm, 773, rfl⟩
abbrev main_call18_v2 : Ref sig .tc := ⟨.hbm, 774, rfl⟩
abbrev main_call18_v3 : Ref sig .tc := ⟨.hbm, 775, rfl⟩
abbrev main_call18_v4 : Ref sig .tc := ⟨.hbm, 776, rfl⟩
abbrev main_call18_v5 : Ref sig .tc := ⟨.hbm, 777, rfl⟩
abbrev main_call18_v6 : Ref sig .tc := ⟨.hbm, 778, rfl⟩
abbrev main_call18_v7 : Ref sig .tc := ⟨.hbm, 779, rfl⟩
abbrev main_call18_cst_1 : Ref sig .tc := ⟨.hbm, 780, rfl⟩
abbrev main_call18_v8 : Ref sig .tc := ⟨.hbm, 781, rfl⟩
abbrev main_call18_cst_2 : Ref sig .tc := ⟨.hbm, 782, rfl⟩
abbrev main_call18_v9 : Ref sig .tc := ⟨.hbm, 783, rfl⟩
abbrev main_call18_v10 : Ref sig .tc := ⟨.hbm, 784, rfl⟩
abbrev main_call18_v11 : Ref sig .tc := ⟨.hbm, 785, rfl⟩
abbrev main_call18_v12 : Ref sig .tc := ⟨.hbm, 786, rfl⟩
abbrev main_call18_cst_3 : Ref sig .tc := ⟨.hbm, 787, rfl⟩
abbrev main_call18_v13 : Ref sig .tc := ⟨.hbm, 788, rfl⟩
abbrev main_call18_cst_4 : Ref sig .tc := ⟨.hbm, 789, rfl⟩
abbrev main_call18_call0_v0 : Ref sig .tc := ⟨.hbm, 790, rfl⟩
abbrev main_call18_call0_v1 : Ref sig .tc := ⟨.hbm, 791, rfl⟩
abbrev main_v316 : Ref sig .tc := ⟨.hbm, 792, rfl⟩
abbrev main_v317 : Ref sig .tc := ⟨.hbm, 793, rfl⟩
abbrev main_v318 : Ref sig .tc := ⟨.hbm, 794, rfl⟩
abbrev main_cst_64 : Ref sig .tc := ⟨.hbm, 795, rfl⟩
abbrev main_v319 : Ref sig .tc := ⟨.hbm, 796, rfl⟩
abbrev main_v320 : Ref sig .tc := ⟨.hbm, 797, rfl⟩
abbrev main_v321 : Ref sig .tc := ⟨.hbm, 798, rfl⟩
abbrev main_v322 : Ref sig .tc := ⟨.hbm, 799, rfl⟩
abbrev main_v323 : Ref sig .tc := ⟨.hbm, 800, rfl⟩
abbrev main_v324 : Ref sig .tc := ⟨.hbm, 801, rfl⟩
abbrev main_v325 : Ref sig .tc := ⟨.hbm, 802, rfl⟩
abbrev main_cst_65 : Ref sig .tc := ⟨.hbm, 803, rfl⟩
abbrev main_v326 : Ref sig .tc := ⟨.hbm, 804, rfl⟩
abbrev main_v327 : Ref sig .tc := ⟨.hbm, 805, rfl⟩
abbrev main_cst_66 : Ref sig .tc := ⟨.hbm, 806, rfl⟩
abbrev main_v328 : Ref sig .tc := ⟨.hbm, 807, rfl⟩
abbrev main_v329 : Ref sig .tc := ⟨.hbm, 808, rfl⟩
abbrev main_v330 : Ref sig .tc := ⟨.hbm, 809, rfl⟩
abbrev main_cst_67 : Ref sig .tc := ⟨.hbm, 810, rfl⟩
abbrev main_v331 : Ref sig .tc := ⟨.hbm, 811, rfl⟩
abbrev main_v332 : Ref sig .tc := ⟨.hbm, 812, rfl⟩
abbrev main_v333 : Ref sig .tc := ⟨.hbm, 813, rfl⟩
abbrev main_v334 : Ref sig .tc := ⟨.hbm, 814, rfl⟩
abbrev main_v335 : Ref sig .tc := ⟨.hbm, 815, rfl⟩
abbrev main_v336 : Ref sig .tc := ⟨.hbm, 816, rfl⟩
abbrev main_v337 : Ref sig .tc := ⟨.hbm, 817, rfl⟩
abbrev main_v338 : Ref sig .tc := ⟨.hbm, 818, rfl⟩
abbrev main_v339 : Ref sig .tc := ⟨.hbm, 819, rfl⟩
abbrev main_v340 : Ref sig .tc := ⟨.hbm, 820, rfl⟩
abbrev main_v341 : Ref sig .tc := ⟨.hbm, 821, rfl⟩
abbrev main_v342 : Ref sig .tc := ⟨.hbm, 822, rfl⟩
abbrev main_v343 : Ref sig .tc := ⟨.hbm, 823, rfl⟩
abbrev main_cst_68 : Ref sig .tc := ⟨.hbm, 824, rfl⟩
abbrev main_v344 : Ref sig .tc := ⟨.hbm, 825, rfl⟩
abbrev main_v345 : Ref sig .tc := ⟨.hbm, 826, rfl⟩
abbrev main_cst_69 : Ref sig .tc := ⟨.hbm, 827, rfl⟩
abbrev main_v346 : Ref sig .tc := ⟨.hbm, 828, rfl⟩
abbrev main_v347 : Ref sig .tc := ⟨.hbm, 829, rfl⟩

abbrev nD : Nat := 1
abbrev τ : Topo := Topo.v7x

variable {F : FTy → Type} [FloatOps F]
-- ==== Proof.IdealSteps.lean ====
/-
  The gather's set-up and its three kinds of step.  A tile owns 52224 consecutive entries of the row list and the same
  rows of the result; it works through them in 34 chunks of 1536 rows.  A chunk is FIRED (the rows the list names are
  streamed from the table into one of two row buffers), DRAINED (that stream's wait), and WRITTEN OUT (a linear transfer of
  the row buffer to the chunk's rows of the result, and its wait).  Each step is one lemma here, for a chunk whose number is
  a variable, and carries the values: what a row buffer holds after chunk `ch` is `chunkVal … ch`, what the result's rows
  hold after it is `gathered …`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The arrays, the tile's place -/

/-- The table, the row list, the result. -/
abbrev xLoc (d : Dev nD) : Loc nD τ sig := (SparseCore.T d).loc main_arg7
abbrev iLoc (d : Dev nD) : Loc nD τ sig := (SparseCore.T d).loc main_v3
abbrev oLoc (d : Dev nD) : Loc nD τ sig := (SparseCore.T d).loc main_v4

abbrev xV : Memref sig .scVector .hbm S1000000x16 .f32 := Memref.whole main_arg7_scv
abbrev iV : Memref sig .scVector .hbm S1671168 .i32 := Memref.whole main_v3_scv
abbrev oV : Memref sig .scVector .hbm S1671168x16 .f32 := Memref.whole main_v4_scv
abbrev sV : Memref sig .scVector .vmem S52224 .i32 := Memref.whole cc0_scratch0
abbrev r0V : Memref sig .scVector .vmem S1536x16 .f32 := Memref.whole cc0_scratch1
abbrev r1V : Memref sig .scVector .vmem S1536x16 .f32 := Memref.whole cc0_scratch2

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- The first row of tile `L`. -/
def base (L : grid0.Coords) : ℕ := 104448 * (L 1).val + 52224 * (L 0).val

theorem base_le (L : grid0.Coords) : base L + 52224 ≤ 1671168 := by
  have h0 : (L 0).val < 2 := (L 0).isLt
  have h1 : (L 1).val < 16 := (L 1).isLt
  unfold base; omega

/-- The result's rows from `a` up to `b`. -/
def rowsIn (a b : ℕ) : Finset S1671168x16.Idx := Finset.univ.filter fun j => a ≤ (j 0).val ∧ (j 0).val < b

theorem mem_rowsIn {a b : ℕ} {j : S1671168x16.Idx} : j ∈ rowsIn a b ↔ a ≤ (j 0).val ∧ (j 0).val < b := by
  simp [rowsIn]

theorem rowsIn_union {a b c : ℕ} (hab : a ≤ b) (hbc : b ≤ c) : rowsIn a b ∪ rowsIn b c = rowsIn a c := by
  ext j; simp only [Finset.mem_union, mem_rowsIn]; omega

theorem rowsIn_disjoint (a b c : ℕ) : Disjoint (rowsIn a b) (rowsIn b c) :=
  Finset.disjoint_left.mpr fun j h h' => by rw [mem_rowsIn] at h h'; omega

theorem rowsIn_self (a : ℕ) : rowsIn a a = ∅ := by
  ext j; simp only [mem_rowsIn, Finset.notMem_empty, iff_false]; omega

/-! ## The values -/

/-- Entry `n` of the row list, as an index. -/
def at1 (n : Fin 1671168) : S1671168.Idx := fun | 0 => n
/-- Row `n`, column `c` of the table, as an index. -/
def at2 (n : Fin 1000000) (c : Fin 16) : S1000000x16.Idx := fun | 0 => n | 1 => c
/-- Row `n`, column `c` of the result, as an index. -/
def atO (n : Fin 1671168) (c : Fin 16) : S1671168x16.Idx := fun | 0 => n | 1 => c

/-- The table's row the list's entry `n` names. -/
def rowOf (ids : S1671168.Idx → BitVec 32) (n : Fin 1671168) : Fin 1000000 :=
  ⟨(ids (at1 n)).toNat % 1000000, Nat.mod_lt _ (by decide)⟩

/-- THE RESULT: row `n` is the table's row that entry `n` of the list names. -/
def gathered (X : S1000000x16.Idx → F .f32) (ids : S1671168.Idx → BitVec 32) : S1671168x16.Idx → F .f32 :=
  fun j => X (at2 (rowOf ids (j 0)) (j 1))

/-- The tile's part of the list. -/
def listVal (L : grid0.Coords) (ids : S1671168.Idx → BitVec 32) : S52224.Idx → BitVec 32 :=
  fun k => ids (at1 ⟨base L + (k 0).val, by have h : (k 0).val < 52224 := (k 0).isLt; have := base_le L; omega⟩)

/-- What a row buffer holds after the rows from row `r` of the result on were streamed into it. -/
def chunkVal (X : S1000000x16.Idx → F .f32) (ids : S1671168.Idx → BitVec 32) (r : ℕ) : S1536x16.Idx → F .f32 :=
  fun y => X (at2 (rowOf ids ⟨(r + (y 0).val) % 1671168, Nat.mod_lt _ (by decide)⟩) (y 1))

/-! ## Rectangles of rows -/

/-- A window of 1536 rows of the result is the rows it starts at. -/
theorem set_oSlice {off : Fin 2 → ℕ} {r : ℕ} (ho : off = ![r, 0]) (inb : ∀ a, off a + S1536x16.size a ≤ S1671168x16.size a) (hs) :
    ((oV).slice (Rect.unit (s := S1671168x16) off S1536x16.size inb) hs).view.set = rowsIn r (r + 1536) := by
  subst ho
  show ((View.whole (main_v4_scv : Ref sig .scVector)).slice _).set = _
  rw [View.set_slice_whole]
  ext j
  rw [Rect.mem_set_unit, mem_rowsIn]
  constructor
  · intro h; exact h 0
  · intro h a
    match a with
    | 0 => exact h
    | 1 =>
      have h1 : (j 1).val < 16 := (j 1).isLt
      exact ⟨Nat.zero_le _, show (j 1).val < 0 + 16 by omega⟩

/-- The table read as the streams name it — all its rows — is the table. -/
theorem read_xAll (inb : ∀ a, (![0, 0] : Fin 2 → ℕ) a + S1000000x16.size a ≤ S1000000x16.size a) (hs) (X : S1000000x16.Idx → F .f32) :
    ((xV).slice (Rect.unit (s := S1000000x16) ![0, 0] S1000000x16.size inb) hs).view.read (Elt F) X = X := by
  funext j
  refine (View.read_apply _ _).trans ((cast_eq _ _).trans ?_)
  congr 1
  funext a
  refine Fin.ext ?_
  match a with
  | 0 => show 0 + 1 * (j 0).val = (j 0).val; omega
  | 1 => show 0 + 1 * (j 1).val = (j 1).val; omega

/-- A window of 1536 entries of the tile's list. -/
theorem read_sSlice {off : Fin 1 → ℕ} {r : ℕ} (ho : off = ![r]) (inb : ∀ a, off a + S1536.size a ≤ S52224.size a) (hs)
    (f : S52224.Idx → BitVec 32) (k : S1536.Idx) (h : r + (k 0).val < 52224) :
    ((sV).slice (Rect.unit (s := S52224) off S1536.size inb) hs).view.read (Elt F) f k = f (fun | 0 => ⟨r + (k 0).val, h⟩) := by
  subst ho
  refine (View.read_apply _ _).trans ((cast_eq _ _).trans ?_)
  congr 1
  funext a
  refine Fin.ext ?_
  match a with
  | 0 => show r + 1 * (k 0).val = r + (k 0).val; omega

/-- The list's part the tile fetches. -/
theorem read_iSlice (L : grid0.Coords) {off : Fin 1 → ℕ} (ho : off = ![base L]) (inb : ∀ a, off a + S52224.size a ≤ S1671168.size a) (hs)
    (ids : S1671168.Idx → BitVec 32) :
    ((iV).slice (Rect.unit (s := S1671168) off S52224.size inb) hs).view.read (Elt F) ids = listVal L ids := by
  subst ho
  funext k
  refine (View.read_apply _ _).trans ((cast_eq _ _).trans ?_)
  unfold listVal
  congr 1
  funext a
  refine Fin.ext ?_
  match a with
  | 0 => show base L + 1 * (k 0).val = base L + (k 0).val; omega

/-- The stream's payload: row `y 0` of the buffer is the table's row that entry `r + y 0` of the tile's list names. -/
theorem payload_eq (L : grid0.Coords) (hg : S1000000x16.Gathers 0 S1536x16) (X : S1000000x16.Idx → F .f32) (ids : S1671168.Idx → BitVec 32)
    (hids : ∀ j, (ids j).toNat < 1000000) {r : ℕ} (hr : r + 1536 ≤ 52224) (w : S1536.Idx → BitVec 32)
    (hw : ∀ k, w k = listVal L ids (fun | 0 => ⟨r + (k 0).val, by have h : (k 0).val < 1536 := (k 0).isLt; show r + (k 0).val < 52224; omega⟩))
    (hn) (hin : ∀ x, (w x).toNat < S1000000x16.size hg.axis) :
    SparseCore.gatherPayload (F := F) (e := .f32) hg X (SparseCore.rows (F := F) w hn hin) = chunkVal X ids (base L + r) := by
  funext y
  unfold SparseCore.gatherPayload chunkVal
  congr 1
  have hy0 : (y 0).val < 1536 := (y 0).isLt
  have hb := base_le L
  funext a
  refine Fin.ext ?_
  match a with
  | 0 =>
    refine (congrArg Fin.val (dif_pos (show (0 : Fin 2).val = 0 from rfl))).trans ?_
    show (w (S1536.rowMajor.symm _)).toNat = (ids _).toNat % 1000000
    rw [Nat.mod_eq_of_lt (hids _), hw]
    unfold listVal
    congr 2
    refine congrArg at1 (Fin.ext ?_)
    show base L + (r + ((S1536.rowMajor.symm _) 0).val) = (base L + r + (y 0).val) % 1671168
    rw [← Shape.rowMajor_val_one, Equiv.apply_symm_apply, Nat.mod_eq_of_lt (by omega)]
    show base L + (r + (y 0).val) = _
    omega
  | 1 =>
    exact congrArg Fin.val (dif_neg (show ¬(1 : Fin 2).val = 0 by decide))

/-- A row buffer's chunk, written to its rows of the result, leaves them at the result. -/
theorem written_eq {off : Fin 2 → ℕ} {r : ℕ} (ho : off = ![r, 0]) (inb : ∀ a, off a + S1536x16.size a ≤ S1671168x16.size a) (hs)
    (X : S1000000x16.Idx → F .f32) (ids : S1671168.Idx → BitVec 32) (f : S1671168x16.Idx → F .f32) (j : S1671168x16.Idx)
    (hj : j ∈ ((oV).slice (Rect.unit (s := S1671168x16) off S1536x16.size inb) hs).view.set) :
    ((oV).slice (Rect.unit (s := S1671168x16) off S1536x16.size inb) hs).view.write (Elt F) f (chunkVal X ids r) Finset.univ j = gathered X ids j := by
  obtain ⟨y, hy⟩ : ∃ y, ((oV).slice (Rect.unit (s := S1671168x16) off S1536x16.size inb) hs).view.emb y = j := by
    simpa [View.set, View.setOn] using hj
  rw [← hy]
  refine (View.write_emb_of_mem _ _ (Finset.mem_univ y)).trans ((cast_eq _ _).trans ?_)
  subst ho
  have hy0 : (y 0).val < 1536 := (y 0).isLt
  have h0 : r + 1536 ≤ 1671168 := inb 0
  unfold chunkVal gathered
  refine congrArg X ?_
  refine congrArg₂ at2 (congrArg (rowOf ids) (Fin.ext ?_)) (Fin.ext ?_)
  · show (r + (y 0).val) % 1671168 = r + 1 * (y 0).val
    rw [Nat.mod_eq_of_lt (by omega)]; omega
  · show (y 1).val = 0 + 1 * (y 1).val
    omega

end Cert.Proof.KernelIdeal

end
-- ==== Proof.IdealTcPure.lean ====
/-
  What the dense kernel's body leaves, as plain functions of the blocks it is handed: the running sums of one tower (four
  rows of the statistics scratch), the pooled block of one grid point, and the final layers.
-/
module

public import proofs.«01_k».proof.Proof.IdealSteps
public import Idealize.ShloMosaic.Lib.VecWindow
public import proofs.«01_k».proof.Proof.Gen.KernelIdeal.Skeleton
public import Idealize.ShloMosaic.Lib.Tactic
public import Idealize.ShloMosaic.Lib.Pipeline.Kit

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.VecWindow (window put window_put_same window_put_of_disjoint)

/-- The contents of the windows that stay resident during the whole grid. -/
structure Win (F : FTy → Type) where
  k4 : Vec F S4096x16 .f32
  k5 : Vec F S4096x16 .f32
  k6 : Vec F S4096x16 .f32
  k7 : Vec F S4096x2 .f32
  k8 : Vec F S3200x128 .f32
  k9 : Vec F S3200x128 .f32
  k10 : Vec F S16x128 .f32
  k11 : Vec F S128x16 .f32
  k12 : Vec F S16x128 .f32
  k13 : Vec F S128x128 .f32
  k14 : Vec F S128x128 .f32
  k15 : Vec F S1x128 .f32
  k16 : Vec F S1x16 .f32
  k17 : Vec F S1x16 .f32
  k18 : Vec F S1x128 .f32
  k19 : Vec F S128x128 .f32
  k20 : Vec F S1x128 .f32
  k21 : Vec F S1x16 .f32
  k22 : Vec F S1x16 .f32
  k23 : Vec F S1x128 .f32
  k24 : Vec F S128x128 .f32
  k25 : Vec F S1x1 .f32
  k26 : Vec F S80x32 .f32
  k27 : Vec F S1x32 .f32
  k28 : Vec F S1x32 .f32
  k29 : Vec F S1x32 .f32
  k30 : Vec F S1x32 .f32
  k31 : Vec F S32x16 .f32
  k32 : Vec F S1x16 .f32
  k33 : Vec F S1x16 .f32
  k34 : Vec F S1x16 .f32
  k35 : Vec F S1x16 .f32
  k36 : Vec F S16x1 .f32
  k37 : Vec F S1x1 .f32

/-- One tower's four running rows: sum and sum of squares of the first layer, then of the second. -/
structure Tower (F : FTy → Type) where
  r0 : Vec F S1x16 .f32
  r1 : Vec F S1x16 .f32
  r2 : Vec F S1x16 .f32
  r3 : Vec F S1x16 .f32

/-- Row `k` of the statistics. -/
abbrev row (x : Vec F S8x16 .f32) (k : ℕ) (h : ∀ a, (![k, 0] : Fin 2 → ℕ) a + S1x16.size a ≤ S8x16.size a) : Vec F S1x16 .f32 := window (s := S8x16) x ![k, 0] S1x16.size h

/-- The statistics hold tower `a` in rows 0–3 and tower `b` in rows 4–7. -/
structure Rel (x : Vec F S8x16 .f32) (a b : Tower F) : Prop where
  e0 : row x 0 inb_S8x16_S1x16_0_0 = a.r0
  e1 : row x 1 inb_S8x16_S1x16_1_0 = a.r1
  e2 : row x 2 inb_S8x16_S1x16_2_0 = a.r2
  e3 : row x 3 inb_S8x16_S1x16_3_0 = a.r3
  e4 : row x 4 inb_S8x16_S1x16_4_0 = b.r0
  e5 : row x 5 inb_S8x16_S1x16_5_0 = b.r1
  e6 : row x 6 inb_S8x16_S1x16_6_0 = b.r2
  e7 : row x 7 inb_S8x16_S1x16_7_0 = b.r3

theorem row_put_ne (x : Vec F S8x16 .f32) (k k' : ℕ) (hk : k ≠ k') (w : Vec F S1x16 .f32) (h : ∀ a, (![k', 0] : Fin 2 → ℕ) a + S1x16.size a ≤ S8x16.size a) :
    row (put (s := S8x16) x ![k, 0] ![1, 16] w) k' h = row x k' h :=
  window_put_of_disjoint (s := S8x16) x _ _ _ _ h w (0 : Fin 2) (by show k' + 1 ≤ k ∨ k + 1 ≤ k'; omega)

theorem row_put_same (x : Vec F S8x16 .f32) (k : ℕ) (w : Vec F S1x16 .f32) (h : ∀ a, (![k, 0] : Fin 2 → ℕ) a + S1x16.size a ≤ S8x16.size a) :
    row (put (s := S8x16) x ![k, 0] ![1, 16] w) k h = w := window_put_same (s := S8x16) x _ _ h w

theorem read_put {sig : RefSig} {κ : Kind} {sp : Space} {s : Shape} {e : EltTy} {Val : EltTy → Type} (v : View sig κ sp s e) (f : v.ty.Contents Val)
    {off size : Fin s.rank → ℕ} (inb : ∀ a, off a + size a ≤ s.size a) (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

theorem rows_inb (i : Fin 32) : ∀ a, (![128 * i.val, 0] : Fin 2 → ℕ) a + S128x16.size a ≤ S4096x16.size a := by
  have := i.isLt
  intro a; match a with
  | ⟨0, _⟩ => show 128 * i.val + 128 ≤ 4096; omega
  | ⟨1, _⟩ => show 0 + 16 ≤ 16; omega

theorem rows2_inb (i : Fin 32) : ∀ a, (![128 * i.val, 0] : Fin 2 → ℕ) a + S128x2.size a ≤ S4096x2.size a := by
  have := i.isLt
  intro a; match a with
  | ⟨0, _⟩ => show 128 * i.val + 128 ≤ 4096; omega
  | ⟨1, _⟩ => show 0 + 2 ≤ 2; omega

/-- Rows `128 i … 128 i + 127` of a `4096 × 16` array, -/
abbrev rows (x : Vec F S4096x16 .f32) (i : Fin 32) : Vec F S128x16 .f32 := window (s := S4096x16) x ![128 * i.val, 0] S128x16.size (rows_inb i)
/-- of the lengths, -/
abbrev rows2 (x : Vec F S4096x2 .f32) (i : Fin 32) : Vec F S128x2 .f32 := window (s := S4096x2) x ![128 * i.val, 0] S128x2.size (rows2_inb i)
/-- and sixteen rows of the first dense layer. -/
abbrev part16 (x : Vec F S80x32 .f32) (o : ℕ) (h : ∀ a, (![o, 0] : Fin 2 → ℕ) a + S16x32.size a ≤ S80x32.size a) : Vec F S16x32 .f32 := window (s := S80x32) x ![o, 0] S16x32.size h

variable (K : Win F) (X : Vec F S3200x128 .f32) (T : Vec F S128x16 .f32) (a : Tower F)

/-- The first attention layer on one block. -/
def lay0 : FVec F S3200x128 .f32 := k1_pay11 X T K.k8 K.k10 K.k12 K.k13 K.k14 K.k15
/-- The second attention layer on one block, from the first layer's complete sums. -/
def lay1 : FVec F S3200x128 .f32 :=
  k1_pay22 (k1_pay18 a.r0 a.r1 K.k16) (k1_pay19 (lay0 K X T) a.r0 a.r1 K.k16 K.k17 K.k10 K.k10) (k1_pay20 a.r0 a.r1 K.k16 K.k17 K.k10) (k1_pay21 K.k10) K.k18 K.k19 K.k20

/-- Phase 0 adds one block's first-layer sums. -/
def step0 : Tower F := { a with r0 := k1_pay2 (lay0 K X T) k1_pay12 a.r0 K.k11, r1 := k1_pay3 (lay0 K X T) k1_pay12 a.r1 K.k11 }
/-- Phase 1 adds one block's second-layer sums. -/
def step1 : Tower F := { a with
  r2 := k1_pay24 (k1_pay18 a.r0 a.r1 K.k16) (k1_pay19 (lay0 K X T) a.r0 a.r1 K.k16 K.k17 K.k10 K.k10) (k1_pay20 a.r0 a.r1 K.k16 K.k17 K.k10) (k1_pay21 K.k10) K.k18 K.k19 K.k20 a.r2 K.k11
  r3 := k1_pay4 (lay1 K X T a) k1_pay23 a.r3 K.k11 }
/-- Phase 2 pools one block. -/
def pool1 (l : Vec F S128x2 .f32) : FVec F S128x16 .f32 :=
  k1_pay5 (k1_pay47 (k1_pay25 X)
    (k1_pay43 (lay1 K X T a) (k1_pay36 K.k21) (k1_pay37 K.k22) (k1_pay38 a.r2) (k1_pay39 a.r2 a.r3) (Scalar.ofBits .f32 0x00000000#32) K.k10 K.k10)
    (k1_pay45 (lay1 K X T a) (k1_pay36 K.k21) (k1_pay37 K.k22) (k1_pay38 a.r2) (k1_pay39 a.r2 a.r3) (Scalar.ofBits .f32 0x00000000#32) K.k10 K.k10 K.k10 K.k10 K.k23)
    (k1_pay46 K.k23) K.k24 K.k25 l K.k8 K.k9 K.k8 K.k11)
/-- The same for the second tower, whose lengths sit in the second column. -/
def pool2 (l : Vec F S128x2 .f32) : FVec F S128x16 .f32 :=
  k1_pay9 (k1_pay84 (k1_pay25 X)
    (k1_pay43 (lay1 K X T a) (k1_pay36 K.k21) (k1_pay37 K.k22) (k1_pay38 a.r2) (k1_pay39 a.r2 a.r3) (Scalar.ofBits .f32 0x00000000#32) K.k10 K.k10)
    (k1_pay45 (lay1 K X T a) (k1_pay36 K.k21) (k1_pay37 K.k22) (k1_pay38 a.r2) (k1_pay39 a.r2 a.r3) (Scalar.ofBits .f32 0x00000000#32) K.k10 K.k10 K.k10 K.k10 K.k23)
    (k1_pay46 K.k23) K.k24 K.k25 l K.k8 K.k9 K.k8 K.k11)

/-- The dense layers at the last point. -/
def mlpA (p q : Vec F S4096x16 .f32) : FVec F S4096x16 .f32 :=
  k1_pay87 (k1_pay85 K.k4 (part16 K.k26 0 inb_S80x32_S16x32_0_0) p (part16 K.k26 16 inb_S80x32_S16x32_16_0) K.k5 (part16 K.k26 32 inb_S80x32_S16x32_32_0) q (part16 K.k26 48 inb_S80x32_S16x32_48_0) K.k6 (part16 K.k26 64 inb_S80x32_S16x32_64_0) K.k27)
    (k1_pay86 K.k28) K.k29 K.k30 K.k31
def mlp (p q : Vec F S4096x16 .f32) : FVec F S4096x1 .f32 :=
  k1_pay10 (k1_pay90 K.k35) (k1_pay95 (mlpA K p q) K.k32 K.k33 K.k34) (k1_pay96 (mlpA K p q) K.k32 K.k33 K.k34) (k1_pay97 K.k35) K.k36 K.k37

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The first grid point. -/
abbrev isFirst (i : grid1.Coords) : Prop :=
  (Scalar.cmpi .ne ((Scalar.extui (Scalar.andi (Scalar.cmpi .eq (BitVec.ofNat 32 (i 0).val) 0#32) (Scalar.cmpi .eq (BitVec.ofNat 32 (i 1).val) 0#32)) : BitVec 32)) 0#32) = 1#1

/-! The second tower's payloads are the first's, and those of later phases the earlier ones'. -/
theorem same13 : k1_pay13 (F := F) = k1_pay11 := rfl
theorem same26 : k1_pay26 (F := F) = k1_pay11 := rfl
theorem same48 : k1_pay48 (F := F) = k1_pay11 := rfl
theorem same50 : k1_pay50 (F := F) = k1_pay11 := rfl
theorem same63 : k1_pay63 (F := F) = k1_pay11 := rfl
theorem same31 : k1_pay31 (F := F) = k1_pay18 := rfl
theorem same55 : k1_pay55 (F := F) = k1_pay18 := rfl
theorem same68 : k1_pay68 (F := F) = k1_pay18 := rfl
theorem same32 : k1_pay32 (F := F) = k1_pay19 := rfl
theorem same56 : k1_pay56 (F := F) = k1_pay19 := rfl
theorem same69 : k1_pay69 (F := F) = k1_pay19 := rfl
theorem same33 : k1_pay33 (F := F) = k1_pay20 := rfl
theorem same57 : k1_pay57 (F := F) = k1_pay20 := rfl
theorem same70 : k1_pay70 (F := F) = k1_pay20 := rfl
theorem same34 : k1_pay34 (F := F) = k1_pay21 := rfl
theorem same58 : k1_pay58 (F := F) = k1_pay21 := rfl
theorem same71 : k1_pay71 (F := F) = k1_pay21 := rfl
theorem same35 : k1_pay35 (F := F) = k1_pay22 := rfl
theorem same59 : k1_pay59 (F := F) = k1_pay22 := rfl
theorem same72 : k1_pay72 (F := F) = k1_pay22 := rfl
theorem same49 : k1_pay49 (F := F) = k1_pay12 := rfl
theorem same60 : k1_pay60 (F := F) = k1_pay23 := rfl
theorem same61 : k1_pay61 (F := F) = k1_pay24 := rfl
theorem same6 : k1_pay6 (F := F) = k1_pay2 := rfl
theorem same7 : k1_pay7 (F := F) = k1_pay3 := rfl
theorem same8 : k1_pay8 (F := F) = k1_pay4 := rfl
theorem same62 : k1_pay62 (F := F) = k1_pay25 := rfl
theorem same73 : k1_pay73 (F := F) = k1_pay36 := rfl
theorem same74 : k1_pay74 (F := F) = k1_pay37 := rfl
theorem same75 : k1_pay75 (F := F) = k1_pay38 := rfl
theorem same76 : k1_pay76 (F := F) = k1_pay39 := rfl
theorem same80 : k1_pay80 (F := F) = k1_pay43 := rfl
theorem same82 : k1_pay82 (F := F) = k1_pay45 := rfl
theorem same83 : k1_pay83 (F := F) = k1_pay46 := rfl

end Cert.Proof.KernelIdeal
end
-- ==== Proof.IdealTcRun0.lean ====
/-
  The dense kernel's body at a point of phase 0.
-/
module

public import proofs.«01_k».proof.Proof.IdealTcPure
public import proofs.«01_k».proof.Proof.Gen.KernelIdeal.Skeleton
public import Idealize.ShloMosaic.Lib.Tactic
public import Idealize.ShloMosaic.Lib.Pipeline.Kit

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
open Idealize.ShloMosaic.VecWindow (window put window_put_same window_put_of_disjoint)

set_option maxHeartbeats 2000000 in
theorem run_p0 (c : Dev nD) (i : grid1.Coords) (i' : Fin 32) (M2 : Memref sig .tc .vmem S3200x128 .f32) (h2 : M2.IsWhole) (M3 : Memref sig .tc .vmem S3200x128 .f32) (h3 : M3.IsWhole) (M4 : Memref sig .tc .vmem S4096x16 .f32) (h4 : M4.IsWhole) (M5 : Memref sig .tc .vmem S4096x16 .f32) (h5 : M5.IsWhole) (M6 : Memref sig .tc .vmem S4096x16 .f32) (h6 : M6.IsWhole) (M7 : Memref sig .tc .vmem S4096x2 .f32) (h7 : M7.IsWhole) (M8 : Memref sig .tc .vmem S3200x128 .f32) (h8 : M8.IsWhole) (M9 : Memref sig .tc .vmem S3200x128 .f32) (h9 : M9.IsWhole) (M10 : Memref sig .tc .vmem S16x128 .f32) (h10 : M10.IsWhole) (M11 : Memref sig .tc .vmem S128x16 .f32) (h11 : M11.IsWhole) (M12 : Memref sig .tc .vmem S16x128 .f32) (h12 : M12.IsWhole) (M13 : Memref sig .tc .vmem S128x128 .f32) (h13 : M13.IsWhole) (M14 : Memref sig .tc .vmem S128x128 .f32) (h14 : M14.IsWhole) (M15 : Memref sig .tc .vmem S1x128 .f32) (h15 : M15.IsWhole) (M16 : Memref sig .tc .vmem S1x16 .f32) (h16 : M16.IsWhole) (M17 : Memref sig .tc .vmem S1x16 .f32) (h17 : M17.IsWhole) (M18 : Memref sig .tc .vmem S1x128 .f32) (h18 : M18.IsWhole) (M19 : Memref sig .tc .vmem S128x128 .f32) (h19 : M19.IsWhole) (M20 : Memref sig .tc .vmem S1x128 .f32) (h20 : M20.IsWhole) (M21 : Memref sig .tc .vmem S1x16 .f32) (h21 : M21.IsWhole) (M22 : Memref sig .tc .vmem S1x16 .f32) (h22 : M22.IsWhole) (M23 : Memref sig .tc .vmem S1x128 .f32) (h23 : M23.IsWhole) (M24 : Memref sig .tc .vmem S128x128 .f32) (h24 : M24.IsWhole) (M25 : Memref sig .tc .vmem S1x1 .f32) (h25 : M25.IsWhole) (M26 : Memref sig .tc .vmem S80x32 .f32) (h26 : M26.IsWhole) (M27 : Memref sig .tc .vmem S1x32 .f32) (h27 : M27.IsWhole) (M28 : Memref sig .tc .vmem S1x32 .f32) (h28 : M28.IsWhole) (M29 : Memref sig .tc .vmem S1x32 .f32) (h29 : M29.IsWhole) (M30 : Memref sig .tc .vmem S1x32 .f32) (h30 : M30.IsWhole) (M31 : Memref sig .tc .vmem S32x16 .f32) (h31 : M31.IsWhole) (M32 : Memref sig .tc .vmem S1x16 .f32) (h32 : M32.IsWhole) (M33 : Memref sig .tc .vmem S1x16 .f32) (h33 : M33.IsWhole) (M34 : Memref sig .tc .vmem S1x16 .f32) (h34 : M34.IsWhole) (M35 : Memref sig .tc .vmem S1x16 .f32) (h35 : M35.IsWhole) (M36 : Memref sig .tc .vmem S16x1 .f32) (h36 : M36.IsWhole) (M37 : Memref sig .tc .vmem S1x1 .f32) (h37 : M37.IsWhole) (M38 : Memref sig .tc .vmem S4096x1 .f32) (h38 : M38.IsWhole) (M39 : Memref sig .tc .vmem S8x16 .f32) (h39 : M39.IsWhole) (M40 : Memref sig .tc .vmem S4096x16 .f32) (h40 : M40.IsWhole) (M41 : Memref sig .tc .vmem S4096x16 .f32) (h41 : M41.IsWhole)
  (f2 : Buf (Elt F) (M2.view.loc (c : Thread nD τ))) (f3 : Buf (Elt F) (M3.view.loc (c : Thread nD τ))) (f5 : Buf (Elt F) (M5.view.loc (c : Thread nD τ))) (f6 : Buf (Elt F) (M6.view.loc (c : Thread nD τ))) (f8 : Buf (Elt F) (M8.view.loc (c : Thread nD τ))) (f10 : Buf (Elt F) (M10.view.loc (c : Thread nD τ))) (f11 : Buf (Elt F) (M11.view.loc (c : Thread nD τ))) (f12 : Buf (Elt F) (M12.view.loc (c : Thread nD τ))) (f13 : Buf (Elt F) (M13.view.loc (c : Thread nD τ))) (f14 : Buf (Elt F) (M14.view.loc (c : Thread nD τ))) (f15 : Buf (Elt F) (M15.view.loc (c : Thread nD τ))) (f39 : Buf (Elt F) (M39.view.loc (c : Thread nD τ))) (K : Win F) (X2 X3 : Vec F S3200x128 .f32)
  (e2 : M2.view.read (Elt F) f2 = X2) (e3 : M3.view.read (Elt F) f3 = X3) (e5 : M5.view.read (Elt F) f5 = K.k5) (e6 : M6.view.read (Elt F) f6 = K.k6) (e8 : M8.view.read (Elt F) f8 = K.k8) (e10 : M10.view.read (Elt F) f10 = K.k10) (e11 : M11.view.read (Elt F) f11 = K.k11) (e12 : M12.view.read (Elt F) f12 = K.k12) (e13 : M13.view.read (Elt F) f13 = K.k13) (e14 : M14.view.read (Elt F) f14 = K.k14) (e15 : M15.view.read (Elt F) f15 = K.k15)
  (a b : Tower F) (hs : Rel (if isFirst i then k1_pay1 else M39.view.read (Elt F) f39) a b) (o1 : k1_off1 i = ![128 * i'.val, 0]) (o5 : k1_off5 i = ![128 * i'.val, 0])
  (c2 : k1_cond2 i = 1#1) (c3 : ¬ k1_cond3 i = 1#1) (c4 : ¬ k1_cond4 i = 1#1) (c5 : k1_cond5 i = 1#1) (c6 : ¬ k1_cond6 i = 1#1) (c7 : ¬ k1_cond7 i = 1#1) (c8 : ¬ k1_cond8 i = 1#1)
  (Q : PUnit → sProp 𝕄) :
    iprop(pt c M2 f2 ∗ pt c M3 f3 ∗ pt c M5 f5 ∗ pt c M6 f6 ∗ pt c M8 f8 ∗ pt c M10 f10 ∗ pt c M11 f11 ∗ pt c M12 f12 ∗ pt c M13 f13 ∗ pt c M14 f14 ∗ pt c M15 f15 ∗ pt c M39 f39
 ∗ (iprop(pt c M2 f2 ∗ pt c M3 f3 ∗ pt c M5 f5 ∗ pt c M6 f6 ∗ pt c M8 f8 ∗ pt c M10 f10 ∗ pt c M11 f11 ∗ pt c M12 f12 ∗ pt c M13 f13 ∗ pt c M14 f14 ∗ pt c M15 f15 ∗ (∃ f, ⌜Rel (M39.view.read (Elt F) f) (step0 K X2 (rows K.k5 i') a) (step0 K X3 (rows K.k6 i') b)⌝ ∗ pt c M39 f)) -∗ Q ⟨⟩))
 ⊢ wp frame (wpE (defs₀ (F := F)) 𝒱₀ c none) Set.univ (cc1__tc_body i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 M35 h35 M36 h36 M37 h37 M38 h38 M39 h39 M40 h40 M41 h41) Q := by
  iintro ⟨H2, H3, H5, H6, H8, H10, H11, H12, H13, H14, H15, H39, Hk⟩
  rw [cc1__tc_body_eq_skeleton]; unfold cc1__tc_body_skel
  simp only [dif_pos c2, dif_neg c3, dif_neg c4, dif_pos c5, dif_neg c6, dif_neg c7, dif_neg c8, k1_part1_eq_skeleton, k1_part10_eq_skeleton]
  unfold k1_part1_skel k1_part10_skel
  sl_exec!
  sl_step
  iapply Hk
  isplitl [H2]; · iexact H2
  isplitl [H3]; · iexact H3
  isplitl [H5]; · iexact H5
  isplitl [H6]; · iexact H6
  isplitl [H8]; · iexact H8
  isplitl [H10]; · iexact H10
  isplitl [H11]; · iexact H11
  isplitl [H12]; · iexact H12
  isplitl [H13]; · iexact H13
  isplitl [H14]; · iexact H14
  isplitl [H15]; · iexact H15
  iexists _; isplitr; swap; · iexact H39
  ipureintro
  sl_unfold_words
  have r2 : View.readAt (Elt F) M2.view (Rect.unit (s := S3200x128) ![0, 0] S3200x128.size inb_S3200x128_S3200x128_0_0).toLoadRect f2 = X2 := (View.readAt_full _ _ _).trans e2
  have r3 : View.readAt (Elt F) M3.view (Rect.unit (s := S3200x128) ![0, 0] S3200x128.size inb_S3200x128_S3200x128_0_0).toLoadRect f3 = X3 := (View.readAt_full _ _ _).trans e3
  have r51 : View.readAt (Elt F) M5.view (Rect.unit (s := S4096x16) (k1_off1 i) S128x16.size (k1_off1_inb i c2)).toLoadRect f5 = rows K.k5 i' := by
    rw [View.readAt_unit _ _ _ o1 (rows_inb i'), e5]
  unfold k1_off1 at r51
  have r65 : View.readAt (Elt F) M6.view (Rect.unit (s := S4096x16) (k1_off5 i) S128x16.size (k1_off5_inb i c5)).toLoadRect f6 = rows K.k6 i' := by
    rw [View.readAt_unit _ _ _ o5 (rows_inb i'), e6]
  unfold k1_off5 at r65
  have r8 : View.readAt (Elt F) M8.view (Rect.unit (s := S3200x128) ![0, 0] S3200x128.size inb_S3200x128_S3200x128_0_0).toLoadRect f8 = K.k8 := (View.readAt_full _ _ _).trans e8
  have r10 : View.readAt (Elt F) M10.view (Rect.unit (s := S16x128) ![0, 0] S16x128.size inb_S16x128_S16x128_0_0).toLoadRect f10 = K.k10 := (View.readAt_full _ _ _).trans e10
  have r11 : View.readAt (Elt F) M11.view (Rect.unit (s := S128x16) ![0, 0] S128x16.size inb_S128x16_S128x16_0_0).toLoadRect f11 = K.k11 := (View.readAt_full _ _ _).trans e11
  have r12 : View.readAt (Elt F) M12.view (Rect.unit (s := S16x128) ![0, 0] S16x128.size inb_S16x128_S16x128_0_0).toLoadRect f12 = K.k12 := (View.readAt_full _ _ _).trans e12
  have r13 : View.readAt (Elt F) M13.view (Rect.unit (s := S128x128) ![0, 0] S128x128.size inb_S128x128_S128x128_0_0).toLoadRect f13 = K.k13 := (View.readAt_full _ _ _).trans e13
  have r14 : View.readAt (Elt F) M14.view (Rect.unit (s := S128x128) ![0, 0] S128x128.size inb_S128x128_S128x128_0_0).toLoadRect f14 = K.k14 := (View.readAt_full _ _ _).trans e14
  have r15 : View.readAt (Elt F) M15.view (Rect.unit (s := S1x128) ![0, 0] S1x128.size inb_S1x128_S1x128_0_0).toLoadRect f15 = K.k15 := (View.readAt_full _ _ _).trans e15
  have hg : M39.view.read (Elt F) (if hc : isFirst i then M39.view.writes (Elt F) f39 [⟨Rect.unit (s := S8x16) ![0, 0] ![8, 16] inb_S8x16_S8x16_0_0, k1_pay1⟩] else f39) = if isFirst i then k1_pay1 else M39.view.read (Elt F) f39 := by
    by_cases h : isFirst i
    · rw [dif_pos h, if_pos h]; exact View.read_writes_full (s := S8x16) _ _ _ _ _
    · rw [dif_neg h, if_neg h]
  rw [← hg] at hs
  clear hg
  revert hs
  generalize (if hc : isFirst i then M39.view.writes (Elt F) f39 [⟨Rect.unit (s := S8x16) ![0, 0] ![8, 16] inb_S8x16_S8x16_0_0, k1_pay1⟩] else f39) = g
  intro hs
  have q0 : View.readAt (Elt F) M39.view (Rect.unit (s := S8x16) ![0, 0] S1x16.size inb_S8x16_S1x16_0_0).toLoadRect g = a.r0 := (View.readAt_unit _ _ _ rfl _).trans hs.e0
  have q1 : View.readAt (Elt F) M39.view (Rect.unit (s := S8x16) ![1, 0] S1x16.size inb_S8x16_S1x16_1_0).toLoadRect g = a.r1 := (View.readAt_unit _ _ _ rfl _).trans hs.e1
  have q4 : View.readAt (Elt F) M39.view (Rect.unit (s := S8x16) ![4, 0] S1x16.size inb_S8x16_S1x16_4_0).toLoadRect g = b.r0 := (View.readAt_unit _ _ _ rfl _).trans hs.e4
  have q5 : View.readAt (Elt F) M39.view (Rect.unit (s := S8x16) ![5, 0] S1x16.size inb_S8x16_S1x16_5_0).toLoadRect g = b.r1 := (View.readAt_unit _ _ _ rfl _).trans hs.e5
  simp only [r51, r65, r2, r3, r8, r10, r11, r12, r13, r14, r15, q0, q1, q4, q5, same13, same26, same48, same50, same63, same31, same55, same68, same32, same56, same69, same33, same57, same70, same34, same58, same71, same35, same59, same72, same49, same60, same61, same6, same7, same8, same62, same73, same74, same75, same76, same80, same82, same83]
  simp only [read_put, View.writes_nil]
  constructor
  · refine (row_put_ne _ 5 0 (by decide) _ _).trans ?_; refine (row_put_ne _ 4 0 (by decide) _ _).trans ?_; refine (row_put_ne _ 1 0 (by decide) _ _).trans ?_; exact row_put_same _ 0 _ _
  · refine (row_put_ne _ 5 1 (by decide) _ _).trans ?_; refine (row_put_ne _ 4 1 (by decide) _ _).trans ?_; exact row_put_same _ 1 _ _
  · refine (row_put_ne _ 5 2 (by decide) _ _).trans ?_; refine (row_put_ne _ 4 2 (by decide) _ _).trans ?_; refine (row_put_ne _ 1 2 (by decide) _ _).trans ?_; refine (row_put_ne _ 0 2 (by decide) _ _).trans ?_; exact hs.e2
  · refine (row_put_ne _ 5 3 (by decide) _ _).trans ?_; refine (row_put_ne _ 4 3 (by decide) _ _).trans ?_; refine (row_put_ne _ 1 3 (by decide) _ _).trans ?_; refine (row_put_ne _ 0 3 (by decide) _ _).trans ?_; exact hs.e3
  · refine (row_put_ne _ 5 4 (by decide) _ _).trans ?_; exact row_put_same _ 4 _ _
  · exact row_put_same _ 5 _ _
  · refine (row_put_ne _ 5 6 (by decide) _ _).trans ?_; refine (row_put_ne _ 4 6 (by decide) _ _).trans ?_; refine (row_put_ne _ 1 6 (by decide) _ _).trans ?_; refine (row_put_ne _ 0 6 (by decide) _ _).trans ?_; exact hs.e6
  · refine (row_put_ne _ 5 7 (by decide) _ _).trans ?_; refine (row_put_ne _ 4 7 (by decide) _ _).trans ?_; refine (row_put_ne _ 1 7 (by decide) _ _).trans ?_; refine (row_put_ne _ 0 7 (by decide) _ _).trans ?_; exact hs.e7

end Cert.Proof.KernelIdeal
end
-- ==== Proof.IdealTcRun1.lean ====
/-
  The dense kernel's body at a point of phase 1.
-/
module

public import proofs.«01_k».proof.Proof.IdealTcPure
public import proofs.«01_k».proof.Proof.Gen.KernelIdeal.Skeleton
public import Idealize.ShloMosaic.Lib.Tactic
public import Idealize.ShloMosaic.Lib.Pipeline.Kit

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
open Idealize.ShloMosaic.VecWindow (window put window_put_same window_put_of_disjoint)

set_option maxHeartbeats 2000000 in
theorem run_p1 (c : Dev nD) (i : grid1.Coords) (i' : Fin 32) (M2 : Memref sig .tc .vmem S3200x128 .f32) (h2 : M2.IsWhole) (M3 : Memref sig .tc .vmem S3200x128 .f32) (h3 : M3.IsWhole) (M4 : Memref sig .tc .vmem S4096x16 .f32) (h4 : M4.IsWhole) (M5 : Memref sig .tc .vmem S4096x16 .f32) (h5 : M5.IsWhole) (M6 : Memref sig .tc .vmem S4096x16 .f32) (h6 : M6.IsWhole) (M7 : Memref sig .tc .vmem S4096x2 .f32) (h7 : M7.IsWhole) (M8 : Memref sig .tc .vmem S3200x128 .f32) (h8 : M8.IsWhole) (M9 : Memref sig .tc .vmem S3200x128 .f32) (h9 : M9.IsWhole) (M10 : Memref sig .tc .vmem S16x128 .f32) (h10 : M10.IsWhole) (M11 : Memref sig .tc .vmem S128x16 .f32) (h11 : M11.IsWhole) (M12 : Memref sig .tc .vmem S16x128 .f32) (h12 : M12.IsWhole) (M13 : Memref sig .tc .vmem S128x128 .f32) (h13 : M13.IsWhole) (M14 : Memref sig .tc .vmem S128x128 .f32) (h14 : M14.IsWhole) (M15 : Memref sig .tc .vmem S1x128 .f32) (h15 : M15.IsWhole) (M16 : Memref sig .tc .vmem S1x16 .f32) (h16 : M16.IsWhole) (M17 : Memref sig .tc .vmem S1x16 .f32) (h17 : M17.IsWhole) (M18 : Memref sig .tc .vmem S1x128 .f32) (h18 : M18.IsWhole) (M19 : Memref sig .tc .vmem S128x128 .f32) (h19 : M19.IsWhole) (M20 : Memref sig .tc .vmem S1x128 .f32) (h20 : M20.IsWhole) (M21 : Memref sig .tc .vmem S1x16 .f32) (h21 : M21.IsWhole) (M22 : Memref sig .tc .vmem S1x16 .f32) (h22 : M22.IsWhole) (M23 : Memref sig .tc .vmem S1x128 .f32) (h23 : M23.IsWhole) (M24 : Memref sig .tc .vmem S128x128 .f32) (h24 : M24.IsWhole) (M25 : Memref sig .tc .vmem S1x1 .f32) (h25 : M25.IsWhole) (M26 : Memref sig .tc .vmem S80x32 .f32) (h26 : M26.IsWhole) (M27 : Memref sig .tc .vmem S1x32 .f32) (h27 : M27.IsWhole) (M28 : Memref sig .tc .vmem S1x32 .f32) (h28 : M28.IsWhole) (M29 : Memref sig .tc .vmem S1x32 .f32) (h29 : M29.IsWhole) (M30 : Memref sig .tc .vmem S1x32 .f32) (h30 : M30.IsWhole) (M31 : Memref sig .tc .vmem S32x16 .f32) (h31 : M31.IsWhole) (M32 : Memref sig .tc .vmem S1x16 .f32) (h32 : M32.IsWhole) (M33 : Memref sig .tc .vmem S1x16 .f32) (h33 : M33.IsWhole) (M34 : Memref sig .tc .vmem S1x16 .f32) (h34 : M34.IsWhole) (M35 : Memref sig .tc .vmem S1x16 .f32) (h35 : M35.IsWhole) (M36 : Memref sig .tc .vmem S16x1 .f32) (h36 : M36.IsWhole) (M37 : Memref sig .tc .vmem S1x1 .f32) (h37 : M37.IsWhole) (M38 : Memref sig .tc .vmem S4096x1 .f32) (h38 : M38.IsWhole) (M39 : Memref sig .tc .vmem S8x16 .f32) (h39 : M39.IsWhole) (M40 : Memref sig .tc .vmem S4096x16 .f32) (h40 : M40.IsWhole) (M41 : Memref sig .tc .vmem S4096x16 .f32) (h41 : M41.IsWhole)
  (f2 : Buf (Elt F) (M2.view.loc (c : Thread nD τ))) (f3 : Buf (Elt F) (M3.view.loc (c : Thread nD τ))) (f5 : Buf (Elt F) (M5.view.loc (c : Thread nD τ))) (f6 : Buf (Elt F) (M6.view.loc (c : Thread nD τ))) (f8 : Buf (Elt F) (M8.view.loc (c : Thread nD τ))) (f10 : Buf (Elt F) (M10.view.loc (c : Thread nD τ))) (f11 : Buf (Elt F) (M11.view.loc (c : Thread nD τ))) (f12 : Buf (Elt F) (M12.view.loc (c : Thread nD τ))) (f13 : Buf (Elt F) (M13.view.loc (c : Thread nD τ))) (f14 : Buf (Elt F) (M14.view.loc (c : Thread nD τ))) (f15 : Buf (Elt F) (M15.view.loc (c : Thread nD τ))) (f16 : Buf (Elt F) (M16.view.loc (c : Thread nD τ))) (f17 : Buf (Elt F) (M17.view.loc (c : Thread nD τ))) (f18 : Buf (Elt F) (M18.view.loc (c : Thread nD τ))) (f19 : Buf (Elt F) (M19.view.loc (c : Thread nD τ))) (f20 : Buf (Elt F) (M20.view.loc (c : Thread nD τ))) (f39 : Buf (Elt F) (M39.view.loc (c : Thread nD τ))) (K : Win F) (X2 X3 : Vec F S3200x128 .f32)
  (e2 : M2.view.read (Elt F) f2 = X2) (e3 : M3.view.read (Elt F) f3 = X3) (e5 : M5.view.read (Elt F) f5 = K.k5) (e6 : M6.view.read (Elt F) f6 = K.k6) (e8 : M8.view.read (Elt F) f8 = K.k8) (e10 : M10.view.read (Elt F) f10 = K.k10) (e11 : M11.view.read (Elt F) f11 = K.k11) (e12 : M12.view.read (Elt F) f12 = K.k12) (e13 : M13.view.read (Elt F) f13 = K.k13) (e14 : M14.view.read (Elt F) f14 = K.k14) (e15 : M15.view.read (Elt F) f15 = K.k15) (e16 : M16.view.read (Elt F) f16 = K.k16) (e17 : M17.view.read (Elt F) f17 = K.k17) (e18 : M18.view.read (Elt F) f18 = K.k18) (e19 : M19.view.read (Elt F) f19 = K.k19) (e20 : M20.view.read (Elt F) f20 = K.k20)
  (a b : Tower F) (hf : ¬ isFirst i) (hs : Rel (M39.view.read (Elt F) f39) a b) (o2 : k1_off2 i = ![128 * i'.val, 0]) (o6 : k1_off6 i = ![128 * i'.val, 0])
  (c2 : ¬ k1_cond2 i = 1#1) (c3 : k1_cond3 i = 1#1) (c4 : ¬ k1_cond4 i = 1#1) (c5 : ¬ k1_cond5 i = 1#1) (c6 : k1_cond6 i = 1#1) (c7 : ¬ k1_cond7 i = 1#1) (c8 : ¬ k1_cond8 i = 1#1)
  (Q : PUnit → sProp 𝕄) :
    iprop(pt c M2 f2 ∗ pt c M3 f3 ∗ pt c M5 f5 ∗ pt c M6 f6 ∗ pt c M8 f8 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M39 f39
 ∗ (iprop(pt c M2 f2 ∗ pt c M3 f3 ∗ pt c M5 f5 ∗ pt c M6 f6 ∗ pt c M8 f8 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ (∃ f, ⌜Rel (M39.view.read (Elt F) f) (step1 K X2 (rows K.k5 i') a) (step1 K X3 (rows K.k6 i') b)⌝ ∗ pt c M39 f)) -∗ Q ⟨⟩))
 ⊢ wp frame (wpE (defs₀ (F := F)) 𝒱₀ c none) Set.univ (cc1__tc_body i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 M35 h35 M36 h36 M37 h37 M38 h38 M39 h39 M40 h40 M41 h41) Q := by
  iintro ⟨H2, H3, H5, H6, H8, H10, H11, H12, H13, H14, H15, H16, H17, H18, H19, H20, H39, Hk⟩
  rw [cc1__tc_body_eq_skeleton]; unfold cc1__tc_body_skel
  simp only [dif_neg c2, dif_pos c3, dif_neg c4, dif_neg c5, dif_pos c6, dif_neg c7, dif_neg c8, k1_part2_eq_skeleton, k1_part3_eq_skeleton, k1_part4_eq_skeleton, k1_part11_eq_skeleton, k1_part12_eq_skeleton, k1_part13_eq_skeleton]
  unfold k1_part2_skel k1_part3_skel k1_part4_skel k1_part11_skel k1_part12_skel k1_part13_skel
  sl_exec!
  sl_step
  iapply Hk
  isplitl [H2]; · iexact H2
  isplitl [H3]; · iexact H3
  isplitl [H5]; · iexact H5
  isplitl [H6]; · iexact H6
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexists _; isplitr; swap; · iexact H39
  ipureintro
  sl_unfold_words
  have r2 : View.readAt (Elt F) M2.view (Rect.unit (s := S3200x128) ![0, 0] S3200x128.size inb_S3200x128_S3200x128_0_0).toLoadRect f2 = X2 := (View.readAt_full _ _ _).trans e2
  have r3 : View.readAt (Elt F) M3.view (Rect.unit (s := S3200x128) ![0, 0] S3200x128.size inb_S3200x128_S3200x128_0_0).toLoadRect f3 = X3 := (View.readAt_full _ _ _).trans e3
  have r52 : View.readAt (Elt F) M5.view (Rect.unit (s := S4096x16) (k1_off2 i) S128x16.size (k1_off2_inb i c3)).toLoadRect f5 = rows K.k5 i' := by
    rw [View.readAt_unit _ _ _ o2 (rows_inb i'), e5]
  unfold k1_off2 at r52
  have r66 : View.readAt (Elt F) M6.view (Rect.unit (s := S4096x16) (k1_off6 i) S128x16.size (k1_off6_inb i c6)).toLoadRect f6 = rows K.k6 i' := by
    rw [View.readAt_unit _ _ _ o6 (rows_inb i'), e6]
  unfold k1_off6 at r66
  have r8 : View.readAt (Elt F) M8.view (Rect.unit (s := S3200x128) ![0, 0] S3200x128.size inb_S3200x128_S3200x128_0_0).toLoadRect f8 = K.k8 := (View.readAt_full _ _ _).trans e8
  have r10 : View.readAt (Elt F) M10.view (Rect.unit (s := S16x128) ![0, 0] S16x128.size inb_S16x128_S16x128_0_0).toLoadRect f10 = K.k10 := (View.readAt_full _ _ _).trans e10
  have r11 : View.readAt (Elt F) M11.view (Rect.unit (s := S128x16) ![0, 0] S128x16.size inb_S128x16_S128x16_0_0).toLoadRect f11 = K.k11 := (View.readAt_full _ _ _).trans e11
  have r12 : View.readAt (Elt F) M12.view (Rect.unit (s := S16x128) ![0, 0] S16x128.size inb_S16x128_S16x128_0_0).toLoadRect f12 = K.k12 := (View.readAt_full _ _ _).trans e12
  have r13 : View.readAt (Elt F) M13.view (Rect.unit (s := S128x128) ![0, 0] S128x128.size inb_S128x128_S128x128_0_0).toLoadRect f13 = K.k13 := (View.readAt_full _ _ _).trans e13
  have r14 : View.readAt (Elt F) M14.view (Rect.unit (s := S128x128) ![0, 0] S128x128.size inb_S128x128_S128x128_0_0).toLoadRect f14 = K.k14 := (View.readAt_full _ _ _).trans e14
  have r15 : View.readAt (Elt F) M15.view (Rect.unit (s := S1x128) ![0, 0] S1x128.size inb_S1x128_S1x128_0_0).toLoadRect f15 = K.k15 := (View.readAt_full _ _ _).trans e15
  have r16 : View.readAt (Elt F) M16.view (Rect.unit (s := S1x16) ![0, 0] S1x16.size inb_S1x16_S1x16_0_0).toLoadRect f16 = K.k16 := (View.readAt_full _ _ _).trans e16
  have r17 : View.readAt (Elt F) M17.view (Rect.unit (s := S1x16) ![0, 0] S1x16.size inb_S1x16_S1x16_0_0).toLoadRect f17 = K.k17 := (View.readAt_full _ _ _).trans e17
  have r18 : View.readAt (Elt F) M18.view (Rect.unit (s := S1x128) ![0, 0] S1x128.size inb_S1x128_S1x128_0_0).toLoadRect f18 = K.k18 := (View.readAt_full _ _ _).trans e18
  have r19 : View.readAt (Elt F) M19.view (Rect.unit (s := S128x128) ![0, 0] S128x128.size inb_S128x128_S128x128_0_0).toLoadRect f19 = K.k19 := (View.readAt_full _ _ _).trans e19
  have r20 : View.readAt (Elt F) M20.view (Rect.unit (s := S1x128) ![0, 0] S1x128.size inb_S1x128_S1x128_0_0).toLoadRect f20 = K.k20 := (View.readAt_full _ _ _).trans e20
  have hg : (if hc : isFirst i then M39.view.writes (Elt F) f39 [⟨Rect.unit (s := S8x16) ![0, 0] ![8, 16] inb_S8x16_S8x16_0_0, k1_pay1⟩] else f39) = f39 := dif_neg hf
  simp only [hg]
  have q0 : View.readAt (Elt F) M39.view (Rect.unit (s := S8x16) ![0, 0] S1x16.size inb_S8x16_S1x16_0_0).toLoadRect f39 = a.r0 := (View.readAt_unit _ _ _ rfl _).trans hs.e0
  have q1 : View.readAt (Elt F) M39.view (Rect.unit (s := S8x16) ![1, 0] S1x16.size inb_S8x16_S1x16_1_0).toLoadRect f39 = a.r1 := (View.readAt_unit _ _ _ rfl _).trans hs.e1
  have q2 : View.readAt (Elt F) M39.view (Rect.unit (s := S8x16) ![2, 0] S1x16.size inb_S8x16_S1x16_2_0).toLoadRect f39 = a.r2 := (View.readAt_unit _ _ _ rfl _).trans hs.e2
  have q3 : View.readAt (Elt F) M39.view (Rect.unit (s := S8x16) ![3, 0] S1x16.size inb_S8x16_S1x16_3_0).toLoadRect f39 = a.r3 := (View.readAt_unit _ _ _ rfl _).trans hs.e3
  have q4 : View.readAt (Elt F) M39.view (Rect.unit (s := S8x16) ![4, 0] S1x16.size inb_S8x16_S1x16_4_0).toLoadRect f39 = b.r0 := (View.readAt_unit _ _ _ rfl _).trans hs.e4
  have q5 : View.readAt (Elt F) M39.view (Rect.unit (s := S8x16) ![5, 0] S1x16.size inb_S8x16_S1x16_5_0).toLoadRect f39 = b.r1 := (View.readAt_unit _ _ _ rfl _).trans hs.e5
  have q6 : View.readAt (Elt F) M39.view (Rect.unit (s := S8x16) ![6, 0] S1x16.size inb_S8x16_S1x16_6_0).toLoadRect f39 = b.r2 := (View.readAt_unit _ _ _ rfl _).trans hs.e6
  have q7 : View.readAt (Elt F) M39.view (Rect.unit (s := S8x16) ![7, 0] S1x16.size inb_S8x16_S1x16_7_0).toLoadRect f39 = b.r3 := (View.readAt_unit _ _ _ rfl _).trans hs.e7
  simp only [r52, r66, r2, r3, r8, r10, r11, r12, r13, r14, r15, r16, r17, r18, r19, r20, q0, q1, q2, q3, q4, q5, q6, q7, same13, same26, same48, same50, same63, same31, same55, same68, same32, same56, same69, same33, same57, same70, same34, same58, same71, same35, same59, same72, same49, same60, same61, same6, same7, same8, same62, same73, same74, same75, same76, same80, same82, same83]
  simp only [read_put, View.writes_nil]
  constructor
  · refine (row_put_ne _ 7 0 (by decide) _ _).trans ?_; refine (row_put_ne _ 6 0 (by decide) _ _).trans ?_; refine (row_put_ne _ 3 0 (by decide) _ _).trans ?_; refine (row_put_ne _ 2 0 (by decide) _ _).trans ?_; exact hs.e0
  · refine (row_put_ne _ 7 1 (by decide) _ _).trans ?_; refine (row_put_ne _ 6 1 (by decide) _ _).trans ?_; refine (row_put_ne _ 3 1 (by decide) _ _).trans ?_; refine (row_put_ne _ 2 1 (by decide) _ _).trans ?_; exact hs.e1
  · refine (row_put_ne _ 7 2 (by decide) _ _).trans ?_; refine (row_put_ne _ 6 2 (by decide) _ _).trans ?_; refine (row_put_ne _ 3 2 (by decide) _ _).trans ?_; exact row_put_same _ 2 _ _
  · refine (row_put_ne _ 7 3 (by decide) _ _).trans ?_; refine (row_put_ne _ 6 3 (by decide) _ _).trans ?_; exact row_put_same _ 3 _ _
  · refine (row_put_ne _ 7 4 (by decide) _ _).trans ?_; refine (row_put_ne _ 6 4 (by decide) _ _).trans ?_; refine (row_put_ne _ 3 4 (by decide) _ _).trans ?_; refine (row_put_ne _ 2 4 (by decide) _ _).trans ?_; exact hs.e4
  · refine (row_put_ne _ 7 5 (by decide) _ _).trans ?_; refine (row_put_ne _ 6 5 (by decide) _ _).trans ?_; refine (row_put_ne _ 3 5 (by decide) _ _).trans ?_; refine (row_put_ne _ 2 5 (by decide) _ _).trans ?_; exact hs.e5
  · refine (row_put_ne _ 7 6 (by decide) _ _).trans ?_; exact row_put_same _ 6 _ _
  · exact row_put_same _ 7 _ _

end Cert.Proof.KernelIdeal
end
-- ==== Proof.IdealTcRun2.lean ====
/-
  The dense kernel's body at a point of phase 2.
-/
module

public import proofs.«01_k».proof.Proof.IdealTcPure
public import proofs.«01_k».proof.Proof.Gen.KernelIdeal.Skeleton
public import Idealize.ShloMosaic.Lib.Tactic
public import Idealize.ShloMosaic.Lib.Pipeline.Kit

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
open Idealize.ShloMosaic.VecWindow (window put window_put_same window_put_of_disjoint)

set_option maxHeartbeats 2000000 in
theorem run_p2 (c : Dev nD) (i : grid1.Coords) (i' : Fin 32) (M2 : Memref sig .tc .vmem S3200x128 .f32) (h2 : M2.IsWhole) (M3 : Memref sig .tc .vmem S3200x128 .f32) (h3 : M3.IsWhole) (M4 : Memref sig .tc .vmem S4096x16 .f32) (h4 : M4.IsWhole) (M5 : Memref sig .tc .vmem S4096x16 .f32) (h5 : M5.IsWhole) (M6 : Memref sig .tc .vmem S4096x16 .f32) (h6 : M6.IsWhole) (M7 : Memref sig .tc .vmem S4096x2 .f32) (h7 : M7.IsWhole) (M8 : Memref sig .tc .vmem S3200x128 .f32) (h8 : M8.IsWhole) (M9 : Memref sig .tc .vmem S3200x128 .f32) (h9 : M9.IsWhole) (M10 : Memref sig .tc .vmem S16x128 .f32) (h10 : M10.IsWhole) (M11 : Memref sig .tc .vmem S128x16 .f32) (h11 : M11.IsWhole) (M12 : Memref sig .tc .vmem S16x128 .f32) (h12 : M12.IsWhole) (M13 : Memref sig .tc .vmem S128x128 .f32) (h13 : M13.IsWhole) (M14 : Memref sig .tc .vmem S128x128 .f32) (h14 : M14.IsWhole) (M15 : Memref sig .tc .vmem S1x128 .f32) (h15 : M15.IsWhole) (M16 : Memref sig .tc .vmem S1x16 .f32) (h16 : M16.IsWhole) (M17 : Memref sig .tc .vmem S1x16 .f32) (h17 : M17.IsWhole) (M18 : Memref sig .tc .vmem S1x128 .f32) (h18 : M18.IsWhole) (M19 : Memref sig .tc .vmem S128x128 .f32) (h19 : M19.IsWhole) (M20 : Memref sig .tc .vmem S1x128 .f32) (h20 : M20.IsWhole) (M21 : Memref sig .tc .vmem S1x16 .f32) (h21 : M21.IsWhole) (M22 : Memref sig .tc .vmem S1x16 .f32) (h22 : M22.IsWhole) (M23 : Memref sig .tc .vmem S1x128 .f32) (h23 : M23.IsWhole) (M24 : Memref sig .tc .vmem S128x128 .f32) (h24 : M24.IsWhole) (M25 : Memref sig .tc .vmem S1x1 .f32) (h25 : M25.IsWhole) (M26 : Memref sig .tc .vmem S80x32 .f32) (h26 : M26.IsWhole) (M27 : Memref sig .tc .vmem S1x32 .f32) (h27 : M27.IsWhole) (M28 : Memref sig .tc .vmem S1x32 .f32) (h28 : M28.IsWhole) (M29 : Memref sig .tc .vmem S1x32 .f32) (h29 : M29.IsWhole) (M30 : Memref sig .tc .vmem S1x32 .f32) (h30 : M30.IsWhole) (M31 : Memref sig .tc .vmem S32x16 .f32) (h31 : M31.IsWhole) (M32 : Memref sig .tc .vmem S1x16 .f32) (h32 : M32.IsWhole) (M33 : Memref sig .tc .vmem S1x16 .f32) (h33 : M33.IsWhole) (M34 : Memref sig .tc .vmem S1x16 .f32) (h34 : M34.IsWhole) (M35 : Memref sig .tc .vmem S1x16 .f32) (h35 : M35.IsWhole) (M36 : Memref sig .tc .vmem S16x1 .f32) (h36 : M36.IsWhole) (M37 : Memref sig .tc .vmem S1x1 .f32) (h37 : M37.IsWhole) (M38 : Memref sig .tc .vmem S4096x1 .f32) (h38 : M38.IsWhole) (M39 : Memref sig .tc .vmem S8x16 .f32) (h39 : M39.IsWhole) (M40 : Memref sig .tc .vmem S4096x16 .f32) (h40 : M40.IsWhole) (M41 : Memref sig .tc .vmem S4096x16 .f32) (h41 : M41.IsWhole)
  (f2 : Buf (Elt F) (M2.view.loc (c : Thread nD τ))) (f3 : Buf (Elt F) (M3.view.loc (c : Thread nD τ))) (f4 : Buf (Elt F) (M4.view.loc (c : Thread nD τ))) (f5 : Buf (Elt F) (M5.view.loc (c : Thread nD τ))) (f6 : Buf (Elt F) (M6.view.loc (c : Thread nD τ))) (f7 : Buf (Elt F) (M7.view.loc (c : Thread nD τ))) (f8 : Buf (Elt F) (M8.view.loc (c : Thread nD τ))) (f9 : Buf (Elt F) (M9.view.loc (c : Thread nD τ))) (f10 : Buf (Elt F) (M10.view.loc (c : Thread nD τ))) (f11 : Buf (Elt F) (M11.view.loc (c : Thread nD τ))) (f12 : Buf (Elt F) (M12.view.loc (c : Thread nD τ))) (f13 : Buf (Elt F) (M13.view.loc (c : Thread nD τ))) (f14 : Buf (Elt F) (M14.view.loc (c : Thread nD τ))) (f15 : Buf (Elt F) (M15.view.loc (c : Thread nD τ))) (f16 : Buf (Elt F) (M16.view.loc (c : Thread nD τ))) (f17 : Buf (Elt F) (M17.view.loc (c : Thread nD τ))) (f18 : Buf (Elt F) (M18.view.loc (c : Thread nD τ))) (f19 : Buf (Elt F) (M19.view.loc (c : Thread nD τ))) (f20 : Buf (Elt F) (M20.view.loc (c : Thread nD τ))) (f21 : Buf (Elt F) (M21.view.loc (c : Thread nD τ))) (f22 : Buf (Elt F) (M22.view.loc (c : Thread nD τ))) (f23 : Buf (Elt F) (M23.view.loc (c : Thread nD τ))) (f24 : Buf (Elt F) (M24.view.loc (c : Thread nD τ))) (f25 : Buf (Elt F) (M25.view.loc (c : Thread nD τ))) (f26 : Buf (Elt F) (M26.view.loc (c : Thread nD τ))) (f27 : Buf (Elt F) (M27.view.loc (c : Thread nD τ))) (f28 : Buf (Elt F) (M28.view.loc (c : Thread nD τ))) (f29 : Buf (Elt F) (M29.view.loc (c : Thread nD τ))) (f30 : Buf (Elt F) (M30.view.loc (c : Thread nD τ))) (f31 : Buf (Elt F) (M31.view.loc (c : Thread nD τ))) (f32 : Buf (Elt F) (M32.view.loc (c : Thread nD τ))) (f33 : Buf (Elt F) (M33.view.loc (c : Thread nD τ))) (f34 : Buf (Elt F) (M34.view.loc (c : Thread nD τ))) (f35 : Buf (Elt F) (M35.view.loc (c : Thread nD τ))) (f36 : Buf (Elt F) (M36.view.loc (c : Thread nD τ))) (f37 : Buf (Elt F) (M37.view.loc (c : Thread nD τ))) (f39 : Buf (Elt F) (M39.view.loc (c : Thread nD τ))) (f40 : Buf (Elt F) (M40.view.loc (c : Thread nD τ))) (f41 : Buf (Elt F) (M41.view.loc (c : Thread nD τ))) (f38 : Buf (Elt F) (M38.view.loc (c : Thread nD τ))) (K : Win F) (X2 X3 : Vec F S3200x128 .f32)
  (e2 : M2.view.read (Elt F) f2 = X2) (e3 : M3.view.read (Elt F) f3 = X3) (e4 : M4.view.read (Elt F) f4 = K.k4) (e5 : M5.view.read (Elt F) f5 = K.k5) (e6 : M6.view.read (Elt F) f6 = K.k6) (e7 : M7.view.read (Elt F) f7 = K.k7) (e8 : M8.view.read (Elt F) f8 = K.k8) (e9 : M9.view.read (Elt F) f9 = K.k9) (e10 : M10.view.read (Elt F) f10 = K.k10) (e11 : M11.view.read (Elt F) f11 = K.k11) (e12 : M12.view.read (Elt F) f12 = K.k12) (e13 : M13.view.read (Elt F) f13 = K.k13) (e14 : M14.view.read (Elt F) f14 = K.k14) (e15 : M15.view.read (Elt F) f15 = K.k15) (e16 : M16.view.read (Elt F) f16 = K.k16) (e17 : M17.view.read (Elt F) f17 = K.k17) (e18 : M18.view.read (Elt F) f18 = K.k18) (e19 : M19.view.read (Elt F) f19 = K.k19) (e20 : M20.view.read (Elt F) f20 = K.k20) (e21 : M21.view.read (Elt F) f21 = K.k21) (e22 : M22.view.read (Elt F) f22 = K.k22) (e23 : M23.view.read (Elt F) f23 = K.k23) (e24 : M24.view.read (Elt F) f24 = K.k24) (e25 : M25.view.read (Elt F) f25 = K.k25) (e26 : M26.view.read (Elt F) f26 = K.k26) (e27 : M27.view.read (Elt F) f27 = K.k27) (e28 : M28.view.read (Elt F) f28 = K.k28) (e29 : M29.view.read (Elt F) f29 = K.k29) (e30 : M30.view.read (Elt F) f30 = K.k30) (e31 : M31.view.read (Elt F) f31 = K.k31) (e32 : M32.view.read (Elt F) f32 = K.k32) (e33 : M33.view.read (Elt F) f33 = K.k33) (e34 : M34.view.read (Elt F) f34 = K.k34) (e35 : M35.view.read (Elt F) f35 = K.k35) (e36 : M36.view.read (Elt F) f36 = K.k36) (e37 : M37.view.read (Elt F) f37 = K.k37)
  (a b : Tower F) (hf : ¬ isFirst i) (hs : Rel (M39.view.read (Elt F) f39) a b) (o3 : k1_off3 i = ![128 * i'.val, 0]) (o4 : k1_off4 i = ![128 * i'.val, 0]) (o7 : k1_off7 i = ![128 * i'.val, 0]) (o8 : k1_off8 i = ![128 * i'.val, 0])
  (c2 : ¬ k1_cond2 i = 1#1) (c3 : ¬ k1_cond3 i = 1#1) (c4 : k1_cond4 i = 1#1) (c5 : ¬ k1_cond5 i = 1#1) (c6 : ¬ k1_cond6 i = 1#1) (c7 : k1_cond7 i = 1#1)
  (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 f27 ∗ pt c M28 f28 ∗ pt c M29 f29 ∗ pt c M30 f30 ∗ pt c M31 f31 ∗ pt c M32 f32 ∗ pt c M33 f33 ∗ pt c M34 f34 ∗ pt c M35 f35 ∗ pt c M36 f36 ∗ pt c M37 f37 ∗ pt c M39 f39 ∗ pt c M40 f40 ∗ pt c M41 f41 ∗ pt c M38 f38
 ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 f27 ∗ pt c M28 f28 ∗ pt c M29 f29 ∗ pt c M30 f30 ∗ pt c M31 f31 ∗ pt c M32 f32 ∗ pt c M33 f33 ∗ pt c M34 f34 ∗ pt c M35 f35 ∗ pt c M36 f36 ∗ pt c M37 f37 ∗ (∃ f, ⌜Rel (M39.view.read (Elt F) f) a b⌝ ∗ pt c M39 f) ∗ (∃ f, ⌜M40.view.read (Elt F) f = put (s := S4096x16) (M40.view.read (Elt F) f40) ![128 * i'.val, 0] ![128, 16] (pool1 K X2 (rows K.k5 i') a (rows2 K.k7 i'))⌝ ∗ pt c M40 f) ∗ (∃ f, ⌜M41.view.read (Elt F) f = put (s := S4096x16) (M41.view.read (Elt F) f41) ![128 * i'.val, 0] ![128, 16] (pool2 K X3 (rows K.k6 i') b (rows2 K.k7 i'))⌝ ∗ pt c M41 f) ∗ (∃ f, ⌜k1_cond8 i = 1#1 → M38.view.read (Elt F) f = mlp K (put (s := S4096x16) (M40.view.read (Elt F) f40) ![128 * i'.val, 0] ![128, 16] (pool1 K X2 (rows K.k5 i') a (rows2 K.k7 i'))) (put (s := S4096x16) (M41.view.read (Elt F) f41) ![128 * i'.val, 0] ![128, 16] (pool2 K X3 (rows K.k6 i') b (rows2 K.k7 i')))⌝ ∗ pt c M38 f)) -∗ Q ⟨⟩))
 ⊢ wp frame (wpE (defs₀ (F := F)) 𝒱₀ c none) Set.univ (cc1__tc_body i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 M35 h35 M36 h36 M37 h37 M38 h38 M39 h39 M40 h40 M41 h41) Q := by
  iintro ⟨H2, H3, H4, H5, H6, H7, H8, H9, H10, H11, H12, H13, H14, H15, H16, H17, H18, H19, H20, H21, H22, H23, H24, H25, H26, H27, H28, H29, H30, H31, H32, H33, H34, H35, H36, H37, H39, H40, H41, H38, Hk⟩
  rw [cc1__tc_body_eq_skeleton]; unfold cc1__tc_body_skel
  simp only [dif_neg c2, dif_neg c3, dif_pos c4, dif_neg c5, dif_neg c6, dif_pos c7, k1_part5_eq_skeleton, k1_part6_eq_skeleton, k1_part7_eq_skeleton, k1_part8_eq_skeleton, k1_part9_eq_skeleton, k1_part14_eq_skeleton, k1_part15_eq_skeleton, k1_part16_eq_skeleton, k1_part17_eq_skeleton, k1_part18_eq_skeleton, k1_part19_eq_skeleton, k1_part20_eq_skeleton, k1_part21_eq_skeleton]
  unfold k1_part5_skel k1_part6_skel k1_part7_skel k1_part8_skel k1_part9_skel k1_part14_skel k1_part15_skel k1_part16_skel k1_part17_skel k1_part18_skel k1_part19_skel k1_part20_skel k1_part21_skel
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  have hg : (if hc : isFirst i then M39.view.writes (Elt F) f39 [⟨Rect.unit (s := S8x16) ![0, 0] ![8, 16] inb_S8x16_S8x16_0_0, k1_pay1⟩] else f39) = f39 := dif_neg hf
  have q0 : View.readAt (Elt F) M39.view (Rect.unit (s := S8x16) ![0, 0] S1x16.size inb_S8x16_S1x16_0_0).toLoadRect f39 = a.r0 := (View.readAt_unit _ _ _ rfl _).trans hs.e0
  have q1 : View.readAt (Elt F) M39.view (Rect.unit (s := S8x16) ![1, 0] S1x16.size inb_S8x16_S1x16_1_0).toLoadRect f39 = a.r1 := (View.readAt_unit _ _ _ rfl _).trans hs.e1
  have q2 : View.readAt (Elt F) M39.view (Rect.unit (s := S8x16) ![2, 0] S1x16.size inb_S8x16_S1x16_2_0).toLoadRect f39 = a.r2 := (View.readAt_unit _ _ _ rfl _).trans hs.e2
  have q3 : View.readAt (Elt F) M39.view (Rect.unit (s := S8x16) ![3, 0] S1x16.size inb_S8x16_S1x16_3_0).toLoadRect f39 = a.r3 := (View.readAt_unit _ _ _ rfl _).trans hs.e3
  have q4 : View.readAt (Elt F) M39.view (Rect.unit (s := S8x16) ![4, 0] S1x16.size inb_S8x16_S1x16_4_0).toLoadRect f39 = b.r0 := (View.readAt_unit _ _ _ rfl _).trans hs.e4
  have q5 : View.readAt (Elt F) M39.view (Rect.unit (s := S8x16) ![5, 0] S1x16.size inb_S8x16_S1x16_5_0).toLoadRect f39 = b.r1 := (View.readAt_unit _ _ _ rfl _).trans hs.e5
  have q6 : View.readAt (Elt F) M39.view (Rect.unit (s := S8x16) ![6, 0] S1x16.size inb_S8x16_S1x16_6_0).toLoadRect f39 = b.r2 := (View.readAt_unit _ _ _ rfl _).trans hs.e6
  have q7 : View.readAt (Elt F) M39.view (Rect.unit (s := S8x16) ![7, 0] S1x16.size inb_S8x16_S1x16_7_0).toLoadRect f39 = b.r3 := (View.readAt_unit _ _ _ rfl _).trans hs.e7
  have r2 : View.readAt (Elt F) M2.view (Rect.unit (s := S3200x128) ![0, 0] S3200x128.size inb_S3200x128_S3200x128_0_0).toLoadRect f2 = X2 := (View.readAt_full _ _ _).trans e2
  have r3 : View.readAt (Elt F) M3.view (Rect.unit (s := S3200x128) ![0, 0] S3200x128.size inb_S3200x128_S3200x128_0_0).toLoadRect f3 = X3 := (View.readAt_full _ _ _).trans e3
  have r4 : View.readAt (Elt F) M4.view (Rect.unit (s := S4096x16) ![0, 0] S4096x16.size inb_S4096x16_S4096x16_0_0).toLoadRect f4 = K.k4 := (View.readAt_full _ _ _).trans e4
  have r53 : View.readAt (Elt F) M5.view (Rect.unit (s := S4096x16) (k1_off3 i) S128x16.size (k1_off3_inb i c4)).toLoadRect f5 = rows K.k5 i' := by
    rw [View.readAt_unit _ _ _ o3 (rows_inb i'), e5]
  unfold k1_off3 at r53
  have r67 : View.readAt (Elt F) M6.view (Rect.unit (s := S4096x16) (k1_off7 i) S128x16.size (k1_off7_inb i c7)).toLoadRect f6 = rows K.k6 i' := by
    rw [View.readAt_unit _ _ _ o7 (rows_inb i'), e6]
  unfold k1_off7 at r67
  have r74 : View.readAt (Elt F) M7.view (Rect.unit (s := S4096x2) (k1_off4 i) S128x2.size (k1_off4_inb i c4)).toLoadRect f7 = rows2 K.k7 i' := by
    rw [View.readAt_unit _ _ _ o4 (rows2_inb i'), e7]
  unfold k1_off4 at r74
  have r78 : View.readAt (Elt F) M7.view (Rect.unit (s := S4096x2) (k1_off8 i) S128x2.size (k1_off8_inb i c7)).toLoadRect f7 = rows2 K.k7 i' := by
    rw [View.readAt_unit _ _ _ o8 (rows2_inb i'), e7]
  unfold k1_off8 at r78
  have r8 : View.readAt (Elt F) M8.view (Rect.unit (s := S3200x128) ![0, 0] S3200x128.size inb_S3200x128_S3200x128_0_0).toLoadRect f8 = K.k8 := (View.readAt_full _ _ _).trans e8
  have r9 : View.readAt (Elt F) M9.view (Rect.unit (s := S3200x128) ![0, 0] S3200x128.size inb_S3200x128_S3200x128_0_0).toLoadRect f9 = K.k9 := (View.readAt_full _ _ _).trans e9
  have r10 : View.readAt (Elt F) M10.view (Rect.unit (s := S16x128) ![0, 0] S16x128.size inb_S16x128_S16x128_0_0).toLoadRect f10 = K.k10 := (View.readAt_full _ _ _).trans e10
  have r11 : View.readAt (Elt F) M11.view (Rect.unit (s := S128x16) ![0, 0] S128x16.size inb_S128x16_S128x16_0_0).toLoadRect f11 = K.k11 := (View.readAt_full _ _ _).trans e11
  have r12 : View.readAt (Elt F) M12.view (Rect.unit (s := S16x128) ![0, 0] S16x128.size inb_S16x128_S16x128_0_0).toLoadRect f12 = K.k12 := (View.readAt_full _ _ _).trans e12
  have r13 : View.readAt (Elt F) M13.view (Rect.unit (s := S128x128) ![0, 0] S128x128.size inb_S128x128_S128x128_0_0).toLoadRect f13 = K.k13 := (View.readAt_full _ _ _).trans e13
  have r14 : View.readAt (Elt F) M14.view (Rect.unit (s := S128x128) ![0, 0] S128x128.size inb_S128x128_S128x128_0_0).toLoadRect f14 = K.k14 := (View.readAt_full _ _ _).trans e14
  have r15 : View.readAt (Elt F) M15.view (Rect.unit (s := S1x128) ![0, 0] S1x128.size inb_S1x128_S1x128_0_0).toLoadRect f15 = K.k15 := (View.readAt_full _ _ _).trans e15
  have r16 : View.readAt (Elt F) M16.view (Rect.unit (s := S1x16) ![0, 0] S1x16.size inb_S1x16_S1x16_0_0).toLoadRect f16 = K.k16 := (View.readAt_full _ _ _).trans e16
  have r17 : View.readAt (Elt F) M17.view (Rect.unit (s := S1x16) ![0, 0] S1x16.size inb_S1x16_S1x16_0_0).toLoadRect f17 = K.k17 := (View.readAt_full _ _ _).trans e17
  have r18 : View.readAt (Elt F) M18.view (Rect.unit (s := S1x128) ![0, 0] S1x128.size inb_S1x128_S1x128_0_0).toLoadRect f18 = K.k18 := (View.readAt_full _ _ _).trans e18
  have r19 : View.readAt (Elt F) M19.view (Rect.unit (s := S128x128) ![0, 0] S128x128.size inb_S128x128_S128x128_0_0).toLoadRect f19 = K.k19 := (View.readAt_full _ _ _).trans e19
  have r20 : View.readAt (Elt F) M20.view (Rect.unit (s := S1x128) ![0, 0] S1x128.size inb_S1x128_S1x128_0_0).toLoadRect f20 = K.k20 := (View.readAt_full _ _ _).trans e20
  have r21 : View.readAt (Elt F) M21.view (Rect.unit (s := S1x16) ![0, 0] S1x16.size inb_S1x16_S1x16_0_0).toLoadRect f21 = K.k21 := (View.readAt_full _ _ _).trans e21
  have r22 : View.readAt (Elt F) M22.view (Rect.unit (s := S1x16) ![0, 0] S1x16.size inb_S1x16_S1x16_0_0).toLoadRect f22 = K.k22 := (View.readAt_full _ _ _).trans e22
  have r23 : View.readAt (Elt F) M23.view (Rect.unit (s := S1x128) ![0, 0] S1x128.size inb_S1x128_S1x128_0_0).toLoadRect f23 = K.k23 := (View.readAt_full _ _ _).trans e23
  have r24 : View.readAt (Elt F) M24.view (Rect.unit (s := S128x128) ![0, 0] S128x128.size inb_S128x128_S128x128_0_0).toLoadRect f24 = K.k24 := (View.readAt_full _ _ _).trans e24
  have r25 : View.readAt (Elt F) M25.view (Rect.unit (s := S1x1) ![0, 0] S1x1.size inb_S1x1_S1x1_0_0).toLoadRect f25 = K.k25 := (View.readAt_full _ _ _).trans e25
  have r27 : View.readAt (Elt F) M27.view (Rect.unit (s := S1x32) ![0, 0] S1x32.size inb_S1x32_S1x32_0_0).toLoadRect f27 = K.k27 := (View.readAt_full _ _ _).trans e27
  have r28 : View.readAt (Elt F) M28.view (Rect.unit (s := S1x32) ![0, 0] S1x32.size inb_S1x32_S1x32_0_0).toLoadRect f28 = K.k28 := (View.readAt_full _ _ _).trans e28
  have r29 : View.readAt (Elt F) M29.view (Rect.unit (s := S1x32) ![0, 0] S1x32.size inb_S1x32_S1x32_0_0).toLoadRect f29 = K.k29 := (View.readAt_full _ _ _).trans e29
  have r30 : View.readAt (Elt F) M30.view (Rect.unit (s := S1x32) ![0, 0] S1x32.size inb_S1x32_S1x32_0_0).toLoadRect f30 = K.k30 := (View.readAt_full _ _ _).trans e30
  have r31 : View.readAt (Elt F) M31.view (Rect.unit (s := S32x16) ![0, 0] S32x16.size inb_S32x16_S32x16_0_0).toLoadRect f31 = K.k31 := (View.readAt_full _ _ _).trans e31
  have r32 : View.readAt (Elt F) M32.view (Rect.unit (s := S1x16) ![0, 0] S1x16.size inb_S1x16_S1x16_0_0).toLoadRect f32 = K.k32 := (View.readAt_full _ _ _).trans e32
  have r33 : View.readAt (Elt F) M33.view (Rect.unit (s := S1x16) ![0, 0] S1x16.size inb_S1x16_S1x16_0_0).toLoadRect f33 = K.k33 := (View.readAt_full _ _ _).trans e33
  have r34 : View.readAt (Elt F) M34.view (Rect.unit (s := S1x16) ![0, 0] S1x16.size inb_S1x16_S1x16_0_0).toLoadRect f34 = K.k34 := (View.readAt_full _ _ _).trans e34
  have r35 : View.readAt (Elt F) M35.view (Rect.unit (s := S1x16) ![0, 0] S1x16.size inb_S1x16_S1x16_0_0).toLoadRect f35 = K.k35 := (View.readAt_full _ _ _).trans e35
  have r36 : View.readAt (Elt F) M36.view (Rect.unit (s := S16x1) ![0, 0] S16x1.size inb_S16x1_S16x1_0_0).toLoadRect f36 = K.k36 := (View.readAt_full _ _ _).trans e36
  have r37 : View.readAt (Elt F) M37.view (Rect.unit (s := S1x1) ![0, 0] S1x1.size inb_S1x1_S1x1_0_0).toLoadRect f37 = K.k37 := (View.readAt_full _ _ _).trans e37
  have r5 : View.readAt (Elt F) M5.view (Rect.unit (s := S4096x16) ![0, 0] S4096x16.size inb_S4096x16_S4096x16_0_0).toLoadRect f5 = K.k5 := (View.readAt_full _ _ _).trans e5
  have r6 : View.readAt (Elt F) M6.view (Rect.unit (s := S4096x16) ![0, 0] S4096x16.size inb_S4096x16_S4096x16_0_0).toLoadRect f6 = K.k6 := (View.readAt_full _ _ _).trans e6
  have p0 : View.readAt (Elt F) M26.view (Rect.unit (s := S80x32) ![0, 0] S16x32.size inb_S80x32_S16x32_0_0).toLoadRect f26 = part16 K.k26 0 inb_S80x32_S16x32_0_0 := by rw [View.readAt_unit _ _ _ rfl inb_S80x32_S16x32_0_0, e26]
  have p16 : View.readAt (Elt F) M26.view (Rect.unit (s := S80x32) ![16, 0] S16x32.size inb_S80x32_S16x32_16_0).toLoadRect f26 = part16 K.k26 16 inb_S80x32_S16x32_16_0 := by rw [View.readAt_unit _ _ _ rfl inb_S80x32_S16x32_16_0, e26]
  have p32 : View.readAt (Elt F) M26.view (Rect.unit (s := S80x32) ![32, 0] S16x32.size inb_S80x32_S16x32_32_0).toLoadRect f26 = part16 K.k26 32 inb_S80x32_S16x32_32_0 := by rw [View.readAt_unit _ _ _ rfl inb_S80x32_S16x32_32_0, e26]
  have p48 : View.readAt (Elt F) M26.view (Rect.unit (s := S80x32) ![48, 0] S16x32.size inb_S80x32_S16x32_48_0).toLoadRect f26 = part16 K.k26 48 inb_S80x32_S16x32_48_0 := by rw [View.readAt_unit _ _ _ rfl inb_S80x32_S16x32_48_0, e26]
  have p64 : View.readAt (Elt F) M26.view (Rect.unit (s := S80x32) ![64, 0] S16x32.size inb_S80x32_S16x32_64_0).toLoadRect f26 = part16 K.k26 64 inb_S80x32_S16x32_64_0 := by rw [View.readAt_unit _ _ _ rfl inb_S80x32_S16x32_64_0, e26]
  clear h2 h3 h4 h5 h6 h7 h8 h9 h10 h11 h12 h13 h14 h15 h16 h17 h18 h19 h20 h21 h22 h23 h24 h25 h26 h27 h28 h29 h30 h31 h32 h33 h34 h35 h36 h37 h38 h39 h40 h41
  isplitl [H39]
  · iexists _; isplitr; swap; · iexact H39
    ipureintro; exact hg.symm ▸ hs
  isplitl [H40]
  · iexists _; isplitr; swap; · iexact H40
    ipureintro; sl_unfold_words
    simp only [hg, r53, r67, r74, r78, r2, r3, r4, r5, r6, r8, r9, r10, r11, r12, r13, r14, r15, r16, r17, r18, r19, r20, r21, r22, r23, r24, r25, r27, r28, r29, r30, r31, r32, r33, r34, r35, r36, r37, q0, q1, q2, q3, q4, q5, q6, q7, p0, p16, p32, p48, p64, same13, same26, same48, same50, same63, same31, same55, same68, same32, same56, same69, same33, same57, same70, same34, same58, same71, same35, same59, same72, same49, same60, same61, same6, same7, same8, same62, same73, same74, same75, same76, same80, same82, same83]
    exact (View.read_writes_cons_put M40.view f40 (off' := ![128 * i'.val, 0]) (k1_off3_inb i c4) (pool1 K X2 (rows K.k5 i') a (rows2 K.k7 i')) [] o3)
  isplitl [H41]
  · iexists _; isplitr; swap; · iexact H41
    ipureintro; sl_unfold_words
    simp only [hg, r53, r67, r74, r78, r2, r3, r4, r5, r6, r8, r9, r10, r11, r12, r13, r14, r15, r16, r17, r18, r19, r20, r21, r22, r23, r24, r25, r27, r28, r29, r30, r31, r32, r33, r34, r35, r36, r37, q0, q1, q2, q3, q4, q5, q6, q7, p0, p16, p32, p48, p64, same13, same26, same48, same50, same63, same31, same55, same68, same32, same56, same69, same33, same57, same70, same34, same58, same71, same35, same59, same72, same49, same60, same61, same6, same7, same8, same62, same73, same74, same75, same76, same80, same82, same83]
    exact (View.read_writes_cons_put M41.view f41 (off' := ![128 * i'.val, 0]) (k1_off7_inb i c7) (pool2 K X3 (rows K.k6 i') b (rows2 K.k7 i')) [] o7)
  iexists _; isplitr; swap; · iexact H38
  ipureintro; intro h8
  have w40 := (View.readAt_full M40.view _ inb_S4096x16_S4096x16_0_0).trans (View.read_writes_cons_put M40.view f40 (off' := ![128 * i'.val, 0]) (k1_off3_inb i c4) (pool1 K X2 (rows K.k5 i') a (rows2 K.k7 i')) [] o3)
  have w41 := (View.readAt_full M41.view _ inb_S4096x16_S4096x16_0_0).trans (View.read_writes_cons_put M41.view f41 (off' := ![128 * i'.val, 0]) (k1_off7_inb i c7) (pool2 K X3 (rows K.k6 i') b (rows2 K.k7 i')) [] o7)
  rw [dif_pos h8]
  refine (View.read_writes_full _ _ _ _ _).trans ?_
  sl_unfold_words
  simp only [hg, r53, r67, r74, r78, r2, r3, r4, r5, r6, r8, r9, r10, r11, r12, r13, r14, r15, r16, r17, r18, r19, r20, r21, r22, r23, r24, r25, r27, r28, r29, r30, r31, r32, r33, r34, r35, r36, r37, q0, q1, q2, q3, q4, q5, q6, q7, p0, p16, p32, p48, p64, same13, same26, same48, same50, same63, same31, same55, same68, same32, same56, same69, same33, same57, same70, same34, same58, same71, same35, same59, same72, same49, same60, same61, same6, same7, same8, same62, same73, same74, same75, same76, same80, same82, same83]
  exact congrArg₂ (mlp K) w40 w41

end Cert.Proof.KernelIdeal
end
-- ==== Proof.IdealTcDat.lean ====
/-
  The dense kernel's pipeline: what each window's buffer and each scratch buffer holds at every grid point, and that the
  body keeps it.
-/
module

public import proofs.«01_k».proof.Proof.IdealTcRun0
public import proofs.«01_k».proof.Proof.IdealTcRun1
public import proofs.«01_k».proof.Proof.IdealTcRun2
public import proofs.«01_k».proof.Proof.Gen.KernelIdeal.Points
public import proofs.«01_k».proof.Proof.Gen.KernelIdeal.Launch
public import Idealize.ShloMosaic.Lib.Pipeline.Regions
public import proofs.«01_k».proof.Proof.Gen.KernelIdeal.Skeleton
public import Idealize.ShloMosaic.Lib.Tactic
public import Idealize.ShloMosaic.Lib.Pipeline.Kit

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (Dat Cfg Window BodyObligation cellOf heldIn)
open Idealize.ShloMosaic.VecWindow (window put window_put_same window_put_of_disjoint)

/-! ## The grid's points -/

theorem cond2_iff : ∀ t : Fin grid1.N, k1_cond2 (grid1.coords t) = 1#1 ↔ t.val < 32 := by decide +kernel
theorem cond3_iff : ∀ t : Fin grid1.N, k1_cond3 (grid1.coords t) = 1#1 ↔ 32 ≤ t.val ∧ t.val < 64 := by decide +kernel
theorem cond4_iff : ∀ t : Fin grid1.N, k1_cond4 (grid1.coords t) = 1#1 ↔ 64 ≤ t.val := by decide +kernel
theorem cond5_iff : ∀ t : Fin grid1.N, k1_cond5 (grid1.coords t) = 1#1 ↔ t.val < 32 := by decide +kernel
theorem cond6_iff : ∀ t : Fin grid1.N, k1_cond6 (grid1.coords t) = 1#1 ↔ 32 ≤ t.val ∧ t.val < 64 := by decide +kernel
theorem cond7_iff : ∀ t : Fin grid1.N, k1_cond7 (grid1.coords t) = 1#1 ↔ 64 ≤ t.val := by decide +kernel
theorem cond8_iff : ∀ t : Fin grid1.N, k1_cond8 (grid1.coords t) = 1#1 ↔ t.val = 95 := by decide +kernel
theorem first_iff : ∀ t : Fin grid1.N, isFirst (grid1.coords t) ↔ t.val = 0 := by decide +kernel
theorem off1_eq : ∀ t : Fin grid1.N, k1_off1 (grid1.coords t) = ![128 * (t.val % 32), 0] := by decide +kernel
theorem off2_eq : ∀ t : Fin grid1.N, k1_off2 (grid1.coords t) = ![128 * (t.val % 32), 0] := by decide +kernel
theorem off3_eq : ∀ t : Fin grid1.N, k1_off3 (grid1.coords t) = ![128 * (t.val % 32), 0] := by decide +kernel
theorem off4_eq : ∀ t : Fin grid1.N, k1_off4 (grid1.coords t) = ![128 * (t.val % 32), 0] := by decide +kernel
theorem off5_eq : ∀ t : Fin grid1.N, k1_off5 (grid1.coords t) = ![128 * (t.val % 32), 0] := by decide +kernel
theorem off6_eq : ∀ t : Fin grid1.N, k1_off6 (grid1.coords t) = ![128 * (t.val % 32), 0] := by decide +kernel
theorem off7_eq : ∀ t : Fin grid1.N, k1_off7 (grid1.coords t) = ![128 * (t.val % 32), 0] := by decide +kernel
theorem off8_eq : ∀ t : Fin grid1.N, k1_off8 (grid1.coords t) = ![128 * (t.val % 32), 0] := by decide +kernel

theorem clip0 : ∀ (i : grid1.Coords) a, (cfg1.win 0).clip i a = none := by decide +kernel
theorem clip1 : ∀ (i : grid1.Coords) a, (cfg1.win 1).clip i a = none := by decide +kernel

/-! ## The values, over the arrays at the region's entry -/

variable (V : (c : Dev nD) → (b : Ref sig .tc) → Buf (Elt F) ((c : Thread nD τ).loc b)) (c : Dev nD)

/-- The windows' arrays at the region's entry. -/
abbrev arrs (w : Fin cfg1.W) : Buf (Elt F) ((cfg1.win w).arr.view.loc (c : Thread nD τ)) := V c (Pipeline.arrRef spec1 w)

theorem lt96 {n : ℕ} (h : n < 96) : n < cfg1.N := by rw [show cfg1.N = 96 from N_1]; exact h

/-- The resident windows. -/
def win : Win F where
  k4 := heldIn cfg1 (arrs V c) 2 0 (lt96 (by decide))
  k5 := heldIn cfg1 (arrs V c) 3 0 (lt96 (by decide))
  k6 := heldIn cfg1 (arrs V c) 4 0 (lt96 (by decide))
  k7 := heldIn cfg1 (arrs V c) 5 0 (lt96 (by decide))
  k8 := heldIn cfg1 (arrs V c) 6 0 (lt96 (by decide))
  k9 := heldIn cfg1 (arrs V c) 7 0 (lt96 (by decide))
  k10 := heldIn cfg1 (arrs V c) 8 0 (lt96 (by decide))
  k11 := heldIn cfg1 (arrs V c) 9 0 (lt96 (by decide))
  k12 := heldIn cfg1 (arrs V c) 10 0 (lt96 (by decide))
  k13 := heldIn cfg1 (arrs V c) 11 0 (lt96 (by decide))
  k14 := heldIn cfg1 (arrs V c) 12 0 (lt96 (by decide))
  k15 := heldIn cfg1 (arrs V c) 13 0 (lt96 (by decide))
  k16 := heldIn cfg1 (arrs V c) 14 0 (lt96 (by decide))
  k17 := heldIn cfg1 (arrs V c) 15 0 (lt96 (by decide))
  k18 := heldIn cfg1 (arrs V c) 16 0 (lt96 (by decide))
  k19 := heldIn cfg1 (arrs V c) 17 0 (lt96 (by decide))
  k20 := heldIn cfg1 (arrs V c) 18 0 (lt96 (by decide))
  k21 := heldIn cfg1 (arrs V c) 19 0 (lt96 (by decide))
  k22 := heldIn cfg1 (arrs V c) 20 0 (lt96 (by decide))
  k23 := heldIn cfg1 (arrs V c) 21 0 (lt96 (by decide))
  k24 := heldIn cfg1 (arrs V c) 22 0 (lt96 (by decide))
  k25 := heldIn cfg1 (arrs V c) 23 0 (lt96 (by decide))
  k26 := heldIn cfg1 (arrs V c) 24 0 (lt96 (by decide))
  k27 := heldIn cfg1 (arrs V c) 25 0 (lt96 (by decide))
  k28 := heldIn cfg1 (arrs V c) 26 0 (lt96 (by decide))
  k29 := heldIn cfg1 (arrs V c) 27 0 (lt96 (by decide))
  k30 := heldIn cfg1 (arrs V c) 28 0 (lt96 (by decide))
  k31 := heldIn cfg1 (arrs V c) 29 0 (lt96 (by decide))
  k32 := heldIn cfg1 (arrs V c) 30 0 (lt96 (by decide))
  k33 := heldIn cfg1 (arrs V c) 31 0 (lt96 (by decide))
  k34 := heldIn cfg1 (arrs V c) 32 0 (lt96 (by decide))
  k35 := heldIn cfg1 (arrs V c) 33 0 (lt96 (by decide))
  k36 := heldIn cfg1 (arrs V c) 34 0 (lt96 (by decide))
  k37 := heldIn cfg1 (arrs V c) 35 0 (lt96 (by decide))

/-- The first tower's block at a point, -/
def blk1 (n : ℕ) : Vec F S3200x128 .f32 := if h : n < 96 then heldIn cfg1 (arrs V c) 0 n (lt96 h) else fun _ => Scalar.ofBits .f32 0#32
/-- and the second's. -/
def blk2 (n : ℕ) : Vec F S3200x128 .f32 := if h : n < 96 then heldIn cfg1 (arrs V c) 1 n (lt96 h) else fun _ => Scalar.ofBits .f32 0#32

/-- The block row of a point. -/
abbrev rw32 (n : ℕ) : Fin 32 := ⟨n % 32, Nat.mod_lt _ (by decide)⟩

/-- The rows at the start, all zero. -/
def tower0 : Tower F where
  r0 := row k1_pay1 0 inb_S8x16_S1x16_0_0
  r1 := row k1_pay1 0 inb_S8x16_S1x16_0_0
  r2 := row k1_pay1 0 inb_S8x16_S1x16_0_0
  r3 := row k1_pay1 0 inb_S8x16_S1x16_0_0

/-- One tower's running rows before point `n`. -/
def towers (K : Win F) (X : ℕ → Vec F S3200x128 .f32) (T : Vec F S4096x16 .f32) : ℕ → Tower F
  | 0 => tower0
  | n + 1 => if n < 32 then step0 K (X n) (rows T (rw32 n)) (towers K X T n)
    else if n < 64 then step1 K (X n) (rows T (rw32 n)) (towers K X T n) else towers K X T n

abbrev tw1 (n : ℕ) : Tower F := towers (win V c) (blk1 V c) (win V c).k5 n
abbrev tw2 (n : ℕ) : Tower F := towers (win V c) (blk2 V c) (win V c).k6 n

/-- The block row a row of the batch is in, and its place there. -/
abbrev blkOf (y : S4096x16.Idx) : Fin 32 := ⟨(y 0).val / 128, Nat.div_lt_of_lt_mul (y 0).isLt⟩
abbrev inRow (y : S4096x16.Idx) : S128x16.Idx := fun a => match a with
  | ⟨0, _⟩ => ⟨(y 0).val % 128, Nat.mod_lt _ (by decide)⟩
  | ⟨1, _⟩ => ⟨(y 1).val, (y 1).isLt⟩

/-- The pooled first tower, -/
def pooled1 : Vec F S4096x16 .f32 := fun y =>
  pool1 (win V c) (blk1 V c (64 + (blkOf y).val)) (rows (win V c).k5 (blkOf y)) (tw1 V c 64) (rows2 (win V c).k7 (blkOf y)) (inRow y)
/-- and the second. -/
def pooled2 : Vec F S4096x16 .f32 := fun y =>
  pool2 (win V c) (blk2 V c (64 + (blkOf y).val)) (rows (win V c).k6 (blkOf y)) (tw2 V c 64) (rows2 (win V c).k7 (blkOf y)) (inRow y)
/-- The kernel's result. -/
def result : Vec F S4096x1 .f32 := mlp (win V c) (pooled1 V c) (pooled2 V c)

/-! ## The proof data -/

/-- What the scratch buffers hold before point `n`. -/
def Φc (n : ℕ) : sProp 𝕄 :=
  iprop(∃ f39 : Buf (Elt F) ((Memref.whole cc1_scratch0).view.loc (c : Thread nD τ)), ∃ f40 : Buf (Elt F) ((Memref.whole cc1_scratch1).view.loc (c : Thread nD τ)),
    ∃ f41 : Buf (Elt F) ((Memref.whole cc1_scratch2).view.loc (c : Thread nD τ)),
    ⌜(0 < n → Rel ((Memref.whole cc1_scratch0).view.read (Elt F) f39) (tw1 V c n) (tw2 V c n))
      ∧ (∀ y : S4096x16.Idx, (y 0).val < 128 * (n - 64) → (Memref.whole cc1_scratch1).view.read (Elt F) f40 y = pooled1 V c y)
      ∧ (∀ y : S4096x16.Idx, (y 0).val < 128 * (n - 64) → (Memref.whole cc1_scratch2).view.read (Elt F) f41 y = pooled2 V c y)⌝
    ∗ pt c (Memref.whole cc1_scratch0) f39 ∗ pt c (Memref.whole cc1_scratch1) f40 ∗ pt c (Memref.whole cc1_scratch2) f41)

/-- The proof data on core `c`: arrays at their entry contents, inputs left as fetched, the result at its value. -/
def dats (_ : Fin 1) (c : Dev nD) : Dat τ (Elt F) (HIx 1) ℕ UU ℕ cfg1 c where
  A w := V c (Pipeline.arrRef spec1 w)
  after w t := match w with
    | ⟨0, _⟩ => heldIn cfg1 (arrs V c) 0 t.val t.isLt
    | ⟨1, _⟩ => heldIn cfg1 (arrs V c) 1 t.val t.isLt
    | ⟨2, _⟩ => heldIn cfg1 (arrs V c) 2 t.val t.isLt
    | ⟨3, _⟩ => heldIn cfg1 (arrs V c) 3 t.val t.isLt
    | ⟨4, _⟩ => heldIn cfg1 (arrs V c) 4 t.val t.isLt
    | ⟨5, _⟩ => heldIn cfg1 (arrs V c) 5 t.val t.isLt
    | ⟨6, _⟩ => heldIn cfg1 (arrs V c) 6 t.val t.isLt
    | ⟨7, _⟩ => heldIn cfg1 (arrs V c) 7 t.val t.isLt
    | ⟨8, _⟩ => heldIn cfg1 (arrs V c) 8 t.val t.isLt
    | ⟨9, _⟩ => heldIn cfg1 (arrs V c) 9 t.val t.isLt
    | ⟨10, _⟩ => heldIn cfg1 (arrs V c) 10 t.val t.isLt
    | ⟨11, _⟩ => heldIn cfg1 (arrs V c) 11 t.val t.isLt
    | ⟨12, _⟩ => heldIn cfg1 (arrs V c) 12 t.val t.isLt
    | ⟨13, _⟩ => heldIn cfg1 (arrs V c) 13 t.val t.isLt
    | ⟨14, _⟩ => heldIn cfg1 (arrs V c) 14 t.val t.isLt
    | ⟨15, _⟩ => heldIn cfg1 (arrs V c) 15 t.val t.isLt
    | ⟨16, _⟩ => heldIn cfg1 (arrs V c) 16 t.val t.isLt
    | ⟨17, _⟩ => heldIn cfg1 (arrs V c) 17 t.val t.isLt
    | ⟨18, _⟩ => heldIn cfg1 (arrs V c) 18 t.val t.isLt
    | ⟨19, _⟩ => heldIn cfg1 (arrs V c) 19 t.val t.isLt
    | ⟨20, _⟩ => heldIn cfg1 (arrs V c) 20 t.val t.isLt
    | ⟨21, _⟩ => heldIn cfg1 (arrs V c) 21 t.val t.isLt
    | ⟨22, _⟩ => heldIn cfg1 (arrs V c) 22 t.val t.isLt
    | ⟨23, _⟩ => heldIn cfg1 (arrs V c) 23 t.val t.isLt
    | ⟨24, _⟩ => heldIn cfg1 (arrs V c) 24 t.val t.isLt
    | ⟨25, _⟩ => heldIn cfg1 (arrs V c) 25 t.val t.isLt
    | ⟨26, _⟩ => heldIn cfg1 (arrs V c) 26 t.val t.isLt
    | ⟨27, _⟩ => heldIn cfg1 (arrs V c) 27 t.val t.isLt
    | ⟨28, _⟩ => heldIn cfg1 (arrs V c) 28 t.val t.isLt
    | ⟨29, _⟩ => heldIn cfg1 (arrs V c) 29 t.val t.isLt
    | ⟨30, _⟩ => heldIn cfg1 (arrs V c) 30 t.val t.isLt
    | ⟨31, _⟩ => heldIn cfg1 (arrs V c) 31 t.val t.isLt
    | ⟨32, _⟩ => heldIn cfg1 (arrs V c) 32 t.val t.isLt
    | ⟨33, _⟩ => heldIn cfg1 (arrs V c) 33 t.val t.isLt
    | ⟨34, _⟩ => heldIn cfg1 (arrs V c) 34 t.val t.isLt
    | ⟨35, _⟩ => heldIn cfg1 (arrs V c) 35 t.val t.isLt
    | ⟨36, _⟩ => result V c
    | ⟨_ + 37, h⟩ => absurd h (Nat.not_lt.2 (Nat.le_add_left _ _))
  Φ t := Φc V c t.val
  q w := Pipeline.shareOf spec1 w
  owed _ := 0

theorem A_eq (w : Fin cfg1.W) : (dats V 0 c).A w = V c (Pipeline.arrRef spec1 w) := by dsimp only [dats]
theorem A_fun : (dats V 0 c).A = arrs V c := by dsimp only [dats]

/-- A resident window's buffer holds at every point what it held at the first. -/
theorem held_res (w : Fin cfg1.W) (hf : ∀ t : Fin cfg1.N, (cfg1.win w).fetch t = true ↔ t.val % 96 = 0) :
    ∀ (n : ℕ) (h : n < cfg1.N), heldIn cfg1 (arrs V c) w n h = heldIn cfg1 (arrs V c) w 0 (lt96 (by decide))
  | 0, _ => rfl
  | n + 1, h => by
    have h96 : n + 1 < 96 := by rw [← show cfg1.N = 96 from N_1]; exact h
    rw [Pipeline.heldIn_of_not_fetch (arrs V c) w n h (by
      rw [Bool.eq_false_iff]; intro e; have := (hf ⟨n + 1, h⟩).mp e; simp only at this; omega)]
    exact held_res w hf n _

theorem before0 (t : Fin cfg1.N) : ∀ d, (dats V 0 c).before 0 t d = blk1 V c t.val := by
  have ht : t.val < 96 := Nat.lt_of_lt_of_eq t.isLt N_1
  intro d
  refine ((dats V 0 c).before_eq_heldIn 0 rfl (fun _ => rfl) clip0 (fun _ => by dsimp only [dats]) t d).trans ?_
  unfold blk1; rw [dif_pos ht]; dsimp only [dats]
theorem after0 (t : Fin cfg1.N) : (dats V 0 c).after 0 t = blk1 V c t.val := by
  have h := before0 V c t (fun _ => Scalar.ofBits .f32 0#32)
  rw [(dats V 0 c).before_eq_heldIn 0 rfl (fun _ => rfl) clip0 (fun _ => by dsimp only [dats]) t] at h
  exact (show (dats V 0 c).after 0 t = heldIn cfg1 (dats V 0 c).A 0 t.val t.isLt by dsimp only [dats]).trans h
theorem before1 (t : Fin cfg1.N) : ∀ d, (dats V 0 c).before 1 t d = blk2 V c t.val := by
  have ht : t.val < 96 := Nat.lt_of_lt_of_eq t.isLt N_1
  intro d
  refine ((dats V 0 c).before_eq_heldIn 1 rfl (fun _ => rfl) clip1 (fun _ => by dsimp only [dats]) t d).trans ?_
  unfold blk2; rw [dif_pos ht]; dsimp only [dats]
theorem after1 (t : Fin cfg1.N) : (dats V 0 c).after 1 t = blk2 V c t.val := by
  have h := before1 V c t (fun _ => Scalar.ofBits .f32 0#32)
  rw [(dats V 0 c).before_eq_heldIn 1 rfl (fun _ => rfl) clip1 (fun _ => by dsimp only [dats]) t] at h
  exact (show (dats V 0 c).after 1 t = heldIn cfg1 (dats V 0 c).A 1 t.val t.isLt by dsimp only [dats]).trans h
theorem before2 (t : Fin cfg1.N) : ∀ d, (dats V 0 c).before 2 t d = (win V c).k4 := by
  have ht : t.val < 96 := Nat.lt_of_lt_of_eq t.isLt N_1
  intro d
  refine ((dats V 0 c).before_eq_heldIn 2 rfl (fun _ => rfl) (fun _ _ => rfl) (fun _ => by dsimp only [dats]) t d).trans ?_
  exact held_res V c 2 fetch1_2 t.val t.isLt
theorem after2 (t : Fin cfg1.N) : (dats V 0 c).after 2 t = (win V c).k4 := by
  have h := before2 V c t (fun _ => Scalar.ofBits .f32 0#32)
  rw [(dats V 0 c).before_eq_heldIn 2 rfl (fun _ => rfl) (fun _ _ => rfl) (fun _ => by dsimp only [dats]) t] at h
  exact (show (dats V 0 c).after 2 t = heldIn cfg1 (dats V 0 c).A 2 t.val t.isLt by dsimp only [dats]).trans h
theorem before3 (t : Fin cfg1.N) : ∀ d, (dats V 0 c).before 3 t d = (win V c).k5 := by
  have ht : t.val < 96 := Nat.lt_of_lt_of_eq t.isLt N_1
  intro d
  refine ((dats V 0 c).before_eq_heldIn 3 rfl (fun _ => rfl) (fun _ _ => rfl) (fun _ => by dsimp only [dats]) t d).trans ?_
  exact held_res V c 3 fetch1_3 t.val t.isLt
theorem after3 (t : Fin cfg1.N) : (dats V 0 c).after 3 t = (win V c).k5 := by
  have h := before3 V c t (fun _ => Scalar.ofBits .f32 0#32)
  rw [(dats V 0 c).before_eq_heldIn 3 rfl (fun _ => rfl) (fun _ _ => rfl) (fun _ => by dsimp only [dats]) t] at h
  exact (show (dats V 0 c).after 3 t = heldIn cfg1 (dats V 0 c).A 3 t.val t.isLt by dsimp only [dats]).trans h
theorem before4 (t : Fin cfg1.N) : ∀ d, (dats V 0 c).before 4 t d = (win V c).k6 := by
  have ht : t.val < 96 := Nat.lt_of_lt_of_eq t.isLt N_1
  intro d
  refine ((dats V 0 c).before_eq_heldIn 4 rfl (fun _ => rfl) (fun _ _ => rfl) (fun _ => by dsimp only [dats]) t d).trans ?_
  exact held_res V c 4 fetch1_4 t.val t.isLt
theorem after4 (t : Fin cfg1.N) : (dats V 0 c).after 4 t = (win V c).k6 := by
  have h := before4 V c t (fun _ => Scalar.ofBits .f32 0#32)
  rw [(dats V 0 c).before_eq_heldIn 4 rfl (fun _ => rfl) (fun _ _ => rfl) (fun _ => by dsimp only [dats]) t] at h
  exact (show (dats V 0 c).after 4 t = heldIn cfg1 (dats V 0 c).A 4 t.val t.isLt by dsimp only [dats]).trans h
theorem before5 (t : Fin cfg1.N) : ∀ d, (dats V 0 c).before 5 t d = (win V c).k7 := by
  have ht : t.val < 96 := Nat.lt_of_lt_of_eq t.isLt N_1
  intro d
  refine ((dats V 0 c).before_eq_heldIn 5 rfl (fun _ => rfl) (fun _ _ => rfl) (fun _ => by dsimp only [dats]) t d).trans ?_
  exact held_res V c 5 fetch1_5 t.val t.isLt
theorem after5 (t : Fin cfg1.N) : (dats V 0 c).after 5 t = (win V c).k7 := by
  have h := before5 V c t (fun _ => Scalar.ofBits .f32 0#32)
  rw [(dats V 0 c).before_eq_heldIn 5 rfl (fun _ => rfl) (fun _ _ => rfl) (fun _ => by dsimp only [dats]) t] at h
  exact (show (dats V 0 c).after 5 t = heldIn cfg1 (dats V 0 c).A 5 t.val t.isLt by dsimp only [dats]).trans h
theorem before6 (t : Fin cfg1.N) : ∀ d, (dats V 0 c).before 6 t d = (win V c).k8 := by
  have ht : t.val < 96 := Nat.lt_of_lt_of_eq t.isLt N_1
  intro d
  refine ((dats V 0 c).before_eq_heldIn 6 rfl (fun _ => rfl) (fun _ _ => rfl) (fun _ => by dsimp only [dats]) t d).trans ?_
  exact held_res V c 6 fetch1_6 t.val t.isLt
theorem after6 (t : Fin cfg1.N) : (dats V 0 c).after 6 t = (win V c).k8 := by
  have h := before6 V c t (fun _ => Scalar.ofBits .f32 0#32)
  rw [(dats V 0 c).before_eq_heldIn 6 rfl (fun _ => rfl) (fun _ _ => rfl) (fun _ => by dsimp only [dats]) t] at h
  exact (show (dats V 0 c).after 6 t = heldIn cfg1 (dats V 0 c).A 6 t.val t.isLt by dsimp only [dats]).trans h
theorem before7 (t : Fin cfg1.N) : ∀ d, (dats V 0 c).before 7 t d = (win V c).k9 := by
  have ht : t.val < 96 := Nat.lt_of_lt_of_eq t.isLt N_1
  intro d
  refine ((dats V 0 c).before_eq_heldIn 7 rfl (fun _ => rfl) (fun _ _ => rfl) (fun _ => by dsimp only [dats]) t d).trans ?_
  exact held_res V c 7 fetch1_7 t.val t.isLt
theorem after7 (t : Fin cfg1.N) : (dats V 0 c).after 7 t = (win V c).k9 := by
  have h := before7 V c t (fun _ => Scalar.ofBits .f32 0#32)
  rw [(dats V 0 c).before_eq_heldIn 7 rfl (fun _ => rfl) (fun _ _ => rfl) (fun _ => by dsimp only [dats]) t] at h
  exact (show (dats V 0 c).after 7 t = heldIn cfg1 (dats V 0 c).A 7 t.val t.isLt by dsimp only [dats]).trans h
theorem before8 (t : Fin cfg1.N) : ∀ d, (dats V 0 c).before 8 t d = (win V c).k10 := by
  have ht : t.val < 96 := Nat.lt_of_lt_of_eq t.isLt N_1
  intro d
  refine ((dats V 0 c).before_eq_heldIn 8 rfl (fun _ => rfl) (fun _ _ => rfl) (fun _ => by dsimp only [dats]) t d).trans ?_
  exact held_res V c 8 fetch1_8 t.val t.isLt
theorem after8 (t : Fin cfg1.N) : (dats V 0 c).after 8 t = (win V c).k10 := by
  have h := before8 V c t (fun _ => Scalar.ofBits .f32 0#32)
  rw [(dats V 0 c).before_eq_heldIn 8 rfl (fun _ => rfl) (fun _ _ => rfl) (fun _ => by dsimp only [dats]) t] at h
  exact (show (dats V 0 c).after 8 t = heldIn cfg1 (dats V 0 c).A 8 t.val t.isLt by dsimp only [dats]).trans h
theorem before9 (t : Fin cfg1.N) : ∀ d, (dats V 0 c).before 9 t d = (win V c).k11 := by
  have ht : t.val < 96 := Nat.lt_of_lt_of_eq t.isLt N_1
  intro d
  refine ((dats V 0 c).before_eq_heldIn 9 rfl (fun _ => rfl) (fun _ _ => rfl) (fun _ => by dsimp only [dats]) t d).trans ?_
  exact held_res V c 9 fetch1_9 t.val t.isLt
theorem after9 (t : Fin cfg1.N) : (dats V 0 c).after 9 t = (win V c).k11 := by
  have h := before9 V c t (fun _ => Scalar.ofBits .f32 0#32)
  rw [(dats V 0 c).before_eq_heldIn 9 rfl (fun _ => rfl) (fun _ _ => rfl) (fun _ => by dsimp only [dats]) t] at h
  exact (show (dats V 0 c).after 9 t = heldIn cfg1 (dats V 0 c).A 9 t.val t.isLt by dsimp only [dats]).trans h
theorem before10 (t : Fin cfg1.N) : ∀ d, (dats V 0 c).before 10 t d = (win V c).k12 := by
  have ht : t.val < 96 := Nat.lt_of_lt_of_eq t.isLt N_1
  intro d
  refine ((dats V 0 c).before_eq_heldIn 10 rfl (fun _ => rfl) (fun _ _ => rfl) (fun _ => by dsimp only [dats]) t d).trans ?_
  exact held_res V c 10 fetch1_10 t.val t.isLt
theorem after10 (t : Fin cfg1.N) : (dats V 0 c).after 10 t = (win V c).k12 := by
  have h := before10 V c t (fun _ => Scalar.ofBits .f32 0#32)
  rw [(dats V 0 c).before_eq_heldIn 10 rfl (fun _ => rfl) (fun _ _ => rfl) (fun _ => by dsimp only [dats]) t] at h
  exact (show (dats V 0 c).after 10 t = heldIn cfg1 (dats V 0 c).A 10 t.val t.isLt by dsimp only [dats]).trans h
theorem before11 (t : Fin cfg1.N) : ∀ d, (dats V 0 c).before 11 t d = (win V c).k13 := by
  have ht : t.val < 96 := Nat.lt_of_lt_of_eq t.isLt N_1
  intro d
  refine ((dats V 0 c).before_eq_heldIn 11 rfl (fun _ => rfl) (fun _ _ => rfl) (fun _ => by dsimp only [dats]) t d).trans ?_
  exact held_res V c 11 fetch1_11 t.val t.isLt
theorem after11 (t : Fin cfg1.N) : (dats V 0 c).after 11 t = (win V c).k13 := by
  have h := before11 V c t (fun _ => Scalar.ofBits .f32 0#32)
  rw [(dats V 0 c).before_eq_heldIn 11 rfl (fun _ => rfl) (fun _ _ => rfl) (fun _ => by dsimp only [dats]) t] at h
  exact (show (dats V 0 c).after 11 t = heldIn cfg1 (dats V 0 c).A 11 t.val t.isLt by dsimp only [dats]).trans h
theorem before12 (t : Fin cfg1.N) : ∀ d, (dats V 0 c).before 12 t d = (win V c).k14 := by
  have ht : t.val < 96 := Nat.lt_of_lt_of_eq t.isLt N_1
  intro d
  refine ((dats V 0 c).before_eq_heldIn 12 rfl (fun _ => rfl) (fun _ _ => rfl) (fun _ => by dsimp only [dats]) t d).trans ?_
  exact held_res V c 12 fetch1_12 t.val t.isLt
theorem after12 (t : Fin cfg1.N) : (dats V 0 c).after 12 t = (win V c).k14 := by
  have h := before12 V c t (fun _ => Scalar.ofBits .f32 0#32)
  rw [(dats V 0 c).before_eq_heldIn 12 rfl (fun _ => rfl) (fun _ _ => rfl) (fun _ => by dsimp only [dats]) t] at h
  exact (show (dats V 0 c).after 12 t = heldIn cfg1 (dats V 0 c).A 12 t.val t.isLt by dsimp only [dats]).trans h
theorem before13 (t : Fin cfg1.N) : ∀ d, (dats V 0 c).before 13 t d = (win V c).k15 := by
  have ht : t.val < 96 := Nat.lt_of_lt_of_eq t.isLt N_1
  intro d
  refine ((dats V 0 c).before_eq_heldIn 13 rfl (fun _ => rfl) (fun _ _ => rfl) (fun _ => by dsimp only [dats]) t d).trans ?_
  exact held_res V c 13 fetch1_13 t.val t.isLt
theorem after13 (t : Fin cfg1.N) : (dats V 0 c).after 13 t = (win V c).k15 := by
  have h := before13 V c t (fun _ => Scalar.ofBits .f32 0#32)
  rw [(dats V 0 c).before_eq_heldIn 13 rfl (fun _ => rfl) (fun _ _ => rfl) (fun _ => by dsimp only [dats]) t] at h
  exact (show (dats V 0 c).after 13 t = heldIn cfg1 (dats V 0 c).A 13 t.val t.isLt by dsimp only [dats]).trans h
theorem before14 (t : Fin cfg1.N) : ∀ d, (dats V 0 c).before 14 t d = (win V c).k16 := by
  have ht : t.val < 96 := Nat.lt_of_lt_of_eq t.isLt N_1
  intro d
  refine ((dats V 0 c).before_eq_heldIn 14 rfl (fun _ => rfl) (fun _ _ => rfl) (fun _ => by dsimp only [dats]) t d).trans ?_
  exact held_res V c 14 fetch1_14 t.val t.isLt
theorem after14 (t : Fin cfg1.N) : (dats V 0 c).after 14 t = (win V c).k16 := by
  have h := before14 V c t (fun _ => Scalar.ofBits .f32 0#32)
  rw [(dats V 0 c).before_eq_heldIn 14 rfl (fun _ => rfl) (fun _ _ => rfl) (fun _ => by dsimp only [dats]) t] at h
  exact (show (dats V 0 c).after 14 t = heldIn cfg1 (dats V 0 c).A 14 t.val t.isLt by dsimp only [dats]).trans h
theorem before15 (t : Fin cfg1.N) : ∀ d, (dats V 0 c).before 15 t d = (win V c).k17 := by
  have ht : t.val < 96 := Nat.lt_of_lt_of_eq t.isLt N_1
  intro d
  refine ((dats V 0 c).before_eq_heldIn 15 rfl (fun _ => rfl) (fun _ _ => rfl) (fun _ => by dsimp only [dats]) t d).trans ?_
  exact held_res V c 15 fetch1_15 t.val t.isLt
theorem after15 (t : Fin cfg1.N) : (dats V 0 c).after 15 t = (win V c).k17 := by
  have h := before15 V c t (fun _ => Scalar.ofBits .f32 0#32)
  rw [(dats V 0 c).before_eq_heldIn 15 rfl (fun _ => rfl) (fun _ _ => rfl) (fun _ => by dsimp only [dats]) t] at h
  exact (show (dats V 0 c).after 15 t = heldIn cfg1 (dats V 0 c).A 15 t.val t.isLt by dsimp only [dats]).trans h
theorem before16 (t : Fin cfg1.N) : ∀ d, (dats V 0 c).before 16 t d = (win V c).k18 := by
  have ht : t.val < 96 := Nat.lt_of_lt_of_eq t.isLt N_1
  intro d
  refine ((dats V 0 c).before_eq_heldIn 16 rfl (fun _ => rfl) (fun _ _ => rfl) (fun _ => by dsimp only [dats]) t d).trans ?_
  exact held_res V c 16 fetch1_16 t.val t.isLt
theorem after16 (t : Fin cfg1.N) : (dats V 0 c).after 16 t = (win V c).k18 := by
  have h := before16 V c t (fun _ => Scalar.ofBits .f32 0#32)
  rw [(dats V 0 c).before_eq_heldIn 16 rfl (fun _ => rfl) (fun _ _ => rfl) (fun _ => by dsimp only [dats]) t] at h
  exact (show (dats V 0 c).after 16 t = heldIn cfg1 (dats V 0 c).A 16 t.val t.isLt by dsimp only [dats]).trans h
theorem before17 (t : Fin cfg1.N) : ∀ d, (dats V 0 c).before 17 t d = (win V c).k19 := by
  have ht : t.val < 96 := Nat.lt_of_lt_of_eq t.isLt N_1
  intro d
  refine ((dats V 0 c).before_eq_heldIn 17 rfl (fun _ => rfl) (fun _ _ => rfl) (fun _ => by dsimp only [dats]) t d).trans ?_
  exact held_res V c 17 fetch1_17 t.val t.isLt
theorem after17 (t : Fin cfg1.N) : (dats V 0 c).after 17 t = (win V c).k19 := by
  have h := before17 V c t (fun _ => Scalar.ofBits .f32 0#32)
  rw [(dats V 0 c).before_eq_heldIn 17 rfl (fun _ => rfl) (fun _ _ => rfl) (fun _ => by dsimp only [dats]) t] at h
  exact (show (dats V 0 c).after 17 t = heldIn cfg1 (dats V 0 c).A 17 t.val t.isLt by dsimp only [dats]).trans h
theorem before18 (t : Fin cfg1.N) : ∀ d, (dats V 0 c).before 18 t d = (win V c).k20 := by
  have ht : t.val < 96 := Nat.lt_of_lt_of_eq t.isLt N_1
  intro d
  refine ((dats V 0 c).before_eq_heldIn 18 rfl (fun _ => rfl) (fun _ _ => rfl) (fun _ => by dsimp only [dats]) t d).trans ?_
  exact held_res V c 18 fetch1_18 t.val t.isLt
theorem after18 (t : Fin cfg1.N) : (dats V 0 c).after 18 t = (win V c).k20 := by
  have h := before18 V c t (fun _ => Scalar.ofBits .f32 0#32)
  rw [(dats V 0 c).before_eq_heldIn 18 rfl (fun _ => rfl) (fun _ _ => rfl) (fun _ => by dsimp only [dats]) t] at h
  exact (show (dats V 0 c).after 18 t = heldIn cfg1 (dats V 0 c).A 18 t.val t.isLt by dsimp only [dats]).trans h
theorem before19 (t : Fin cfg1.N) : ∀ d, (dats V 0 c).before 19 t d = (win V c).k21 := by
  have ht : t.val < 96 := Nat.lt_of_lt_of_eq t.isLt N_1
  intro d
  refine ((dats V 0 c).before_eq_heldIn 19 rfl (fun _ => rfl) (fun _ _ => rfl) (fun _ => by dsimp only [dats]) t d).trans ?_
  exact held_res V c 19 fetch1_19 t.val t.isLt
theorem after19 (t : Fin cfg1.N) : (dats V 0 c).after 19 t = (win V c).k21 := by
  have h := before19 V c t (fun _ => Scalar.ofBits .f32 0#32)
  rw [(dats V 0 c).before_eq_heldIn 19 rfl (fun _ => rfl) (fun _ _ => rfl) (fun _ => by dsimp only [dats]) t] at h
  exact (show (dats V 0 c).after 19 t = heldIn cfg1 (dats V 0 c).A 19 t.val t.isLt by dsimp only [dats]).trans h
theorem before20 (t : Fin cfg1.N) : ∀ d, (dats V 0 c).before 20 t d = (win V c).k22 := by
  have ht : t.val < 96 := Nat.lt_of_lt_of_eq t.isLt N_1
  intro d
  refine ((dats V 0 c).before_eq_heldIn 20 rfl (fun _ => rfl) (fun _ _ => rfl) (fun _ => by dsimp only [dats]) t d).trans ?_
  exact held_res V c 20 fetch1_20 t.val t.isLt
theorem after20 (t : Fin cfg1.N) : (dats V 0 c).after 20 t = (win V c).k22 := by
  have h := before20 V c t (fun _ => Scalar.ofBits .f32 0#32)
  rw [(dats V 0 c).before_eq_heldIn 20 rfl (fun _ => rfl) (fun _ _ => rfl) (fun _ => by dsimp only [dats]) t] at h
  exact (show (dats V 0 c).after 20 t = heldIn cfg1 (dats V 0 c).A 20 t.val t.isLt by dsimp only [dats]).trans h
theorem before21 (t : Fin cfg1.N) : ∀ d, (dats V 0 c).before 21 t d = (win V c).k23 := by
  have ht : t.val < 96 := Nat.lt_of_lt_of_eq t.isLt N_1
  intro d
  refine ((dats V 0 c).before_eq_heldIn 21 rfl (fun _ => rfl) (fun _ _ => rfl) (fun _ => by dsimp only [dats]) t d).trans ?_
  exact held_res V c 21 fetch1_21 t.val t.isLt
theorem after21 (t : Fin cfg1.N) : (dats V 0 c).after 21 t = (win V c).k23 := by
  have h := before21 V c t (fun _ => Scalar.ofBits .f32 0#32)
  rw [(dats V 0 c).before_eq_heldIn 21 rfl (fun _ => rfl) (fun _ _ => rfl) (fun _ => by dsimp only [dats]) t] at h
  exact (show (dats V 0 c).after 21 t = heldIn cfg1 (dats V 0 c).A 21 t.val t.isLt by dsimp only [dats]).trans h
theorem before22 (t : Fin cfg1.N) : ∀ d, (dats V 0 c).before 22 t d = (win V c).k24 := by
  have ht : t.val < 96 := Nat.lt_of_lt_of_eq t.isLt N_1
  intro d
  refine ((dats V 0 c).before_eq_heldIn 22 rfl (fun _ => rfl) (fun _ _ => rfl) (fun _ => by dsimp only [dats]) t d).trans ?_
  exact held_res V c 22 fetch1_22 t.val t.isLt
theorem after22 (t : Fin cfg1.N) : (dats V 0 c).after 22 t = (win V c).k24 := by
  have h := before22 V c t (fun _ => Scalar.ofBits .f32 0#32)
  rw [(dats V 0 c).before_eq_heldIn 22 rfl (fun _ => rfl) (fun _ _ => rfl) (fun _ => by dsimp only [dats]) t] at h
  exact (show (dats V 0 c).after 22 t = heldIn cfg1 (dats V 0 c).A 22 t.val t.isLt by dsimp only [dats]).trans h
theorem before23 (t : Fin cfg1.N) : ∀ d, (dats V 0 c).before 23 t d = (win V c).k25 := by
  have ht : t.val < 96 := Nat.lt_of_lt_of_eq t.isLt N_1
  intro d
  refine ((dats V 0 c).before_eq_heldIn 23 rfl (fun _ => rfl) (fun _ _ => rfl) (fun _ => by dsimp only [dats]) t d).trans ?_
  exact held_res V c 23 fetch1_23 t.val t.isLt
theorem after23 (t : Fin cfg1.N) : (dats V 0 c).after 23 t = (win V c).k25 := by
  have h := before23 V c t (fun _ => Scalar.ofBits .f32 0#32)
  rw [(dats V 0 c).before_eq_heldIn 23 rfl (fun _ => rfl) (fun _ _ => rfl) (fun _ => by dsimp only [dats]) t] at h
  exact (show (dats V 0 c).after 23 t = heldIn cfg1 (dats V 0 c).A 23 t.val t.isLt by dsimp only [dats]).trans h
theorem before24 (t : Fin cfg1.N) : ∀ d, (dats V 0 c).before 24 t d = (win V c).k26 := by
  have ht : t.val < 96 := Nat.lt_of_lt_of_eq t.isLt N_1
  intro d
  refine ((dats V 0 c).before_eq_heldIn 24 rfl (fun _ => rfl) (fun _ _ => rfl) (fun _ => by dsimp only [dats]) t d).trans ?_
  exact held_res V c 24 fetch1_24 t.val t.isLt
theorem after24 (t : Fin cfg1.N) : (dats V 0 c).after 24 t = (win V c).k26 := by
  have h := before24 V c t (fun _ => Scalar.ofBits .f32 0#32)
  rw [(dats V 0 c).before_eq_heldIn 24 rfl (fun _ => rfl) (fun _ _ => rfl) (fun _ => by dsimp only [dats]) t] at h
  exact (show (dats V 0 c).after 24 t = heldIn cfg1 (dats V 0 c).A 24 t.val t.isLt by dsimp only [dats]).trans h
theorem before25 (t : Fin cfg1.N) : ∀ d, (dats V 0 c).before 25 t d = (win V c).k27 := by
  have ht : t.val < 96 := Nat.lt_of_lt_of_eq t.isLt N_1
  intro d
  refine ((dats V 0 c).before_eq_heldIn 25 rfl (fun _ => rfl) (fun _ _ => rfl) (fun _ => by dsimp only [dats]) t d).trans ?_
  exact held_res V c 25 fetch1_25 t.val t.isLt
theorem after25 (t : Fin cfg1.N) : (dats V 0 c).after 25 t = (win V c).k27 := by
  have h := before25 V c t (fun _ => Scalar.ofBits .f32 0#32)
  rw [(dats V 0 c).before_eq_heldIn 25 rfl (fun _ => rfl) (fun _ _ => rfl) (fun _ => by dsimp only [dats]) t] at h
  exact (show (dats V 0 c).after 25 t = heldIn cfg1 (dats V 0 c).A 25 t.val t.isLt by dsimp only [dats]).trans h
theorem before26 (t : Fin cfg1.N) : ∀ d, (dats V 0 c).before 26 t d = (win V c).k28 := by
  have ht : t.val < 96 := Nat.lt_of_lt_of_eq t.isLt N_1
  intro d
  refine ((dats V 0 c).before_eq_heldIn 26 rfl (fun _ => rfl) (fun _ _ => rfl) (fun _ => by dsimp only [dats]) t d).trans ?_
  exact held_res V c 26 fetch1_26 t.val t.isLt
theorem after26 (t : Fin cfg1.N) : (dats V 0 c).after 26 t = (win V c).k28 := by
  have h := before26 V c t (fun _ => Scalar.ofBits .f32 0#32)
  rw [(dats V 0 c).before_eq_heldIn 26 rfl (fun _ => rfl) (fun _ _ => rfl) (fun _ => by dsimp only [dats]) t] at h
  exact (show (dats V 0 c).after 26 t = heldIn cfg1 (dats V 0 c).A 26 t.val t.isLt by dsimp only [dats]).trans h
theorem before27 (t : Fin cfg1.N) : ∀ d, (dats V 0 c).before 27 t d = (win V c).k29 := by
  have ht : t.val < 96 := Nat.lt_of_lt_of_eq t.isLt N_1
  intro d
  refine ((dats V 0 c).before_eq_heldIn 27 rfl (fun _ => rfl) (fun _ _ => rfl) (fun _ => by dsimp only [dats]) t d).trans ?_
  exact held_res V c 27 fetch1_27 t.val t.isLt
theorem after27 (t : Fin cfg1.N) : (dats V 0 c).after 27 t = (win V c).k29 := by
  have h := before27 V c t (fun _ => Scalar.ofBits .f32 0#32)
  rw [(dats V 0 c).before_eq_heldIn 27 rfl (fun _ => rfl) (fun _ _ => rfl) (fun _ => by dsimp only [dats]) t] at h
  exact (show (dats V 0 c).after 27 t = heldIn cfg1 (dats V 0 c).A 27 t.val t.isLt by dsimp only [dats]).trans h
theorem before28 (t : Fin cfg1.N) : ∀ d, (dats V 0 c).before 28 t d = (win V c).k30 := by
  have ht : t.val < 96 := Nat.lt_of_lt_of_eq t.isLt N_1
  intro d
  refine ((dats V 0 c).before_eq_heldIn 28 rfl (fun _ => rfl) (fun _ _ => rfl) (fun _ => by dsimp only [dats]) t d).trans ?_
  exact held_res V c 28 fetch1_28 t.val t.isLt
theorem after28 (t : Fin cfg1.N) : (dats V 0 c).after 28 t = (win V c).k30 := by
  have h := before28 V c t (fun _ => Scalar.ofBits .f32 0#32)
  rw [(dats V 0 c).before_eq_heldIn 28 rfl (fun _ => rfl) (fun _ _ => rfl) (fun _ => by dsimp only [dats]) t] at h
  exact (show (dats V 0 c).after 28 t = heldIn cfg1 (dats V 0 c).A 28 t.val t.isLt by dsimp only [dats]).trans h
theorem before29 (t : Fin cfg1.N) : ∀ d, (dats V 0 c).before 29 t d = (win V c).k31 := by
  have ht : t.val < 96 := Nat.lt_of_lt_of_eq t.isLt N_1
  intro d
  refine ((dats V 0 c).before_eq_heldIn 29 rfl (fun _ => rfl) (fun _ _ => rfl) (fun _ => by dsimp only [dats]) t d).trans ?_
  exact held_res V c 29 fetch1_29 t.val t.isLt
theorem after29 (t : Fin cfg1.N) : (dats V 0 c).after 29 t = (win V c).k31 := by
  have h := before29 V c t (fun _ => Scalar.ofBits .f32 0#32)
  rw [(dats V 0 c).before_eq_heldIn 29 rfl (fun _ => rfl) (fun _ _ => rfl) (fun _ => by dsimp only [dats]) t] at h
  exact (show (dats V 0 c).after 29 t = heldIn cfg1 (dats V 0 c).A 29 t.val t.isLt by dsimp only [dats]).trans h
theorem before30 (t : Fin cfg1.N) : ∀ d, (dats V 0 c).before 30 t d = (win V c).k32 := by
  have ht : t.val < 96 := Nat.lt_of_lt_of_eq t.isLt N_1
  intro d
  refine ((dats V 0 c).before_eq_heldIn 30 rfl (fun _ => rfl) (fun _ _ => rfl) (fun _ => by dsimp only [dats]) t d).trans ?_
  exact held_res V c 30 fetch1_30 t.val t.isLt
theorem after30 (t : Fin cfg1.N) : (dats V 0 c).after 30 t = (win V c).k32 := by
  have h := before30 V c t (fun _ => Scalar.ofBits .f32 0#32)
  rw [(dats V 0 c).before_eq_heldIn 30 rfl (fun _ => rfl) (fun _ _ => rfl) (fun _ => by dsimp only [dats]) t] at h
  exact (show (dats V 0 c).after 30 t = heldIn cfg1 (dats V 0 c).A 30 t.val t.isLt by dsimp only [dats]).trans h
theorem before31 (t : Fin cfg1.N) : ∀ d, (dats V 0 c).before 31 t d = (win V c).k33 := by
  have ht : t.val < 96 := Nat.lt_of_lt_of_eq t.isLt N_1
  intro d
  refine ((dats V 0 c).before_eq_heldIn 31 rfl (fun _ => rfl) (fun _ _ => rfl) (fun _ => by dsimp only [dats]) t d).trans ?_
  exact held_res V c 31 fetch1_31 t.val t.isLt
theorem after31 (t : Fin cfg1.N) : (dats V 0 c).after 31 t = (win V c).k33 := by
  have h := before31 V c t (fun _ => Scalar.ofBits .f32 0#32)
  rw [(dats V 0 c).before_eq_heldIn 31 rfl (fun _ => rfl) (fun _ _ => rfl) (fun _ => by dsimp only [dats]) t] at h
  exact (show (dats V 0 c).after 31 t = heldIn cfg1 (dats V 0 c).A 31 t.val t.isLt by dsimp only [dats]).trans h
theorem before32 (t : Fin cfg1.N) : ∀ d, (dats V 0 c).before 32 t d = (win V c).k34 := by
  have ht : t.val < 96 := Nat.lt_of_lt_of_eq t.isLt N_1
  intro d
  refine ((dats V 0 c).before_eq_heldIn 32 rfl (fun _ => rfl) (fun _ _ => rfl) (fun _ => by dsimp only [dats]) t d).trans ?_
  exact held_res V c 32 fetch1_32 t.val t.isLt
theorem after32 (t : Fin cfg1.N) : (dats V 0 c).after 32 t = (win V c).k34 := by
  have h := before32 V c t (fun _ => Scalar.ofBits .f32 0#32)
  rw [(dats V 0 c).before_eq_heldIn 32 rfl (fun _ => rfl) (fun _ _ => rfl) (fun _ => by dsimp only [dats]) t] at h
  exact (show (dats V 0 c).after 32 t = heldIn cfg1 (dats V 0 c).A 32 t.val t.isLt by dsimp only [dats]).trans h
theorem before33 (t : Fin cfg1.N) : ∀ d, (dats V 0 c).before 33 t d = (win V c).k35 := by
  have ht : t.val < 96 := Nat.lt_of_lt_of_eq t.isLt N_1
  intro d
  refine ((dats V 0 c).before_eq_heldIn 33 rfl (fun _ => rfl) (fun _ _ => rfl) (fun _ => by dsimp only [dats]) t d).trans ?_
  exact held_res V c 33 fetch1_33 t.val t.isLt
theorem after33 (t : Fin cfg1.N) : (dats V 0 c).after 33 t = (win V c).k35 := by
  have h := before33 V c t (fun _ => Scalar.ofBits .f32 0#32)
  rw [(dats V 0 c).before_eq_heldIn 33 rfl (fun _ => rfl) (fun _ _ => rfl) (fun _ => by dsimp only [dats]) t] at h
  exact (show (dats V 0 c).after 33 t = heldIn cfg1 (dats V 0 c).A 33 t.val t.isLt by dsimp only [dats]).trans h
theorem before34 (t : Fin cfg1.N) : ∀ d, (dats V 0 c).before 34 t d = (win V c).k36 := by
  have ht : t.val < 96 := Nat.lt_of_lt_of_eq t.isLt N_1
  intro d
  refine ((dats V 0 c).before_eq_heldIn 34 rfl (fun _ => rfl) (fun _ _ => rfl) (fun _ => by dsimp only [dats]) t d).trans ?_
  exact held_res V c 34 fetch1_34 t.val t.isLt
theorem after34 (t : Fin cfg1.N) : (dats V 0 c).after 34 t = (win V c).k36 := by
  have h := before34 V c t (fun _ => Scalar.ofBits .f32 0#32)
  rw [(dats V 0 c).before_eq_heldIn 34 rfl (fun _ => rfl) (fun _ _ => rfl) (fun _ => by dsimp only [dats]) t] at h
  exact (show (dats V 0 c).after 34 t = heldIn cfg1 (dats V 0 c).A 34 t.val t.isLt by dsimp only [dats]).trans h
theorem before35 (t : Fin cfg1.N) : ∀ d, (dats V 0 c).before 35 t d = (win V c).k37 := by
  have ht : t.val < 96 := Nat.lt_of_lt_of_eq t.isLt N_1
  intro d
  refine ((dats V 0 c).before_eq_heldIn 35 rfl (fun _ => rfl) (fun _ _ => rfl) (fun _ => by dsimp only [dats]) t d).trans ?_
  exact held_res V c 35 fetch1_35 t.val t.isLt
theorem after35 (t : Fin cfg1.N) : (dats V 0 c).after 35 t = (win V c).k37 := by
  have h := before35 V c t (fun _ => Scalar.ofBits .f32 0#32)
  rw [(dats V 0 c).before_eq_heldIn 35 rfl (fun _ => rfl) (fun _ _ => rfl) (fun _ => by dsimp only [dats]) t] at h
  exact (show (dats V 0 c).after 35 t = heldIn cfg1 (dats V 0 c).A 35 t.val t.isLt by dsimp only [dats]).trans h

end Cert.Proof.KernelIdeal
end
-- ==== Proof.IdealTcObl.lean ====
/-
  The dense kernel's body at every grid point, from what the pipeline hands it to what the next point needs.
-/
module

public import proofs.«01_k».proof.Proof.IdealTcDat
public import Idealize.ShloMosaic.Lib.Pipeline.TableIdle
public import proofs.«01_k».proof.Proof.IdealTcRun1
public import proofs.«01_k».proof.Proof.IdealTcRun2
public import proofs.«01_k».proof.Proof.Gen.KernelIdeal.Points
public import proofs.«01_k».proof.Proof.Gen.KernelIdeal.Launch
public import Idealize.ShloMosaic.Lib.Pipeline.Regions
public import proofs.«01_k».proof.Proof.Gen.KernelIdeal.Skeleton
public import Idealize.ShloMosaic.Lib.Tactic
public import Idealize.ShloMosaic.Lib.Pipeline.Kit

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (Dat Cfg Window BodyObligation cellOf heldIn)
open Idealize.ShloMosaic.VecWindow (window put window_put_same window_put_of_disjoint)

variable (V : (c : Dev nD) → (b : Ref sig .tc) → Buf (Elt F) ((c : Thread nD τ).loc b)) (c : Dev nD)

theorem idle_early : ∀ t : Fin grid1.N, t.val ≠ 95 → idle1 36 (grid1.coords t) = true ∧ (win1 36).flush t = false := by decide +kernel
theorem idle_last : ∀ t : Fin grid1.N, t.val = 95 → idle1 36 (grid1.coords t) = false := by decide +kernel
theorem fetch36 : ∀ t : Fin cfg1.N, (cfg1.win 36).fetch t = false := by decide +kernel

omit [FloatOps F] in
/-- A whole buffer owned is its points-to. -/
theorem owns_pt {sp : Space} {sh : Shape} {e : EltTy} (M : Memref sig .tc sp sh e) (h : M.IsWhole) (X : sh.Idx → Elt F e) :
    (owns (c : Thread nD τ) M fullShare X : sProp 𝕄) = iprop(∃ f, ⌜M.view.read (Elt F) f = X⌝ ∗ pt c M f) := by
  unfold owns; rw [h.set_eq_univ]

/-- The result's buffer comes to every point as it was at first. -/
theorem before36 (t : Fin cfg1.N) (d) : (dats V 0 c).before 36 t d = d := by
  have ht : t.val < 96 := Nat.lt_of_lt_of_eq t.isLt N_1
  rw [Pipeline.Dat.before_idle_run (dats V 0 c) 36 fetch36 d t.val t (Nat.le_refl _) (fun j _ hj => idle_early j (by omega))]
  unfold Dat.before
  rw [if_neg (by rw [fetch36]; exact Bool.false_ne_true), if_pos (Nat.sub_self _)]

/-- Rows put at block `i` of contents agreeing with `P` below it agree with `P` through it. -/
theorem put_agrees (g P : Vec F S4096x16 .f32) (i : Fin 32) (Y : Vec F S128x16 .f32)
    (hg : ∀ y : S4096x16.Idx, (y 0).val < 128 * i.val → g y = P y) (hY : ∀ y : S4096x16.Idx, blkOf y = i → P y = Y (inRow y))
    (y : S4096x16.Idx) (hy : (y 0).val < 128 * (i.val + 1)) : put (s := S4096x16) g ![128 * i.val, 0] ![128, 16] Y y = P y := by
  have h1 : (y 1).val < 16 := (y 1).isLt
  by_cases h : 128 * i.val ≤ (y 0).val
  · have hall : ∀ a : Fin 2, (![128 * i.val, 0] : Fin 2 → ℕ) a ≤ (y a).val ∧ (y a).val < (![128 * i.val, 0] : Fin 2 → ℕ) a + (![128, 16] : Fin 2 → ℕ) a := by
      intro a
      match a with
      | ⟨0, _⟩ => exact ⟨h, by show (y 0).val < 128 * i.val + 128; omega⟩
      | ⟨1, _⟩ => exact ⟨Nat.zero_le _, by show (y 1).val < 0 + 16; omega⟩
    refine (dif_pos hall).trans ((congrArg Y (funext fun a => ?_)).trans (hY y (Fin.ext ?_)).symm)
    · match a with
      | ⟨0, _⟩ => exact Fin.ext (by show (y 0).val - 128 * i.val = (y 0).val % 128; omega)
      | ⟨1, _⟩ => exact Fin.ext (by show (y 1).val - 0 = (y 1).val; omega)
    · show (y 0).val / 128 = i.val; omega
  · refine (dif_neg fun hall => h (hall 0).1).trans (hg y (by omega))

theorem towers_late (K : Win F) (X : ℕ → Vec F S3200x128 .f32) (T : Vec F S4096x16 .f32) : ∀ n, towers K X T (64 + n) = towers K X T 64
  | 0 => rfl
  | n + 1 => by
    rw [show 64 + (n + 1) = (64 + n) + 1 from rfl]
    refine Eq.trans ?_ (towers_late K X T n)
    rw [towers, if_neg (by omega), if_neg (by omega)]

theorem rel_zero : Rel (k1_pay1 (F := F)) tower0 tower0 := by constructor <;> rfl

set_option maxHeartbeats 4000000 in
theorem body_obligation (ι : HIx 1) : BodyObligation (dats V 0 c) (defs₀ (F := F)) 𝒱₀ ι Set.univ := fun t => by
  have ht : t.val < 96 := Nat.lt_of_lt_of_eq t.isLt N_1
  rw [bigSep_W1, bigSep_W1]
  simp only [owns_pt c (stage1_0 (cfg1.slots t 0)) (hstage1_0 ((cfg1.slots t 0).cast nbuf1_0)), owns_pt c (stage1_1 (cfg1.slots t 1)) (hstage1_1 ((cfg1.slots t 1).cast nbuf1_1)), owns_pt c (stage1_2 (cfg1.slots t 2)) (hstage1_2 ((cfg1.slots t 2).cast nbuf1_2)), owns_pt c (stage1_3 (cfg1.slots t 3)) (hstage1_3 ((cfg1.slots t 3).cast nbuf1_3)), owns_pt c (stage1_4 (cfg1.slots t 4)) (hstage1_4 ((cfg1.slots t 4).cast nbuf1_4)), owns_pt c (stage1_5 (cfg1.slots t 5)) (hstage1_5 ((cfg1.slots t 5).cast nbuf1_5)), owns_pt c (stage1_6 (cfg1.slots t 6)) (hstage1_6 ((cfg1.slots t 6).cast nbuf1_6)), owns_pt c (stage1_7 (cfg1.slots t 7)) (hstage1_7 ((cfg1.slots t 7).cast nbuf1_7)), owns_pt c (stage1_8 (cfg1.slots t 8)) (hstage1_8 ((cfg1.slots t 8).cast nbuf1_8)), owns_pt c (stage1_9 (cfg1.slots t 9)) (hstage1_9 ((cfg1.slots t 9).cast nbuf1_9)), owns_pt c (stage1_10 (cfg1.slots t 10)) (hstage1_10 ((cfg1.slots t 10).cast nbuf1_10)), owns_pt c (stage1_11 (cfg1.slots t 11)) (hstage1_11 ((cfg1.slots t 11).cast nbuf1_11)), owns_pt c (stage1_12 (cfg1.slots t 12)) (hstage1_12 ((cfg1.slots t 12).cast nbuf1_12)), owns_pt c (stage1_13 (cfg1.slots t 13)) (hstage1_13 ((cfg1.slots t 13).cast nbuf1_13)), owns_pt c (stage1_14 (cfg1.slots t 14)) (hstage1_14 ((cfg1.slots t 14).cast nbuf1_14)), owns_pt c (stage1_15 (cfg1.slots t 15)) (hstage1_15 ((cfg1.slots t 15).cast nbuf1_15)), owns_pt c (stage1_16 (cfg1.slots t 16)) (hstage1_16 ((cfg1.slots t 16).cast nbuf1_16)), owns_pt c (stage1_17 (cfg1.slots t 17)) (hstage1_17 ((cfg1.slots t 17).cast nbuf1_17)), owns_pt c (stage1_18 (cfg1.slots t 18)) (hstage1_18 ((cfg1.slots t 18).cast nbuf1_18)), owns_pt c (stage1_19 (cfg1.slots t 19)) (hstage1_19 ((cfg1.slots t 19).cast nbuf1_19)), owns_pt c (stage1_20 (cfg1.slots t 20)) (hstage1_20 ((cfg1.slots t 20).cast nbuf1_20)), owns_pt c (stage1_21 (cfg1.slots t 21)) (hstage1_21 ((cfg1.slots t 21).cast nbuf1_21)), owns_pt c (stage1_22 (cfg1.slots t 22)) (hstage1_22 ((cfg1.slots t 22).cast nbuf1_22)), owns_pt c (stage1_23 (cfg1.slots t 23)) (hstage1_23 ((cfg1.slots t 23).cast nbuf1_23)), owns_pt c (stage1_24 (cfg1.slots t 24)) (hstage1_24 ((cfg1.slots t 24).cast nbuf1_24)), owns_pt c (stage1_25 (cfg1.slots t 25)) (hstage1_25 ((cfg1.slots t 25).cast nbuf1_25)), owns_pt c (stage1_26 (cfg1.slots t 26)) (hstage1_26 ((cfg1.slots t 26).cast nbuf1_26)), owns_pt c (stage1_27 (cfg1.slots t 27)) (hstage1_27 ((cfg1.slots t 27).cast nbuf1_27)), owns_pt c (stage1_28 (cfg1.slots t 28)) (hstage1_28 ((cfg1.slots t 28).cast nbuf1_28)), owns_pt c (stage1_29 (cfg1.slots t 29)) (hstage1_29 ((cfg1.slots t 29).cast nbuf1_29)), owns_pt c (stage1_30 (cfg1.slots t 30)) (hstage1_30 ((cfg1.slots t 30).cast nbuf1_30)), owns_pt c (stage1_31 (cfg1.slots t 31)) (hstage1_31 ((cfg1.slots t 31).cast nbuf1_31)), owns_pt c (stage1_32 (cfg1.slots t 32)) (hstage1_32 ((cfg1.slots t 32).cast nbuf1_32)), owns_pt c (stage1_33 (cfg1.slots t 33)) (hstage1_33 ((cfg1.slots t 33).cast nbuf1_33)), owns_pt c (stage1_34 (cfg1.slots t 34)) (hstage1_34 ((cfg1.slots t 34).cast nbuf1_34)), owns_pt c (stage1_35 (cfg1.slots t 35)) (hstage1_35 ((cfg1.slots t 35).cast nbuf1_35)), owns_pt c (stage1_36 (cfg1.slots t 36)) (hstage1_36 ((cfg1.slots t 36).cast nbuf1_36))]
  rw [show (dats V 0 c).Φ t.castSucc = Φc V c t.val from rfl, show (dats V 0 c).Φ t.succ = Φc V c (t.val + 1) from rfl]
  unfold Dat.owesAt Pipeline.owesWithin
  rw [show (dats V 0 c).owed t.castSucc = 0 from rfl, show (dats V 0 c).owed t.succ = 0 from rfl]
  unfold Φc
  by_cases h0 : t.val < 32
  · have hl : t.val ≠ 95 := by omega
    rw [show idle1 36 (grid1.coords t) = true from (idle_early t hl).1, show (win1 36).flush t = false from (idle_early t hl).2]
    dsimp only
    iintro ⟨⟨%f39, %f40, %f41, %hΦ, H39, H40, H41⟩, ⟨%W, %hW, HO⟩, ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩, ⟨%d7, %f9, %e9, H9⟩, ⟨%d8, %f10, %e10, H10⟩, ⟨%d9, %f11, %e11, H11⟩, ⟨%d10, %f12, %e12, H12⟩, ⟨%d11, %f13, %e13, H13⟩, ⟨%d12, %f14, %e14, H14⟩, ⟨%d13, %f15, %e15, H15⟩, ⟨%d14, %f16, %e16, H16⟩, ⟨%d15, %f17, %e17, H17⟩, ⟨%d16, %f18, %e18, H18⟩, ⟨%d17, %f19, %e19, H19⟩, ⟨%d18, %f20, %e20, H20⟩, ⟨%d19, %f21, %e21, H21⟩, ⟨%d20, %f22, %e22, H22⟩, ⟨%d21, %f23, %e23, H23⟩, ⟨%d22, %f24, %e24, H24⟩, ⟨%d23, %f25, %e25, H25⟩, ⟨%d24, %f26, %e26, H26⟩, ⟨%d25, %f27, %e27, H27⟩, ⟨%d26, %f28, %e28, H28⟩, ⟨%d27, %f29, %e29, H29⟩, ⟨%d28, %f30, %e30, H30⟩, ⟨%d29, %f31, %e31, H31⟩, ⟨%d30, %f32, %e32, H32⟩, ⟨%d31, %f33, %e33, H33⟩, ⟨%d32, %f34, %e34, H34⟩, ⟨%d33, %f35, %e35, H35⟩, ⟨%d34, %f36, %e36, H36⟩, ⟨%d35, %f37, %e37, H37⟩, ⟨%d36, %f38, %e38, H38⟩⟩
    rw [before0] at e2
    rw [before1] at e3
    rw [before2] at e4
    rw [before3] at e5
    rw [before4] at e6
    rw [before5] at e7
    rw [before6] at e8
    rw [before7] at e9
    rw [before8] at e10
    rw [before9] at e11
    rw [before10] at e12
    rw [before11] at e13
    rw [before12] at e14
    rw [before13] at e15
    rw [before14] at e16
    rw [before15] at e17
    rw [before16] at e18
    rw [before17] at e19
    rw [before18] at e20
    rw [before19] at e21
    rw [before20] at e22
    rw [before21] at e23
    rw [before22] at e24
    rw [before23] at e25
    rw [before24] at e26
    rw [before25] at e27
    rw [before26] at e28
    rw [before27] at e29
    rw [before28] at e30
    rw [before29] at e31
    rw [before30] at e32
    rw [before31] at e33
    rw [before32] at e34
    rw [before33] at e35
    rw [before34] at e36
    rw [before35] at e37
    rw [before36] at e38
    obtain ⟨hR, h40, h41⟩ := hΦ
    have hrel : Rel (if isFirst (grid1.coords t) then k1_pay1 else (Memref.whole cc1_scratch0).view.read (Elt F) f39) (tw1 V c t.val) (tw2 V c t.val) := by
        by_cases hz : t.val = 0
        · rw [if_pos ((first_iff t).mpr hz), hz]; exact rel_zero
        · rw [if_neg (fun h => hz ((first_iff t).mp h))]; exact hR (by omega)
    iapply (run_p0 c (grid1.coords t) (rw32 t.val) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) (win1_18.stage (cfg1.slots t 18)) (hstage1_18 ((cfg1.slots t 18).cast nbuf1_18)) (win1_19.stage (cfg1.slots t 19)) (hstage1_19 ((cfg1.slots t 19).cast nbuf1_19)) (win1_20.stage (cfg1.slots t 20)) (hstage1_20 ((cfg1.slots t 20).cast nbuf1_20)) (win1_21.stage (cfg1.slots t 21)) (hstage1_21 ((cfg1.slots t 21).cast nbuf1_21)) (win1_22.stage (cfg1.slots t 22)) (hstage1_22 ((cfg1.slots t 22).cast nbuf1_22)) (win1_23.stage (cfg1.slots t 23)) (hstage1_23 ((cfg1.slots t 23).cast nbuf1_23)) (win1_24.stage (cfg1.slots t 24)) (hstage1_24 ((cfg1.slots t 24).cast nbuf1_24)) (win1_25.stage (cfg1.slots t 25)) (hstage1_25 ((cfg1.slots t 25).cast nbuf1_25)) (win1_26.stage (cfg1.slots t 26)) (hstage1_26 ((cfg1.slots t 26).cast nbuf1_26)) (win1_27.stage (cfg1.slots t 27)) (hstage1_27 ((cfg1.slots t 27).cast nbuf1_27)) (win1_28.stage (cfg1.slots t 28)) (hstage1_28 ((cfg1.slots t 28).cast nbuf1_28)) (win1_29.stage (cfg1.slots t 29)) (hstage1_29 ((cfg1.slots t 29).cast nbuf1_29)) (win1_30.stage (cfg1.slots t 30)) (hstage1_30 ((cfg1.slots t 30).cast nbuf1_30)) (win1_31.stage (cfg1.slots t 31)) (hstage1_31 ((cfg1.slots t 31).cast nbuf1_31)) (win1_32.stage (cfg1.slots t 32)) (hstage1_32 ((cfg1.slots t 32).cast nbuf1_32)) (win1_33.stage (cfg1.slots t 33)) (hstage1_33 ((cfg1.slots t 33).cast nbuf1_33)) (win1_34.stage (cfg1.slots t 34)) (hstage1_34 ((cfg1.slots t 34).cast nbuf1_34)) (win1_35.stage (cfg1.slots t 35)) (hstage1_35 ((cfg1.slots t 35).cast nbuf1_35)) (win1_36.stage (cfg1.slots t 36)) (hstage1_36 ((cfg1.slots t 36).cast nbuf1_36)) (Memref.whole cc1_scratch0) (Memref.isWhole_whole _) (Memref.whole cc1_scratch1) (Memref.isWhole_whole _) (Memref.whole cc1_scratch2) (Memref.isWhole_whole _) f2 f3 f5 f6 f8 f10 f11 f12 f13 f14 f15 f39 (win V c) (blk1 V c t.val) (blk2 V c t.val) e2 e3 e5 e6 e8 e10 e11 e12 e13 e14 e15 (tw1 V c t.val) (tw2 V c t.val)  hrel (off1_eq t) (off5_eq t) ((cond2_iff t).mpr (by omega)) (fun h => absurd ((cond3_iff t).mp h) (by omega)) (fun h => absurd ((cond4_iff t).mp h) (by omega)) ((cond5_iff t).mpr (by omega)) (fun h => absurd ((cond6_iff t).mp h) (by omega)) (fun h => absurd ((cond7_iff t).mp h) (by omega)) (fun h => absurd ((cond8_iff t).mp h) (by omega)))
    isplitl [H2]; · iexact H2
    isplitl [H3]; · iexact H3
    isplitl [H5]; · iexact H5
    isplitl [H6]; · iexact H6
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H39]; · iexact H39
    iintro ⟨H2, H3, H5, H6, H8, H10, H11, H12, H13, H14, H15, ⟨%g39, %hg, H39⟩⟩
    isplitl [H39 H40 H41]
    · iexists g39; iexists f40; iexists f41
      isplitr
      · ipureintro
        refine ⟨fun _ => ?_, fun y hy => absurd hy (by omega), fun y hy => absurd hy (by omega)⟩
        have t1 : tw1 V c (t.val + 1) = step0 (win V c) (blk1 V c t.val) (rows (win V c).k5 (rw32 t.val)) (tw1 V c t.val) := by
          show towers _ _ _ (t.val + 1) = _
          rw [towers, if_pos h0]
        have t2 : tw2 V c (t.val + 1) = step0 (win V c) (blk2 V c t.val) (rows (win V c).k6 (rw32 t.val)) (tw2 V c t.val) := by
          show towers _ _ _ (t.val + 1) = _
          rw [towers, if_pos h0]
        rw [t1, t2]; exact hg
      isplitl [H39]; · iexact H39
      isplitl [H40]; · iexact H40
      iexact H41
    isplitl [HO]
    · iexists W; isplitr; · ipureintro; exact fun _ _ => Or.inl trivial
      iexact HO
    isplitl [H2]; · iexists _; isplitr; swap; (· iexact H2); ipureintro; rw [after0]; exact e2
    isplitl [H3]; · iexists _; isplitr; swap; (· iexact H3); ipureintro; rw [after1]; exact e3
    isplitl [H4]; · iexists _; isplitr; swap; (· iexact H4); ipureintro; rw [after2]; exact e4
    isplitl [H5]; · iexists _; isplitr; swap; (· iexact H5); ipureintro; rw [after3]; exact e5
    isplitl [H6]; · iexists _; isplitr; swap; (· iexact H6); ipureintro; rw [after4]; exact e6
    isplitl [H7]; · iexists _; isplitr; swap; (· iexact H7); ipureintro; rw [after5]; exact e7
    isplitl [H8]; · iexists _; isplitr; swap; (· iexact H8); ipureintro; rw [after6]; exact e8
    isplitl [H9]; · iexists _; isplitr; swap; (· iexact H9); ipureintro; rw [after7]; exact e9
    isplitl [H10]; · iexists _; isplitr; swap; (· iexact H10); ipureintro; rw [after8]; exact e10
    isplitl [H11]; · iexists _; isplitr; swap; (· iexact H11); ipureintro; rw [after9]; exact e11
    isplitl [H12]; · iexists _; isplitr; swap; (· iexact H12); ipureintro; rw [after10]; exact e12
    isplitl [H13]; · iexists _; isplitr; swap; (· iexact H13); ipureintro; rw [after11]; exact e13
    isplitl [H14]; · iexists _; isplitr; swap; (· iexact H14); ipureintro; rw [after12]; exact e14
    isplitl [H15]; · iexists _; isplitr; swap; (· iexact H15); ipureintro; rw [after13]; exact e15
    isplitl [H16]; · iexists _; isplitr; swap; (· iexact H16); ipureintro; rw [after14]; exact e16
    isplitl [H17]; · iexists _; isplitr; swap; (· iexact H17); ipureintro; rw [after15]; exact e17
    isplitl [H18]; · iexists _; isplitr; swap; (· iexact H18); ipureintro; rw [after16]; exact e18
    isplitl [H19]; · iexists _; isplitr; swap; (· iexact H19); ipureintro; rw [after17]; exact e19
    isplitl [H20]; · iexists _; isplitr; swap; (· iexact H20); ipureintro; rw [after18]; exact e20
    isplitl [H21]; · iexists _; isplitr; swap; (· iexact H21); ipureintro; rw [after19]; exact e21
    isplitl [H22]; · iexists _; isplitr; swap; (· iexact H22); ipureintro; rw [after20]; exact e22
    isplitl [H23]; · iexists _; isplitr; swap; (· iexact H23); ipureintro; rw [after21]; exact e23
    isplitl [H24]; · iexists _; isplitr; swap; (· iexact H24); ipureintro; rw [after22]; exact e24
    isplitl [H25]; · iexists _; isplitr; swap; (· iexact H25); ipureintro; rw [after23]; exact e25
    isplitl [H26]; · iexists _; isplitr; swap; (· iexact H26); ipureintro; rw [after24]; exact e26
    isplitl [H27]; · iexists _; isplitr; swap; (· iexact H27); ipureintro; rw [after25]; exact e27
    isplitl [H28]; · iexists _; isplitr; swap; (· iexact H28); ipureintro; rw [after26]; exact e28
    isplitl [H29]; · iexists _; isplitr; swap; (· iexact H29); ipureintro; rw [after27]; exact e29
    isplitl [H30]; · iexists _; isplitr; swap; (· iexact H30); ipureintro; rw [after28]; exact e30
    isplitl [H31]; · iexists _; isplitr; swap; (· iexact H31); ipureintro; rw [after29]; exact e31
    isplitl [H32]; · iexists _; isplitr; swap; (· iexact H32); ipureintro; rw [after30]; exact e32
    isplitl [H33]; · iexists _; isplitr; swap; (· iexact H33); ipureintro; rw [after31]; exact e33
    isplitl [H34]; · iexists _; isplitr; swap; (· iexact H34); ipureintro; rw [after32]; exact e34
    isplitl [H35]; · iexists _; isplitr; swap; (· iexact H35); ipureintro; rw [after33]; exact e35
    isplitl [H36]; · iexists _; isplitr; swap; (· iexact H36); ipureintro; rw [after34]; exact e36
    isplitl [H37]; · iexists _; isplitr; swap; (· iexact H37); ipureintro; rw [after35]; exact e37
    iexists d36; iexists _; isplitr; swap; (· iexact H38); ipureintro; rw [before36]; exact e38
  by_cases h1 : t.val < 64
  · have hl : t.val ≠ 95 := by omega
    rw [show idle1 36 (grid1.coords t) = true from (idle_early t hl).1, show (win1 36).flush t = false from (idle_early t hl).2]
    dsimp only
    iintro ⟨⟨%f39, %f40, %f41, %hΦ, H39, H40, H41⟩, ⟨%W, %hW, HO⟩, ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩, ⟨%d7, %f9, %e9, H9⟩, ⟨%d8, %f10, %e10, H10⟩, ⟨%d9, %f11, %e11, H11⟩, ⟨%d10, %f12, %e12, H12⟩, ⟨%d11, %f13, %e13, H13⟩, ⟨%d12, %f14, %e14, H14⟩, ⟨%d13, %f15, %e15, H15⟩, ⟨%d14, %f16, %e16, H16⟩, ⟨%d15, %f17, %e17, H17⟩, ⟨%d16, %f18, %e18, H18⟩, ⟨%d17, %f19, %e19, H19⟩, ⟨%d18, %f20, %e20, H20⟩, ⟨%d19, %f21, %e21, H21⟩, ⟨%d20, %f22, %e22, H22⟩, ⟨%d21, %f23, %e23, H23⟩, ⟨%d22, %f24, %e24, H24⟩, ⟨%d23, %f25, %e25, H25⟩, ⟨%d24, %f26, %e26, H26⟩, ⟨%d25, %f27, %e27, H27⟩, ⟨%d26, %f28, %e28, H28⟩, ⟨%d27, %f29, %e29, H29⟩, ⟨%d28, %f30, %e30, H30⟩, ⟨%d29, %f31, %e31, H31⟩, ⟨%d30, %f32, %e32, H32⟩, ⟨%d31, %f33, %e33, H33⟩, ⟨%d32, %f34, %e34, H34⟩, ⟨%d33, %f35, %e35, H35⟩, ⟨%d34, %f36, %e36, H36⟩, ⟨%d35, %f37, %e37, H37⟩, ⟨%d36, %f38, %e38, H38⟩⟩
    rw [before0] at e2
    rw [before1] at e3
    rw [before2] at e4
    rw [before3] at e5
    rw [before4] at e6
    rw [before5] at e7
    rw [before6] at e8
    rw [before7] at e9
    rw [before8] at e10
    rw [before9] at e11
    rw [before10] at e12
    rw [before11] at e13
    rw [before12] at e14
    rw [before13] at e15
    rw [before14] at e16
    rw [before15] at e17
    rw [before16] at e18
    rw [before17] at e19
    rw [before18] at e20
    rw [before19] at e21
    rw [before20] at e22
    rw [before21] at e23
    rw [before22] at e24
    rw [before23] at e25
    rw [before24] at e26
    rw [before25] at e27
    rw [before26] at e28
    rw [before27] at e29
    rw [before28] at e30
    rw [before29] at e31
    rw [before30] at e32
    rw [before31] at e33
    rw [before32] at e34
    rw [before33] at e35
    rw [before34] at e36
    rw [before35] at e37
    rw [before36] at e38
    obtain ⟨hR, h40, h41⟩ := hΦ
    iapply (run_p1 c (grid1.coords t) (rw32 t.val) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) (win1_18.stage (cfg1.slots t 18)) (hstage1_18 ((cfg1.slots t 18).cast nbuf1_18)) (win1_19.stage (cfg1.slots t 19)) (hstage1_19 ((cfg1.slots t 19).cast nbuf1_19)) (win1_20.stage (cfg1.slots t 20)) (hstage1_20 ((cfg1.slots t 20).cast nbuf1_20)) (win1_21.stage (cfg1.slots t 21)) (hstage1_21 ((cfg1.slots t 21).cast nbuf1_21)) (win1_22.stage (cfg1.slots t 22)) (hstage1_22 ((cfg1.slots t 22).cast nbuf1_22)) (win1_23.stage (cfg1.slots t 23)) (hstage1_23 ((cfg1.slots t 23).cast nbuf1_23)) (win1_24.stage (cfg1.slots t 24)) (hstage1_24 ((cfg1.slots t 24).cast nbuf1_24)) (win1_25.stage (cfg1.slots t 25)) (hstage1_25 ((cfg1.slots t 25).cast nbuf1_25)) (win1_26.stage (cfg1.slots t 26)) (hstage1_26 ((cfg1.slots t 26).cast nbuf1_26)) (win1_27.stage (cfg1.slots t 27)) (hstage1_27 ((cfg1.slots t 27).cast nbuf1_27)) (win1_28.stage (cfg1.slots t 28)) (hstage1_28 ((cfg1.slots t 28).cast nbuf1_28)) (win1_29.stage (cfg1.slots t 29)) (hstage1_29 ((cfg1.slots t 29).cast nbuf1_29)) (win1_30.stage (cfg1.slots t 30)) (hstage1_30 ((cfg1.slots t 30).cast nbuf1_30)) (win1_31.stage (cfg1.slots t 31)) (hstage1_31 ((cfg1.slots t 31).cast nbuf1_31)) (win1_32.stage (cfg1.slots t 32)) (hstage1_32 ((cfg1.slots t 32).cast nbuf1_32)) (win1_33.stage (cfg1.slots t 33)) (hstage1_33 ((cfg1.slots t 33).cast nbuf1_33)) (win1_34.stage (cfg1.slots t 34)) (hstage1_34 ((cfg1.slots t 34).cast nbuf1_34)) (win1_35.stage (cfg1.slots t 35)) (hstage1_35 ((cfg1.slots t 35).cast nbuf1_35)) (win1_36.stage (cfg1.slots t 36)) (hstage1_36 ((cfg1.slots t 36).cast nbuf1_36)) (Memref.whole cc1_scratch0) (Memref.isWhole_whole _) (Memref.whole cc1_scratch1) (Memref.isWhole_whole _) (Memref.whole cc1_scratch2) (Memref.isWhole_whole _) f2 f3 f5 f6 f8 f10 f11 f12 f13 f14 f15 f16 f17 f18 f19 f20 f39 (win V c) (blk1 V c t.val) (blk2 V c t.val) e2 e3 e5 e6 e8 e10 e11 e12 e13 e14 e15 e16 e17 e18 e19 e20 (tw1 V c t.val) (tw2 V c t.val) (fun h => absurd ((first_iff t).mp h) (by omega)) (hR (by omega)) (off2_eq t) (off6_eq t) (fun h => absurd ((cond2_iff t).mp h) (by omega)) ((cond3_iff t).mpr (by omega)) (fun h => absurd ((cond4_iff t).mp h) (by omega)) (fun h => absurd ((cond5_iff t).mp h) (by omega)) ((cond6_iff t).mpr (by omega)) (fun h => absurd ((cond7_iff t).mp h) (by omega)) (fun h => absurd ((cond8_iff t).mp h) (by omega)))
    isplitl [H2]; · iexact H2
    isplitl [H3]; · iexact H3
    isplitl [H5]; · iexact H5
    isplitl [H6]; · iexact H6
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H39]; · iexact H39
    iintro ⟨H2, H3, H5, H6, H8, H10, H11, H12, H13, H14, H15, H16, H17, H18, H19, H20, ⟨%g39, %hg, H39⟩⟩
    isplitl [H39 H40 H41]
    · iexists g39; iexists f40; iexists f41
      isplitr
      · ipureintro
        refine ⟨fun _ => ?_, fun y hy => absurd hy (by omega), fun y hy => absurd hy (by omega)⟩
        have t1 : tw1 V c (t.val + 1) = step1 (win V c) (blk1 V c t.val) (rows (win V c).k5 (rw32 t.val)) (tw1 V c t.val) := by
          show towers _ _ _ (t.val + 1) = _
          rw [towers, if_neg h0, if_pos h1]
        have t2 : tw2 V c (t.val + 1) = step1 (win V c) (blk2 V c t.val) (rows (win V c).k6 (rw32 t.val)) (tw2 V c t.val) := by
          show towers _ _ _ (t.val + 1) = _
          rw [towers, if_neg h0, if_pos h1]
        rw [t1, t2]; exact hg
      isplitl [H39]; · iexact H39
      isplitl [H40]; · iexact H40
      iexact H41
    isplitl [HO]
    · iexists W; isplitr; · ipureintro; exact fun _ _ => Or.inl trivial
      iexact HO
    isplitl [H2]; · iexists _; isplitr; swap; (· iexact H2); ipureintro; rw [after0]; exact e2
    isplitl [H3]; · iexists _; isplitr; swap; (· iexact H3); ipureintro; rw [after1]; exact e3
    isplitl [H4]; · iexists _; isplitr; swap; (· iexact H4); ipureintro; rw [after2]; exact e4
    isplitl [H5]; · iexists _; isplitr; swap; (· iexact H5); ipureintro; rw [after3]; exact e5
    isplitl [H6]; · iexists _; isplitr; swap; (· iexact H6); ipureintro; rw [after4]; exact e6
    isplitl [H7]; · iexists _; isplitr; swap; (· iexact H7); ipureintro; rw [after5]; exact e7
    isplitl [H8]; · iexists _; isplitr; swap; (· iexact H8); ipureintro; rw [after6]; exact e8
    isplitl [H9]; · iexists _; isplitr; swap; (· iexact H9); ipureintro; rw [after7]; exact e9
    isplitl [H10]; · iexists _; isplitr; swap; (· iexact H10); ipureintro; rw [after8]; exact e10
    isplitl [H11]; · iexists _; isplitr; swap; (· iexact H11); ipureintro; rw [after9]; exact e11
    isplitl [H12]; · iexists _; isplitr; swap; (· iexact H12); ipureintro; rw [after10]; exact e12
    isplitl [H13]; · iexists _; isplitr; swap; (· iexact H13); ipureintro; rw [after11]; exact e13
    isplitl [H14]; · iexists _; isplitr; swap; (· iexact H14); ipureintro; rw [after12]; exact e14
    isplitl [H15]; · iexists _; isplitr; swap; (· iexact H15); ipureintro; rw [after13]; exact e15
    isplitl [H16]; · iexists _; isplitr; swap; (· iexact H16); ipureintro; rw [after14]; exact e16
    isplitl [H17]; · iexists _; isplitr; swap; (· iexact H17); ipureintro; rw [after15]; exact e17
    isplitl [H18]; · iexists _; isplitr; swap; (· iexact H18); ipureintro; rw [after16]; exact e18
    isplitl [H19]; · iexists _; isplitr; swap; (· iexact H19); ipureintro; rw [after17]; exact e19
    isplitl [H20]; · iexists _; isplitr; swap; (· iexact H20); ipureintro; rw [after18]; exact e20
    isplitl [H21]; · iexists _; isplitr; swap; (· iexact H21); ipureintro; rw [after19]; exact e21
    isplitl [H22]; · iexists _; isplitr; swap; (· iexact H22); ipureintro; rw [after20]; exact e22
    isplitl [H23]; · iexists _; isplitr; swap; (· iexact H23); ipureintro; rw [after21]; exact e23
    isplitl [H24]; · iexists _; isplitr; swap; (· iexact H24); ipureintro; rw [after22]; exact e24
    isplitl [H25]; · iexists _; isplitr; swap; (· iexact H25); ipureintro; rw [after23]; exact e25
    isplitl [H26]; · iexists _; isplitr; swap; (· iexact H26); ipureintro; rw [after24]; exact e26
    isplitl [H27]; · iexists _; isplitr; swap; (· iexact H27); ipureintro; rw [after25]; exact e27
    isplitl [H28]; · iexists _; isplitr; swap; (· iexact H28); ipureintro; rw [after26]; exact e28
    isplitl [H29]; · iexists _; isplitr; swap; (· iexact H29); ipureintro; rw [after27]; exact e29
    isplitl [H30]; · iexists _; isplitr; swap; (· iexact H30); ipureintro; rw [after28]; exact e30
    isplitl [H31]; · iexists _; isplitr; swap; (· iexact H31); ipureintro; rw [after29]; exact e31
    isplitl [H32]; · iexists _; isplitr; swap; (· iexact H32); ipureintro; rw [after30]; exact e32
    isplitl [H33]; · iexists _; isplitr; swap; (· iexact H33); ipureintro; rw [after31]; exact e33
    isplitl [H34]; · iexists _; isplitr; swap; (· iexact H34); ipureintro; rw [after32]; exact e34
    isplitl [H35]; · iexists _; isplitr; swap; (· iexact H35); ipureintro; rw [after33]; exact e35
    isplitl [H36]; · iexists _; isplitr; swap; (· iexact H36); ipureintro; rw [after34]; exact e36
    isplitl [H37]; · iexists _; isplitr; swap; (· iexact H37); ipureintro; rw [after35]; exact e37
    iexists d36; iexists _; isplitr; swap; (· iexact H38); ipureintro; rw [before36]; exact e38
  by_cases hl : t.val ≠ 95
  · skip
    rw [show idle1 36 (grid1.coords t) = true from (idle_early t hl).1, show (win1 36).flush t = false from (idle_early t hl).2]
    dsimp only
    iintro ⟨⟨%f39, %f40, %f41, %hΦ, H39, H40, H41⟩, ⟨%W, %hW, HO⟩, ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩, ⟨%d7, %f9, %e9, H9⟩, ⟨%d8, %f10, %e10, H10⟩, ⟨%d9, %f11, %e11, H11⟩, ⟨%d10, %f12, %e12, H12⟩, ⟨%d11, %f13, %e13, H13⟩, ⟨%d12, %f14, %e14, H14⟩, ⟨%d13, %f15, %e15, H15⟩, ⟨%d14, %f16, %e16, H16⟩, ⟨%d15, %f17, %e17, H17⟩, ⟨%d16, %f18, %e18, H18⟩, ⟨%d17, %f19, %e19, H19⟩, ⟨%d18, %f20, %e20, H20⟩, ⟨%d19, %f21, %e21, H21⟩, ⟨%d20, %f22, %e22, H22⟩, ⟨%d21, %f23, %e23, H23⟩, ⟨%d22, %f24, %e24, H24⟩, ⟨%d23, %f25, %e25, H25⟩, ⟨%d24, %f26, %e26, H26⟩, ⟨%d25, %f27, %e27, H27⟩, ⟨%d26, %f28, %e28, H28⟩, ⟨%d27, %f29, %e29, H29⟩, ⟨%d28, %f30, %e30, H30⟩, ⟨%d29, %f31, %e31, H31⟩, ⟨%d30, %f32, %e32, H32⟩, ⟨%d31, %f33, %e33, H33⟩, ⟨%d32, %f34, %e34, H34⟩, ⟨%d33, %f35, %e35, H35⟩, ⟨%d34, %f36, %e36, H36⟩, ⟨%d35, %f37, %e37, H37⟩, ⟨%d36, %f38, %e38, H38⟩⟩
    rw [before0] at e2
    rw [before1] at e3
    rw [before2] at e4
    rw [before3] at e5
    rw [before4] at e6
    rw [before5] at e7
    rw [before6] at e8
    rw [before7] at e9
    rw [before8] at e10
    rw [before9] at e11
    rw [before10] at e12
    rw [before11] at e13
    rw [before12] at e14
    rw [before13] at e15
    rw [before14] at e16
    rw [before15] at e17
    rw [before16] at e18
    rw [before17] at e19
    rw [before18] at e20
    rw [before19] at e21
    rw [before20] at e22
    rw [before21] at e23
    rw [before22] at e24
    rw [before23] at e25
    rw [before24] at e26
    rw [before25] at e27
    rw [before26] at e28
    rw [before27] at e29
    rw [before28] at e30
    rw [before29] at e31
    rw [before30] at e32
    rw [before31] at e33
    rw [before32] at e34
    rw [before33] at e35
    rw [before34] at e36
    rw [before35] at e37
    rw [before36] at e38
    obtain ⟨hR, h40, h41⟩ := hΦ
    have hrel : Rel ((Memref.whole cc1_scratch0).view.read (Elt F) f39) (tw1 V c 64) (tw2 V c 64) := by
        have t1 : tw1 V c t.val = tw1 V c 64 := by
          have := towers_late (win V c) (blk1 V c) (win V c).k5 (t.val - 64); rw [show 64 + (t.val - 64) = t.val from by omega] at this; exact this
        have t2 : tw2 V c t.val = tw2 V c 64 := by
          have := towers_late (win V c) (blk2 V c) (win V c).k6 (t.val - 64); rw [show 64 + (t.val - 64) = t.val from by omega] at this; exact this
        rw [← t1, ← t2]; exact hR (by omega)
    iapply (run_p2 c (grid1.coords t) (rw32 t.val) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) (win1_18.stage (cfg1.slots t 18)) (hstage1_18 ((cfg1.slots t 18).cast nbuf1_18)) (win1_19.stage (cfg1.slots t 19)) (hstage1_19 ((cfg1.slots t 19).cast nbuf1_19)) (win1_20.stage (cfg1.slots t 20)) (hstage1_20 ((cfg1.slots t 20).cast nbuf1_20)) (win1_21.stage (cfg1.slots t 21)) (hstage1_21 ((cfg1.slots t 21).cast nbuf1_21)) (win1_22.stage (cfg1.slots t 22)) (hstage1_22 ((cfg1.slots t 22).cast nbuf1_22)) (win1_23.stage (cfg1.slots t 23)) (hstage1_23 ((cfg1.slots t 23).cast nbuf1_23)) (win1_24.stage (cfg1.slots t 24)) (hstage1_24 ((cfg1.slots t 24).cast nbuf1_24)) (win1_25.stage (cfg1.slots t 25)) (hstage1_25 ((cfg1.slots t 25).cast nbuf1_25)) (win1_26.stage (cfg1.slots t 26)) (hstage1_26 ((cfg1.slots t 26).cast nbuf1_26)) (win1_27.stage (cfg1.slots t 27)) (hstage1_27 ((cfg1.slots t 27).cast nbuf1_27)) (win1_28.stage (cfg1.slots t 28)) (hstage1_28 ((cfg1.slots t 28).cast nbuf1_28)) (win1_29.stage (cfg1.slots t 29)) (hstage1_29 ((cfg1.slots t 29).cast nbuf1_29)) (win1_30.stage (cfg1.slots t 30)) (hstage1_30 ((cfg1.slots t 30).cast nbuf1_30)) (win1_31.stage (cfg1.slots t 31)) (hstage1_31 ((cfg1.slots t 31).cast nbuf1_31)) (win1_32.stage (cfg1.slots t 32)) (hstage1_32 ((cfg1.slots t 32).cast nbuf1_32)) (win1_33.stage (cfg1.slots t 33)) (hstage1_33 ((cfg1.slots t 33).cast nbuf1_33)) (win1_34.stage (cfg1.slots t 34)) (hstage1_34 ((cfg1.slots t 34).cast nbuf1_34)) (win1_35.stage (cfg1.slots t 35)) (hstage1_35 ((cfg1.slots t 35).cast nbuf1_35)) (win1_36.stage (cfg1.slots t 36)) (hstage1_36 ((cfg1.slots t 36).cast nbuf1_36)) (Memref.whole cc1_scratch0) (Memref.isWhole_whole _) (Memref.whole cc1_scratch1) (Memref.isWhole_whole _) (Memref.whole cc1_scratch2) (Memref.isWhole_whole _) f2 f3 f4 f5 f6 f7 f8 f9 f10 f11 f12 f13 f14 f15 f16 f17 f18 f19 f20 f21 f22 f23 f24 f25 f26 f27 f28 f29 f30 f31 f32 f33 f34 f35 f36 f37 f39 f40 f41 f38 (win V c) (blk1 V c t.val) (blk2 V c t.val) e2 e3 e4 e5 e6 e7 e8 e9 e10 e11 e12 e13 e14 e15 e16 e17 e18 e19 e20 e21 e22 e23 e24 e25 e26 e27 e28 e29 e30 e31 e32 e33 e34 e35 e36 e37 (tw1 V c 64) (tw2 V c 64) (fun h => absurd ((first_iff t).mp h) (by omega)) hrel (off3_eq t) (off4_eq t) (off7_eq t) (off8_eq t) (fun h => absurd ((cond2_iff t).mp h) (by omega)) (fun h => absurd ((cond3_iff t).mp h) (by omega)) ((cond4_iff t).mpr (by omega)) (fun h => absurd ((cond5_iff t).mp h) (by omega)) (fun h => absurd ((cond6_iff t).mp h) (by omega)) ((cond7_iff t).mpr (by omega)))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H39]; · iexact H39
    isplitl [H40]; · iexact H40
    isplitl [H41]; · iexact H41
    isplitl [H38]; · iexact H38
    iintro ⟨H2, H3, H4, H5, H6, H7, H8, H9, H10, H11, H12, H13, H14, H15, H16, H17, H18, H19, H20, H21, H22, H23, H24, H25, H26, H27, H28, H29, H30, H31, H32, H33, H34, H35, H36, H37, ⟨%g39, %hg, H39⟩, ⟨%g40, %hg40, H40⟩, ⟨%g41, %hg41, H41⟩, ⟨%g38, %hg38, H38⟩⟩
    have hr : (rw32 t.val).val = t.val - 64 := by show t.val % 32 = _; omega
    have P40 : ∀ y : S4096x16.Idx, (y 0).val < 128 * (t.val + 1 - 64) → (Memref.whole cc1_scratch1).view.read (Elt F) g40 y = pooled1 V c y := fun y hy => by
      rw [hg40]
      refine put_agrees _ _ (rw32 t.val) _ (fun z hz => h40 z (by rw [hr] at hz; exact hz)) (fun z hz => ?_) y (by rw [hr]; omega)
      unfold pooled1
      rw [hz, hr, show 64 + (t.val - 64) = t.val from by omega]
    have P41 : ∀ y : S4096x16.Idx, (y 0).val < 128 * (t.val + 1 - 64) → (Memref.whole cc1_scratch2).view.read (Elt F) g41 y = pooled2 V c y := fun y hy => by
      rw [hg41]
      refine put_agrees _ _ (rw32 t.val) _ (fun z hz => h41 z (by rw [hr] at hz; exact hz)) (fun z hz => ?_) y (by rw [hr]; omega)
      unfold pooled2
      rw [hz, hr, show 64 + (t.val - 64) = t.val from by omega]
    isplitl [H39 H40 H41]
    · iexists g39; iexists g40; iexists g41
      isplitr
      · ipureintro
        refine ⟨fun _ => ?_, P40, P41⟩
        have t1 : tw1 V c (t.val + 1) = tw1 V c 64 := by
          have := towers_late (win V c) (blk1 V c) (win V c).k5 (t.val + 1 - 64); rw [show 64 + (t.val + 1 - 64) = t.val + 1 from by omega] at this; exact this
        have t2 : tw2 V c (t.val + 1) = tw2 V c 64 := by
          have := towers_late (win V c) (blk2 V c) (win V c).k6 (t.val + 1 - 64); rw [show 64 + (t.val + 1 - 64) = t.val + 1 from by omega] at this; exact this
        rw [t1, t2]; exact hg
      isplitl [H39]; · iexact H39
      isplitl [H40]; · iexact H40
      iexact H41
    isplitl [HO]
    · iexists W; isplitr; · ipureintro; exact fun _ _ => Or.inl trivial
      iexact HO
    isplitl [H2]; · iexists _; isplitr; swap; (· iexact H2); ipureintro; rw [after0]; exact e2
    isplitl [H3]; · iexists _; isplitr; swap; (· iexact H3); ipureintro; rw [after1]; exact e3
    isplitl [H4]; · iexists _; isplitr; swap; (· iexact H4); ipureintro; rw [after2]; exact e4
    isplitl [H5]; · iexists _; isplitr; swap; (· iexact H5); ipureintro; rw [after3]; exact e5
    isplitl [H6]; · iexists _; isplitr; swap; (· iexact H6); ipureintro; rw [after4]; exact e6
    isplitl [H7]; · iexists _; isplitr; swap; (· iexact H7); ipureintro; rw [after5]; exact e7
    isplitl [H8]; · iexists _; isplitr; swap; (· iexact H8); ipureintro; rw [after6]; exact e8
    isplitl [H9]; · iexists _; isplitr; swap; (· iexact H9); ipureintro; rw [after7]; exact e9
    isplitl [H10]; · iexists _; isplitr; swap; (· iexact H10); ipureintro; rw [after8]; exact e10
    isplitl [H11]; · iexists _; isplitr; swap; (· iexact H11); ipureintro; rw [after9]; exact e11
    isplitl [H12]; · iexists _; isplitr; swap; (· iexact H12); ipureintro; rw [after10]; exact e12
    isplitl [H13]; · iexists _; isplitr; swap; (· iexact H13); ipureintro; rw [after11]; exact e13
    isplitl [H14]; · iexists _; isplitr; swap; (· iexact H14); ipureintro; rw [after12]; exact e14
    isplitl [H15]; · iexists _; isplitr; swap; (· iexact H15); ipureintro; rw [after13]; exact e15
    isplitl [H16]; · iexists _; isplitr; swap; (· iexact H16); ipureintro; rw [after14]; exact e16
    isplitl [H17]; · iexists _; isplitr; swap; (· iexact H17); ipureintro; rw [after15]; exact e17
    isplitl [H18]; · iexists _; isplitr; swap; (· iexact H18); ipureintro; rw [after16]; exact e18
    isplitl [H19]; · iexists _; isplitr; swap; (· iexact H19); ipureintro; rw [after17]; exact e19
    isplitl [H20]; · iexists _; isplitr; swap; (· iexact H20); ipureintro; rw [after18]; exact e20
    isplitl [H21]; · iexists _; isplitr; swap; (· iexact H21); ipureintro; rw [after19]; exact e21
    isplitl [H22]; · iexists _; isplitr; swap; (· iexact H22); ipureintro; rw [after20]; exact e22
    isplitl [H23]; · iexists _; isplitr; swap; (· iexact H23); ipureintro; rw [after21]; exact e23
    isplitl [H24]; · iexists _; isplitr; swap; (· iexact H24); ipureintro; rw [after22]; exact e24
    isplitl [H25]; · iexists _; isplitr; swap; (· iexact H25); ipureintro; rw [after23]; exact e25
    isplitl [H26]; · iexists _; isplitr; swap; (· iexact H26); ipureintro; rw [after24]; exact e26
    isplitl [H27]; · iexists _; isplitr; swap; (· iexact H27); ipureintro; rw [after25]; exact e27
    isplitl [H28]; · iexists _; isplitr; swap; (· iexact H28); ipureintro; rw [after26]; exact e28
    isplitl [H29]; · iexists _; isplitr; swap; (· iexact H29); ipureintro; rw [after27]; exact e29
    isplitl [H30]; · iexists _; isplitr; swap; (· iexact H30); ipureintro; rw [after28]; exact e30
    isplitl [H31]; · iexists _; isplitr; swap; (· iexact H31); ipureintro; rw [after29]; exact e31
    isplitl [H32]; · iexists _; isplitr; swap; (· iexact H32); ipureintro; rw [after30]; exact e32
    isplitl [H33]; · iexists _; isplitr; swap; (· iexact H33); ipureintro; rw [after31]; exact e33
    isplitl [H34]; · iexists _; isplitr; swap; (· iexact H34); ipureintro; rw [after32]; exact e34
    isplitl [H35]; · iexists _; isplitr; swap; (· iexact H35); ipureintro; rw [after33]; exact e35
    isplitl [H36]; · iexists _; isplitr; swap; (· iexact H36); ipureintro; rw [after34]; exact e36
    isplitl [H37]; · iexists _; isplitr; swap; (· iexact H37); ipureintro; rw [after35]; exact e37
    iexists ((stage1_36 (cfg1.slots t 36)).view.read (Elt F) g38); iexists g38; isplitr; swap; (· iexact H38); ipureintro; rw [before36]
  · rw [not_not] at hl
    rw [show idle1 36 (grid1.coords t) = false from idle_last t hl]
    dsimp only
    iintro ⟨⟨%f39, %f40, %f41, %hΦ, H39, H40, H41⟩, ⟨%W, %hW, HO⟩, ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩, ⟨%d7, %f9, %e9, H9⟩, ⟨%d8, %f10, %e10, H10⟩, ⟨%d9, %f11, %e11, H11⟩, ⟨%d10, %f12, %e12, H12⟩, ⟨%d11, %f13, %e13, H13⟩, ⟨%d12, %f14, %e14, H14⟩, ⟨%d13, %f15, %e15, H15⟩, ⟨%d14, %f16, %e16, H16⟩, ⟨%d15, %f17, %e17, H17⟩, ⟨%d16, %f18, %e18, H18⟩, ⟨%d17, %f19, %e19, H19⟩, ⟨%d18, %f20, %e20, H20⟩, ⟨%d19, %f21, %e21, H21⟩, ⟨%d20, %f22, %e22, H22⟩, ⟨%d21, %f23, %e23, H23⟩, ⟨%d22, %f24, %e24, H24⟩, ⟨%d23, %f25, %e25, H25⟩, ⟨%d24, %f26, %e26, H26⟩, ⟨%d25, %f27, %e27, H27⟩, ⟨%d26, %f28, %e28, H28⟩, ⟨%d27, %f29, %e29, H29⟩, ⟨%d28, %f30, %e30, H30⟩, ⟨%d29, %f31, %e31, H31⟩, ⟨%d30, %f32, %e32, H32⟩, ⟨%d31, %f33, %e33, H33⟩, ⟨%d32, %f34, %e34, H34⟩, ⟨%d33, %f35, %e35, H35⟩, ⟨%d34, %f36, %e36, H36⟩, ⟨%d35, %f37, %e37, H37⟩, ⟨%d36, %f38, %e38, H38⟩⟩
    rw [before0] at e2
    rw [before1] at e3
    rw [before2] at e4
    rw [before3] at e5
    rw [before4] at e6
    rw [before5] at e7
    rw [before6] at e8
    rw [before7] at e9
    rw [before8] at e10
    rw [before9] at e11
    rw [before10] at e12
    rw [before11] at e13
    rw [before12] at e14
    rw [before13] at e15
    rw [before14] at e16
    rw [before15] at e17
    rw [before16] at e18
    rw [before17] at e19
    rw [before18] at e20
    rw [before19] at e21
    rw [before20] at e22
    rw [before21] at e23
    rw [before22] at e24
    rw [before23] at e25
    rw [before24] at e26
    rw [before25] at e27
    rw [before26] at e28
    rw [before27] at e29
    rw [before28] at e30
    rw [before29] at e31
    rw [before30] at e32
    rw [before31] at e33
    rw [before32] at e34
    rw [before33] at e35
    rw [before34] at e36
    rw [before35] at e37
    rw [before36] at e38
    obtain ⟨hR, h40, h41⟩ := hΦ
    have hrel : Rel ((Memref.whole cc1_scratch0).view.read (Elt F) f39) (tw1 V c 64) (tw2 V c 64) := by
        have t1 : tw1 V c t.val = tw1 V c 64 := by
          have := towers_late (win V c) (blk1 V c) (win V c).k5 (t.val - 64); rw [show 64 + (t.val - 64) = t.val from by omega] at this; exact this
        have t2 : tw2 V c t.val = tw2 V c 64 := by
          have := towers_late (win V c) (blk2 V c) (win V c).k6 (t.val - 64); rw [show 64 + (t.val - 64) = t.val from by omega] at this; exact this
        rw [← t1, ← t2]; exact hR (by omega)
    iapply (run_p2 c (grid1.coords t) (rw32 t.val) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) (win1_18.stage (cfg1.slots t 18)) (hstage1_18 ((cfg1.slots t 18).cast nbuf1_18)) (win1_19.stage (cfg1.slots t 19)) (hstage1_19 ((cfg1.slots t 19).cast nbuf1_19)) (win1_20.stage (cfg1.slots t 20)) (hstage1_20 ((cfg1.slots t 20).cast nbuf1_20)) (win1_21.stage (cfg1.slots t 21)) (hstage1_21 ((cfg1.slots t 21).cast nbuf1_21)) (win1_22.stage (cfg1.slots t 22)) (hstage1_22 ((cfg1.slots t 22).cast nbuf1_22)) (win1_23.stage (cfg1.slots t 23)) (hstage1_23 ((cfg1.slots t 23).cast nbuf1_23)) (win1_24.stage (cfg1.slots t 24)) (hstage1_24 ((cfg1.slots t 24).cast nbuf1_24)) (win1_25.stage (cfg1.slots t 25)) (hstage1_25 ((cfg1.slots t 25).cast nbuf1_25)) (win1_26.stage (cfg1.slots t 26)) (hstage1_26 ((cfg1.slots t 26).cast nbuf1_26)) (win1_27.stage (cfg1.slots t 27)) (hstage1_27 ((cfg1.slots t 27).cast nbuf1_27)) (win1_28.stage (cfg1.slots t 28)) (hstage1_28 ((cfg1.slots t 28).cast nbuf1_28)) (win1_29.stage (cfg1.slots t 29)) (hstage1_29 ((cfg1.slots t 29).cast nbuf1_29)) (win1_30.stage (cfg1.slots t 30)) (hstage1_30 ((cfg1.slots t 30).cast nbuf1_30)) (win1_31.stage (cfg1.slots t 31)) (hstage1_31 ((cfg1.slots t 31).cast nbuf1_31)) (win1_32.stage (cfg1.slots t 32)) (hstage1_32 ((cfg1.slots t 32).cast nbuf1_32)) (win1_33.stage (cfg1.slots t 33)) (hstage1_33 ((cfg1.slots t 33).cast nbuf1_33)) (win1_34.stage (cfg1.slots t 34)) (hstage1_34 ((cfg1.slots t 34).cast nbuf1_34)) (win1_35.stage (cfg1.slots t 35)) (hstage1_35 ((cfg1.slots t 35).cast nbuf1_35)) (win1_36.stage (cfg1.slots t 36)) (hstage1_36 ((cfg1.slots t 36).cast nbuf1_36)) (Memref.whole cc1_scratch0) (Memref.isWhole_whole _) (Memref.whole cc1_scratch1) (Memref.isWhole_whole _) (Memref.whole cc1_scratch2) (Memref.isWhole_whole _) f2 f3 f4 f5 f6 f7 f8 f9 f10 f11 f12 f13 f14 f15 f16 f17 f18 f19 f20 f21 f22 f23 f24 f25 f26 f27 f28 f29 f30 f31 f32 f33 f34 f35 f36 f37 f39 f40 f41 f38 (win V c) (blk1 V c t.val) (blk2 V c t.val) e2 e3 e4 e5 e6 e7 e8 e9 e10 e11 e12 e13 e14 e15 e16 e17 e18 e19 e20 e21 e22 e23 e24 e25 e26 e27 e28 e29 e30 e31 e32 e33 e34 e35 e36 e37 (tw1 V c 64) (tw2 V c 64) (fun h => absurd ((first_iff t).mp h) (by omega)) hrel (off3_eq t) (off4_eq t) (off7_eq t) (off8_eq t) (fun h => absurd ((cond2_iff t).mp h) (by omega)) (fun h => absurd ((cond3_iff t).mp h) (by omega)) ((cond4_iff t).mpr (by omega)) (fun h => absurd ((cond5_iff t).mp h) (by omega)) (fun h => absurd ((cond6_iff t).mp h) (by omega)) ((cond7_iff t).mpr (by omega)))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H39]; · iexact H39
    isplitl [H40]; · iexact H40
    isplitl [H41]; · iexact H41
    isplitl [H38]; · iexact H38
    iintro ⟨H2, H3, H4, H5, H6, H7, H8, H9, H10, H11, H12, H13, H14, H15, H16, H17, H18, H19, H20, H21, H22, H23, H24, H25, H26, H27, H28, H29, H30, H31, H32, H33, H34, H35, H36, H37, ⟨%g39, %hg, H39⟩, ⟨%g40, %hg40, H40⟩, ⟨%g41, %hg41, H41⟩, ⟨%g38, %hg38, H38⟩⟩
    have hr : (rw32 t.val).val = t.val - 64 := by show t.val % 32 = _; omega
    have P40 : ∀ y : S4096x16.Idx, (y 0).val < 128 * (t.val + 1 - 64) → (Memref.whole cc1_scratch1).view.read (Elt F) g40 y = pooled1 V c y := fun y hy => by
      rw [hg40]
      refine put_agrees _ _ (rw32 t.val) _ (fun z hz => h40 z (by rw [hr] at hz; exact hz)) (fun z hz => ?_) y (by rw [hr]; omega)
      unfold pooled1
      rw [hz, hr, show 64 + (t.val - 64) = t.val from by omega]
    have P41 : ∀ y : S4096x16.Idx, (y 0).val < 128 * (t.val + 1 - 64) → (Memref.whole cc1_scratch2).view.read (Elt F) g41 y = pooled2 V c y := fun y hy => by
      rw [hg41]
      refine put_agrees _ _ (rw32 t.val) _ (fun z hz => h41 z (by rw [hr] at hz; exact hz)) (fun z hz => ?_) y (by rw [hr]; omega)
      unfold pooled2
      rw [hz, hr, show 64 + (t.val - 64) = t.val from by omega]
    isplitl [H39 H40 H41]
    · iexists g39; iexists g40; iexists g41
      isplitr
      · ipureintro
        refine ⟨fun _ => ?_, P40, P41⟩
        have t1 : tw1 V c (t.val + 1) = tw1 V c 64 := by
          have := towers_late (win V c) (blk1 V c) (win V c).k5 (t.val + 1 - 64); rw [show 64 + (t.val + 1 - 64) = t.val + 1 from by omega] at this; exact this
        have t2 : tw2 V c (t.val + 1) = tw2 V c 64 := by
          have := towers_late (win V c) (blk2 V c) (win V c).k6 (t.val + 1 - 64); rw [show 64 + (t.val + 1 - 64) = t.val + 1 from by omega] at this; exact this
        rw [t1, t2]; exact hg
      isplitl [H39]; · iexact H39
      isplitl [H40]; · iexact H40
      iexact H41
    isplitl [HO]
    · iexists W; isplitr; · ipureintro; exact fun _ _ => Or.inl trivial
      iexact HO
    isplitl [H2]; · iexists _; isplitr; swap; (· iexact H2); ipureintro; rw [after0]; exact e2
    isplitl [H3]; · iexists _; isplitr; swap; (· iexact H3); ipureintro; rw [after1]; exact e3
    isplitl [H4]; · iexists _; isplitr; swap; (· iexact H4); ipureintro; rw [after2]; exact e4
    isplitl [H5]; · iexists _; isplitr; swap; (· iexact H5); ipureintro; rw [after3]; exact e5
    isplitl [H6]; · iexists _; isplitr; swap; (· iexact H6); ipureintro; rw [after4]; exact e6
    isplitl [H7]; · iexists _; isplitr; swap; (· iexact H7); ipureintro; rw [after5]; exact e7
    isplitl [H8]; · iexists _; isplitr; swap; (· iexact H8); ipureintro; rw [after6]; exact e8
    isplitl [H9]; · iexists _; isplitr; swap; (· iexact H9); ipureintro; rw [after7]; exact e9
    isplitl [H10]; · iexists _; isplitr; swap; (· iexact H10); ipureintro; rw [after8]; exact e10
    isplitl [H11]; · iexists _; isplitr; swap; (· iexact H11); ipureintro; rw [after9]; exact e11
    isplitl [H12]; · iexists _; isplitr; swap; (· iexact H12); ipureintro; rw [after10]; exact e12
    isplitl [H13]; · iexists _; isplitr; swap; (· iexact H13); ipureintro; rw [after11]; exact e13
    isplitl [H14]; · iexists _; isplitr; swap; (· iexact H14); ipureintro; rw [after12]; exact e14
    isplitl [H15]; · iexists _; isplitr; swap; (· iexact H15); ipureintro; rw [after13]; exact e15
    isplitl [H16]; · iexists _; isplitr; swap; (· iexact H16); ipureintro; rw [after14]; exact e16
    isplitl [H17]; · iexists _; isplitr; swap; (· iexact H17); ipureintro; rw [after15]; exact e17
    isplitl [H18]; · iexists _; isplitr; swap; (· iexact H18); ipureintro; rw [after16]; exact e18
    isplitl [H19]; · iexists _; isplitr; swap; (· iexact H19); ipureintro; rw [after17]; exact e19
    isplitl [H20]; · iexists _; isplitr; swap; (· iexact H20); ipureintro; rw [after18]; exact e20
    isplitl [H21]; · iexists _; isplitr; swap; (· iexact H21); ipureintro; rw [after19]; exact e21
    isplitl [H22]; · iexists _; isplitr; swap; (· iexact H22); ipureintro; rw [after20]; exact e22
    isplitl [H23]; · iexists _; isplitr; swap; (· iexact H23); ipureintro; rw [after21]; exact e23
    isplitl [H24]; · iexists _; isplitr; swap; (· iexact H24); ipureintro; rw [after22]; exact e24
    isplitl [H25]; · iexists _; isplitr; swap; (· iexact H25); ipureintro; rw [after23]; exact e25
    isplitl [H26]; · iexists _; isplitr; swap; (· iexact H26); ipureintro; rw [after24]; exact e26
    isplitl [H27]; · iexists _; isplitr; swap; (· iexact H27); ipureintro; rw [after25]; exact e27
    isplitl [H28]; · iexists _; isplitr; swap; (· iexact H28); ipureintro; rw [after26]; exact e28
    isplitl [H29]; · iexists _; isplitr; swap; (· iexact H29); ipureintro; rw [after27]; exact e29
    isplitl [H30]; · iexists _; isplitr; swap; (· iexact H30); ipureintro; rw [after28]; exact e30
    isplitl [H31]; · iexists _; isplitr; swap; (· iexact H31); ipureintro; rw [after29]; exact e31
    isplitl [H32]; · iexists _; isplitr; swap; (· iexact H32); ipureintro; rw [after30]; exact e32
    isplitl [H33]; · iexists _; isplitr; swap; (· iexact H33); ipureintro; rw [after31]; exact e33
    isplitl [H34]; · iexists _; isplitr; swap; (· iexact H34); ipureintro; rw [after32]; exact e34
    isplitl [H35]; · iexists _; isplitr; swap; (· iexact H35); ipureintro; rw [after33]; exact e35
    isplitl [H36]; · iexists _; isplitr; swap; (· iexact H36); ipureintro; rw [after34]; exact e36
    isplitl [H37]; · iexists _; isplitr; swap; (· iexact H37); ipureintro; rw [after35]; exact e37
    iexists g38; isplitr; swap; (· iexact H38); ipureintro
    refine (hg38 ((cond8_iff t).mpr hl)).trans ?_
    rw [show (dats V 0 c).after 36 t = result V c from by dsimp only [dats]]
    unfold result
    have a1 : put (s := S4096x16) ((Memref.whole cc1_scratch1).view.read (Elt F) f40) ![128 * (rw32 t.val).val, 0] ![128, 16] (pool1 (win V c) (blk1 V c t.val) (rows (win V c).k5 (rw32 t.val)) (tw1 V c 64) (rows2 (win V c).k7 (rw32 t.val))) = pooled1 V c :=
      hg40.symm.trans (funext fun y => P40 y (by have h : (y 0).val < 4096 := (y 0).isLt; omega))
    have a2 : put (s := S4096x16) ((Memref.whole cc1_scratch2).view.read (Elt F) f41) ![128 * (rw32 t.val).val, 0] ![128, 16] (pool2 (win V c) (blk2 V c t.val) (rows (win V c).k6 (rw32 t.val)) (tw2 V c 64) (rows2 (win V c).k7 (rw32 t.val))) = pooled2 V c :=
      hg41.symm.trans (funext fun y => P41 y (by have h : (y 0).val < 4096 := (y 0).isLt; omega))
    exact congrArg₂ (mlp (win V c)) a1 a2

end Cert.Proof.KernelIdeal
end
-- ==== Proof.IdealTile.lean ====
/-
  A tile's task: the list fetched, the two row buffers primed, the sixteen trips of the ring — each trip writes out two
  chunks and streams the next two in, one buffer's stream in flight while the other's is written out —, the last chunk.
  The loop's invariant holds the stream in flight into the second buffer, the write-out in flight from the first, the
  result's rows already written at the result's values and the rows still to come at their first contents.
-/
module

public import proofs.«01_k».proof.Proof.IdealSteps

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords) (X : Buf (Elt F) (xLoc d)) (I : Buf (Elt F) (iLoc d))

/-! ## What a tile holds -/

/-- A row buffer, at whatever it holds. -/
def Any (m : Memref sig .scVector .vmem S1536x16 .f32) : sProp 𝕄 := iprop(∃ f, m.view.loc (thr d L) ↦{fullShare} f)

/-- A row buffer reading `w`. -/
def Holds (m : Memref sig .scVector .vmem S1536x16 .f32) (w : S1536x16.Idx → F .f32) : sProp 𝕄 :=
  iprop(∃ f, ⌜m.view.read (Elt F) f = w⌝ ∗ (m.view.loc (thr d L) ↦{fullShare} f))

omit [FloatOps F] in
theorem holds_any (m : Memref sig .scVector .vmem S1536x16 .f32) (w : S1536x16.Idx → F .f32) : Holds d L m w ⊢ Any d L m := by
  unfold Holds Any
  iintro ⟨%f, -, H⟩
  iexists f; iexact H

abbrev xPts (q : PosShare TreeShare) : sProp 𝕄 := (xV).view.loc (thr d L) ↦{q} X
abbrev sPts (q : PosShare TreeShare) : sProp 𝕄 := (sV).view.loc (thr d L) ↦{q} (listVal L I : Buf (Elt F) ((sV).view.loc (thr d L)))
abbrev oPts (a b : ℕ) (f : Buf (Elt F) (oLoc d)) : sProp 𝕄 := oLoc d ↦[rowsIn a b]{fullShare} f

/-- The result on device `d`. -/
abbrev G : Buf (Elt F) (oLoc d) := gathered X I

/-- A stream in flight into `m`: it will bring the rows from row `r` of the tile's on. -/
def Streaming (m : Memref sig .scVector .vmem S1536x16 .f32) (sem : DmaSem sig) (r : ℕ) (q qo : PosShare TreeShare) : sProp 𝕄 :=
  Transfers.Flight countersEmb (thr d L) (.dma sem) (none : HIx 1) m.view.dmaCredit
    iprop(Holds d L m (chunkVal X I (base L + r)) ∗ xPts d L X q ∗ sPts d L I qo)

/-- What a transfer of a chunk to the result counts. -/
def outCredit : ℕ := ((oV).slice (Rect.unit (s := S1671168x16) ![0, 0] S1536x16.size (by decide)) (fun _ => rfl)).view.dmaCredit

/-- A write-out in flight from `m`: it will leave the rows from `r` on at the result. -/
def Writing (m : Memref sig .scVector .vmem S1536x16 .f32) (sem : DmaSem sig) (r : ℕ) : sProp 𝕄 :=
  Transfers.Flight countersEmb (thr d L) (.dma sem) (none : HIx 1) outCredit
    iprop(oPts d r (r + 1536) (G d X I) ∗ Any d L m)

/-- What the tile owes, and the waits it has recorded since `W`. -/
def Owing (O : CellTallies nD τ sig (HIx 1)) (W : Waits sig (HIx 1)) : sProp 𝕄 :=
  iprop(∃ W', ⌜∀ p ∈ W', p ∈ W ∨ p.2 = none⌝ ∗ owes (thr d L) O W')

/-! ## The steps -/

variable {k : PUnit → Prog (TpuEff nD τ sig (Elt F) Λ₀ (thr d L).2) PUnit} {α : Type}

theorem wp_fire {m : Memref sig .scVector .vmem S1536x16 .f32} {sem : DmaSem sig} {r : ℕ} (hr : r + 1536 ≤ 52224)
    {off : Fin 1 → ℕ} (ho : off = ![r]) (inb : ∀ a, off a + S1536.size a ≤ S52224.size a) (hids : ∀ j, (I j).toNat < 1000000)
    {inb' : ∀ a, (![0, 0] : Fin 2 → ℕ) a + S1000000x16.size a ≤ S1000000x16.size a} {hp} {hg : S1000000x16.Gathers 0 S1536x16}
    {hs : ∀ a, (Rect.unit (s := S1000000x16) ![0, 0] S1000000x16.size inb').stride a = 1} {hs' : ∀ a, (Rect.unit (s := S52224) off S1536.size inb).stride a = 1}
    {hn} {hsrc : ((xV).slice (Rect.unit (s := S1000000x16) ![0, 0] S1000000x16.size inb') hs).view.WordExact} {he hsp hsr}
    {k : PUnit → Prog (TpuEff nD τ sig (Elt F) Λ₀ (thr d L).2) α} {Q : α → sProp 𝕄} (q qo : PosShare TreeShare) :
    iprop(Any d L m ∗ xPts d L X q ∗ sPts d L I qo ∗ semVal (thr d L, SemLoc.dma sem) 0)
      ⊢ iprop((Streaming d L X I m sem r q qo -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp ((xV).slice (Rect.unit (s := S1000000x16) ![0, 0] S1000000x16.size inb') hs) m (a := 0) hg
                ((sV).slice (Rect.unit (s := S52224) off S1536.size inb) hs') hn sem hsrc he hsp hsr >>= k) Q) := by
  have hw : ∀ k : S1536.Idx, ((sV).slice (Rect.unit (s := S52224) off S1536.size inb) hs').view.read (Elt F) (listVal L I) k
      = listVal L I (fun | 0 => ⟨r + (k 0).val, by have h : (k 0).val < 1536 := (k 0).isLt; show r + (k 0).val < 52224; omega⟩) :=
    fun k => read_sSlice ho inb hs' _ k _
  have hin : ∀ x, (((sV).slice (Rect.unit (s := S52224) off S1536.size inb) hs').view.read (Elt F) (listVal L I) x).toNat
      < S1000000x16.size hg.axis := fun x => by rw [hw]; exact hids _
  unfold Any
  iintro ⟨⟨%fd, Hm⟩, Hx, Hs, Hsem⟩ Hk
  iapply (SparseCore.wp_gatherFromWhole countersEmb 𝒱₀ (thr d L) none (q := q) (qo := qo) (hg := hg) (none : HIx 1) m.view.dmaCredit
    (SparseCore.sum_rowCredit_eq_dmaCredit m hg.axis' (fun _ => rfl)) (by decide) hin) $$ [Hm Hx Hs Hsem]
  · isplitl [Hx]; · iexact Hx
    isplitl [Hm]; · iexact Hm
    isplitl [Hs]; · iexact Hs
    iexact Hsem
  iintro Hf
  iapply Hk
  unfold Streaming
  iapply (Transfers.Flight_mono countersEmb (thr d L) ?_) $$ Hf
  iintro ⟨Hm, Hx, Hs⟩
  isplitl [Hm]
  · unfold Holds
    iexists _
    isplitr
    swap; · iexact Hm
    ipureintro
    rw [View.read_write_univ, read_xAll inb' hs X]
    exact payload_eq L hg X I hids hr _ hw hn hin
  isplitl [Hx]; · iexact Hx
  iexact Hs

theorem wp_drain {m : Memref sig .scVector .vmem S1536x16 .f32} {sem : DmaSem sig} {r : ℕ} {q qo : PosShare TreeShare}
    {O : CellTallies nD τ sig (HIx 1)} {W : Waits sig (HIx 1)}
    {src : Memref sig .scVector .hbm S1000000x16 .f32} {hsrc hdst}
    {k : PUnit → Prog (TpuEff nD τ sig (Elt F) Λ₀ (thr d L).2) α} {Q : α → sProp 𝕄} :
    iprop(Streaming d L X I m sem r q qo ∗ Owing d L O W ∗ Transfers.MayWaits (thr d L) (none : HIx 1) O)
      ⊢ iprop((iprop((Holds d L m (chunkVal X I (base L + r)) ∗ xPts d L X q ∗ sPts d L I qo) ∗ semVal (thr d L, SemLoc.dma sem) 0 ∗ Owing d L O W)
            -∗ wp frame (wpE (defs₀ (F := F)) 𝒱₀ (thr d L) none) Set.univ (k ⟨⟩) Q)
          -∗ wp frame (wpE (defs₀ (F := F)) 𝒱₀ (thr d L) none) Set.univ (.op (.waitDma2 sem src m hsrc hdst) k) Q) := by
  unfold Streaming Owing
  iintro ⟨Hf, ⟨%W', %hW, HO⟩, Hmw⟩ Hk
  iapply (Transfers.wp_waitLocalO countersEmb 𝒱₀ (thr d L) none (none : HIx 1) (rfl : m.view.dmaCredit = _)) $$ [Hf HO Hmw]
  · isplitl [Hf]; · iexact Hf
    isplitl [HO]; · iexact HO
    iapply (Transfers.MayWaits.elim (SemLoc.dma sem)) $$ Hmw
  iintro ⟨HD, Hsem, HO⟩
  iapply Hk
  isplitl [HD]; · iexact HD
  isplitl [Hsem]; · iexact Hsem
  iexists _; isplitr
  swap; · iexact HO
  ipureintro; intro p hp
  rcases Finset.mem_insert.mp hp with hp | hp
  · exact .inr (hp ▸ rfl)
  · exact hW p hp

theorem wp_put {m : Memref sig .scVector .vmem S1536x16 .f32} {sem : DmaSem sig} {r : ℕ}
    {off : Fin 2 → ℕ} (ho : off = ![r, 0]) (inb : ∀ a, off a + S1536x16.size a ≤ S1671168x16.size a) (f : Buf (Elt F) (oLoc d)) {hs hsrc hdst hty}
    {k : PUnit → Prog (TpuEff nD τ sig (Elt F) Λ₀ (thr d L).2) α} {Q : α → sProp 𝕄} :
    iprop(Holds d L m (chunkVal X I r) ∗ oPts d r (r + 1536) f ∗ semVal (thr d L, SemLoc.dma sem) 0)
      ⊢ iprop((Writing d L X I m sem r -∗ wp frame (wpE (defs₀ (F := F)) 𝒱₀ (thr d L) none) Set.univ (k ⟨⟩) Q)
          -∗ wp frame (wpE (defs₀ (F := F)) 𝒱₀ (thr d L) none) Set.univ
              (.op (.enqueueDma m (.here ((oV).slice (Rect.unit (s := S1671168x16) off S1536x16.size inb) hs)) (.dma sem) hsrc hdst hty) k) Q) := by
  unfold Holds
  iintro ⟨⟨%fm, %hm, Hm⟩, Ho, Hsem⟩ Hk
  iapply (Transfers.wp_dmaFromWhole countersEmb 𝒱₀ (thr d L) none (none : HIx 1) outCredit (sm := .dma sem)
      (Sd := rowsIn r (r + 1536)) (fd := f) (q := fullShare) (fs := fm)
      (dst := (oV).slice (Rect.unit (s := S1671168x16) off S1536x16.size inb) hs)
      (show ((oV).slice (Rect.unit (s := S1671168x16) off S1536x16.size inb) hs).view.dmaCredit = outCredit from rfl)
      (by decide) (set_oSlice ho inb hs).subset) $$ [Hm Ho Hsem]
  · isplitl [Hm]; · iexact Hm
    isplitl [Ho]; · iexact Ho
    iexact Hsem
  iintro Hf
  iapply Hk
  unfold Writing
  iapply (Transfers.Flight_mono countersEmb (thr d L) ?_) $$ Hf
  iintro ⟨Ho, Hm⟩
  isplitl [Ho]
  · iapply (Entails.of_eq (pointsTo_congr (fun j hj => ?_))) $$ Ho
    show ((oV).slice (Rect.unit (s := S1671168x16) off S1536x16.size inb) hs).view.write (Elt F) f (m.view.read (Elt F) fm) Finset.univ j = _
    rw [hm]
    exact written_eq ho inb hs X I f j (by rw [set_oSlice ho inb hs]; exact hj)
  unfold Any
  iexists _; iexact Hm

theorem wp_putWait {m m' : Memref sig .scVector .vmem S1536x16 .f32} {sem : DmaSem sig} {r : ℕ}
    {O : CellTallies nD τ sig (HIx 1)} {W : Waits sig (HIx 1)}
    {off : Fin 2 → ℕ} (inb : ∀ a, off a + S1536x16.size a ≤ S1671168x16.size a) {hs hsrc hdst}
    {k : PUnit → Prog (TpuEff nD τ sig (Elt F) Λ₀ (thr d L).2) α} {Q : α → sProp 𝕄} :
    iprop(Writing d L X I m sem r ∗ Owing d L O W ∗ Transfers.MayWaits (thr d L) (none : HIx 1) O)
      ⊢ iprop((iprop((oPts d r (r + 1536) (G d X I) ∗ Any d L m) ∗ semVal (thr d L, SemLoc.dma sem) 0 ∗ Owing d L O W)
            -∗ wp frame (wpE (defs₀ (F := F)) 𝒱₀ (thr d L) none) Set.univ (k ⟨⟩) Q)
          -∗ wp frame (wpE (defs₀ (F := F)) 𝒱₀ (thr d L) none) Set.univ
              (.op (.waitDma2 sem m' ((oV).slice (Rect.unit (s := S1671168x16) off S1536x16.size inb) hs) hsrc hdst) k) Q) := by
  unfold Writing Owing
  iintro ⟨Hf, ⟨%W', %hW, HO⟩, Hmw⟩ Hk
  iapply (Transfers.wp_waitLocalO countersEmb 𝒱₀ (thr d L) none (none : HIx 1)
    (show ((oV).slice (Rect.unit (s := S1671168x16) off S1536x16.size inb) hs).view.dmaCredit = outCredit from rfl)) $$ [Hf HO Hmw]
  · isplitl [Hf]; · iexact Hf
    isplitl [HO]; · iexact HO
    iapply (Transfers.MayWaits.elim (SemLoc.dma sem)) $$ Hmw
  iintro ⟨HD, Hsem, HO⟩
  iapply Hk
  isplitl [HD]; · iexact HD
  isplitl [Hsem]; · iexact Hsem
  iexists _; isplitr
  swap; · iexact HO
  ipureintro; intro p hp
  rcases Finset.mem_insert.mp hp with hp | hp
  · exact .inr (hp ▸ rfl)
  · exact hW p hp

end Tile

end Cert.Proof.KernelIdeal

end
-- ==== Proof.IdealBody.lean ====
/-
  The tile's whole task, from the steps: the list's fetch, the two first streams, the ring's sixteen trips by an invariant,
  the last chunk's write-out and the last two waits.
-/
module

public import proofs.«01_k».proof.Proof.IdealTile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords) (X : Buf (Elt F) (xLoc d)) (I : Buf (Elt F) (iLoc d)) (f₀ : Buf (Elt F) (oLoc d))

/-! ## The tile's own buffers and semaphores -/

abbrev cell (s : DmaSem sig) : GSem nD τ sig := (thr d L, .dma s)

/-- The subcore's own cells beyond the kernel's five. -/
abbrev restCells : Finset (GSem nD τ sig) :=
  (((((ownCells (thr d L)).erase (cell d L cc0_scoped0.sem)).erase (cell d L cc0_scratch3.sem)).erase (cell d L cc0_scratch4.sem)).erase
    (cell d L cc0_scratch5.sem)).erase (cell d L cc0_scratch6.sem)

omit [FloatOps F] in
theorem mem_cells (s : DmaSem sig) (h : (SemLoc.dma s : SemLoc sig).isScoped .scVector = true) : cell d L s ∈ ownCells (thr d L) :=
  (mem_ownCells (g := cell d L s)).mpr ⟨rfl, h⟩

omit [FloatOps F] in
theorem cell_ne {s s' : DmaSem sig} (h : (SemLoc.dma s : SemLoc sig) ≠ SemLoc.dma s') : cell d L s ≠ cell d L s' :=
  fun e => h (congrArg Prod.snd e)

omit [FloatOps F] in
theorem ownSems0_V :
    (ownSems0 (thr d L) : sProp 𝕄)
      = iprop(semVal (cell d L cc0_scoped0.sem) 0 ∗ semVal (cell d L cc0_scratch3.sem) 0 ∗ semVal (cell d L cc0_scratch4.sem) 0
          ∗ semVal (cell d L cc0_scratch5.sem) 0 ∗ semVal (cell d L cc0_scratch6.sem) 0
          ∗ bigSep (restCells d L) fun g => semVal g 0) := by
  unfold SparseCore.Cfg.ownSems0
  rw [SparseCore.bigSep_erase' (mem_cells d L cc0_scoped0.sem (by decide)),
    SparseCore.bigSep_erase' (Finset.mem_erase.mpr ⟨cell_ne d L (by decide), mem_cells d L cc0_scratch3.sem (by decide)⟩),
    SparseCore.bigSep_erase' (Finset.mem_erase.mpr ⟨cell_ne d L (by decide), Finset.mem_erase.mpr ⟨cell_ne d L (by decide),
      mem_cells d L cc0_scratch4.sem (by decide)⟩⟩),
    SparseCore.bigSep_erase' (Finset.mem_erase.mpr ⟨cell_ne d L (by decide), Finset.mem_erase.mpr ⟨cell_ne d L (by decide),
      Finset.mem_erase.mpr ⟨cell_ne d L (by decide), mem_cells d L cc0_scratch5.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
      mem_cells d L cc0_scratch6.sem (by decide)⟩⟩⟩⟩)]

abbrev bufOf (b : Ref sig .scVector) : DevRef τ sig := (Proc.scVector (cV L) (jV L)).devRef b
abbrev restRefs : Finset (DevRef τ sig) :=
  (((ownRefs (τ := τ) (.scVector (cV L) (jV L))).erase (bufOf L cc0_scratch0)).erase (bufOf L cc0_scratch1)).erase (bufOf L cc0_scratch2)

omit [FloatOps F] in
theorem bufOf_ne {b b' : Ref sig .scVector} (h : b ≠ b') : bufOf L b ≠ bufOf L b' := fun e => h (Proc.devRef_injective _ e)

omit [FloatOps F] in
/-- The list's and the two row buffers are among the subcore's own. -/
theorem ownBufs_V :
    (ownBufs (thr d L) : sProp 𝕄)
      = iprop((∃ f, (sV).view.loc (thr d L) ↦{fullShare} f) ∗ Any d L r0V ∗ Any d L r1V
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := bufOf L cc0_scratch0) rfl)).trans ?_
  rw [SparseCore.bigSep_erase' (Finset.mem_erase.mpr ⟨bufOf_ne L (show (cc0_scratch1 : Ref sig .scVector) ≠ cc0_scratch0 by decide),
      SparseCore.Cfg.mem_ownRefs_of_owner (p := Proc.scVector (cV L) (jV L)) (b := bufOf L cc0_scratch1) rfl⟩),
    SparseCore.bigSep_erase' (Finset.mem_erase.mpr ⟨bufOf_ne L (show (cc0_scratch2 : Ref sig .scVector) ≠ cc0_scratch1 by decide),
      Finset.mem_erase.mpr ⟨bufOf_ne L (show (cc0_scratch2 : Ref sig .scVector) ≠ cc0_scratch0 by decide),
      SparseCore.Cfg.mem_ownRefs_of_owner (p := Proc.scVector (cV L) (jV L)) (b := bufOf L cc0_scratch2) rfl⟩⟩)]
  rfl

omit [FloatOps F] in
/-- The rows from `a` to `b`, cut at `c`. -/
theorem oPts_cut {a b c : ℕ} (h : a ≤ b) (h' : b ≤ c) (f : Buf (Elt F) (oLoc d)) :
    (oPts d a c f : sProp 𝕄) ⊣⊢ iprop(oPts d a b f ∗ oPts d b c f) := by
  unfold oPts
  rw [← rowsIn_union h h']
  exact pointsTo_union (rowsIn_disjoint a b c)

/-! ## The ring's invariant -/

/-- Before trip `t`: the stream of chunk `2t + 1` in flight into the second buffer, the write-out of chunk `2t` in flight from
    the first; the rows before it at the result, those after it untouched. -/
def ring (q : PosShare TreeShare) (O : CellTallies nD τ sig (HIx 1)) (W : Waits sig (HIx 1)) (t : ℕ) (_ : BitVec 32) : sProp 𝕄 :=
  iprop(Streaming d L X I r1V cc0_scratch4.sem (3072 * t + 1536) q.right fullShare.right
    ∗ Writing d L X I r0V cc0_scratch5.sem (base L + 3072 * t)
    ∗ xPts d L X q.left ∗ sPts d L I fullShare.left
    ∗ semVal (cell d L cc0_scratch3.sem) 0 ∗ semVal (cell d L cc0_scratch6.sem) 0
    ∗ oPts d (base L) (base L + 3072 * t) (G d X I) ∗ oPts d (base L + 3072 * t + 1536) (base L + 52224) f₀
    ∗ Owing d L O W ∗ Transfers.MayWaits (thr d L) (none : HIx 1) O)

omit [FloatOps F] in
theorem off4_1 (t : Fin k0_t1_loop.trips) : k0_off4 t 1#32 = ![3072 * t.val + 3072] :=
  (k0_off4_eq t 0).trans (by simp)
omit [FloatOps F] in
theorem off4_2 (t : Fin k0_t1_loop.trips) : k0_off4 t 2#32 = ![3072 * (t.val + 1) + 1536] :=
  (k0_off4_eq t 1).trans (by funext a; match a with | 0 => show 3072 * t.val + 1536 * 1 + 3072 = 3072 * (t.val + 1) + 1536; omega)
omit [FloatOps F] in
theorem off5_1 (t : Fin k0_t1_loop.trips) : k0_off5 L t 1#32 = ![base L + (3072 * t.val + 1536), 0] :=
  (k0_off5_eq L t 0).trans (by
    funext a
    match a with
    | 0 => show 104448 * (L 1).val + 52224 * (L 0).val + 3072 * t.val + 1536 * 0 + 1536 = 104448 * (L 1).val + 52224 * (L 0).val + (3072 * t.val + 1536); omega
    | 1 => show (0 : ℕ) = 0; rfl)
omit [FloatOps F] in
theorem off5_2 (t : Fin k0_t1_loop.trips) : k0_off5 L t 2#32 = ![base L + (3072 * t.val + 3072), 0] :=
  (k0_off5_eq L t 1).trans (by
    funext a
    match a with
    | 0 => show 104448 * (L 1).val + 52224 * (L 0).val + 3072 * t.val + 1536 * 1 + 1536 = 104448 * (L 1).val + 52224 * (L 0).val + (3072 * t.val + 3072); omega
    | 1 => show (0 : ℕ) = 0; rfl)
omit [FloatOps F] in
theorem off2_0 : k0_off2 L 0#32 = ![base L + 0, 0] := (k0_off2_eq L 0).trans (by unfold base; congr 1)
omit [FloatOps F] in
theorem off2_1 : k0_off2 L 50688#32 = ![base L + 50688, 0] := (k0_off2_eq L 1).trans (by unfold base; congr 1)
omit [FloatOps F] in
theorem off1_0 : k0_off1 L = ![base L] := k0_off1_eq L

theorem trips_eq : k0_t1_loop.trips = 16 := by decide

set_option maxHeartbeats 1000000 in
/-- One trip of the ring. -/
theorem ring_step (hids : ∀ j, (I j).toNat < 1000000) (q : PosShare TreeShare) (O : CellTallies nD τ sig (HIx 1)) (W : Waits sig (HIx 1))
    (v3 : BitVec 32) (t : Fin k0_t1_loop.trips) (acc : BitVec 32) :
    ring d L X I f₀ q O W t.val acc
      ⊢ wp frame (wpE (defs₀ (F := F)) 𝒱₀ (thr d L) none) Set.univ
          (k0_t1_body L xV (Memref.isWhole_whole _) iV (Memref.isWhole_whole _) oV (Memref.isWhole_whole _)
            sV (Memref.isWhole_whole _) r0V (Memref.isWhole_whole _) r1V (Memref.isWhole_whole _)
            cc0_scratch3 cc0_scratch4 cc0_scratch5 cc0_scratch6 cc0_scoped0 v3 t acc)
          (ring d L X I f₀ q O W (t.val + 1)) := by
  have ht : t.val < 16 := trips_eq ▸ t.isLt
  unfold k0_t1_body
  simp only [k0_part1_eq_skeleton]; unfold k0_part1_skel
  simp only [Prog.lift, Prog.bind_op, Prog.bind_ret, Prog.pure_eq_ret, Prog.bind_assoc]
  unfold ring
  iintro ⟨Hst, Hwr, Hx, Hs, Hg0, Hw1, Hdone, Htodo, HO, #Hmw⟩
  -- the first buffer's write-out lands
  iapply (wp_putWait d L X I _) $$ [Hwr HO]
  · isplitl [Hwr]; · iexact Hwr
    isplitl [HO]; · iexact HO
    iexact Hmw
  iintro ⟨⟨Hrow, Hm0⟩, Hw0, HO⟩
  ihave Hdone := (oPts_cut (F := F) d (a := base L) (b := base L + 3072 * t.val) (c := base L + 3072 * t.val + 1536) (by omega) (by omega) (G d X I)).2 $$ [Hdone Hrow]
  · isplitl [Hdone] <;> iassumption
  -- chunk `2t + 2` streams into it
  iapply (wp_fire d L X I (r := 3072 * t.val + 3072) (by omega) (off4_1 t) _ hids q.left fullShare.left) $$ [Hm0 Hx Hs Hg0]
  · isplitl [Hm0]; · iexact Hm0
    isplitl [Hx]; · iexact Hx
    isplitl [Hs]; · iexact Hs
    iexact Hg0
  iintro Hst0
  -- chunk `2t + 1` has landed in the second
  unfold SparseCore.waitIndirectGather
  simp only [Prog.lift, Prog.bind_op, Prog.bind_ret, Prog.pure_eq_ret, Prog.bind_assoc]
  iapply (wp_drain d L X I) $$ [Hst HO]
  · isplitl [Hst]; · iexact Hst
    isplitl [HO]; · iexact HO
    iexact Hmw
  iintro ⟨⟨Hm1, Hx1, Hs1⟩, Hg1, HO⟩
  -- and is written out
  ihave Htodo' := (oPts_cut (F := F) d (a := base L + 3072 * t.val + 1536) (b := base L + (3072 * t.val + 1536) + 1536) (c := base L + 52224) (by omega) (by omega) f₀).1 $$ Htodo
  icases Htodo' with ⟨Hrow, Htodo⟩
  iapply (wp_put d L X I (off5_1 L t) _ f₀) $$ [Hm1 Hrow Hw1]
  · isplitl [Hm1]; · iexact Hm1
    isplitl [Hrow]; · iexact Hrow
    iexact Hw1
  iintro Hwr1
  iapply (wp_putWait d L X I _) $$ [Hwr1 HO]
  · isplitl [Hwr1]; · iexact Hwr1
    isplitl [HO]; · iexact HO
    iexact Hmw
  iintro ⟨⟨Hrow, Hm1⟩, Hw1, HO⟩
  ihave Hdone := (oPts_cut (F := F) d (a := base L) (b := base L + (3072 * t.val + 1536)) (c := base L + (3072 * t.val + 1536) + 1536) (by omega) (by omega) (G d X I)).2 $$ [Hdone Hrow]
  · isplitl [Hdone] <;> iassumption
  -- chunk `2t + 3` streams into the second
  iapply (wp_fire d L X I (r := 3072 * (t.val + 1) + 1536) (by omega) (off4_2 t) _ hids q.right fullShare.right) $$ [Hm1 Hx1 Hs1 Hg1]
  · isplitl [Hm1]; · iexact Hm1
    isplitl [Hx1]; · iexact Hx1
    isplitl [Hs1]; · iexact Hs1
    iexact Hg1
  iintro Hst
  -- chunk `2t + 2` has landed in the first and is written out
  simp only [Prog.lift, Prog.bind_op, Prog.bind_ret, Prog.pure_eq_ret, Prog.bind_assoc]
  iapply (wp_drain d L X I) $$ [Hst0 HO]
  · isplitl [Hst0]; · iexact Hst0
    isplitl [HO]; · iexact HO
    iexact Hmw
  iintro ⟨⟨Hm0, Hx, Hs⟩, Hg0, HO⟩
  ihave Htodo' := (oPts_cut (F := F) d (a := base L + (3072 * t.val + 1536) + 1536) (b := base L + (3072 * t.val + 3072) + 1536) (c := base L + 52224) (by omega) (by omega) f₀).1 $$ Htodo
  icases Htodo' with ⟨Hrow, Htodo⟩
  iapply (wp_put d L X I (off5_2 L t) _ f₀) $$ [Hm0 Hrow Hw0]
  · isplitl [Hm0]; · iexact Hm0
    isplitl [Hrow]; · iexact Hrow
    iexact Hw0
  iintro Hwr
  simp only [wp_ret]
  imodintro
  isplitl [Hst]; · iexact Hst
  isplitl [Hwr]; · iexact Hwr
  isplitl [Hx]; · iexact Hx
  isplitl [Hs]; · iexact Hs
  isplitl [Hg0]; · iexact Hg0
  isplitl [Hw1]; · iexact Hw1
  isplitl [Hdone]; · iexact Hdone
  isplitl [Htodo]; · iexact Htodo
  isplitl [HO]; · iexact HO
  iexact Hmw

/-! ## The task -/

set_option maxHeartbeats 2000000 in
/-- The task on the tile: from its share of the table and of the row list and its rows of the result, to those rows at the
    result. -/
theorem tile_body (hF : (K (F := F)).Facts) (hids : ∀ j, (I j).toNat < 1000000) (q qi : PosShare TreeShare)
    (O : CellTallies nD τ sig (HIx 1)) (W : Waits sig (HIx 1)) (hO : ∀ g, O g none = 0) :
    iprop(levAts (K (F := F)).L (K (F := F)).lev ∗ emp
        ∗ ((xLoc d ↦{q} X) ∗ (iLoc d ↦{qi} I) ∗ oPts d (base L) (base L + 52224) f₀)
        ∗ scopedBufs (thr d L) ∗ scopedSems0 (thr d L) ∗ owes (thr d L) O W)
      ⊢ wp frame (wpE (defs₀ (F := F)) 𝒱₀ (thr d L) none) Set.univ
          (cc0_gather_k L xV (Memref.isWhole_whole _) iV (Memref.isWhole_whole _) oV (Memref.isWhole_whole _)
            sV (Memref.isWhole_whole _) r0V (Memref.isWhole_whole _) r1V (Memref.isWhole_whole _)
            cc0_scratch3 cc0_scratch4 cc0_scratch5 cc0_scratch6 cc0_scoped0)
          fun _ => iprop(((xLoc d ↦{q} X) ∗ (iLoc d ↦{qi} I) ∗ oPts d (base L) (base L + 52224) (G d X I))
            ∗ scopedBufs (thr d L) ∗ scopedSems0 (thr d L)
            ∗ ∃ W', ⌜∀ p ∈ W', p ∈ W ∨ p.2 = none⌝ ∗ owes (thr d L) O W') := by
  simp only [cc0_gather_k_eq_skeleton]; unfold cc0_gather_k_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  simp only [Prog.lift, Prog.bind_op, Prog.bind_ret, Prog.pure_eq_ret, Prog.bind_assoc]
  iintro ⟨#Hlv, -, ⟨Hx, Hi, Ho⟩, ⟨⟨%fs, Hs⟩, Hm0, Hm1, Hbufs⟩, ⟨Hsc, Hg0, Hg1, Hw0, Hw1, Hsems⟩, HO⟩
  ihave #Hmw := (show levAts (K (F := F)).L (K (F := F)).lev ⊢ Transfers.MayWaits (thr d L) (none : HIx 1) O from
    (K (F := F)).mayWaits_none (thr := thr d L) hO) $$ Hlv
  -- the list's fetch
  iapply (Transfers.wp_dmaFromWhole countersEmb 𝒱₀ (thr d L) none (none : HIx 1) (sV).view.dmaCredit (sm := .dma cc0_scoped0.sem)
      (Sd := Finset.univ) (fd := fs) (q := qi) (fs := I) (dst := sV) rfl (by decide) (Finset.subset_univ _)) $$ [Hi Hs Hsc]
  · isplitl [Hi]; · iexact Hi
    isplitl [Hs]; · iexact Hs
    iexact Hsc
  iintro Hf
  iapply (Transfers.wp_waitLocalO countersEmb 𝒱₀ (thr d L) none (none : HIx 1) (rfl : (sV).view.dmaCredit = _)) $$ [Hf HO]
  · isplitl [Hf]; · iexact Hf
    isplitl [HO]; · iexact HO
    iapply (Transfers.MayWaits.elim (SemLoc.dma cc0_scoped0.sem)) $$ Hmw
  iintro ⟨⟨Hs, Hi⟩, Hsc, HO⟩
  ihave HO := (show iprop(owes (thr d L) O (insert (SemLoc.dma cc0_scoped0.sem, (none : HIx 1)) W)) ⊢ Owing d L O W from by
    unfold Owing
    iintro HO
    iexists _; isplitr
    swap; · iexact HO
    ipureintro; intro p hp
    rcases Finset.mem_insert.mp hp with hp | hp
    · exact .inr (hp ▸ rfl)
    · exact .inl hp) $$ HO
  ihave Hs := (Entails.of_eq (show ((sV).view.loc (thr d L) ↦[Finset.univ]{fullShare} _ : sProp 𝕄) = sPts d L I fullShare from by
    rw [View.write_whole_univ]
    exact congrArg (fun f => ((sV).view.loc (thr d L) ↦{fullShare} f : sProp 𝕄)) (read_iSlice (F := F) L (off1_0 L) _ _ I))) $$ Hs
  -- the two shares of the table and of the list
  ihave Hx := (pointsTo_share (PosShare.mem_left_op_right q)).1 $$ Hx
  icases Hx with ⟨Hxa, Hxb⟩
  ihave Hs := (pointsTo_share (PosShare.mem_left_op_right fullShare)).1 $$ Hs
  icases Hs with ⟨Hsa, Hsb⟩
  -- the first two streams
  iapply (wp_fire d L X I (r := 0) (by omega) rfl _ hids q.left fullShare.left) $$ [Hm0 Hxa Hsa Hg0]
  · isplitl [Hm0]; · iexact Hm0
    isplitl [Hxa]; · iexact Hxa
    isplitl [Hsa]; · iexact Hsa
    iexact Hg0
  iintro Hst0
  simp only [Prog.lift, Prog.bind_op, Prog.bind_ret, Prog.pure_eq_ret, Prog.bind_assoc]
  iapply (wp_fire d L X I (r := 1536) (by omega) rfl _ hids q.right fullShare.right) $$ [Hm1 Hxb Hsb Hg1]
  · isplitl [Hm1]; · iexact Hm1
    isplitl [Hxb]; · iexact Hxb
    isplitl [Hsb]; · iexact Hsb
    iexact Hg1
  iintro Hst1
  unfold SparseCore.waitIndirectGather
  simp only [Prog.lift, Prog.bind_op, Prog.bind_ret, Prog.pure_eq_ret, Prog.bind_assoc]
  iapply (wp_drain d L X I) $$ [Hst0 HO]
  · isplitl [Hst0]; · iexact Hst0
    isplitl [HO]; · iexact HO
    iexact Hmw
  iintro ⟨⟨Hm0, Hxa, Hsa⟩, Hg0, HO⟩
  ihave Ho' := (oPts_cut (F := F) d (a := base L) (b := base L + 0 + 1536) (c := base L + 52224) (by omega) (by omega) f₀).1 $$ Ho
  icases Ho' with ⟨Hrow, Ho⟩
  iapply (wp_put d L X I (off2_0 L) _ f₀) $$ [Hm0 Hrow Hw0]
  · isplitl [Hm0]; · iexact Hm0
    isplitl [Hrow]; · iexact Hrow
    iexact Hw0
  iintro Hwr
  -- the ring
  iapply (Scf.wp_for_bind frame (wpE (defs₀ (F := F)) 𝒱₀ (thr d L) none) Set.univ _ _ _ k0_t1_ok 0#32 _ (ring d L X I f₀ q O W)
    (ring_step d L X I f₀ hids q O W _)) $$ [Hst1 Hwr Hxa Hsa Hg0 Hw1 Ho HO]
  · unfold ring
    isplitl [Hst1]; · iexact Hst1
    isplitl [Hwr]; · iexact Hwr
    isplitl [Hxa]; · iexact Hxa
    isplitl [Hsa]; · iexact Hsa
    isplitl [Hg0]; · iexact Hg0
    isplitl [Hw1]; · iexact Hw1
    isplitr
    · rw [show base L + 3072 * 0 = base L by omega, oPts, rowsIn_self, pointsTo_empty]; iempintro
    isplitl [Ho]; · iexact Ho
    isplitl [HO]; · iexact HO
    iexact Hmw
  iintro %acc Hring
  ihave Hring := (Entails.of_eq (show ring d L X I f₀ q O W (Scf.trips k0_t1_loop.lb k0_t1_loop.ub k0_t1_loop.st) acc = ring d L X I f₀ q O W 16 acc from
    congrArg (fun n => ring d L X I f₀ q O W n acc) trips_eq)) $$ Hring
  unfold ring
  icases Hring with ⟨Hst, Hwr, Hxa, Hsa, Hg0, Hw1, Hdone, Htodo, HO, -⟩
  -- the last chunk
  iapply (wp_drain d L X I) $$ [Hst HO]
  · isplitl [Hst]; · iexact Hst
    isplitl [HO]; · iexact HO
    iexact Hmw
  iintro ⟨⟨Hm1, Hxb, Hsb⟩, Hg1, HO⟩
  iapply (wp_put d L X I (off2_1 L) _ f₀) $$ [Hm1 Htodo Hw1]
  · isplitl [Hm1]; · iexact Hm1
    isplitl [Htodo]; · iexact Htodo
    iexact Hw1
  iintro Hwr1
  iapply (wp_putWait d L X I _) $$ [Hwr HO]
  · isplitl [Hwr]; · iexact Hwr
    isplitl [HO]; · iexact HO
    iexact Hmw
  iintro ⟨⟨Hrow, Hm0⟩, Hw0, HO⟩
  ihave Hdone := (oPts_cut (F := F) d (a := base L) (b := base L + 3072 * 16) (c := base L + 3072 * 16 + 1536) (by omega) (by omega) (G d X I)).2 $$ [Hdone Hrow]
  · isplitl [Hdone] <;> iassumption
  iapply (wp_putWait d L X I _) $$ [Hwr1 HO]
  · isplitl [Hwr1]; · iexact Hwr1
    isplitl [HO]; · iexact HO
    iexact Hmw
  iintro ⟨⟨Hrow, Hm1⟩, Hw1, HO⟩
  ihave Hdone := (oPts_cut (F := F) d (a := base L) (b := base L + 50688) (c := base L + 50688 + 1536) (by omega) (by omega) (G d X I)).2 $$ [Hdone Hrow]
  · isplitl [Hdone] <;> iassumption
  ihave Hx := (pointsTo_share (PosShare.mem_left_op_right q)).2 $$ [Hxa Hxb]
  · isplitl [Hxa]; · iexact Hxa
    iexact Hxb
  ihave Hs := (pointsTo_share (PosShare.mem_left_op_right fullShare)).2 $$ [Hsa Hsb]
  · isplitl [Hsa]; · iexact Hsa
    iexact Hsb
  simp only [wp_ret]
  imodintro
  isplitl [Hx Hi Hdone]
  · isplitl [Hx]; · iexact Hx
    isplitl [Hi]; · iexact Hi
    iexact Hdone
  isplitl [Hs Hm0 Hm1 Hbufs]
  · isplitl [Hs]; · iexists _; iexact Hs
    isplitl [Hm0]; · iexact Hm0
    isplitl [Hm1]; · iexact Hm1
    iexact Hbufs
  isplitl [Hsc Hg0 Hg1 Hw0 Hw1 Hsems]
  · isplitl [Hsc]; · iexact Hsc
    isplitl [Hg0]; · iexact Hg0
    isplitl [Hg1]; · iexact Hg1
    isplitl [Hw0]; · iexact Hw0
    isplitl [Hw1]; · iexact Hw1
    iexact Hsems
  unfold Owing
  iexact HO

end Tile

end Cert.Proof.KernelIdeal

end
-- ==== Proof.IdealCall.lean ====
/-
  What the call's cores and tiles are handed and hand back, for contents of the table, the list and the result that are
  the caller's: each core a share of the table and of the list and the result's rows of its sixteen tiles, each tile a
  share of those and its 52224 rows.
-/
module

public import proofs.«01_k».proof.Proof.IdealBody
public import proofs.«01_k».proof.Proof.Gen.KernelIdeal.Launch
public import Idealize.ShloMosaic.Lib.Pipeline.Regions

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The shares and the rows -/

/-- A core's share of an array every core reads, and a tile's of its core's. -/
def qc (c : Fin 2) : PosShare TreeShare := pieceOf fullShare 2 (by decide) c
def qt (c : Fin 2) (i : Fin 16) : PosShare TreeShare := pieceOf (qc c) 16 (by decide) i

/-- Where the rows of tile `i` of core `c` start. -/
def tileBase (c : Fin 2) (i : Fin 16) : ℕ := 104448 * i.val + 52224 * c.val

def tileRows (c : Fin 2) (i : Fin 16) : Finset S1671168x16.Idx := rowsIn (tileBase c i) (tileBase c i + 52224)

def coreRows (c : Fin 2) : Finset S1671168x16.Idx := Finset.univ.biUnion fun i : Fin 16 => tileRows c i

theorem tileRows_disjoint {c c' : Fin 2} {i i' : Fin 16} (h : ¬ (c = c' ∧ i = i')) : Disjoint (tileRows c i) (tileRows c' i') := by
  rw [Finset.disjoint_left]
  intro j hj hj'
  unfold tileRows tileBase at hj hj'
  rw [mem_rowsIn] at hj hj'
  apply h
  constructor <;> ext <;> omega

theorem tiles_disjoint (c : Fin 2) : ∀ i ∈ (Finset.univ : Finset (Fin 16)), ∀ i' ∈ (Finset.univ : Finset (Fin 16)), i ≠ i' →
    Disjoint (tileRows c i) (tileRows c i') :=
  fun _ _ _ _ h => tileRows_disjoint fun e => h e.2

theorem cores_disjoint : ∀ c ∈ (Finset.univ : Finset (Fin 2)), ∀ c' ∈ (Finset.univ : Finset (Fin 2)), c ≠ c' →
    Disjoint (coreRows c) (coreRows c') := by
  intro c _ c' _ h
  unfold coreRows
  rw [Finset.disjoint_biUnion_left]; intro i _
  rw [Finset.disjoint_biUnion_right]; intro i' _
  exact tileRows_disjoint fun e => h e.1

theorem cores_cover : (Finset.univ : Finset (Fin 2)).biUnion coreRows = Finset.univ := by
  ext j
  simp only [Finset.mem_biUnion, Finset.mem_univ, true_and, iff_true, coreRows, tileRows, mem_rowsIn, tileBase]
  have hj : (j 0).val < 1671168 := (j 0).isLt
  refine ⟨⟨(j 0).val % 104448 / 52224, by omega⟩, ⟨(j 0).val / 104448, by omega⟩, ?_, ?_⟩ <;> dsimp only <;> omega

/-! ## What travels -/

section Pays

variable (X : (d : Dev nD) → Buf (Elt F) (xLoc d)) (I : (d : Dev nD) → Buf (Elt F) (iLoc d)) (O : (d : Dev nD) → Buf (Elt F) (oLoc d))

/-- A core's part, the result's rows at contents `f`. -/
def corePart (f : (d : Dev nD) → Buf (Elt F) (oLoc d)) (d : Dev nD) (c : Fin 2) : sProp 𝕄 :=
  iprop((xLoc d ↦{qc c} X d) ∗ (iLoc d ↦{qc c} I d) ∗ oLoc d ↦[coreRows c]{fullShare} f d)

/-- A tile's part. -/
def tilePart (f : (d : Dev nD) → Buf (Elt F) (oLoc d)) (d : Dev nD) (c : Fin 2) (i : Fin 16) : sProp 𝕄 :=
  iprop((xLoc d ↦{qt c i} X d) ∗ (iLoc d ↦{qt c i} I d) ∗ oLoc d ↦[tileRows c i]{fullShare} f d)

instance corePart_storable (f : (d : Dev nD) → Buf (Elt F) (oLoc d)) (d : Dev nD) (c : Fin 2) :
    BI.Storable (upEmb : UEmb _ 𝕄) (corePart X I f d c) := by unfold corePart; infer_instance

instance tilePart_storable (f : (d : Dev nD) → Buf (Elt F) (oLoc d)) (d : Dev nD) (c : Fin 2) (i : Fin 16) :
    BI.Storable (upEmb : UEmb _ 𝕄) (tilePart X I f d c i) := by unfold tilePart; infer_instance

/-- The result the call leaves. -/
def out (d : Dev nD) : Buf (Elt F) (oLoc d) := G d (X d) (I d)

def P : (K (F := F)).Pay (nD := nD) (Val := Elt F) (Name := ℕ) (U := UU) where
  st := fun q d c => match q with | 0 => corePart X I O d (Fin.cast nCore_zero c)
  dn := fun q d c => match q with | 0 => corePart X I (out X I) d (Fin.cast nCore_zero c)
  go := fun q d c i => match q with | 0 => tilePart X I O d (Fin.cast nCore_zero c) (Fin.cast nSub_zero i)
  td := fun q d c i => match q with | 0 => tilePart X I (out X I) d (Fin.cast nCore_zero c) (Fin.cast nSub_zero i)
  x := fun _ _ => iprop(emp)

instance P_storable : (P X I O).IsStorable where
  st q d c := match q with | 0 => corePart_storable X I O d (Fin.cast nCore_zero c)
  dn q d c := match q with | 0 => corePart_storable X I (out X I) d (Fin.cast nCore_zero c)
  go q d c i := match q with | 0 => tilePart_storable X I O d (Fin.cast nCore_zero c) (Fin.cast nSub_zero i)
  td q d c i := match q with | 0 => tilePart_storable X I (out X I) d (Fin.cast nCore_zero c) (Fin.cast nSub_zero i)

/-! ## Splitting and joining -/

theorem core_tiles (f : (d : Dev nD) → Buf (Elt F) (oLoc d)) (d : Dev nD) (c : Fin 2) :
    (corePart X I f d c : sProp 𝕄) = bigSep Finset.univ fun i : Fin 16 => tilePart X I f d c i := by
  unfold corePart tilePart
  rw [bigSep_sep', bigSep_sep']
  unfold qt coreRows
  rw [← pointsTo_piecesOf, ← pointsTo_piecesOf, pointsTo_biUnion Finset.univ (ℓ := oLoc d) (tileRows c) (tiles_disjoint c)]

theorem all_cores (f : (d : Dev nD) → Buf (Elt F) (oLoc d)) (d : Dev nD) :
    (iprop((xLoc d ↦{fullShare} X d) ∗ (iLoc d ↦{fullShare} I d) ∗ oLoc d ↦{fullShare} f d) : sProp 𝕄)
      = bigSep Finset.univ fun c : Fin 2 => corePart X I f d c := by
  unfold corePart
  rw [bigSep_sep', bigSep_sep']
  unfold qc
  rw [← pointsTo_piecesOf, ← pointsTo_piecesOf, ← pointsTo_biUnion Finset.univ (ℓ := oLoc d) coreRows cores_disjoint, cores_cover]

theorem over_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P X I O) 0 := by
  intro d c
  show corePart X I O d (Fin.cast nCore_zero c) ⊢ |={Set.univ}=> iprop(
      (bigSep Finset.univ fun i : Fin ((K (F := F)).nSub 0) => tilePart X I O d (Fin.cast nCore_zero c) (Fin.cast nSub_zero i))
      ∗ ((bigSep Finset.univ fun i : Fin ((K (F := F)).nSub 0) => tilePart X I (out X I) d (Fin.cast nCore_zero c) (Fin.cast nSub_zero i))
          -∗ corePart X I (out X I) d (Fin.cast nCore_zero c)))
  rw [over_tiles (fun i => tilePart X I O d (Fin.cast nCore_zero c) i), over_tiles (fun i => tilePart X I (out X I) d (Fin.cast nCore_zero c) i),
    ← core_tiles, ← core_tiles]
  iintro H; imodintro
  isplitl [H]; · iexact H
  iintro H; iexact H

theorem started (d : Dev nD) : (bigSep Finset.univ fun c : Fin ((K (F := F)).nCore 0) => (P X I O).st 0 d c)
    = iprop((xLoc d ↦{fullShare} X d) ∗ (iLoc d ↦{fullShare} I d) ∗ oLoc d ↦{fullShare} O d) :=
  (over_cores fun c => corePart X I O d c).trans (all_cores X I O d).symm

theorem finished (d : Dev nD) : (bigSep Finset.univ fun c : Fin ((K (F := F)).nCore 0) => (P X I O).dn 0 d c)
    = iprop((xLoc d ↦{fullShare} X d) ∗ (iLoc d ↦{fullShare} I d) ∗ oLoc d ↦{fullShare} out X I d) :=
  (over_cores fun c => corePart X I (out X I) d c).trans (all_cores X I (out X I) d).symm

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0_gather_k (coordsV c s)
          xV (Memref.isWhole_whole _) iV (Memref.isWhole_whole _) oV (Memref.isWhole_whole _)
          sV (Memref.isWhole_whole _) r0V (Memref.isWhole_whole _) r1V (Memref.isWhole_whole _)
          cc0_scratch3 cc0_scratch4 cc0_scratch5 cc0_scratch6 cc0_scoped0) ⟨⟩ c s := rfl

theorem obl_post {thr : Thread nD τ} {A B C : sProp 𝕄} {W : Waits sig (HIx 1)} {O : CellTallies nD τ sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_part (f : (d : Dev nD) → Buf (Elt F) (oLoc d)) (d : Dev nD) (c : Fin 2) (i : Fin 16) (L : grid0.Coords)
    (hc : (L 0).val = c.val) (hi : (L 1).val = i.val) :
    (tilePart X I f d c i : sProp 𝕄)
      = iprop((xLoc d ↦{qt c i} X d) ∗ (iLoc d ↦{qt c i} I d) ∗ oPts d (base L) (base L + 52224) (f d)) := by
  unfold tilePart oPts tileRows
  rw [show tileBase c i = base L by unfold tileBase base; rw [hc, hi]]

set_option maxRecDepth 16384 in
theorem tileObl (hF : (K (F := F)).Facts) (hids : ∀ d j, (I d j : BitVec 32).toNat < 1000000) :
    (K (F := F)).TileObl (D (F := F)) 𝒱 (P X I O) v₀ 0 := by
  intro d c i OO W hO _ _
  simp only [show (P X I O).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h0 := tile_part X I O d (Fin.cast nCore_zero c) (Fin.cast nSub_zero i) (coordsV ⟨_, hci.1⟩ ⟨_, hci.2⟩) rfl rfl
  have h1 := tile_part X I (out X I) d (Fin.cast nCore_zero c) (Fin.cast nSub_zero i) (coordsV ⟨_, hci.1⟩ ⟨_, hci.2⟩) rfl rfl
  rw [show (P X I O).go 0 d c i = _ from h0, show (P X I O).td 0 d c i = _ from h1]
  exact (tile_body d (coordsV ⟨_, hci.1⟩ ⟨_, hci.2⟩) (X d) (I d) (O d) hF (hids d) _ _ OO W hO).trans (wp_mono frame _ _ fun _ => obl_post)

/-! ## The launch element of the ghost state -/

/-- The pipeline's part of the ghost state. -/
abbrev EP : Emb (UR sig nD τ) (MT nD τ sig (HIx 1) (Elt F) ℕ UU ℕ) := (Emb.inl : Emb (UR sig nD τ) (UR sig nD τ × Counters)).trans embR

instance EP_landsIn : (EP (F := F)).LandsIn (upEmb : UEmb _ 𝕄) := by unfold EP; infer_instance

def u₀ : UU := (initOf (K (F := F)).hsCells (K (F := F)).hsToks,
  (initOf (Pipeline.cells cfgs cellOf_inj) (Pipeline.launchToks cfgs cellOf_inj), 1))

/-- A device's share of the pipeline's launch state. -/
abbrev share (d : Dev nD) : sProp 𝕄 :=
  iprop((bigSep Finset.univ fun p => Pipeline.cellsGhost cfgs EP p d) ∗ bigSep Finset.univ fun p => Pipeline.toksInit cfgs EP p d)

theorem no_parts {ι : Type} (s : Finset ι) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => share (F := F) d)
        ∗ bigSep Finset.univ fun thr : Thread nD τ => bigSep Finset.univ fun q : Fin 1 => (P X I O).x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)))) $$ Hu
  icases H with ⟨HH, HR⟩
  ihave H2 := (own_pair_emb (embR : Emb (UR sig nD τ × Counters) 𝕄) (initOf (Pipeline.cells cfgs cellOf_inj) (Pipeline.launchToks cfgs cellOf_inj)) (1 : Counters)) $$ HR
  icases H2 with ⟨HP, -⟩
  imod (Pipeline.fund_ghost cfgs EP cellOf_inj) $$ HP with ⟨HC, HT⟩
  imodintro
  isplitl [HH]; · iexact HH
  isplitl [HC HT]
  · unfold share; rw [bigSep_sep']
    isplitl [HC] <;> iassumption
  rw [show (bigSep Finset.univ fun thr : Thread nD τ => bigSep Finset.univ fun q : Fin 1 => (P X I O).x q thr) = bigSep Finset.univ fun _ => iprop(emp) from
    bigSep_congr fun _ _ => bigSep_univ_of_subsingleton (0 : Fin 1), no_parts]
  iempintro

end Pays

end Cert.Proof.KernelIdeal

end
-- ==== Proof.IdealTcRegion.lean ====
/-
  The dense kernel as one region of the program: what the device's buffers hold when it is entered and when it is left.
-/
module

public import proofs.«01_k».proof.Proof.IdealTcObl
public import proofs.«01_k».proof.Proof.IdealCall
public import Idealize.ShloMosaic.Lib.Pipeline.RegionsLoop
public import Idealize.ShloMosaic.Lib.Pipeline.Value
public import Idealize.ShloMosaic.Lib.Pipeline.ValueKit.Geometry

@[expose] public section

noncomputable section

set_option maxHeartbeats 1000000
set_option maxRecDepth 16384

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf heldIn)

variable {F : FTy → Type} [FloatOps F]

local notation "𝕄" => MT nD τ sig (HIx 1) (Elt F) ℕ UU ℕ

abbrev adm : (p : Fin 1) → (pcfgs (F := F) p).Adm := fun p => (cfgs p).toPCfg_adm

variable (V : (c : Dev nD) → (b : Ref sig .tc) → Buf (Elt F) ((c : Thread nD τ).loc b))

/-- The result's array at the end is the result. -/
theorem arr_result (c : Dev nD) : (dats V 0 c).arrAt 36 cfg1.N = result V c := by
  refine (dats V 0 c).arrAt_eq_of_after_last 36 (⟨95, by decide⟩ : Fin cfg1.N) (by decide +kernel) _ fun j => ?_
  blk_simp
  rfl

/-- A device's buffers after the region. -/
def Vend (c : Dev nD) (b : Ref sig .tc) : Buf (Elt F) ((c : Thread nD τ).loc b) :=
  Function.update (V c) main_v109 (result V c) b

abbrev noSem : Fin 0 → SemLoc sig := fun i => i.elim0

theorem ownNone : Pipeline.OwnSemFacts (pcfgs (F := F) 0).spec noSem :=
  ⟨fun k => k.elim0, fun k => k.elim0, fun k => k.elim0⟩

theorem in_arr : ∀ w : Fin cfg1.W, w ≠ 36 → (cfg1.win w).isOut = false ∧ Pipeline.arrRef spec1 w ≠ main_v109 := by decide

theorem arr_end (c : Dev nD) (w : Fin cfg1.W) : (dats V 0 c).arrAt w cfg1.N = Vend V c (Pipeline.arrRef spec1 w) := by
  unfold Vend
  by_cases h : w = 36
  · subst h; rw [arr_result]; exact (Function.update_self main_v109 (result V c) (V c)).symm
  · rw [Pipeline.Dat.arrAt_in (dats V 0 c) w (in_arr w h).1, A_eq, Function.update_of_ne (in_arr w h).2]

theorem res_mem : main_v109 ∈ Finset.univ.image (Pipeline.arrRef spec1) := by decide

/-- Off the windows' arrays nothing changes. -/
theorem rest_end (c : Dev nD) (b : Ref sig .tc) (hb : b ∉ Finset.univ.image (Pipeline.arrRef spec1)) : Vend V c b = V c b := by
  unfold Vend
  exact Function.update_of_ne (fun e => hb (by rw [e]; exact res_mem)) _ _

theorem scoped_rest (c : Dev nD) :
    (Pipeline.scopedRest (Ix := HIx 1) (Name := ℕ) (U := UU) (Lvl := ℕ) (Val := Elt F) spec1 c : sProp 𝕄)
      = iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)
        ∗ (∃ f : Buf (Elt F) ((c : Thread nD τ).loc cc1_scratch2), ((c : Thread nD τ).loc cc1_scratch2) ↦{fullShare} f)) := scopedRest1_eq c

set_option backward.isDefEq.respectTransparency.types false in
/-- The windows' arrays as they end, and the rest, are the device's buffers. -/
theorem rejoin (c : Dev nD) : iprop((dats V 0 c).arrays ((dats V 0 c).arrAt · cfg1.N) ∗ Pipeline.unscopedRest spec1 c (V c))
    ⊢ (unscopedBufs c (Vend V c) : sProp 𝕄) := by
  have h := Pipeline.unscopedBufs_of_arrays_shared (pcfgs (F := F)) adm (p := (0 : Fin 1)) winFacts₀1 sharedIn1 arr_whole1 c (dats V)
    (fun _ _ => rfl) (V c) (Vend V c) (fun w => (dats V 0 c).arrAt w cfg1.N) (fun w => arr_end V c w) (fun b hb => rest_end V c b hb)
  exact h

/-- The scratch arrays left by the last point. -/
theorem out_scratch (c : Dev nD) : (dats V 0 c).Φ (Fin.last cfg1.N)
    ⊢ (iprop(emp ∗ Pipeline.ownSems0 noSem c ∗ Pipeline.scopedRest spec1 c) : sProp 𝕄) := by
  rw [scoped_rest c, show (dats V 0 c).Φ (Fin.last cfg1.N) = Φc V c cfg1.N from rfl]
  unfold Φc
  iintro ⟨%f39, %f40, %f41, -, H39, H40, H41⟩
  isplitr; · iempintro
  isplitr; · unfold Pipeline.ownSems0; rw [show (Finset.univ : Finset (Fin 0)) = ∅ from rfl, BI.bigSep_empty]; iempintro
  isplitl [H39]; · iexists f39; iexact H39
  isplitl [H40]; · iexists f40; iexact H40
  iexists f41; iexact H41

/-- The buffers left by the region. -/
theorem leave (c : Dev nD) : iprop((dats V 0 c).arrays ((dats V 0 c).arrAt · cfg1.N) ∗ (dats V 0 c).owesAt none (Fin.last cfg1.N)
      ∗ emp ∗ Pipeline.unscopedRest spec1 c (V c))
    ⊢ |={Set.univ}=> (iprop(unscopedBufs c (Vend V c) ∗ ∃ W, owes (c : Thread nD τ) 0 W) : sProp 𝕄) := by
  have h := rejoin V c
  generalize (dats V 0 c).arrays ((dats V 0 c).arrAt · cfg1.N) = A at h ⊢
  generalize (Pipeline.unscopedRest spec1 c (V c) : sProp 𝕄) = R at h ⊢
  iintro ⟨Ha, HO, -, HZ⟩
  imodintro
  isplitr [HO]
  · iapply h; isplitl [Ha] <;> iassumption
  · unfold Pipeline.Dat.owesAt Pipeline.owesWithin
    icases HO with ⟨%W, -, HO⟩; iexists W; iexact HO

set_option backward.isDefEq.respectTransparency.types false in
/-- The region. -/
def reg (L : GSem nD τ sig → Finset (HIx 1)) (lv : GSem nD τ sig → HIx 1 → ℕ) :
    Pipeline.RegionSeg (pcfgs (F := F)) adm (dats V) (none : HIx 1) defs₀ 𝒱₀ L lv 0 where
  win := winFacts₀1
  block_pos := block_pos1
  stage_whole := stage_whole1
  K := Fin 0
  osem := noSem
  ho := ownNone
  hbody c := (body_obligation V c none).loose
  hwaits := Pipeline.hwaits_of_owed_zero _ _ _ _ L lv 0 fun _ _ => rfl
  pre c := iprop(unscopedBufs c (V c) ∗ ∃ W, owes (c : Thread nD τ) 0 W)
  post c := iprop(unscopedBufs c (Vend V c) ∗ ∃ W, owes (c : Thread nD τ) 0 W)
  X c := iprop(emp)
  Y c := iprop(emp)
  Z c := Pipeline.unscopedRest spec1 c (V c)
  hentry c := by
    have hsplit := Pipeline.arrays_of_unscopedBufs_shared (pcfgs (F := F)) adm (dats V) (p := 0) winFacts₀1 sharedIn1 arr_whole1 c
      (fun _ _ => rfl) (V c) (A_eq V c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats V 0 c).Φ 0 = Φc V c 0 from rfl]; unfold Φc
    refine BIBase.Entails.trans (sep_mono .rfl (sep_mono .rfl (Entails.of_eq (scoped_rest c)))) ?_
    iintro ⟨-, -, ⟨%f39, H39⟩, ⟨%f40, H40⟩, ⟨%f41, H41⟩⟩
    iexists f39, f40, f41
    isplitr
    · ipureintro
      exact ⟨fun h => absurd h (by decide), fun y h => absurd h (by simp), fun y h => absurd h (by simp)⟩
    isplitl [H39]; · iexact H39
    isplitl [H40] <;> iassumption
  hout c := out_scratch V c
  hexit c := leave V c

section Sides
variable (L : GSem nD τ sig → Finset (HIx 1)) (lv : GSem nD τ sig → HIx 1 → ℕ) (c : Dev nD)
theorem reg_pre : (reg V L lv).pre c = iprop(unscopedBufs c (V c) ∗ ∃ W, owes (c : Thread nD τ) 0 W) := by dsimp only [reg]
theorem reg_post : (reg V L lv).post c = iprop(unscopedBufs c (Vend V c) ∗ ∃ W, owes (c : Thread nD τ) 0 W) := by dsimp only [reg]
end Sides

end Cert.Proof.KernelIdeal

end
-- ==== Proof.IdealHostOps.lean ====
/-
  The host program's operations, in order, and the value each leaves: every array is written once, so at the end each
  holds its operation's result at its operands' contents.
-/
module

public import proofs.«01_k».proof.Proof.IdealSteps
public import Idealize.ShloMosaic.Lib.Pipeline.Frame

@[expose] public section

noncomputable section

namespace Cert.Proof.KernelIdeal

open Cert.KernelIdeal Cert.KernelIdeal.Gen

open Idealize.ShloMosaic
open Idealize.SL.Sem
open Idealize.ShloMosaic.StableHlo (seq after)

variable {F : FTy → Type} [FloatOps F]

abbrev ref (b : Ref sig .tc) : DevRef τ sig := Proc.devRef .tc b

/-! ## Arrays written once -/

omit [FloatOps F] in
theorem after_two : ∀ (l₁ l₂ : List (HloOp τ sig (Elt F))) (V : Valuation τ sig (Elt F)), after (l₁ ++ l₂) V = after l₂ (after l₁ V)
  | [], _, _ => rfl
  | op :: l, l₂, V => after_two l l₂ (op.result V)

/-- Each operation writes the array listed for it. -/
abbrev Writes (l : List (HloOp τ sig (Elt F))) (ws : List (Ref sig .tc)) : Prop := List.Forall₂ (fun op w => op.writes = {ref w}) l ws

omit [FloatOps F] in
theorem Writes.keep {l : List (HloOp τ sig (Elt F))} {ws : List (Ref sig .tc)} (H : Writes l ws) (V : Valuation τ sig (Elt F)) {a : Ref sig .tc}
    (ha : a ∉ ws) : after l V (ref a) = V (ref a) := by
  induction H generalizing V with
  | nil => rfl
  | @cons op w l ws h H ih =>
    rw [StableHlo.after_cons, ih _ (fun h' => ha (List.mem_cons_of_mem _ h'))]
    exact HloOp.result_of_not_mem _ _ (by
      rw [h, Finset.mem_singleton]; exact StableHlo.devRef_ne_of_ne (fun e => ha (by rw [e]; exact List.mem_cons_self)))

omit [FloatOps F] in
theorem Writes.at {l : List (HloOp τ sig (Elt F))} {ws : List (Ref sig .tc)} (H : Writes l ws) (V : Valuation τ sig (Elt F)) (k : ℕ)
    {op : HloOp τ sig (Elt F)} {y : Ref sig .tc} (hk : l[k]? = some op) (hy : y ∉ ws.drop (k + 1)) :
    after l V (ref y) = op.result (after (l.take k) V) (ref y) := by
  induction H generalizing V k with
  | nil => simp at hk
  | @cons o w l ws h H ih =>
    cases k with
    | zero =>
      obtain rfl : o = op := by simpa using hk
      rw [StableHlo.after_cons, Writes.keep H _ (by simpa using hy)]; rfl
    | succ k => exact ih (o.result V) k (by simpa using hk) (by simpa using hy)

omit [FloatOps F] in
theorem Writes.early {l : List (HloOp τ sig (Elt F))} {ws : List (Ref sig .tc)} (H : Writes l ws) (V : Valuation τ sig (Elt F)) (k : ℕ)
    {a : Ref sig .tc} (ha : a ∉ ws.drop k) : after (l.take k) V (ref a) = after l V (ref a) := by
  induction H generalizing V k with
  | nil => simp
  | @cons o w l ws h H ih =>
    cases k with
    | zero => rw [List.take_zero]; exact (Writes.keep (List.Forall₂.cons h H) V (by simpa using ha)).symm
    | succ k => exact ih (o.result V) k (by simpa using ha)

section Steps
variable {l : List (HloOp τ sig (Elt F))} {ws : List (Ref sig .tc)} (H : Writes l ws) (V : Valuation τ sig (Elt F)) (k : ℕ)
include H
omit [FloatOps F]

theorem nul {y : Ref sig .tc} {v : y.ty.Contents (Elt F)} {hy} (hk : l[k]? = some (StableHlo.nullary y v hy)) (hy' : y ∉ ws.drop (k + 1)) :
    after l V (ref y) = v := (H.at V k hk hy').trans (StableHlo.nullary_result ..)

theorem un {x y : Ref sig .tc} {f : x.ty.Contents (Elt F) → y.ty.Contents (Elt F)} {hx hy} (hk : l[k]? = some (StableHlo.unary x y f hx hy))
    (hy' : y ∉ ws.drop (k + 1)) (hx' : x ∉ ws.drop k) : after l V (ref y) = f (after l V (ref x)) := by
  rw [← H.early V k hx']; exact (H.at V k hk hy').trans (StableHlo.unary_result ..)

theorem bi {a b y : Ref sig .tc} {f : a.ty.Contents (Elt F) → b.ty.Contents (Elt F) → y.ty.Contents (Elt F)} {ha hb hy}
    (hk : l[k]? = some (StableHlo.binary a b y f ha hb hy)) (hy' : y ∉ ws.drop (k + 1)) (ha' : a ∉ ws.drop k) (hb' : b ∉ ws.drop k) :
    after l V (ref y) = f (after l V (ref a)) (after l V (ref b)) := by
  rw [← H.early V k ha', ← H.early V k hb']; exact (H.at V k hk hy').trans (StableHlo.binary_result ..)

theorem ter {c a b y : Ref sig .tc} {f : c.ty.Contents (Elt F) → a.ty.Contents (Elt F) → b.ty.Contents (Elt F) → y.ty.Contents (Elt F)} {hc ha hb hy}
    (hk : l[k]? = some (StableHlo.ternary c a b y f hc ha hb hy)) (hy' : y ∉ ws.drop (k + 1)) (hc' : c ∉ ws.drop k) (ha' : a ∉ ws.drop k)
    (hb' : b ∉ ws.drop k) : after l V (ref y) = f (after l V (ref c)) (after l V (ref a)) (after l V (ref b)) := by
  rw [← H.early V k hc', ← H.early V k ha', ← H.early V k hb']; exact (H.at V k hk hy').trans (StableHlo.ternary_result ..)

theorem resh {x y : Ref sig .tc} {he : x.ty.elt = y.ty.elt} {hn : x.ty.shape.ShapeCasts y.ty.shape} {hx hy}
    (hk : l[k]? = some (StableHlo.reshape x y he hn hx hy)) (hy' : y ∉ ws.drop (k + 1)) (hx' : x ∉ ws.drop k) :
    after l V (ref y) = fun i => he ▸ shapeCast y.ty.shape (after l V (ref x)) hn i := by
  rw [← H.early V k hx']; exact (H.at V k hk hy').trans (StableHlo.reshape_result ..)

theorem nar {n : ℕ} {xs : Fin n → Ref sig .tc} {y : Ref sig .tc} {f : ((k : Fin n) → (xs k).ty.Contents (Elt F)) → y.ty.Contents (Elt F)} {hxs hy}
    (hk : l[k]? = some (StableHlo.nary xs y f hxs hy)) (hy' : y ∉ ws.drop (k + 1)) (hx' : ∀ i, xs i ∉ ws.drop k) :
    after l V (ref y) = f (fun i => after l V (ref (xs i))) := by
  rw [show (fun i => after l V (ref (xs i))) = fun i => after (l.take k) V (ref (xs i)) from funext fun i => (H.early V k (hx' i)).symm]
  exact (H.at V k hk hy').trans (StableHlo.nary_result ..)

end Steps

/-! ## The operations -/

/-- The row list's operations, before the call. -/
def opsA : List (HloOp τ sig (Elt F)) :=
  [StableHlo.reshape main_arg1 main_v0 (rfl : (.i32 : EltTy) = .i32) shapeCasts_S4096x200_S819200,
   StableHlo.reshape main_arg4 main_v1 (rfl : (.i32 : EltTy) = .i32) shapeCasts_S4096x200_S819200,
   StableHlo.nullary main_c (constantI S_ 32 0#32),
   StableHlo.unary main_c main_v2 (broadcastInDim S20480 ![] bcast_S_S20480 : (⟨S_, .i32⟩ : BufTy).Contents (Elt F) → (⟨S20480, .i32⟩ : BufTy).Contents (Elt F)),
   StableHlo.nary ![main_v0, main_v1, main_arg0, main_arg3, main_arg6, main_v2] main_v3 (fun u => (concatenate S1671168 0 [⟨S819200, (u 0 : (⟨S819200, .i32⟩ : BufTy).Contents (Elt F))⟩, ⟨S819200, (u 1 : (⟨S819200, .i32⟩ : BufTy).Contents (Elt F))⟩, ⟨S4096, (u 2 : (⟨S4096, .i32⟩ : BufTy).Contents (Elt F))⟩, ⟨S4096, (u 3 : (⟨S4096, .i32⟩ : BufTy).Contents (Elt F))⟩, ⟨S4096, (u 4 : (⟨S4096, .i32⟩ : BufTy).Contents (Elt F))⟩, ⟨S20480, (u 5 : (⟨S20480, .i32⟩ : BufTy).Contents (Elt F))⟩] concatenates_S819200_S819200_S4096_S4096_S4096_S20480_S1671168_d0 : (⟨S1671168, .i32⟩ : BufTy).Contents (Elt F)))]

/-- The first operations after the call. -/
def opsB0 : List (HloOp τ sig (Elt F)) :=
  [StableHlo.unary main_v4 main_v5 ((extractStridedSlice S4096x16 ![1638400, 0] · slices_S1671168x16_S4096x16_1638400_0) : (⟨S1671168x16, .f32⟩ : BufTy).Contents (Elt F) → (⟨S4096x16, .f32⟩ : BufTy).Contents (Elt F)),
   StableHlo.unary main_v4 main_v6 ((extractStridedSlice S4096x16 ![1642496, 0] · slices_S1671168x16_S4096x16_1642496_0) : (⟨S1671168x16, .f32⟩ : BufTy).Contents (Elt F) → (⟨S4096x16, .f32⟩ : BufTy).Contents (Elt F)),
   StableHlo.unary main_v4 main_v7 ((extractStridedSlice S4096x16 ![1646592, 0] · slices_S1671168x16_S4096x16_1646592_0) : (⟨S1671168x16, .f32⟩ : BufTy).Contents (Elt F) → (⟨S4096x16, .f32⟩ : BufTy).Contents (Elt F)),
   StableHlo.reshape main_v4 main_v8 (rfl : (.f32 : EltTy) = .f32) shapeCasts_S1671168x16_S208896x128,
   StableHlo.unary main_arg8 main_v9 ((extractStridedSlice S16x16 ![0, 0] · slices_S64x16_S16x16_0_0) : (⟨S64x16, .f32⟩ : BufTy).Contents (Elt F) → (⟨S16x16, .f32⟩ : BufTy).Contents (Elt F)),
   StableHlo.unary main_arg8 main_v10 ((extractStridedSlice S16x16 ![16, 0] · slices_S64x16_S16x16_16_0) : (⟨S64x16, .f32⟩ : BufTy).Contents (Elt F) → (⟨S16x16, .f32⟩ : BufTy).Contents (Elt F)),
   StableHlo.unary main_arg8 main_v11 ((extractStridedSlice S16x16 ![32, 0] · slices_S64x16_S16x16_32_0) : (⟨S64x16, .f32⟩ : BufTy).Contents (Elt F) → (⟨S16x16, .f32⟩ : BufTy).Contents (Elt F)),
   StableHlo.unary main_arg8 main_v12 ((extractStridedSlice S16x16 ![48, 0] · slices_S64x16_S16x16_48_0) : (⟨S64x16, .f32⟩ : BufTy).Contents (Elt F) → (⟨S16x16, .f32⟩ : BufTy).Contents (Elt F)),
   StableHlo.nullary main_v13 (iotaInDim S8x8 32 0),
   StableHlo.nullary main_v14 (iotaInDim S8x8 32 1),
   StableHlo.nullary main_c_0 (constantI S_ 32 0#32),
   StableHlo.unary main_c_0 main_v15 (broadcastInDim S8x8 ![] bcast_S_S8x8 : (⟨S_, .i32⟩ : BufTy).Contents (Elt F) → (⟨S8x8, .i32⟩ : BufTy).Contents (Elt F)),
   StableHlo.binary main_v13 main_v15 main_v16 (addi : (⟨S8x8, .i32⟩ : BufTy).Contents (Elt F) → (⟨S8x8, .i32⟩ : BufTy).Contents (Elt F) → (⟨S8x8, .i32⟩ : BufTy).Contents (Elt F)),
   StableHlo.binary main_v16 main_v14 main_v17 (cmpi .eq : (⟨S8x8, .i32⟩ : BufTy).Contents (Elt F) → (⟨S8x8, .i32⟩ : BufTy).Contents (Elt F) → (⟨S8x8, .i1⟩ : BufTy).Contents (Elt F)),
   StableHlo.unary main_v17 main_v18 (uitofp .f32 : (⟨S8x8, .i1⟩ : BufTy).Contents (Elt F) → (⟨S8x8, .f32⟩ : BufTy).Contents (Elt F)),
   StableHlo.nullary main_c_1 (constantI S_ 32 0#32),
   StableHlo.unary main_c_1 main_call0_v0 (sitofp .f32 : (⟨S_, .i32⟩ : BufTy).Contents (Elt F) → (⟨S_, .f32⟩ : BufTy).Contents (Elt F)),
   StableHlo.binary main_arg13 main_call0_v0 main_v19 ((fun x v => pad S16x16 ![0, 0] ![0, 8] ![0, 0] x v pads_S16x8_S16x16_000_080 h_S_) : (⟨S16x8, .f32⟩ : BufTy).Contents (Elt F) → (⟨S_, .f32⟩ : BufTy).Contents (Elt F) → (⟨S16x16, .f32⟩ : BufTy).Contents (Elt F)),
   StableHlo.nullary main_c_2 (constantI S_ 32 0#32),
   StableHlo.unary main_c_2 main_call1_v0 (sitofp .f32 : (⟨S_, .i32⟩ : BufTy).Contents (Elt F) → (⟨S_, .f32⟩ : BufTy).Contents (Elt F)),
   StableHlo.binary main_arg18 main_call1_v0 main_v20 ((fun x v => pad S16x1 ![0, 0] ![8, 0] ![0, 0] x v pads_S8x1_S16x1_080_000 h_S_) : (⟨S8x1, .f32⟩ : BufTy).Contents (Elt F) → (⟨S_, .f32⟩ : BufTy).Contents (Elt F) → (⟨S16x1, .f32⟩ : BufTy).Contents (Elt F)),
   StableHlo.nullary main_v21 (iotaInDim S3200 32 0),
   StableHlo.nullary main_v22 (iotaInDim S128 32 0),
   StableHlo.unary main_v22 main_v23 (broadcastInDim S1x128 ![1] bcast_S128_S1x128_1 : (⟨S128, .i32⟩ : BufTy).Contents (Elt F) → (⟨S1x128, .i32⟩ : BufTy).Contents (Elt F)),
   StableHlo.nullary main_c_3 (constantI S_ 32 16#32),
   StableHlo.unary main_c_3 main_call2_v0 (id : (⟨S_, .i32⟩ : BufTy).Contents (Elt F) → (⟨S_, .i32⟩ : BufTy).Contents (Elt F)),
   StableHlo.nullary main_call2_c (constantI S_ 32 0#32),
   StableHlo.binary main_call2_v0 main_call2_c main_call2_v1 (cmpi .eq : (⟨S_, .i32⟩ : BufTy).Contents (Elt F) → (⟨S_, .i32⟩ : BufTy).Contents (Elt F) → (⟨S_, .i1⟩ : BufTy).Contents (Elt F)),
   StableHlo.nullary main_call2_c_0 (constantI S_ 32 1#32),
   StableHlo.ternary main_call2_v1 main_call2_c_0 main_call2_v0 main_call2_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unary main_call2_v2 main_call2_v3 (broadcastInDim S1x128 ![] bcast_S_S1x128 : (⟨S_, .i32⟩ : BufTy).Contents (Elt F) → (⟨S1x128, .i32⟩ : BufTy).Contents (Elt F)),
   StableHlo.binary main_v23 main_call2_v3 main_call2_v4 (Host.remsi : (⟨S1x128, .i32⟩ : BufTy).Contents (Elt F) → (⟨S1x128, .i32⟩ : BufTy).Contents (Elt F) → (⟨S1x128, .i32⟩ : BufTy).Contents (Elt F)),
   StableHlo.nullary main_call2_c_1 (constantI S_ 32 0#32),
   StableHlo.unary main_call2_c_1 main_call2_v5 (broadcastInDim S1x128 ![] bcast_S_S1x128 : (⟨S_, .i32⟩ : BufTy).Contents (Elt F) → (⟨S1x128, .i32⟩ : BufTy).Contents (Elt F)),
   StableHlo.binary main_call2_v4 main_call2_v5 main_call2_v6 (cmpi .ne : (⟨S1x128, .i32⟩ : BufTy).Contents (Elt F) → (⟨S1x128, .i32⟩ : BufTy).Contents (Elt F) → (⟨S1x128, .i1⟩ : BufTy).Contents (Elt F)),
   StableHlo.nullary main_call2_c_2 (constantI S_ 32 0#32),
   StableHlo.unary main_call2_c_2 main_call2_v7 (broadcastInDim S1x128 ![] bcast_S_S1x128 : (⟨S_, .i32⟩ : BufTy).Contents (Elt F) → (⟨S1x128, .i32⟩ : BufTy).Contents (Elt F)),
   StableHlo.binary main_call2_v4 main_call2_v7 main_call2_v8 (cmpi .slt : (⟨S1x128, .i32⟩ : BufTy).Contents (Elt F) → (⟨S1x128, .i32⟩ : BufTy).Contents (Elt F) → (⟨S1x128, .i1⟩ : BufTy).Contents (Elt F)),
   StableHlo.nullary main_call2_c_3 (constantI S_ 32 0#32),
   StableHlo.binary main_call2_v2 main_call2_c_3 main_call2_v9 (cmpi .slt : (⟨S_, .i32⟩ : BufTy).Contents (Elt F) → (⟨S_, .i32⟩ : BufTy).Contents (Elt F) → (⟨S_, .i1⟩ : BufTy).Contents (Elt F)),
   StableHlo.unary main_call2_v9 main_call2_v10 (broadcastInDim S1x128 ![] bcast_S_S1x128 : (⟨S_, .i1⟩ : BufTy).Contents (Elt F) → (⟨S1x128, .i1⟩ : BufTy).Contents (Elt F)),
   StableHlo.binary main_call2_v8 main_call2_v10 main_call2_v11 (cmpi .ne : (⟨S1x128, .i1⟩ : BufTy).Contents (Elt F) → (⟨S1x128, .i1⟩ : BufTy).Contents (Elt F) → (⟨S1x128, .i1⟩ : BufTy).Contents (Elt F)),
   StableHlo.binary main_call2_v11 main_call2_v6 main_call2_v12 (andi : (⟨S1x128, .i1⟩ : BufTy).Contents (Elt F) → (⟨S1x128, .i1⟩ : BufTy).Contents (Elt F) → (⟨S1x128, .i1⟩ : BufTy).Contents (Elt F)),
   StableHlo.unary main_call2_v2 main_call2_v13 (broadcastInDim S1x128 ![] bcast_S_S1x128 : (⟨S_, .i32⟩ : BufTy).Contents (Elt F) → (⟨S1x128, .i32⟩ : BufTy).Contents (Elt F)),
   StableHlo.binary main_call2_v4 main_call2_v13 main_call2_v14 (addi : (⟨S1x128, .i32⟩ : BufTy).Contents (Elt F) → (⟨S1x128, .i32⟩ : BufTy).Contents (Elt F) → (⟨S1x128, .i32⟩ : BufTy).Contents (Elt F)),
   StableHlo.ternary main_call2_v12 main_call2_v14 main_call2_v4 main_v24 (select : (⟨S1x128, .i1⟩ : BufTy).Contents (Elt F) → (⟨S1x128, .i32⟩ : BufTy).Contents (Elt F) → (⟨S1x128, .i32⟩ : BufTy).Contents (Elt F) → (⟨S1x128, .i32⟩ : BufTy).Contents (Elt F)),
   StableHlo.nullary main_v25 (iotaInDim S16 32 0),
   StableHlo.unary main_v25 main_v26 (broadcastInDim S16x1 ![0] bcast_S16_S16x1_0 : (⟨S16, .i32⟩ : BufTy).Contents (Elt F) → (⟨S16x1, .i32⟩ : BufTy).Contents (Elt F)),
   StableHlo.unary main_v24 main_v27 (broadcastInDim S16x128 ![0, 1] bcast_S1x128_S16x128_0_1 : (⟨S1x128, .i32⟩ : BufTy).Contents (Elt F) → (⟨S16x128, .i32⟩ : BufTy).Contents (Elt F)),
   StableHlo.unary main_v26 main_v28 (broadcastInDim S16x128 ![0, 1] bcast_S16x1_S16x128_0_1 : (⟨S16x1, .i32⟩ : BufTy).Contents (Elt F) → (⟨S16x128, .i32⟩ : BufTy).Contents (Elt F)),
   StableHlo.binary main_v27 main_v28 main_v29 (cmpi .eq : (⟨S16x128, .i32⟩ : BufTy).Contents (Elt F) → (⟨S16x128, .i32⟩ : BufTy).Contents (Elt F) → (⟨S16x128, .i1⟩ : BufTy).Contents (Elt F)),
   StableHlo.unary main_v29 main_v30 (uitofp .f32 : (⟨S16x128, .i1⟩ : BufTy).Contents (Elt F) → (⟨S16x128, .f32⟩ : BufTy).Contents (Elt F)),
   StableHlo.unary main_v30 main_v31 ((transpose S128x16 [1, 0] · transposes_S16x128_S128x16_1_0) : (⟨S16x128, .f32⟩ : BufTy).Contents (Elt F) → (⟨S128x16, .f32⟩ : BufTy).Contents (Elt F)),
   StableHlo.unary main_v21 main_v32 (broadcastInDim S3200x1 ![0] bcast_S3200_S3200x1_0 : (⟨S3200, .i32⟩ : BufTy).Contents (Elt F) → (⟨S3200x1, .i32⟩ : BufTy).Contents (Elt F)),
   StableHlo.nullary main_c_4 (constantI S_ 32 25#32),
   StableHlo.unary main_c_4 main_call3_v0 (id : (⟨S_, .i32⟩ : BufTy).Contents (Elt F) → (⟨S_, .i32⟩ : BufTy).Contents (Elt F)),
   StableHlo.unary main_call3_v0 main_call3_v1 (broadcastInDim S3200x1 ![] bcast_S_S3200x1 : (⟨S_, .i32⟩ : BufTy).Contents (Elt F) → (⟨S3200x1, .i32⟩ : BufTy).Contents (Elt F)),
   StableHlo.binary main_v32 main_call3_v1 main_call3_v2 (Host.divsi : (⟨S3200x1, .i32⟩ : BufTy).Contents (Elt F) → (⟨S3200x1, .i32⟩ : BufTy).Contents (Elt F) → (⟨S3200x1, .i32⟩ : BufTy).Contents (Elt F)),
   StableHlo.unary main_v32 main_call3_v3 (signi : (⟨S3200x1, .i32⟩ : BufTy).Contents (Elt F) → (⟨S3200x1, .i32⟩ : BufTy).Contents (Elt F)),
   StableHlo.unary main_call3_v0 main_call3_v4 (signi : (⟨S_, .i32⟩ : BufTy).Contents (Elt F) → (⟨S_, .i32⟩ : BufTy).Contents (Elt F)),
   StableHlo.unary main_call3_v4 main_call3_v5 (broadcastInDim S3200x1 ![] bcast_S_S3200x1 : (⟨S_, .i32⟩ : BufTy).Contents (Elt F) → (⟨S3200x1, .i32⟩ : BufTy).Contents (Elt F)),
   StableHlo.binary main_call3_v3 main_call3_v5 main_call3_v6 (cmpi .ne : (⟨S3200x1, .i32⟩ : BufTy).Contents (Elt F) → (⟨S3200x1, .i32⟩ : BufTy).Contents (Elt F) → (⟨S3200x1, .i1⟩ : BufTy).Contents (Elt F)),
   StableHlo.unary main_call3_v0 main_call3_v7 (broadcastInDim S3200x1 ![] bcast_S_S3200x1 : (⟨S_, .i32⟩ : BufTy).Contents (Elt F) → (⟨S3200x1, .i32⟩ : BufTy).Contents (Elt F)),
   StableHlo.binary main_v32 main_call3_v7 main_call3_v8 (Host.remsi : (⟨S3200x1, .i32⟩ : BufTy).Contents (Elt F) → (⟨S3200x1, .i32⟩ : BufTy).Contents (Elt F) → (⟨S3200x1, .i32⟩ : BufTy).Contents (Elt F)),
   StableHlo.nullary main_call3_c (constantI S_ 32 0#32),
   StableHlo.unary main_call3_c main_call3_v9 (broadcastInDim S3200x1 ![] bcast_S_S3200x1 : (⟨S_, .i32⟩ : BufTy).Contents (Elt F) → (⟨S3200x1, .i32⟩ : BufTy).Contents (Elt F)),
   StableHlo.binary main_call3_v8 main_call3_v9 main_call3_v10 (cmpi .ne : (⟨S3200x1, .i32⟩ : BufTy).Contents (Elt F) → (⟨S3200x1, .i32⟩ : BufTy).Contents (Elt F) → (⟨S3200x1, .i1⟩ : BufTy).Contents (Elt F)),
   StableHlo.binary main_call3_v6 main_call3_v10 main_call3_v11 (andi : (⟨S3200x1, .i1⟩ : BufTy).Contents (Elt F) → (⟨S3200x1, .i1⟩ : BufTy).Contents (Elt F) → (⟨S3200x1, .i1⟩ : BufTy).Contents (Elt F)),
   StableHlo.nullary main_call3_c_0 (constantI S_ 32 1#32),
   StableHlo.unary main_call3_c_0 main_call3_v12 (broadcastInDim S3200x1 ![] bcast_S_S3200x1 : (⟨S_, .i32⟩ : BufTy).Contents (Elt F) → (⟨S3200x1, .i32⟩ : BufTy).Contents (Elt F)),
   StableHlo.binary main_call3_v2 main_call3_v12 main_call3_v13 (subi : (⟨S3200x1, .i32⟩ : BufTy).Contents (Elt F) → (⟨S3200x1, .i32⟩ : BufTy).Contents (Elt F) → (⟨S3200x1, .i32⟩ : BufTy).Contents (Elt F)),
   StableHlo.ternary main_call3_v11 main_call3_v13 main_call3_v2 main_v33 (select : (⟨S3200x1, .i1⟩ : BufTy).Contents (Elt F) → (⟨S3200x1, .i32⟩ : BufTy).Contents (Elt F) → (⟨S3200x1, .i32⟩ : BufTy).Contents (Elt F) → (⟨S3200x1, .i32⟩ : BufTy).Contents (Elt F)),
   StableHlo.nullary main_v34 (iotaInDim S128 32 0),
   StableHlo.unary main_v34 main_v35 (broadcastInDim S1x128 ![1] bcast_S128_S1x128_1 : (⟨S128, .i32⟩ : BufTy).Contents (Elt F) → (⟨S1x128, .i32⟩ : BufTy).Contents (Elt F)),
   StableHlo.unary main_v33 main_v36 (broadcastInDim S3200x128 ![0, 1] bcast_S3200x1_S3200x128_0_1 : (⟨S3200x1, .i32⟩ : BufTy).Contents (Elt F) → (⟨S3200x128, .i32⟩ : BufTy).Contents (Elt F)),
   StableHlo.unary main_v35 main_v37 (broadcastInDim S3200x128 ![0, 1] bcast_S1x128_S3200x128_0_1 : (⟨S1x128, .i32⟩ : BufTy).Contents (Elt F) → (⟨S3200x128, .i32⟩ : BufTy).Contents (Elt F)),
   StableHlo.binary main_v36 main_v37 main_v38 (cmpi .eq : (⟨S3200x128, .i32⟩ : BufTy).Contents (Elt F) → (⟨S3200x128, .i32⟩ : BufTy).Contents (Elt F) → (⟨S3200x128, .i1⟩ : BufTy).Contents (Elt F)),
   StableHlo.unary main_v38 main_v39 (uitofp .f32 : (⟨S3200x128, .i1⟩ : BufTy).Contents (Elt F) → (⟨S3200x128, .f32⟩ : BufTy).Contents (Elt F)),
   StableHlo.unary main_v21 main_v40 (broadcastInDim S3200x1 ![0] bcast_S3200_S3200x1_0 : (⟨S3200, .i32⟩ : BufTy).Contents (Elt F) → (⟨S3200x1, .i32⟩ : BufTy).Contents (Elt F)),
   StableHlo.nullary main_c_5 (constantI S_ 32 25#32),
   StableHlo.unary main_c_5 main_call4_v0 (id : (⟨S_, .i32⟩ : BufTy).Contents (Elt F) → (⟨S_, .i32⟩ : BufTy).Contents (Elt F)),
   StableHlo.nullary main_call4_c (constantI S_ 32 0#32),
   StableHlo.binary main_call4_v0 main_call4_c main_call4_v1 (cmpi .eq : (⟨S_, .i32⟩ : BufTy).Contents (Elt F) → (⟨S_, .i32⟩ : BufTy).Contents (Elt F) → (⟨S_, .i1⟩ : BufTy).Contents (Elt F)),
   StableHlo.nullary main_call4_c_0 (constantI S_ 32 1#32),
   StableHlo.ternary main_call4_v1 main_call4_c_0 main_call4_v0 main_call4_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unary main_call4_v2 main_call4_v3 (broadcastInDim S3200x1 ![] bcast_S_S3200x1 : (⟨S_, .i32⟩ : BufTy).Contents (Elt F) → (⟨S3200x1, .i32⟩ : BufTy).Contents (Elt F)),
   StableHlo.binary main_v40 main_call4_v3 main_call4_v4 (Host.remsi : (⟨S3200x1, .i32⟩ : BufTy).Contents (Elt F) → (⟨S3200x1, .i32⟩ : BufTy).Contents (Elt F) → (⟨S3200x1, .i32⟩ : BufTy).Contents (Elt F)),
   StableHlo.nullary main_call4_c_1 (constantI S_ 32 0#32),
   StableHlo.unary main_call4_c_1 main_call4_v5 (broadcastInDim S3200x1 ![] bcast_S_S3200x1 : (⟨S_, .i32⟩ : BufTy).Contents (Elt F) → (⟨S3200x1, .i32⟩ : BufTy).Contents (Elt F)),
   StableHlo.binary main_call4_v4 main_call4_v5 main_call4_v6 (cmpi .ne : (⟨S3200x1, .i32⟩ : BufTy).Contents (Elt F) → (⟨S3200x1, .i32⟩ : BufTy).Contents (Elt F) → (⟨S3200x1, .i1⟩ : BufTy).Contents (Elt F)),
   StableHlo.nullary main_call4_c_2 (constantI S_ 32 0#32),
   StableHlo.unary main_call4_c_2 main_call4_v7 (broadcastInDim S3200x1 ![] bcast_S_S3200x1 : (⟨S_, .i32⟩ : BufTy).Contents (Elt F) → (⟨S3200x1, .i32⟩ : BufTy).Contents (Elt F)),
   StableHlo.binary main_call4_v4 main_call4_v7 main_call4_v8 (cmpi .slt : (⟨S3200x1, .i32⟩ : BufTy).Contents (Elt F) → (⟨S3200x1, .i32⟩ : BufTy).Contents (Elt F) → (⟨S3200x1, .i1⟩ : BufTy).Contents (Elt F)),
   StableHlo.nullary main_call4_c_3 (constantI S_ 32 0#32),
   StableHlo.binary main_call4_v2 main_call4_c_3 main_call4_v9 (cmpi .slt : (⟨S_, .i32⟩ : BufTy).Contents (Elt F) → (⟨S_, .i32⟩ : BufTy).Contents (Elt F) → (⟨S_, .i1⟩ : BufTy).Contents (Elt F)),
   StableHlo.unary main_call4_v9 main_call4_v10 (broadcastInDim S3200x1 ![] bcast_S_S3200x1 : (⟨S_, .i1⟩ : BufTy).Contents (Elt F) → (⟨S3200x1, .i1⟩ : BufTy).Contents (Elt F)),
   StableHlo.binary main_call4_v8 main_call4_v10 main_call4_v11 (cmpi .ne : (⟨S3200x1, .i1⟩ : BufTy).Contents (Elt F) → (⟨S3200x1, .i1⟩ : BufTy).Contents (Elt F) → (⟨S3200x1, .i1⟩ : BufTy).Contents (Elt F)),
   StableHlo.binary main_call4_v11 main_call4_v6 main_call4_v12 (andi : (⟨S3200x1, .i1⟩ : BufTy).Contents (Elt F) → (⟨S3200x1, .i1⟩ : BufTy).Contents (Elt F) → (⟨S3200x1, .i1⟩ : BufTy).Contents (Elt F)),
   StableHlo.unary main_call4_v2 main_call4_v13 (broadcastInDim S3200x1 ![] bcast_S_S3200x1 : (⟨S_, .i32⟩ : BufTy).Contents (Elt F) → (⟨S3200x1, .i32⟩ : BufTy).Contents (Elt F)),
   StableHlo.binary main_call4_v4 main_call4_v13 main_call4_v14 (addi : (⟨S3200x1, .i32⟩ : BufTy).Contents (Elt F) → (⟨S3200x1, .i32⟩ : BufTy).Contents (Elt F) → (⟨S3200x1, .i32⟩ : BufTy).Contents (Elt F)),
   StableHlo.ternary main_call4_v12 main_call4_v14 main_call4_v4 main_v41 (select : (⟨S3200x1, .i1⟩ : BufTy).Contents (Elt F) → (⟨S3200x1, .i32⟩ : BufTy).Contents (Elt F) → (⟨S3200x1, .i32⟩ : BufTy).Contents (Elt F) → (⟨S3200x1, .i32⟩ : BufTy).Contents (Elt F)),
   StableHlo.nullary main_c_6 (constantI S_ 32 8#32),
   StableHlo.unary main_c_6 main_v42 (broadcastInDim S3200x1 ![] bcast_S_S3200x1 : (⟨S_, .i32⟩ : BufTy).Contents (Elt F) → (⟨S3200x1, .i32⟩ : BufTy).Contents (Elt F)),
   StableHlo.binary main_v41 main_v42 main_v43 (muli : (⟨S3200x1, .i32⟩ : BufTy).Contents (Elt F) → (⟨S3200x1, .i32⟩ : BufTy).Contents (Elt F) → (⟨S3200x1, .i32⟩ : BufTy).Contents (Elt F)),
   StableHlo.nullary main_v44 (iotaInDim S128 32 0),
   StableHlo.unary main_v44 main_v45 (broadcastInDim S1x128 ![1] bcast_S128_S1x128_1 : (⟨S128, .i32⟩ : BufTy).Contents (Elt F) → (⟨S1x128, .i32⟩ : BufTy).Contents (Elt F)),
   StableHlo.nullary main_c_7 (constantI S_ 32 16#32),
   StableHlo.unary main_c_7 main_call5_v0 (id : (⟨S_, .i32⟩ : BufTy).Contents (Elt F) → (⟨S_, .i32⟩ : BufTy).Contents (Elt F)),
   StableHlo.unary main_call5_v0 main_call5_v1 (broadcastInDim S1x128 ![] bcast_S_S1x128 : (⟨S_, .i32⟩ : BufTy).Contents (Elt F) → (⟨S1x128, .i32⟩ : BufTy).Contents (Elt F)),
   StableHlo.binary main_v45 main_call5_v1 main_call5_v2 (Host.divsi : (⟨S1x128, .i32⟩ : BufTy).Contents (Elt F) → (⟨S1x128, .i32⟩ : BufTy).Contents (Elt F) → (⟨S1x128, .i32⟩ : BufTy).Contents (Elt F)),
   StableHlo.unary main_v45 main_call5_v3 (signi : (⟨S1x128, .i32⟩ : BufTy).Contents (Elt F) → (⟨S1x128, .i32⟩ : BufTy).Contents (Elt F)),
   StableHlo.unary main_call5_v0 main_call5_v4 (signi : (⟨S_, .i32⟩ : BufTy).Contents (Elt F) → (⟨S_, .i32⟩ : BufTy).Contents (Elt F)),
   StableHlo.unary main_call5_v4 main_call5_v5 (broadcastInDim S1x128 ![] bcast_S_S1x128 : (⟨S_, .i32⟩ : BufTy).Contents (Elt F) → (⟨S1x128, .i32⟩ : BufTy).Contents (Elt F)),
   StableHlo.binary main_call5_v3 main_call5_v5 main_call5_v6 (cmpi .ne : (⟨S1x128, .i32⟩ : BufTy).Contents (Elt F) → (⟨S1x128, .i32⟩ : BufTy).Contents (Elt F) → (⟨S1x128, .i1⟩ : BufTy).Contents (Elt F)),
   StableHlo.unary main_call5_v0 main_call5_v7 (broadcastInDim S1x128 ![] bcast_S_S1x128 : (⟨S_, .i32⟩ : BufTy).Contents (Elt F) → (⟨S1x128, .i32⟩ : BufTy).Contents (Elt F)),
   StableHlo.binary main_v45 main_call5_v7 main_call5_v8 (Host.remsi : (⟨S1x128, .i32⟩ : BufTy).Contents (Elt F) → (⟨S1x128, .i32⟩ : BufTy).Contents (Elt F) → (⟨S1x128, .i32⟩ : BufTy).Contents (Elt F)),
   StableHlo.nullary main_call5_c (constantI S_ 32 0#32),
   StableHlo.unary main_call5_c main_call5_v9 (broadcastInDim S1x128 ![] bcast_S_S1x128 : (⟨S_, .i32⟩ : BufTy).Contents (Elt F) → (⟨S1x128, .i32⟩ : BufTy).Contents (Elt F)),
   StableHlo.binary main_call5_v8 main_call5_v9 main_call5_v10 (cmpi .ne : (⟨S1x128, .i32⟩ : BufTy).Contents (Elt F) → (⟨S1x128, .i32⟩ : BufTy).Contents (Elt F) → (⟨S1x128, .i1⟩ : BufTy).Contents (Elt F)),
   StableHlo.binary main_call5_v6 main_call5_v10 main_call5_v11 (andi : (⟨S1x128, .i1⟩ : BufTy).Contents (Elt F) → (⟨S1x128, .i1⟩ : BufTy).Contents (Elt F) → (⟨S1x128, .i1⟩ : BufTy).Contents (Elt F)),
   StableHlo.nullary main_call5_c_0 (constantI S_ 32 1#32),
   StableHlo.unary main_call5_c_0 main_call5_v12 (broadcastInDim S1x128 ![] bcast_S_S1x128 : (⟨S_, .i32⟩ : BufTy).Contents (Elt F) → (⟨S1x128, .i32⟩ : BufTy).Contents (Elt F)),
   StableHlo.binary main_call5_v2 main_call5_v12 main_call5_v13 (subi : (⟨S1x128, .i32⟩ : BufTy).Contents (Elt F) → (⟨S1x128, .i32⟩ : BufTy).Contents (Elt F) → (⟨S1x128, .i32⟩ : BufTy).Contents (Elt F)),
   StableHlo.ternary main_call5_v11 main_call5_v13 main_call5_v2 main_v46 (select : (⟨S1x128, .i1⟩ : BufTy).Contents (Elt F) → (⟨S1x128, .i32⟩ : BufTy).Contents (Elt F) → (⟨S1x128, .i32⟩ : BufTy).Contents (Elt F) → (⟨S1x128, .i32⟩ : BufTy).Contents (Elt F)),
   StableHlo.unary main_v43 main_v47 (broadcastInDim S3200x128 ![0, 1] bcast_S3200x1_S3200x128_0_1 : (⟨S3200x1, .i32⟩ : BufTy).Contents (Elt F) → (⟨S3200x128, .i32⟩ : BufTy).Contents (Elt F)),
   StableHlo.unary main_v46 main_v48 (broadcastInDim S3200x128 ![0, 1] bcast_S1x128_S3200x128_0_1 : (⟨S1x128, .i32⟩ : BufTy).Contents (Elt F) → (⟨S3200x128, .i32⟩ : BufTy).Contents (Elt F)),
   StableHlo.binary main_v47 main_v48 main_v49 (addi : (⟨S3200x128, .i32⟩ : BufTy).Contents (Elt F) → (⟨S3200x128, .i32⟩ : BufTy).Contents (Elt F) → (⟨S3200x128, .i32⟩ : BufTy).Contents (Elt F)),
   StableHlo.unary main_v49 main_v50 (sitofp .f32 : (⟨S3200x128, .i32⟩ : BufTy).Contents (Elt F) → (⟨S3200x128, .f32⟩ : BufTy).Contents (Elt F))]

/-- The second operations after the call. -/
def opsB1 : List (HloOp τ sig (Elt F)) :=
  [StableHlo.nullary main_v51 (iotaInDim S128 32 0),
   StableHlo.unary main_v51 main_v52 (broadcastInDim S1x128 ![1] bcast_S128_S1x128_1 : (⟨S128, .i32⟩ : BufTy).Contents (Elt F) → (⟨S1x128, .i32⟩ : BufTy).Contents (Elt F)),
   StableHlo.nullary main_c_8 (constantI S_ 32 16#32),
   StableHlo.unary main_c_8 main_call6_v0 (id : (⟨S_, .i32⟩ : BufTy).Contents (Elt F) → (⟨S_, .i32⟩ : BufTy).Contents (Elt F)),
   StableHlo.unary main_call6_v0 main_call6_v1 (broadcastInDim S1x128 ![] bcast_S_S1x128 : (⟨S_, .i32⟩ : BufTy).Contents (Elt F) → (⟨S1x128, .i32⟩ : BufTy).Contents (Elt F)),
   StableHlo.binary main_v52 main_call6_v1 main_call6_v2 (Host.divsi : (⟨S1x128, .i32⟩ : BufTy).Contents (Elt F) → (⟨S1x128, .i32⟩ : BufTy).Contents (Elt F) → (⟨S1x128, .i32⟩ : BufTy).Contents (Elt F)),
   StableHlo.unary main_v52 main_call6_v3 (signi : (⟨S1x128, .i32⟩ : BufTy).Contents (Elt F) → (⟨S1x128, .i32⟩ : BufTy).Contents (Elt F)),
   StableHlo.unary main_call6_v0 main_call6_v4 (signi : (⟨S_, .i32⟩ : BufTy).Contents (Elt F) → (⟨S_, .i32⟩ : BufTy).Contents (Elt F)),
   StableHlo.unary main_call6_v4 main_call6_v5 (broadcastInDim S1x128 ![] bcast_S_S1x128 : (⟨S_, .i32⟩ : BufTy).Contents (Elt F) → (⟨S1x128, .i32⟩ : BufTy).Contents (Elt F)),
   StableHlo.binary main_call6_v3 main_call6_v5 main_call6_v6 (cmpi .ne : (⟨S1x128, .i32⟩ : BufTy).Contents (Elt F) → (⟨S1x128, .i32⟩ : BufTy).Contents (Elt F) → (⟨S1x128, .i1⟩ : BufTy).Contents (Elt F)),
   StableHlo.unary main_call6_v0 main_call6_v7 (broadcastInDim S1x128 ![] bcast_S_S1x128 : (⟨S_, .i32⟩ : BufTy).Contents (Elt F) → (⟨S1x128, .i32⟩ : BufTy).Contents (Elt F)),
   StableHlo.binary main_v52 main_call6_v7 main_call6_v8 (Host.remsi : (⟨S1x128, .i32⟩ : BufTy).Contents (Elt F) → (⟨S1x128, .i32⟩ : BufTy).Contents (Elt F) → (⟨S1x128, .i32⟩ : BufTy).Contents (Elt F)),
   StableHlo.nullary main_call6_c (constantI S_ 32 0#32),
   StableHlo.unary main_call6_c main_call6_v9 (broadcastInDim S1x128 ![] bcast_S_S1x128 : (⟨S_, .i32⟩ : BufTy).Contents (Elt F) → (⟨S1x128, .i32⟩ : BufTy).Contents (Elt F)),
   StableHlo.binary main_call6_v8 main_call6_v9 main_call6_v10 (cmpi .ne : (⟨S1x128, .i32⟩ : BufTy).Contents (Elt F) → (⟨S1x128, .i32⟩ : BufTy).Contents (Elt F) → (⟨S1x128, .i1⟩ : BufTy).Contents (Elt F)),
   StableHlo.binary main_call6_v6 main_call6_v10 main_call6_v11 (andi : (⟨S1x128, .i1⟩ : BufTy).Contents (Elt F) → (⟨S1x128, .i1⟩ : BufTy).Contents (Elt F) → (⟨S1x128, .i1⟩ : BufTy).Contents (Elt F)),
   StableHlo.nullary main_call6_c_0 (constantI S_ 32 1#32),
   StableHlo.unary main_call6_c_0 main_call6_v12 (broadcastInDim S1x128 ![] bcast_S_S1x128 : (⟨S_, .i32⟩ : BufTy).Contents (Elt F) → (⟨S1x128, .i32⟩ : BufTy).Contents (Elt F)),
   StableHlo.binary main_call6_v2 main_call6_v12 main_call6_v13 (subi : (⟨S1x128, .i32⟩ : BufTy).Contents (Elt F) → (⟨S1x128, .i32⟩ : BufTy).Contents (Elt F) → (⟨S1x128, .i32⟩ : BufTy).Contents (Elt F)),
   StableHlo.ternary main_call6_v11 main_call6_v13 main_call6_v2 main_v53 (select : (⟨S1x128, .i1⟩ : BufTy).Contents (Elt F) → (⟨S1x128, .i32⟩ : BufTy).Contents (Elt F) → (⟨S1x128, .i32⟩ : BufTy).Contents (Elt F) → (⟨S1x128, .i32⟩ : BufTy).Contents (Elt F)),
   StableHlo.nullary main_v54 (iotaInDim S8 32 0),
   StableHlo.unary main_v54 main_v55 (broadcastInDim S8x1 ![0] bcast_S8_S8x1_0 : (⟨S8, .i32⟩ : BufTy).Contents (Elt F) → (⟨S8x1, .i32⟩ : BufTy).Contents (Elt F)),
   StableHlo.unary main_v53 main_v56 (broadcastInDim S8x128 ![0, 1] bcast_S1x128_S8x128_0_1 : (⟨S1x128, .i32⟩ : BufTy).Contents (Elt F) → (⟨S8x128, .i32⟩ : BufTy).Contents (Elt F)),
   StableHlo.unary main_v55 main_v57 (broadcastInDim S8x128 ![0, 1] bcast_S8x1_S8x128_0_1 : (⟨S8x1, .i32⟩ : BufTy).Contents (Elt F) → (⟨S8x128, .i32⟩ : BufTy).Contents (Elt F)),
   StableHlo.binary main_v56 main_v57 main_v58 (cmpi .eq : (⟨S8x128, .i32⟩ : BufTy).Contents (Elt F) → (⟨S8x128, .i32⟩ : BufTy).Contents (Elt F) → (⟨S8x128, .i1⟩ : BufTy).Contents (Elt F)),
   StableHlo.unary main_v58 main_v59 (uitofp .f32 : (⟨S8x128, .i1⟩ : BufTy).Contents (Elt F) → (⟨S8x128, .f32⟩ : BufTy).Contents (Elt F)),
   StableHlo.unary main_v18 main_call7_v0 (broadcastInDim S8x1x8x1 ![0, 2] bcast_S8x8_S8x1x8x1_0_2 : (⟨S8x8, .f32⟩ : BufTy).Contents (Elt F) → (⟨S8x1x8x1, .f32⟩ : BufTy).Contents (Elt F)),
   StableHlo.unary main_v20 main_call7_v1 (broadcastInDim S1x16x1x1 ![1, 3] bcast_S16x1_S1x16x1x1_1_3 : (⟨S16x1, .f32⟩ : BufTy).Contents (Elt F) → (⟨S1x16x1x1, .f32⟩ : BufTy).Contents (Elt F)),
   StableHlo.unary main_call7_v0 main_call7_v2 (broadcastInDim S8x16x8x1 ![0, 1, 2, 3] bcast_S8x1x8x1_S8x16x8x1_0_1_2_3 : (⟨S8x1x8x1, .f32⟩ : BufTy).Contents (Elt F) → (⟨S8x16x8x1, .f32⟩ : BufTy).Contents (Elt F)),
   StableHlo.unary main_call7_v1 main_call7_v3 (broadcastInDim S8x16x8x1 ![0, 1, 2, 3] bcast_S1x16x1x1_S8x16x8x1_0_1_2_3 : (⟨S1x16x1x1, .f32⟩ : BufTy).Contents (Elt F) → (⟨S8x16x8x1, .f32⟩ : BufTy).Contents (Elt F)),
   StableHlo.binary main_call7_v2 main_call7_v3 main_call7_v4 (mulf : (⟨S8x16x8x1, .f32⟩ : BufTy).Contents (Elt F) → (⟨S8x16x8x1, .f32⟩ : BufTy).Contents (Elt F) → (⟨S8x16x8x1, .f32⟩ : BufTy).Contents (Elt F)),
   StableHlo.reshape main_call7_v4 main_v60 (rfl : (.f32 : EltTy) = .f32) shapeCasts_S8x16x8x1_S128x8,
   StableHlo.unary main_v60 main_v61 (broadcastInDim S128x8x16 ![0, 1] bcast_S128x8_S128x8x16_0_1 : (⟨S128x8, .f32⟩ : BufTy).Contents (Elt F) → (⟨S128x8x16, .f32⟩ : BufTy).Contents (Elt F)),
   StableHlo.reshape main_v61 main_v62 (rfl : (.f32 : EltTy) = .f32) shapeCasts_S128x8x16_S128x128,
   StableHlo.binary main_v10 main_v11 main_v63 (subf : (⟨S16x16, .f32⟩ : BufTy).Contents (Elt F) → (⟨S16x16, .f32⟩ : BufTy).Contents (Elt F) → (⟨S16x16, .f32⟩ : BufTy).Contents (Elt F)),
   StableHlo.unary main_v18 main_call8_v0 (broadcastInDim S8x1x8x1 ![0, 2] bcast_S8x8_S8x1x8x1_0_2 : (⟨S8x8, .f32⟩ : BufTy).Contents (Elt F) → (⟨S8x1x8x1, .f32⟩ : BufTy).Contents (Elt F)),
   StableHlo.unary main_v63 main_call8_v1 (broadcastInDim S1x16x1x16 ![1, 3] bcast_S16x16_S1x16x1x16_1_3 : (⟨S16x16, .f32⟩ : BufTy).Contents (Elt F) → (⟨S1x16x1x16, .f32⟩ : BufTy).Contents (Elt F)),
   StableHlo.unary main_call8_v0 main_call8_v2 (broadcastInDim S8x16x8x16 ![0, 1, 2, 3] bcast_S8x1x8x1_S8x16x8x16_0_1_2_3 : (⟨S8x1x8x1, .f32⟩ : BufTy).Contents (Elt F) → (⟨S8x16x8x16, .f32⟩ : BufTy).Contents (Elt F)),
   StableHlo.unary main_call8_v1 main_call8_v3 (broadcastInDim S8x16x8x16 ![0, 1, 2, 3] bcast_S1x16x1x16_S8x16x8x16_0_1_2_3 : (⟨S1x16x1x16, .f32⟩ : BufTy).Contents (Elt F) → (⟨S8x16x8x16, .f32⟩ : BufTy).Contents (Elt F)),
   StableHlo.binary main_call8_v2 main_call8_v3 main_call8_v4 (mulf : (⟨S8x16x8x16, .f32⟩ : BufTy).Contents (Elt F) → (⟨S8x16x8x16, .f32⟩ : BufTy).Contents (Elt F) → (⟨S8x16x8x16, .f32⟩ : BufTy).Contents (Elt F)),
   StableHlo.reshape main_call8_v4 main_v64 (rfl : (.f32 : EltTy) = .f32) shapeCasts_S8x16x8x16_S128x128,
   StableHlo.unary main_v18 main_call9_v0 (broadcastInDim S8x1x8x1 ![0, 2] bcast_S8x8_S8x1x8x1_0_2 : (⟨S8x8, .f32⟩ : BufTy).Contents (Elt F) → (⟨S8x1x8x1, .f32⟩ : BufTy).Contents (Elt F)),
   StableHlo.unary main_v12 main_call9_v1 (broadcastInDim S1x16x1x16 ![1, 3] bcast_S16x16_S1x16x1x16_1_3 : (⟨S16x16, .f32⟩ : BufTy).Contents (Elt F) → (⟨S1x16x1x16, .f32⟩ : BufTy).Contents (Elt F)),
   StableHlo.unary main_call9_v0 main_call9_v2 (broadcastInDim S8x16x8x16 ![0, 1, 2, 3] bcast_S8x1x8x1_S8x16x8x16_0_1_2_3 : (⟨S8x1x8x1, .f32⟩ : BufTy).Contents (Elt F) → (⟨S8x16x8x16, .f32⟩ : BufTy).Contents (Elt F)),
   StableHlo.unary main_call9_v1 main_call9_v3 (broadcastInDim S8x16x8x16 ![0, 1, 2, 3] bcast_S1x16x1x16_S8x16x8x16_0_1_2_3 : (⟨S1x16x1x16, .f32⟩ : BufTy).Contents (Elt F) → (⟨S8x16x8x16, .f32⟩ : BufTy).Contents (Elt F)),
   StableHlo.binary main_call9_v2 main_call9_v3 main_call9_v4 (mulf : (⟨S8x16x8x16, .f32⟩ : BufTy).Contents (Elt F) → (⟨S8x16x8x16, .f32⟩ : BufTy).Contents (Elt F) → (⟨S8x16x8x16, .f32⟩ : BufTy).Contents (Elt F)),
   StableHlo.reshape main_call9_v4 main_v65 (rfl : (.f32 : EltTy) = .f32) shapeCasts_S8x16x8x16_S128x128,
   StableHlo.binary main_v9 main_v11 main_v66 (addf : (⟨S16x16, .f32⟩ : BufTy).Contents (Elt F) → (⟨S16x16, .f32⟩ : BufTy).Contents (Elt F) → (⟨S16x16, .f32⟩ : BufTy).Contents (Elt F)),
   StableHlo.reshape main_v66 main_v67 (rfl : (.f32 : EltTy) = .f32) shapeCasts_S16x16_S1x16x1x16,
   StableHlo.unary main_v67 main_v68 (broadcastInDim S1x16x8x16 ![0, 1, 2, 3] bcast_S1x16x1x16_S1x16x8x16_0_1_2_3 : (⟨S1x16x1x16, .f32⟩ : BufTy).Contents (Elt F) → (⟨S1x16x8x16, .f32⟩ : BufTy).Contents (Elt F)),
   StableHlo.reshape main_v68 main_v69 (rfl : (.f32 : EltTy) = .f32) shapeCasts_S1x16x8x16_S16x128,
   StableHlo.unary main_arg2 main_v70 (broadcastInDim S4096x1 ![0] bcast_S4096_S4096x1_0 : (⟨S4096, .i32⟩ : BufTy).Contents (Elt F) → (⟨S4096x1, .i32⟩ : BufTy).Contents (Elt F)),
   StableHlo.unary main_arg5 main_v71 (broadcastInDim S4096x1 ![0] bcast_S4096_S4096x1_0 : (⟨S4096, .i32⟩ : BufTy).Contents (Elt F) → (⟨S4096x1, .i32⟩ : BufTy).Contents (Elt F)),
   StableHlo.binary main_v70 main_v71 main_v72 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
   StableHlo.unary main_v72 main_v73 (sitofp .f32 : (⟨S4096x2, .i32⟩ : BufTy).Contents (Elt F) → (⟨S4096x2, .f32⟩ : BufTy).Contents (Elt F)),
   StableHlo.reshape main_arg9 main_v74 (rfl : (.f32 : EltTy) = .f32) shapeCasts_S16_S1x16,
   StableHlo.reshape main_v74 main_v75 (rfl : (.f32 : EltTy) = .f32) shapeCasts_S1x16_S1x1x1x16,
   StableHlo.unary main_v75 main_v76 (broadcastInDim S1x1x8x16 ![0, 1, 2, 3] bcast_S1x1x1x16_S1x1x8x16_0_1_2_3 : (⟨S1x1x1x16, .f32⟩ : BufTy).Contents (Elt F) → (⟨S1x1x8x16, .f32⟩ : BufTy).Contents (Elt F)),
   StableHlo.reshape main_v76 main_v77 (rfl : (.f32 : EltTy) = .f32) shapeCasts_S1x1x8x16_S1x128,
   StableHlo.reshape main_arg10 main_v78 (rfl : (.f32 : EltTy) = .f32) shapeCasts_S16_S1x16,
   StableHlo.reshape main_arg11 main_v79 (rfl : (.f32 : EltTy) = .f32) shapeCasts_S16_S1x16,
   StableHlo.reshape main_arg12 main_v80 (rfl : (.f32 : EltTy) = .f32) shapeCasts_S16_S1x16,
   StableHlo.reshape main_v80 main_v81 (rfl : (.f32 : EltTy) = .f32) shapeCasts_S1x16_S1x1x1x16,
   StableHlo.unary main_v81 main_v82 (broadcastInDim S1x1x8x16 ![0, 1, 2, 3] bcast_S1x1x1x16_S1x1x8x16_0_1_2_3 : (⟨S1x1x1x16, .f32⟩ : BufTy).Contents (Elt F) → (⟨S1x1x8x16, .f32⟩ : BufTy).Contents (Elt F)),
   StableHlo.reshape main_v82 main_v83 (rfl : (.f32 : EltTy) = .f32) shapeCasts_S1x1x8x16_S1x128,
   StableHlo.unary main_v18 main_call10_v0 (broadcastInDim S8x1x8x1 ![0, 2] bcast_S8x8_S8x1x8x1_0_2 : (⟨S8x8, .f32⟩ : BufTy).Contents (Elt F) → (⟨S8x1x8x1, .f32⟩ : BufTy).Contents (Elt F)),
   StableHlo.unary main_v19 main_call10_v1 (broadcastInDim S1x16x1x16 ![1, 3] bcast_S16x16_S1x16x1x16_1_3 : (⟨S16x16, .f32⟩ : BufTy).Contents (Elt F) → (⟨S1x16x1x16, .f32⟩ : BufTy).Contents (Elt F)),
   StableHlo.unary main_call10_v0 main_call10_v2 (broadcastInDim S8x16x8x16 ![0, 1, 2, 3] bcast_S8x1x8x1_S8x16x8x16_0_1_2_3 : (⟨S8x1x8x1, .f32⟩ : BufTy).Contents (Elt F) → (⟨S8x16x8x16, .f32⟩ : BufTy).Contents (Elt F)),
   StableHlo.unary main_call10_v1 main_call10_v3 (broadcastInDim S8x16x8x16 ![0, 1, 2, 3] bcast_S1x16x1x16_S8x16x8x16_0_1_2_3 : (⟨S1x16x1x16, .f32⟩ : BufTy).Contents (Elt F) → (⟨S8x16x8x16, .f32⟩ : BufTy).Contents (Elt F)),
   StableHlo.binary main_call10_v2 main_call10_v3 main_call10_v4 (mulf : (⟨S8x16x8x16, .f32⟩ : BufTy).Contents (Elt F) → (⟨S8x16x8x16, .f32⟩ : BufTy).Contents (Elt F) → (⟨S8x16x8x16, .f32⟩ : BufTy).Contents (Elt F)),
   StableHlo.reshape main_call10_v4 main_v84 (rfl : (.f32 : EltTy) = .f32) shapeCasts_S8x16x8x16_S128x128,
   StableHlo.reshape main_arg14 main_v85 (rfl : (.f32 : EltTy) = .f32) shapeCasts_S8_S1x8,
   StableHlo.nullary main_c_9 (constantI S_ 32 0#32),
   StableHlo.unary main_c_9 main_call11_v0 (sitofp .f32 : (⟨S_, .i32⟩ : BufTy).Contents (Elt F) → (⟨S_, .f32⟩ : BufTy).Contents (Elt F)),
   StableHlo.binary main_v85 main_call11_v0 main_v86 ((fun x v => pad S1x16 ![0, 0] ![0, 8] ![0, 0] x v pads_S1x8_S1x16_000_080 h_S_) : (⟨S1x8, .f32⟩ : BufTy).Contents (Elt F) → (⟨S_, .f32⟩ : BufTy).Contents (Elt F) → (⟨S1x16, .f32⟩ : BufTy).Contents (Elt F)),
   StableHlo.reshape main_v86 main_v87 (rfl : (.f32 : EltTy) = .f32) shapeCasts_S1x16_S1x1x1x16,
   StableHlo.unary main_v87 main_v88 (broadcastInDim S1x1x8x16 ![0, 1, 2, 3] bcast_S1x1x1x16_S1x1x8x16_0_1_2_3 : (⟨S1x1x1x16, .f32⟩ : BufTy).Contents (Elt F) → (⟨S1x1x8x16, .f32⟩ : BufTy).Contents (Elt F)),
   StableHlo.reshape main_v88 main_v89 (rfl : (.f32 : EltTy) = .f32) shapeCasts_S1x1x8x16_S1x128,
   StableHlo.reshape main_arg15 main_v90 (rfl : (.f32 : EltTy) = .f32) shapeCasts_S8_S1x8,
   StableHlo.nullary main_c_10 (constantI S_ 32 0#32),
   StableHlo.unary main_c_10 main_call12_v0 (sitofp .f32 : (⟨S_, .i32⟩ : BufTy).Contents (Elt F) → (⟨S_, .f32⟩ : BufTy).Contents (Elt F)),
   StableHlo.binary main_v90 main_call12_v0 main_v91 ((fun x v => pad S1x16 ![0, 0] ![0, 8] ![0, 0] x v pads_S1x8_S1x16_000_080 h_S_) : (⟨S1x8, .f32⟩ : BufTy).Contents (Elt F) → (⟨S_, .f32⟩ : BufTy).Contents (Elt F) → (⟨S1x16, .f32⟩ : BufTy).Contents (Elt F)),
   StableHlo.reshape main_arg16 main_v92 (rfl : (.f32 : EltTy) = .f32) shapeCasts_S8_S1x8,
   StableHlo.nullary main_c_11 (constantI S_ 32 0#32),
   StableHlo.unary main_c_11 main_call13_v0 (sitofp .f32 : (⟨S_, .i32⟩ : BufTy).Contents (Elt F) → (⟨S_, .f32⟩ : BufTy).Contents (Elt F)),
   StableHlo.binary main_v92 main_call13_v0 main_v93 ((fun x v => pad S1x16 ![0, 0] ![0, 8] ![0, 0] x v pads_S1x8_S1x16_000_080 h_S_) : (⟨S1x8, .f32⟩ : BufTy).Contents (Elt F) → (⟨S_, .f32⟩ : BufTy).Contents (Elt F) → (⟨S1x16, .f32⟩ : BufTy).Contents (Elt F)),
   StableHlo.reshape main_arg17 main_v94 (rfl : (.f32 : EltTy) = .f32) shapeCasts_S8_S1x8,
   StableHlo.nullary main_c_12 (constantI S_ 32 0#32),
   StableHlo.unary main_c_12 main_call14_v0 (sitofp .f32 : (⟨S_, .i32⟩ : BufTy).Contents (Elt F) → (⟨S_, .f32⟩ : BufTy).Contents (Elt F)),
   StableHlo.binary main_v94 main_call14_v0 main_v95 ((fun x v => pad S1x16 ![0, 0] ![0, 8] ![0, 0] x v pads_S1x8_S1x16_000_080 h_S_) : (⟨S1x8, .f32⟩ : BufTy).Contents (Elt F) → (⟨S_, .f32⟩ : BufTy).Contents (Elt F) → (⟨S1x16, .f32⟩ : BufTy).Contents (Elt F)),
   StableHlo.reshape main_v95 main_v96 (rfl : (.f32 : EltTy) = .f32) shapeCasts_S1x16_S1x1x1x16,
   StableHlo.unary main_v96 main_v97 (broadcastInDim S1x1x8x16 ![0, 1, 2, 3] bcast_S1x1x1x16_S1x1x8x16_0_1_2_3 : (⟨S1x1x1x16, .f32⟩ : BufTy).Contents (Elt F) → (⟨S1x1x8x16, .f32⟩ : BufTy).Contents (Elt F)),
   StableHlo.reshape main_v97 main_v98 (rfl : (.f32 : EltTy) = .f32) shapeCasts_S1x1x8x16_S1x128,
   StableHlo.reshape main_arg19 main_v99 (rfl : (.f32 : EltTy) = .f32) shapeCasts_S1_S1x1,
   StableHlo.reshape main_arg21 main_v100 (rfl : (.f32 : EltTy) = .f32) shapeCasts_S32_S1x32,
   StableHlo.reshape main_arg22 main_v101 (rfl : (.f32 : EltTy) = .f32) shapeCasts_S32_S1x32,
   StableHlo.reshape main_arg23 main_v102 (rfl : (.f32 : EltTy) = .f32) shapeCasts_S32_S1x32,
   StableHlo.reshape main_arg24 main_v103 (rfl : (.f32 : EltTy) = .f32) shapeCasts_S32_S1x32,
   StableHlo.reshape main_arg26 main_v104 (rfl : (.f32 : EltTy) = .f32) shapeCasts_S16_S1x16,
   StableHlo.reshape main_arg27 main_v105 (rfl : (.f32 : EltTy) = .f32) shapeCasts_S16_S1x16]

/-- The last operations after the call. -/
def opsB2 : List (HloOp τ sig (Elt F)) :=
  [StableHlo.reshape main_arg28 main_v106 (rfl : (.f32 : EltTy) = .f32) shapeCasts_S16_S1x16,
   StableHlo.reshape main_arg29 main_v107 (rfl : (.f32 : EltTy) = .f32) shapeCasts_S16_S1x16,
   StableHlo.reshape main_arg31 main_v108 (rfl : (.f32 : EltTy) = .f32) shapeCasts_S1_S1x1]

/-- The operations between the call and the dense kernel. -/
def opsB : List (HloOp τ sig (Elt F)) := opsB0 ++ (opsB1 ++ opsB2)

def wsA : List (Ref sig .tc) :=
  [main_v0, main_v1, main_c, main_v2, main_v3]

def wsB0 : List (Ref sig .tc) :=
  [main_v5, main_v6, main_v7, main_v8, main_v9, main_v10, main_v11, main_v12, main_v13, main_v14, main_c_0, main_v15, main_v16, main_v17, main_v18, main_c_1, main_call0_v0, main_v19, main_c_2, main_call1_v0, main_v20, main_v21, main_v22, main_v23, main_c_3, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v24, main_v25, main_v26, main_v27, main_v28, main_v29, main_v30, main_v31, main_v32, main_c_4, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v33, main_v34, main_v35, main_v36, main_v37, main_v38, main_v39, main_v40, main_c_5, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v41, main_c_6, main_v42, main_v43, main_v44, main_v45, main_c_7, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v46, main_v47, main_v48, main_v49, main_v50]

def wsB1 : List (Ref sig .tc) :=
  [main_v51, main_v52, main_c_8, main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v53, main_v54, main_v55, main_v56, main_v57, main_v58, main_v59, main_call7_v0, main_call7_v1, main_call7_v2, main_call7_v3, main_call7_v4, main_v60, main_v61, main_v62, main_v63, main_call8_v0, main_call8_v1, main_call8_v2, main_call8_v3, main_call8_v4, main_v64, main_call9_v0, main_call9_v1, main_call9_v2, main_call9_v3, main_call9_v4, main_v65, main_v66, main_v67, main_v68, main_v69, main_v70, main_v71, main_v72, main_v73, main_v74, main_v75, main_v76, main_v77, main_v78, main_v79, main_v80, main_v81, main_v82, main_v83, main_call10_v0, main_call10_v1, main_call10_v2, main_call10_v3, main_call10_v4, main_v84, main_v85, main_c_9, main_call11_v0, main_v86, main_v87, main_v88, main_v89, main_v90, main_c_10, main_call12_v0, main_v91, main_v92, main_c_11, main_call13_v0, main_v93, main_v94, main_c_12, main_call14_v0, main_v95, main_v96, main_v97, main_v98, main_v99, main_v100, main_v101, main_v102, main_v103, main_v104, main_v105]

def wsB2 : List (Ref sig .tc) :=
  [main_v106, main_v107, main_v108]

def wsB : List (Ref sig .tc) := wsB0 ++ (wsB1 ++ wsB2)

set_option maxRecDepth 8192 in
theorem opsA_writes : Writes (F := F) opsA wsA := by
  unfold opsA wsA Writes
  repeat (refine List.Forall₂.cons rfl ?_)
  exact List.Forall₂.nil

set_option maxRecDepth 8192 in
theorem opsB0_writes : Writes (F := F) opsB0 wsB0 := by
  unfold opsB0 wsB0 Writes
  repeat (refine List.Forall₂.cons rfl ?_)
  exact List.Forall₂.nil

set_option maxRecDepth 8192 in
theorem opsB1_writes : Writes (F := F) opsB1 wsB1 := by
  unfold opsB1 wsB1 Writes
  repeat (refine List.Forall₂.cons rfl ?_)
  exact List.Forall₂.nil

set_option maxRecDepth 8192 in
theorem opsB2_writes : Writes (F := F) opsB2 wsB2 := by
  unfold opsB2 wsB2 Writes
  repeat (refine List.Forall₂.cons rfl ?_)
  exact List.Forall₂.nil

theorem opsB_writes : Writes (F := F) opsB wsB := by
  unfold opsB wsB
  exact List.rel_append opsB0_writes (List.rel_append opsB1_writes opsB2_writes)

set_option maxRecDepth 8192 in
theorem opsA_sub : (opsA : List (HloOp τ sig (Elt F))).Forall fun op => op.bufs ⊆ StableHlo.tcRefs τ sig := by
  unfold opsA
  exact ⟨StableHlo.reshape_bufs_sub .., StableHlo.reshape_bufs_sub .., StableHlo.nullary_bufs_sub .., StableHlo.unary_bufs_sub .., StableHlo.nary_bufs_sub ..⟩

set_option maxRecDepth 8192 in
theorem opsA_fresh : (opsA : List (HloOp τ sig (Elt F))).Forall fun op => op.fresh = ∅ := by
  unfold opsA
  exact ⟨rfl, rfl, rfl, rfl, rfl⟩

set_option maxRecDepth 8192 in
theorem opsB0_sub : (opsB0 : List (HloOp τ sig (Elt F))).Forall fun op => op.bufs ⊆ StableHlo.tcRefs τ sig := by
  unfold opsB0
  exact ⟨StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.unary_bufs_sub ..⟩

set_option maxRecDepth 8192 in
theorem opsB0_fresh : (opsB0 : List (HloOp τ sig (Elt F))).Forall fun op => op.fresh = ∅ := by
  unfold opsB0
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsB1_sub : (opsB1 : List (HloOp τ sig (Elt F))).Forall fun op => op.bufs ⊆ StableHlo.tcRefs τ sig := by
  unfold opsB1
  exact ⟨StableHlo.nullary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.reshape_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.binary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.reshape_bufs_sub .., StableHlo.unary_bufs_sub .., StableHlo.reshape_bufs_sub .., StableHlo.reshape_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩

set_option maxRecDepth 8192 in
theorem opsB1_fresh : (opsB1 : List (HloOp τ sig (Elt F))).Forall fun op => op.fresh = ∅ := by
  unfold opsB1
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsB2_sub : (opsB2 : List (HloOp τ sig (Elt F))).Forall fun op => op.bufs ⊆ StableHlo.tcRefs τ sig := by
  unfold opsB2
  exact ⟨StableHlo.reshape_bufs_sub .., StableHlo.reshape_bufs_sub .., StableHlo.reshape_bufs_sub ..⟩

set_option maxRecDepth 8192 in
theorem opsB2_fresh : (opsB2 : List (HloOp τ sig (Elt F))).Forall fun op => op.fresh = ∅ := by
  unfold opsB2
  exact ⟨rfl, rfl, rfl⟩

set_option maxRecDepth 16384 in
set_option maxHeartbeats 4000000 in
theorem part0_eq (d : Dev nD) : main_part0 (F := F) d = seq opsA >>= fun _ => (sc (F := F)).run d 0 >>= fun _ => seq opsB0 := rfl
set_option maxRecDepth 16384 in
set_option maxHeartbeats 4000000 in
theorem part1_eq (d : Dev nD) : main_part1 (F := F) d = seq opsB1 := rfl
set_option maxRecDepth 16384 in
theorem part2_eq (d : Dev nD) : main_part2 (F := F) d = seq opsB2 >>= fun _ => Prog.lift (.customCall (SparseCore.inner (Pipeline.entry 0)) ()) >>= fun _ => pure ⟨⟩ := rfl

end Cert.Proof.KernelIdeal

end
-- ==== Proof.IdealLaunch.lean ====
/-
  The program's run: the row list, the gather, the host values, the dense kernel; what every execution leaves.
-/
module

public import proofs.«01_k».proof.Proof.IdealTcRegion
public import proofs.«01_k».proof.Proof.IdealHostOps
public import Idealize.ShloMosaic.Lib.Pipeline.Frame

@[expose] public section

noncomputable section

set_option maxHeartbeats 600000
set_option maxRecDepth 16384

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sdiff_result seq after)

variable {F : FTy → Type} [FloatOps F]

local notation "𝕄" => MT nD τ sig (HIx 1) (Elt F) ℕ UU ℕ

section Run

variable (m : (ℓ : Loc nD τ sig) → Buf (Elt F) ℓ) (ρ : Dev nD → PrngReg)

/-- A device's buffers at the launch, before the call, and at the end. -/
def V0 (d : Dev nD) : Valuation τ sig (Elt F) := fun b => m (d, b)
def V1 (d : Dev nD) : Valuation τ sig (Elt F) := after opsA (V0 m d)
def tab (d : Dev nD) : Buf (Elt F) (xLoc d) := V1 m d (ref main_arg7)
def lst (d : Dev nD) : Buf (Elt F) (iLoc d) := V1 m d (ref main_v3)
def old (d : Dev nD) : Buf (Elt F) (oLoc d) := V1 m d (ref main_v4)
def V2 (d : Dev nD) : Valuation τ sig (Elt F) := Function.update (V1 m d) (ref main_v4) (out (tab m) (lst m) d)

abbrev PP : (K (F := F)).Pay (nD := nD) (Val := Elt F) (Name := ℕ) (U := UU) := P (tab m) (lst m) (old m)

/-- The call's three arrays among a device's buffers. -/
def three : Finset (DevRef τ sig) := {ref main_arg7, ref main_v3, ref main_v4}

theorem three_sub : three ⊆ Pipeline.ucRefs τ sig := by decide

omit [FloatOps F] in
theorem held_three (d : Dev nD) (V : Valuation τ sig (Elt F)) :
    (held (SparseCore.T d) three V : sProp 𝕄)
      = iprop((xLoc d ↦{fullShare} V (ref main_arg7)) ∗ (iLoc d ↦{fullShare} V (ref main_v3)) ∗ oLoc d ↦{fullShare} V (ref main_v4)) := by
  unfold held three
  rw [SparseCore.bigSep_insert' (by decide), SparseCore.bigSep_insert' (by decide), bigSep_singleton]

theorem V2_other (d : Dev nD) {b : DevRef τ sig} (h : b ≠ ref main_v4) : V2 m d b = V1 m d b := Function.update_of_ne h _ _
theorem V2_out (d : Dev nD) : V2 m d (ref main_v4) = out (tab m) (lst m) d := Function.update_self _ _ _

/-- The three arrays and the rest, taken apart before the call, -/
theorem apart (d : Dev nD) : (held (SparseCore.T d) (Pipeline.ucRefs τ sig) (V1 m d) : sProp 𝕄)
    = iprop(((xLoc d ↦{fullShare} tab m d) ∗ (iLoc d ↦{fullShare} lst m d) ∗ oLoc d ↦{fullShare} old m d)
        ∗ held (SparseCore.T d) (Pipeline.ucRefs τ sig \ three) (V1 m d)) := by
  rw [StableHlo.held_sub_split _ three_sub, held_three]; rfl

/-- and put together after it. -/
theorem together (d : Dev nD) : (held (SparseCore.T d) (Pipeline.ucRefs τ sig) (V2 m d) : sProp 𝕄)
    = iprop(((xLoc d ↦{fullShare} tab m d) ∗ (iLoc d ↦{fullShare} lst m d) ∗ oLoc d ↦{fullShare} out (tab m) (lst m) d)
        ∗ held (SparseCore.T d) (Pipeline.ucRefs τ sig \ three) (V1 m d)) := by
  rw [StableHlo.held_sub_split _ three_sub, held_three, V2_out, V2_other m d (show ref main_arg7 ≠ ref main_v4 by decide),
    V2_other m d (show ref main_v3 ≠ ref main_v4 by decide)]
  rw [StableHlo.held_congr _ (V := V2 m d) (V' := V1 m d) fun b hb => V2_other m d fun e => (Finset.mem_sdiff.mp hb).2 (by rw [e]; decide)]
  rfl

/-- Before the dense kernel, -/
def V3 (d : Dev nD) : Valuation τ sig (Elt F) := after opsB (V2 m d)
/-- by device, as the kernel's arrays, -/
def VV (c : Dev nD) (b : Ref sig .tc) : Buf (Elt F) ((c.tc : Thread nD τ).loc b) := V3 m c (ref b)
/-- and at the end. -/
def V4 (d : Dev nD) : Valuation τ sig (Elt F) := Function.update (V3 m d) (ref main_v109) (result (VV m) d)

theorem Vend_eq (d : Dev nD) : (Vend (VV m) d) = fun b => V4 m d (ref b) := by
  funext b
  unfold Vend V4
  by_cases h : b = main_v109
  · subst h; rw [Function.update_self, Function.update_self]
  · rw [Function.update_of_ne h, Function.update_of_ne (StableHlo.devRef_ne_of_ne h)]; rfl

abbrev FIN (d : Dev nD) : sProp 𝕄 := held (SparseCore.T d) (Pipeline.ucRefs τ sig) (V4 m d)

theorem sub_of {l : List (HloOp τ sig (Elt F))} (h : l.Forall fun op => op.bufs ⊆ StableHlo.tcRefs τ sig) : ∀ op ∈ l, op.bufs ⊆ Pipeline.ucRefs τ sig :=
  fun op hop => Pipeline.sub_ucRefs op (List.forall_iff_forall_mem.mp h op hop)
theorem fresh_of {l : List (HloOp τ sig (Elt F))} (h : l.Forall fun op => op.fresh = ∅) : ∀ op ∈ l, op.fresh = ∅ :=
  fun op hop => List.forall_iff_forall_mem.mp h op hop

theorem main_eq (d : Dev nD) : (main (F := F) d) = seq opsA >>= fun _ => (sc (F := F)).run d 0 >>= fun _ => seq opsB0 >>= fun _ => seq opsB1 >>= fun _ =>
    seq opsB2 >>= fun _ => Prog.lift (.customCall (SparseCore.inner (Pipeline.entry 0)) ()) >>= fun _ => pure ⟨⟩ := by
  show (main_part0 d >>= fun _ => main_part1 d >>= fun _ => main_part2 d) = _
  rw [part0_eq, part1_eq, part2_eq]
  simp only [bind_assoc]

theorem Otc_one (d : Dev nD) : (K (F := F)).Otc d 1 = 0 := by
  unfold SparseCore.Cfg.Otc
  exact Finset.sum_eq_zero fun q _ => if_neg (by omega)

theorem below (thr : Thread nD τ) (W : Waits sig (HIx 1)) : (K (F := F)).WBelow thr W 8 := by
  intro p _
  cases h : p.2 with
  | none => rw [SparseCore.Cfg.lev_none]; omega
  | some q => have := (K (F := F)).lev_some_le (thr, p.1) q; have := q.isLt; omega

/-- Past the call the core owes nothing. -/
theorem tcSt_one (d : Dev nD) : ∃ R : sProp 𝕄, (K (F := F)).tcSt EH d 1
    = iprop((∃ W, ⌜(K (F := F)).WBelow (SparseCore.T d) W 8⌝ ∗ owes (SparseCore.T d) 0 W) ∗ R) := by
  unfold SparseCore.Cfg.tcSt
  rw [Otc_one]
  exact ⟨_, rfl⟩

variable [∀ e, Nonempty (Elt F e)]

theorem dense_prog : (Prog.lift (.customCall (SparseCore.inner (Pipeline.entry 0)) ()) >>= fun _ => pure ⟨⟩ :
      Prog (TpuEff nD τ sig (Elt F) (SparseCore.Sig (ΛP (F := F)) 1) .tc) PUnit)
    = SparseCore.liftProg (.op (.customCall (Pipeline.entry 0) ()) fun _ => .ret ⟨⟩) := rfl

theorem enter (d : Dev nD) (Q : PUnit → sProp 𝕄) :
    iprop((iprop(boundary (d.tc : Thread nD τ) ∗ (unscopedBufs d (Vend (VV m) d) ∗ ∃ W, owes (d.tc : Thread nD τ) 0 W)) -∗ wp frame (wpE (D (F := F)) 𝒱 (d.tc : Thread nD τ) none) Set.univ (.ret ⟨⟩) Q)
        ∗ boundary (d.tc : Thread nD τ) ∗ (unscopedBufs d (VV m d) ∗ ∃ W, owes (d.tc : Thread nD τ) 0 W) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun _ => .ret ⟨⟩) Q := by
  have h := Pipeline.RegionSeg.wp (pcfgs (F := F)) adm (dats (VV m)) (none : HIx 1) cellOf_inj EP defs₀ 𝒱₀
    (K (F := F)).L (K (F := F)).lev (reg (VV m) (K (F := F)).L (K (F := F)).lev) d none (fun u hu => nomatch hu) (fun _ => .ret ⟨⟩) Q
  rw [reg_pre, reg_post] at h
  exact h

theorem enter' (d : Dev nD) (Q : PUnit → sProp 𝕄) :
      wp frame (wpE (D (F := F)) 𝒱 (SparseCore.T d) none) Set.univ (.op (.customCall (Pipeline.entry 0) ()) fun _ => .ret ⟨⟩) Q
      ⊢ wp frame (wpE ((K (F := F)).defs (D (F := F))) 𝒱 (SparseCore.T d) none) Set.univ
          (Prog.lift (.customCall (SparseCore.inner (Pipeline.entry 0)) ()) >>= fun _ => pure ⟨⟩) Q := by
  rw [dense_prog]
  exact (K (F := F)).wp_liftProg (D (F := F)) 𝒱 (SparseCore.T d) Set.univ none _ Q

/-- The dense kernel's region, entered from and left to the device's arrays. -/
theorem dense (κ : GSem nD τ sig → ℕ) (d : Dev nD) (Q : PUnit → sProp 𝕄) :
    iprop((K (F := F)).ctx EH (PP m) κ ∗ boundary (SparseCore.T d) ∗ held (SparseCore.T d) (Pipeline.ucRefs τ sig) (V3 m d) ∗ (∃ W, owes (SparseCore.T d) 0 W) ∗ share d
        ∗ (iprop(boundary (SparseCore.T d) ∗ held (SparseCore.T d) (Pipeline.ucRefs τ sig) (V4 m d) ∗ ∃ W, owes (SparseCore.T d) 0 W) -∗ Q ⟨⟩))
      ⊢ wp frame (wpE ((K (F := F)).defs (D (F := F))) 𝒱 (SparseCore.T d) none) Set.univ
          (Prog.lift (.customCall (SparseCore.inner (Pipeline.entry 0)) ()) >>= fun _ => pure ⟨⟩) Q := by
  refine BIBase.Entails.trans ?_ (enter' d Q)
  refine BIBase.Entails.trans ?_ (enter m d Q)
  rw [Vend_eq, show (unscopedBufs d (fun b => V4 m d (ref b)) : sProp 𝕄) = held (SparseCore.T d) (Pipeline.ucRefs τ sig) (V4 m d) from Pipeline.unscopedBufs_held d (V4 m d),
    show (unscopedBufs d (VV m d) : sProp 𝕄) = held (SparseCore.T d) (Pipeline.ucRefs τ sig) (V3 m d) from Pipeline.unscopedBufs_held d (V3 m d)]
  iintro ⟨#Hctx, Hb, Hh, HO, ⟨HC, HT⟩, Hk⟩
  ihave HL := ((K (F := F)).ctx_levAts (EH := EH) (P := PP m) κ (lv := (K (F := F)).lev)) $$ Hctx
  ihave HC' := (Entails.of_eq (bigSep_univ_of_subsingleton (0 : Fin 1))) $$ HC
  ihave HT' := (Entails.of_eq (bigSep_univ_of_subsingleton (0 : Fin 1))) $$ HT
  isplitl [Hk]
  · iintro ⟨Hb, Hh, HO⟩
    rw [wp_ret]
    imodintro
    iapply Hk
    isplitl [Hb]; · iexact Hb
    isplitl [Hh] <;> iassumption
  isplitl [Hb]; · iexact Hb
  isplitl [Hh HO]; · isplitl [Hh] <;> iassumption
  isplitl [HL]; · iexact HL
  isplitl [HC'] <;> iassumption

/-- `@main` on device `d`'s TensorCore. -/
theorem hmain (κ : GSem nD τ sig → ℕ) (d : Dev nD) :
    iprop((K (F := F)).ctx EH (PP m) κ ∗ (K (F := F)).tcSt EH d 0 ∗ (K (F := F)).tcRes m ρ d ∗ share d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from
    Pipeline.unscopedBufs_held d (V0 m d), main_eq]
  obtain ⟨R, hR⟩ := tcSt_one (F := F) d
  rw [hR]
  iintro ⟨#Hctx, Hst, ⟨Hb, Hheld, Hts, -⟩, Hsh⟩
  iapply (StableHlo.wp_seq 𝒱 none Set.univ d (Pipeline.ucRefs τ sig) _ opsA (sub_of opsA_sub) (fresh_of opsA_fresh) (V0 m d)) $$ [Hb Hheld]
  · isplitl [Hb] <;> iassumption
  iintro ⟨Hb, Hheld⟩
  ihave H := (Entails.of_eq (show held (d.tc : Thread nD τ) (Pipeline.ucRefs τ sig) (after opsA (V0 m d)) = _ from apart m d)) $$ Hheld
  icases H with ⟨H3, Hrest⟩
  rw [wp_bind]
  iapply ((K (F := F)).wp_run (D (F := F)) 𝒱 (EH := EH) (P := PP m) κ d 0) $$ [Hst H3 Hrest Hb Hts Hsh]
  isplitr; · iexact Hctx
  isplitl [Hst]; · iexact Hst
  isplitl [H3]; · rw [started]; iexact H3
  iintro ⟨Hst, Hdn⟩
  ihave Hdn' := (Entails.of_eq (finished (tab m) (lst m) (old m) d)) $$ Hdn
  ihave Hall := (Entails.of_eq (together m d).symm) $$ [Hdn' Hrest]
  · isplitl [Hdn'] <;> iassumption
  iapply (StableHlo.wp_seq 𝒱 none Set.univ d (Pipeline.ucRefs τ sig) _ opsB0 (sub_of opsB0_sub) (fresh_of opsB0_fresh) (V2 m d)) $$ [Hb Hall]
  · isplitl [Hb] <;> iassumption
  iintro ⟨Hb, Hall⟩
  iapply (StableHlo.wp_seq 𝒱 none Set.univ d (Pipeline.ucRefs τ sig) _ opsB1 (sub_of opsB1_sub) (fresh_of opsB1_fresh) (after opsB0 (V2 m d))) $$ [Hb Hall]
  · isplitl [Hb] <;> iassumption
  iintro ⟨Hb, Hall⟩
  iapply (StableHlo.wp_seq 𝒱 none Set.univ d (Pipeline.ucRefs τ sig) _ opsB2 (sub_of opsB2_sub) (fresh_of opsB2_fresh) (after opsB1 (after opsB0 (V2 m d)))) $$ [Hb Hall]
  · isplitl [Hb] <;> iassumption
  iintro ⟨Hb, Hall⟩
  rw [show after opsB2 (after opsB1 (after opsB0 (V2 m d))) = V3 m d by unfold V3 opsB; rw [after_two, after_two]]
  iapply (dense m κ d)
  isplitr; · iexact Hctx
  isplitl [Hb]; · iexact Hb
  isplitl [Hall]; · iexact Hall
  ihave Hst := (Entails.of_eq (show (K (F := F)).tcSt EH d ((0 : Fin 1).val + 1) = _ from hR)) $$ Hst
  icases Hst with ⟨⟨%W, %hW, HO⟩, Hst⟩
  isplitl [HO]; · iexists W; iexact HO
  isplitl [Hsh]; · iexact Hsh
  iintro ⟨Hb, Hh, ⟨%W', HO⟩⟩
  isplitl [HO Hst]
  · isplitl [HO]
    · iexists W'; isplitr
      · ipureintro; exact below _ _
      · iexact HO
    iexact Hst
  isplitl [Hh]; · iexact Hh
  isplitl [Hb] <;> iassumption

/-- What a device's memory reads at the end. -/
def fq (d : Dev nD) (s' : Phys nD τ sig (Elt F)) : Prop := ∀ b ∈ Pipeline.ucRefs τ sig, s'.mem.mem (d, b) = V4 m d b

omit [FloatOps F] in
theorem read_held (d : Dev nD) (S : Finset (DevRef τ sig)) (V : Valuation τ sig (Elt F)) (s' : Phys nD τ sig (Elt F)) :
    iprop(held (SparseCore.T d) S V ∗ SI s') ⊢ (⌜∀ b ∈ S, s'.mem.mem (d, b) = V b⌝ : sProp 𝕄) := by
  refine BIBase.Entails.trans (forall_intro fun b => ?_) pure_forall.2
  by_cases hb : b ∈ S
  · unfold held
    refine (sep_mono_left (bigSep_elim hb)).trans ?_
    iintro ⟨H, HSI⟩
    ihave H := (SI_pointsTo_agree (st := s') (ℓ := (d, b)) (I := Finset.univ) (q := fullShare) (f := V b)) $$ [HSI H]
    · isplitl [HSI] <;> iassumption
    icases H with %h
    ipureintro; exact fun _ => funext fun i => h i (Finset.mem_univ i)
  · iintro -; ipureintro; exact fun h => absurd h hb

theorem hfin (d : Dev nD) (s' : Phys nD τ sig (Elt F)) : iprop(FIN m d ∗ SI s') ⊢ (⌜fq m d s'⌝ : sProp 𝕄) := read_held d _ _ s'

/-- What every execution leaves. -/
def QC : PUnit × MemSt nD τ sig (Elt F) → Prop := fun r =>
  (∀ d : Dev nD, ∀ b ∈ Pipeline.ucRefs τ sig, r.2.mem (d, b) = V4 m d b) ∧ r.2.sem = fun _ => 0

theorem run_main (hids : ∀ d j, (lst m d j : BitVec 32).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tab m) (lst m) (old m) facts hids)
    (fun q _ => match q with | 0 => SparseCore.Cfg.VecSplit.of_plain (vecSplit (tab m) (lst m) (old m)))
    m ρ main share (FIN m) (u₀ (F := F)) (sep_elim_left.trans (hu₀ (tab m) (lst m) (old m))) (hmain m ρ) (fq m) (hfin m) (QC m)
    (fun _ h hz => ⟨h, hz⟩)

end Run

end Cert.Proof.KernelIdeal

end
-- ==== Proof.Lookup.lean ====
/-
  The reference's row lookups, read at an index.  A lookup wraps negative indices, masks rows out of range by not-a-number
  and gathers; with every index in `[0, 1000000)` nothing wraps, the mask is all ones, and entry `(i, c)` is column `c` of
  the table's row number `i`'s index.
-/
module

public import proofs.«01_k».proof.Defs
public import proofs.«01_k».proof.Proof.Gen.ReferenceIdeal.Run
public import Idealize.ShloMosaic.Lib.ReduceAll
public import Idealize.ShloMosaic.Lib.ValueIdxCore
public import Idealize.ShloMosaic.Lib.Routing.Ops
public import Idealize.ShloMosaic.Lib.Routing.OpsPair
public import Idealize.ShloMosaic.Lib.Pipeline.Value

@[expose] public section

noncomputable section

namespace Cert.Proof.Lookup

open Cert.ReferenceIdeal Cert.ReferenceIdeal.Gen
open Idealize.ShloMosaic Idealize.ShloMosaic.ValueIdx

/-! ## Words in range -/

theorem word_slt {v : BitVec 32} (h : v.toNat < 1000000) (a : BitVec 32) : Scalar.select (IntOp.cmpi .slt v 0#32) a v = v :=
  Routing.wrap_of_lt v a (by norm_num; omega)

theorem word_sge {v : BitVec 32} (h : v.toNat < 1000000) : IntOp.cmpi .sge v 0#32 = 1#1 := by
  simp only [IntOp.cmpi, BitVec.sle_eq_decide, BitVec.toInt_eq_toNat_cond, BitVec.toNat_ofNat, Nat.reducePow, Nat.reduceMod]
  rw [decide_eq_true (by omega)]; rfl

theorem word_sle {v : BitVec 32} (h : v.toNat < 1000000) : IntOp.cmpi .sle v 999999#32 = 1#1 := by
  simp only [IntOp.cmpi, BitVec.sle_eq_decide, BitVec.toInt_eq_toNat_cond, BitVec.toNat_ofNat, Nat.reducePow, Nat.reduceMod]
  rw [decide_eq_true (by omega)]; rfl

/-- The precondition's test of one word. -/
theorem word_in {v : BitVec 32} (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-! ## The lookups -/

/-- The table's row a word names, at a column. -/
def rowAt {α : Type} (X : S1000000x16.Idx → α) (w : BitVec 32) (c : Fin 16) : α :=
  X (ix2 (n0 := 1000000) ⟨w.toNat % 1000000, Nat.mod_lt _ (by norm_num)⟩ c)

section

variable {F : FTy → Type} [FloatOps F]

abbrev wrapped1 (w : IVec S4096 32) : IVec S4096 32 :=
  select (cmpi .slt w (broadcastInDim S4096 ![] bcast_S_S4096 (constantI S_ 32 0#32))) (addi w (broadcastInDim S4096 ![] bcast_S_S4096 (constantI S_ 32 1000000#32))) w

/-- A lookup by a vector of indices. -/
def take1 (X : FVec F S1000000x16 .f32) (w : IVec S4096 32) : FVec F S4096x16 .f32 :=
  select (broadcastInDim S4096x16 ![0] bcast_S4096_S4096x16_0 (Host.reduce IntOp.andi (andi (cmpi .sge (broadcastInDim S4096x1 ![0] bcast_S4096_S4096x1_0 (wrapped1 w)) (broadcastInDim S4096x1 ![] bcast_S_S4096x1 (constantI S_ 32 0#32))) (cmpi .sle (broadcastInDim S4096x1 ![0] bcast_S4096_S4096x1_0 (wrapped1 w)) (broadcastInDim S4096x1 ![0, 1] bcast_S1x1_S4096x1_0_1 (broadcastInDim S1x1 ![1] bcast_S1_S1x1_1 (constantI S1 32 999999#32))))) (constantI S_ 1 1#1) reducesTo_S4096x1_S4096_d1 h_S_)) (Host.gather gather_S1000000x16_S4096x1_S4096x16_1_0_n_n_0_1_116 X (broadcastInDim S4096x1 ![0] bcast_S4096_S4096x1_0 (wrapped1 w))) (broadcastInDim S4096x16 ![] bcast_S_S4096x16 (constant S_ .f32 0x7FC00000#32))

abbrev wrapped2 (w : IVec S4096x200 32) : IVec S4096x200 32 :=
  select (cmpi .slt w (broadcastInDim S4096x200 ![] bcast_S_S4096x200 (constantI S_ 32 0#32))) (addi w (broadcastInDim S4096x200 ![] bcast_S_S4096x200 (constantI S_ 32 1000000#32))) w

/-- A lookup by a rectangle of indices. -/
def take2 (X : FVec F S1000000x16 .f32) (w : IVec S4096x200 32) : FVec F S4096x200x16 .f32 :=
  select (broadcastInDim S4096x200x16 ![0, 1] bcast_S4096x200_S4096x200x16_0_1 (Host.reduce IntOp.andi (andi (cmpi .sge (broadcastInDim S4096x200x1 ![0, 1] bcast_S4096x200_S4096x200x1_0_1 (wrapped2 w)) (broadcastInDim S4096x200x1 ![] bcast_S_S4096x200x1 (constantI S_ 32 0#32))) (cmpi .sle (broadcastInDim S4096x200x1 ![0, 1] bcast_S4096x200_S4096x200x1_0_1 (wrapped2 w)) (broadcastInDim S4096x200x1 ![0, 1, 2] bcast_S1x1x1_S4096x200x1_0_1_2 (broadcastInDim S1x1x1 ![2] bcast_S1_S1x1x1_2 (constantI S1 32 999999#32))))) (constantI S_ 1 1#1) reducesTo_S4096x200x1_S4096x200_d2 h_S_)) (Host.gather gather_S1000000x16_S4096x200x1_S4096x200x16_2_0_n_n_0_2_116 X (broadcastInDim S4096x200x1 ![0, 1] bcast_S4096x200_S4096x200x1_0_1 (wrapped2 w))) (broadcastInDim S4096x200x16 ![] bcast_S_S4096x200x16 (constant S_ .f32 0x7FC00000#32))

theorem wrapped1_eq (w : IVec S4096 32) (h : ∀ i, (w i).toNat < 1000000) : wrapped1 w = w :=
  funext fun i => word_slt (h i) _

theorem wrapped2_eq (w : IVec S4096x200 32) (h : ∀ i, (w i).toNat < 1000000) : wrapped2 w = w :=
  funext fun i => word_slt (h i) _

theorem clamp {v : BitVec 32} (h : v.toNat < 1000000) : min v.toInt.toNat 999999 = v.toNat % 1000000 := by
  rw [BitVec.toInt_eq_toNat_cond, if_pos (by omega), Nat.mod_eq_of_lt h, Int.toNat_natCast]; omega

/-- The gather by a column of indices, at `(n, c)`. -/
theorem gather1 {α : Type} (X : S1000000x16.Idx → α) (idx : IVec S4096x1 32) (n : Fin 4096) (c : Fin 16)
    (h : (idx (ix2 n (0 : Fin 1))).toNat < 1000000) :
    Host.gather gather_S1000000x16_S4096x1_S4096x16_1_0_n_n_0_1_116 X idx (ix2 n c) = rowAt X (idx (ix2 n (0 : Fin 1))) c := by
  let d := gather_S1000000x16_S4096x1_S4096x16_1_0_n_n_0_1_116
  unfold Host.gather rowAt
  refine congrArg X (funext fun a => Fin.ext ?_)
  show d.start (ix2 n c) idx a + d.batchCoord (ix2 n c) a + d.offCoord (ix2 n c) a = _
  rw [GatherDims.batchCoord_eq_zero _ _ _ List.not_mem_nil]
  match a with
  | ⟨0, _⟩ =>
    show d.start (ix2 n c) idx (0 : Fin 2) + 0 + d.offCoord (ix2 n c) (0 : Fin 2) = _
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    rw [show d.siIdx (ix2 n c) ⟨List.idxOf (0 : Fin 2) d.startIndexMap, List.idxOf_lt_length_iff.2 (List.mem_singleton.mpr rfl)⟩
        = ix2 n (0 : Fin 1) from funext fun b => Fin.ext (match b with | ⟨0, _⟩ => rfl | ⟨1, _⟩ => rfl)]
    exact clamp h
  | ⟨1, _⟩ =>
    show d.start (ix2 n c) idx (1 : Fin 2) + 0 + d.offCoord (ix2 n c) (1 : Fin 2) = _
    unfold GatherDims.start
    rw [dif_neg (show (1 : Fin 2) ∉ d.startIndexMap from fun h => absurd (List.mem_singleton.mp h) (by decide))]
    simp only [Nat.zero_add]
    unfold GatherDims.offCoord
    rw [dif_pos (show (1 : Fin 2) ∈ d.sKept from (GatherDims.mem_sKept _ _).mpr
      ⟨fun h => absurd (List.mem_singleton.mp h) (by decide), List.not_mem_nil⟩)]
    rfl

/-- The gather by a rectangle of indices, at `(n, l, c)`. -/
theorem gather2 {α : Type} (X : S1000000x16.Idx → α) (idx : IVec S4096x200x1 32) (n : Fin 4096) (l : Fin 200) (c : Fin 16)
    (h : (idx (ix3 n l (0 : Fin 1))).toNat < 1000000) :
    Host.gather gather_S1000000x16_S4096x200x1_S4096x200x16_2_0_n_n_0_2_116 X idx (ix3 n l c) = rowAt X (idx (ix3 n l (0 : Fin 1))) c := by
  let d := gather_S1000000x16_S4096x200x1_S4096x200x16_2_0_n_n_0_2_116
  unfold Host.gather rowAt
  refine congrArg X (funext fun a => Fin.ext ?_)
  show d.start (ix3 n l c) idx a + d.batchCoord (ix3 n l c) a + d.offCoord (ix3 n l c) a = _
  rw [GatherDims.batchCoord_eq_zero _ _ _ List.not_mem_nil]
  match a with
  | ⟨0, _⟩ =>
    show d.start (ix3 n l c) idx (0 : Fin 2) + 0 + d.offCoord (ix3 n l c) (0 : Fin 2) = _
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    rw [show d.siIdx (ix3 n l c) ⟨List.idxOf (0 : Fin 2) d.startIndexMap, List.idxOf_lt_length_iff.2 (List.mem_singleton.mpr rfl)⟩
        = ix3 n l (0 : Fin 1) from funext fun b => Fin.ext (match b with | ⟨0, _⟩ => rfl | ⟨1, _⟩ => rfl | ⟨2, _⟩ => rfl)]
    exact clamp h
  | ⟨1, _⟩ =>
    show d.start (ix3 n l c) idx (1 : Fin 2) + 0 + d.offCoord (ix3 n l c) (1 : Fin 2) = _
    unfold GatherDims.start
    rw [dif_neg (show (1 : Fin 2) ∉ d.startIndexMap from fun h => absurd (List.mem_singleton.mp h) (by decide))]
    simp only [Nat.zero_add]
    unfold GatherDims.offCoord
    rw [dif_pos (show (1 : Fin 2) ∈ d.sKept from (GatherDims.mem_sKept _ _).mpr
      ⟨fun h => absurd (List.mem_singleton.mp h) (by decide), List.not_mem_nil⟩)]
    rfl

theorem take1_apply (X : FVec F S1000000x16 .f32) (w : IVec S4096 32) (h : ∀ i, (w i).toNat < 1000000) (n : Fin 4096) (c : Fin 16) :
    take1 X w (ix2 n c) = rowAt X (w (ix1 n)) c := by
  unfold take1
  rw [wrapped1_eq w h]
  unfold select
  rw [show ∀ (z : IVec S4096 1), (∀ i, z i = 1#1) → broadcastInDim S4096x16 ![0] bcast_S4096_S4096x16_0 z (ix2 n c) = 1#1 from fun z hz => hz _]
  · show Host.gather _ X _ (ix2 n c) = _
    have e : broadcastInDim S4096x1 ![0] bcast_S4096_S4096x1_0 w (ix2 n (0 : Fin 1)) = w (ix1 n) :=
      congrArg w (funext fun a => match a with | ⟨0, _⟩ => rfl)
    rw [gather1 X _ n c (by rw [e]; exact h _), e]
  · intro i
    exact Host.reduce_andi_one _ _ _ _ _ rfl fun i => by
      show IntOp.andi (IntOp.cmpi .sge (w _) 0#32) (IntOp.cmpi .sle (w _) 999999#32) = 1#1
      rw [word_sge (h _), word_sle (h _)]; rfl

theorem take2_apply (X : FVec F S1000000x16 .f32) (w : IVec S4096x200 32) (h : ∀ i, (w i).toNat < 1000000) (n : Fin 4096) (l : Fin 200) (c : Fin 16) :
    take2 X w (ix3 n l c) = rowAt X (w (ix2 n l)) c := by
  unfold take2
  rw [wrapped2_eq w h]
  unfold select
  rw [show ∀ (z : IVec S4096x200 1), (∀ i, z i = 1#1) → broadcastInDim S4096x200x16 ![0, 1] bcast_S4096x200_S4096x200x16_0_1 z (ix3 n l c) = 1#1 from fun z hz => hz _]
  · show Host.gather _ X _ (ix3 n l c) = _
    have e : broadcastInDim S4096x200x1 ![0, 1] bcast_S4096x200_S4096x200x1_0_1 w (ix3 n l (0 : Fin 1)) = w (ix2 n l) :=
      congrArg w (funext fun a => match a with | ⟨0, _⟩ => rfl | ⟨1, _⟩ => rfl)
    rw [gather2 X _ n l c (by rw [e]; exact h _), e]
  · intro i
    exact Host.reduce_andi_one _ _ _ _ _ rfl fun i => by
      show IntOp.andi (IntOp.cmpi .sge (w _) 0#32) (IntOp.cmpi .sle (w _) 999999#32) = 1#1
      rw [word_sge (h _), word_sle (h _)]; rfl

end

end Cert.Proof.Lookup

end
-- ==== Proof.IdealList.lean ====
/-
  The row list the call reads, from the program's arguments: the two sequences row by row, the users, the two targets,
  then zeros; and its words in range when the arguments' are.
-/
module

public import proofs.«01_k».proof.Proof.IdealLaunch
public import proofs.«01_k».proof.Pre_ids_in_rows
public import Idealize.ShloMosaic.Lib.Pointwise.SelectCore
public import Idealize.ShloMosaic.Lib.ReduceAll
public import proofs.«01_k».proof.Proof.Lookup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo

variable {F : FTy → Type} [FloatOps F]

/-- The list, from the arguments. -/
def listed (u : IVec S4096 32) (s1 : IVec S4096x200 32) (t1 : IVec S4096 32) (s2 : IVec S4096x200 32) (t2 : IVec S4096 32) : IVec S1671168 32 :=
  concatenate S1671168 0
    [⟨S819200, (shapeCast S819200 s1 shapeCasts_S4096x200_S819200 : IVec S819200 32)⟩, ⟨S819200, (shapeCast S819200 s2 shapeCasts_S4096x200_S819200 : IVec S819200 32)⟩,
     ⟨S4096, u⟩, ⟨S4096, t1⟩, ⟨S4096, t2⟩, ⟨S20480, (broadcastInDim S20480 ![] bcast_S_S20480 (constantI S_ 32 0#32) : IVec S20480 32)⟩]
    concatenates_S819200_S819200_S4096_S4096_S4096_S20480_S1671168_d0

section

variable (m : (ℓ : Loc nD τ sig) → Buf (Elt F) ℓ) (d : Dev nD)

abbrev arg (b : Ref sig .tc) : Buf (Elt F) ((SparseCore.T d : Thread nD τ).loc b) := m ((SparseCore.T d : Thread nD τ).loc b)

/-- A buffer the host operations leave alone. -/
theorem V1_arg (b : Ref sig .tc) (h : b ∉ wsA) : V1 m d (ref b) = arg m d b :=
  opsA_writes.keep (V0 m d) h

theorem lst_eq : lst m d = listed (arg m d main_arg0) (arg m d main_arg1) (arg m d main_arg3) (arg m d main_arg4) (arg m d main_arg6) := by
  unfold lst V1 opsA
  after_results_simp
  rfl

theorem tab_eq : tab m d = arg m d main_arg7 := V1_arg m d main_arg7 (by decide)

/-- A buffer no operation and no call writes. -/
abbrev Kept (b : Ref sig .tc) : Prop := ref b ∈ Pipeline.ucRefs τ sig ∧ b ∉ wsA ∧ b ∉ wsB ∧ b ≠ main_v4 ∧ b ≠ main_v109

theorem V2_arg (b : Ref sig .tc) (h : b ∉ wsA) (h4 : b ≠ main_v4) : V2 m d (ref b) = arg m d b :=
  (V2_other m d fun e => h4 (Proc.devRef_injective _ e)).trans (V1_arg m d b h)

/-- What an execution leaves in such a buffer. -/
theorem V4_arg (b : Ref sig .tc) (h : Kept b) : V4 m d (ref b) = arg m d b := by
  refine (Function.update_of_ne (fun e => h.2.2.2.2 (Proc.devRef_injective _ e)) _ _).trans ?_
  exact (opsB_writes.keep (V2 m d) h.2.2.1).trans (V2_arg m d b h.2.1 h.2.2.2.1)

end

/-- Every word of the list is in range when the arguments' are. -/
theorem listed_lt (u : IVec S4096 32) (s1 : IVec S4096x200 32) (t1 : IVec S4096 32) (s2 : IVec S4096x200 32) (t2 : IVec S4096 32)
    (hu : ∀ i, (u i).toNat < 1000000) (hs1 : ∀ i, (s1 i).toNat < 1000000) (ht1 : ∀ i, (t1 i).toNat < 1000000)
    (hs2 : ∀ i, (s2 i).toNat < 1000000) (ht2 : ∀ i, (t2 i).toNat < 1000000) (j : S1671168.Idx) :
    (listed u s1 t1 s2 t2 j).toNat < 1000000 := by
  refine concatenate_forall (P := fun w : BitVec 32 => w.toNat < 1000000) S1671168 0 _ _ ?_ j
  intro p hp
  simp only [List.mem_cons, List.mem_nil_iff, or_false] at hp
  rcases hp with rfl | rfl | rfl | rfl | rfl | rfl
  · exact fun i => hs1 _
  · exact fun i => hs2 _
  · exact hu
  · exact ht1
  · exact ht2
  · exact fun i => show (0#32).toNat < 1000000 by decide

/-- The precondition, decoded: every index of every argument is in range. -/
theorem pre_lt [Cert.Pre_ids_in_rows.Facts] {u : IVec S4096 32} {s1 : IVec S4096x200 32} {n1 t1 : IVec S4096 32} {s2 : IVec S4096x200 32} {n2 t2 : IVec S4096 32}
    {X : FVec F S1000000x16 .f32} {a8} {a9} {a10} {a11} {a12} {a13} {a14} {a15} {a16} {a17} {a18} {a19} {a20} {a21} {a22} {a23} {a24} {a25} {a26} {a27} {a28} {a29} {a30} {a31} (e : Cert.Pre_ids_in_rows.fn (F := F) u s1 n1 t1 s2 n2 t2 X a8 a9 a10 a11 a12 a13 a14 a15 a16 a17 a18 a19 a20 a21 a22 a23 a24 a25 a26 a27 a28 a29 a30 a31 = fun _ => 1#1) :
    (∀ i, (u i).toNat < 1000000) ∧ (∀ i, (s1 i).toNat < 1000000) ∧ (∀ i, (t1 i).toNat < 1000000)
      ∧ (∀ i, (s2 i).toNat < 1000000) ∧ ∀ i, (t2 i).toNat < 1000000 := by
  have e := congrFun e ValueIdx.ix0
  unfold Cert.Pre_ids_in_rows.fn Cert.Pre_ids_in_rows.fn_part1 Cert.Pre_ids_in_rows.fn_part2 at e
  dsimp only [andi] at e
  have : Subsingleton S_.Idx := ⟨fun a b => funext fun i => i.elim0⟩
  rw [IntOp.andi_eq_one, IntOp.andi_eq_one, IntOp.andi_eq_one, IntOp.andi_eq_one] at e
  obtain ⟨⟨⟨⟨h0, h1⟩, h2⟩, h3⟩, h4⟩ := e
  exact ⟨fun i => Lookup.word_in (Host.reduce_andi_all _ _ _ _ _ h0 i), fun i => Lookup.word_in (Host.reduce_andi_all _ _ _ _ _ h1 i),
    fun i => Lookup.word_in (Host.reduce_andi_all _ _ _ _ _ h2 i), fun i => Lookup.word_in (Host.reduce_andi_all _ _ _ _ _ h3 i),
    fun i => Lookup.word_in (Host.reduce_andi_all _ _ _ _ _ h4 i)⟩

/-- Every index of every argument is in range. -/
def Ids (m : (ℓ : Loc nD τ sig) → Buf (Elt F) ℓ) (d : Dev nD) : Prop :=
  (∀ i, (arg m d main_arg0 i : BitVec 32).toNat < 1000000) ∧ (∀ i, (arg m d main_arg1 i : BitVec 32).toNat < 1000000)
    ∧ (∀ i, (arg m d main_arg3 i : BitVec 32).toNat < 1000000) ∧ (∀ i, (arg m d main_arg4 i : BitVec 32).toNat < 1000000)
    ∧ ∀ i, (arg m d main_arg6 i : BitVec 32).toNat < 1000000

/-- Every execution, from arguments with every index in range: what nothing writes is unchanged, the result is the dense part's
    of the gathered rows, every counter is back at zero. -/
theorem run_args [∀ e, Nonempty (Elt F e)] (m : (ℓ : Loc nD τ sig) → Buf (Elt F) ℓ) (ρ : Dev nD → PrngReg) (h : ∀ d, Ids m d) :
    θ_run (Cert.KernelIdeal.defs (F := F)) (Cert.KernelIdeal.threads (F := F)) ⟨m, fun _ => 0, ρ⟩ fun r =>
      (∀ d : Dev nD, r.2.mem ((SparseCore.T d : Thread nD τ).loc main_v109) = result (VV m) d
          ∧ ∀ b : Ref sig .tc, Kept b → r.2.mem ((SparseCore.T d : Thread nD τ).loc b) = arg m d b)
      ∧ r.2.sem = fun _ => 0 := by
  refine (θ_run _ _ _).mono (fun r hr => ⟨fun d => ⟨?_, fun b hb => ?_⟩, hr.2⟩) (run_main m ρ fun d j => ?_)
  · exact (hr.1 d (ref main_v109) (by decide +kernel)).trans (Function.update_self ..)
  · exact (hr.1 d (ref b) hb.1).trans (V4_arg m d b hb)
  · rw [lst_eq]
    obtain ⟨h0, h1, h2, h3, h4⟩ := h d
    exact listed_lt _ _ _ _ _ h0 h1 h2 h3 h4 j

end Cert.Proof.KernelIdeal

end
-- ==== Proof.Same.lean ====
/-
  The program as printed for bit patterns and as printed for exact numbers are the same text: read at bit patterns, their
  calls' bodies and their host code are equal.
-/
module

public import proofs.«01_k».proof.Defs
public import proofs.«01_k».proof.Proof.Gen.KernelIdeal
public import proofs.«01_k».proof.Proof.Gen.Kernel

@[expose] public section

set_option maxHeartbeats 0

noncomputable section

namespace Cert.Proof.Bits

open Idealize.ShloMosaic Idealize.SL.Sem

theorem gather_eq (c s) : Cert.Kernel.defs₀ (F := Bits) (.scVector c s) 0 = Cert.KernelIdeal.defs₀ (F := Bits) (.scVector c s) 0 := rfl
theorem dense_eq : Cert.Kernel.defs₀ (F := Bits) .tc 1 = Cert.KernelIdeal.defs₀ (F := Bits) .tc 1 := rfl

/-- The two calls' bodies. -/
theorem bodies_eq : (Cert.Kernel.defs₀ (F := Bits) : Defs Cert.KernelIdeal.nD Cert.KernelIdeal.τ Cert.KernelIdeal.sig (Elt Bits) Cert.KernelIdeal.Λ₀) = Cert.KernelIdeal.defs₀ (F := Bits) := by
  funext p l
  match p, l with
  | .scVector c s, 0 => exact gather_eq c s
  | .tc, 1 => exact dense_eq
  | .tc, 0 => rfl
  | .scVector _ _, 1 => rfl
  | .scScalar _, 0 => rfl
  | .scScalar _, 1 => rfl

theorem defs_eq : (Cert.Kernel.defs (F := Bits) : Defs Cert.KernelIdeal.nD Cert.KernelIdeal.τ Cert.KernelIdeal.sig (Elt Bits)
      (SparseCore.Sig (Pipeline.Sig Cert.KernelIdeal.Λ₀ (Fin 1) fun p => (Cert.KernelIdeal.pcfgs (F := Bits) p).Adm) 1)) = Cert.KernelIdeal.defs (F := Bits) :=
  congrArg (fun D => (Cert.KernelIdeal.sc (F := Bits)).defs (Pipeline.defs (Cert.KernelIdeal.pcfgs (F := Bits)) D)) bodies_eq

abbrev Main : Type 1 := Dev Cert.KernelIdeal.nD → Prog (TpuEff Cert.KernelIdeal.nD Cert.KernelIdeal.τ Cert.KernelIdeal.sig (Elt Bits)
      (SparseCore.Sig (Pipeline.Sig Cert.KernelIdeal.Λ₀ (Fin 1) fun p => (Cert.KernelIdeal.pcfgs (F := Bits) p).Adm) 1) .tc) PUnit

theorem part0_eq : (Cert.Kernel.main_part0 (F := Bits) : Main) = Cert.KernelIdeal.main_part0 (F := Bits) := rfl
theorem part1_eq : (Cert.Kernel.main_part1 (F := Bits) : Main) = Cert.KernelIdeal.main_part1 (F := Bits) := rfl
theorem part2_eq : (Cert.Kernel.main_part2 (F := Bits) : Main) = Cert.KernelIdeal.main_part2 (F := Bits) := rfl

def three (a b c : Main) : Main := fun d => do a d; b d; c d

/-- The host's code. -/
theorem main_eq : (Cert.Kernel.main (F := Bits) : Main) = Cert.KernelIdeal.main (F := Bits) := by
  show three (Cert.Kernel.main_part0 (F := Bits)) (Cert.Kernel.main_part1 (F := Bits)) (Cert.Kernel.main_part2 (F := Bits))
    = three (Cert.KernelIdeal.main_part0 (F := Bits)) (Cert.KernelIdeal.main_part1 (F := Bits)) (Cert.KernelIdeal.main_part2 (F := Bits))
  rw [part0_eq, part1_eq, part2_eq]

end Cert.Proof.Bits

end
-- ==== Proof.Bits.lean ====
/-
  The program at bit patterns: what every execution of the program as printed for exact numbers does, read at bit patterns, the
  program as printed for bit patterns does, since the two are equal.
-/
module

public import proofs.«01_k».proof.Proof.IdealList
public import proofs.«01_k».proof.Proof.Same

@[expose] public section

set_option maxHeartbeats 0

noncomputable section

namespace Cert.Proof.Bits

open Idealize.ShloMosaic Idealize.SL.Sem

/-- Every execution at bit patterns, from arguments with every index in range. -/
theorem run_args (m : (ℓ : Loc Cert.KernelIdeal.nD Cert.KernelIdeal.τ Cert.KernelIdeal.sig) → Buf (Elt Bits) ℓ) (ρ : Dev Cert.KernelIdeal.nD → PrngReg) (h : ∀ d, KernelIdeal.Ids m d) :
    θ_run (Cert.Kernel.defs (F := Bits)) (Cert.Kernel.threads (F := Bits)) ⟨m, fun _ => 0, ρ⟩ fun r =>
      (∀ (d : Dev Cert.KernelIdeal.nD) (b : Ref Cert.KernelIdeal.sig .tc), KernelIdeal.Kept b → r.2.mem ((SparseCore.T d : Thread Cert.KernelIdeal.nD Cert.KernelIdeal.τ).loc b) = KernelIdeal.arg m d b)
      ∧ r.2.sem = fun _ => 0 := by
  have k := (θ_run (Cert.KernelIdeal.defs (F := Bits)) (Cert.KernelIdeal.threads (F := Bits)) _).mono
    (fun r (e : (∀ d : Dev Cert.KernelIdeal.nD, _ ∧ ∀ b, _ → _) ∧ _) => (⟨fun d b => (e.1 d).2 b, e.2⟩ : (∀ (d : Dev Cert.KernelIdeal.nD) (b : Ref Cert.KernelIdeal.sig .tc), KernelIdeal.Kept b → r.2.mem ((SparseCore.T d : Thread Cert.KernelIdeal.nD Cert.KernelIdeal.τ).loc b) = KernelIdeal.arg m d b)
      ∧ r.2.sem = fun _ => 0)) (KernelIdeal.run_args (F := Bits) m ρ h)
  rw [← defs_eq] at k
  have t : Cert.KernelIdeal.threads (F := Bits) = (Cert.KernelIdeal.sc (F := Bits)).threads (Cert.Kernel.main (F := Bits) : Main) :=
    congrArg (fun M : Main => (Cert.KernelIdeal.sc (F := Bits)).threads M) main_eq.symm
  rw [t] at k
  exact k

end Cert.Proof.Bits

end
-- ==== Proof.Reals.lean ====
/-
  Arrays over the extended reals whose entries are all real numbers. `R2 x f` says that the two-axis array `x` holds the real
  number `f i j` at row `i`, column `j`; `R1`, `R3` and `R0` say the same of one, three and no axes. Each elementwise
  operation, broadcast, product and sum of such arrays is such an array again.
-/
module

public import Idealize.ShloMosaic.Lib.MatmulPlain
public import Idealize.ShloMosaic.Lib.ValueLayout
public import Idealize.ShloMosaic.PureOps.Ideal.Laws

@[expose] public section

noncomputable section

namespace Cert.Proof.Reals

open Idealize.ShloMosaic
open scoped BigOperators

abbrev Sh1 (a : ℕ) : Shape := ⟨1, ![a]⟩
abbrev Sh2 (a b : ℕ) : Shape := ⟨2, ![a, b]⟩
abbrev Sh3 (a b c : ℕ) : Shape := ⟨3, ![a, b, c]⟩
abbrev Sh0 : Shape := ⟨0, ![]⟩

class R0 {φ : FTy} (x : FVec Ideal Sh0 φ) (f : outParam ℝ) : Prop where
  h : ∀ i, x i = ((f : ℝ) : EReal)
class R1 {a : ℕ} {φ : FTy} (x : FVec Ideal (Sh1 a) φ) (f : outParam (ℕ → ℝ)) : Prop where
  h : ∀ i, x i = ((f (i 0).val : ℝ) : EReal)
class R2 {a b : ℕ} {φ : FTy} (x : FVec Ideal (Sh2 a b) φ) (f : outParam (ℕ → ℕ → ℝ)) : Prop where
  h : ∀ i, x i = ((f (i 0).val (i 1).val : ℝ) : EReal)
class R3 {a b c : ℕ} {φ : FTy} (x : FVec Ideal (Sh3 a b c) φ) (f : outParam (ℕ → ℕ → ℕ → ℝ)) : Prop where
  h : ∀ i, x i = ((f (i 0).val (i 1).val (i 2).val : ℝ) : EReal)

/-! ## Combinators on real matrices -/

abbrev M := ℕ → ℕ → ℝ
def kc (c : ℝ) : M := fun _ _ => c
def add (f g : M) : M := fun i j => f i j + g i j
def sub (f g : M) : M := fun i j => f i j - g i j
def mul (f g : M) : M := fun i j => f i j * g i j
def dvd (f g : M) : M := fun i j => f i j / g i j
def neg (f : M) : M := fun i j => - f i j
def mx0 (f : M) : M := fun i j => max (f i j) 0
def rs (f : M) : M := fun i j => (Real.sqrt (f i j))⁻¹
def sq (f : M) : M := fun i j => Real.sqrt (f i j)
def ex (f : M) : M := fun i j => Real.exp (f i j)
def lg (f : M) : M := fun i j => (1 + Real.exp (-f i j))⁻¹
def rowB (f : M) : M := fun _ j => f 0 j
def colB (f : M) : M := fun i _ => f i 0
def oneB (f : M) : M := fun _ _ => f 0 0
def mm (K : ℕ) (f g : M) : M := fun i j => ∑ k ∈ Finset.range K, f i k * g k j
def tmm (K : ℕ) (f g : M) : M := fun i j => ∑ k ∈ Finset.range K, f k i * g k j
def selLt (u v f g : M) : M := fun i j => if u i j < v i j then f i j else g i j
def shiftC (c : ℕ) (f : M) : M := fun i j => f i (c + j)
def ofRow (f : ℕ → ℝ) : M := fun _ j => f j
def colsum (K : ℕ) (f : M) : ℕ → ℝ := fun j => ∑ k ∈ Finset.range K, f k j

/-! ## Signs -/

class NN (f : M) : Prop where
  h : ∀ i j, 0 ≤ f i j
class PS (f : M) : Prop where
  h : ∀ i j, 0 < f i j
class CP (c : ℝ) : Prop where
  h : 0 < c

instance (c : ℝ) [CP c] : PS (kc c) := ⟨fun _ _ => CP.h (c := c)⟩
instance (f g : M) [NN f] [PS g] : PS (add f g) := ⟨fun i j => add_pos_of_nonneg_of_pos (NN.h i j) (PS.h i j)⟩
instance (f : M) : NN (mx0 f) := ⟨fun i j => le_max_right _ _⟩
instance (f g : M) [NN f] [NN g] : NN (mul f g) := ⟨fun i j => mul_nonneg (NN.h i j) (NN.h i j)⟩
instance (priority := 2000) nn_sq (f : M) : NN (mul f f) := ⟨fun i j => mul_self_nonneg _⟩
instance (f : M) [PS f] : PS (sq f) := ⟨fun i j => Real.sqrt_pos.mpr (PS.h i j)⟩
instance (f : M) : PS (ex f) := ⟨fun i j => Real.exp_pos _⟩
instance nn_ps (f : M) [PS f] : NN f := ⟨fun i j => (PS.h i j).le⟩
instance (f g : M) [NN f] [PS g] : NN (dvd f g) := ⟨fun i j => div_nonneg (NN.h i j) (PS.h i j).le⟩
instance (f : M) [PS f] : PS (rowB f) := ⟨fun i j => PS.h (f := f) _ _⟩
instance (f : M) [NN f] : NN (rowB f) := ⟨fun i j => NN.h (f := f) _ _⟩
instance (K : ℕ) (f g : M) [NN f] [NN g] : NN (mm K f g) := ⟨fun i j => Finset.sum_nonneg fun k _ => mul_nonneg (NN.h _ _) (NN.h _ _)⟩
instance (K : ℕ) (f : M) [NN f] : NN (ofRow (colsum K f)) := ⟨fun i j => show 0 ≤ ∑ k ∈ Finset.range K, f k j from Finset.sum_nonneg fun k _ => NN.h (f := f) _ _⟩

/-! ## Literals -/

/-- The stabilizers of the two normalizations, as single-precision numbers. -/
def eps0 : ℝ := 5497558 / 2 ^ 39
def eps1 : ℝ := 11258999 / 2 ^ 50

class Lit (b : BitVec 32) (r : outParam ℝ) : Prop where
  h : Ideal.ofBits .f32 b = ((r : ℝ) : EReal)
instance : Lit 0x00000000#32 0 := ⟨by simp [Ideal.ofBits, Ideal.ieee]⟩
instance : Lit 0x3F800000#32 1 := ⟨by simp [Ideal.ofBits, Ideal.ieee, -EReal.coe_mul]; norm_num⟩
instance : Lit 0x49480000#32 819200 := ⟨by simp [Ideal.ofBits, Ideal.ieee, -EReal.coe_mul]; norm_num⟩
instance : Lit 0x45800000#32 4096 := ⟨by simp [Ideal.ofBits, Ideal.ieee, -EReal.coe_mul]; norm_num⟩
instance : Lit 0x3727C5AC#32 eps0 := ⟨by simp [Ideal.ofBits, Ideal.ieee, -EReal.coe_mul, eps0]; norm_num⟩
instance : Lit 0x322BCC77#32 eps1 := ⟨by simp [Ideal.ofBits, Ideal.ieee, -EReal.coe_mul, eps1]; norm_num⟩
instance : CP eps0 := ⟨by unfold eps0; norm_num⟩
instance : CP eps1 := ⟨by unfold eps1; norm_num⟩
instance : CP 1 := ⟨by norm_num⟩
instance : CP 819200 := ⟨by norm_num⟩
instance : CP 4096 := ⟨by norm_num⟩

/-! ## Elementwise operations -/

section Two
variable {a b : ℕ} {φ : FTy} (x y : FVec Ideal (Sh2 a b) φ) (f g : M)

theorem R2.congr {x : FVec Ideal (Sh2 a b) φ} {f g : M} (hx : R2 x f) (e : ∀ i < a, ∀ j < b, f i j = g i j) : R2 x g :=
  ⟨fun i => by rw [hx.h i, e _ (i 0).isLt _ (i 1).isLt]⟩

instance [R2 x f] [R2 y g] : R2 (addf x y) (add f g) := ⟨fun i => by
  show x i + y i = _; rw [R2.h (x := x) i, R2.h (x := y) i]; exact (EReal.coe_add _ _).symm⟩
instance [R2 x f] [R2 y g] : R2 (subf x y) (sub f g) := ⟨fun i => by
  show x i - y i = _; rw [R2.h (x := x) i, R2.h (x := y) i]; exact (EReal.coe_sub _ _).symm⟩
instance [R2 x f] [R2 y g] : R2 (mulf x y) (mul f g) := ⟨fun i => by
  show x i * y i = _; rw [R2.h (x := x) i, R2.h (x := y) i]; exact (EReal.coe_mul _ _).symm⟩
theorem div_real {u v : ℝ} (h : v ≠ 0) : Ideal.div (u : EReal) (v : EReal) = ((u / v : ℝ) : EReal) := by
  rw [Ideal.div_coe h, ← EReal.coe_mul]; congr 1; ring
instance [R2 x f] [R2 y g] [PS g] : R2 (divf x y) (dvd f g) := ⟨fun i => by
  show Ideal.div (x i) (y i) = _; rw [R2.h (x := x) i, R2.h (x := y) i]; exact div_real (PS.h _ _).ne'⟩
instance [R2 x f] [R2 y g] [PS g] : R2 (Host.divf x y) (dvd f g) := ⟨fun i => by
  show Ideal.div (x i) (y i) = _; rw [R2.h (x := x) i, R2.h (x := y) i]; exact div_real (PS.h _ _).ne'⟩
instance [R2 x f] : R2 (Host.negf x) (neg f) := ⟨fun i => by
  show -(x i) = _; rw [R2.h (x := x) i]; exact (EReal.coe_neg _).symm⟩
instance [R2 x f] : R2 (Host.exp x) (ex f) := ⟨fun i => by
  show Ideal.exp (x i) = _; rw [R2.h (x := x) i]; rfl⟩
instance [R2 x f] [NN f] : R2 (Host.sqrt x) (sq f) := ⟨fun i => by
  show Ideal.sqrt (x i) = _; rw [R2.h (x := x) i, Ideal.sqrt_coe, if_neg (not_lt.mpr (NN.h _ _))]; rfl⟩
instance [R2 x f] [PS f] : R2 (rsqrt x) (rs f) := ⟨fun i => by
  show Ideal.rsqrt (x i) = _; rw [R2.h (x := x) i, Ideal.rsqrt_coe, if_neg (not_lt.mpr (PS.h _ _).le), if_neg (PS.h _ _).ne']; rfl⟩
instance [R2 x f] : R2 (logistic x) (lg f) := ⟨fun i => by
  show Ideal.logistic (x i) = _; rw [R2.h (x := x) i, Ideal.logistic_coe]; rfl⟩
instance [R2 x f] [R2 y (kc 0)] : R2 (maximumf x y) (mx0 f) := ⟨fun i => by
  show max (x i) (y i) = _; rw [R2.h (x := x) i, R2.h (x := y) i]; exact (EReal.coe_strictMono.monotone.map_max).symm⟩
instance (ψ : FTy) (h : ψ.bits < φ.bits) [R2 x f] : R2 (truncf ψ x h) f := ⟨fun i => R2.h (x := x) i⟩
instance (h : (Sh2 a b).ShapeCasts (Sh2 a b)) [R2 x f] : R2 (shapeCast (Sh2 a b) x h) f := ⟨fun i => by
  rw [show shapeCast (Sh2 a b) x h = x from shapeCast_self x h]; exact R2.h (x := x) i⟩
end Two

section Consts
variable {a b : ℕ} (w : BitVec 32) (r : ℝ) [Lit w r]
instance : R2 (broadcast (Sh2 a b) (Scalar.ofBits .f32 w : Ideal .f32)) (kc r) := ⟨fun i => Lit.h⟩
instance : R2 (constant (F := Ideal) (Sh2 a b) .f32 w) (kc r) := ⟨fun i => Lit.h⟩
instance : R0 (constant (F := Ideal) Sh0 .f32 w) r := ⟨fun i => Lit.h⟩
end Consts

/-! ## Broadcasts -/
section Bc
variable {a b n : ℕ} {φ : FTy}
theorem row_idx (i : (Sh2 a b).Idx) (h : (Sh2 1 b).Broadcasts (Sh2 a b)) {α : Type} (x : (Sh2 1 b).Idx → α) :
    ∃ k : (Sh2 1 b).Idx, broadcastTo (Sh2 a b) x h i = x k ∧ (k 0).val = 0 ∧ (k 1).val = (i 1).val := by
  refine ⟨_, rfl, rfl, ?_⟩
  dsimp only
  split
  · rename_i h1
    have h1 : b = 1 := h1
    have := (i 1).isLt
    have h2 : (i 1).val < b := (i 1).isLt
    show 0 = _; omega
  · rfl
theorem col_idx (i : (Sh2 a b).Idx) (h : (Sh2 a 1).Broadcasts (Sh2 a b)) {α : Type} (x : (Sh2 a 1).Idx → α) :
    ∃ k : (Sh2 a 1).Idx, broadcastTo (Sh2 a b) x h i = x k ∧ (k 0).val = (i 0).val ∧ (k 1).val = 0 := by
  refine ⟨_, rfl, ?_, rfl⟩
  dsimp only
  split
  · rename_i h1
    have h1 : a = 1 := h1
    have h2 : (i 0).val < a := (i 0).isLt
    show 0 = _; omega
  · rfl
instance (x : FVec Ideal (Sh2 1 1) φ) (f : M) [R2 x f] (h : (Sh2 1 1).Broadcasts (Sh2 a b)) : R2 (broadcastTo (Sh2 a b) x h) (oneB f) :=
  ⟨fun i => by unfold broadcastTo; rw [R2.h (x := x)]; rfl⟩
instance (x : FVec Ideal (Sh2 1 b) φ) (f : M) [R2 x f] (h : (Sh2 1 b).Broadcasts (Sh2 a b)) : R2 (broadcastTo (Sh2 a b) x h) (rowB f) :=
  ⟨fun i => by obtain ⟨k, e, e0, e1⟩ := row_idx i h x; rw [e, R2.h (x := x), e0, e1]; rfl⟩
instance (x : FVec Ideal (Sh2 a 1) φ) (f : M) [R2 x f] (h : (Sh2 a 1).Broadcasts (Sh2 a b)) : R2 (broadcastTo (Sh2 a b) x h) (colB f) :=
  ⟨fun i => by obtain ⟨k, e, e0, e1⟩ := col_idx i h x; rw [e, R2.h (x := x), e0, e1]; rfl⟩

instance (x : FVec Ideal Sh0 φ) (r : ℝ) [R0 x r] (h : Sh0.BroadcastsInDim (Sh2 a b) ![]) : R2 (broadcastInDim (Sh2 a b) ![] h x) (kc r) :=
  ⟨fun i => by unfold broadcastInDim; rw [R0.h (x := x)]; rfl⟩
instance (x : FVec Ideal (Sh1 b) φ) (f : ℕ → ℝ) [R1 x f] (h : (Sh1 b).BroadcastsInDim (Sh2 a b) ![1]) : R2 (broadcastInDim (Sh2 a b) ![1] h x) (ofRow f) :=
  ⟨fun i => by
    unfold broadcastInDim; rw [R1.h (x := x)]
    dsimp only
    split
    · rename_i h1
      have h1 : b = 1 := h1
      have h2 : (i 1).val < b := (i 1).isLt
      show _ = ((f (i 1).val : ℝ) : EReal)
      have h3 : (i 1).val = 0 := by omega
      rw [h3]
    · rfl⟩
instance (x : FVec Ideal (Sh2 1 b) φ) (f : M) [R2 x f] (h : (Sh2 1 b).BroadcastsInDim (Sh2 a b) ![0, 1]) : R2 (broadcastInDim (Sh2 a b) ![0, 1] h x) (rowB f) :=
  ⟨fun i => by
    unfold broadcastInDim; rw [R2.h (x := x)]
    show ((f 0 _ : ℝ) : EReal) = ((f 0 (i 1).val : ℝ) : EReal)
    dsimp only
    split
    · rename_i h1
      have h1 : b = 1 := h1
      have h2 : (i 1).val < b := (i 1).isLt
      have h3 : (i 1).val = 0 := by omega
      rw [h3]
    · rfl⟩
end Bc

/-! ## Products and sums -/
theorem coe_sum {ι : Type} (s : Finset ι) (f : ι → ℝ) : ((∑ n ∈ s, f n : ℝ) : EReal) = ∑ n ∈ s, (f n : EReal) := by
  classical
  induction s using Finset.induction_on with
  | empty => simp
  | insert a s h ih => rw [Finset.sum_insert h, Finset.sum_insert h, EReal.coe_add, ih]
theorem idx2 {a b : ℕ} (i : (Sh2 a b).Idx) : ∃ (r : Fin a) (c : Fin b), i = ValueIdx.ix2 r c :=
  ⟨i 0, i 1, by funext c; match c with | 0 => rfl | 1 => rfl⟩
section Dots
variable {a b k : ℕ} {φ ψ : FTy}

/-- A product's dimension numbers contract the first operand's columns with the second's rows. -/
class Plain (d : DotDims (Sh2 a k) (Sh2 k b) (Sh2 a b)) : Prop where
  e : d = DotDims.plain a k b

instance (d : DotDims (Sh2 a k) (Sh2 k b) (Sh2 a b)) [Plain d] (prec : Option ContractPrecision) (x : FVec Ideal (Sh2 a k) φ) (y : FVec Ideal (Sh2 k b) ψ)
    (z : FVec Ideal (Sh2 a b) .f32) (f g : M) [R2 x f] [R2 y g] [R2 z (kc 0)] : R2 (FloatOps.matmul d prec x y z) (mm k f g) := ⟨fun i => by
  obtain ⟨r, c, rfl⟩ := idx2 i
  rw [Plain.e (d := d), Ideal.matmul_plain_apply, R2.h (x := z)]
  show ((0 : ℝ) : EReal) + _ = _
  rw [EReal.coe_zero, zero_add]
  show _ = ((∑ n ∈ Finset.range k, f r.val n * g n c.val : ℝ) : EReal)
  rw [coe_sum, Finset.sum_range]
  refine Finset.sum_congr rfl fun c _ => ?_
  rw [R2.h (x := x), R2.h (x := y), EReal.coe_mul]; rfl⟩

instance (d : DotDims (Sh2 a k) (Sh2 k b) (Sh2 a b)) [Plain d] (prec : Option ContractPrecision) (x : FVec Ideal (Sh2 a k) φ) (y : FVec Ideal (Sh2 k b) ψ)
    (f g : M) [R2 x f] [R2 y g] : R2 (Host.dotGeneral (F := Ideal) d prec x y) (mm k f g) := ⟨fun i => by
  have h := R2.h (x := FloatOps.matmul d prec x y (constant (F := Ideal) (Sh2 a b) .f32 0x00000000#32)) i
  rw [← h]
  show Ideal.matmul d x y (fun _ => 0) i = Ideal.matmul d x y (fun _ => Ideal.ofBits .f32 0x00000000#32) i
  rw [Ideal.ofBits_zero_f32]⟩

instance (x : FVec Ideal (Sh2 a b) φ) (f : M) [R2 x f] (z : FVec Ideal Sh0 φ) [R0 z 0] (h : (Sh2 a b).ReducesTo [0] (Sh1 b)) (hu : 0 < Sh0.numel) :
    R1 (Host.reduceAdd x z h hu) (colsum a f) := ⟨fun i => by
  have hr : (Sh2 a b).Reduces [0] (Sh1 b) := ⟨h.1, Nat.one_pos, h.2⟩
  show Ideal.hostReduceAdd h x (z _) i = _
  rw [Ideal.hostReduceAdd_single h hr, R0.h (x := z)]
  show ((0 : ℝ) : EReal) + _ = _
  rw [EReal.coe_zero, zero_add]
  show _ = ((∑ n ∈ Finset.range a, f n (i 0).val : ℝ) : EReal)
  rw [coe_sum, Finset.sum_range]
  refine Finset.sum_congr rfl fun c _ => ?_
  rw [R2.h (x := x)]; rfl⟩
end Dots

instance {a b : ℕ} (u v : FVec Ideal Sh0 .f32) (r : ℝ) [R0 u r] [R0 v 0] [CP r] (h : Sh0.BroadcastsInDim (Sh2 a b) ![]) (x y : FVec Ideal (Sh2 a b) .f32) (f : M) [R2 x f] :
    R2 (select (broadcastInDim (Sh2 a b) ![] h (cmpf .ogt u v)) x y) f := ⟨fun i => by
  rw [← R2.h (x := x) i]
  have : broadcastInDim (Sh2 a b) ![] h (cmpf .ogt u v) i = 1#1 := by
    unfold broadcastInDim cmpf
    show Ideal.cmp .ogt _ _ = _
    rw [R0.h (x := u), R0.h (x := v)]
    have := CP.h (c := r)
    simp [Ideal.cmp, this]
  show Scalar.select (broadcastInDim (Sh2 a b) ![] h (cmpf .ogt u v) i) (x i) (y i) = _
  rw [this]; rfl⟩

instance {a b : ℕ} (u v x y : FVec Ideal (Sh2 a b) .f32) (fu fv f g : M) [R2 u fu] [R2 v fv] [R2 x f] [R2 y g] :
    R2 (select (cmpf .olt u v) x y) (selLt fu fv f g) := ⟨fun i => by
  show Scalar.select (Ideal.cmp .olt (u i) (v i)) (x i) (y i) = ((if _ < _ then _ else _ : ℝ) : EReal)
  rw [R2.h (x := u), R2.h (x := v), R2.h (x := x), R2.h (x := y)]
  by_cases h : fu (i 0).val (i 1).val < fv (i 0).val (i 1).val
  · rw [if_pos h]; simp [Ideal.cmp, Scalar.select, h]
  · rw [if_neg h]; simp [Ideal.cmp, Scalar.select, h]⟩

instance {a b c : ℕ} {φ : FTy} (o : ℕ) (x : FVec Ideal (Sh2 a b) φ) (f : M) [R2 x f] (h : (Sh2 a b).Slices ![0, o] (Sh2 a c)) :
    R2 (extractStridedSlice (Sh2 a c) ![0, o] x h) (shiftC o f) := ⟨fun i => by
  unfold extractStridedSlice
  rw [R2.h (x := x)]
  show ((f (0 + (i 0).val) (o + (i 1).val) : ℝ) : EReal) = _
  rw [Nat.zero_add]; rfl⟩

instance : R0 (sitofp (F := Ideal) .f32 (constantI Sh0 32 0#32)) 0 := ⟨fun i => by
  show (((0#32 : BitVec 32).toInt : ℝ) : EReal) = _
  simp⟩

/-- The same array read where it is in range. -/
theorem R2.ext {a b : ℕ} {φ : FTy} {x y : FVec Ideal (Sh2 a b) φ} {f g : M} (hx : R2 x f) (hy : R2 y g) (e : ∀ i < a, ∀ j < b, f i j = g i j) : x = y := by
  funext i
  rw [hx.h i, hy.h i, e _ (i 0).isLt _ (i 1).isLt]

end Cert.Proof.Reals

end
-- ==== Proof.Finite.lean ====
/-
  The precondition of the value claim, decoded: every row number is in range and every number is real.  And the real numbers an
  array of such holds, with zeros outside it.
-/
module

public import proofs.«01_k».proof.Pre_ids_in_rows_floats_finite
public import Idealize.ShloMosaic.Lib.ReduceAll
public import Idealize.ShloMosaic.Lib.Pointwise.SelectCore
public import proofs.«01_k».proof.Proof.Reals
public import proofs.«01_k».proof.Proof.Lookup

@[expose] public section

noncomputable section

namespace Cert.Proof.Reals

open Idealize.ShloMosaic

/-- Every entry is a real number. -/
def Re {s : Shape} (x : FVec Ideal s .f32) : Prop := ∀ i, x i = ((EReal.toReal (x i) : ℝ) : EReal)

theorem inf_eq : Ideal.ofBits .f32 0x7F800000#32 = (⊤ : EReal) := by
  simp [Ideal.ofBits, Ideal.ieee]

/-- A number whose absolute value is below infinity is real. -/
theorem real_of (v : Ideal .f32) (h : FloatOps.cmpf (F := Ideal) .olt (FloatOps.hostAbsf v) (Ideal.ofBits .f32 0x7F800000#32) = 1#1) :
    v = ((EReal.toReal v : ℝ) : EReal) := by
  rw [inf_eq] at h
  have h' : max v (-v) < (⊤ : EReal) := by
    by_contra hc
    have e : FloatOps.cmpf (F := Ideal) (φ := .f32) .olt (FloatOps.hostAbsf v) (⊤ : EReal) = BitVec.ofBool (decide (max v (-v) < (⊤ : EReal))) := rfl
    rw [e, decide_eq_false hc] at h
    exact absurd h (by decide)
  refine (EReal.coe_toReal ?_ ?_).symm
  · rintro rfl
    exact absurd h' (by simp)
  · rintro rfl
    exact absurd h' (by simp)

section
open Cert.Pre_ids_in_rows_floats_finite

theorem pre_real [Cert.Pre_ids_in_rows_floats_finite.Facts] {u : IVec S4096 32} {s1 : IVec S4096x200 32} {n1 t1 : IVec S4096 32} {s2 : IVec S4096x200 32} {n2 t2 : IVec S4096 32}
    {a7 : FVec Ideal S1000000x16 .f32} {a8 : FVec Ideal S64x16 .f32} {a9 : FVec Ideal S16 .f32} {a10 : FVec Ideal S16 .f32} {a11 : FVec Ideal S16 .f32} {a12 : FVec Ideal S16 .f32} {a13 : FVec Ideal S16x8 .f32} {a14 : FVec Ideal S8 .f32} {a15 : FVec Ideal S8 .f32} {a16 : FVec Ideal S8 .f32} {a17 : FVec Ideal S8 .f32} {a18 : FVec Ideal S8x1 .f32} {a19 : FVec Ideal S1 .f32} {a20 : FVec Ideal S80x32 .f32} {a21 : FVec Ideal S32 .f32} {a22 : FVec Ideal S32 .f32} {a23 : FVec Ideal S32 .f32} {a24 : FVec Ideal S32 .f32} {a25 : FVec Ideal S32x16 .f32} {a26 : FVec Ideal S16 .f32} {a27 : FVec Ideal S16 .f32} {a28 : FVec Ideal S16 .f32} {a29 : FVec Ideal S16 .f32} {a30 : FVec Ideal S16x1 .f32} {a31 : FVec Ideal S1 .f32}
    (e : Cert.Pre_ids_in_rows_floats_finite.fn (F := Ideal) u s1 n1 t1 s2 n2 t2 a7 a8 a9 a10 a11 a12 a13 a14 a15 a16 a17 a18 a19 a20 a21 a22 a23 a24 a25 a26 a27 a28 a29 a30 a31 = fun _ => 1#1) :
    ((∀ i, (u i).toNat < 1000000) ∧ (∀ i, (s1 i).toNat < 1000000) ∧ (∀ i, (t1 i).toNat < 1000000)
      ∧ (∀ i, (s2 i).toNat < 1000000) ∧ ∀ i, (t2 i).toNat < 1000000)
    ∧ Re a7 ∧ Re a8 ∧ Re a9 ∧ Re a10 ∧ Re a11 ∧ Re a12 ∧ Re a13 ∧ Re a14 ∧ Re a15 ∧ Re a16 ∧ Re a17 ∧ Re a18 ∧ Re a19 ∧ Re a20 ∧ Re a21 ∧ Re a22 ∧ Re a23 ∧ Re a24 ∧ Re a25 ∧ Re a26 ∧ Re a27 ∧ Re a28 ∧ Re a29 ∧ Re a30 ∧ Re a31 := by
  have e := congrFun e ValueIdx.ix0
  unfold Cert.Pre_ids_in_rows_floats_finite.fn Cert.Pre_ids_in_rows_floats_finite.fn_part1 Cert.Pre_ids_in_rows_floats_finite.fn_part2 Cert.Pre_ids_in_rows_floats_finite.fn_part3 Cert.Pre_ids_in_rows_floats_finite.fn_part4 Cert.Pre_ids_in_rows_floats_finite.fn_part5 Cert.Pre_ids_in_rows_floats_finite.fn_part6 Cert.Pre_ids_in_rows_floats_finite.fn_part7 Cert.Pre_ids_in_rows_floats_finite.fn_part8 Cert.Pre_ids_in_rows_floats_finite.fn_part9 at e
  dsimp only [andi] at e
  have : Subsingleton S_.Idx := ⟨fun a b => funext fun i => i.elim0⟩
  simp only [IntOp.andi_eq_one] at e
  obtain ⟨⟨⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩ := e
  exact ⟨⟨fun i => Lookup.word_in (Host.reduce_andi_all _ _ _ _ _ h0 i), fun i => Lookup.word_in (Host.reduce_andi_all _ _ _ _ _ h1 i), fun i => Lookup.word_in (Host.reduce_andi_all _ _ _ _ _ h2 i), fun i => Lookup.word_in (Host.reduce_andi_all _ _ _ _ _ h3 i), fun i => Lookup.word_in (Host.reduce_andi_all _ _ _ _ _ h4 i)⟩,
    fun i => real_of _ (Host.reduce_andi_all _ _ _ _ _ h5 i), fun i => real_of _ (Host.reduce_andi_all _ _ _ _ _ h6 i), fun i => real_of _ (Host.reduce_andi_all _ _ _ _ _ h7 i), fun i => real_of _ (Host.reduce_andi_all _ _ _ _ _ h8 i), fun i => real_of _ (Host.reduce_andi_all _ _ _ _ _ h9 i), fun i => real_of _ (Host.reduce_andi_all _ _ _ _ _ h10 i), fun i => real_of _ (Host.reduce_andi_all _ _ _ _ _ h11 i), fun i => real_of _ (Host.reduce_andi_all _ _ _ _ _ h12 i), fun i => real_of _ (Host.reduce_andi_all _ _ _ _ _ h13 i), fun i => real_of _ (Host.reduce_andi_all _ _ _ _ _ h14 i), fun i => real_of _ (Host.reduce_andi_all _ _ _ _ _ h15 i), fun i => real_of _ (Host.reduce_andi_all _ _ _ _ _ h16 i), fun i => real_of _ (Host.reduce_andi_all _ _ _ _ _ h17 i), fun i => real_of _ (Host.reduce_andi_all _ _ _ _ _ h18 i), fun i => real_of _ (Host.reduce_andi_all _ _ _ _ _ h19 i), fun i => real_of _ (Host.reduce_andi_all _ _ _ _ _ h20 i), fun i => real_of _ (Host.reduce_andi_all _ _ _ _ _ h21 i), fun i => real_of _ (Host.reduce_andi_all _ _ _ _ _ h22 i), fun i => real_of _ (Host.reduce_andi_all _ _ _ _ _ h23 i), fun i => real_of _ (Host.reduce_andi_all _ _ _ _ _ h24 i), fun i => real_of _ (Host.reduce_andi_all _ _ _ _ _ h25 i), fun i => real_of _ (Host.reduce_andi_all _ _ _ _ _ h26 i), fun i => real_of _ (Host.reduce_andi_all _ _ _ _ _ h27 i), fun i => real_of _ (Host.reduce_andi_all _ _ _ _ _ h28 i), fun i => real_of _ (Host.reduce_andi_all _ _ _ _ _ h29 i)⟩

end

/-! ## The numbers of an array, zero outside it -/

def re1 {a : ℕ} (x : FVec Ideal (Sh1 a) .f32) : ℕ → ℝ := fun i => if h : i < a then EReal.toReal (x (ValueIdx.ix1 ⟨i, h⟩)) else 0
def re2 {a b : ℕ} (x : FVec Ideal (Sh2 a b) .f32) : M := fun i j => if h : i < a ∧ j < b then EReal.toReal (x (ValueIdx.ix2 ⟨i, h.1⟩ ⟨j, h.2⟩)) else 0

theorem re1_R {a : ℕ} {x : FVec Ideal (Sh1 a) .f32} (h : Re x) : R1 x (re1 x) := ⟨fun i => by
  unfold re1
  rw [dif_pos (show (i 0).val < a from (i 0).isLt)]
  have e : i = ValueIdx.ix1 (⟨(i 0).val, (i 0).isLt⟩ : Fin a) := funext fun c => match c with | 0 => rfl
  exact (h i).trans (congrArg (fun k => ((EReal.toReal (x k) : ℝ) : EReal)) e)⟩
theorem re2_R {a b : ℕ} {x : FVec Ideal (Sh2 a b) .f32} (h : Re x) : R2 x (re2 x) := ⟨fun i => by
  unfold re2
  rw [dif_pos (⟨(i 0).isLt, (i 1).isLt⟩ : (i 0).val < a ∧ (i 1).val < b)]
  have e : i = ValueIdx.ix2 (⟨(i 0).val, (i 0).isLt⟩ : Fin a) (⟨(i 1).val, (i 1).isLt⟩ : Fin b) := funext fun c => match c with | 0 => rfl | 1 => rfl
  exact (h i).trans (congrArg (fun k => ((EReal.toReal (x k) : ℝ) : EReal)) e)⟩
theorem re1_one {x : FVec Ideal (Sh1 1) .f32} (h : Re x) : R1 x (fun _ => re1 x 0) := ⟨fun i => by
  rw [(re1_R h).h i, show (i 0).val = 0 by have : (i 0).val < 1 := (i 0).isLt; omega]⟩
theorem re2_col {a : ℕ} {x : FVec Ideal (Sh2 a 1) .f32} (h : Re x) : R2 x (fun k _ => re2 x k 0) := ⟨fun i => by
  rw [(re2_R h).h i, show (i 1).val = 0 by have : (i 1).val < 1 := (i 1).isLt; omega]⟩
theorem re1_out {a : ℕ} (x : FVec Ideal (Sh1 a) .f32) (i : ℕ) (h : a ≤ i) : re1 x i = 0 := dif_neg (by omega)
theorem re2_outC {a b : ℕ} (x : FVec Ideal (Sh2 a b) .f32) (i j : ℕ) (h : b ≤ j) : re2 x i j = 0 := dif_neg (by omega)
theorem re2_outR {a b : ℕ} (x : FVec Ideal (Sh2 a b) .f32) (i j : ℕ) (h : a ≤ i) : re2 x i j = 0 := dif_neg (by omega)

end Cert.Proof.Reals

end
-- ==== Proof.Spec.lean ====
/-
  The network on real numbers: the two normalizations, a dense layer, the attention tower and the pooling; and the identities
  between the one-pass statistics (sum and sum of squares) and the two-pass ones.
-/
module

public import proofs.«01_k».proof.Proof.Reals

@[expose] public section

noncomputable section

namespace Cert.Proof.Reals

open scoped BigOperators
open Finset (range)

/-! ## The layers -/

def mean (N : ℕ) (h : M) (j : ℕ) : ℝ := (∑ i ∈ range N, h i j) / N
def var (N : ℕ) (h : M) (j : ℕ) : ℝ := (∑ i ∈ range N, (h i j - mean N h j) * (h i j - mean N h j)) / N
/-- Batch normalization with scale `g` and shift `b`. -/
def bn (N : ℕ) (h : M) (g b : ℕ → ℝ) : M := fun i j => (h i j - mean N h j) / Real.sqrt (var N h j + eps0) * g j + b j
/-- The adaptive activation. -/
def gate (N : ℕ) (y : M) : M := fun i j => 1 / (1 + Real.exp (-((y i j - mean N y j) / Real.sqrt (var N y j + eps1))))
def dice (N : ℕ) (y : M) (al : ℕ → ℝ) : M := fun i j => gate N y i j * y i j + (1 - gate N y i j) * al j * y i j
def dense (K : ℕ) (h w : M) (b : ℕ → ℝ) : M := fun i j => (∑ k ∈ range K, h i k * w k j) + b j

/-- The four parts of a position's features. -/
def xcat (T S : M) : M := fun m k =>
  if k < 16 then T (m / 200) k else if k < 32 then S m (k - 16) else if k < 48 then T (m / 200) (k - 32) - S m (k - 32) else T (m / 200) (k - 48) * S m (k - 48)

/-- The attention parameters. -/
structure Par where
  w0 : M
  b0 : ℕ → ℝ
  g0 : ℕ → ℝ
  be0 : ℕ → ℝ
  al0 : ℕ → ℝ
  w1 : M
  b1 : ℕ → ℝ
  g1 : ℕ → ℝ
  be1 : ℕ → ℝ
  al1 : ℕ → ℝ
  w2 : ℕ → ℝ
  b2 : ℝ

abbrev NP : ℕ := 819200

section Tower
variable (p : Par) (T S : M) (len : ℕ → ℝ)
def H0 : M := dense 64 (xcat T S) p.w0 p.b0
def Y0 : M := bn NP (H0 p T S) p.g0 p.be0
def H1 : M := dense 16 (dice NP (Y0 p T S) p.al0) p.w1 p.b1
def Y1 : M := bn NP (H1 p T S) p.g1 p.be1
def score : ℕ → ℝ := fun m => (∑ k ∈ range 8, dice NP (Y1 p T S) p.al1 m k * p.w2 k) + p.b2
/-- One row's weighted sum over its positions. -/
def pool : M := fun b k => ∑ t ∈ range 200, (if (t : ℝ) < len b then score p T S (200 * b + t) else 0) * S (200 * b + t) k
end Tower

/-- The final layers' parameters. -/
structure Mp where
  w0 : M
  b0 : ℕ → ℝ
  g0 : ℕ → ℝ
  be0 : ℕ → ℝ
  al0 : ℕ → ℝ
  w1 : M
  b1 : ℕ → ℝ
  g1 : ℕ → ℝ
  be1 : ℕ → ℝ
  al1 : ℕ → ℝ
  w2 : M
  b2 : ℝ

abbrev NB : ℕ := 4096

/-- A row's features for the final layers. -/
def xmlp (U P T Q R : M) : M := fun b k =>
  if k < 16 then U b k else if k < 32 then P b (k - 16) else if k < 48 then T b (k - 32) else if k < 64 then Q b (k - 48) else R b (k - 64)

section Final
variable (q : Mp) (x : M)
def F0 : M := dense 80 x q.w0 q.b0
def F1 : M := dense 32 (dice NB (bn NB (F0 q x) q.g0 q.be0) q.al0) q.w1 q.b1
def F2 : M := dense 16 (dice NB (bn NB (F1 q x) q.g1 q.be1) q.al1) q.w2 fun _ => q.b2
/-- The predicted probability. -/
def prob : M := fun i j => 1 / (1 + Real.exp (-(F2 q x i j)))
end Final

/-! ## Sums over products of ranges -/

theorem sum_mul_range (A B : ℕ) (f : ℕ → ℝ) : ∑ n ∈ range (A * B), f n = ∑ i ∈ range A, ∑ r ∈ range B, f (B * i + r) := by
  induction A with
  | zero => simp
  | succ A ih =>
    rw [Nat.succ_mul, Finset.sum_range_add, ih, Finset.sum_range_succ]
    congr 1
    exact Finset.sum_congr rfl fun r _ => by rw [Nat.mul_comm]

theorem sum_pick (K a : ℕ) (h : a < K) (f : ℕ → ℝ) : ∑ k ∈ range K, f k * (if a = k then 1 else 0) = f a := by
  rw [Finset.sum_eq_single a]
  · simp
  · intro b _ hb; rw [if_neg (Ne.symm hb), mul_zero]
  · intro h'; exact absurd (Finset.mem_range.mpr h) h'
theorem sum_pick' (K a : ℕ) (h : a < K) (f : ℕ → ℝ) : ∑ k ∈ range K, (if a = k then 1 else 0) * f k = f a := by
  rw [← sum_pick K a h f]; exact Finset.sum_congr rfl fun _ _ => mul_comm _ _

/-! ## The packing matrices -/

def mR : M := fun r b => if r / 25 = b then 1 else 0
def mP : M := fun k l => if l % 16 = k then 1 else 0
def mPt : M := fun l k => if l % 16 = k then 1 else 0
def kron (w : M) : M := fun l' l => if l' / 16 = l / 16 then w (l' % 16) (l % 16) else 0
def lane (f : ℕ → ℝ) : M := fun _ l => f (l % 16)

theorem mm_R (f : M) {r : ℕ} (hr : r < 3200) (l : ℕ) : mm 128 mR f r l = f (r / 25) l :=
  sum_pick' 128 (r / 25) (by omega) fun b => f b l
theorem mm_P (f : M) (i l : ℕ) : mm 16 f mP i l = f i (l % 16) := sum_pick 16 (l % 16) (Nat.mod_lt _ (by decide)) fun k => f i k
theorem mm_lane (f w : M) (i l : ℕ) : mm 16 f (fun k l => w k (l % 16)) i l = ∑ k ∈ range 16, f i k * w k (l % 16) := rfl
theorem mm_Pt (f : M) (i : ℕ) {k : ℕ} (hk : k < 16) : mm 128 f mPt i k = ∑ g ∈ range 8, f i (16 * g + k) := by
  unfold mm mPt
  rw [show (128 : ℕ) = 8 * 16 from rfl, sum_mul_range]
  refine Finset.sum_congr rfl fun g _ => ?_
  rw [Finset.sum_eq_single k]
  · rw [if_pos (by omega), mul_one]
  · intro b hb hne
    have := Finset.mem_range.mp hb
    rw [if_neg (by omega), mul_zero]
  · intro h; exact absurd (Finset.mem_range.mpr hk) h
theorem mm_kron (f w : M) (i : ℕ) {l : ℕ} (hl : l < 128) : mm 128 f (kron w) i l = ∑ k ∈ range 16, f i (16 * (l / 16) + k) * w k (l % 16) := by
  unfold mm kron
  rw [show (128 : ℕ) = 8 * 16 from rfl, sum_mul_range, Finset.sum_eq_single (l / 16)]
  · refine Finset.sum_congr rfl fun k hk => ?_
    have := Finset.mem_range.mp hk
    rw [if_pos (by omega)]; congr 2; omega
  · intro g _ hg
    refine Finset.sum_eq_zero fun k hk => ?_
    have := Finset.mem_range.mp hk
    rw [if_neg (by omega), mul_zero]
  · intro h; exact absurd (Finset.mem_range.mpr (by omega)) h

/-! ## The statistics in one pass -/

section Stats
variable (N : ℕ) (hN : 0 < N) (h : M)
include hN

theorem sum_sub_mean (j : ℕ) : ∑ i ∈ range N, (h i j - mean N h j) = 0 := by
  have hn : (N : ℝ) ≠ 0 := by exact_mod_cast hN.ne'
  rw [Finset.sum_sub_distrib, Finset.sum_const, Finset.card_range, nsmul_eq_mul]
  unfold mean; field_simp; ring

theorem var_eq (j : ℕ) : var N h j = (∑ i ∈ range N, h i j * h i j) / N - mean N h j * mean N h j := by
  have hn : (N : ℝ) ≠ 0 := by exact_mod_cast hN.ne'
  have hm : ∑ i ∈ range N, h i j = N * mean N h j := by unfold mean; field_simp
  have e : ∑ i ∈ range N, (h i j - mean N h j) * (h i j - mean N h j)
      = (∑ i ∈ range N, h i j * h i j) - 2 * mean N h j * (∑ i ∈ range N, h i j) + N * (mean N h j * mean N h j) := by
    rw [Finset.mul_sum, ← Finset.sum_sub_distrib, ← nsmul_eq_mul, ← Finset.card_range N, ← Finset.sum_const, Finset.card_range, ← Finset.sum_add_distrib]
    exact Finset.sum_congr rfl fun i _ => by ring
  unfold var
  rw [e, hm]; field_simp; ring

theorem var_nonneg (j : ℕ) : 0 ≤ var N h j := by
  unfold var
  exact div_nonneg (Finset.sum_nonneg fun i _ => mul_self_nonneg _) (by positivity)

theorem var_max (j : ℕ) : max ((∑ i ∈ range N, h i j * h i j) / N - mean N h j * mean N h j) 0 = var N h j := by
  rw [← var_eq N hN]; exact max_eq_left (var_nonneg N hN h j)

/-- The slope of the normalization. -/
def slope (g : ℕ → ℝ) (j : ℕ) : ℝ := g j * (Real.sqrt (var N h j + eps0))⁻¹
omit hN in
theorem bn_eq (g b : ℕ → ℝ) (i j : ℕ) : bn N h g b i j = (h i j - mean N h j) * slope N h g j + b j := by
  unfold bn slope; rw [div_eq_mul_inv]; ring

theorem mean_bn (g b : ℕ → ℝ) (j : ℕ) : mean N (bn N h g b) j = b j := by
  have hn : (N : ℝ) ≠ 0 := by exact_mod_cast hN.ne'
  have : ∑ i ∈ range N, bn N h g b i j = N * b j := by
    simp only [bn_eq]
    rw [Finset.sum_add_distrib, ← Finset.sum_mul, sum_sub_mean N hN, zero_mul, zero_add, Finset.sum_const, Finset.card_range, nsmul_eq_mul]
  unfold mean; rw [this]; field_simp

theorem var_bn (g b : ℕ → ℝ) (j : ℕ) : var N (bn N h g b) j = slope N h g j * slope N h g j * var N h j := by
  have : ∀ i, (bn N h g b i j - b j) * (bn N h g b i j - b j) = slope N h g j * slope N h g j * ((h i j - mean N h j) * (h i j - mean N h j)) := by
    intro i; rw [bn_eq]; ring
  show (∑ i ∈ range N, (bn N h g b i j - mean N (bn N h g b) j) * (bn N h g b i j - mean N (bn N h g b) j)) / N = _
  rw [mean_bn N hN]
  simp only [this]
  rw [← Finset.mul_sum, mul_div_assoc]; rfl

/-- The activation of a normalized layer from its slope. -/
theorem dice_bn (g b al : ℕ → ℝ) (i j : ℕ) :
    dice N (bn N h g b) al i j = bn N h g b i j * ((1 + Real.exp (-((bn N h g b i j - b j) * (Real.sqrt (slope N h g j * slope N h g j * var N h j + eps1))⁻¹)))⁻¹ * (1 - al j) + al j) := by
  unfold dice gate
  rw [mean_bn N hN, var_bn N hN, div_eq_mul_inv (bn N h g b i j - b j), one_div]
  ring
end Stats

theorem mean_congr {N : ℕ} {h h' : M} {j : ℕ} (e : ∀ i < N, h i j = h' i j) : mean N h j = mean N h' j := by
  unfold mean; rw [Finset.sum_congr rfl fun i hi => e i (Finset.mem_range.mp hi)]

end Cert.Proof.Reals

end
-- ==== Proof.Tower.lean ====
/-
  The dense kernel's attention tower on real numbers: each payload of its body, read at a real table, list of rows and
  parameters, is the corresponding layer of the tower on the block's positions.
-/
module

public import proofs.«01_k».proof.Proof.IdealTcDat
public import proofs.«01_k».proof.Proof.Spec

@[expose] public section

set_option maxHeartbeats 1000000

noncomputable section

namespace Cert.Proof.KernelIdeal

open Cert.KernelIdeal Cert.KernelIdeal.Gen
open Idealize.ShloMosaic
open Cert.Proof.Reals
open scoped BigOperators
open Finset (range)

instance : Plain dot_S128x16_S16x128_S128x128_1_0_0_1_n_n := ⟨rfl⟩
instance : Plain dot_S3200x128_S128x128_S3200x128_1_0_0_1_n_n := ⟨rfl⟩
instance : Plain dot_S1x3200_S3200x128_S1x128_1_0_0_1_n_n := ⟨rfl⟩
instance : Plain dot_S1x128_S128x16_S1x16_1_0_0_1_n_n := ⟨rfl⟩
instance : Plain dot_S1x16_S16x128_S1x128_1_0_0_1_n_n := ⟨rfl⟩
instance : Plain dot_S3200x128_S128x2_S3200x2_1_0_0_1_n_n := ⟨rfl⟩
instance : Plain dot_S128x128_S128x16_S128x16_1_0_0_1_n_n := ⟨rfl⟩
instance : Plain dot_S4096x16_S16x32_S4096x32_1_0_0_1_n_n := ⟨rfl⟩
instance : Plain dot_S1x4096_S4096x32_S1x32_1_0_0_1_n_n := ⟨rfl⟩
instance : Plain dot_S4096x32_S32x16_S4096x16_1_0_0_1_n_n := ⟨rfl⟩
instance : Plain dot_S1x4096_S4096x16_S1x16_1_0_0_1_n_n := ⟨rfl⟩
instance : Plain dot_S4096x16_S16x1_S4096x1_1_0_0_1_n_n := ⟨rfl⟩

/-- The windows hold the packed parameters. -/
structure WinR (K : Win Ideal) (p : Par) (len1 len2 : ℕ → ℝ) : Prop where
  h7 : R2 (φ := .f32) K.k7 (fun b c => if c = 0 then len1 b else len2 b)
  h8 : R2 (φ := .f32) K.k8 mR
  h9 : R2 (φ := .f32) K.k9 (fun r l => ((r % 25 * 8 + l / 16 : ℕ) : ℝ))
  h10 : R2 (φ := .f32) K.k10 mP
  h11 : R2 (φ := .f32) K.k11 mPt
  h12 : R2 (φ := .f32) K.k12 (fun k l => p.w0 k (l % 16) + p.w0 (32 + k) (l % 16))
  h13 : R2 (φ := .f32) K.k13 (kron fun k j => p.w0 (16 + k) j - p.w0 (32 + k) j)
  h14 : R2 (φ := .f32) K.k14 (kron fun k j => p.w0 (48 + k) j)
  h15 : R2 (φ := .f32) K.k15 (lane p.b0)
  h16 : R2 (φ := .f32) K.k16 (ofRow p.g0)
  h17 : R2 (φ := .f32) K.k17 (ofRow p.be0)
  h18 : R2 (φ := .f32) K.k18 (lane p.al0)
  h19 : R2 (φ := .f32) K.k19 (kron p.w1)
  h20 : R2 (φ := .f32) K.k20 (lane p.b1)
  h21 : R2 (φ := .f32) K.k21 (ofRow p.g1)
  h22 : R2 (φ := .f32) K.k22 (ofRow p.be1)
  h23 : R2 (φ := .f32) K.k23 (lane p.al1)
  h24 : R2 (φ := .f32) K.k24 (kron fun k _ => p.w2 k)
  h25 : R2 (φ := .f32) K.k25 (kc p.b2)
  pad : ∀ k, 8 ≤ k → k < 16 → p.w2 k = 0

/-- The position a packed row and lane of block `n` hold. -/
abbrev posn (n r l : ℕ) : ℕ := 25600 * n + (8 * r + l / 16)

variable {K : Win Ideal} {p : Par} {len1 len2 : ℕ → ℝ} (W : WinR K p len1 len2) (T S : Cert.Proof.Reals.M) (n : ℕ)

/-- The block `n` of a tower's rows and targets. -/
structure BlkR (X : Vec Ideal S3200x128 .f32) (Tb : Vec Ideal S128x16 .f32) : Prop where
  hX : R2 (φ := .f32) X (fun r l => S (posn n r l) (l % 16))
  hT : R2 (φ := .f32) Tb (fun b k => T (128 * n + b) k)

theorem sum16 (f : ℕ → ℝ) : ∑ k ∈ range 64, f k = (∑ k ∈ range 16, f k) + (∑ k ∈ range 16, f (16 + k)) + (∑ k ∈ range 16, f (32 + k)) + ∑ k ∈ range 16, f (48 + k) := by
  rw [show (64 : ℕ) = 16 + 16 + 16 + 16 from rfl, Finset.sum_range_add, Finset.sum_range_add, Finset.sum_range_add]

/-- The first layer, its weights regrouped by operand. -/
theorem H0_eq (m j : ℕ) : H0 p T S m j = (∑ k ∈ range 16, S m k * (p.w0 (16 + k) j - p.w0 (32 + k) j)) + (∑ k ∈ range 16, T (m / 200) k * S m k * p.w0 (48 + k) j)
    + (∑ k ∈ range 16, T (m / 200) k * (p.w0 k j + p.w0 (32 + k) j)) + p.b0 j := by
  unfold H0 dense
  rw [sum16]
  have e0 : ∑ k ∈ range 16, xcat T S m k * p.w0 k j = ∑ k ∈ range 16, T (m / 200) k * p.w0 k j :=
    Finset.sum_congr rfl fun k hk => by have := Finset.mem_range.mp hk; unfold xcat; rw [if_pos this]
  have e1 : ∑ k ∈ range 16, xcat T S m (16 + k) * p.w0 (16 + k) j = ∑ k ∈ range 16, S m k * p.w0 (16 + k) j :=
    Finset.sum_congr rfl fun k hk => by
      have := Finset.mem_range.mp hk; unfold xcat; rw [if_neg (by omega), if_pos (by omega), Nat.add_sub_cancel_left]
  have e2 : ∑ k ∈ range 16, xcat T S m (32 + k) * p.w0 (32 + k) j = ∑ k ∈ range 16, (T (m / 200) k - S m k) * p.w0 (32 + k) j :=
    Finset.sum_congr rfl fun k hk => by
      have := Finset.mem_range.mp hk; unfold xcat; rw [if_neg (by omega), if_neg (by omega), if_pos (by omega), Nat.add_sub_cancel_left]
  have e3 : ∑ k ∈ range 16, xcat T S m (48 + k) * p.w0 (48 + k) j = ∑ k ∈ range 16, T (m / 200) k * S m k * p.w0 (48 + k) j :=
    Finset.sum_congr rfl fun k hk => by
      have := Finset.mem_range.mp hk; unfold xcat; rw [if_neg (by omega), if_neg (by omega), if_neg (by omega), Nat.add_sub_cancel_left]
  rw [e0, e1, e2, e3]
  simp only [mul_sub, mul_add, sub_mul, Finset.sum_add_distrib, Finset.sum_sub_distrib]
  ring

section Lay
variable {X : Vec Ideal S3200x128 .f32} {Tb : Vec Ideal S128x16 .f32} (hn : n < 32) (B : BlkR T S n X Tb)
include W B hn

theorem lay0_R : R2 (lay0 K X Tb) (fun r l => H0 p T S (posn n r l) (l % 16)) := by
  have := W.h8; have := W.h10; have := W.h12; have := W.h13; have := W.h14; have := W.h15; have := B.hX; have := B.hT
  unfold lay0
  apply R2.congr
  · unfold k1_pay11; infer_instance
  · intro r hr l hl
    simp only [add, mul, rowB, lane]
    rw [mm_kron _ _ _ hl, mm_kron _ _ _ hl, mm_R _ hr, H0_eq,
      show mm 16 (fun b k => T (128 * n + b) k) (fun k l => p.w0 k (l % 16) + p.w0 (32 + k) (l % 16)) (r / 25) l
        = ∑ k ∈ range 16, T (128 * n + r / 25) k * (p.w0 k (l % 16) + p.w0 (32 + k) (l % 16)) from rfl]
    have hm : posn n r l / 200 = 128 * n + r / 25 := by unfold posn; omega
    have hp : ∀ k ∈ range 16, S (posn n r (16 * (l / 16) + k)) ((16 * (l / 16) + k) % 16) = S (posn n r l) k := by
      intro k hk
      have := Finset.mem_range.mp hk
      rw [show (16 * (l / 16) + k) % 16 = k by omega, show posn n r (16 * (l / 16) + k) = posn n r l by unfold posn; omega]
    rw [hm]
    congr 1
    congr 1
    congr 1
    · exact Finset.sum_congr rfl fun k hk => by rw [hp k hk]
    · refine Finset.sum_congr rfl fun k hk => ?_
      rw [show mul (mm 128 mR (mm 16 (fun b k => T (128 * n + b) k) mP)) (fun r l => S (posn n r l) (l % 16)) r (16 * (l / 16) + k)
        = mm 128 mR (mm 16 (fun b k => T (128 * n + b) k) mP) r (16 * (l / 16) + k) * S (posn n r (16 * (l / 16) + k)) ((16 * (l / 16) + k) % 16) from rfl,
        hp k hk, mm_R _ hr, mm_P]
      have := Finset.mem_range.mp hk
      rw [show (16 * (l / 16) + k) % 16 = k by omega]

end Lay

/-! ## The statistics -/

section Stat
variable {s0 s1 g b : Vec Ideal S1x16 .f32} {P : Vec Ideal S16x128 .f32} (h : Cert.Proof.Reals.M) (fg fb : ℕ → ℝ)

/-- The number of positions. -/
class Cnt (N : ℕ) : Prop where
  e : ((N : ℕ) : ℝ) = 819200
theorem Cnt.pos (N : ℕ) [Cnt N] : 0 < N := by
  have h := Cnt.e (N := N)
  rcases Nat.eq_zero_or_pos N with h0 | h0
  · rw [h0, Nat.cast_zero] at h; norm_num at h
  · exact h0
instance : Cnt NP := ⟨by unfold NP; exact Nat.cast_ofNat⟩
variable {N : ℕ} [Cnt N]

variable [i0 : R2 (φ := .f32) s0 (ofRow (colsum N h))] [i1 : R2 (φ := .f32) s1 (ofRow (colsum N (mul h h)))] [i2 : R2 (φ := .f32) g (ofRow fg)] [R2 (φ := .f32) b (ofRow fb)] [R2 (φ := .f32) P mP]

theorem pay14_R : R2 (k1_pay14 s0) (ofRow (mean N h)) := by
  apply R2.congr
  · unfold k1_pay14; infer_instance
  · intro i _ j _
    simp only [dvd, ofRow, kc, colsum, mean]
    rw [Cnt.e (N := N)]
theorem pay15_R : R2 (k1_pay15 s0 s1) (ofRow (var N h)) := by
  have := pay14_R (s0 := s0) h
  apply R2.congr
  · unfold k1_pay15; infer_instance
  · intro i _ j _
    rw [show ofRow (var N h) i j = var N h j from rfl, ← var_max N (Cnt.pos N)]
    simp only [dvd, ofRow, kc, colsum, mul, sub, mx0]
    rw [Cnt.e (N := N)]
instance nn_var : NN (ofRow (var N h)) := ⟨fun i j => var_nonneg N (Cnt.pos N) h j⟩
theorem pay16_R : R2 (k1_pay16 s0 s1 g) (ofRow (slope N h fg)) := by
  have := pay15_R (s0 := s0) (s1 := s1) h
  apply R2.congr
  · unfold k1_pay16; infer_instance
  · intro i _ j _; rfl
theorem pay17_R : R2 (k1_pay17 s0 s1 g b) (ofRow fun j => fb j - slope N h fg j * mean N h j) := by
  have := pay14_R (s0 := s0) h; have := pay16_R (s0 := s0) (s1 := s1) (g := g) h fg
  apply R2.congr
  · unfold k1_pay17; infer_instance
  · intro i _ j _; rfl
theorem pay18_R : R2 (k1_pay18 s0 s1 g) (ofRow fun j => slope N h fg j * slope N h fg j * var N h j) := by
  have := pay15_R (s0 := s0) (s1 := s1) h; have := pay16_R (s0 := s0) (s1 := s1) (g := g) h fg
  apply R2.congr
  · unfold k1_pay18; infer_instance
  · intro i _ j _; rfl
/-- The block normalized. -/
theorem pay19_R {x : Vec Ideal S3200x128 .f32} [R2 (φ := .f32) x (fun r l => h (posn n r l) (l % 16))] :
    R2 (k1_pay19 x s0 s1 g b P P) (fun r l => bn N h fg fb (posn n r l) (l % 16)) := by
  have := pay16_R (s0 := s0) (s1 := s1) (g := g) h fg; have := pay17_R (s0 := s0) (s1 := s1) (g := g) (b := b) h fg fb
  apply R2.congr
  · unfold k1_pay19; infer_instance
  · intro r _ l _
    simp only [add, mul, rowB]
    rw [mm_P, mm_P, bn_eq]
    simp only [ofRow]; ring
include h fg i0 i1 i2 in
theorem pay20_R : R2 (k1_pay20 s0 s1 g b P) (lane fb) := by
  have := pay14_R (s0 := s0) h; have := pay16_R (s0 := s0) (s1 := s1) (g := g) h fg; have := pay17_R (s0 := s0) (s1 := s1) (g := g) (b := b) h fg fb
  apply R2.congr
  · unfold k1_pay20; infer_instance
  · intro i _ l _
    rw [mm_P]
    simp only [ofRow, add, mul, lane]; ring
instance nn_v18 : NN (ofRow fun j => slope N h fg j * slope N h fg j * var N h j) :=
  ⟨fun i j => mul_nonneg (mul_self_nonneg _) (var_nonneg N (Cnt.pos N) h j)⟩
instance nn_mP : NN mP := ⟨fun i j => by unfold mP; split <;> norm_num⟩
end Stat

/-- The second layer on a block. -/
theorem pay22_R {N : ℕ} [Cnt N] (h : Cert.Proof.Reals.M) (fg fb fal fb1 : ℕ → ℝ) (w : Cert.Proof.Reals.M) {v87 : FVec Ideal S1x16 .f32} {v97 : FVec Ideal S3200x128 .f32} {v100 : FVec Ideal S1x128 .f32}
    {v102 : FVec Ideal S16x128 .f32} {al b1 : Vec Ideal S1x128 .f32} {w1 : Vec Ideal S128x128 .f32}
    [R2 v87 (ofRow fun j => slope N h fg j * slope N h fg j * var N h j)] [R2 v97 (fun r l => bn N h fg fb (posn n r l) (l % 16))] [R2 v100 (lane fb)] [R2 v102 mP]
    [R2 (φ := .f32) al (lane fal)] [R2 (φ := .f32) b1 (lane fb1)] [R2 (φ := .f32) w1 (kron w)] :
    R2 (k1_pay22 v87 v97 v100 v102 al w1 b1) (fun r l => dense 16 (dice N (bn N h fg fb) fal) w fb1 (posn n r l) (l % 16)) := by
  apply R2.congr
  · unfold k1_pay22; infer_instance
  · intro r hr l hl
    simp only [add, rowB, lane]
    rw [mm_kron _ _ _ hl]
    unfold dense
    congr 1
    refine Finset.sum_congr rfl fun k hk => ?_
    have hk := Finset.mem_range.mp hk
    congr 1
    simp only [add, mul, sub, lg, rs, kc, rowB]
    rw [mm_P, show posn n r (16 * (l / 16) + k) = posn n r l by unfold posn; omega, show (16 * (l / 16) + k) % 16 = k by omega, dice_bn N (Cnt.pos N)]
    simp only [lane, ofRow, show (16 * (l / 16) + k) % 16 = k by omega]

section Lay1
variable {X : Vec Ideal S3200x128 .f32} {Tb : Vec Ideal S128x16 .f32} (hn : n < 32) (B : BlkR T S n X Tb) {a : Tower Ideal}

/-- A tower's first two rows are the first layer's complete sums. -/
structure Done0 (p : Par) (T S : Cert.Proof.Reals.M) (a : Tower Ideal) : Prop where
  h0 : R2 (φ := .f32) a.r0 (ofRow (colsum NP (H0 p T S)))
  h1 : R2 (φ := .f32) a.r1 (ofRow (colsum NP (mul (H0 p T S) (H0 p T S))))

variable (A : Done0 p T S a)
include W B hn A

theorem lay1_R : R2 (lay1 K X Tb a) (fun r l => H1 p T S (posn n r l) (l % 16)) := by
  have := lay0_R W T S n hn B
  have := A.h0; have := A.h1; have := W.h10; have := W.h16; have := W.h17; have := W.h18; have := W.h19; have := W.h20
  have := pay18_R (s0 := a.r0) (s1 := a.r1) (g := K.k16) (H0 p T S) p.g0
  have := pay19_R n (s0 := a.r0) (s1 := a.r1) (g := K.k16) (b := K.k17) (P := K.k10) (x := lay0 K X Tb) (H0 p T S) p.g0 p.be0
  have := pay20_R (s0 := a.r0) (s1 := a.r1) (g := K.k16) (b := K.k17) (P := K.k10) (N := NP) (H0 p T S) p.g0 p.be0
  have : R2 (k1_pay21 K.k10) mP := by unfold k1_pay21; infer_instance
  exact pay22_R n (H0 p T S) p.g0 p.be0 p.al0 p.b1 p.w1
end Lay1

/-! ## Sums over a block -/

theorem ones12 : R2 (k1_pay12 (F := Ideal)) (kc 1) := by unfold k1_pay12; infer_instance
theorem ones23 : R2 (k1_pay23 (F := Ideal)) (kc 1) := by unfold k1_pay23; infer_instance

theorem block_sum (h : ℕ → ℝ) : ∑ g ∈ range 8, ∑ r ∈ range 3200, h (25600 * n + (8 * r + g)) = ∑ q ∈ range 25600, h (25600 * n + q) := by
  rw [show (25600 : ℕ) = 3200 * 8 from rfl, sum_mul_range, Finset.sum_comm]

section Acc
variable (h : Cert.Proof.Reals.M) (fs : ℕ → ℝ) {x : FVec Ideal S3200x128 .f32} {o : FVec Ideal S1x3200 .f32} {s : Vec Ideal S1x16 .f32} {P : Vec Ideal S128x16 .f32}
  [R2 x (fun r l => h (posn n r l) (l % 16))] [R2 o (kc 1)] [R2 (φ := .f32) s (ofRow fs)] [R2 (φ := .f32) P mPt]

theorem acc_eq {k : ℕ} (hk : k < 16) (h : Cert.Proof.Reals.M) : mm 128 (mm 3200 (kc 1) fun r l => h (posn n r l) (l % 16)) mPt 0 k = ∑ q ∈ range 25600, h (25600 * n + q) k := by
  rw [mm_Pt _ _ hk, ← block_sum n fun m => h m k]
  refine Finset.sum_congr rfl fun g hg => ?_
  have := Finset.mem_range.mp hg
  unfold mm kc
  refine Finset.sum_congr rfl fun r _ => ?_
  show 1 * h (posn n r (16 * g + k)) ((16 * g + k) % 16) = _
  rw [one_mul, show (16 * g + k) % 16 = k by omega, show posn n r (16 * g + k) = 25600 * n + (8 * r + g) by unfold posn; omega]

theorem pay2_R : R2 (k1_pay2 x o s P) (ofRow fun k => fs k + ∑ q ∈ range 25600, h (25600 * n + q) k) := by
  apply R2.congr
  · unfold k1_pay2; infer_instance
  · intro i hi k hk
    obtain rfl : i = 0 := by omega
    simp only [add, ofRow]
    rw [acc_eq n hk]
theorem pay3_R : R2 (k1_pay3 x o s P) (ofRow fun k => fs k + ∑ q ∈ range 25600, h (25600 * n + q) k * h (25600 * n + q) k) := by
  apply R2.congr
  · unfold k1_pay3; infer_instance
  · intro i hi k hk
    obtain rfl : i = 0 := by omega
    exact congrArg (fs k + ·) (acc_eq n hk (mul h h))
end Acc

theorem colsum_next (m : ℕ) (h : Cert.Proof.Reals.M) (k : ℕ) : colsum (25600 * m) h k + ∑ q ∈ range 25600, h (25600 * m + q) k = colsum (25600 * (m + 1)) h k := by
  unfold colsum; rw [Nat.mul_add, Nat.mul_one, Finset.sum_range_add]

/-- Rows of a window. -/
theorem rows_R {x : Vec Ideal S4096x16 .f32} {f : Cert.Proof.Reals.M} (hx : R2 (φ := .f32) x f) (i : Fin 32) : R2 (φ := .f32) (rows x i) (fun b k => f (128 * i.val + b) k) :=
  ⟨fun j => (hx.h _).trans (by
    show ((f (128 * i.val + 1 * (j 0).val) (0 + 1 * (j 1).val) : ℝ) : EReal) = _
    rw [Nat.zero_add, one_mul, one_mul])⟩
theorem rows2_R {x : Vec Ideal S4096x2 .f32} {f : Cert.Proof.Reals.M} (hx : R2 (φ := .f32) x f) (i : Fin 32) : R2 (φ := .f32) (rows2 x i) (fun b k => f (128 * i.val + b) k) :=
  ⟨fun j => (hx.h _).trans (by
    show ((f (128 * i.val + 1 * (j 0).val) (0 + 1 * (j 1).val) : ℝ) : EReal) = _
    rw [Nat.zero_add, one_mul, one_mul])⟩

/-! ## The running sums -/
section Run
variable {X : ℕ → Vec Ideal S3200x128 .f32} {Tv : Vec Ideal S4096x16 .f32}
  (hX : ∀ n < 96, R2 (φ := .f32) (X n) (fun r l => S (posn (n % 32) r l) (l % 16))) (hT : R2 (φ := .f32) Tv T)

theorem zero_pay : R2 (φ := .f32) (k1_pay1 (F := Ideal)) (kc 0) := by
  have : R2 (k1_pay1 (F := Ideal)) (kc 0) := by unfold k1_pay1; infer_instance
  exact this
theorem zero_row (o : ℕ) (h) : R2 (φ := .f32) (show Vec Ideal S1x16 .f32 from row (k1_pay1 (F := Ideal)) o h) (ofRow fun _ => 0) := ⟨fun _ => zero_pay.h _⟩

/-- The sums over the first `m` blocks. -/
structure Sums (a : Tower Ideal) (m m' : ℕ) : Prop where
  h0 : R2 (φ := .f32) a.r0 (ofRow (colsum (25600 * m) (H0 p T S)))
  h1 : R2 (φ := .f32) a.r1 (ofRow (colsum (25600 * m) (mul (H0 p T S) (H0 p T S))))
  h2 : R2 (φ := .f32) a.r2 (ofRow (colsum (25600 * m') (H1 p T S)))
  h3 : R2 (φ := .f32) a.r3 (ofRow (colsum (25600 * m') (mul (H1 p T S) (H1 p T S))))

include hX hT in
theorem blk_R (n : ℕ) (hn : n < 96) : BlkR T S (n % 32) (X n) (rows Tv (rw32 n)) := ⟨hX n hn, rows_R hT _⟩

theorem ofRow_congr {x : Vec Ideal S1x16 .f32} {f g : ℕ → ℝ} (h : R2 (φ := .f32) x (ofRow f)) (e : ∀ k, f k = g k) : R2 (φ := .f32) x (ofRow g) := by
  rw [← funext e]; exact h

include W hX hT in
theorem sums0 : ∀ n ≤ 32, Sums (p := p) T S (towers K X Tv n) n 0
  | 0, _ => by
    have hz : ∀ h : Cert.Proof.Reals.M, (fun _ => (0 : ℝ)) = colsum (25600 * 0) h := fun h => by funext j; unfold colsum; simp
    refine ⟨?_, ?_, ?_, ?_⟩ <;> rw [← hz] <;> exact zero_row 0 inb_S8x16_S1x16_0_0
  | n + 1, hn => by
    have ih := sums0 n (by omega)
    have hr : towers K X Tv (n + 1) = step0 K (X n) (rows Tv (rw32 n)) (towers K X Tv n) := if_pos (by omega)
    rw [hr]
    have B := blk_R (T := T) (S := S) hX hT n (by omega)
    rw [Nat.mod_eq_of_lt (show n < 32 by omega)] at B
    have hl := lay0_R W T S n (by omega) B
    have := ones12; have := W.h11; have := ih.h0; have := ih.h1
    exact ⟨ofRow_congr (pay2_R n (H0 p T S) _) fun k => colsum_next n _ k, ofRow_congr (pay3_R n (H0 p T S) _) fun k => colsum_next n (mul (H0 p T S) (H0 p T S)) k, ih.h2, ih.h3⟩

theorem full : 25600 * 32 = NP := rfl

include W hX hT in
theorem sums1 : ∀ n ≤ 32, Sums (p := p) T S (towers K X Tv (32 + n)) 32 n
  | 0, _ => sums0 W T S hX hT 32 le_rfl
  | n + 1, hn => by
    have ih := sums1 n (by omega)
    have hr : towers K X Tv (32 + n + 1) = step1 K (X (32 + n)) (rows Tv (rw32 (32 + n))) (towers K X Tv (32 + n)) := by
      show (if _ then _ else _) = _
      rw [if_neg (by omega), if_pos (by omega)]
    rw [← Nat.add_assoc, hr]
    have B := blk_R (T := T) (S := S) hX hT (32 + n) (by omega)
    rw [show (32 + n) % 32 = n by omega] at B
    have hl := lay1_R W T S n (by omega) B (a := towers K X Tv (32 + n)) ⟨full ▸ ih.h0, full ▸ ih.h1⟩
    have : R2 (lay1 K (X (32 + n)) (rows Tv (rw32 (32 + n))) (towers K X Tv (32 + n))) _ := hl
    unfold lay1 at this
    have := ones23; have := W.h11; have := ih.h2; have := ih.h3
    exact ⟨ih.h0, ih.h1, ofRow_congr (pay2_R n (H1 p T S) _) fun k => colsum_next n _ k, ofRow_congr (pay3_R n (H1 p T S) _) fun k => colsum_next n (mul (H1 p T S) (H1 p T S)) k⟩
end Run

end Cert.Proof.KernelIdeal

end
-- ==== Proof.Arrays.lean ====
/-
  The host program's rearrangements on arrays of real numbers: a vector as one row, zero columns or rows added, a row repeated
  eight times, the block-diagonal array of eight copies of a matrix; and the integer arrays it compares and converts.
-/
module

public import proofs.«01_k».proof.Proof.Tower
public import Idealize.ShloMosaic.Lib.Pipeline.ValueKit
public import Idealize.ShloMosaic.Lib.KernelVsHost

@[expose] public section

noncomputable section

namespace Cert.Proof.Reals

open Idealize.ShloMosaic

/-! ## Rows, padding, repetition -/

theorem row_R {n : ℕ} {x : FVec Ideal (Sh1 n) .f32} {f : ℕ → ℝ} (hx : R1 x f) (h : (Sh1 n).ShapeCasts (Sh2 1 n)) :
    R2 (shapeCast (Sh2 1 n) x h) (ofRow f) := ⟨fun i => by
  have h0 : (i 0).val < 1 := (i 0).isLt
  refine (shapeCast_apply x h i (ValueIdx.ix1 (i 1)) ?_).trans (hx.h _)
  rw [Shape.rowMajor_val_one, Shape.rowMajor_val_two]
  show (i 1).val = (i 0).val * n + (i 1).val
  rw [show (i 0).val = 0 by omega, Nat.zero_mul, Nat.zero_add]⟩

theorem cell_R {x : FVec Ideal (Sh1 1) .f32} {r : ℝ} (hx : R1 x fun _ => r) (h : (Sh1 1).ShapeCasts (Sh2 1 1)) :
    R2 (shapeCast (Sh2 1 1) x h) (kc r) := ⟨fun i => (row_R hx h).h i⟩

theorem padC_R {a : ℕ} {x : FVec Ideal (Sh2 a 8) .f32} {z : FVec Ideal Sh0 .f32} {f : M} (hx : R2 x f) (hz : R0 z 0)
    (h : (Sh2 a 8).Pads ![0, 0] ![0, 8] ![0, 0] (Sh2 a 16)) (hu : 0 < Sh0.numel) (hf : ∀ i j, 8 ≤ j → j < 16 → f i j = 0) :
    R2 (pad (Sh2 a 16) ![0, 0] ![0, 8] ![0, 0] x z h hu) f := ⟨fun i => by
  have hj : (i 1).val < 16 := (i 1).isLt
  by_cases hc : (i 1).val < 8
  · refine (pad_apply_of_inside _ _ _ x z h hu i (ValueIdx.ix2 (i 0) ⟨(i 1).val, hc⟩) ?_).trans (hx.h _)
    intro c
    match c with
    | 0 => show (i 0).val = 0 + (i 0).val * (0 + 1); omega
    | 1 => show (i 1).val = 0 + (i 1).val * (0 + 1); omega
  · refine (pad_apply_of_not_inside _ _ _ x z h hu i 1 ?_).trans ((hz.h _).trans ?_)
    · show ¬(0 ≤ (i 1).val ∧ ((i 1).val - 0) % (0 + 1) = 0 ∧ ((i 1).val - 0) / (0 + 1) < 8)
      omega
    · rw [hf _ _ (by omega) hj]⟩

theorem padR_R {b : ℕ} {x : FVec Ideal (Sh2 8 b) .f32} {z : FVec Ideal Sh0 .f32} {f : M} (hx : R2 x f) (hz : R0 z 0)
    (h : (Sh2 8 b).Pads ![0, 0] ![8, 0] ![0, 0] (Sh2 16 b)) (hu : 0 < Sh0.numel) (hf : ∀ i j, 8 ≤ i → i < 16 → f i j = 0) :
    R2 (pad (Sh2 16 b) ![0, 0] ![8, 0] ![0, 0] x z h hu) f := ⟨fun i => by
  have hj : (i 0).val < 16 := (i 0).isLt
  by_cases hc : (i 0).val < 8
  · refine (pad_apply_of_inside _ _ _ x z h hu i (ValueIdx.ix2 ⟨(i 0).val, hc⟩ (i 1)) ?_).trans (hx.h _)
    intro c
    match c with
    | 0 => show (i 0).val = 0 + (i 0).val * (0 + 1); omega
    | 1 => show (i 1).val = 0 + (i 1).val * (0 + 1); omega
  · refine (pad_apply_of_not_inside _ _ _ x z h hu i 0 ?_).trans ((hz.h _).trans ?_)
    · show ¬(0 ≤ (i 0).val ∧ ((i 0).val - 0) % (0 + 1) = 0 ∧ ((i 0).val - 0) / (0 + 1) < 8)
      omega
    · rw [hf _ _ (by omega) hj]⟩

abbrev Sh4 (a b c d : ℕ) : Shape := ⟨4, ![a, b, c, d]⟩

theorem spread_R {a : ℕ} {x : FVec Ideal (Sh2 a 16) .f32} {f : M} (hx : R2 x f) (h1 : (Sh2 a 16).ShapeCasts (Sh4 1 a 1 16))
    (h2 : (Sh4 1 a 1 16).BroadcastsInDim (Sh4 1 a 8 16) ![0, 1, 2, 3]) (h3 : (Sh4 1 a 8 16).ShapeCasts (Sh2 a 128)) :
    R2 (shapeCast (Sh2 a 128) (broadcastInDim (Sh4 1 a 8 16) ![0, 1, 2, 3] h2 (shapeCast (Sh4 1 a 1 16) x h1)) h3) (fun k l => f k (l % 16)) := ⟨fun i => by
  have hl : (i 1).val < 128 := (i 1).isLt
  let k : Fin a := i 0
  refine (shapeCast_apply _ h3 i (ValueIdx.ix4 (0 : Fin 1) k ⟨(i 1).val / 16, by omega⟩ ⟨(i 1).val % 16, by omega⟩) ?_).trans ?_
  · rw [Shape.rowMajor_val_four, Shape.rowMajor_val_two]
    show ((0 * a + (i 0).val) * 8 + (i 1).val / 16) * 16 + (i 1).val % 16 = (i 0).val * 128 + (i 1).val
    omega
  refine (congrArg (shapeCast (Sh4 1 a 1 16) x h1) (?_ : _ = ValueIdx.ix4 (0 : Fin 1) k (0 : Fin 1) (⟨(i 1).val % 16, by omega⟩ : Fin 16))).trans ?_
  · funext c
    refine Fin.ext ?_
    match c with
    | 0 => rfl
    | 1 => show (if h : a = 1 then (⟨0, by omega⟩ : Fin a) else ⟨(i 0).val, _⟩).val = (i 0).val
           have := k.isLt
           have e : (i 0).val = k.val := rfl
           split <;> simp only [] <;> omega
    | 2 => rfl
    | 3 => rfl
  refine (shapeCast_apply x h1 _ (ValueIdx.ix2 k ⟨(i 1).val % 16, by omega⟩) ?_).trans (hx.h _)
  rw [Shape.rowMajor_val_four, Shape.rowMajor_val_two]
  show (i 0).val * 16 + (i 1).val % 16 = ((0 * a + (i 0).val) * 1 + 0) * 16 + (i 1).val % 16
  omega⟩

/-- The identity matrix's entries. -/
def eyeM : M := fun i j => if i = j then 1 else 0

theorem fin_one {n : ℕ} (h : n = 1) (u : Fin n) (v : ℕ) (hv : v < n) : u.val = v := by omega

theorem kron_R {n N : ℕ} {e : FVec Ideal (Sh2 8 8) .f32} {w : FVec Ideal (Sh2 16 n) .f32} {f : M} (he : R2 e eyeM) (hw : R2 w f) (hN : N = 8 * n)
    (h1 : (Sh2 8 8).BroadcastsInDim (Sh4 8 1 8 1) ![0, 2]) (h2 : (Sh2 16 n).BroadcastsInDim (Sh4 1 16 1 n) ![1, 3])
    (h3 : (Sh4 8 1 8 1).BroadcastsInDim (Sh4 8 16 8 n) ![0, 1, 2, 3]) (h4 : (Sh4 1 16 1 n).BroadcastsInDim (Sh4 8 16 8 n) ![0, 1, 2, 3])
    (h5 : (Sh4 8 16 8 n).ShapeCasts (Sh2 128 N)) :
    R2 (shapeCast (Sh2 128 N) (mulf (broadcastInDim (Sh4 8 16 8 n) ![0, 1, 2, 3] h3 (broadcastInDim (Sh4 8 1 8 1) ![0, 2] h1 e))
        (broadcastInDim (Sh4 8 16 8 n) ![0, 1, 2, 3] h4 (broadcastInDim (Sh4 1 16 1 n) ![1, 3] h2 w)) : FVec Ideal (Sh4 8 16 8 n) .f32) h5)
      (fun l' l => if l' / 16 = l / n then f (l' % 16) (l % n) else 0) := ⟨fun i => by
  subst hN
  have hl : (i 0).val < 128 := (i 0).isLt
  have hk : (i 1).val < 8 * n := (i 1).isLt
  have hn : 0 < n := by omega
  have hq : (i 1).val / n < 8 := Nat.div_lt_of_lt_mul (hk.trans_eq (Nat.mul_comm _ _))
  have hm := Nat.mod_lt (i 1).val hn
  refine (shapeCast_apply _ h5 i (ValueIdx.ix4 ⟨(i 0).val / 16, by omega⟩ ⟨(i 0).val % 16, by omega⟩ ⟨(i 1).val / n, hq⟩ ⟨(i 1).val % n, hm⟩) ?_).trans ?_
  · rw [Shape.rowMajor_val_four, Shape.rowMajor_val_two]
    show (((i 0).val / 16 * 16 + (i 0).val % 16) * 8 + (i 1).val / n) * n + (i 1).val % n = (i 0).val * (8 * n) + (i 1).val
    rw [show (i 0).val / 16 * 16 + (i 0).val % 16 = (i 0).val by omega, Nat.add_mul, Nat.mul_assoc, Nat.add_assoc, Nat.div_add_mod']
  show e _ * w _ = _
  rw [he.h, hw.h, ← EReal.coe_mul]
  congr 1
  have e1 : ∀ (u v : ℕ) (hu : u = (i 0).val % 16) (hv : v = (i 1).val % n), eyeM ((i 0).val / 16) ((i 1).val / n) * f u v
      = if (i 0).val / 16 = (i 1).val / n then f ((i 0).val % 16) ((i 1).val % n) else 0 := by
    rintro _ _ rfl rfl
    unfold eyeM
    split
    · rw [one_mul]
    · rw [zero_mul]
  refine e1 _ _ rfl ?_
  by_cases h : n = 1
  · exact fin_one h _ _ hm
  · exact (congrArg Fin.val (dif_neg h)).trans (congrArg Fin.val (dif_neg h))⟩

/-! ## Integers -/

/-- The entries of an array of words, as numbers. -/
structure N2 {a b : ℕ} (x : IVec (Sh2 a b) 32) (u : ℕ → ℕ → ℕ) : Prop where
  h : ∀ i, x i = BitVec.ofNat 32 (u (i 0).val (i 1).val)

theorem ind_R {a b : ℕ} {x y : IVec (Sh2 a b) 32} {u v : ℕ → ℕ → ℕ} (hx : N2 x u) (hy : N2 y v)
    (hu : ∀ i < a, ∀ j < b, u i j < 2 ^ 32) (hv : ∀ i < a, ∀ j < b, v i j < 2 ^ 32) :
    R2 (uitofp .f32 (cmpi .eq x y) : FVec Ideal (Sh2 a b) .f32) (fun i j => if u i j = v i j then 1 else 0) := ⟨fun i => by
  have h1 := hu _ (i 0).isLt _ (i 1).isLt
  have h2 := hv _ (i 0).isLt _ (i 1).isLt
  show (((BitVec.ofBool (x i == y i)).toNat : ℝ) : EReal) = _
  rw [hx.h, hy.h]
  congr 1
  by_cases e : u (i 0).val (i 1).val = v (i 0).val (i 1).val
  · rw [if_pos e, e, beq_self_eq_true]; simp
  · rw [if_neg e, beq_eq_false_iff_ne.mpr fun h => e (by
      have := congrArg BitVec.toNat h
      rwa [BitVec.toNat_ofNat, BitVec.toNat_ofNat, Nat.mod_eq_of_lt h1, Nat.mod_eq_of_lt h2] at this)]; simp⟩

theorem num_R {a b : ℕ} {x : IVec (Sh2 a b) 32} {u : ℕ → ℕ → ℕ} (hx : N2 x u) (hu : ∀ i < a, ∀ j < b, u i j < 2 ^ 31) :
    R2 (sitofp .f32 x : FVec Ideal (Sh2 a b) .f32) (fun i j => (u i j : ℝ)) := ⟨fun i => by
  have h1 := hu _ (i 0).isLt _ (i 1).isLt
  show (((x i).toInt : ℝ) : EReal) = _
  rw [hx.h, BitVec.toInt_ofNat', Int.bmod_eq_of_le (by omega) (by omega)]
  simp⟩

/-- A column repeated, a row repeated. -/
theorem N2.col {a b : ℕ} {x : IVec (Sh2 a 1) 32} {u : ℕ → ℕ → ℕ} (hx : N2 x u) (ha : a ≠ 1) (h : (Sh2 a 1).BroadcastsInDim (Sh2 a b) ![0, 1]) :
    N2 (broadcastInDim (Sh2 a b) ![0, 1] h x) (fun r _ => u r 0) := ⟨fun i => by
  refine (hx.h _).trans (congrArg (fun n => BitVec.ofNat 32 (u n 0)) ?_)
  exact congrArg Fin.val (dif_neg ha)⟩
theorem N2.row {a b : ℕ} {x : IVec (Sh2 1 b) 32} {u : ℕ → ℕ → ℕ} (hx : N2 x u) (hb : b ≠ 1) (h : (Sh2 1 b).BroadcastsInDim (Sh2 a b) ![0, 1]) :
    N2 (broadcastInDim (Sh2 a b) ![0, 1] h x) (fun _ l => u 0 l) := ⟨fun i => by
  refine (hx.h _).trans (congrArg (fun n => BitVec.ofNat 32 (u 0 n)) ?_)
  exact congrArg Fin.val (dif_neg hb)⟩

theorem R2.of_eq {a b : ℕ} {x y : FVec Ideal (Sh2 a b) .f32} {f : M} (e : x = y) (h : R2 y f) : R2 x f := e ▸ h

/-- The host's remainder by `d`, of the sign of `d`. -/
def fmod (d x : BitVec 32) : BitVec 32 :=
  let d' := Scalar.select (IntOp.cmpi .eq d 0#32) 1#32 d
  let r := IntOp.remsi .host x d'
  Scalar.select (IntOp.cmpi .ne (IntOp.cmpi .slt r 0#32) (IntOp.cmpi .slt d' 0#32) &&& IntOp.cmpi .ne r 0#32) (r + d') r

def sgn (x : BitVec 32) : BitVec 32 := if x = 0 then 0 else if x.msb then -1 else 1
/-- The host's quotient by `d`, rounded down. -/
def fdiv (d x : BitVec 32) : BitVec 32 :=
  let q := IntOp.divsi .host x d
  Scalar.select (IntOp.cmpi .ne (sgn x) (sgn d) &&& IntOp.cmpi .ne (IntOp.remsi .host x d) 0#32) (q - 1#32) q

theorem fmod16 : ∀ n : Fin 128, fmod 16#32 (BitVec.ofNat 32 n.val) = BitVec.ofNat 32 (n.val % 16) := by decide +kernel
theorem fdiv16 : ∀ n : Fin 128, fdiv 16#32 (BitVec.ofNat 32 n.val) = BitVec.ofNat 32 (n.val / 16) := by decide +kernel
theorem fmod25 : ∀ n : Fin 3200, fmod 25#32 (BitVec.ofNat 32 n.val) = BitVec.ofNat 32 (n.val % 25) := by decide +kernel
theorem fdiv25 : ∀ n : Fin 3200, fdiv 25#32 (BitVec.ofNat 32 n.val) = BitVec.ofNat 32 (n.val / 25) := by decide +kernel

end Cert.Proof.Reals

end
-- ==== Proof.RefOps.lean ====
/-
  The reference's layers as functions of their inputs, each on arrays of real numbers: batch normalization, the adaptive
  activation's gate, the joined features, the masked weighted sum over positions.
-/
module

public import proofs.«01_k».proof.Proof.Spec
public import proofs.«01_k».proof.Proof.Lookup

@[expose] public section

noncomputable section

namespace Cert.Proof.Reals

open Idealize.ShloMosaic
open scoped BigOperators
open Cert.ReferenceIdeal Cert.ReferenceIdeal.Gen

instance {φ : FTy} (x y : FVec Ideal Sh0 φ) (r s : ℝ) [R0 x r] [R0 y s] : R0 (subf x y) (r - s) := ⟨fun i => by
  show x i - y i = _; rw [R0.h (x := x) i, R0.h (x := y) i]; exact (EReal.coe_sub _ _).symm⟩
instance (r : ℝ) [CP r] : CP (r - 0) := ⟨by rw [sub_zero]; exact CP.h⟩

section Three
variable {a b c : ℕ} {φ : FTy} (x y : FVec Ideal (Sh3 a b c) φ) (f g : ℕ → ℕ → ℕ → ℝ)
instance [R3 x f] [R3 y g] : R3 (subf x y) (fun i j k => f i j k - g i j k) := ⟨fun i => by
  show x i - y i = _; rw [R3.h (x := x) i, R3.h (x := y) i]; exact (EReal.coe_sub _ _).symm⟩
instance [R3 x f] [R3 y g] : R3 (mulf x y) (fun i j k => f i j k * g i j k) := ⟨fun i => by
  show x i * y i = _; rw [R3.h (x := x) i, R3.h (x := y) i]; exact (EReal.coe_mul _ _).symm⟩
instance (z : FVec Ideal Sh0 φ) [R3 x f] [R0 z 0] (h : (Sh3 a b c).ReducesTo [1] (Sh2 a c)) (hu : 0 < Sh0.numel) :
    R2 (Host.reduceAdd x z h hu) (fun i k => ∑ n ∈ Finset.range b, f i n k) := ⟨fun i => by
  have hr : (Sh3 a b c).Reduces [1] (Sh2 a c) := ⟨h.1, Nat.succ_pos 1, h.2⟩
  show Ideal.hostReduceAdd h x (z _) i = _
  rw [Ideal.hostReduceAdd_single h hr, R0.h (x := z)]
  show ((0 : ℝ) : EReal) + _ = _
  rw [EReal.coe_zero, zero_add]
  show _ = ((∑ n ∈ Finset.range b, f (i 0).val n (i 1).val : ℝ) : EReal)
  rw [coe_sum, Finset.sum_range]
  refine Finset.sum_congr rfl fun c _ => ?_
  rw [R3.h (x := x)]; rfl⟩
end Three

theorem R3.congr {a b c : ℕ} {φ : FTy} {x : FVec Ideal (Sh3 a b c) φ} {f g : ℕ → ℕ → ℕ → ℝ} (hx : R3 x f)
    (e : ∀ i < a, ∀ j < b, ∀ k < c, f i j k = g i j k) : R3 x g :=
  ⟨fun i => by rw [hx.h i, e _ (i 0).isLt _ (i 1).isLt _ (i 2).isLt]⟩

/-! ## Normalization -/
section Norm
variable {N b : ℕ} (w e : BitVec 32) (hr : (Sh2 N b).ReducesTo [0] (Sh1 b)) (hu : 0 < Sh0.numel)
  (h1 : (Sh1 b).BroadcastsInDim (Sh2 1 b) ![1]) (h01 : (Sh2 1 b).BroadcastsInDim (Sh2 N b) ![0, 1])
  (h0 : Sh0.BroadcastsInDim (Sh2 1 b) ![]) (hN : Sh0.BroadcastsInDim (Sh2 N b) ![])

/-- An array less its column means. -/
def cen (x : FVec Ideal (Sh2 N b) .f32) : FVec Ideal (Sh2 N b) .f32 :=
  subf x (broadcastInDim (Sh2 N b) ![0, 1] h01 (Host.divf (broadcastInDim (Sh2 1 b) ![1] h1 (Host.reduceAdd x (constant Sh0 .f32 0x00000000#32) hr hu)) (broadcastInDim (Sh2 1 b) ![] h0 (constant Sh0 .f32 w))))

/-- The number of rows, as the reference computes it. -/
def cnt : FVec Ideal Sh0 .f32 := subf (constant Sh0 .f32 w) (sitofp .f32 (constantI Sh0 32 0#32))

/-- An array normalized by its columns. -/
def nrm (x : FVec Ideal (Sh2 N b) .f32) : FVec Ideal (Sh2 N b) .f32 :=
  Host.divf (cen w hr hu h1 h01 h0 x) (broadcastInDim (Sh2 N b) ![0, 1] h01 (Host.sqrt (addf (select (broadcastInDim (Sh2 1 b) ![] h0 (cmpf .ogt (cnt w) (constant Sh0 .f32 0x00000000#32))) (Host.divf (broadcastInDim (Sh2 1 b) ![1] h1 (Host.reduceAdd (mulf (cen w hr hu h1 h01 h0 x) (cen w hr hu h1 h01 h0 x)) (constant Sh0 .f32 0x00000000#32) hr hu)) (broadcastInDim (Sh2 1 b) ![] h0 (cnt w))) (broadcastInDim (Sh2 1 b) ![] h0 (id (constant Sh0 .f32 0x7FC00000#32)))) (broadcastInDim (Sh2 1 b) ![] h0 (constant Sh0 .f32 e)))))

variable (hl : Ideal.ofBits .f32 w = (((N : ℕ) : ℝ) : EReal)) (hp : 0 < ((N : ℕ) : ℝ)) (ε : ℝ) [Lit e ε] [CP ε]
  (x : FVec Ideal (Sh2 N b) .f32) (f : M) [R2 x f]

include hl hp in
theorem cen_R : R2 (cen w hr hu h1 h01 h0 x) (fun i j => f i j - mean N f j) := by
  haveI : Lit w ((N : ℕ) : ℝ) := ⟨hl⟩
  haveI : CP ((N : ℕ) : ℝ) := ⟨hp⟩
  apply R2.congr
  · unfold cen; infer_instance
  · intro i _ j _; rfl

theorem var_nn (N : ℕ) (f : M) (j : ℕ) : 0 ≤ var N f j := div_nonneg (Finset.sum_nonneg fun _ _ => mul_self_nonneg _) (Nat.cast_nonneg _)

include hl hp in
theorem nrm_R : R2 (nrm w e hr hu h1 h01 h0 x) (fun i j => (f i j - mean N f j) / Real.sqrt (var N f j + ε)) := by
  haveI : Lit w ((N : ℕ) : ℝ) := ⟨hl⟩
  haveI : CP ((N : ℕ) : ℝ) := ⟨hp⟩
  haveI := cen_R w hr hu h1 h01 h0 hl hp x f
  haveI : R0 (cnt w) (((N : ℕ) : ℝ) - 0) := by unfold cnt; infer_instance
  apply R2.congr
  · unfold nrm; infer_instance
  · intro i _ j _
    simp only [dvd, rowB, sq, add, kc, ofRow, colsum, mul, var, sub_zero]

/-- Batch normalization. -/
def bnT (x : FVec Ideal (Sh2 N b) .f32) (g be : FVec Ideal (Sh1 b) .f32) : FVec Ideal (Sh2 N b) .f32 :=
  addf (mulf (nrm w 0x3727C5AC#32 hr hu h1 h01 h0 x) (broadcastInDim (Sh2 N b) ![0, 1] h01 (broadcastInDim (Sh2 1 b) ![1] h1 g))) (broadcastInDim (Sh2 N b) ![0, 1] h01 (broadcastInDim (Sh2 1 b) ![1] h1 be))

include hl hp in
theorem bnT_R (g be : FVec Ideal (Sh1 b) .f32) (fg fb : ℕ → ℝ) [R1 g fg] [R1 be fb] : R2 (bnT w hr hu h1 h01 h0 x g be) (bn N f fg fb) := by
  haveI := nrm_R w 0x3727C5AC#32 hr hu h1 h01 h0 hl hp eps0 x f
  apply R2.congr
  · unfold bnT; infer_instance
  · intro i _ j _; rfl

/-- The activation's gate. -/
def gateT (x : FVec Ideal (Sh2 N b) .f32) : FVec Ideal (Sh2 N b) .f32 :=
  Host.divf (broadcastInDim (Sh2 N b) ![] hN (constant Sh0 .f32 0x3F800000#32)) (addf (broadcastInDim (Sh2 N b) ![] hN (constant Sh0 .f32 0x3F800000#32)) (Host.exp (Host.negf (nrm w 0x322BCC77#32 hr hu h1 h01 h0 x))))

include hl hp in
theorem gateT_R : R2 (gateT w hr hu h1 h01 h0 hN x) (gate N f) := by
  haveI := nrm_R w 0x322BCC77#32 hr hu h1 h01 h0 hl hp eps1 x f
  apply R2.congr
  · unfold gateT; infer_instance
  · intro i _ j _; rfl

/-- The activation. -/
def diceT (x y : FVec Ideal (Sh2 N b) .f32) (al : FVec Ideal (Sh1 b) .f32) : FVec Ideal (Sh2 N b) .f32 :=
  addf (mulf y x) (mulf (mulf (subf (broadcastInDim (Sh2 N b) ![] hN (constant Sh0 .f32 0x3F800000#32)) y) (broadcastInDim (Sh2 N b) ![0, 1] h01 (broadcastInDim (Sh2 1 b) ![1] h1 al))) x)

theorem diceT_R (y : FVec Ideal (Sh2 N b) .f32) (al : FVec Ideal (Sh1 b) .f32) (fa : ℕ → ℝ) [R2 y (gate N f)] [R1 al fa] :
    R2 (diceT h1 h01 hN x y al) (dice N f fa) := by
  apply R2.congr
  · unfold diceT; infer_instance
  · intro i _ j _; rfl
end Norm

/-- A dense layer. -/
def denseT {N k b : ℕ} (d : DotDims (Sh2 N k) (Sh2 k b) (Sh2 N b)) (h1 : (Sh1 b).BroadcastsInDim (Sh2 1 b) ![1]) (h01 : (Sh2 1 b).BroadcastsInDim (Sh2 N b) ![0, 1])
    (x : FVec Ideal (Sh2 N k) .f32) (w : FVec Ideal (Sh2 k b) .f32) (c : FVec Ideal (Sh1 b) .f32) : FVec Ideal (Sh2 N b) .f32 :=
  addf (Host.dotGeneral d none x w) (broadcastInDim (Sh2 N b) ![0, 1] h01 (broadcastInDim (Sh2 1 b) ![1] h1 c))

theorem denseT_R {N k b : ℕ} (d : DotDims (Sh2 N k) (Sh2 k b) (Sh2 N b)) (hd : d = DotDims.plain N k b) (h1 : (Sh1 b).BroadcastsInDim (Sh2 1 b) ![1]) (h01 : (Sh2 1 b).BroadcastsInDim (Sh2 N b) ![0, 1])
    (x : FVec Ideal (Sh2 N k) .f32) (w : FVec Ideal (Sh2 k b) .f32) (c : FVec Ideal (Sh1 b) .f32) (fx fw : M) (fc : ℕ → ℝ) [R2 x fx] [R2 w fw] [R1 c fc] :
    R2 (denseT d h1 h01 x w c) (dense k fx fw fc) := by
  haveI : Plain d := ⟨hd⟩
  apply R2.congr
  · unfold denseT; infer_instance
  · intro i _ j _; rfl

/-! ## Joined features -/

/-- A row's features repeated along its positions. -/
theorem rep_R (x : FVec Ideal S4096x16 .f32) (f : M) (hx : R2 x f) :
    R3 (a := 4096) (b := 200) (c := 16) (φ := .f32) (broadcastInDim S4096x200x16 ![0, 1, 2] bcast_S4096x1x16_S4096x200x16_0_1_2 (broadcastInDim S4096x1x16 ![0, 2] bcast_S4096x16_S4096x1x16_0_2 x)) (fun i _ k => f i k) :=
  ⟨fun i => hx.h _⟩

/-- Two-axis rows, read flat. -/
theorem flat_R (x : FVec Ideal S4096x200x64 .f32) (f : ℕ → ℕ → ℕ → ℝ) (hx : R3 x f) :
    R2 (a := 819200) (b := 64) (φ := .f32) (shapeCast S819200x64 x shapeCasts_S4096x200x64_S819200x64) (fun m k => f (m / 200) (m % 200) k) :=
  ⟨fun i => by
    obtain ⟨m, k, rfl⟩ := idx2 i
    have hm := m.isLt
    rw [shapeCast_apply x _ _ (ValueIdx.ix3 (⟨m.val / 200, by omega⟩ : Fin 4096) (⟨m.val % 200, by omega⟩ : Fin 200) k) (by
      rw [Shape.rowMajor_val_three, Shape.rowMajor_val_two]
      show (m.val / 200 * 200 + m.val % 200) * 64 + k.val = m.val * 64 + k.val
      omega), hx.h]⟩

/-- Flat rows, read by row and position. -/
theorem fold_R (x : FVec Ideal S819200x1 .f32) (f : M) (hx : R2 x f) :
    R2 (a := 4096) (b := 200) (φ := .f32) (shapeCast S4096x200 x shapeCasts_S819200x1_S4096x200) (fun i t => f (200 * i + t) 0) :=
  ⟨fun i => by
    obtain ⟨m, k, rfl⟩ := idx2 i
    have hm := m.isLt
    have hk := k.isLt
    rw [shapeCast_apply x _ _ (ValueIdx.ix2 (⟨200 * m.val + k.val, by omega⟩ : Fin 819200) (0 : Fin 1)) (by
      rw [Shape.rowMajor_val_two, Shape.rowMajor_val_two]
      show (200 * m.val + k.val) * 1 + 0 = m.val * 200 + k.val
      omega), hx.h]; rfl⟩

/-- Four blocks of sixteen columns side by side. -/
theorem cat4_R (x0 x1 x2 x3 : FVec Ideal S4096x200x16 .f32) (f0 f1 f2 f3 : ℕ → ℕ → ℕ → ℝ) (h0 : R3 x0 f0) (h1 : R3 x1 f1) (h2 : R3 x2 f2) (h3 : R3 x3 f3)
    (h : Shape.Concatenates ([⟨S4096x200x16, x0⟩, ⟨S4096x200x16, x1⟩, ⟨S4096x200x16, x2⟩, ⟨S4096x200x16, x3⟩].map (fun p : (s : Shape) × (s.Idx → Ideal .f32) => p.1)) S4096x200x64 2) :
    R3 (a := 4096) (b := 200) (c := 64) (φ := .f32) (concatenate S4096x200x64 2 [⟨S4096x200x16, x0⟩, ⟨S4096x200x16, x1⟩, ⟨S4096x200x16, x2⟩, ⟨S4096x200x16, x3⟩] h)
      (fun i t k => if k < 16 then f0 i t k else if k < 32 then f1 i t (k - 16) else if k < 48 then f2 i t (k - 32) else f3 i t (k - 48)) :=
  ⟨fun i => by
    have hk : (i 2).val < 64 := (i 2).isLt
    have piece (n pre : ℕ) (x : FVec Ideal S4096x200x16 .f32) (f : ℕ → ℕ → ℕ → ℝ) (hx : R3 x f) (hn : n < 4)
        (e : ([⟨S4096x200x16, x0⟩, ⟨S4096x200x16, x1⟩, ⟨S4096x200x16, x2⟩, ⟨S4096x200x16, x3⟩] : List ((s : Shape) × (s.Idx → Ideal .f32)))[n]'hn = ⟨S4096x200x16, x⟩)
        (hpre : (((([⟨S4096x200x16, x0⟩, ⟨S4096x200x16, x1⟩, ⟨S4096x200x16, x2⟩, ⟨S4096x200x16, x3⟩] : List ((s : Shape) × (s.Idx → Ideal .f32))).take n).map (·.1)).map fun s => if h : s.rank = S4096x200x64.rank then s.size ((2 : Fin 3).cast h.symm) else 0).sum = pre)
        (lo : pre ≤ (i 2).val) (hi : (i 2).val < pre + 16) :
        concatenate S4096x200x64 2 [⟨S4096x200x16, x0⟩, ⟨S4096x200x16, x1⟩, ⟨S4096x200x16, x2⟩, ⟨S4096x200x16, x3⟩] h i = ((f (i 0).val (i 1).val ((i 2).val - pre) : ℝ) : EReal) := by
      rw [concatenate_apply_piece (t := S4096x200x64) (2 : Fin 3) _ h i n hn S4096x200x16 x e rfl pre hpre
        (ValueIdx.ix3 (i 0) (i 1) (⟨(i 2).val - pre, by omega⟩ : Fin 16)) ?_ ?_, hx.h]
      · intro b hb
        match b with
        | ⟨0, _⟩ => rfl
        | ⟨1, _⟩ => rfl
        | ⟨2, _⟩ => exact absurd rfl hb
      · show pre + ((i 2).val - pre) = (i 2).val
        omega
    by_cases c0 : (i 2).val < 16
    · rw [if_pos c0]; exact piece 0 0 x0 f0 h0 (by decide) rfl rfl (Nat.zero_le _) (by omega)
    rw [if_neg c0]
    by_cases c1 : (i 2).val < 32
    · rw [if_pos c1]; exact piece 1 16 x1 f1 h1 (by decide) rfl rfl (by omega) (by omega)
    rw [if_neg c1]
    by_cases c2 : (i 2).val < 48
    · rw [if_pos c2]; exact piece 2 32 x2 f2 h2 (by decide) rfl rfl (by omega) (by omega)
    rw [if_neg c2]
    exact piece 3 48 x3 f3 h3 (by decide) rfl rfl (by omega) (by omega)⟩

/-- Five blocks of sixteen columns side by side. -/
theorem cat5_R (x0 x1 x2 x3 x4 : FVec Ideal S4096x16 .f32) (f0 f1 f2 f3 f4 : M) (h0 : R2 x0 f0) (h1 : R2 x1 f1) (h2 : R2 x2 f2) (h3 : R2 x3 f3) (h4 : R2 x4 f4)
    (h : Shape.Concatenates ([⟨S4096x16, x0⟩, ⟨S4096x16, x1⟩, ⟨S4096x16, x2⟩, ⟨S4096x16, x3⟩, ⟨S4096x16, x4⟩].map (fun p : (s : Shape) × (s.Idx → Ideal .f32) => p.1)) S4096x80 1) :
    R2 (a := 4096) (b := 80) (φ := .f32) (concatenate S4096x80 1 [⟨S4096x16, x0⟩, ⟨S4096x16, x1⟩, ⟨S4096x16, x2⟩, ⟨S4096x16, x3⟩, ⟨S4096x16, x4⟩] h)
      (xmlp f0 f1 f2 f3 f4) :=
  ⟨fun i => by
    have hk : (i 1).val < 80 := (i 1).isLt
    have piece (n pre : ℕ) (x : FVec Ideal S4096x16 .f32) (f : M) (hx : R2 x f) (hn : n < 5)
        (e : ([⟨S4096x16, x0⟩, ⟨S4096x16, x1⟩, ⟨S4096x16, x2⟩, ⟨S4096x16, x3⟩, ⟨S4096x16, x4⟩] : List ((s : Shape) × (s.Idx → Ideal .f32)))[n]'hn = ⟨S4096x16, x⟩)
        (hpre : (((([⟨S4096x16, x0⟩, ⟨S4096x16, x1⟩, ⟨S4096x16, x2⟩, ⟨S4096x16, x3⟩, ⟨S4096x16, x4⟩] : List ((s : Shape) × (s.Idx → Ideal .f32))).take n).map (·.1)).map fun s => if h : s.rank = S4096x80.rank then s.size ((1 : Fin 2).cast h.symm) else 0).sum = pre)
        (lo : pre ≤ (i 1).val) (hi : (i 1).val < pre + 16) :
        concatenate S4096x80 1 [⟨S4096x16, x0⟩, ⟨S4096x16, x1⟩, ⟨S4096x16, x2⟩, ⟨S4096x16, x3⟩, ⟨S4096x16, x4⟩] h i = ((f (i 0).val ((i 1).val - pre) : ℝ) : EReal) := by
      rw [concatenate_apply_piece (t := S4096x80) (1 : Fin 2) _ h i n hn S4096x16 x e rfl pre hpre
        (ValueIdx.ix2 (i 0) (⟨(i 1).val - pre, by omega⟩ : Fin 16)) ?_ ?_, hx.h]
      · intro b hb
        match b with
        | ⟨0, _⟩ => rfl
        | ⟨1, _⟩ => exact absurd rfl hb
      · show pre + ((i 1).val - pre) = (i 1).val
        omega
    unfold xmlp
    by_cases c0 : (i 1).val < 16
    · rw [if_pos c0]; exact piece 0 0 x0 f0 h0 (by decide) rfl rfl (Nat.zero_le _) (by omega)
    rw [if_neg c0]
    by_cases c1 : (i 1).val < 32
    · rw [if_pos c1]; exact piece 1 16 x1 f1 h1 (by decide) rfl rfl (by omega) (by omega)
    rw [if_neg c1]
    by_cases c2 : (i 1).val < 48
    · rw [if_pos c2]; exact piece 2 32 x2 f2 h2 (by decide) rfl rfl (by omega) (by omega)
    rw [if_neg c2]
    by_cases c3 : (i 1).val < 64
    · rw [if_pos c3]; exact piece 3 48 x3 f3 h3 (by decide) rfl rfl (by omega) (by omega)
    rw [if_neg c3]
    exact piece 4 64 x4 f4 h4 (by decide) rfl rfl (by omega) (by omega)⟩

/-! ## The masked sum over positions -/

theorem before_iff (t : ℕ) (ht : t < 200) (v : BitVec 32) : IntOp.cmpi .slt (BitVec.ofNat 32 t) v = if (t : ℝ) < ((v.toInt : ℤ) : ℝ) then 1#1 else 0#1 := by
  have e : (BitVec.ofNat 32 t).toInt = (t : ℤ) := by
    rw [BitVec.toInt_eq_toNat_cond, BitVec.toNat_ofNat, Nat.mod_eq_of_lt (by omega), if_pos (by omega)]
  have : ((t : ℝ) < ((v.toInt : ℤ) : ℝ)) ↔ ((t : ℤ) < v.toInt) := by rw [← Int.cast_natCast (R := ℝ) t]; exact Int.cast_lt
  simp only [IntOp.cmpi, BitVec.slt_eq_decide, e, this]
  by_cases h : (t : ℤ) < v.toInt <;> simp [h]

/-- The scores of the positions before a row's length, nothing after. -/
def maskT (s : FVec Ideal S4096x200 .f32) (len : IVec S4096 32) : FVec Ideal S4096x200 .f32 :=
  select (cmpi .slt (broadcastInDim S4096x200 ![0, 1] bcast_S1x200_S4096x200_0_1 (broadcastInDim S1x200 ![1] bcast_S200_S1x200_1 (iotaInDim S200 32 0))) (broadcastInDim S4096x200 ![0, 1] bcast_S4096x1_S4096x200_0_1 (broadcastInDim S4096x1 ![0] bcast_S4096_S4096x1_0 len))) s (broadcastInDim S4096x200 ![] bcast_S_S4096x200 (id (constant S_ .f32 0x00000000#32)))

/-- The lengths as real numbers. -/
def lenR (len : IVec S4096 32) : ℕ → ℝ := fun i => if h : i < 4096 then (((len (ValueIdx.ix1 (⟨i, h⟩ : Fin 4096))).toInt : ℤ) : ℝ) else 0

theorem maskT_R (s : FVec Ideal S4096x200 .f32) (len : IVec S4096 32) (f : M) (hs : R2 s f) : R2 (maskT s len) (fun i t => if (t : ℝ) < lenR len i then f i t else 0) :=
  ⟨fun i => by
    obtain ⟨n, t, rfl⟩ := idx2 i
    show Scalar.select (IntOp.cmpi .slt (BitVec.ofNat 32 t.val) (len _)) (s _) (Ideal.ofBits .f32 0x00000000#32) = ((if ((t.val : ℕ) : ℝ) < lenR len n.val then f n.val t.val else 0 : ℝ) : EReal)
    have e : lenR len n.val = (((len (ValueIdx.ix1 n)).toInt : ℤ) : ℝ) := dif_pos n.isLt
    have k : IntOp.cmpi .slt (BitVec.ofNat 32 t.val) (len (ValueIdx.ix1 n)) = _ := before_iff t.val t.isLt (len (ValueIdx.ix1 n))
    rw [e]
    refine (congrArg (fun z => Scalar.select z (s _) (Ideal.ofBits .f32 0x00000000#32)) ?_ : _ = Scalar.select (if ((t.val : ℕ) : ℝ) < (((len (ValueIdx.ix1 n)).toInt : ℤ) : ℝ) then 1#1 else 0#1) (s (ValueIdx.ix2 n t)) (Ideal.ofBits .f32 0x00000000#32)).trans ?_
    · rw [← k]; refine congrArg (fun z => IntOp.cmpi .slt (BitVec.ofNat 32 t.val) (len z)) (funext fun a => match a with | ⟨0, _⟩ => rfl)
    · rw [hs.h, Ideal.ofBits_zero_f32]
      by_cases h : ((t.val : ℕ) : ℝ) < (((len (ValueIdx.ix1 n)).toInt : ℤ) : ℝ)
      · rw [if_pos h, if_pos h]; rfl
      · rw [if_neg h, if_neg h]; rfl⟩

/-- The weighted sum of the positions' rows. -/
def sumT (z : FVec Ideal S4096x200 .f32) (s : FVec Ideal S4096x200x16 .f32) : FVec Ideal S4096x16 .f32 :=
  Host.reduceAdd (mulf (broadcastInDim S4096x200x16 ![0, 1, 2] bcast_S4096x200x1_S4096x200x16_0_1_2 (broadcastInDim S4096x200x1 ![0, 1] bcast_S4096x200_S4096x200x1_0_1 z)) s) (constant S_ .f32 0x00000000#32) reducesTo_S4096x200x16_S4096x16_d1 h_S_

theorem sumT_R (z : FVec Ideal S4096x200 .f32) (s : FVec Ideal S4096x200x16 .f32) (f : M) (g : ℕ → ℕ → ℕ → ℝ) (hz : R2 z f) (hs : R3 s g) :
    R2 (sumT z s) (fun i k => ∑ n ∈ Finset.range 200, f i n * g i n k) := by
  haveI : R3 (a := 4096) (b := 200) (c := 16) (φ := .f32) (broadcastInDim S4096x200x16 ![0, 1, 2] bcast_S4096x200x1_S4096x200x16_0_1_2 (broadcastInDim S4096x200x1 ![0, 1] bcast_S4096x200_S4096x200x1_0_1 z)) (fun i j _ => f i j) :=
    ⟨fun i => hz.h _⟩
  apply R2.congr
  · unfold sumT; infer_instance
  · intro i _ j _; rfl

end Cert.Proof.Reals

end
-- ==== Proof.Pool.lean ====
/-
  The dense kernel's pooling on real numbers: the second layer's activation, the scores, the mask of the row's length, and
  the weighted sum of the row's positions.
-/
module

public import Idealize.ShloMosaic.Lib.StackMember
public import proofs.«01_k».proof.Proof.Tower

@[expose] public section

set_option maxHeartbeats 1000000

noncomputable section

namespace Cert.Proof.KernelIdeal

open Cert.KernelIdeal Cert.KernelIdeal.Gen
open Idealize.ShloMosaic
open Cert.Proof.Reals
open scoped BigOperators
open Finset (range)

/-- A product contracting both operands' rows. -/
instance tmm_R {φ ψ : FTy} (prec : Option ContractPrecision) (x : FVec Ideal S3200x128 φ) (y : FVec Ideal S3200x128 ψ) (z : FVec Ideal S128x128 .f32) (f g : Cert.Proof.Reals.M)
    [R2 x f] [R2 y g] [R2 z (kc 0)] : R2 (FloatOps.matmul dot_S3200x128_S3200x128_S128x128_0_0_1_1_n_n prec x y z) (tmm 3200 f g) := ⟨fun i => by
  rw [Ideal.matmul_apply, ← Equiv.sum_comp (ValueIdx.contrEquiv1 dot_S3200x128_S3200x128_S128x128_0_0_1_1_n_n 3200 rfl rfl).symm, R2.h (x := z)]
  show ((0 : ℝ) : EReal) + _ = ((∑ n ∈ Finset.range 3200, f n (i 0).val * g n (i 1).val : ℝ) : EReal)
  rw [EReal.coe_zero, zero_add, coe_sum, Finset.sum_range]
  refine Finset.sum_congr rfl fun c _ => ?_
  have hc := ValueIdx.contrEquiv1_symm_val dot_S3200x128_S3200x128_S128x128_0_0_1_1_n_n 3200 rfl rfl c
  rw [R2.h (x := x), R2.h (x := y), EReal.coe_mul]
  exact congrArg₂ (· * ·) (congrArg (fun q => ((f q _ : ℝ) : EReal)) hc) (congrArg (fun q => ((g q _ : ℝ) : EReal)) hc)⟩

section Pool
variable {K : Win Ideal} {p : Par} {len1 len2 : ℕ → ℝ} (W : WinR K p len1 len2) (T S : Cert.Proof.Reals.M) (n : ℕ)
  {X : Vec Ideal S3200x128 .f32} {Tb : Vec Ideal S128x16 .f32} (hn : n < 32) (B : BlkR T S n X Tb) {a : Tower Ideal}

/-- A tower's rows are both layers' complete sums. -/
structure Done (p : Par) (T S : Cert.Proof.Reals.M) (a : Tower Ideal) : Prop where
  d0 : Done0 p T S a
  h2 : R2 (φ := .f32) a.r2 (ofRow (colsum NP (H1 p T S)))
  h3 : R2 (φ := .f32) a.r3 (ofRow (colsum NP (mul (H1 p T S) (H1 p T S))))

/-- The activation's gate, entry by entry. -/
def gat (N : ℕ) (h : Cert.Proof.Reals.M) (g b : ℕ → ℝ) (i j : ℕ) : ℝ :=
  (1 + Real.exp (-((bn N h g b i j - b j) * (Real.sqrt (slope N h g j * slope N h g j * var N h j + eps1))⁻¹)))⁻¹

section Gate
variable {N : ℕ} [Cnt N] (h : Cert.Proof.Reals.M) (fg fb fal : ℕ → ℝ) {s0 s1 g b : Vec Ideal S1x16 .f32} {P : Vec Ideal S16x128 .f32} {al : Vec Ideal S1x128 .f32} {x : Vec Ideal S3200x128 .f32}
  [R2 (φ := .f32) x (fun r l => h (posn n r l) (l % 16))]
  [i0 : R2 (φ := .f32) s0 (ofRow (colsum N h))] [i1 : R2 (φ := .f32) s1 (ofRow (colsum N (mul h h)))] [i2 : R2 (φ := .f32) g (ofRow fg)] [i3 : R2 (φ := .f32) b (ofRow fb)]
  [i4 : R2 (φ := .f32) P mP] [i5 : R2 (φ := .f32) al (lane fal)]

theorem pay43_R : R2 (k1_pay43 x (k1_pay36 g) (k1_pay37 b) (k1_pay38 s0) (k1_pay39 s0 s1) (Scalar.ofBits .f32 0x00000000#32) P P) (fun r l => bn N h fg fb (posn n r l) (l % 16)) :=
  pay19_R n (s0 := s0) (s1 := s1) (g := g) (b := b) (P := P) (x := x) h fg fb

theorem gate_R {y : FVec Ideal S3200x128 .f32} {v87 : FVec Ideal S1x16 .f32} {v100 : FVec Ideal S1x128 .f32} {v102 : FVec Ideal S16x128 .f32}
    [R2 v87 (ofRow fun j => slope N h fg j * slope N h fg j * var N h j)] [R2 y (fun r l => bn N h fg fb (posn n r l) (l % 16))] [R2 v100 (lane fb)] [R2 v102 mP] :
    R2 (mulf (logistic (mulf (subf y (broadcastTo S3200x128 v100 broadcasts_S1x128_S3200x128)) (broadcastTo S3200x128 (rsqrt (addf (matmul dot_S1x16_S16x128_S1x128_1_0_0_1_n_n none v87 v102 (constant S1x128 .f32 0x00000000#32)) (broadcast S1x128 (Scalar.ofBits (F := Ideal) .f32 0x322BCC77#32)))) broadcasts_S1x128_S3200x128)))
      (broadcastTo S3200x128 (subf (broadcast S1x128 (Scalar.ofBits (F := Ideal) .f32 0x3F800000#32)) (k1_pay44 al)) broadcasts_S1x128_S3200x128))
      (fun r l => gat N h fg fb (posn n r l) (l % 16) * (1 - fal (l % 16))) := by
  have : R2 (k1_pay44 al) (lane fal) := by unfold k1_pay44; infer_instance
  apply R2.congr
  · infer_instance
  · intro r hr l hl
    simp only [add, mul, sub, lg, rs, kc, rowB]
    rw [mm_P]
    rfl

theorem pay45_R : R2 (k1_pay45 x (k1_pay36 g) (k1_pay37 b) (k1_pay38 s0) (k1_pay39 s0 s1) (Scalar.ofBits .f32 0x00000000#32) P P P P al) (fun r l => gat N h fg fb (posn n r l) (l % 16) * (1 - fal (l % 16))) := by
  have := pay18_R (s0 := s0) (s1 := s1) (g := g) h fg
  have := pay43_R n (x := x) (s0 := s0) (s1 := s1) (g := g) (b := b) (P := P) h fg fb
  have := pay20_R (s0 := s0) (s1 := s1) (g := g) (b := b) (P := P) h fg fb
  have h21 : R2 (k1_pay21 P) mP := by unfold k1_pay21; infer_instance
  exact gate_R n h fg fb fal (al := al) (v87 := k1_pay18 s0 s1 g) (v100 := k1_pay20 s0 s1 g b P) (v102 := k1_pay21 P)
end Gate

/-- The weighted sums of a block's rows, from the activation's factors, for the length's column `c`. -/
theorem sum_eq (h : Cert.Proof.Reals.M) {b k : ℕ} (hb : b < 128) (hk : k < 16) :
    mm 128 (tmm 3200 mR h) mPt b k = ∑ t ∈ range 200, h (25 * b + t / 8) (16 * (t % 8) + k) := by
  rw [mm_Pt _ _ hk, show (200 : ℕ) = 25 * 8 from rfl, sum_mul_range, Finset.sum_comm]
  refine Finset.sum_congr rfl fun g hg => ?_
  have := Finset.mem_range.mp hg
  unfold tmm mR
  rw [show (3200 : ℕ) = 128 * 25 from rfl, sum_mul_range, Finset.sum_eq_single b]
  · refine Finset.sum_congr rfl fun r hr => ?_
    have := Finset.mem_range.mp hr
    rw [if_pos (by omega), one_mul, show (8 * r + g) / 8 = r by omega, show (8 * r + g) % 8 = g by omega]
  · intro b' _ hne
    refine Finset.sum_eq_zero fun r hr => ?_
    have := Finset.mem_range.mp hr
    rw [if_neg (by omega), zero_mul]
  · intro h; exact absurd (Finset.mem_range.mpr hb) h

/-- The scores at a block's positions. -/
theorem score_eq (hpad : ∀ k, 8 ≤ k → k < 16 → p.w2 k = 0) (d : Cert.Proof.Reals.M) (hd : ∀ m j, d m j = dice NP (Y1 p T S) p.al1 m j) {r l : ℕ} (hl : l < 128) :
    mm 128 (fun r l => d (posn n r l) (l % 16)) (kron fun k _ => p.w2 k) r l + p.b2 = score p T S (posn n r l) := by
  rw [mm_kron _ _ _ hl]
  unfold score
  congr 1
  rw [show (16 : ℕ) = 8 + 8 from rfl, Finset.sum_range_add]
  rw [show ∀ x y z : ℝ, y = 0 → x = z → x + y = z from fun x y z h h' => by rw [h, h', add_zero]]
  · refine Finset.sum_eq_zero fun k hk => ?_
    have := Finset.mem_range.mp hk
    rw [hpad _ (by omega) (by omega), mul_zero]
  · refine Finset.sum_congr rfl fun k hk => ?_
    have := Finset.mem_range.mp hk
    rw [show posn n r ((8 + 8) * (l / (8 + 8)) + k) = posn n r l by unfold posn; omega, show ((8 + 8) * (l / (8 + 8)) + k) % 16 = k by omega, hd]

theorem al_R {al : Vec Ideal S1x128 .f32} (f : ℕ → ℝ) [R2 (φ := .f32) al (lane f)] : R2 (k1_pay46 al) (fun r l => f (l % 16)) := by
  apply R2.congr
  · unfold k1_pay46 k1_pay44; infer_instance
  · intro r _ l _; rfl

/-- The pooled row of a block, for the length's column `c`. -/
theorem pool_eq (hpad : ∀ k, 8 ≤ k → k < 16 → p.w2 k = 0) (c : ℕ) (lv : Cert.Proof.Reals.M) (len : ℕ → ℝ) {b k : ℕ} (hb : b < 128) (hk : k < 16) (hlen : lv b c = len (128 * n + b)) :
    mm 128 (tmm 3200 mR (mul (fun r l => S (posn n r l) (l % 16))
      (selLt (fun r l => ((r % 25 * 8 + l / 16 : ℕ) : ℝ)) (colB (shiftC c (mm 128 mR lv)))
        (add (mm 128 (mul (fun r l => bn NP (H1 p T S) p.g1 p.be1 (posn n r l) (l % 16)) (add (fun r l => gat NP (H1 p T S) p.g1 p.be1 (posn n r l) (l % 16) * (1 - p.al1 (l % 16))) fun r l => p.al1 (l % 16)))
          (kron fun k _ => p.w2 k)) (oneB (kc p.b2))) (kc 0)))) mPt b k = Cert.Proof.Reals.pool p T S len (128 * n + b) k := by
  rw [sum_eq _ hb hk]
  unfold Cert.Proof.Reals.pool
  refine Finset.sum_congr rfl fun t ht => ?_
  have := Finset.mem_range.mp ht
  have e := score_eq (p := p) T S n hpad (fun m j => bn NP (H1 p T S) p.g1 p.be1 m j * (gat NP (H1 p T S) p.g1 p.be1 m j * (1 - p.al1 j) + p.al1 j))
    (fun m j => (dice_bn NP (Cnt.pos NP) (H1 p T S) p.g1 p.be1 p.al1 m j).symm) (r := 25 * b + t / 8) (l := 16 * (t % 8) + k) (by omega)
  have hp : posn n (25 * b + t / 8) (16 * (t % 8) + k) = 200 * (128 * n + b) + t := by unfold posn; omega
  refine Eq.trans ?_ (mul_comm _ _)
  show S (posn n _ _) _ * (if _ then _ else _) = _
  rw [hp, show (16 * (t % 8) + k) % 16 = k by omega]
  congr 1
  refine if_congr ?_ (e.trans (by rw [hp])) rfl
  show (((25 * b + t / 8) % 25 * 8 + (16 * (t % 8) + k) / 16 : ℕ) : ℝ) < mm 128 mR lv (25 * b + t / 8) (c + 0) ↔ _
  rw [mm_R _ (by omega), show (25 * b + t / 8) % 25 * 8 + (16 * (t % 8) + k) / 16 = t by omega, show (25 * b + t / 8) / 25 = b by omega, Nat.add_zero, hlen]

variable (A : Done p T S a) {l : Vec Ideal S128x2 .f32}
include W B hn A

theorem pool1_R (hl : R2 (φ := .f32) l (fun b c => if c = 0 then len1 (128 * n + b) else len2 (128 * n + b))) :
    R2 (pool1 K X Tb a l) (fun b k => Cert.Proof.Reals.pool p T S len1 (128 * n + b) k) := by
  have := lay1_R W T S n hn B A.d0
  have := A.h2; have := A.h3; have := W.h10; have := W.h21; have := W.h22; have := W.h23; have := W.h24; have := W.h25; have := W.h8; have := W.h9; have := W.h11; have := B.hX
  have := pay43_R n (x := lay1 K X Tb a) (s0 := a.r2) (s1 := a.r3) (g := K.k21) (b := K.k22) (P := K.k10) (N := NP) (H1 p T S) p.g1 p.be1
  have := pay45_R n (x := lay1 K X Tb a) (s0 := a.r2) (s1 := a.r3) (g := K.k21) (b := K.k22) (P := K.k10) (N := NP) (H1 p T S) p.g1 p.be1 p.al1 (al := K.k23)
  have := al_R (al := K.k23) p.al1
  have : R2 (k1_pay25 X) (fun r l => S (posn n r l) (l % 16)) := by unfold k1_pay25; infer_instance
  apply R2.congr
  · unfold pool1 k1_pay5 k1_pay47; infer_instance
  · intro b hb k hk
    exact pool_eq T S n W.pad 0 _ _ hb hk rfl

theorem pool2_R (hl : R2 (φ := .f32) l (fun b c => if c = 0 then len1 (128 * n + b) else len2 (128 * n + b))) :
    R2 (pool2 K X Tb a l) (fun b k => Cert.Proof.Reals.pool p T S len2 (128 * n + b) k) := by
  have := lay1_R W T S n hn B A.d0
  have := A.h2; have := A.h3; have := W.h10; have := W.h21; have := W.h22; have := W.h23; have := W.h24; have := W.h25; have := W.h8; have := W.h9; have := W.h11; have := B.hX
  have := pay43_R n (x := lay1 K X Tb a) (s0 := a.r2) (s1 := a.r3) (g := K.k21) (b := K.k22) (P := K.k10) (N := NP) (H1 p T S) p.g1 p.be1
  have := pay45_R n (x := lay1 K X Tb a) (s0 := a.r2) (s1 := a.r3) (g := K.k21) (b := K.k22) (P := K.k10) (N := NP) (H1 p T S) p.g1 p.be1 p.al1 (al := K.k23)
  have := al_R (al := K.k23) p.al1
  have : R2 (k1_pay25 X) (fun r l => S (posn n r l) (l % 16)) := by unfold k1_pay25; infer_instance
  apply R2.congr
  · unfold pool2 k1_pay9 k1_pay84; infer_instance
  · intro b hb k hk
    exact pool_eq T S n W.pad 1 _ _ hb hk rfl

end Pool

section Pooled
variable {V : (c : Dev nD) → (b : Ref sig .tc) → Buf (Elt Ideal) (c.tc.loc b)} {c : Dev nD}
  {p : Par} {len1 len2 : ℕ → ℝ} (W : WinR (win V c) p len1 len2) (T S : Cert.Proof.Reals.M)
include W

theorem pooled1_R (hX : ∀ n < 96, R2 (φ := .f32) (blk1 V c n) (fun r l => S (posn (n % 32) r l) (l % 16))) (hT : R2 (φ := .f32) (win V c).k5 T) :
    R2 (φ := .f32) (pooled1 V c) (Cert.Proof.Reals.pool p T S len1) := ⟨fun y => by
  have hs := sums1 W T S hX hT 32 le_rfl
  have hy := (blkOf y).isLt
  have hb : (64 + (blkOf y).val) % 32 = (blkOf y).val := by omega
  have h := (pool1_R W T S (blkOf y).val hy ⟨hb ▸ hX (64 + (blkOf y).val) (by omega), rows_R hT _⟩ (a := tw1 V c 64)
    ⟨⟨full ▸ hs.h0, full ▸ hs.h1⟩, full ▸ hs.h2, full ▸ hs.h3⟩ (rows2_R W.h7 (blkOf y))).h (inRow y)
  refine h.trans ?_
  show ((Cert.Proof.Reals.pool p T S len1 (128 * (blkOf y).val + (inRow y 0).val) (inRow y 1).val : ℝ) : EReal) = _
  rw [show 128 * (blkOf y).val + (inRow y 0).val = (y 0).val from Nat.div_add_mod _ 128]⟩

theorem pooled2_R (hX : ∀ n < 96, R2 (φ := .f32) (blk2 V c n) (fun r l => S (posn (n % 32) r l) (l % 16))) (hT : R2 (φ := .f32) (win V c).k6 T) :
    R2 (φ := .f32) (pooled2 V c) (Cert.Proof.Reals.pool p T S len2) := ⟨fun y => by
  have hs := sums1 W T S hX hT 32 le_rfl
  have hy := (blkOf y).isLt
  have hb : (64 + (blkOf y).val) % 32 = (blkOf y).val := by omega
  have h := (pool2_R W T S (blkOf y).val hy ⟨hb ▸ hX (64 + (blkOf y).val) (by omega), rows_R hT _⟩ (a := tw2 V c 64)
    ⟨⟨full ▸ hs.h0, full ▸ hs.h1⟩, full ▸ hs.h2, full ▸ hs.h3⟩ (rows2_R W.h7 (blkOf y))).h (inRow y)
  refine h.trans ?_
  show ((Cert.Proof.Reals.pool p T S len2 (128 * (blkOf y).val + (inRow y 0).val) (inRow y 1).val : ℝ) : EReal) = _
  rw [show 128 * (blkOf y).val + (inRow y 0).val = (y 0).val from Nat.div_add_mod _ 128]⟩
end Pooled

end Cert.Proof.KernelIdeal

end
-- ==== Proof.Mlp.lean ====
/-
  The dense kernel's final layers on real numbers: the three layers over the user's row, the two pooled rows and the two
  target rows, with the statistics of each layer taken over the whole batch in one pass.
-/
module

public import proofs.«01_k».proof.Proof.Pool

@[expose] public section

set_option maxHeartbeats 4000000
set_option synthInstance.maxHeartbeats 4000000
set_option synthInstance.maxSize 4096

noncomputable section

namespace Cert.Proof.KernelIdeal

open Cert.KernelIdeal Cert.KernelIdeal.Gen
open Idealize.ShloMosaic
open Cert.Proof.Reals
open scoped BigOperators
open Finset (range)

/-- The final layers' windows hold the parameters. -/
structure WinM (K : Win Ideal) (q : Mp) : Prop where
  h26 : R2 (φ := .f32) K.k26 q.w0
  h27 : R2 (φ := .f32) K.k27 (ofRow q.b0)
  h28 : R2 (φ := .f32) K.k28 (ofRow q.g0)
  h29 : R2 (φ := .f32) K.k29 (ofRow q.be0)
  h30 : R2 (φ := .f32) K.k30 (ofRow q.al0)
  h31 : R2 (φ := .f32) K.k31 q.w1
  h32 : R2 (φ := .f32) K.k32 (ofRow q.b1)
  h33 : R2 (φ := .f32) K.k33 (ofRow q.g1)
  h34 : R2 (φ := .f32) K.k34 (ofRow q.be1)
  h35 : R2 (φ := .f32) K.k35 (ofRow q.al1)
  h36 : R2 (φ := .f32) K.k36 q.w2
  h37 : R2 (φ := .f32) K.k37 (kc q.b2)

/-- The batch size as a real number. -/
class Cnt4 (N : ℕ) : Prop where
  e : (N : ℝ) = 4096
instance : Cnt4 NB := ⟨by simp [NB]⟩
theorem Cnt4.pos (N : ℕ) [h : Cnt4 N] : 0 < N := by
  have := h.e
  rcases Nat.eq_zero_or_pos N with rfl | h
  · norm_num at this
  · exact h

section Stats
variable (N : ℕ) [Cnt4 N] (h : Cert.Proof.Reals.M) (g b al : ℕ → ℝ)
theorem kmean : dvd (mm N (kc 1) h) (kc 4096) = ofRow (mean N h) := by
  funext i j
  simp only [dvd, mm, kc, ofRow, mean, one_mul]
  rw [Cnt4.e (N := N)]
theorem kvar : mx0 (sub (dvd (mm N (kc 1) (mul h h)) (kc 4096)) (mul (ofRow (mean N h)) (ofRow (mean N h)))) = ofRow (var N h) := by
  funext i j
  rw [show ofRow (var N h) i j = var N h j from rfl, ← var_max N (Cnt4.pos N)]
  simp only [dvd, ofRow, kc, mul, sub, mx0, mm, one_mul]
  rw [Cnt4.e (N := N)]
theorem kslope : mul (rs (add (ofRow (var N h)) (kc eps0))) (ofRow g) = ofRow (slope N h g) := by
  funext i j
  simp only [mul, rs, add, ofRow, kc, Cert.Proof.Reals.slope]
  ring
theorem kbn : add (mul (sub h (rowB (ofRow (mean N h)))) (rowB (ofRow (slope N h g)))) (rowB (ofRow b)) = bn N h g b := by
  funext i j
  simp only [mul, rs, add, sub, rowB, ofRow, bn, Cert.Proof.Reals.slope]
  rw [div_eq_mul_inv]; ring
theorem kdice : mul (bn N h g b) (add (mul (lg (mul (sub (bn N h g b) (rowB (ofRow b))) (rowB (rs (add (mul (mul (ofRow (slope N h g)) (ofRow (slope N h g))) (ofRow (var N h))) (kc eps1))))))
    (rowB (sub (kc 1) (ofRow al)))) (rowB (ofRow al))) = dice N (bn N h g b) al := by
  funext i j
  rw [dice_bn N (Cnt4.pos N)]
  rfl
end Stats

theorem part_R {x : Vec Ideal S80x32 .f32} {f : Cert.Proof.Reals.M} (hx : R2 (φ := .f32) x f) (o : ℕ) (h) : R2 (φ := .f32) (show Vec Ideal S16x32 .f32 from part16 x o h) (fun i j => f (o + i) j) :=
  ⟨fun j => (hx.h _).trans (by
    show ((f (o + 1 * (j 0).val) (0 + 1 * (j 1).val) : ℝ) : EReal) = _
    rw [Nat.zero_add, one_mul, one_mul])⟩

section Mlp
variable {K : Win Ideal} {q : Mp} (W : WinM K q) (fu fp ft fq fr : Cert.Proof.Reals.M) {P Q : Vec Ideal S4096x16 .f32}
  (h4 : R2 (φ := .f32) K.k4 fu) (h5 : R2 (φ := .f32) K.k5 ft) (h6 : R2 (φ := .f32) K.k6 fr) (hP : R2 (φ := .f32) P fp) (hQ : R2 (φ := .f32) Q fq)

theorem split80 (w : Cert.Proof.Reals.M) (i j : ℕ) : ∑ k ∈ range 80, xmlp fu fp ft fq fr i k * w k j =
    mm 16 fu (fun k j => w (0 + k) j) i j + mm 16 fp (fun k j => w (16 + k) j) i j + mm 16 ft (fun k j => w (32 + k) j) i j + mm 16 fq (fun k j => w (48 + k) j) i j + mm 16 fr (fun k j => w (64 + k) j) i j := by
  rw [show (80 : ℕ) = 16 + 16 + 16 + 16 + 16 from rfl, Finset.sum_range_add, Finset.sum_range_add, Finset.sum_range_add, Finset.sum_range_add]
  unfold mm xmlp
  refine congrArg₂ (· + ·) (congrArg₂ (· + ·) (congrArg₂ (· + ·) (congrArg₂ (· + ·) ?_ ?_) ?_) ?_) ?_
  all_goals
    refine Finset.sum_congr rfl fun k hk => ?_
    have := Finset.mem_range.mp hk
  · rw [if_pos this]; show _ = fu i k * w (0 + k) j; rw [Nat.zero_add]
  · rw [if_neg (by omega), if_pos (by omega), show 16 + k - 16 = k by omega]
  · rw [if_neg (by omega), if_neg (by omega), if_pos (by omega), show 16 + 16 + k - 32 = k by omega]
  · rw [if_neg (by omega), if_neg (by omega), if_neg (by omega), if_pos (by omega), show 16 + 16 + 16 + k - 48 = k by omega]
  · rw [if_neg (by omega), if_neg (by omega), if_neg (by omega), if_neg (by omega), show 16 + 16 + 16 + 16 + k - 64 = k by omega]

include W h4 h5 h6 hP hQ in
theorem lay85_R : R2 (k1_pay85 K.k4 (part16 K.k26 0 inb_S80x32_S16x32_0_0) P (part16 K.k26 16 inb_S80x32_S16x32_16_0) K.k5 (part16 K.k26 32 inb_S80x32_S16x32_32_0) Q (part16 K.k26 48 inb_S80x32_S16x32_48_0) K.k6 (part16 K.k26 64 inb_S80x32_S16x32_64_0) K.k27)
    (F0 q (xmlp fu fp ft fq fr)) := by
  have := W.h27
  have := part_R W.h26 0 inb_S80x32_S16x32_0_0; have := part_R W.h26 16 inb_S80x32_S16x32_16_0; have := part_R W.h26 32 inb_S80x32_S16x32_32_0
  have := part_R W.h26 48 inb_S80x32_S16x32_48_0; have := part_R W.h26 64 inb_S80x32_S16x32_64_0
  apply R2.congr
  · unfold k1_pay85; infer_instance
  · intro i _ j _
    unfold F0 dense
    rw [split80]
    rfl

theorem pay87_R (h : Cert.Proof.Reals.M) (g b al : ℕ → ℝ) (w : Cert.Proof.Reals.M) {x : FVec Ideal S4096x32 .f32} {vg vb va : Vec Ideal S1x32 .f32} {vw : Vec Ideal S32x16 .f32} [R2 x h] [R2 (φ := .f32) vg (ofRow g)] [R2 (φ := .f32) vb (ofRow b)] [R2 (φ := .f32) va (ofRow al)]
    [R2 (φ := .f32) vw w] : R2 (k1_pay87 x (k1_pay86 vg) vb va vw) (mm 32 (dice NB (bn NB h g b) al) w) := by
  apply R2.congr
  · unfold k1_pay87 k1_pay86; infer_instance
  · intro i _ j _
    rw [kmean, kvar, kslope, kbn, kdice]

section Two
variable (h : Cert.Proof.Reals.M) (b1 g b al : ℕ → ℝ) {x : FVec Ideal S4096x16 .f32} {v1 vg vb va : Vec Ideal S1x16 .f32} [R2 x h] [R2 (φ := .f32) v1 (ofRow b1)] [R2 (φ := .f32) vg (ofRow g)] [R2 (φ := .f32) vb (ofRow b)] [R2 (φ := .f32) va (ofRow al)]

theorem fin_R (w : Cert.Proof.Reals.M) (b2 : ℝ) {vw : Vec Ideal S16x1 .f32} {vc : Vec Ideal S1x1 .f32} [R2 (φ := .f32) vw w] [R2 (φ := .f32) vc (kc b2)] :
    R2 (k1_pay10 (k1_pay90 va) (k1_pay95 x v1 vg vb) (k1_pay96 x v1 vg vb) (k1_pay97 va) vw vc)
      (lg (add (mm 16 (dice NB (bn NB (add h (rowB (ofRow b1))) g b) al) w) (oneB (kc b2)))) := by
  apply R2.congr
  · unfold k1_pay10 k1_pay90 k1_pay96 k1_pay95 k1_pay97 k1_pay94 k1_pay93 k1_pay92 k1_pay91 k1_pay90 k1_pay89 k1_pay88; infer_instance
  · intro i _ j _
    rw [kmean, kvar, kslope, kbn, kdice]; rfl
end Two

include W h4 h5 h6 hP hQ in
theorem mlp_R : R2 (mlp K P Q) (prob q (xmlp fu fp ft fq fr)) := by
  have := lay85_R W fu fp ft fq fr h4 h5 h6 hP hQ
  have := W.h28; have := W.h29; have := W.h30; have := W.h31; have := W.h32; have := W.h33; have := W.h34; have := W.h35; have := W.h36; have := W.h37
  have h1 : R2 (mlpA K P Q) _ := pay87_R (F0 q (xmlp fu fp ft fq fr)) q.g0 q.be0 q.al0 q.w1
  apply R2.congr
  · exact fin_R (va := K.k35) _ q.b1 q.g1 q.be1 q.al1 q.w2 q.b2
  · intro i _ j _
    rw [show prob q (xmlp fu fp ft fq fr) i j = 1 / (1 + Real.exp (-(F2 q (xmlp fu fp ft fq fr) i j))) from rfl, one_div]
    rfl
end Mlp

end Cert.Proof.KernelIdeal

end
-- ==== Proof.IdealHostVals.lean ====
/-
  What each array of the host program holds once its operation has run, from its operands' contents.
-/
module

public import proofs.«01_k».proof.Proof.IdealHostOps

@[expose] public section

noncomputable section

set_option maxHeartbeats 8000000

namespace Cert.Proof.KernelIdeal

open Cert.KernelIdeal Cert.KernelIdeal.Gen

open Idealize.ShloMosaic
open Idealize.ShloMosaic.StableHlo (seq after)

variable {F : FTy → Type} [FloatOps F] (V : Valuation τ sig (Elt F))

def g_v4 : Vec F S1671168x16 .f32 := after opsB V (ref main_v4)
def g_v5 : Vec F S4096x16 .f32 := after opsB V (ref main_v5)
def g_v6 : Vec F S4096x16 .f32 := after opsB V (ref main_v6)
def g_v7 : Vec F S4096x16 .f32 := after opsB V (ref main_v7)
def g_v8 : Vec F S208896x128 .f32 := after opsB V (ref main_v8)
def g_arg8 : Vec F S64x16 .f32 := after opsB V (ref main_arg8)
def g_v9 : Vec F S16x16 .f32 := after opsB V (ref main_v9)
def g_v10 : Vec F S16x16 .f32 := after opsB V (ref main_v10)
def g_v11 : Vec F S16x16 .f32 := after opsB V (ref main_v11)
def g_v12 : Vec F S16x16 .f32 := after opsB V (ref main_v12)
def g_v13 : Vec F S8x8 .i32 := after opsB V (ref main_v13)
def g_v14 : Vec F S8x8 .i32 := after opsB V (ref main_v14)
def g_c_0 : Vec F S_ .i32 := after opsB V (ref main_c_0)
def g_v15 : Vec F S8x8 .i32 := after opsB V (ref main_v15)
def g_v16 : Vec F S8x8 .i32 := after opsB V (ref main_v16)
def g_v17 : Vec F S8x8 .i1 := after opsB V (ref main_v17)
def g_v18 : Vec F S8x8 .f32 := after opsB V (ref main_v18)
def g_c_1 : Vec F S_ .i32 := after opsB V (ref main_c_1)
def g_call0_v0 : Vec F S_ .f32 := after opsB V (ref main_call0_v0)
def g_arg13 : Vec F S16x8 .f32 := after opsB V (ref main_arg13)
def g_v19 : Vec F S16x16 .f32 := after opsB V (ref main_v19)
def g_c_2 : Vec F S_ .i32 := after opsB V (ref main_c_2)
def g_call1_v0 : Vec F S_ .f32 := after opsB V (ref main_call1_v0)
def g_arg18 : Vec F S8x1 .f32 := after opsB V (ref main_arg18)
def g_v20 : Vec F S16x1 .f32 := after opsB V (ref main_v20)
def g_v21 : Vec F S3200 .i32 := after opsB V (ref main_v21)
def g_v22 : Vec F S128 .i32 := after opsB V (ref main_v22)
def g_v23 : Vec F S1x128 .i32 := after opsB V (ref main_v23)
def g_c_3 : Vec F S_ .i32 := after opsB V (ref main_c_3)
def g_call2_v0 : Vec F S_ .i32 := after opsB V (ref main_call2_v0)
def g_call2_c : Vec F S_ .i32 := after opsB V (ref main_call2_c)
def g_call2_v1 : Vec F S_ .i1 := after opsB V (ref main_call2_v1)
def g_call2_c_0 : Vec F S_ .i32 := after opsB V (ref main_call2_c_0)
def g_call2_v2 : Vec F S_ .i32 := after opsB V (ref main_call2_v2)
def g_call2_v3 : Vec F S1x128 .i32 := after opsB V (ref main_call2_v3)
def g_call2_v4 : Vec F S1x128 .i32 := after opsB V (ref main_call2_v4)
def g_call2_c_1 : Vec F S_ .i32 := after opsB V (ref main_call2_c_1)
def g_call2_v5 : Vec F S1x128 .i32 := after opsB V (ref main_call2_v5)
def g_call2_v6 : Vec F S1x128 .i1 := after opsB V (ref main_call2_v6)
def g_call2_c_2 : Vec F S_ .i32 := after opsB V (ref main_call2_c_2)
def g_call2_v7 : Vec F S1x128 .i32 := after opsB V (ref main_call2_v7)
def g_call2_v8 : Vec F S1x128 .i1 := after opsB V (ref main_call2_v8)
def g_call2_c_3 : Vec F S_ .i32 := after opsB V (ref main_call2_c_3)
def g_call2_v9 : Vec F S_ .i1 := after opsB V (ref main_call2_v9)
def g_call2_v10 : Vec F S1x128 .i1 := after opsB V (ref main_call2_v10)
def g_call2_v11 : Vec F S1x128 .i1 := after opsB V (ref main_call2_v11)
def g_call2_v12 : Vec F S1x128 .i1 := after opsB V (ref main_call2_v12)
def g_call2_v13 : Vec F S1x128 .i32 := after opsB V (ref main_call2_v13)
def g_call2_v14 : Vec F S1x128 .i32 := after opsB V (ref main_call2_v14)
def g_v24 : Vec F S1x128 .i32 := after opsB V (ref main_v24)
def g_v25 : Vec F S16 .i32 := after opsB V (ref main_v25)
def g_v26 : Vec F S16x1 .i32 := after opsB V (ref main_v26)
def g_v27 : Vec F S16x128 .i32 := after opsB V (ref main_v27)
def g_v28 : Vec F S16x128 .i32 := after opsB V (ref main_v28)
def g_v29 : Vec F S16x128 .i1 := after opsB V (ref main_v29)
def g_v30 : Vec F S16x128 .f32 := after opsB V (ref main_v30)
def g_v31 : Vec F S128x16 .f32 := after opsB V (ref main_v31)
def g_v32 : Vec F S3200x1 .i32 := after opsB V (ref main_v32)
def g_c_4 : Vec F S_ .i32 := after opsB V (ref main_c_4)
def g_call3_v0 : Vec F S_ .i32 := after opsB V (ref main_call3_v0)
def g_call3_v1 : Vec F S3200x1 .i32 := after opsB V (ref main_call3_v1)
def g_call3_v2 : Vec F S3200x1 .i32 := after opsB V (ref main_call3_v2)
def g_call3_v3 : Vec F S3200x1 .i32 := after opsB V (ref main_call3_v3)
def g_call3_v4 : Vec F S_ .i32 := after opsB V (ref main_call3_v4)
def g_call3_v5 : Vec F S3200x1 .i32 := after opsB V (ref main_call3_v5)
def g_call3_v6 : Vec F S3200x1 .i1 := after opsB V (ref main_call3_v6)
def g_call3_v7 : Vec F S3200x1 .i32 := after opsB V (ref main_call3_v7)
def g_call3_v8 : Vec F S3200x1 .i32 := after opsB V (ref main_call3_v8)
def g_call3_c : Vec F S_ .i32 := after opsB V (ref main_call3_c)
def g_call3_v9 : Vec F S3200x1 .i32 := after opsB V (ref main_call3_v9)
def g_call3_v10 : Vec F S3200x1 .i1 := after opsB V (ref main_call3_v10)
def g_call3_v11 : Vec F S3200x1 .i1 := after opsB V (ref main_call3_v11)
def g_call3_c_0 : Vec F S_ .i32 := after opsB V (ref main_call3_c_0)
def g_call3_v12 : Vec F S3200x1 .i32 := after opsB V (ref main_call3_v12)
def g_call3_v13 : Vec F S3200x1 .i32 := after opsB V (ref main_call3_v13)
def g_v33 : Vec F S3200x1 .i32 := after opsB V (ref main_v33)
def g_v34 : Vec F S128 .i32 := after opsB V (ref main_v34)
def g_v35 : Vec F S1x128 .i32 := after opsB V (ref main_v35)
def g_v36 : Vec F S3200x128 .i32 := after opsB V (ref main_v36)
def g_v37 : Vec F S3200x128 .i32 := after opsB V (ref main_v37)
def g_v38 : Vec F S3200x128 .i1 := after opsB V (ref main_v38)
def g_v39 : Vec F S3200x128 .f32 := after opsB V (ref main_v39)
def g_v40 : Vec F S3200x1 .i32 := after opsB V (ref main_v40)
def g_c_5 : Vec F S_ .i32 := after opsB V (ref main_c_5)
def g_call4_v0 : Vec F S_ .i32 := after opsB V (ref main_call4_v0)
def g_call4_c : Vec F S_ .i32 := after opsB V (ref main_call4_c)
def g_call4_v1 : Vec F S_ .i1 := after opsB V (ref main_call4_v1)
def g_call4_c_0 : Vec F S_ .i32 := after opsB V (ref main_call4_c_0)
def g_call4_v2 : Vec F S_ .i32 := after opsB V (ref main_call4_v2)
def g_call4_v3 : Vec F S3200x1 .i32 := after opsB V (ref main_call4_v3)
def g_call4_v4 : Vec F S3200x1 .i32 := after opsB V (ref main_call4_v4)
def g_call4_c_1 : Vec F S_ .i32 := after opsB V (ref main_call4_c_1)
def g_call4_v5 : Vec F S3200x1 .i32 := after opsB V (ref main_call4_v5)
def g_call4_v6 : Vec F S3200x1 .i1 := after opsB V (ref main_call4_v6)
def g_call4_c_2 : Vec F S_ .i32 := after opsB V (ref main_call4_c_2)
def g_call4_v7 : Vec F S3200x1 .i32 := after opsB V (ref main_call4_v7)
def g_call4_v8 : Vec F S3200x1 .i1 := after opsB V (ref main_call4_v8)
def g_call4_c_3 : Vec F S_ .i32 := after opsB V (ref main_call4_c_3)
def g_call4_v9 : Vec F S_ .i1 := after opsB V (ref main_call4_v9)
def g_call4_v10 : Vec F S3200x1 .i1 := after opsB V (ref main_call4_v10)
def g_call4_v11 : Vec F S3200x1 .i1 := after opsB V (ref main_call4_v11)
def g_call4_v12 : Vec F S3200x1 .i1 := after opsB V (ref main_call4_v12)
def g_call4_v13 : Vec F S3200x1 .i32 := after opsB V (ref main_call4_v13)
def g_call4_v14 : Vec F S3200x1 .i32 := after opsB V (ref main_call4_v14)
def g_v41 : Vec F S3200x1 .i32 := after opsB V (ref main_v41)
def g_c_6 : Vec F S_ .i32 := after opsB V (ref main_c_6)
def g_v42 : Vec F S3200x1 .i32 := after opsB V (ref main_v42)
def g_v43 : Vec F S3200x1 .i32 := after opsB V (ref main_v43)
def g_v44 : Vec F S128 .i32 := after opsB V (ref main_v44)
def g_v45 : Vec F S1x128 .i32 := after opsB V (ref main_v45)
def g_c_7 : Vec F S_ .i32 := after opsB V (ref main_c_7)
def g_call5_v0 : Vec F S_ .i32 := after opsB V (ref main_call5_v0)
def g_call5_v1 : Vec F S1x128 .i32 := after opsB V (ref main_call5_v1)
def g_call5_v2 : Vec F S1x128 .i32 := after opsB V (ref main_call5_v2)
def g_call5_v3 : Vec F S1x128 .i32 := after opsB V (ref main_call5_v3)
def g_call5_v4 : Vec F S_ .i32 := after opsB V (ref main_call5_v4)
def g_call5_v5 : Vec F S1x128 .i32 := after opsB V (ref main_call5_v5)
def g_call5_v6 : Vec F S1x128 .i1 := after opsB V (ref main_call5_v6)
def g_call5_v7 : Vec F S1x128 .i32 := after opsB V (ref main_call5_v7)
def g_call5_v8 : Vec F S1x128 .i32 := after opsB V (ref main_call5_v8)
def g_call5_c : Vec F S_ .i32 := after opsB V (ref main_call5_c)
def g_call5_v9 : Vec F S1x128 .i32 := after opsB V (ref main_call5_v9)
def g_call5_v10 : Vec F S1x128 .i1 := after opsB V (ref main_call5_v10)
def g_call5_v11 : Vec F S1x128 .i1 := after opsB V (ref main_call5_v11)
def g_call5_c_0 : Vec F S_ .i32 := after opsB V (ref main_call5_c_0)
def g_call5_v12 : Vec F S1x128 .i32 := after opsB V (ref main_call5_v12)
def g_call5_v13 : Vec F S1x128 .i32 := after opsB V (ref main_call5_v13)
def g_v46 : Vec F S1x128 .i32 := after opsB V (ref main_v46)
def g_v47 : Vec F S3200x128 .i32 := after opsB V (ref main_v47)
def g_v48 : Vec F S3200x128 .i32 := after opsB V (ref main_v48)
def g_v49 : Vec F S3200x128 .i32 := after opsB V (ref main_v49)
def g_v50 : Vec F S3200x128 .f32 := after opsB V (ref main_v50)
def g_v51 : Vec F S128 .i32 := after opsB V (ref main_v51)
def g_v52 : Vec F S1x128 .i32 := after opsB V (ref main_v52)
def g_c_8 : Vec F S_ .i32 := after opsB V (ref main_c_8)
def g_call6_v0 : Vec F S_ .i32 := after opsB V (ref main_call6_v0)
def g_call6_v1 : Vec F S1x128 .i32 := after opsB V (ref main_call6_v1)
def g_call6_v2 : Vec F S1x128 .i32 := after opsB V (ref main_call6_v2)
def g_call6_v3 : Vec F S1x128 .i32 := after opsB V (ref main_call6_v3)
def g_call6_v4 : Vec F S_ .i32 := after opsB V (ref main_call6_v4)
def g_call6_v5 : Vec F S1x128 .i32 := after opsB V (ref main_call6_v5)
def g_call6_v6 : Vec F S1x128 .i1 := after opsB V (ref main_call6_v6)
def g_call6_v7 : Vec F S1x128 .i32 := after opsB V (ref main_call6_v7)
def g_call6_v8 : Vec F S1x128 .i32 := after opsB V (ref main_call6_v8)
def g_call6_c : Vec F S_ .i32 := after opsB V (ref main_call6_c)
def g_call6_v9 : Vec F S1x128 .i32 := after opsB V (ref main_call6_v9)
def g_call6_v10 : Vec F S1x128 .i1 := after opsB V (ref main_call6_v10)
def g_call6_v11 : Vec F S1x128 .i1 := after opsB V (ref main_call6_v11)
def g_call6_c_0 : Vec F S_ .i32 := after opsB V (ref main_call6_c_0)
def g_call6_v12 : Vec F S1x128 .i32 := after opsB V (ref main_call6_v12)
def g_call6_v13 : Vec F S1x128 .i32 := after opsB V (ref main_call6_v13)
def g_v53 : Vec F S1x128 .i32 := after opsB V (ref main_v53)
def g_v54 : Vec F S8 .i32 := after opsB V (ref main_v54)
def g_v55 : Vec F S8x1 .i32 := after opsB V (ref main_v55)
def g_v56 : Vec F S8x128 .i32 := after opsB V (ref main_v56)
def g_v57 : Vec F S8x128 .i32 := after opsB V (ref main_v57)
def g_v58 : Vec F S8x128 .i1 := after opsB V (ref main_v58)
def g_v59 : Vec F S8x128 .f32 := after opsB V (ref main_v59)
def g_call7_v0 : Vec F S8x1x8x1 .f32 := after opsB V (ref main_call7_v0)
def g_call7_v1 : Vec F S1x16x1x1 .f32 := after opsB V (ref main_call7_v1)
def g_call7_v2 : Vec F S8x16x8x1 .f32 := after opsB V (ref main_call7_v2)
def g_call7_v3 : Vec F S8x16x8x1 .f32 := after opsB V (ref main_call7_v3)
def g_call7_v4 : Vec F S8x16x8x1 .f32 := after opsB V (ref main_call7_v4)
def g_v60 : Vec F S128x8 .f32 := after opsB V (ref main_v60)
def g_v61 : Vec F S128x8x16 .f32 := after opsB V (ref main_v61)
def g_v62 : Vec F S128x128 .f32 := after opsB V (ref main_v62)
def g_v63 : Vec F S16x16 .f32 := after opsB V (ref main_v63)
def g_call8_v0 : Vec F S8x1x8x1 .f32 := after opsB V (ref main_call8_v0)
def g_call8_v1 : Vec F S1x16x1x16 .f32 := after opsB V (ref main_call8_v1)
def g_call8_v2 : Vec F S8x16x8x16 .f32 := after opsB V (ref main_call8_v2)
def g_call8_v3 : Vec F S8x16x8x16 .f32 := after opsB V (ref main_call8_v3)
def g_call8_v4 : Vec F S8x16x8x16 .f32 := after opsB V (ref main_call8_v4)
def g_v64 : Vec F S128x128 .f32 := after opsB V (ref main_v64)
def g_call9_v0 : Vec F S8x1x8x1 .f32 := after opsB V (ref main_call9_v0)
def g_call9_v1 : Vec F S1x16x1x16 .f32 := after opsB V (ref main_call9_v1)
def g_call9_v2 : Vec F S8x16x8x16 .f32 := after opsB V (ref main_call9_v2)
def g_call9_v3 : Vec F S8x16x8x16 .f32 := after opsB V (ref main_call9_v3)
def g_call9_v4 : Vec F S8x16x8x16 .f32 := after opsB V (ref main_call9_v4)
def g_v65 : Vec F S128x128 .f32 := after opsB V (ref main_v65)
def g_v66 : Vec F S16x16 .f32 := after opsB V (ref main_v66)
def g_v67 : Vec F S1x16x1x16 .f32 := after opsB V (ref main_v67)
def g_v68 : Vec F S1x16x8x16 .f32 := after opsB V (ref main_v68)
def g_v69 : Vec F S16x128 .f32 := after opsB V (ref main_v69)
def g_arg2 : Vec F S4096 .i32 := after opsB V (ref main_arg2)
def g_v70 : Vec F S4096x1 .i32 := after opsB V (ref main_v70)
def g_arg5 : Vec F S4096 .i32 := after opsB V (ref main_arg5)
def g_v71 : Vec F S4096x1 .i32 := after opsB V (ref main_v71)
def g_v72 : Vec F S4096x2 .i32 := after opsB V (ref main_v72)
def g_v73 : Vec F S4096x2 .f32 := after opsB V (ref main_v73)
def g_arg9 : Vec F S16 .f32 := after opsB V (ref main_arg9)
def g_v74 : Vec F S1x16 .f32 := after opsB V (ref main_v74)
def g_v75 : Vec F S1x1x1x16 .f32 := after opsB V (ref main_v75)
def g_v76 : Vec F S1x1x8x16 .f32 := after opsB V (ref main_v76)
def g_v77 : Vec F S1x128 .f32 := after opsB V (ref main_v77)
def g_arg10 : Vec F S16 .f32 := after opsB V (ref main_arg10)
def g_v78 : Vec F S1x16 .f32 := after opsB V (ref main_v78)
def g_arg11 : Vec F S16 .f32 := after opsB V (ref main_arg11)
def g_v79 : Vec F S1x16 .f32 := after opsB V (ref main_v79)
def g_arg12 : Vec F S16 .f32 := after opsB V (ref main_arg12)
def g_v80 : Vec F S1x16 .f32 := after opsB V (ref main_v80)
def g_v81 : Vec F S1x1x1x16 .f32 := after opsB V (ref main_v81)
def g_v82 : Vec F S1x1x8x16 .f32 := after opsB V (ref main_v82)
def g_v83 : Vec F S1x128 .f32 := after opsB V (ref main_v83)
def g_call10_v0 : Vec F S8x1x8x1 .f32 := after opsB V (ref main_call10_v0)
def g_call10_v1 : Vec F S1x16x1x16 .f32 := after opsB V (ref main_call10_v1)
def g_call10_v2 : Vec F S8x16x8x16 .f32 := after opsB V (ref main_call10_v2)
def g_call10_v3 : Vec F S8x16x8x16 .f32 := after opsB V (ref main_call10_v3)
def g_call10_v4 : Vec F S8x16x8x16 .f32 := after opsB V (ref main_call10_v4)
def g_v84 : Vec F S128x128 .f32 := after opsB V (ref main_v84)
def g_arg14 : Vec F S8 .f32 := after opsB V (ref main_arg14)
def g_v85 : Vec F S1x8 .f32 := after opsB V (ref main_v85)
def g_c_9 : Vec F S_ .i32 := after opsB V (ref main_c_9)
def g_call11_v0 : Vec F S_ .f32 := after opsB V (ref main_call11_v0)
def g_v86 : Vec F S1x16 .f32 := after opsB V (ref main_v86)
def g_v87 : Vec F S1x1x1x16 .f32 := after opsB V (ref main_v87)
def g_v88 : Vec F S1x1x8x16 .f32 := after opsB V (ref main_v88)
def g_v89 : Vec F S1x128 .f32 := after opsB V (ref main_v89)
def g_arg15 : Vec F S8 .f32 := after opsB V (ref main_arg15)
def g_v90 : Vec F S1x8 .f32 := after opsB V (ref main_v90)
def g_c_10 : Vec F S_ .i32 := after opsB V (ref main_c_10)
def g_call12_v0 : Vec F S_ .f32 := after opsB V (ref main_call12_v0)
def g_v91 : Vec F S1x16 .f32 := after opsB V (ref main_v91)
def g_arg16 : Vec F S8 .f32 := after opsB V (ref main_arg16)
def g_v92 : Vec F S1x8 .f32 := after opsB V (ref main_v92)
def g_c_11 : Vec F S_ .i32 := after opsB V (ref main_c_11)
def g_call13_v0 : Vec F S_ .f32 := after opsB V (ref main_call13_v0)
def g_v93 : Vec F S1x16 .f32 := after opsB V (ref main_v93)
def g_arg17 : Vec F S8 .f32 := after opsB V (ref main_arg17)
def g_v94 : Vec F S1x8 .f32 := after opsB V (ref main_v94)
def g_c_12 : Vec F S_ .i32 := after opsB V (ref main_c_12)
def g_call14_v0 : Vec F S_ .f32 := after opsB V (ref main_call14_v0)
def g_v95 : Vec F S1x16 .f32 := after opsB V (ref main_v95)
def g_v96 : Vec F S1x1x1x16 .f32 := after opsB V (ref main_v96)
def g_v97 : Vec F S1x1x8x16 .f32 := after opsB V (ref main_v97)
def g_v98 : Vec F S1x128 .f32 := after opsB V (ref main_v98)
def g_arg19 : Vec F S1 .f32 := after opsB V (ref main_arg19)
def g_v99 : Vec F S1x1 .f32 := after opsB V (ref main_v99)
def g_arg21 : Vec F S32 .f32 := after opsB V (ref main_arg21)
def g_v100 : Vec F S1x32 .f32 := after opsB V (ref main_v100)
def g_arg22 : Vec F S32 .f32 := after opsB V (ref main_arg22)
def g_v101 : Vec F S1x32 .f32 := after opsB V (ref main_v101)
def g_arg23 : Vec F S32 .f32 := after opsB V (ref main_arg23)
def g_v102 : Vec F S1x32 .f32 := after opsB V (ref main_v102)
def g_arg24 : Vec F S32 .f32 := after opsB V (ref main_arg24)
def g_v103 : Vec F S1x32 .f32 := after opsB V (ref main_v103)
def g_arg26 : Vec F S16 .f32 := after opsB V (ref main_arg26)
def g_v104 : Vec F S1x16 .f32 := after opsB V (ref main_v104)
def g_arg27 : Vec F S16 .f32 := after opsB V (ref main_arg27)
def g_v105 : Vec F S1x16 .f32 := after opsB V (ref main_v105)
def g_arg28 : Vec F S16 .f32 := after opsB V (ref main_arg28)
def g_v106 : Vec F S1x16 .f32 := after opsB V (ref main_v106)
def g_arg29 : Vec F S16 .f32 := after opsB V (ref main_arg29)
def g_v107 : Vec F S1x16 .f32 := after opsB V (ref main_v107)
def g_arg31 : Vec F S1 .f32 := after opsB V (ref main_arg31)
def g_v108 : Vec F S1x1 .f32 := after opsB V (ref main_v108)

theorem e_v4 : g_v4 V = V (ref main_v4) := opsB_writes.keep V (by decide +kernel)
theorem e_arg8 : g_arg8 V = V (ref main_arg8) := opsB_writes.keep V (by decide +kernel)
theorem e_arg13 : g_arg13 V = V (ref main_arg13) := opsB_writes.keep V (by decide +kernel)
theorem e_arg18 : g_arg18 V = V (ref main_arg18) := opsB_writes.keep V (by decide +kernel)
theorem e_arg2 : g_arg2 V = V (ref main_arg2) := opsB_writes.keep V (by decide +kernel)
theorem e_arg5 : g_arg5 V = V (ref main_arg5) := opsB_writes.keep V (by decide +kernel)
theorem e_arg9 : g_arg9 V = V (ref main_arg9) := opsB_writes.keep V (by decide +kernel)
theorem e_arg10 : g_arg10 V = V (ref main_arg10) := opsB_writes.keep V (by decide +kernel)
theorem e_arg11 : g_arg11 V = V (ref main_arg11) := opsB_writes.keep V (by decide +kernel)
theorem e_arg12 : g_arg12 V = V (ref main_arg12) := opsB_writes.keep V (by decide +kernel)
theorem e_arg14 : g_arg14 V = V (ref main_arg14) := opsB_writes.keep V (by decide +kernel)
theorem e_arg15 : g_arg15 V = V (ref main_arg15) := opsB_writes.keep V (by decide +kernel)
theorem e_arg16 : g_arg16 V = V (ref main_arg16) := opsB_writes.keep V (by decide +kernel)
theorem e_arg17 : g_arg17 V = V (ref main_arg17) := opsB_writes.keep V (by decide +kernel)
theorem e_arg19 : g_arg19 V = V (ref main_arg19) := opsB_writes.keep V (by decide +kernel)
theorem e_arg21 : g_arg21 V = V (ref main_arg21) := opsB_writes.keep V (by decide +kernel)
theorem e_arg22 : g_arg22 V = V (ref main_arg22) := opsB_writes.keep V (by decide +kernel)
theorem e_arg23 : g_arg23 V = V (ref main_arg23) := opsB_writes.keep V (by decide +kernel)
theorem e_arg24 : g_arg24 V = V (ref main_arg24) := opsB_writes.keep V (by decide +kernel)
theorem e_arg26 : g_arg26 V = V (ref main_arg26) := opsB_writes.keep V (by decide +kernel)
theorem e_arg27 : g_arg27 V = V (ref main_arg27) := opsB_writes.keep V (by decide +kernel)
theorem e_arg28 : g_arg28 V = V (ref main_arg28) := opsB_writes.keep V (by decide +kernel)
theorem e_arg29 : g_arg29 V = V (ref main_arg29) := opsB_writes.keep V (by decide +kernel)
theorem e_arg31 : g_arg31 V = V (ref main_arg31) := opsB_writes.keep V (by decide +kernel)
theorem e_v5 : g_v5 V = ((extractStridedSlice S4096x16 ![1638400, 0] · slices_S1671168x16_S4096x16_1638400_0) : (⟨S1671168x16, .f32⟩ : BufTy).Contents (Elt F) → (⟨S4096x16, .f32⟩ : BufTy).Contents (Elt F)) (g_v4 V) := un opsB_writes V 0 rfl (by decide +kernel) (by decide +kernel)
theorem e_v6 : g_v6 V = ((extractStridedSlice S4096x16 ![1642496, 0] · slices_S1671168x16_S4096x16_1642496_0) : (⟨S1671168x16, .f32⟩ : BufTy).Contents (Elt F) → (⟨S4096x16, .f32⟩ : BufTy).Contents (Elt F)) (g_v4 V) := un opsB_writes V 1 rfl (by decide +kernel) (by decide +kernel)
theorem e_v7 : g_v7 V = ((extractStridedSlice S4096x16 ![1646592, 0] · slices_S1671168x16_S4096x16_1646592_0) : (⟨S1671168x16, .f32⟩ : BufTy).Contents (Elt F) → (⟨S4096x16, .f32⟩ : BufTy).Contents (Elt F)) (g_v4 V) := un opsB_writes V 2 rfl (by decide +kernel) (by decide +kernel)
theorem e_v8 : g_v8 V = shapeCast S208896x128 (g_v4 V) shapeCasts_S1671168x16_S208896x128 := resh opsB_writes V 3 rfl (by decide +kernel) (by decide +kernel)
theorem e_v9 : g_v9 V = ((extractStridedSlice S16x16 ![0, 0] · slices_S64x16_S16x16_0_0) : (⟨S64x16, .f32⟩ : BufTy).Contents (Elt F) → (⟨S16x16, .f32⟩ : BufTy).Contents (Elt F)) (g_arg8 V) := un opsB_writes V 4 rfl (by decide +kernel) (by decide +kernel)
theorem e_v10 : g_v10 V = ((extractStridedSlice S16x16 ![16, 0] · slices_S64x16_S16x16_16_0) : (⟨S64x16, .f32⟩ : BufTy).Contents (Elt F) → (⟨S16x16, .f32⟩ : BufTy).Contents (Elt F)) (g_arg8 V) := un opsB_writes V 5 rfl (by decide +kernel) (by decide +kernel)
theorem e_v11 : g_v11 V = ((extractStridedSlice S16x16 ![32, 0] · slices_S64x16_S16x16_32_0) : (⟨S64x16, .f32⟩ : BufTy).Contents (Elt F) → (⟨S16x16, .f32⟩ : BufTy).Contents (Elt F)) (g_arg8 V) := un opsB_writes V 6 rfl (by decide +kernel) (by decide +kernel)
theorem e_v12 : g_v12 V = ((extractStridedSlice S16x16 ![48, 0] · slices_S64x16_S16x16_48_0) : (⟨S64x16, .f32⟩ : BufTy).Contents (Elt F) → (⟨S16x16, .f32⟩ : BufTy).Contents (Elt F)) (g_arg8 V) := un opsB_writes V 7 rfl (by decide +kernel) (by decide +kernel)
theorem e_v13 : g_v13 V = (iotaInDim S8x8 32 0) := nul opsB_writes V 8 rfl (by decide +kernel)
theorem e_v14 : g_v14 V = (iotaInDim S8x8 32 1) := nul opsB_writes V 9 rfl (by decide +kernel)
theorem e_c_0 : g_c_0 V = (constantI S_ 32 0#32) := nul opsB_writes V 10 rfl (by decide +kernel)
theorem e_v15 : g_v15 V = (broadcastInDim S8x8 ![] bcast_S_S8x8 : (⟨S_, .i32⟩ : BufTy).Contents (Elt F) → (⟨S8x8, .i32⟩ : BufTy).Contents (Elt F)) (g_c_0 V) := un opsB_writes V 11 rfl (by decide +kernel) (by decide +kernel)
theorem e_v16 : g_v16 V = (addi : (⟨S8x8, .i32⟩ : BufTy).Contents (Elt F) → (⟨S8x8, .i32⟩ : BufTy).Contents (Elt F) → (⟨S8x8, .i32⟩ : BufTy).Contents (Elt F)) (g_v13 V) (g_v15 V) := bi opsB_writes V 12 rfl (by decide +kernel) (by decide +kernel) (by decide +kernel)
theorem e_v17 : g_v17 V = (cmpi .eq : (⟨S8x8, .i32⟩ : BufTy).Contents (Elt F) → (⟨S8x8, .i32⟩ : BufTy).Contents (Elt F) → (⟨S8x8, .i1⟩ : BufTy).Contents (Elt F)) (g_v16 V) (g_v14 V) := bi opsB_writes V 13 rfl (by decide +kernel) (by decide +kernel) (by decide +kernel)
theorem e_v18 : g_v18 V = (uitofp .f32 : (⟨S8x8, .i1⟩ : BufTy).Contents (Elt F) → (⟨S8x8, .f32⟩ : BufTy).Contents (Elt F)) (g_v17 V) := un opsB_writes V 14 rfl (by decide +kernel) (by decide +kernel)
theorem e_c_1 : g_c_1 V = (constantI S_ 32 0#32) := nul opsB_writes V 15 rfl (by decide +kernel)
theorem e_call0_v0 : g_call0_v0 V = (sitofp .f32 : (⟨S_, .i32⟩ : BufTy).Contents (Elt F) → (⟨S_, .f32⟩ : BufTy).Contents (Elt F)) (g_c_1 V) := un opsB_writes V 16 rfl (by decide +kernel) (by decide +kernel)
theorem e_v19 : g_v19 V = ((fun x v => pad S16x16 ![0, 0] ![0, 8] ![0, 0] x v pads_S16x8_S16x16_000_080 h_S_) : (⟨S16x8, .f32⟩ : BufTy).Contents (Elt F) → (⟨S_, .f32⟩ : BufTy).Contents (Elt F) → (⟨S16x16, .f32⟩ : BufTy).Contents (Elt F)) (g_arg13 V) (g_call0_v0 V) := bi opsB_writes V 17 rfl (by decide +kernel) (by decide +kernel) (by decide +kernel)
theorem e_c_2 : g_c_2 V = (constantI S_ 32 0#32) := nul opsB_writes V 18 rfl (by decide +kernel)
theorem e_call1_v0 : g_call1_v0 V = (sitofp .f32 : (⟨S_, .i32⟩ : BufTy).Contents (Elt F) → (⟨S_, .f32⟩ : BufTy).Contents (Elt F)) (g_c_2 V) := un opsB_writes V 19 rfl (by decide +kernel) (by decide +kernel)
theorem e_v20 : g_v20 V = ((fun x v => pad S16x1 ![0, 0] ![8, 0] ![0, 0] x v pads_S8x1_S16x1_080_000 h_S_) : (⟨S8x1, .f32⟩ : BufTy).Contents (Elt F) → (⟨S_, .f32⟩ : BufTy).Contents (Elt F) → (⟨S16x1, .f32⟩ : BufTy).Contents (Elt F)) (g_arg18 V) (g_call1_v0 V) := bi opsB_writes V 20 rfl (by decide +kernel) (by decide +kernel) (by decide +kernel)
theorem e_v21 : g_v21 V = (iotaInDim S3200 32 0) := nul opsB_writes V 21 rfl (by decide +kernel)
theorem e_v22 : g_v22 V = (iotaInDim S128 32 0) := nul opsB_writes V 22 rfl (by decide +kernel)
theorem e_v23 : g_v23 V = (broadcastInDim S1x128 ![1] bcast_S128_S1x128_1 : (⟨S128, .i32⟩ : BufTy).Contents (Elt F) → (⟨S1x128, .i32⟩ : BufTy).Contents (Elt F)) (g_v22 V) := un opsB_writes V 23 rfl (by decide +kernel) (by decide +kernel)
theorem e_c_3 : g_c_3 V = (constantI S_ 32 16#32) := nul opsB_writes V 24 rfl (by decide +kernel)
theorem e_call2_v0 : g_call2_v0 V = (id : (⟨S_, .i32⟩ : BufTy).Contents (Elt F) → (⟨S_, .i32⟩ : BufTy).Contents (Elt F)) (g_c_3 V) := un opsB_writes V 25 rfl (by decide +kernel) (by decide +kernel)
theorem e_call2_c : g_call2_c V = (constantI S_ 32 0#32) := nul opsB_writes V 26 rfl (by decide +kernel)
theorem e_call2_v1 : g_call2_v1 V = (cmpi .eq : (⟨S_, .i32⟩ : BufTy).Contents (Elt F) → (⟨S_, .i32⟩ : BufTy).Contents (Elt F) → (⟨S_, .i1⟩ : BufTy).Contents (Elt F)) (g_call2_v0 V) (g_call2_c V) := bi opsB_writes V 27 rfl (by decide +kernel) (by decide +kernel) (by decide +kernel)
theorem e_call2_c_0 : g_call2_c_0 V = (constantI S_ 32 1#32) := nul opsB_writes V 28 rfl (by decide +kernel)
theorem e_call2_v2 : g_call2_v2 V = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (g_call2_v1 V) (g_call2_c_0 V) (g_call2_v0 V) := ter opsB_writes V 29 rfl (by decide +kernel) (by decide +kernel) (by decide +kernel) (by decide +kernel)
theorem e_call2_v3 : g_call2_v3 V = (broadcastInDim S1x128 ![] bcast_S_S1x128 : (⟨S_, .i32⟩ : BufTy).Contents (Elt F) → (⟨S1x128, .i32⟩ : BufTy).Contents (Elt F)) (g_call2_v2 V) := un opsB_writes V 30 rfl (by decide +kernel) (by decide +kernel)
theorem e_call2_v4 : g_call2_v4 V = (Host.remsi : (⟨S1x128, .i32⟩ : BufTy).Contents (Elt F) → (⟨S1x128, .i32⟩ : BufTy).Contents (Elt F) → (⟨S1x128, .i32⟩ : BufTy).Contents (Elt F)) (g_v23 V) (g_call2_v3 V) := bi opsB_writes V 31 rfl (by decide +kernel) (by decide +kernel) (by decide +kernel)
theorem e_call2_c_1 : g_call2_c_1 V = (constantI S_ 32 0#32) := nul opsB_writes V 32 rfl (by decide +kernel)
theorem e_call2_v5 : g_call2_v5 V = (broadcastInDim S1x128 ![] bcast_S_S1x128 : (⟨S_, .i32⟩ : BufTy).Contents (Elt F) → (⟨S1x128, .i32⟩ : BufTy).Contents (Elt F)) (g_call2_c_1 V) := un opsB_writes V 33 rfl (by decide +kernel) (by decide +kernel)
theorem e_call2_v6 : g_call2_v6 V = (cmpi .ne : (⟨S1x128, .i32⟩ : BufTy).Contents (Elt F) → (⟨S1x128, .i32⟩ : BufTy).Contents (Elt F) → (⟨S1x128, .i1⟩ : BufTy).Contents (Elt F)) (g_call2_v4 V) (g_call2_v5 V) := bi opsB_writes V 34 rfl (by decide +kernel) (by decide +kernel) (by decide +kernel)
theorem e_call2_c_2 : g_call2_c_2 V = (constantI S_ 32 0#32) := nul opsB_writes V 35 rfl (by decide +kernel)
theorem e_call2_v7 : g_call2_v7 V = (broadcastInDim S1x128 ![] bcast_S_S1x128 : (⟨S_, .i32⟩ : BufTy).Contents (Elt F) → (⟨S1x128, .i32⟩ : BufTy).Contents (Elt F)) (g_call2_c_2 V) := un opsB_writes V 36 rfl (by decide +kernel) (by decide +kernel)
theorem e_call2_v8 : g_call2_v8 V = (cmpi .slt : (⟨S1x128, .i32⟩ : BufTy).Contents (Elt F) → (⟨S1x128, .i32⟩ : BufTy).Contents (Elt F) → (⟨S1x128, .i1⟩ : BufTy).Contents (Elt F)) (g_call2_v4 V) (g_call2_v7 V) := bi opsB_writes V 37 rfl (by decide +kernel) (by decide +kernel) (by decide +kernel)
theorem e_call2_c_3 : g_call2_c_3 V = (constantI S_ 32 0#32) := nul opsB_writes V 38 rfl (by decide +kernel)
theorem e_call2_v9 : g_call2_v9 V = (cmpi .slt : (⟨S_, .i32⟩ : BufTy).Contents (Elt F) → (⟨S_, .i32⟩ : BufTy).Contents (Elt F) → (⟨S_, .i1⟩ : BufTy).Contents (Elt F)) (g_call2_v2 V) (g_call2_c_3 V) := bi opsB_writes V 39 rfl (by decide +kernel) (by decide +kernel) (by decide +kernel)
theorem e_call2_v10 : g_call2_v10 V = (broadcastInDim S1x128 ![] bcast_S_S1x128 : (⟨S_, .i1⟩ : BufTy).Contents (Elt F) → (⟨S1x128, .i1⟩ : BufTy).Contents (Elt F)) (g_call2_v9 V) := un opsB_writes V 40 rfl (by decide +kernel) (by decide +kernel)
theorem e_call2_v11 : g_call2_v11 V = (cmpi .ne : (⟨S1x128, .i1⟩ : BufTy).Contents (Elt F) → (⟨S1x128, .i1⟩ : BufTy).Contents (Elt F) → (⟨S1x128, .i1⟩ : BufTy).Contents (Elt F)) (g_call2_v8 V) (g_call2_v10 V) := bi opsB_writes V 41 rfl (by decide +kernel) (by decide +kernel) (by decide +kernel)
theorem e_call2_v12 : g_call2_v12 V = (andi : (⟨S1x128, .i1⟩ : BufTy).Contents (Elt F) → (⟨S1x128, .i1⟩ : BufTy).Contents (Elt F) → (⟨S1x128, .i1⟩ : BufTy).Contents (Elt F)) (g_call2_v11 V) (g_call2_v6 V) := bi opsB_writes V 42 rfl (by decide +kernel) (by decide +kernel) (by decide +kernel)
theorem e_call2_v13 : g_call2_v13 V = (broadcastInDim S1x128 ![] bcast_S_S1x128 : (⟨S_, .i32⟩ : BufTy).Contents (Elt F) → (⟨S1x128, .i32⟩ : BufTy).Contents (Elt F)) (g_call2_v2 V) := un opsB_writes V 43 rfl (by decide +kernel) (by decide +kernel)
theorem e_call2_v14 : g_call2_v14 V = (addi : (⟨S1x128, .i32⟩ : BufTy).Contents (Elt F) → (⟨S1x128, .i32⟩ : BufTy).Contents (Elt F) → (⟨S1x128, .i32⟩ : BufTy).Contents (Elt F)) (g_call2_v4 V) (g_call2_v13 V) := bi opsB_writes V 44 rfl (by decide +kernel) (by decide +kernel) (by decide +kernel)
theorem e_v24 : g_v24 V = (select : (⟨S1x128, .i1⟩ : BufTy).Contents (Elt F) → (⟨S1x128, .i32⟩ : BufTy).Contents (Elt F) → (⟨S1x128, .i32⟩ : BufTy).Contents (Elt F) → (⟨S1x128, .i32⟩ : BufTy).Contents (Elt F)) (g_call2_v12 V) (g_call2_v14 V) (g_call2_v4 V) := ter opsB_writes V 45 rfl (by decide +kernel) (by decide +kernel) (by decide +kernel) (by decide +kernel)
theorem e_v25 : g_v25 V = (iotaInDim S16 32 0) := nul opsB_writes V 46 rfl (by decide +kernel)
theorem e_v26 : g_v26 V = (broadcastInDim S16x1 ![0] bcast_S16_S16x1_0 : (⟨S16, .i32⟩ : BufTy).Contents (Elt F) → (⟨S16x1, .i32⟩ : BufTy).Contents (Elt F)) (g_v25 V) := un opsB_writes V 47 rfl (by decide +kernel) (by decide +kernel)
theorem e_v27 : g_v27 V = (broadcastInDim S16x128 ![0, 1] bcast_S1x128_S16x128_0_1 : (⟨S1x128, .i32⟩ : BufTy).Contents (Elt F) → (⟨S16x128, .i32⟩ : BufTy).Contents (Elt F)) (g_v24 V) := un opsB_writes V 48 rfl (by decide +kernel) (by decide +kernel)
theorem e_v28 : g_v28 V = (broadcastInDim S16x128 ![0, 1] bcast_S16x1_S16x128_0_1 : (⟨S16x1, .i32⟩ : BufTy).Contents (Elt F) → (⟨S16x128, .i32⟩ : BufTy).Contents (Elt F)) (g_v26 V) := un opsB_writes V 49 rfl (by decide +kernel) (by decide +kernel)
theorem e_v29 : g_v29 V = (cmpi .eq : (⟨S16x128, .i32⟩ : BufTy).Contents (Elt F) → (⟨S16x128, .i32⟩ : BufTy).Contents (Elt F) → (⟨S16x128, .i1⟩ : BufTy).Contents (Elt F)) (g_v27 V) (g_v28 V) := bi opsB_writes V 50 rfl (by decide +kernel) (by decide +kernel) (by decide +kernel)
theorem e_v30 : g_v30 V = (uitofp .f32 : (⟨S16x128, .i1⟩ : BufTy).Contents (Elt F) → (⟨S16x128, .f32⟩ : BufTy).Contents (Elt F)) (g_v29 V) := un opsB_writes V 51 rfl (by decide +kernel) (by decide +kernel)
theorem e_v31 : g_v31 V = ((transpose S128x16 [1, 0] · transposes_S16x128_S128x16_1_0) : (⟨S16x128, .f32⟩ : BufTy).Contents (Elt F) → (⟨S128x16, .f32⟩ : BufTy).Contents (Elt F)) (g_v30 V) := un opsB_writes V 52 rfl (by decide +kernel) (by decide +kernel)
theorem e_v32 : g_v32 V = (broadcastInDim S3200x1 ![0] bcast_S3200_S3200x1_0 : (⟨S3200, .i32⟩ : BufTy).Contents (Elt F) → (⟨S3200x1, .i32⟩ : BufTy).Contents (Elt F)) (g_v21 V) := un opsB_writes V 53 rfl (by decide +kernel) (by decide +kernel)
theorem e_c_4 : g_c_4 V = (constantI S_ 32 25#32) := nul opsB_writes V 54 rfl (by decide +kernel)
theorem e_call3_v0 : g_call3_v0 V = (id : (⟨S_, .i32⟩ : BufTy).Contents (Elt F) → (⟨S_, .i32⟩ : BufTy).Contents (Elt F)) (g_c_4 V) := un opsB_writes V 55 rfl (by decide +kernel) (by decide +kernel)
theorem e_call3_v1 : g_call3_v1 V = (broadcastInDim S3200x1 ![] bcast_S_S3200x1 : (⟨S_, .i32⟩ : BufTy).Contents (Elt F) → (⟨S3200x1, .i32⟩ : BufTy).Contents (Elt F)) (g_call3_v0 V) := un opsB_writes V 56 rfl (by decide +kernel) (by decide +kernel)
theorem e_call3_v2 : g_call3_v2 V = (Host.divsi : (⟨S3200x1, .i32⟩ : BufTy).Contents (Elt F) → (⟨S3200x1, .i32⟩ : BufTy).Contents (Elt F) → (⟨S3200x1, .i32⟩ : BufTy).Contents (Elt F)) (g_v32 V) (g_call3_v1 V) := bi opsB_writes V 57 rfl (by decide +kernel) (by decide +kernel) (by decide +kernel)
theorem e_call3_v3 : g_call3_v3 V = (signi : (⟨S3200x1, .i32⟩ : BufTy).Contents (Elt F) → (⟨S3200x1, .i32⟩ : BufTy).Contents (Elt F)) (g_v32 V) := un opsB_writes V 58 rfl (by decide +kernel) (by decide +kernel)
theorem e_call3_v4 : g_call3_v4 V = (signi : (⟨S_, .i32⟩ : BufTy).Contents (Elt F) → (⟨S_, .i32⟩ : BufTy).Contents (Elt F)) (g_call3_v0 V) := un opsB_writes V 59 rfl (by decide +kernel) (by decide +kernel)
theorem e_call3_v5 : g_call3_v5 V = (broadcastInDim S3200x1 ![] bcast_S_S3200x1 : (⟨S_, .i32⟩ : BufTy).Contents (Elt F) → (⟨S3200x1, .i32⟩ : BufTy).Contents (Elt F)) (g_call3_v4 V) := un opsB_writes V 60 rfl (by decide +kernel) (by decide +kernel)
theorem e_call3_v6 : g_call3_v6 V = (cmpi .ne : (⟨S3200x1, .i32⟩ : BufTy).Contents (Elt F) → (⟨S3200x1, .i32⟩ : BufTy).Contents (Elt F) → (⟨S3200x1, .i1⟩ : BufTy).Contents (Elt F)) (g_call3_v3 V) (g_call3_v5 V) := bi opsB_writes V 61 rfl (by decide +kernel) (by decide +kernel) (by decide +kernel)
theorem e_call3_v7 : g_call3_v7 V = (broadcastInDim S3200x1 ![] bcast_S_S3200x1 : (⟨S_, .i32⟩ : BufTy).Contents (Elt F) → (⟨S3200x1, .i32⟩ : BufTy).Contents (Elt F)) (g_call3_v0 V) := un opsB_writes V 62 rfl (by decide +kernel) (by decide +kernel)
theorem e_call3_v8 : g_call3_v8 V = (Host.remsi : (⟨S3200x1, .i32⟩ : BufTy).Contents (Elt F) → (⟨S3200x1, .i32⟩ : BufTy).Contents (Elt F) → (⟨S3200x1, .i32⟩ : BufTy).Contents (Elt F)) (g_v32 V) (g_call3_v7 V) := bi opsB_writes V 63 rfl (by decide +kernel) (by decide +kernel) (by decide +kernel)
theorem e_call3_c : g_call3_c V = (constantI S_ 32 0#32) := nul opsB_writes V 64 rfl (by decide +kernel)
theorem e_call3_v9 : g_call3_v9 V = (broadcastInDim S3200x1 ![] bcast_S_S3200x1 : (⟨S_, .i32⟩ : BufTy).Contents (Elt F) → (⟨S3200x1, .i32⟩ : BufTy).Contents (Elt F)) (g_call3_c V) := un opsB_writes V 65 rfl (by decide +kernel) (by decide +kernel)
theorem e_call3_v10 : g_call3_v10 V = (cmpi .ne : (⟨S3200x1, .i32⟩ : BufTy).Contents (Elt F) → (⟨S3200x1, .i32⟩ : BufTy).Contents (Elt F) → (⟨S3200x1, .i1⟩ : BufTy).Contents (Elt F)) (g_call3_v8 V) (g_call3_v9 V) := bi opsB_writes V 66 rfl (by decide +kernel) (by decide +kernel) (by decide +kernel)
theorem e_call3_v11 : g_call3_v11 V = (andi : (⟨S3200x1, .i1⟩ : BufTy).Contents (Elt F) → (⟨S3200x1, .i1⟩ : BufTy).Contents (Elt F) → (⟨S3200x1, .i1⟩ : BufTy).Contents (Elt F)) (g_call3_v6 V) (g_call3_v10 V) := bi opsB_writes V 67 rfl (by decide +kernel) (by decide +kernel) (by decide +kernel)
theorem e_call3_c_0 : g_call3_c_0 V = (constantI S_ 32 1#32) := nul opsB_writes V 68 rfl (by decide +kernel)
theorem e_call3_v12 : g_call3_v12 V = (broadcastInDim S3200x1 ![] bcast_S_S3200x1 : (⟨S_, .i32⟩ : BufTy).Contents (Elt F) → (⟨S3200x1, .i32⟩ : BufTy).Contents (Elt F)) (g_call3_c_0 V) := un opsB_writes V 69 rfl (by decide +kernel) (by decide +kernel)
theorem e_call3_v13 : g_call3_v13 V = (subi : (⟨S3200x1, .i32⟩ : BufTy).Contents (Elt F) → (⟨S3200x1, .i32⟩ : BufTy).Contents (Elt F) → (⟨S3200x1, .i32⟩ : BufTy).Contents (Elt F)) (g_call3_v2 V) (g_call3_v12 V) := bi opsB_writes V 70 rfl (by decide +kernel) (by decide +kernel) (by decide +kernel)
theorem e_v33 : g_v33 V = (select : (⟨S3200x1, .i1⟩ : BufTy).Contents (Elt F) → (⟨S3200x1, .i32⟩ : BufTy).Contents (Elt F) → (⟨S3200x1, .i32⟩ : BufTy).Contents (Elt F) → (⟨S3200x1, .i32⟩ : BufTy).Contents (Elt F)) (g_call3_v11 V) (g_call3_v13 V) (g_call3_v2 V) := ter opsB_writes V 71 rfl (by decide +kernel) (by decide +kernel) (by decide +kernel) (by decide +kernel)
theorem e_v34 : g_v34 V = (iotaInDim S128 32 0) := nul opsB_writes V 72 rfl (by decide +kernel)
theorem e_v35 : g_v35 V = (broadcastInDim S1x128 ![1] bcast_S128_S1x128_1 : (⟨S128, .i32⟩ : BufTy).Contents (Elt F) → (⟨S1x128, .i32⟩ : BufTy).Contents (Elt F)) (g_v34 V) := un opsB_writes V 73 rfl (by decide +kernel) (by decide +kernel)
theorem e_v36 : g_v36 V = (broadcastInDim S3200x128 ![0, 1] bcast_S3200x1_S3200x128_0_1 : (⟨S3200x1, .i32⟩ : BufTy).Contents (Elt F) → (⟨S3200x128, .i32⟩ : BufTy).Contents (Elt F)) (g_v33 V) := un opsB_writes V 74 rfl (by decide +kernel) (by decide +kernel)
theorem e_v37 : g_v37 V = (broadcastInDim S3200x128 ![0, 1] bcast_S1x128_S3200x128_0_1 : (⟨S1x128, .i32⟩ : BufTy).Contents (Elt F) → (⟨S3200x128, .i32⟩ : BufTy).Contents (Elt F)) (g_v35 V) := un opsB_writes V 75 rfl (by decide +kernel) (by decide +kernel)
theorem e_v38 : g_v38 V = (cmpi .eq : (⟨S3200x128, .i32⟩ : BufTy).Contents (Elt F) → (⟨S3200x128, .i32⟩ : BufTy).Contents (Elt F) → (⟨S3200x128, .i1⟩ : BufTy).Contents (Elt F)) (g_v36 V) (g_v37 V) := bi opsB_writes V 76 rfl (by decide +kernel) (by decide +kernel) (by decide +kernel)
theorem e_v39 : g_v39 V = (uitofp .f32 : (⟨S3200x128, .i1⟩ : BufTy).Contents (Elt F) → (⟨S3200x128, .f32⟩ : BufTy).Contents (Elt F)) (g_v38 V) := un opsB_writes V 77 rfl (by decide +kernel) (by decide +kernel)
theorem e_v40 : g_v40 V = (broadcastInDim S3200x1 ![0] bcast_S3200_S3200x1_0 : (⟨S3200, .i32⟩ : BufTy).Contents (Elt F) → (⟨S3200x1, .i32⟩ : BufTy).Contents (Elt F)) (g_v21 V) := un opsB_writes V 78 rfl (by decide +kernel) (by decide +kernel)
theorem e_c_5 : g_c_5 V = (constantI S_ 32 25#32) := nul opsB_writes V 79 rfl (by decide +kernel)
theorem e_call4_v0 : g_call4_v0 V = (id : (⟨S_, .i32⟩ : BufTy).Contents (Elt F) → (⟨S_, .i32⟩ : BufTy).Contents (Elt F)) (g_c_5 V) := un opsB_writes V 80 rfl (by decide +kernel) (by decide +kernel)
theorem e_call4_c : g_call4_c V = (constantI S_ 32 0#32) := nul opsB_writes V 81 rfl (by decide +kernel)
theorem e_call4_v1 : g_call4_v1 V = (cmpi .eq : (⟨S_, .i32⟩ : BufTy).Contents (Elt F) → (⟨S_, .i32⟩ : BufTy).Contents (Elt F) → (⟨S_, .i1⟩ : BufTy).Contents (Elt F)) (g_call4_v0 V) (g_call4_c V) := bi opsB_writes V 82 rfl (by decide +kernel) (by decide +kernel) (by decide +kernel)
theorem e_call4_c_0 : g_call4_c_0 V = (constantI S_ 32 1#32) := nul opsB_writes V 83 rfl (by decide +kernel)
theorem e_call4_v2 : g_call4_v2 V = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (g_call4_v1 V) (g_call4_c_0 V) (g_call4_v0 V) := ter opsB_writes V 84 rfl (by decide +kernel) (by decide +kernel) (by decide +kernel) (by decide +kernel)
theorem e_call4_v3 : g_call4_v3 V = (broadcastInDim S3200x1 ![] bcast_S_S3200x1 : (⟨S_, .i32⟩ : BufTy).Contents (Elt F) → (⟨S3200x1, .i32⟩ : BufTy).Contents (Elt F)) (g_call4_v2 V) := un opsB_writes V 85 rfl (by decide +kernel) (by decide +kernel)
theorem e_call4_v4 : g_call4_v4 V = (Host.remsi : (⟨S3200x1, .i32⟩ : BufTy).Contents (Elt F) → (⟨S3200x1, .i32⟩ : BufTy).Contents (Elt F) → (⟨S3200x1, .i32⟩ : BufTy).Contents (Elt F)) (g_v40 V) (g_call4_v3 V) := bi opsB_writes V 86 rfl (by decide +kernel) (by decide +kernel) (by decide +kernel)
theorem e_call4_c_1 : g_call4_c_1 V = (constantI S_ 32 0#32) := nul opsB_writes V 87 rfl (by decide +kernel)
theorem e_call4_v5 : g_call4_v5 V = (broadcastInDim S3200x1 ![] bcast_S_S3200x1 : (⟨S_, .i32⟩ : BufTy).Contents (Elt F) → (⟨S3200x1, .i32⟩ : BufTy).Contents (Elt F)) (g_call4_c_1 V) := un opsB_writes V 88 rfl (by decide +kernel) (by decide +kernel)
theorem e_call4_v6 : g_call4_v6 V = (cmpi .ne : (⟨S3200x1, .i32⟩ : BufTy).Contents (Elt F) → (⟨S3200x1, .i32⟩ : BufTy).Contents (Elt F) → (⟨S3200x1, .i1⟩ : BufTy).Contents (Elt F)) (g_call4_v4 V) (g_call4_v5 V) := bi opsB_writes V 89 rfl (by decide +kernel) (by decide +kernel) (by decide +kernel)
theorem e_call4_c_2 : g_call4_c_2 V = (constantI S_ 32 0#32) := nul opsB_writes V 90 rfl (by decide +kernel)
theorem e_call4_v7 : g_call4_v7 V = (broadcastInDim S3200x1 ![] bcast_S_S3200x1 : (⟨S_, .i32⟩ : BufTy).Contents (Elt F) → (⟨S3200x1, .i32⟩ : BufTy).Contents (Elt F)) (g_call4_c_2 V) := un opsB_writes V 91 rfl (by decide +kernel) (by decide +kernel)
theorem e_call4_v8 : g_call4_v8 V = (cmpi .slt : (⟨S3200x1, .i32⟩ : BufTy).Contents (Elt F) → (⟨S3200x1, .i32⟩ : BufTy).Contents (Elt F) → (⟨S3200x1, .i1⟩ : BufTy).Contents (Elt F)) (g_call4_v4 V) (g_call4_v7 V) := bi opsB_writes V 92 rfl (by decide +kernel) (by decide +kernel) (by decide +kernel)
theorem e_call4_c_3 : g_call4_c_3 V = (constantI S_ 32 0#32) := nul opsB_writes V 93 rfl (by decide +kernel)
theorem e_call4_v9 : g_call4_v9 V = (cmpi .slt : (⟨S_, .i32⟩ : BufTy).Contents (Elt F) → (⟨S_, .i32⟩ : BufTy).Contents (Elt F) → (⟨S_, .i1⟩ : BufTy).Contents (Elt F)) (g_call4_v2 V) (g_call4_c_3 V) := bi opsB_writes V 94 rfl (by decide +kernel) (by decide +kernel) (by decide +kernel)
theorem e_call4_v10 : g_call4_v10 V = (broadcastInDim S3200x1 ![] bcast_S_S3200x1 : (⟨S_, .i1⟩ : BufTy).Contents (Elt F) → (⟨S3200x1, .i1⟩ : BufTy).Contents (Elt F)) (g_call4_v9 V) := un opsB_writes V 95 rfl (by decide +kernel) (by decide +kernel)
theorem e_call4_v11 : g_call4_v11 V = (cmpi .ne : (⟨S3200x1, .i1⟩ : BufTy).Contents (Elt F) → (⟨S3200x1, .i1⟩ : BufTy).Contents (Elt F) → (⟨S3200x1, .i1⟩ : BufTy).Contents (Elt F)) (g_call4_v8 V) (g_call4_v10 V) := bi opsB_writes V 96 rfl (by decide +kernel) (by decide +kernel) (by decide +kernel)
theorem e_call4_v12 : g_call4_v12 V = (andi : (⟨S3200x1, .i1⟩ : BufTy).Contents (Elt F) → (⟨S3200x1, .i1⟩ : BufTy).Contents (Elt F) → (⟨S3200x1, .i1⟩ : BufTy).Contents (Elt F)) (g_call4_v11 V) (g_call4_v6 V) := bi opsB_writes V 97 rfl (by decide +kernel) (by decide +kernel) (by decide +kernel)
theorem e_call4_v13 : g_call4_v13 V = (broadcastInDim S3200x1 ![] bcast_S_S3200x1 : (⟨S_, .i32⟩ : BufTy).Contents (Elt F) → (⟨S3200x1, .i32⟩ : BufTy).Contents (Elt F)) (g_call4_v2 V) := un opsB_writes V 98 rfl (by decide +kernel) (by decide +kernel)
theorem e_call4_v14 : g_call4_v14 V = (addi : (⟨S3200x1, .i32⟩ : BufTy).Contents (Elt F) → (⟨S3200x1, .i32⟩ : BufTy).Contents (Elt F) → (⟨S3200x1, .i32⟩ : BufTy).Contents (Elt F)) (g_call4_v4 V) (g_call4_v13 V) := bi opsB_writes V 99 rfl (by decide +kernel) (by decide +kernel) (by decide +kernel)
theorem e_v41 : g_v41 V = (select : (⟨S3200x1, .i1⟩ : BufTy).Contents (Elt F) → (⟨S3200x1, .i32⟩ : BufTy).Contents (Elt F) → (⟨S3200x1, .i32⟩ : BufTy).Contents (Elt F) → (⟨S3200x1, .i32⟩ : BufTy).Contents (Elt F)) (g_call4_v12 V) (g_call4_v14 V) (g_call4_v4 V) := ter opsB_writes V 100 rfl (by decide +kernel) (by decide +kernel) (by decide +kernel) (by decide +kernel)
theorem e_c_6 : g_c_6 V = (constantI S_ 32 8#32) := nul opsB_writes V 101 rfl (by decide +kernel)
theorem e_v42 : g_v42 V = (broadcastInDim S3200x1 ![] bcast_S_S3200x1 : (⟨S_, .i32⟩ : BufTy).Contents (Elt F) → (⟨S3200x1, .i32⟩ : BufTy).Contents (Elt F)) (g_c_6 V) := un opsB_writes V 102 rfl (by decide +kernel) (by decide +kernel)
theorem e_v43 : g_v43 V = (muli : (⟨S3200x1, .i32⟩ : BufTy).Contents (Elt F) → (⟨S3200x1, .i32⟩ : BufTy).Contents (Elt F) → (⟨S3200x1, .i32⟩ : BufTy).Contents (Elt F)) (g_v41 V) (g_v42 V) := bi opsB_writes V 103 rfl (by decide +kernel) (by decide +kernel) (by decide +kernel)
theorem e_v44 : g_v44 V = (iotaInDim S128 32 0) := nul opsB_writes V 104 rfl (by decide +kernel)
theorem e_v45 : g_v45 V = (broadcastInDim S1x128 ![1] bcast_S128_S1x128_1 : (⟨S128, .i32⟩ : BufTy).Contents (Elt F) → (⟨S1x128, .i32⟩ : BufTy).Contents (Elt F)) (g_v44 V) := un opsB_writes V 105 rfl (by decide +kernel) (by decide +kernel)
theorem e_c_7 : g_c_7 V = (constantI S_ 32 16#32) := nul opsB_writes V 106 rfl (by decide +kernel)
theorem e_call5_v0 : g_call5_v0 V = (id : (⟨S_, .i32⟩ : BufTy).Contents (Elt F) → (⟨S_, .i32⟩ : BufTy).Contents (Elt F)) (g_c_7 V) := un opsB_writes V 107 rfl (by decide +kernel) (by decide +kernel)
theorem e_call5_v1 : g_call5_v1 V = (broadcastInDim S1x128 ![] bcast_S_S1x128 : (⟨S_, .i32⟩ : BufTy).Contents (Elt F) → (⟨S1x128, .i32⟩ : BufTy).Contents (Elt F)) (g_call5_v0 V) := un opsB_writes V 108 rfl (by decide +kernel) (by decide +kernel)
theorem e_call5_v2 : g_call5_v2 V = (Host.divsi : (⟨S1x128, .i32⟩ : BufTy).Contents (Elt F) → (⟨S1x128, .i32⟩ : BufTy).Contents (Elt F) → (⟨S1x128, .i32⟩ : BufTy).Contents (Elt F)) (g_v45 V) (g_call5_v1 V) := bi opsB_writes V 109 rfl (by decide +kernel) (by decide +kernel) (by decide +kernel)
theorem e_call5_v3 : g_call5_v3 V = (signi : (⟨S1x128, .i32⟩ : BufTy).Contents (Elt F) → (⟨S1x128, .i32⟩ : BufTy).Contents (Elt F)) (g_v45 V) := un opsB_writes V 110 rfl (by decide +kernel) (by decide +kernel)
theorem e_call5_v4 : g_call5_v4 V = (signi : (⟨S_, .i32⟩ : BufTy).Contents (Elt F) → (⟨S_, .i32⟩ : BufTy).Contents (Elt F)) (g_call5_v0 V) := un opsB_writes V 111 rfl (by decide +kernel) (by decide +kernel)
theorem e_call5_v5 : g_call5_v5 V = (broadcastInDim S1x128 ![] bcast_S_S1x128 : (⟨S_, .i32⟩ : BufTy).Contents (Elt F) → (⟨S1x128, .i32⟩ : BufTy).Contents (Elt F)) (g_call5_v4 V) := un opsB_writes V 112 rfl (by decide +kernel) (by decide +kernel)
theorem e_call5_v6 : g_call5_v6 V = (cmpi .ne : (⟨S1x128, .i32⟩ : BufTy).Contents (Elt F) → (⟨S1x128, .i32⟩ : BufTy).Contents (Elt F) → (⟨S1x128, .i1⟩ : BufTy).Contents (Elt F)) (g_call5_v3 V) (g_call5_v5 V) := bi opsB_writes V 113 rfl (by decide +kernel) (by decide +kernel) (by decide +kernel)
theorem e_call5_v7 : g_call5_v7 V = (broadcastInDim S1x128 ![] bcast_S_S1x128 : (⟨S_, .i32⟩ : BufTy).Contents (Elt F) → (⟨S1x128, .i32⟩ : BufTy).Contents (Elt F)) (g_call5_v0 V) := un opsB_writes V 114 rfl (by decide +kernel) (by decide +kernel)
theorem e_call5_v8 : g_call5_v8 V = (Host.remsi : (⟨S1x128, .i32⟩ : BufTy).Contents (Elt F) → (⟨S1x128, .i32⟩ : BufTy).Contents (Elt F) → (⟨S1x128, .i32⟩ : BufTy).Contents (Elt F)) (g_v45 V) (g_call5_v7 V) := bi opsB_writes V 115 rfl (by decide +kernel) (by decide +kernel) (by decide +kernel)
theorem e_call5_c : g_call5_c V = (constantI S_ 32 0#32) := nul opsB_writes V 116 rfl (by decide +kernel)
theorem e_call5_v9 : g_call5_v9 V = (broadcastInDim S1x128 ![] bcast_S_S1x128 : (⟨S_, .i32⟩ : BufTy).Contents (Elt F) → (⟨S1x128, .i32⟩ : BufTy).Contents (Elt F)) (g_call5_c V) := un opsB_writes V 117 rfl (by decide +kernel) (by decide +kernel)
theorem e_call5_v10 : g_call5_v10 V = (cmpi .ne : (⟨S1x128, .i32⟩ : BufTy).Contents (Elt F) → (⟨S1x128, .i32⟩ : BufTy).Contents (Elt F) → (⟨S1x128, .i1⟩ : BufTy).Contents (Elt F)) (g_call5_v8 V) (g_call5_v9 V) := bi opsB_writes V 118 rfl (by decide +kernel) (by decide +kernel) (by decide +kernel)
theorem e_call5_v11 : g_call5_v11 V = (andi : (⟨S1x128, .i1⟩ : BufTy).Contents (Elt F) → (⟨S1x128, .i1⟩ : BufTy).Contents (Elt F) → (⟨S1x128, .i1⟩ : BufTy).Contents (Elt F)) (g_call5_v6 V) (g_call5_v10 V) := bi opsB_writes V 119 rfl (by decide +kernel) (by decide +kernel) (by decide +kernel)
theorem e_call5_c_0 : g_call5_c_0 V = (constantI S_ 32 1#32) := nul opsB_writes V 120 rfl (by decide +kernel)
theorem e_call5_v12 : g_call5_v12 V = (broadcastInDim S1x128 ![] bcast_S_S1x128 : (⟨S_, .i32⟩ : BufTy).Contents (Elt F) → (⟨S1x128, .i32⟩ : BufTy).Contents (Elt F)) (g_call5_c_0 V) := un opsB_writes V 121 rfl (by decide +kernel) (by decide +kernel)
theorem e_call5_v13 : g_call5_v13 V = (subi : (⟨S1x128, .i32⟩ : BufTy).Contents (Elt F) → (⟨S1x128, .i32⟩ : BufTy).Contents (Elt F) → (⟨S1x128, .i32⟩ : BufTy).Contents (Elt F)) (g_call5_v2 V) (g_call5_v12 V) := bi opsB_writes V 122 rfl (by decide +kernel) (by decide +kernel) (by decide +kernel)
theorem e_v46 : g_v46 V = (select : (⟨S1x128, .i1⟩ : BufTy).Contents (Elt F) → (⟨S1x128, .i32⟩ : BufTy).Contents (Elt F) → (⟨S1x128, .i32⟩ : BufTy).Contents (Elt F) → (⟨S1x128, .i32⟩ : BufTy).Contents (Elt F)) (g_call5_v11 V) (g_call5_v13 V) (g_call5_v2 V) := ter opsB_writes V 123 rfl (by decide +kernel) (by decide +kernel) (by decide +kernel) (by decide +kernel)
theorem e_v47 : g_v47 V = (broadcastInDim S3200x128 ![0, 1] bcast_S3200x1_S3200x128_0_1 : (⟨S3200x1, .i32⟩ : BufTy).Contents (Elt F) → (⟨S3200x128, .i32⟩ : BufTy).Contents (Elt F)) (g_v43 V) := un opsB_writes V 124 rfl (by decide +kernel) (by decide +kernel)
theorem e_v48 : g_v48 V = (broadcastInDim S3200x128 ![0, 1] bcast_S1x128_S3200x128_0_1 : (⟨S1x128, .i32⟩ : BufTy).Contents (Elt F) → (⟨S3200x128, .i32⟩ : BufTy).Contents (Elt F)) (g_v46 V) := un opsB_writes V 125 rfl (by decide +kernel) (by decide +kernel)
theorem e_v49 : g_v49 V = (addi : (⟨S3200x128, .i32⟩ : BufTy).Contents (Elt F) → (⟨S3200x128, .i32⟩ : BufTy).Contents (Elt F) → (⟨S3200x128, .i32⟩ : BufTy).Contents (Elt F)) (g_v47 V) (g_v48 V) := bi opsB_writes V 126 rfl (by decide +kernel) (by decide +kernel) (by decide +kernel)
theorem e_v50 : g_v50 V = (sitofp .f32 : (⟨S3200x128, .i32⟩ : BufTy).Contents (Elt F) → (⟨S3200x128, .f32⟩ : BufTy).Contents (Elt F)) (g_v49 V) := un opsB_writes V 127 rfl (by decide +kernel) (by decide +kernel)
theorem e_v51 : g_v51 V = (iotaInDim S128 32 0) := nul opsB_writes V 128 rfl (by decide +kernel)
theorem e_v52 : g_v52 V = (broadcastInDim S1x128 ![1] bcast_S128_S1x128_1 : (⟨S128, .i32⟩ : BufTy).Contents (Elt F) → (⟨S1x128, .i32⟩ : BufTy).Contents (Elt F)) (g_v51 V) := un opsB_writes V 129 rfl (by decide +kernel) (by decide +kernel)
theorem e_c_8 : g_c_8 V = (constantI S_ 32 16#32) := nul opsB_writes V 130 rfl (by decide +kernel)
theorem e_call6_v0 : g_call6_v0 V = (id : (⟨S_, .i32⟩ : BufTy).Contents (Elt F) → (⟨S_, .i32⟩ : BufTy).Contents (Elt F)) (g_c_8 V) := un opsB_writes V 131 rfl (by decide +kernel) (by decide +kernel)
theorem e_call6_v1 : g_call6_v1 V = (broadcastInDim S1x128 ![] bcast_S_S1x128 : (⟨S_, .i32⟩ : BufTy).Contents (Elt F) → (⟨S1x128, .i32⟩ : BufTy).Contents (Elt F)) (g_call6_v0 V) := un opsB_writes V 132 rfl (by decide +kernel) (by decide +kernel)
theorem e_call6_v2 : g_call6_v2 V = (Host.divsi : (⟨S1x128, .i32⟩ : BufTy).Contents (Elt F) → (⟨S1x128, .i32⟩ : BufTy).Contents (Elt F) → (⟨S1x128, .i32⟩ : BufTy).Contents (Elt F)) (g_v52 V) (g_call6_v1 V) := bi opsB_writes V 133 rfl (by decide +kernel) (by decide +kernel) (by decide +kernel)
theorem e_call6_v3 : g_call6_v3 V = (signi : (⟨S1x128, .i32⟩ : BufTy).Contents (Elt F) → (⟨S1x128, .i32⟩ : BufTy).Contents (Elt F)) (g_v52 V) := un opsB_writes V 134 rfl (by decide +kernel) (by decide +kernel)
theorem e_call6_v4 : g_call6_v4 V = (signi : (⟨S_, .i32⟩ : BufTy).Contents (Elt F) → (⟨S_, .i32⟩ : BufTy).Contents (Elt F)) (g_call6_v0 V) := un opsB_writes V 135 rfl (by decide +kernel) (by decide +kernel)
theorem e_call6_v5 : g_call6_v5 V = (broadcastInDim S1x128 ![] bcast_S_S1x128 : (⟨S_, .i32⟩ : BufTy).Contents (Elt F) → (⟨S1x128, .i32⟩ : BufTy).Contents (Elt F)) (g_call6_v4 V) := un opsB_writes V 136 rfl (by decide +kernel) (by decide +kernel)
theorem e_call6_v6 : g_call6_v6 V = (cmpi .ne : (⟨S1x128, .i32⟩ : BufTy).Contents (Elt F) → (⟨S1x128, .i32⟩ : BufTy).Contents (Elt F) → (⟨S1x128, .i1⟩ : BufTy).Contents (Elt F)) (g_call6_v3 V) (g_call6_v5 V) := bi opsB_writes V 137 rfl (by decide +kernel) (by decide +kernel) (by decide +kernel)
theorem e_call6_v7 : g_call6_v7 V = (broadcastInDim S1x128 ![] bcast_S_S1x128 : (⟨S_, .i32⟩ : BufTy).Contents (Elt F) → (⟨S1x128, .i32⟩ : BufTy).Contents (Elt F)) (g_call6_v0 V) := un opsB_writes V 138 rfl (by decide +kernel) (by decide +kernel)
theorem e_call6_v8 : g_call6_v8 V = (Host.remsi : (⟨S1x128, .i32⟩ : BufTy).Contents (Elt F) → (⟨S1x128, .i32⟩ : BufTy).Contents (Elt F) → (⟨S1x128, .i32⟩ : BufTy).Contents (Elt F)) (g_v52 V) (g_call6_v7 V) := bi opsB_writes V 139 rfl (by decide +kernel) (by decide +kernel) (by decide +kernel)
theorem e_call6_c : g_call6_c V = (constantI S_ 32 0#32) := nul opsB_writes V 140 rfl (by decide +kernel)
theorem e_call6_v9 : g_call6_v9 V = (broadcastInDim S1x128 ![] bcast_S_S1x128 : (⟨S_, .i32⟩ : BufTy).Contents (Elt F) → (⟨S1x128, .i32⟩ : BufTy).Contents (Elt F)) (g_call6_c V) := un opsB_writes V 141 rfl (by decide +kernel) (by decide +kernel)
theorem e_call6_v10 : g_call6_v10 V = (cmpi .ne : (⟨S1x128, .i32⟩ : BufTy).Contents (Elt F) → (⟨S1x128, .i32⟩ : BufTy).Contents (Elt F) → (⟨S1x128, .i1⟩ : BufTy).Contents (Elt F)) (g_call6_v8 V) (g_call6_v9 V) := bi opsB_writes V 142 rfl (by decide +kernel) (by decide +kernel) (by decide +kernel)
theorem e_call6_v11 : g_call6_v11 V = (andi : (⟨S1x128, .i1⟩ : BufTy).Contents (Elt F) → (⟨S1x128, .i1⟩ : BufTy).Contents (Elt F) → (⟨S1x128, .i1⟩ : BufTy).Contents (Elt F)) (g_call6_v6 V) (g_call6_v10 V) := bi opsB_writes V 143 rfl (by decide +kernel) (by decide +kernel) (by decide +kernel)
theorem e_call6_c_0 : g_call6_c_0 V = (constantI S_ 32 1#32) := nul opsB_writes V 144 rfl (by decide +kernel)
theorem e_call6_v12 : g_call6_v12 V = (broadcastInDim S1x128 ![] bcast_S_S1x128 : (⟨S_, .i32⟩ : BufTy).Contents (Elt F) → (⟨S1x128, .i32⟩ : BufTy).Contents (Elt F)) (g_call6_c_0 V) := un opsB_writes V 145 rfl (by decide +kernel) (by decide +kernel)
theorem e_call6_v13 : g_call6_v13 V = (subi : (⟨S1x128, .i32⟩ : BufTy).Contents (Elt F) → (⟨S1x128, .i32⟩ : BufTy).Contents (Elt F) → (⟨S1x128, .i32⟩ : BufTy).Contents (Elt F)) (g_call6_v2 V) (g_call6_v12 V) := bi opsB_writes V 146 rfl (by decide +kernel) (by decide +kernel) (by decide +kernel)
theorem e_v53 : g_v53 V = (select : (⟨S1x128, .i1⟩ : BufTy).Contents (Elt F) → (⟨S1x128, .i32⟩ : BufTy).Contents (Elt F) → (⟨S1x128, .i32⟩ : BufTy).Contents (Elt F) → (⟨S1x128, .i32⟩ : BufTy).Contents (Elt F)) (g_call6_v11 V) (g_call6_v13 V) (g_call6_v2 V) := ter opsB_writes V 147 rfl (by decide +kernel) (by decide +kernel) (by decide +kernel) (by decide +kernel)
theorem e_v54 : g_v54 V = (iotaInDim S8 32 0) := nul opsB_writes V 148 rfl (by decide +kernel)
theorem e_v55 : g_v55 V = (broadcastInDim S8x1 ![0] bcast_S8_S8x1_0 : (⟨S8, .i32⟩ : BufTy).Contents (Elt F) → (⟨S8x1, .i32⟩ : BufTy).Contents (Elt F)) (g_v54 V) := un opsB_writes V 149 rfl (by decide +kernel) (by decide +kernel)
theorem e_v56 : g_v56 V = (broadcastInDim S8x128 ![0, 1] bcast_S1x128_S8x128_0_1 : (⟨S1x128, .i32⟩ : BufTy).Contents (Elt F) → (⟨S8x128, .i32⟩ : BufTy).Contents (Elt F)) (g_v53 V) := un opsB_writes V 150 rfl (by decide +kernel) (by decide +kernel)
theorem e_v57 : g_v57 V = (broadcastInDim S8x128 ![0, 1] bcast_S8x1_S8x128_0_1 : (⟨S8x1, .i32⟩ : BufTy).Contents (Elt F) → (⟨S8x128, .i32⟩ : BufTy).Contents (Elt F)) (g_v55 V) := un opsB_writes V 151 rfl (by decide +kernel) (by decide +kernel)
theorem e_v58 : g_v58 V = (cmpi .eq : (⟨S8x128, .i32⟩ : BufTy).Contents (Elt F) → (⟨S8x128, .i32⟩ : BufTy).Contents (Elt F) → (⟨S8x128, .i1⟩ : BufTy).Contents (Elt F)) (g_v56 V) (g_v57 V) := bi opsB_writes V 152 rfl (by decide +kernel) (by decide +kernel) (by decide +kernel)
theorem e_v59 : g_v59 V = (uitofp .f32 : (⟨S8x128, .i1⟩ : BufTy).Contents (Elt F) → (⟨S8x128, .f32⟩ : BufTy).Contents (Elt F)) (g_v58 V) := un opsB_writes V 153 rfl (by decide +kernel) (by decide +kernel)
theorem e_call7_v0 : g_call7_v0 V = (broadcastInDim S8x1x8x1 ![0, 2] bcast_S8x8_S8x1x8x1_0_2 : (⟨S8x8, .f32⟩ : BufTy).Contents (Elt F) → (⟨S8x1x8x1, .f32⟩ : BufTy).Contents (Elt F)) (g_v18 V) := un opsB_writes V 154 rfl (by decide +kernel) (by decide +kernel)
theorem e_call7_v1 : g_call7_v1 V = (broadcastInDim S1x16x1x1 ![1, 3] bcast_S16x1_S1x16x1x1_1_3 : (⟨S16x1, .f32⟩ : BufTy).Contents (Elt F) → (⟨S1x16x1x1, .f32⟩ : BufTy).Contents (Elt F)) (g_v20 V) := un opsB_writes V 155 rfl (by decide +kernel) (by decide +kernel)
theorem e_call7_v2 : g_call7_v2 V = (broadcastInDim S8x16x8x1 ![0, 1, 2, 3] bcast_S8x1x8x1_S8x16x8x1_0_1_2_3 : (⟨S8x1x8x1, .f32⟩ : BufTy).Contents (Elt F) → (⟨S8x16x8x1, .f32⟩ : BufTy).Contents (Elt F)) (g_call7_v0 V) := un opsB_writes V 156 rfl (by decide +kernel) (by decide +kernel)
theorem e_call7_v3 : g_call7_v3 V = (broadcastInDim S8x16x8x1 ![0, 1, 2, 3] bcast_S1x16x1x1_S8x16x8x1_0_1_2_3 : (⟨S1x16x1x1, .f32⟩ : BufTy).Contents (Elt F) → (⟨S8x16x8x1, .f32⟩ : BufTy).Contents (Elt F)) (g_call7_v1 V) := un opsB_writes V 157 rfl (by decide +kernel) (by decide +kernel)
theorem e_call7_v4 : g_call7_v4 V = (mulf : (⟨S8x16x8x1, .f32⟩ : BufTy).Contents (Elt F) → (⟨S8x16x8x1, .f32⟩ : BufTy).Contents (Elt F) → (⟨S8x16x8x1, .f32⟩ : BufTy).Contents (Elt F)) (g_call7_v2 V) (g_call7_v3 V) := bi opsB_writes V 158 rfl (by decide +kernel) (by decide +kernel) (by decide +kernel)
theorem e_v60 : g_v60 V = shapeCast S128x8 (g_call7_v4 V) shapeCasts_S8x16x8x1_S128x8 := resh opsB_writes V 159 rfl (by decide +kernel) (by decide +kernel)
theorem e_v61 : g_v61 V = (broadcastInDim S128x8x16 ![0, 1] bcast_S128x8_S128x8x16_0_1 : (⟨S128x8, .f32⟩ : BufTy).Contents (Elt F) → (⟨S128x8x16, .f32⟩ : BufTy).Contents (Elt F)) (g_v60 V) := un opsB_writes V 160 rfl (by decide +kernel) (by decide +kernel)
theorem e_v62 : g_v62 V = shapeCast S128x128 (g_v61 V) shapeCasts_S128x8x16_S128x128 := resh opsB_writes V 161 rfl (by decide +kernel) (by decide +kernel)
theorem e_v63 : g_v63 V = (subf : (⟨S16x16, .f32⟩ : BufTy).Contents (Elt F) → (⟨S16x16, .f32⟩ : BufTy).Contents (Elt F) → (⟨S16x16, .f32⟩ : BufTy).Contents (Elt F)) (g_v10 V) (g_v11 V) := bi opsB_writes V 162 rfl (by decide +kernel) (by decide +kernel) (by decide +kernel)
theorem e_call8_v0 : g_call8_v0 V = (broadcastInDim S8x1x8x1 ![0, 2] bcast_S8x8_S8x1x8x1_0_2 : (⟨S8x8, .f32⟩ : BufTy).Contents (Elt F) → (⟨S8x1x8x1, .f32⟩ : BufTy).Contents (Elt F)) (g_v18 V) := un opsB_writes V 163 rfl (by decide +kernel) (by decide +kernel)
theorem e_call8_v1 : g_call8_v1 V = (broadcastInDim S1x16x1x16 ![1, 3] bcast_S16x16_S1x16x1x16_1_3 : (⟨S16x16, .f32⟩ : BufTy).Contents (Elt F) → (⟨S1x16x1x16, .f32⟩ : BufTy).Contents (Elt F)) (g_v63 V) := un opsB_writes V 164 rfl (by decide +kernel) (by decide +kernel)
theorem e_call8_v2 : g_call8_v2 V = (broadcastInDim S8x16x8x16 ![0, 1, 2, 3] bcast_S8x1x8x1_S8x16x8x16_0_1_2_3 : (⟨S8x1x8x1, .f32⟩ : BufTy).Contents (Elt F) → (⟨S8x16x8x16, .f32⟩ : BufTy).Contents (Elt F)) (g_call8_v0 V) := un opsB_writes V 165 rfl (by decide +kernel) (by decide +kernel)
theorem e_call8_v3 : g_call8_v3 V = (broadcastInDim S8x16x8x16 ![0, 1, 2, 3] bcast_S1x16x1x16_S8x16x8x16_0_1_2_3 : (⟨S1x16x1x16, .f32⟩ : BufTy).Contents (Elt F) → (⟨S8x16x8x16, .f32⟩ : BufTy).Contents (Elt F)) (g_call8_v1 V) := un opsB_writes V 166 rfl (by decide +kernel) (by decide +kernel)
theorem e_call8_v4 : g_call8_v4 V = (mulf : (⟨S8x16x8x16, .f32⟩ : BufTy).Contents (Elt F) → (⟨S8x16x8x16, .f32⟩ : BufTy).Contents (Elt F) → (⟨S8x16x8x16, .f32⟩ : BufTy).Contents (Elt F)) (g_call8_v2 V) (g_call8_v3 V) := bi opsB_writes V 167 rfl (by decide +kernel) (by decide +kernel) (by decide +kernel)
theorem e_v64 : g_v64 V = shapeCast S128x128 (g_call8_v4 V) shapeCasts_S8x16x8x16_S128x128 := resh opsB_writes V 168 rfl (by decide +kernel) (by decide +kernel)
theorem e_call9_v0 : g_call9_v0 V = (broadcastInDim S8x1x8x1 ![0, 2] bcast_S8x8_S8x1x8x1_0_2 : (⟨S8x8, .f32⟩ : BufTy).Contents (Elt F) → (⟨S8x1x8x1, .f32⟩ : BufTy).Contents (Elt F)) (g_v18 V) := un opsB_writes V 169 rfl (by decide +kernel) (by decide +kernel)
theorem e_call9_v1 : g_call9_v1 V = (broadcastInDim S1x16x1x16 ![1, 3] bcast_S16x16_S1x16x1x16_1_3 : (⟨S16x16, .f32⟩ : BufTy).Contents (Elt F) → (⟨S1x16x1x16, .f32⟩ : BufTy).Contents (Elt F)) (g_v12 V) := un opsB_writes V 170 rfl (by decide +kernel) (by decide +kernel)
theorem e_call9_v2 : g_call9_v2 V = (broadcastInDim S8x16x8x16 ![0, 1, 2, 3] bcast_S8x1x8x1_S8x16x8x16_0_1_2_3 : (⟨S8x1x8x1, .f32⟩ : BufTy).Contents (Elt F) → (⟨S8x16x8x16, .f32⟩ : BufTy).Contents (Elt F)) (g_call9_v0 V) := un opsB_writes V 171 rfl (by decide +kernel) (by decide +kernel)
theorem e_call9_v3 : g_call9_v3 V = (broadcastInDim S8x16x8x16 ![0, 1, 2, 3] bcast_S1x16x1x16_S8x16x8x16_0_1_2_3 : (⟨S1x16x1x16, .f32⟩ : BufTy).Contents (Elt F) → (⟨S8x16x8x16, .f32⟩ : BufTy).Contents (Elt F)) (g_call9_v1 V) := un opsB_writes V 172 rfl (by decide +kernel) (by decide +kernel)
theorem e_call9_v4 : g_call9_v4 V = (mulf : (⟨S8x16x8x16, .f32⟩ : BufTy).Contents (Elt F) → (⟨S8x16x8x16, .f32⟩ : BufTy).Contents (Elt F) → (⟨S8x16x8x16, .f32⟩ : BufTy).Contents (Elt F)) (g_call9_v2 V) (g_call9_v3 V) := bi opsB_writes V 173 rfl (by decide +kernel) (by decide +kernel) (by decide +kernel)
theorem e_v65 : g_v65 V = shapeCast S128x128 (g_call9_v4 V) shapeCasts_S8x16x8x16_S128x128 := resh opsB_writes V 174 rfl (by decide +kernel) (by decide +kernel)
theorem e_v66 : g_v66 V = (addf : (⟨S16x16, .f32⟩ : BufTy).Contents (Elt F) → (⟨S16x16, .f32⟩ : BufTy).Contents (Elt F) → (⟨S16x16, .f32⟩ : BufTy).Contents (Elt F)) (g_v9 V) (g_v11 V) := bi opsB_writes V 175 rfl (by decide +kernel) (by decide +kernel) (by decide +kernel)
theorem e_v67 : g_v67 V = shapeCast S1x16x1x16 (g_v66 V) shapeCasts_S16x16_S1x16x1x16 := resh opsB_writes V 176 rfl (by decide +kernel) (by decide +kernel)
theorem e_v68 : g_v68 V = (broadcastInDim S1x16x8x16 ![0, 1, 2, 3] bcast_S1x16x1x16_S1x16x8x16_0_1_2_3 : (⟨S1x16x1x16, .f32⟩ : BufTy).Contents (Elt F) → (⟨S1x16x8x16, .f32⟩ : BufTy).Contents (Elt F)) (g_v67 V) := un opsB_writes V 177 rfl (by decide +kernel) (by decide +kernel)
theorem e_v69 : g_v69 V = shapeCast S16x128 (g_v68 V) shapeCasts_S1x16x8x16_S16x128 := resh opsB_writes V 178 rfl (by decide +kernel) (by decide +kernel)
theorem e_v70 : g_v70 V = (broadcastInDim S4096x1 ![0] bcast_S4096_S4096x1_0 : (⟨S4096, .i32⟩ : BufTy).Contents (Elt F) → (⟨S4096x1, .i32⟩ : BufTy).Contents (Elt F)) (g_arg2 V) := un opsB_writes V 179 rfl (by decide +kernel) (by decide +kernel)
theorem e_v71 : g_v71 V = (broadcastInDim S4096x1 ![0] bcast_S4096_S4096x1_0 : (⟨S4096, .i32⟩ : BufTy).Contents (Elt F) → (⟨S4096x1, .i32⟩ : BufTy).Contents (Elt F)) (g_arg5 V) := un opsB_writes V 180 rfl (by decide +kernel) (by decide +kernel)
theorem e_v72 : g_v72 V = ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)) (g_v70 V) (g_v71 V) := bi opsB_writes V 181 rfl (by decide +kernel) (by decide +kernel) (by decide +kernel)
theorem e_v73 : g_v73 V = (sitofp .f32 : (⟨S4096x2, .i32⟩ : BufTy).Contents (Elt F) → (⟨S4096x2, .f32⟩ : BufTy).Contents (Elt F)) (g_v72 V) := un opsB_writes V 182 rfl (by decide +kernel) (by decide +kernel)
theorem e_v74 : g_v74 V = shapeCast S1x16 (g_arg9 V) shapeCasts_S16_S1x16 := resh opsB_writes V 183 rfl (by decide +kernel) (by decide +kernel)
theorem e_v75 : g_v75 V = shapeCast S1x1x1x16 (g_v74 V) shapeCasts_S1x16_S1x1x1x16 := resh opsB_writes V 184 rfl (by decide +kernel) (by decide +kernel)
theorem e_v76 : g_v76 V = (broadcastInDim S1x1x8x16 ![0, 1, 2, 3] bcast_S1x1x1x16_S1x1x8x16_0_1_2_3 : (⟨S1x1x1x16, .f32⟩ : BufTy).Contents (Elt F) → (⟨S1x1x8x16, .f32⟩ : BufTy).Contents (Elt F)) (g_v75 V) := un opsB_writes V 185 rfl (by decide +kernel) (by decide +kernel)
theorem e_v77 : g_v77 V = shapeCast S1x128 (g_v76 V) shapeCasts_S1x1x8x16_S1x128 := resh opsB_writes V 186 rfl (by decide +kernel) (by decide +kernel)
theorem e_v78 : g_v78 V = shapeCast S1x16 (g_arg10 V) shapeCasts_S16_S1x16 := resh opsB_writes V 187 rfl (by decide +kernel) (by decide +kernel)
theorem e_v79 : g_v79 V = shapeCast S1x16 (g_arg11 V) shapeCasts_S16_S1x16 := resh opsB_writes V 188 rfl (by decide +kernel) (by decide +kernel)
theorem e_v80 : g_v80 V = shapeCast S1x16 (g_arg12 V) shapeCasts_S16_S1x16 := resh opsB_writes V 189 rfl (by decide +kernel) (by decide +kernel)
theorem e_v81 : g_v81 V = shapeCast S1x1x1x16 (g_v80 V) shapeCasts_S1x16_S1x1x1x16 := resh opsB_writes V 190 rfl (by decide +kernel) (by decide +kernel)
theorem e_v82 : g_v82 V = (broadcastInDim S1x1x8x16 ![0, 1, 2, 3] bcast_S1x1x1x16_S1x1x8x16_0_1_2_3 : (⟨S1x1x1x16, .f32⟩ : BufTy).Contents (Elt F) → (⟨S1x1x8x16, .f32⟩ : BufTy).Contents (Elt F)) (g_v81 V) := un opsB_writes V 191 rfl (by decide +kernel) (by decide +kernel)
theorem e_v83 : g_v83 V = shapeCast S1x128 (g_v82 V) shapeCasts_S1x1x8x16_S1x128 := resh opsB_writes V 192 rfl (by decide +kernel) (by decide +kernel)
theorem e_call10_v0 : g_call10_v0 V = (broadcastInDim S8x1x8x1 ![0, 2] bcast_S8x8_S8x1x8x1_0_2 : (⟨S8x8, .f32⟩ : BufTy).Contents (Elt F) → (⟨S8x1x8x1, .f32⟩ : BufTy).Contents (Elt F)) (g_v18 V) := un opsB_writes V 193 rfl (by decide +kernel) (by decide +kernel)
theorem e_call10_v1 : g_call10_v1 V = (broadcastInDim S1x16x1x16 ![1, 3] bcast_S16x16_S1x16x1x16_1_3 : (⟨S16x16, .f32⟩ : BufTy).Contents (Elt F) → (⟨S1x16x1x16, .f32⟩ : BufTy).Contents (Elt F)) (g_v19 V) := un opsB_writes V 194 rfl (by decide +kernel) (by decide +kernel)
theorem e_call10_v2 : g_call10_v2 V = (broadcastInDim S8x16x8x16 ![0, 1, 2, 3] bcast_S8x1x8x1_S8x16x8x16_0_1_2_3 : (⟨S8x1x8x1, .f32⟩ : BufTy).Contents (Elt F) → (⟨S8x16x8x16, .f32⟩ : BufTy).Contents (Elt F)) (g_call10_v0 V) := un opsB_writes V 195 rfl (by decide +kernel) (by decide +kernel)
theorem e_call10_v3 : g_call10_v3 V = (broadcastInDim S8x16x8x16 ![0, 1, 2, 3] bcast_S1x16x1x16_S8x16x8x16_0_1_2_3 : (⟨S1x16x1x16, .f32⟩ : BufTy).Contents (Elt F) → (⟨S8x16x8x16, .f32⟩ : BufTy).Contents (Elt F)) (g_call10_v1 V) := un opsB_writes V 196 rfl (by decide +kernel) (by decide +kernel)
theorem e_call10_v4 : g_call10_v4 V = (mulf : (⟨S8x16x8x16, .f32⟩ : BufTy).Contents (Elt F) → (⟨S8x16x8x16, .f32⟩ : BufTy).Contents (Elt F) → (⟨S8x16x8x16, .f32⟩ : BufTy).Contents (Elt F)) (g_call10_v2 V) (g_call10_v3 V) := bi opsB_writes V 197 rfl (by decide +kernel) (by decide +kernel) (by decide +kernel)
theorem e_v84 : g_v84 V = shapeCast S128x128 (g_call10_v4 V) shapeCasts_S8x16x8x16_S128x128 := resh opsB_writes V 198 rfl (by decide +kernel) (by decide +kernel)
theorem e_v85 : g_v85 V = shapeCast S1x8 (g_arg14 V) shapeCasts_S8_S1x8 := resh opsB_writes V 199 rfl (by decide +kernel) (by decide +kernel)
theorem e_c_9 : g_c_9 V = (constantI S_ 32 0#32) := nul opsB_writes V 200 rfl (by decide +kernel)
theorem e_call11_v0 : g_call11_v0 V = (sitofp .f32 : (⟨S_, .i32⟩ : BufTy).Contents (Elt F) → (⟨S_, .f32⟩ : BufTy).Contents (Elt F)) (g_c_9 V) := un opsB_writes V 201 rfl (by decide +kernel) (by decide +kernel)
theorem e_v86 : g_v86 V = ((fun x v => pad S1x16 ![0, 0] ![0, 8] ![0, 0] x v pads_S1x8_S1x16_000_080 h_S_) : (⟨S1x8, .f32⟩ : BufTy).Contents (Elt F) → (⟨S_, .f32⟩ : BufTy).Contents (Elt F) → (⟨S1x16, .f32⟩ : BufTy).Contents (Elt F)) (g_v85 V) (g_call11_v0 V) := bi opsB_writes V 202 rfl (by decide +kernel) (by decide +kernel) (by decide +kernel)
theorem e_v87 : g_v87 V = shapeCast S1x1x1x16 (g_v86 V) shapeCasts_S1x16_S1x1x1x16 := resh opsB_writes V 203 rfl (by decide +kernel) (by decide +kernel)
theorem e_v88 : g_v88 V = (broadcastInDim S1x1x8x16 ![0, 1, 2, 3] bcast_S1x1x1x16_S1x1x8x16_0_1_2_3 : (⟨S1x1x1x16, .f32⟩ : BufTy).Contents (Elt F) → (⟨S1x1x8x16, .f32⟩ : BufTy).Contents (Elt F)) (g_v87 V) := un opsB_writes V 204 rfl (by decide +kernel) (by decide +kernel)
theorem e_v89 : g_v89 V = shapeCast S1x128 (g_v88 V) shapeCasts_S1x1x8x16_S1x128 := resh opsB_writes V 205 rfl (by decide +kernel) (by decide +kernel)
theorem e_v90 : g_v90 V = shapeCast S1x8 (g_arg15 V) shapeCasts_S8_S1x8 := resh opsB_writes V 206 rfl (by decide +kernel) (by decide +kernel)
theorem e_c_10 : g_c_10 V = (constantI S_ 32 0#32) := nul opsB_writes V 207 rfl (by decide +kernel)
theorem e_call12_v0 : g_call12_v0 V = (sitofp .f32 : (⟨S_, .i32⟩ : BufTy).Contents (Elt F) → (⟨S_, .f32⟩ : BufTy).Contents (Elt F)) (g_c_10 V) := un opsB_writes V 208 rfl (by decide +kernel) (by decide +kernel)
theorem e_v91 : g_v91 V = ((fun x v => pad S1x16 ![0, 0] ![0, 8] ![0, 0] x v pads_S1x8_S1x16_000_080 h_S_) : (⟨S1x8, .f32⟩ : BufTy).Contents (Elt F) → (⟨S_, .f32⟩ : BufTy).Contents (Elt F) → (⟨S1x16, .f32⟩ : BufTy).Contents (Elt F)) (g_v90 V) (g_call12_v0 V) := bi opsB_writes V 209 rfl (by decide +kernel) (by decide +kernel) (by decide +kernel)
theorem e_v92 : g_v92 V = shapeCast S1x8 (g_arg16 V) shapeCasts_S8_S1x8 := resh opsB_writes V 210 rfl (by decide +kernel) (by decide +kernel)
theorem e_c_11 : g_c_11 V = (constantI S_ 32 0#32) := nul opsB_writes V 211 rfl (by decide +kernel)
theorem e_call13_v0 : g_call13_v0 V = (sitofp .f32 : (⟨S_, .i32⟩ : BufTy).Contents (Elt F) → (⟨S_, .f32⟩ : BufTy).Contents (Elt F)) (g_c_11 V) := un opsB_writes V 212 rfl (by decide +kernel) (by decide +kernel)
theorem e_v93 : g_v93 V = ((fun x v => pad S1x16 ![0, 0] ![0, 8] ![0, 0] x v pads_S1x8_S1x16_000_080 h_S_) : (⟨S1x8, .f32⟩ : BufTy).Contents (Elt F) → (⟨S_, .f32⟩ : BufTy).Contents (Elt F) → (⟨S1x16, .f32⟩ : BufTy).Contents (Elt F)) (g_v92 V) (g_call13_v0 V) := bi opsB_writes V 213 rfl (by decide +kernel) (by decide +kernel) (by decide +kernel)
theorem e_v94 : g_v94 V = shapeCast S1x8 (g_arg17 V) shapeCasts_S8_S1x8 := resh opsB_writes V 214 rfl (by decide +kernel) (by decide +kernel)
theorem e_c_12 : g_c_12 V = (constantI S_ 32 0#32) := nul opsB_writes V 215 rfl (by decide +kernel)
theorem e_call14_v0 : g_call14_v0 V = (sitofp .f32 : (⟨S_, .i32⟩ : BufTy).Contents (Elt F) → (⟨S_, .f32⟩ : BufTy).Contents (Elt F)) (g_c_12 V) := un opsB_writes V 216 rfl (by decide +kernel) (by decide +kernel)
theorem e_v95 : g_v95 V = ((fun x v => pad S1x16 ![0, 0] ![0, 8] ![0, 0] x v pads_S1x8_S1x16_000_080 h_S_) : (⟨S1x8, .f32⟩ : BufTy).Contents (Elt F) → (⟨S_, .f32⟩ : BufTy).Contents (Elt F) → (⟨S1x16, .f32⟩ : BufTy).Contents (Elt F)) (g_v94 V) (g_call14_v0 V) := bi opsB_writes V 217 rfl (by decide +kernel) (by decide +kernel) (by decide +kernel)
theorem e_v96 : g_v96 V = shapeCast S1x1x1x16 (g_v95 V) shapeCasts_S1x16_S1x1x1x16 := resh opsB_writes V 218 rfl (by decide +kernel) (by decide +kernel)
theorem e_v97 : g_v97 V = (broadcastInDim S1x1x8x16 ![0, 1, 2, 3] bcast_S1x1x1x16_S1x1x8x16_0_1_2_3 : (⟨S1x1x1x16, .f32⟩ : BufTy).Contents (Elt F) → (⟨S1x1x8x16, .f32⟩ : BufTy).Contents (Elt F)) (g_v96 V) := un opsB_writes V 219 rfl (by decide +kernel) (by decide +kernel)
theorem e_v98 : g_v98 V = shapeCast S1x128 (g_v97 V) shapeCasts_S1x1x8x16_S1x128 := resh opsB_writes V 220 rfl (by decide +kernel) (by decide +kernel)
theorem e_v99 : g_v99 V = shapeCast S1x1 (g_arg19 V) shapeCasts_S1_S1x1 := resh opsB_writes V 221 rfl (by decide +kernel) (by decide +kernel)
theorem e_v100 : g_v100 V = shapeCast S1x32 (g_arg21 V) shapeCasts_S32_S1x32 := resh opsB_writes V 222 rfl (by decide +kernel) (by decide +kernel)
theorem e_v101 : g_v101 V = shapeCast S1x32 (g_arg22 V) shapeCasts_S32_S1x32 := resh opsB_writes V 223 rfl (by decide +kernel) (by decide +kernel)
theorem e_v102 : g_v102 V = shapeCast S1x32 (g_arg23 V) shapeCasts_S32_S1x32 := resh opsB_writes V 224 rfl (by decide +kernel) (by decide +kernel)
theorem e_v103 : g_v103 V = shapeCast S1x32 (g_arg24 V) shapeCasts_S32_S1x32 := resh opsB_writes V 225 rfl (by decide +kernel) (by decide +kernel)
theorem e_v104 : g_v104 V = shapeCast S1x16 (g_arg26 V) shapeCasts_S16_S1x16 := resh opsB_writes V 226 rfl (by decide +kernel) (by decide +kernel)
theorem e_v105 : g_v105 V = shapeCast S1x16 (g_arg27 V) shapeCasts_S16_S1x16 := resh opsB_writes V 227 rfl (by decide +kernel) (by decide +kernel)
theorem e_v106 : g_v106 V = shapeCast S1x16 (g_arg28 V) shapeCasts_S16_S1x16 := resh opsB_writes V 228 rfl (by decide +kernel) (by decide +kernel)
theorem e_v107 : g_v107 V = shapeCast S1x16 (g_arg29 V) shapeCasts_S16_S1x16 := resh opsB_writes V 229 rfl (by decide +kernel) (by decide +kernel)
theorem e_v108 : g_v108 V = shapeCast S1x1 (g_arg31 V) shapeCasts_S1_S1x1 := resh opsB_writes V 230 rfl (by decide +kernel) (by decide +kernel)

end Cert.Proof.KernelIdeal

end
-- ==== Proof.HostWins.lean ====
/-
  What the dense kernel's windows hold: the host program's arrays, whole or block by block.
-/
module

public import proofs.«01_k».proof.Proof.Mlp
public import proofs.«01_k».proof.Proof.IdealHostVals
public import Idealize.ShloMosaic.Lib.Pipeline.ValueKit

@[expose] public section

noncomputable section

namespace Cert.Proof.KernelIdeal

open Cert.KernelIdeal Cert.KernelIdeal.Gen Cert.Proof.Reals
open Idealize.ShloMosaic
open Idealize.ShloMosaic.Pipeline (heldIn)

variable {F : FTy → Type} [FloatOps F] [∀ e, Nonempty (Elt F e)]
variable (V : (c : Dev nD) → (b : Ref sig .tc) → Buf (Elt F) ((c.tc : Thread nD τ).loc b)) (c : Dev nD)

theorem in_block (w : Fin cfg1.W) (hclip : ∀ (i : cfg1.grid.Coords) a, (cfg1.win w).clip i a = none) (t : Fin cfg1.N) (j : (cfg1.win w).block.Idx) :
    ∀ a, (j a).val < (cfg1.win w).xsize (cfg1.grid.coords t) a :=
  fun a => by have := (j a).isLt; unfold Pipeline.Window.xsize; rw [hclip _ a]; exact this

/-- An uncut window, at a point that fetches it: the array's block. -/
theorem held_at (w : Fin cfg1.W) (hclip : ∀ (i : cfg1.grid.Coords) a, (cfg1.win w).clip i a = none) (t : Fin cfg1.N) (hf : (cfg1.win w).fetch t = true) (j : (cfg1.win w).block.Idx) :
    heldIn cfg1 (arrs V c) w t.val t.isLt j = ((cfg1.win w).blk t).view.read (Elt F) (arrs V c w) (fun a => ⟨(j a).val, in_block w hclip t j a⟩) := by
  rw [Pipeline.heldIn_of_fetch (arrs V c) w t hf]
  unfold Pipeline.Window.fill
  rw [dif_pos (((cfg1.win w).moved_iff _ j).mpr (in_block w hclip t j))]

abbrev t0 : Fin cfg1.N := ⟨0, lt96 (by decide)⟩

theorem ext2 {a b : ℕ} {x y : (Sh2 a b).Idx} (h0 : (x 0).val = (y 0).val) (h1 : (x 1).val = (y 1).val) : x = y :=
  funext fun c => Fin.ext (match c with | 0 => h0 | 1 => h1)
theorem one (n : ℕ) : 0 + 1 * n = n := by omega

/-! The windows that hold a whole array. -/

theorem w2 : (win V c).k4 = V c main_v5 :=
  funext fun i => (held_at V c 2 (fun _ _ => rfl) t0 rfl i).trans (congrArg (V c main_v5) (ext2 (one _) (one _)))
theorem w3 : (win V c).k5 = V c main_v6 :=
  funext fun i => (held_at V c 3 (fun _ _ => rfl) t0 rfl i).trans (congrArg (V c main_v6) (ext2 (one _) (one _)))
theorem w4 : (win V c).k6 = V c main_v7 :=
  funext fun i => (held_at V c 4 (fun _ _ => rfl) t0 rfl i).trans (congrArg (V c main_v7) (ext2 (one _) (one _)))
theorem w5 : (win V c).k7 = V c main_v73 :=
  funext fun i => (held_at V c 5 (fun _ _ => rfl) t0 rfl i).trans (congrArg (V c main_v73) (ext2 (one _) (one _)))
theorem w6 : (win V c).k8 = V c main_v39 :=
  funext fun i => (held_at V c 6 (fun _ _ => rfl) t0 rfl i).trans (congrArg (V c main_v39) (ext2 (one _) (one _)))
theorem w7 : (win V c).k9 = V c main_v50 :=
  funext fun i => (held_at V c 7 (fun _ _ => rfl) t0 rfl i).trans (congrArg (V c main_v50) (ext2 (one _) (one _)))
theorem w8 : (win V c).k10 = V c main_v30 :=
  funext fun i => (held_at V c 8 (fun _ _ => rfl) t0 rfl i).trans (congrArg (V c main_v30) (ext2 (one _) (one _)))
theorem w9 : (win V c).k11 = V c main_v31 :=
  funext fun i => (held_at V c 9 (fun _ _ => rfl) t0 rfl i).trans (congrArg (V c main_v31) (ext2 (one _) (one _)))
theorem w10 : (win V c).k12 = V c main_v69 :=
  funext fun i => (held_at V c 10 (fun _ _ => rfl) t0 rfl i).trans (congrArg (V c main_v69) (ext2 (one _) (one _)))
theorem w11 : (win V c).k13 = V c main_v64 :=
  funext fun i => (held_at V c 11 (fun _ _ => rfl) t0 rfl i).trans (congrArg (V c main_v64) (ext2 (one _) (one _)))
theorem w12 : (win V c).k14 = V c main_v65 :=
  funext fun i => (held_at V c 12 (fun _ _ => rfl) t0 rfl i).trans (congrArg (V c main_v65) (ext2 (one _) (one _)))
theorem w13 : (win V c).k15 = V c main_v77 :=
  funext fun i => (held_at V c 13 (fun _ _ => rfl) t0 rfl i).trans (congrArg (V c main_v77) (ext2 (one _) (one _)))
theorem w14 : (win V c).k16 = V c main_v78 :=
  funext fun i => (held_at V c 14 (fun _ _ => rfl) t0 rfl i).trans (congrArg (V c main_v78) (ext2 (one _) (one _)))
theorem w15 : (win V c).k17 = V c main_v79 :=
  funext fun i => (held_at V c 15 (fun _ _ => rfl) t0 rfl i).trans (congrArg (V c main_v79) (ext2 (one _) (one _)))
theorem w16 : (win V c).k18 = V c main_v83 :=
  funext fun i => (held_at V c 16 (fun _ _ => rfl) t0 rfl i).trans (congrArg (V c main_v83) (ext2 (one _) (one _)))
theorem w17 : (win V c).k19 = V c main_v84 :=
  funext fun i => (held_at V c 17 (fun _ _ => rfl) t0 rfl i).trans (congrArg (V c main_v84) (ext2 (one _) (one _)))
theorem w18 : (win V c).k20 = V c main_v89 :=
  funext fun i => (held_at V c 18 (fun _ _ => rfl) t0 rfl i).trans (congrArg (V c main_v89) (ext2 (one _) (one _)))
theorem w19 : (win V c).k21 = V c main_v91 :=
  funext fun i => (held_at V c 19 (fun _ _ => rfl) t0 rfl i).trans (congrArg (V c main_v91) (ext2 (one _) (one _)))
theorem w20 : (win V c).k22 = V c main_v93 :=
  funext fun i => (held_at V c 20 (fun _ _ => rfl) t0 rfl i).trans (congrArg (V c main_v93) (ext2 (one _) (one _)))
theorem w21 : (win V c).k23 = V c main_v98 :=
  funext fun i => (held_at V c 21 (fun _ _ => rfl) t0 rfl i).trans (congrArg (V c main_v98) (ext2 (one _) (one _)))
theorem w22 : (win V c).k24 = V c main_v62 :=
  funext fun i => (held_at V c 22 (fun _ _ => rfl) t0 rfl i).trans (congrArg (V c main_v62) (ext2 (one _) (one _)))
theorem w23 : (win V c).k25 = V c main_v99 :=
  funext fun i => (held_at V c 23 (fun _ _ => rfl) t0 rfl i).trans (congrArg (V c main_v99) (ext2 (one _) (one _)))
theorem w24 : (win V c).k26 = V c main_arg20 :=
  funext fun i => (held_at V c 24 (fun _ _ => rfl) t0 rfl i).trans (congrArg (V c main_arg20) (ext2 (one _) (one _)))
theorem w25 : (win V c).k27 = V c main_v100 :=
  funext fun i => (held_at V c 25 (fun _ _ => rfl) t0 rfl i).trans (congrArg (V c main_v100) (ext2 (one _) (one _)))
theorem w26 : (win V c).k28 = V c main_v101 :=
  funext fun i => (held_at V c 26 (fun _ _ => rfl) t0 rfl i).trans (congrArg (V c main_v101) (ext2 (one _) (one _)))
theorem w27 : (win V c).k29 = V c main_v102 :=
  funext fun i => (held_at V c 27 (fun _ _ => rfl) t0 rfl i).trans (congrArg (V c main_v102) (ext2 (one _) (one _)))
theorem w28 : (win V c).k30 = V c main_v103 :=
  funext fun i => (held_at V c 28 (fun _ _ => rfl) t0 rfl i).trans (congrArg (V c main_v103) (ext2 (one _) (one _)))
theorem w29 : (win V c).k31 = V c main_arg25 :=
  funext fun i => (held_at V c 29 (fun _ _ => rfl) t0 rfl i).trans (congrArg (V c main_arg25) (ext2 (one _) (one _)))
theorem w30 : (win V c).k32 = V c main_v104 :=
  funext fun i => (held_at V c 30 (fun _ _ => rfl) t0 rfl i).trans (congrArg (V c main_v104) (ext2 (one _) (one _)))
theorem w31 : (win V c).k33 = V c main_v105 :=
  funext fun i => (held_at V c 31 (fun _ _ => rfl) t0 rfl i).trans (congrArg (V c main_v105) (ext2 (one _) (one _)))
theorem w32 : (win V c).k34 = V c main_v106 :=
  funext fun i => (held_at V c 32 (fun _ _ => rfl) t0 rfl i).trans (congrArg (V c main_v106) (ext2 (one _) (one _)))
theorem w33 : (win V c).k35 = V c main_v107 :=
  funext fun i => (held_at V c 33 (fun _ _ => rfl) t0 rfl i).trans (congrArg (V c main_v107) (ext2 (one _) (one _)))
theorem w34 : (win V c).k36 = V c main_arg30 :=
  funext fun i => (held_at V c 34 (fun _ _ => rfl) t0 rfl i).trans (congrArg (V c main_arg30) (ext2 (one _) (one _)))
theorem w35 : (win V c).k37 = V c main_v108 :=
  funext fun i => (held_at V c 35 (fun _ _ => rfl) t0 rfl i).trans (congrArg (V c main_v108) (ext2 (one _) (one _)))

/-! The sequences' blocks. -/

theorem fetch0 : ∀ t : Fin cfg1.N, (cfg1.win 0).fetch t = true := by decide +kernel
theorem fetch1 : ∀ t : Fin cfg1.N, (cfg1.win 1).fetch t = true := by decide +kernel
theorem index0 : ∀ t : Fin cfg1.N, (cfg1.win 0).index t 0 = t.val % 32 ∧ (cfg1.win 0).index t 1 = 0 := by decide +kernel
theorem index1 : ∀ t : Fin cfg1.N, (cfg1.win 1).index t 0 = 32 + t.val % 32 ∧ (cfg1.win 1).index t 1 = 0 := by decide +kernel

theorem blk1_at {n : ℕ} (hn : n < 96) (r : Fin 3200) (l : Fin 128) :
    blk1 V c n (ValueIdx.ix2 r l) = V c main_v8 (ValueIdx.ix2 (⟨3200 * (n % 32) + r.val, by omega⟩ : Fin 208896) l) := by
  unfold blk1
  rw [dif_pos hn]
  refine (held_at V c 0 clip0 ⟨n, lt96 hn⟩ (fetch0 _) (ValueIdx.ix2 r l)).trans (congrArg (V c main_v8) (ext2 ?_ ?_))
  · refine (Pipeline.Window.rect_emb_val (cfg1.win 0) ⟨n, lt96 hn⟩ _ 0).trans ?_
    rw [(index0 _).1]; show n % 32 * 3200 + r.val = 3200 * (n % 32) + r.val; omega
  · refine (Pipeline.Window.rect_emb_val (cfg1.win 0) ⟨n, lt96 hn⟩ _ 1).trans ?_
    rw [(index0 _).2]; show 0 * 128 + l.val = l.val; omega

theorem blk2_at {n : ℕ} (hn : n < 96) (r : Fin 3200) (l : Fin 128) :
    blk2 V c n (ValueIdx.ix2 r l) = V c main_v8 (ValueIdx.ix2 (⟨102400 + 3200 * (n % 32) + r.val, by omega⟩ : Fin 208896) l) := by
  unfold blk2
  rw [dif_pos hn]
  refine (held_at V c 1 clip1 ⟨n, lt96 hn⟩ (fetch1 _) (ValueIdx.ix2 r l)).trans (congrArg (V c main_v8) (ext2 ?_ ?_))
  · refine (Pipeline.Window.rect_emb_val (cfg1.win 1) ⟨n, lt96 hn⟩ _ 0).trans ?_
    rw [(index1 _).1]; show (32 + n % 32) * 3200 + r.val = 102400 + 3200 * (n % 32) + r.val; omega
  · refine (Pipeline.Window.rect_emb_val (cfg1.win 1) ⟨n, lt96 hn⟩ _ 1).trans ?_
    rw [(index1 _).2]; show 0 * 128 + l.val = l.val; omega

end Cert.Proof.KernelIdeal

end
-- ==== Proof.HostReal.lean ====
/-
  The host program's arrays as arrays of real numbers: what the dense part's windows hold, from the arguments.
-/
module

public import proofs.«01_k».proof.Proof.Arrays
public import proofs.«01_k».proof.Proof.RefOps
public import proofs.«01_k».proof.Proof.HostWins
public import proofs.«01_k».proof.Proof.IdealLaunch

@[expose] public section

noncomputable section

namespace Cert.Proof.KernelIdeal

open Cert.KernelIdeal Cert.KernelIdeal.Gen

open Idealize.ShloMosaic
open Idealize.ShloMosaic.StableHlo (seq after)
open Cert.Proof.Reals

variable (V : Valuation τ sig (Elt Ideal))

/-- The arguments are real: the attention's and the final layers' parameters, the second attention layer's padded to sixteen
    columns by zeros. -/
structure HP (p : Par) (q : Mp) : Prop where
  a8 : R2 (a := 64) (b := 16) (φ := .f32) (V (ref main_arg8)) p.w0
  a9 : R1 (a := 16) (φ := .f32) (V (ref main_arg9)) p.b0
  a10 : R1 (a := 16) (φ := .f32) (V (ref main_arg10)) p.g0
  a11 : R1 (a := 16) (φ := .f32) (V (ref main_arg11)) p.be0
  a12 : R1 (a := 16) (φ := .f32) (V (ref main_arg12)) p.al0
  a13 : R2 (a := 16) (b := 8) (φ := .f32) (V (ref main_arg13)) p.w1
  a14 : R1 (a := 8) (φ := .f32) (V (ref main_arg14)) p.b1
  a15 : R1 (a := 8) (φ := .f32) (V (ref main_arg15)) p.g1
  a16 : R1 (a := 8) (φ := .f32) (V (ref main_arg16)) p.be1
  a17 : R1 (a := 8) (φ := .f32) (V (ref main_arg17)) p.al1
  a18 : R2 (a := 8) (b := 1) (φ := .f32) (V (ref main_arg18)) (fun k _ => p.w2 k)
  a19 : R1 (a := 1) (φ := .f32) (V (ref main_arg19)) (fun _ => p.b2)
  a20 : R2 (a := 80) (b := 32) (φ := .f32) (V (ref main_arg20)) q.w0
  a21 : R1 (a := 32) (φ := .f32) (V (ref main_arg21)) q.b0
  a22 : R1 (a := 32) (φ := .f32) (V (ref main_arg22)) q.g0
  a23 : R1 (a := 32) (φ := .f32) (V (ref main_arg23)) q.be0
  a24 : R1 (a := 32) (φ := .f32) (V (ref main_arg24)) q.al0
  a25 : R2 (a := 32) (b := 16) (φ := .f32) (V (ref main_arg25)) q.w1
  a26 : R1 (a := 16) (φ := .f32) (V (ref main_arg26)) q.b1
  a27 : R1 (a := 16) (φ := .f32) (V (ref main_arg27)) q.g1
  a28 : R1 (a := 16) (φ := .f32) (V (ref main_arg28)) q.be1
  a29 : R1 (a := 16) (φ := .f32) (V (ref main_arg29)) q.al1
  a30 : R2 (a := 16) (b := 1) (φ := .f32) (V (ref main_arg30)) q.w2
  a31 : R1 (a := 1) (φ := .f32) (V (ref main_arg31)) (fun _ => q.b2)
  w1p : ∀ i j, 8 ≤ j → j < 16 → p.w1 i j = 0
  b1p : ∀ j, 8 ≤ j → j < 16 → p.b1 j = 0
  g1p : ∀ j, 8 ≤ j → j < 16 → p.g1 j = 0
  be1p : ∀ j, 8 ≤ j → j < 16 → p.be1 j = 0
  al1p : ∀ j, 8 ≤ j → j < 16 → p.al1 j = 0
  w2p : ∀ k, 8 ≤ k → k < 16 → p.w2 k = 0

/-! ## The integer arrays -/

theorem i18 : R2 (a := 8) (b := 8) (φ := .f32) (g_v18 V) eyeM := by
  have hx : N2 (a := 8) (b := 8) (g_v16 V) (fun i _ => i) := ⟨fun i => by
    simp only [e_v16, e_v13, e_v15, e_c_0]; exact BitVec.add_zero _⟩
  have hy : N2 (a := 8) (b := 8) (g_v14 V) (fun _ j => j) := ⟨fun i => by simp only [e_v14]; rfl⟩
  rw [e_v18, e_v17]
  exact ind_R hx hy (fun i hi j hj => by omega) (fun i hi j hj => by omega)

theorem n24 : N2 (a := 1) (b := 128) (g_v24 V) (fun _ l => l % 16) := ⟨fun i => by
  refine Eq.trans ?_ (fmod16 (i 1))
  simp only [e_v24, e_call2_v14, e_call2_v13, e_call2_v12, e_call2_v11, e_call2_v10, e_call2_v9, e_call2_c_3, e_call2_v8, e_call2_v7, e_call2_c_2, e_call2_v6, e_call2_v5, e_call2_c_1, e_call2_v4, e_call2_v3, e_call2_v2, e_call2_c_0, e_call2_v1, e_call2_c, e_call2_v0, e_v23, e_v22, e_c_3]
  rfl⟩
theorem n33 : N2 (a := 3200) (b := 1) (g_v33 V) (fun r _ => r / 25) := ⟨fun i => by
  refine Eq.trans ?_ (fdiv25 (i 0))
  simp only [e_v33, e_call3_v13, e_call3_v12, e_call3_c_0, e_call3_v11, e_call3_v10, e_call3_v9, e_call3_c, e_call3_v8, e_call3_v7, e_call3_v6, e_call3_v5, e_call3_v4, e_call3_v3, e_call3_v2, e_call3_v1, e_call3_v0, e_v32, e_v21, e_c_4]
  rfl⟩
theorem n41 : N2 (a := 3200) (b := 1) (g_v41 V) (fun r _ => r % 25) := ⟨fun i => by
  refine Eq.trans ?_ (fmod25 (i 0))
  simp only [e_v41, e_call4_v14, e_call4_v13, e_call4_v12, e_call4_v11, e_call4_v10, e_call4_v9, e_call4_c_3, e_call4_v8, e_call4_v7, e_call4_c_2, e_call4_v6, e_call4_v5, e_call4_c_1, e_call4_v4, e_call4_v3, e_call4_v2, e_call4_c_0, e_call4_v1, e_call4_c, e_call4_v0, e_v40, e_v21, e_c_5]
  rfl⟩
theorem n46 : N2 (a := 1) (b := 128) (g_v46 V) (fun _ l => l / 16) := ⟨fun i => by
  refine Eq.trans ?_ (fdiv16 (i 1))
  simp only [e_v46, e_call5_v13, e_call5_v12, e_call5_c_0, e_call5_v11, e_call5_v10, e_call5_v9, e_call5_c, e_call5_v8, e_call5_v7, e_call5_v6, e_call5_v5, e_call5_v4, e_call5_v3, e_call5_v2, e_call5_v1, e_call5_v0, e_v45, e_v44, e_c_7]
  rfl⟩

theorem i30 : R2 (a := 16) (b := 128) (φ := .f32) (g_v30 V) mP := by
  have hy : N2 (a := 16) (b := 1) (g_v26 V) (fun k _ => k) := ⟨fun i => by simp only [e_v26, e_v25]; rfl⟩
  rw [e_v30, e_v29, e_v27, e_v28]
  exact ind_R ((n24 V).row (by decide) _) (hy.col (by decide) _) (fun i hi j hj => by omega) (fun i hi j hj => by omega)
theorem i31 : R2 (a := 128) (b := 16) (φ := .f32) (g_v31 V) mPt := ⟨fun i => by
  rw [e_v31]
  refine (transpose_apply _ (g_v30 V) _ i (ValueIdx.ix2 (i 1) (i 0)) ?_).trans ((i30 V).h _)
  intro b
  match b with
  | 0 => rfl
  | 1 => rfl⟩
theorem i39 : R2 (a := 3200) (b := 128) (φ := .f32) (g_v39 V) mR := by
  have hy : N2 (a := 1) (b := 128) (g_v35 V) (fun _ l => l) := ⟨fun i => by simp only [e_v35, e_v34]; rfl⟩
  rw [e_v39, e_v38, e_v36, e_v37]
  exact ind_R ((n33 V).col (by decide) _) (hy.row (by decide) _) (fun i hi j hj => by omega) (fun i hi j hj => by omega)
theorem i50 : R2 (a := 3200) (b := 128) (φ := .f32) (g_v50 V) (fun r l => ((r % 25 * 8 + l / 16 : ℕ) : ℝ)) := by
  have h43 : N2 (a := 3200) (b := 1) (g_v43 V) (fun r _ => r % 25 * 8) := ⟨fun i => by
    simp only [e_v43, e_v42, e_c_6]
    show g_v41 V i * 8#32 = _
    rw [(n41 V).h i, ← BitVec.ofNat_mul]⟩
  have h49 : N2 (a := 3200) (b := 128) (g_v49 V) (fun r l => r % 25 * 8 + l / 16) := ⟨fun i => by
    rw [e_v49, e_v47, e_v48]
    refine (congrArg₂ (· + ·) ((h43.col (by decide) _).h i) (((n46 V).row (by decide) _).h i)).trans ?_
    exact (BitVec.ofNat_add _ _).symm⟩
  rw [e_v50]
  exact num_R h49 (fun i hi j hj => by omega)

/-- Two columns, to be joined. -/
abbrev two (x y : IVec S4096x1 32) : List ((s : Shape) × (s.Idx → BitVec 32)) := [⟨S4096x1, x⟩, ⟨S4096x1, y⟩]

/-- The two lengths side by side. -/
theorem i73 : R2 (a := 4096) (b := 2) (φ := .f32) (g_v73 V) (fun b c => if c = 0 then lenR (V (ref main_arg2)) b else lenR (V (ref main_arg5)) b) := ⟨fun i => by
  have h0 : (i 0).val < 4096 := (i 0).isLt
  have h1 : (i 1).val < 2 := (i 1).isLt
  rw [e_v73]
  show (((g_v72 V i : BitVec 32).toInt : ℝ) : EReal) = _
  rw [e_v72, e_v70, e_v71, e_arg2, e_arg5]
  unfold lenR
  rw [dif_pos h0, dif_pos h0]
  by_cases hc : (i 1).val = 0
  · rw [if_pos hc]
    refine congrArg (fun w : BitVec 32 => ((w.toInt : ℝ) : EReal)) ?_
    refine (concatenate_apply_piece (t := S4096x2) (1 : Fin 2) (two _ _) _ i 0 (show 0 < 2 by decide) S4096x1 _ rfl rfl 0 rfl (ValueIdx.ix2 (i 0) (0 : Fin 1)) (fun b hb => ?_) ?_).trans ?_
    · match b with
      | 0 => rfl
      | 1 => exact absurd rfl hb
    · show 0 + 0 = (i 1).val; omega
    · exact congrArg (V (ref main_arg2)) (funext fun a => match a with | ⟨0, _⟩ => rfl)
  · rw [if_neg hc]
    refine congrArg (fun w : BitVec 32 => ((w.toInt : ℝ) : EReal)) ?_
    refine (concatenate_apply_piece (t := S4096x2) (1 : Fin 2) (two _ _) _ i 1 (show 1 < 2 by decide) S4096x1 _ rfl rfl 1 rfl (ValueIdx.ix2 (i 0) (0 : Fin 1)) (fun b hb => ?_) ?_).trans ?_
    · match b with
      | 0 => rfl
      | 1 => exact absurd rfl hb
    · show 1 + 0 = (i 1).val; omega
    · exact congrArg (V (ref main_arg5)) (funext fun a => match a with | ⟨0, _⟩ => rfl)⟩

/-! ## The parameters -/

/-- Some rows of an array. -/
theorem slice_R {a a' b : ℕ} {x : FVec Ideal (Sh2 a b) .f32} {f : Cert.Proof.Reals.M} (hx : R2 x f) (o : ℕ) (h : (Sh2 a b).Slices ![o, 0] (Sh2 a' b)) :
    R2 (extractStridedSlice (Sh2 a' b) ![o, 0] x h) (fun i j => f (o + i) j) := ⟨fun i => by
  refine (hx.h _).trans ?_
  show ((f (o + (i 0).val) (0 + (i 1).val) : ℝ) : EReal) = _
  rw [Nat.zero_add]⟩

theorem zero_pad : R0 (sitofp .f32 (constantI S_ 32 0#32) : FVec Ideal Sh0 .f32) 0 := ⟨fun i => by
  show ((((0#32 : BitVec 32).toInt : ℤ) : ℝ) : EReal) = _
  simp⟩

section
variable {V} {p : Par} {q : Mp} (H : HP V p q)
include H

theorem s9 : R2 (a := 16) (b := 16) (φ := .f32) (g_v9 V) p.w0 := by
  rw [e_v9, e_arg8]
  exact (slice_R H.a8 0 _).congr fun i _ j _ => by rw [Nat.zero_add]
theorem s10 : R2 (a := 16) (b := 16) (φ := .f32) (g_v10 V) (fun k j => p.w0 (16 + k) j) := by
  rw [e_v10, e_arg8]; exact slice_R H.a8 16 _
theorem s11 : R2 (a := 16) (b := 16) (φ := .f32) (g_v11 V) (fun k j => p.w0 (32 + k) j) := by
  rw [e_v11, e_arg8]; exact slice_R H.a8 32 _
theorem s12 : R2 (a := 16) (b := 16) (φ := .f32) (g_v12 V) (fun k j => p.w0 (48 + k) j) := by
  rw [e_v12, e_arg8]; exact slice_R H.a8 48 _

theorem k64 : R2 (a := 128) (b := 128) (φ := .f32) (g_v64 V) (kron fun k j => p.w0 (16 + k) j - p.w0 (32 + k) j) := by
  have := s10 H; have := s11 H
  have h : R2 (a := 16) (b := 16) (φ := .f32) (g_v63 V) (fun k j => p.w0 (16 + k) j - p.w0 (32 + k) j) := by
    rw [e_v63]; exact (inferInstance : R2 (a := 16) (b := 16) (φ := .f32) (subf (g_v10 V) (g_v11 V)) _)
  rw [e_v64, e_call8_v4, e_call8_v2, e_call8_v3, e_call8_v0, e_call8_v1]
  exact kron_R (i18 V) h rfl _ _ _ _ _
theorem k65 : R2 (a := 128) (b := 128) (φ := .f32) (g_v65 V) (kron fun k j => p.w0 (48 + k) j) := by
  rw [e_v65, e_call9_v4, e_call9_v2, e_call9_v3, e_call9_v0, e_call9_v1]
  exact kron_R (i18 V) (s12 H) rfl _ _ _ _ _
theorem k84 : R2 (a := 128) (b := 128) (φ := .f32) (g_v84 V) (kron p.w1) := by
  have h : R2 (a := 16) (b := 16) (φ := .f32) (g_v19 V) p.w1 := by
    rw [e_v19, e_arg13, e_call0_v0, e_c_1]; exact padC_R H.a13 zero_pad _ _ H.w1p
  rw [e_v84, e_call10_v4, e_call10_v2, e_call10_v3, e_call10_v0, e_call10_v1]
  exact kron_R (i18 V) h rfl _ _ _ _ _
theorem k62 : R2 (a := 128) (b := 128) (φ := .f32) (g_v62 V) (kron fun k _ => p.w2 k) := by
  have h : R2 (a := 16) (b := 1) (φ := .f32) (g_v20 V) (fun k _ => p.w2 k) := by
    rw [e_v20, e_arg18, e_call1_v0, e_c_2]; exact padR_R H.a18 zero_pad _ _ fun i _ => H.w2p i
  have h60 : R2 (a := 128) (b := 8) (φ := .f32) (g_v60 V) (fun l' l => if l' / 16 = l / 1 then p.w2 (l' % 16) else 0) := by
    rw [e_v60, e_call7_v4, e_call7_v2, e_call7_v3, e_call7_v0, e_call7_v1]
    exact kron_R (i18 V) h rfl _ _ _ _ _
  refine ⟨fun i => ?_⟩
  have hl : (i 1).val < 128 := (i 1).isLt
  rw [e_v62, e_v61]
  refine (shapeCast_apply _ _ i (ValueIdx.ix3 (i 0) (⟨(i 1).val / 16, by omega⟩ : Fin 8) (⟨(i 1).val % 16, by omega⟩ : Fin 16)) ?_).trans ?_
  · rw [Shape.rowMajor_val_three, Shape.rowMajor_val_two]
    show ((i 0).val * 8 + (i 1).val / 16) * 16 + (i 1).val % 16 = (i 0).val * 128 + (i 1).val
    omega
  · refine (h60.h _).trans ?_
    show (((if (i 0).val / 16 = (i 1).val / 16 / 1 then p.w2 ((i 0).val % 16) else 0 : ℝ)) : EReal) = _
    rw [Nat.div_one]; rfl
theorem k69 : R2 (a := 16) (b := 128) (φ := .f32) (g_v69 V) (fun k l => p.w0 k (l % 16) + p.w0 (32 + k) (l % 16)) := by
  have := s9 H; have := s11 H
  have h : R2 (a := 16) (b := 16) (φ := .f32) (g_v66 V) (fun k j => p.w0 k j + p.w0 (32 + k) j) := by
    rw [e_v66]; exact (inferInstance : R2 (a := 16) (b := 16) (φ := .f32) (addf (g_v9 V) (g_v11 V)) _)
  rw [e_v69, e_v68, e_v67]
  exact spread_R h _ _ _

theorem l77 : R2 (a := 1) (b := 128) (φ := .f32) (g_v77 V) (lane p.b0) := by
  rw [e_v77, e_v76, e_v75, e_v74, e_arg9]; exact spread_R (row_R H.a9 _) _ _ _
theorem l83 : R2 (a := 1) (b := 128) (φ := .f32) (g_v83 V) (lane p.al0) := by
  rw [e_v83, e_v82, e_v81, e_v80, e_arg12]; exact spread_R (row_R H.a12 _) _ _ _
theorem l89 : R2 (a := 1) (b := 128) (φ := .f32) (g_v89 V) (lane p.b1) := by
  rw [e_v89, e_v88, e_v87, e_v86, e_v85, e_call11_v0, e_c_9, e_arg14]; exact spread_R (padC_R (row_R H.a14 _) zero_pad _ _ fun _ => H.b1p) _ _ _
theorem l98 : R2 (a := 1) (b := 128) (φ := .f32) (g_v98 V) (lane p.al1) := by
  rw [e_v98, e_v97, e_v96, e_v95, e_v94, e_call14_v0, e_c_12, e_arg17]; exact spread_R (padC_R (row_R H.a17 _) zero_pad _ _ fun _ => H.al1p) _ _ _
theorem l91 : R2 (a := 1) (b := 16) (φ := .f32) (g_v91 V) (ofRow p.g1) := by
  rw [e_v91, e_v90, e_call12_v0, e_c_10, e_arg15]; exact padC_R (row_R H.a15 _) zero_pad _ _ fun _ => H.g1p
theorem l93 : R2 (a := 1) (b := 16) (φ := .f32) (g_v93 V) (ofRow p.be1) := by
  rw [e_v93, e_v92, e_call13_v0, e_c_11, e_arg16]; exact padC_R (row_R H.a16 _) zero_pad _ _ fun _ => H.be1p
theorem l78 : R2 (a := 1) (b := 16) (φ := .f32) (g_v78 V) (ofRow p.g0) := by rw [e_v78, e_arg10]; exact row_R H.a10 _
theorem l79 : R2 (a := 1) (b := 16) (φ := .f32) (g_v79 V) (ofRow p.be0) := by rw [e_v79, e_arg11]; exact row_R H.a11 _
theorem l99 : R2 (a := 1) (b := 1) (φ := .f32) (g_v99 V) (kc p.b2) := by rw [e_v99, e_arg19]; exact cell_R H.a19 _
end

/-! ## The windows -/

section
variable (m : (ℓ : Loc nD τ sig) → Buf (Elt Ideal) ℓ) (c : Dev nD) {p : Par} {q : Mp} (H : HP (V2 m c) p q)
include H

theorem winR : WinR (win (VV m) c) p (lenR (V2 m c (ref main_arg2))) (lenR (V2 m c (ref main_arg5))) where
  h7 := R2.of_eq (w5 (VV m) c) (i73 _)
  h8 := R2.of_eq (w6 (VV m) c) (i39 _)
  h9 := R2.of_eq (w7 (VV m) c) (i50 _)
  h10 := R2.of_eq (w8 (VV m) c) (i30 _)
  h11 := R2.of_eq (w9 (VV m) c) (i31 _)
  h12 := R2.of_eq (w10 (VV m) c) (k69 H)
  h13 := R2.of_eq (w11 (VV m) c) (k64 H)
  h14 := R2.of_eq (w12 (VV m) c) (k65 H)
  h15 := R2.of_eq (w13 (VV m) c) (l77 H)
  h16 := R2.of_eq (w14 (VV m) c) (l78 H)
  h17 := R2.of_eq (w15 (VV m) c) (l79 H)
  h18 := R2.of_eq (w16 (VV m) c) (l83 H)
  h19 := R2.of_eq (w17 (VV m) c) (k84 H)
  h20 := R2.of_eq (w18 (VV m) c) (l89 H)
  h21 := R2.of_eq (w19 (VV m) c) (l91 H)
  h22 := R2.of_eq (w20 (VV m) c) (l93 H)
  h23 := R2.of_eq (w21 (VV m) c) (l98 H)
  h24 := R2.of_eq (w22 (VV m) c) (k62 H)
  h25 := R2.of_eq (w23 (VV m) c) (l99 H)
  pad := H.w2p

theorem winM : WinM (win (VV m) c) q where
  h26 := R2.of_eq (w24 (VV m) c) (R2.of_eq (opsB_writes.keep (V2 m c) (by decide +kernel) : after opsB (V2 m c) (ref main_arg20) = _) H.a20)
  h27 := R2.of_eq (w25 (VV m) c) (R2.of_eq ((e_v100 (V2 m c)).trans (congrArg (shapeCast _ · _) (e_arg21 (V2 m c)))) (row_R H.a21 _))
  h28 := R2.of_eq (w26 (VV m) c) (R2.of_eq ((e_v101 (V2 m c)).trans (congrArg (shapeCast _ · _) (e_arg22 (V2 m c)))) (row_R H.a22 _))
  h29 := R2.of_eq (w27 (VV m) c) (R2.of_eq ((e_v102 (V2 m c)).trans (congrArg (shapeCast _ · _) (e_arg23 (V2 m c)))) (row_R H.a23 _))
  h30 := R2.of_eq (w28 (VV m) c) (R2.of_eq ((e_v103 (V2 m c)).trans (congrArg (shapeCast _ · _) (e_arg24 (V2 m c)))) (row_R H.a24 _))
  h31 := R2.of_eq (w29 (VV m) c) (R2.of_eq (opsB_writes.keep (V2 m c) (by decide +kernel) : after opsB (V2 m c) (ref main_arg25) = _) H.a25)
  h32 := R2.of_eq (w30 (VV m) c) (R2.of_eq ((e_v104 (V2 m c)).trans (congrArg (shapeCast _ · _) (e_arg26 (V2 m c)))) (row_R H.a26 _))
  h33 := R2.of_eq (w31 (VV m) c) (R2.of_eq ((e_v105 (V2 m c)).trans (congrArg (shapeCast _ · _) (e_arg27 (V2 m c)))) (row_R H.a27 _))
  h34 := R2.of_eq (w32 (VV m) c) (R2.of_eq ((e_v106 (V2 m c)).trans (congrArg (shapeCast _ · _) (e_arg28 (V2 m c)))) (row_R H.a28 _))
  h35 := R2.of_eq (w33 (VV m) c) (R2.of_eq ((e_v107 (V2 m c)).trans (congrArg (shapeCast _ · _) (e_arg29 (V2 m c)))) (row_R H.a29 _))
  h36 := R2.of_eq (w34 (VV m) c) (R2.of_eq (opsB_writes.keep (V2 m c) (by decide +kernel) : after opsB (V2 m c) (ref main_arg30) = _) H.a30)
  h37 := R2.of_eq (w35 (VV m) c) (R2.of_eq ((e_v108 (V2 m c)).trans (congrArg (shapeCast _ · _) (e_arg31 (V2 m c)))) (cell_R H.a31 _))
end

end Cert.Proof.KernelIdeal

end
-- ==== Proof.Ref.lean ====
/-
  The reference's result, from its arguments, as real numbers.
-/
module

public import proofs.«01_k».proof.Proof.RefOps

@[expose] public section

noncomputable section

namespace Cert.Proof.Reals

open Idealize.ShloMosaic
open scoped BigOperators
open Cert.ReferenceIdeal Cert.ReferenceIdeal.Gen Cert.ReferenceIdeal.Value Cert.Proof.Lookup

abbrev RV : Type := Valuation τ sig (Elt Ideal)

theorem big_lit : Ideal.ofBits .f32 0x49480000#32 = (((NP : ℕ) : ℝ) : EReal) := (Lit.h (b := 0x49480000#32)).trans (by norm_num)
theorem big_pos : 0 < ((NP : ℕ) : ℝ) := by norm_num
theorem small_lit : Ideal.ofBits .f32 0x45800000#32 = (((NB : ℕ) : ℝ) : EReal) := (Lit.h (b := 0x45800000#32)).trans (by norm_num)
theorem small_pos : 0 < ((NB : ℕ) : ℝ) := by norm_num

/-- A dense layer after the activation. -/
theorem act_R {N k b : ℕ} (d : DotDims (Sh2 N k) (Sh2 k b) (Sh2 N b)) (hd : d = DotDims.plain N k b) (h1 : (Sh1 b).BroadcastsInDim (Sh2 1 b) ![1]) (h01 : (Sh2 1 b).BroadcastsInDim (Sh2 N b) ![0, 1])
    (k1 : (Sh1 k).BroadcastsInDim (Sh2 1 k) ![1]) (k01 : (Sh2 1 k).BroadcastsInDim (Sh2 N k) ![0, 1]) (kN : Sh0.BroadcastsInDim (Sh2 N k) ![])
    (x y : FVec Ideal (Sh2 N k) .f32) (al : FVec Ideal (Sh1 k) .f32) (w : FVec Ideal (Sh2 k b) .f32) (c : FVec Ideal (Sh1 b) .f32) (f fw : M) (fa fc : ℕ → ℝ)
    (hx : R2 x f) (hy : R2 y (gate N f)) (ha : R1 al fa) (hw : R2 w fw) (hc : R1 c fc) :
    R2 (denseT d h1 h01 (diceT k1 k01 kN x y al) w c) (dense k (dice N f fa) fw fc) := by
  haveI := diceT_R k1 k01 kN x f y al fa
  exact denseT_R d hd h1 h01 _ w c _ fw fc

/-! ## One tower -/

section Tower

/-- The joined features' first layer. -/
def featT (t : FVec Ideal S4096x16 .f32) (s : FVec Ideal S4096x200x16 .f32) (w : FVec Ideal S64x16 .f32) (c : FVec Ideal S16 .f32) : FVec Ideal S819200x16 .f32 :=
  denseT dot_S819200x64_S64x16_S819200x16_1_0_0_1_n_n bcast_S16_S1x16_1 bcast_S1x16_S819200x16_0_1
    (shapeCast S819200x64 (concatenate S4096x200x64 2 [⟨S4096x200x16, broadcastInDim S4096x200x16 ![0, 1, 2] bcast_S4096x1x16_S4096x200x16_0_1_2 (broadcastInDim S4096x1x16 ![0, 2] bcast_S4096x16_S4096x1x16_0_2 t)⟩, ⟨S4096x200x16, s⟩,
      ⟨S4096x200x16, subf (broadcastInDim S4096x200x16 ![0, 1, 2] bcast_S4096x1x16_S4096x200x16_0_1_2 (broadcastInDim S4096x1x16 ![0, 2] bcast_S4096x16_S4096x1x16_0_2 t)) s⟩,
      ⟨S4096x200x16, mulf (broadcastInDim S4096x200x16 ![0, 1, 2] bcast_S4096x1x16_S4096x200x16_0_1_2 (broadcastInDim S4096x1x16 ![0, 2] bcast_S4096x16_S4096x1x16_0_2 t)) s⟩] concatenates_S4096x200x16_S4096x200x16_S4096x200x16_S4096x200x16_S4096x200x64_d2) shapeCasts_S4096x200x64_S819200x64) w c

theorem featT_R (p : Par) (t : FVec Ideal S4096x16 .f32) (s : FVec Ideal S4096x200x16 .f32) (w : FVec Ideal S64x16 .f32) (c : FVec Ideal S16 .f32)
    (T S : M) (ht : R2 t T) (hs : R3 s (fun i n k => S (200 * i + n) k)) (hw : R2 w p.w0) (hc : R1 c p.b0) : R2 (featT t s w c) (H0 p T S) := by
  haveI h6 := rep_R t T ht
  haveI hcat := flat_R _ _ (cat4_R _ s _ _ _ _ _ _ h6 hs
    (inferInstance : R3 (subf (broadcastInDim S4096x200x16 ![0, 1, 2] bcast_S4096x1x16_S4096x200x16_0_1_2 (broadcastInDim S4096x1x16 ![0, 2] bcast_S4096x16_S4096x1x16_0_2 t)) s) _)
    (inferInstance : R3 (mulf (broadcastInDim S4096x200x16 ![0, 1, 2] bcast_S4096x1x16_S4096x200x16_0_1_2 (broadcastInDim S4096x1x16 ![0, 2] bcast_S4096x16_S4096x1x16_0_2 t)) s) _)
    concatenates_S4096x200x16_S4096x200x16_S4096x200x16_S4096x200x16_S4096x200x64_d2)
  haveI hX : R2 (a := 819200) (b := 64) (φ := .f32) _ (xcat T S) := hcat.congr fun m _ k _ => by
    show _ = xcat T S m k
    unfold xcat
    have e : 200 * (m / 200) + m % 200 = m := Nat.div_add_mod m 200
    simp only [e]
  exact denseT_R _ rfl _ _ _ w c (xcat T S) p.w0 p.b0

/-- From the first layer to the pooled rows. -/
theorem tower_R (p : Par) (T S : M) (x : FVec Ideal S819200x16 .f32) (s : FVec Ideal S4096x200x16 .f32) (len : IVec S4096 32)
    (a10 a11 a12 : FVec Ideal S16 .f32) (a13 : FVec Ideal S16x8 .f32) (a14 a15 a16 a17 : FVec Ideal S8 .f32) (a18 : FVec Ideal S8x1 .f32) (a19 : FVec Ideal S1 .f32)
    (hx : R2 x (H0 p T S)) (hs : R3 s (fun i n k => S (200 * i + n) k))
    (h10 : R1 a10 p.g0) (h11 : R1 a11 p.be0) (h12 : R1 a12 p.al0) (h13 : R2 a13 p.w1) (h14 : R1 a14 p.b1) (h15 : R1 a15 p.g1) (h16 : R1 a16 p.be1) (h17 : R1 a17 p.al1)
    (h18 : R2 a18 (fun k _ => p.w2 k)) (h19 : R1 a19 (fun _ => p.b2))
    (y g : FVec Ideal S819200x16 .f32) (z zb zg : FVec Ideal S819200x8 .f32)
    (ey : y = bnT 0x49480000#32 reducesTo_S819200x16_S16_d0 h_S_ bcast_S16_S1x16_1 bcast_S1x16_S819200x16_0_1 bcast_S_S1x16 x a10 a11)
    (eg : g = gateT 0x49480000#32 reducesTo_S819200x16_S16_d0 h_S_ bcast_S16_S1x16_1 bcast_S1x16_S819200x16_0_1 bcast_S_S1x16 bcast_S_S819200x16 y)
    (ez : z = denseT dot_S819200x16_S16x8_S819200x8_1_0_0_1_n_n bcast_S8_S1x8_1 bcast_S1x8_S819200x8_0_1 (diceT bcast_S16_S1x16_1 bcast_S1x16_S819200x16_0_1 bcast_S_S819200x16 y g a12) a13 a14)
    (eb : zb = bnT 0x49480000#32 reducesTo_S819200x8_S8_d0 h_S_ bcast_S8_S1x8_1 bcast_S1x8_S819200x8_0_1 bcast_S_S1x8 z a15 a16)
    (ezg : zg = gateT 0x49480000#32 reducesTo_S819200x8_S8_d0 h_S_ bcast_S8_S1x8_1 bcast_S1x8_S819200x8_0_1 bcast_S_S1x8 bcast_S_S819200x8 zb) :
    R2 (sumT (maskT (shapeCast S4096x200 (denseT dot_S819200x8_S8x1_S819200x1_1_0_0_1_n_n bcast_S1_S1x1_1 bcast_S1x1_S819200x1_0_1 (diceT bcast_S8_S1x8_1 bcast_S1x8_S819200x8_0_1 bcast_S_S819200x8 zb zg a17) a18 a19) shapeCasts_S819200x1_S4096x200) len) s)
      (Cert.Proof.Reals.pool p T S (lenR len)) := by
  haveI hy : R2 y (Y0 p T S) := by
    rw [ey]; exact bnT_R (N := NP) _ _ _ _ _ _ big_lit big_pos x _ a10 a11 p.g0 p.be0
  haveI hg : R2 g (gate NP (Y0 p T S)) := by
    rw [eg]; exact gateT_R (N := NP) _ _ _ _ _ _ _ big_lit big_pos y _
  haveI hz : R2 z (H1 p T S) := by
    rw [ez]; exact act_R (N := NP) _ rfl _ _ _ _ _ y g a12 a13 a14 _ _ _ _ hy hg h12 h13 h14
  haveI hzb : R2 zb (Y1 p T S) := by
    rw [eb]; exact bnT_R (N := NP) _ _ _ _ _ _ big_lit big_pos z _ a15 a16 p.g1 p.be1
  haveI hzg : R2 zg (gate NP (Y1 p T S)) := by
    rw [ezg]; exact gateT_R (N := NP) _ _ _ _ _ _ _ big_lit big_pos zb _
  have hsc := act_R (N := NP) dot_S819200x8_S8x1_S819200x1_1_0_0_1_n_n rfl bcast_S1_S1x1_1 bcast_S1x1_S819200x1_0_1 bcast_S8_S1x8_1 bcast_S1x8_S819200x8_0_1 bcast_S_S819200x8
    zb zg a17 a18 a19 _ _ _ _ hzb hzg h17 h18 h19
  exact (sumT_R _ s _ _ (maskT_R _ len _ (fold_R _ _ hsc)) hs).congr fun i _ k _ => rfl
end Tower

/-! ## The lookups -/

/-- The table rows a vector of indices names. -/
def row1 (E : M) (w : IVec S4096 32) : M := fun i k => if h : i < 4096 then E (w (ValueIdx.ix1 (⟨i, h⟩ : Fin 4096))).toNat k else 0
/-- The table rows a rectangle of indices names, row after row. -/
def row2 (E : M) (w : IVec S4096x200 32) : M := fun m k =>
  if h : m < 819200 then E (w (ValueIdx.ix2 (⟨m / 200, by omega⟩ : Fin 4096) (⟨m % 200, by omega⟩ : Fin 200))).toNat k else 0

theorem rowAt_R (X : FVec Ideal S1000000x16 .f32) (E : M) (hX : R2 X E) (w : BitVec 32) (h : w.toNat < 1000000) (c : Fin 16) :
    rowAt X w c = ((E w.toNat c.val : ℝ) : EReal) := by
  unfold rowAt
  rw [hX.h]
  show ((E (w.toNat % 1000000) c.val : ℝ) : EReal) = _
  rw [Nat.mod_eq_of_lt h]

theorem take1_R (X : FVec Ideal S1000000x16 .f32) (E : M) (hX : R2 X E) (w : IVec S4096 32) (h : ∀ i, (w i).toNat < 1000000) : R2 (take1 X w) (row1 E w) :=
  ⟨fun i => by
    obtain ⟨n, c, rfl⟩ := idx2 i
    show take1 X w (ValueIdx.ix2 n c) = ((row1 E w n.val c.val : ℝ) : EReal)
    rw [take1_apply X w h n c, rowAt_R X E hX _ (h _), show row1 E w n.val c.val = E (w (ValueIdx.ix1 n)).toNat c.val from dif_pos n.isLt]⟩

theorem take2_R (X : FVec Ideal S1000000x16 .f32) (E : M) (hX : R2 X E) (w : IVec S4096x200 32) (h : ∀ i, (w i).toNat < 1000000) :
    R3 (take2 X w) (fun i n k => row2 E w (200 * i + n) k) :=
  ⟨fun i => by
    have e : i = ValueIdx.ix3 (i 0) (i 1) (i 2) := by funext c; match c with | 0 => rfl | 1 => rfl | 2 => rfl
    have h0 : (i 0).val < 4096 := (i 0).isLt
    have h1 : (i 1).val < 200 := (i 1).isLt
    have k : row2 E w (200 * (i 0).val + (i 1).val) (i 2).val = E (w (ValueIdx.ix2 (i 0) (i 1))).toNat (i 2).val := by
      unfold row2
      rw [dif_pos (by omega)]
      rw [show (⟨(200 * (i 0).val + (i 1).val) / 200, by omega⟩ : Fin 4096) = i 0 from Fin.ext (show (200 * (i 0).val + (i 1).val) / 200 = (i 0).val by omega),
        show (⟨(200 * (i 0).val + (i 1).val) % 200, by omega⟩ : Fin 200) = i 1 from Fin.ext (show (200 * (i 0).val + (i 1).val) % 200 = (i 1).val by omega)]
    show take2 X w i = ((row2 E w (200 * (i 0).val + (i 1).val) (i 2).val : ℝ) : EReal)
    rw [k]
    conv_lhs => rw [e]
    exact (take2_apply X w h (i 0) (i 1) (i 2)).trans (rowAt_R X E hX _ (h _) (i 2))⟩

/-! ## The result -/

/-- The reference's parameter arrays hold the numbers `p` and `q`. -/
structure PR (V : RV) (p : Par) (q : Mp) : Prop where
  a8 : R2 (a := 64) (b := 16) (φ := .f32) (V (Proc.devRef .tc main_arg8)) p.w0
  a9 : R1 (a := 16) (φ := .f32) (V (Proc.devRef .tc main_arg9)) p.b0
  a10 : R1 (a := 16) (φ := .f32) (V (Proc.devRef .tc main_arg10)) p.g0
  a11 : R1 (a := 16) (φ := .f32) (V (Proc.devRef .tc main_arg11)) p.be0
  a12 : R1 (a := 16) (φ := .f32) (V (Proc.devRef .tc main_arg12)) p.al0
  a13 : R2 (a := 16) (b := 8) (φ := .f32) (V (Proc.devRef .tc main_arg13)) p.w1
  a14 : R1 (a := 8) (φ := .f32) (V (Proc.devRef .tc main_arg14)) p.b1
  a15 : R1 (a := 8) (φ := .f32) (V (Proc.devRef .tc main_arg15)) p.g1
  a16 : R1 (a := 8) (φ := .f32) (V (Proc.devRef .tc main_arg16)) p.be1
  a17 : R1 (a := 8) (φ := .f32) (V (Proc.devRef .tc main_arg17)) p.al1
  a18 : R2 (a := 8) (b := 1) (φ := .f32) (V (Proc.devRef .tc main_arg18)) (fun k _ => p.w2 k)
  a19 : R1 (a := 1) (φ := .f32) (V (Proc.devRef .tc main_arg19)) (fun _ => p.b2)
  a20 : R2 (a := 80) (b := 32) (φ := .f32) (V (Proc.devRef .tc main_arg20)) q.w0
  a21 : R1 (a := 32) (φ := .f32) (V (Proc.devRef .tc main_arg21)) q.b0
  a22 : R1 (a := 32) (φ := .f32) (V (Proc.devRef .tc main_arg22)) q.g0
  a23 : R1 (a := 32) (φ := .f32) (V (Proc.devRef .tc main_arg23)) q.be0
  a24 : R1 (a := 32) (φ := .f32) (V (Proc.devRef .tc main_arg24)) q.al0
  a25 : R2 (a := 32) (b := 16) (φ := .f32) (V (Proc.devRef .tc main_arg25)) q.w1
  a26 : R1 (a := 16) (φ := .f32) (V (Proc.devRef .tc main_arg26)) q.b1
  a27 : R1 (a := 16) (φ := .f32) (V (Proc.devRef .tc main_arg27)) q.g1
  a28 : R1 (a := 16) (φ := .f32) (V (Proc.devRef .tc main_arg28)) q.be1
  a29 : R1 (a := 16) (φ := .f32) (V (Proc.devRef .tc main_arg29)) q.al1
  a30 : R2 (a := 16) (b := 1) (φ := .f32) (V (Proc.devRef .tc main_arg30)) q.w2
  a31 : R1 (a := 1) (φ := .f32) (V (Proc.devRef .tc main_arg31)) (fun _ => q.b2)

/-- The reference's arguments, at their types. -/
def tabR (V : RV) : FVec Ideal S1000000x16 .f32 := V (Proc.devRef .tc main_arg7)
def usr (V : RV) : IVec S4096 32 := V (Proc.devRef .tc main_arg0)
def seq1 (V : RV) : IVec S4096x200 32 := V (Proc.devRef .tc main_arg1)
def len1 (V : RV) : IVec S4096 32 := V (Proc.devRef .tc main_arg2)
def tgt1 (V : RV) : IVec S4096 32 := V (Proc.devRef .tc main_arg3)
def seq2 (V : RV) : IVec S4096x200 32 := V (Proc.devRef .tc main_arg4)
def len2 (V : RV) : IVec S4096 32 := V (Proc.devRef .tc main_arg5)
def tgt2 (V : RV) : IVec S4096 32 := V (Proc.devRef .tc main_arg6)

/-- Every index names a row of the table. -/
structure InRows (V : RV) : Prop where
  u : ∀ i, (usr V i).toNat < 1000000
  s1 : ∀ i, (seq1 V i).toNat < 1000000
  t1 : ∀ i, (tgt1 V i).toNat < 1000000
  s2 : ∀ i, (seq2 V i).toNat < 1000000
  t2 : ∀ i, (tgt2 V i).toNat < 1000000

section Result
variable (V : RV) (p : Par) (q : Mp) (E : M) (W : PR V p q) (hE : R2 (tabR V) E) (hI : InRows V)

/-- The two towers' results and the features of the final layers. -/
def pl1 : M := Cert.Proof.Reals.pool p (row1 E (tgt1 V)) (row2 E (seq1 V)) (lenR (len1 V))
def pl2 : M := Cert.Proof.Reals.pool p (row1 E (tgt2 V)) (row2 E (seq2 V)) (lenR (len2 V))
def feats : M := xmlp (row1 E (usr V)) (pl1 V p E) (row1 E (tgt1 V)) (pl2 V p E) (row1 E (tgt2 V))

theorem v1_eq : res_main_v1 V = take2 (tabR V) (seq1 V) := by unfold res_main_v1 res_main_call1_v5 take2; rfl
theorem v3_eq : res_main_v3 V = take2 (tabR V) (seq2 V) := by unfold res_main_v3 res_main_call3_v5 take2; rfl
theorem v2_eq : res_main_v2 V = take1 (tabR V) (tgt1 V) := by unfold res_main_v2 res_main_call2_v5 take1; rfl
theorem v4_eq : res_main_v4 V = take1 (tabR V) (tgt2 V) := by unfold res_main_v4 res_main_call4_v5 take1; rfl

include W hE hI in
theorem v14_R : R2 (a := 819200) (b := 16) (φ := .f32) (res_main_v14 V) (H0 p (row1 E (tgt1 V)) (row2 E (seq1 V))) :=
  featT_R p (res_main_v2 V) (res_main_v1 V) _ _ _ _ (by rw [v2_eq]; exact take1_R _ E hE _ hI.t1) (by rw [v1_eq]; exact take2_R _ E hE _ hI.s1) W.a8 W.a9
include W hE hI in
theorem v132_R : R2 (a := 819200) (b := 16) (φ := .f32) (res_main_v132 V) (H0 p (row1 E (tgt2 V)) (row2 E (seq2 V))) :=
  featT_R p (res_main_v4 V) (res_main_v3 V) _ _ _ _ (by rw [v4_eq]; exact take1_R _ E hE _ hI.t2) (by rw [v3_eq]; exact take2_R _ E hE _ hI.s2) W.a8 W.a9

include W hE hI in
theorem v245_R : R2 (a := 4096) (b := 32) (φ := .f32) (res_main_v245 V) (F0 q (feats V p E)) := by
  have h1 := tower_R p _ _ (res_main_v14 V) (res_main_v1 V) (len1 V) _ _ _ _ _ _ _ _ _ _ (v14_R V p q E W hE hI)
    (by rw [v1_eq]; exact take2_R _ E hE _ hI.s1) W.a10 W.a11 W.a12 W.a13 W.a14 W.a15 W.a16 W.a17 W.a18 W.a19
    (res_main_v32 V) (res_main_v50 V) (res_main_v62 V) (res_main_v80 V) (res_main_v98 V) rfl rfl rfl rfl rfl
  have h2 := tower_R p _ _ (res_main_v132 V) (res_main_v3 V) (len2 V) _ _ _ _ _ _ _ _ _ _ (v132_R V p q E W hE hI)
    (by rw [v3_eq]; exact take2_R _ E hE _ hI.s2) W.a10 W.a11 W.a12 W.a13 W.a14 W.a15 W.a16 W.a17 W.a18 W.a19
    (res_main_v150 V) (res_main_v168 V) (res_main_v180 V) (res_main_v198 V) (res_main_v216 V) rfl rfl rfl rfl rfl
  haveI hc := cat5_R (take1 (tabR V) (usr V)) _ (res_main_v2 V) _ (res_main_v4 V) _ _ _ _ _ (take1_R _ E hE _ hI.u) h1
    (by rw [v2_eq]; exact take1_R _ E hE _ hI.t1) h2 (by rw [v4_eq]; exact take1_R _ E hE _ hI.t2)
    concatenates_S4096x16_S4096x16_S4096x16_S4096x16_S4096x16_S4096x80_d1
  exact @denseT_R 4096 80 32 dot_S4096x80_S80x32_S4096x32_1_0_0_1_n_n rfl bcast_S32_S1x32_1 bcast_S1x32_S4096x32_0_1 _ (V (Proc.devRef .tc main_arg20)) (V (Proc.devRef .tc main_arg21)) _ q.w0 q.b0 hc W.a20 W.a21

/-- What the reference returns. -/
def refOut : FVec Ideal S4096x1 .f32 :=
  Host.divf (broadcastInDim S4096x1 ![] bcast_S_S4096x1 (constant S_ .f32 0x3F800000#32)) (addf (broadcastInDim S4096x1 ![] bcast_S_S4096x1 (constant S_ .f32 0x3F800000#32)) (Host.exp (Host.negf
    (denseT dot_S4096x16_S16x1_S4096x1_1_0_0_1_n_n bcast_S1_S1x1_1 bcast_S1x1_S4096x1_0_1 (diceT bcast_S16_S1x16_1 bcast_S1x16_S4096x16_0_1 bcast_S_S4096x16 (res_main_v311 V) (res_main_v329 V) (V (Proc.devRef .tc main_arg29))) (V (Proc.devRef .tc main_arg30)) (V (Proc.devRef .tc main_arg31))))))

include W hE hI in
theorem refOut_R : R2 (a := 4096) (b := 1) (φ := .f32) (refOut V) (prob q (feats V p E)) := by
  haveI h245 := v245_R V p q E W hE hI
  haveI := W.a22
  haveI := W.a23
  haveI := W.a24
  haveI := W.a25
  haveI := W.a26
  haveI := W.a27
  haveI := W.a28
  haveI := W.a29
  haveI := W.a30
  haveI := W.a31
  haveI h263 : R2 (a := 4096) (b := 32) (φ := .f32) (res_main_v263 V) (bn NB (F0 q (feats V p E)) q.g0 q.be0) :=
    bnT_R (N := NB) _ reducesTo_S4096x32_S32_d0 h_S_ bcast_S32_S1x32_1 bcast_S1x32_S4096x32_0_1 bcast_S_S1x32 small_lit small_pos (res_main_v245 V) _ (V (Proc.devRef .tc main_arg22)) (V (Proc.devRef .tc main_arg23)) q.g0 q.be0
  haveI h281 : R2 (a := 4096) (b := 32) (φ := .f32) (res_main_v281 V) (gate NB (bn NB (F0 q (feats V p E)) q.g0 q.be0)) :=
    gateT_R (N := NB) _ reducesTo_S4096x32_S32_d0 h_S_ bcast_S32_S1x32_1 bcast_S1x32_S4096x32_0_1 bcast_S_S1x32 bcast_S_S4096x32 small_lit small_pos (res_main_v263 V) _
  haveI h293 : R2 (a := 4096) (b := 16) (φ := .f32) (res_main_v293 V) (F1 q (feats V p E)) :=
    act_R (N := NB) dot_S4096x32_S32x16_S4096x16_1_0_0_1_n_n rfl bcast_S16_S1x16_1 bcast_S1x16_S4096x16_0_1 bcast_S32_S1x32_1 bcast_S1x32_S4096x32_0_1 bcast_S_S4096x32
      (res_main_v263 V) (res_main_v281 V) _ _ _ _ _ _ _ h263 h281 W.a24 W.a25 W.a26
  haveI h311 : R2 (a := 4096) (b := 16) (φ := .f32) (res_main_v311 V) (bn NB (F1 q (feats V p E)) q.g1 q.be1) :=
    bnT_R (N := NB) _ reducesTo_S4096x16_S16_d0 h_S_ bcast_S16_S1x16_1 bcast_S1x16_S4096x16_0_1 bcast_S_S1x16 small_lit small_pos (res_main_v293 V) _ (V (Proc.devRef .tc main_arg27)) (V (Proc.devRef .tc main_arg28)) q.g1 q.be1
  haveI h329 : R2 (a := 4096) (b := 16) (φ := .f32) (res_main_v329 V) (gate NB (bn NB (F1 q (feats V p E)) q.g1 q.be1)) :=
    gateT_R (N := NB) _ reducesTo_S4096x16_S16_d0 h_S_ bcast_S16_S1x16_1 bcast_S1x16_S4096x16_0_1 bcast_S_S1x16 bcast_S_S4096x16 small_lit small_pos (res_main_v311 V) _
  haveI hf := act_R (N := NB) dot_S4096x16_S16x1_S4096x1_1_0_0_1_n_n rfl bcast_S1_S1x1_1 bcast_S1x1_S4096x1_0_1 bcast_S16_S1x16_1 bcast_S1x16_S4096x16_0_1 bcast_S_S4096x16
    (res_main_v311 V) (res_main_v329 V) _ _ _ _ _ _ _ h311 h329 W.a29 W.a30 W.a31
  apply R2.congr
  · unfold refOut; infer_instance
  · intro i _ j _; rfl
end Result

end Cert.Proof.Reals

end
-- ==== Proof.Value.lean ====
/-
  The rows the call gathers, as real numbers: each of the dense part's row windows holds the table's rows that one of the
  arguments names.
-/
module

public import proofs.«01_k».proof.Proof.IdealList
public import proofs.«01_k».proof.Proof.HostReal
public import proofs.«01_k».proof.Proof.Ref

@[expose] public section

noncomputable section

namespace Cert.Proof.KernelIdeal

open Cert.KernelIdeal Cert.KernelIdeal.Gen

open Idealize.ShloMosaic
open Cert.Proof.Lookup (rowAt)
open Cert.Proof.Reals

variable {F : FTy → Type} [FloatOps F]

section

variable (X : FVec F S1000000x16 .f32) (u : IVec S4096 32) (s1 : IVec S4096x200 32) (t1 : IVec S4096 32) (s2 : IVec S4096x200 32) (t2 : IVec S4096 32)

/-- The pieces of the list. -/
abbrev pieces : List ((s : Shape) × (s.Idx → BitVec 32)) :=
  [⟨S819200, (shapeCast S819200 s1 shapeCasts_S4096x200_S819200 : IVec S819200 32)⟩, ⟨S819200, (shapeCast S819200 s2 shapeCasts_S4096x200_S819200 : IVec S819200 32)⟩,
   ⟨S4096, u⟩, ⟨S4096, t1⟩, ⟨S4096, t2⟩, ⟨S20480, (broadcastInDim S20480 ![] bcast_S_S20480 (constantI S_ 32 0#32) : IVec S20480 32)⟩]

/-- The list at a place of its `k`-th piece, of `n` words after `pre`. -/
theorem listed_piece (k : ℕ) (n pre : ℕ) (x : IVec ⟨1, ![n]⟩ 32)
    (hk : k < (pieces u s1 t1 s2 t2).length) (hx : (pieces u s1 t1 s2 t2)[k]'hk = ⟨⟨1, ![n]⟩, x⟩)
    (hpre : ((((pieces u s1 t1 s2 t2).take k).map (·.1)).map fun s => if h : s.rank = S1671168.rank then s.size ((0 : Fin 1).cast h.symm) else 0).sum = pre)
    (i : Fin n) (j : Fin 1671168) (hj : pre + i.val = j.val) :
    listed u s1 t1 s2 t2 (at1 j) = x (ValueIdx.ix1 i) := by
  unfold listed
  exact concatenate_apply_piece (t := S1671168) (0 : Fin 1) (pieces u s1 t1 s2 t2) _ (at1 j) k hk ⟨1, ![n]⟩ x hx rfl pre hpre (ValueIdx.ix1 i)
    (fun b hb => absurd (Subsingleton.elim _ _) hb) hj

/-- A gathered row is the table's row the list names. -/
theorem gathered_apply (ids : IVec S1671168 32) (j : Fin 1671168) (c : Fin 16) :
    gathered X ids (ValueIdx.ix2 j c) = rowAt X (ids (at1 j)) c := by
  unfold gathered rowAt
  exact congrArg X (funext fun a => match a with | ⟨0, _⟩ => rfl | ⟨1, _⟩ => rfl)

theorem flat2 (z : IVec S4096x200 32) (i : Fin 4096) (l : Fin 200) (p : Fin 819200) (hp : p.val = i.val * 200 + l.val) :
    shapeCast S819200 z shapeCasts_S4096x200_S819200 (ValueIdx.ix1 p) = z (ValueIdx.ix2 i l) := by
  refine shapeCast_apply z _ _ (ValueIdx.ix2 i l) ?_
  rw [Shape.rowMajor_val_two, Shape.rowMajor_val_one]
  exact hp.symm

end

section
variable (m : (ℓ : Loc nD τ sig) → Buf (Elt Ideal) ℓ) (d : Dev nD) (E : Cert.Proof.Reals.M)
  (hE : R2 (a := 1000000) (b := 16) (φ := .f32) (arg m d main_arg7) E) (hI : Ids m d)

/-- The gathered array, at an index. -/
theorem v4_at (j : Fin 1671168) (c : Fin 16) : V2 m d (ref main_v4) (ValueIdx.ix2 j c)
    = rowAt (α := Ideal .f32) (arg m d main_arg7) (listed (arg m d main_arg0) (arg m d main_arg1) (arg m d main_arg3) (arg m d main_arg4) (arg m d main_arg6) (at1 j)) c := by
  rw [V2_out]
  unfold out G
  rw [lst_eq, tab_eq]
  exact gathered_apply _ _ j c

/-- The rows from one place on, sliced out of the gathered array, are those a piece of the list names. -/
theorem slice_at (o k : ℕ) (ho : o + 4096 ≤ 1671168) (w : IVec S4096 32) (hw : ∀ i, (w i).toNat < 1000000)
    (hl : ∀ (i : Fin 4096) (j : Fin 1671168), o + i.val = j.val →
      listed (arg m d main_arg0) (arg m d main_arg1) (arg m d main_arg3) (arg m d main_arg4) (arg m d main_arg6) (at1 j) = w (ValueIdx.ix1 i))
    (h : S1671168x16.Slices ![o, 0] S4096x16) (hE : R2 (a := 1000000) (b := 16) (φ := .f32) (arg m d main_arg7) E) :
    R2 (a := 4096) (b := 16) (φ := .f32) (extractStridedSlice S4096x16 ![o, 0] (V2 m d (ref main_v4)) h) (row1 E w) := ⟨fun i => by
  have h0 : (i 0).val < 4096 := (i 0).isLt
  refine (congrArg (V2 m d (ref main_v4)) (?_ : _ = ValueIdx.ix2 (⟨o + (i 0).val, by omega⟩ : Fin 1671168) (⟨(i 1).val, (i 1).isLt⟩ : Fin 16))).trans ?_
  · refine ext2 rfl ?_
    show 0 + (i 1).val = (i 1).val
    omega
  refine (v4_at m d _ _).trans ?_
  rw [hl (i 0) _ rfl]
  refine (rowAt_R _ E hE _ (hw _) _).trans ?_
  unfold row1
  rw [dif_pos h0]; rfl⟩

include hE hI

theorem rows_u : R2 (φ := .f32) (win (VV m) d).k4 (row1 E (arg m d main_arg0)) := by
  refine R2.of_eq (w2 (VV m) d) (R2.of_eq (e_v5 (V2 m d)) ?_)
  rw [e_v4]
  exact slice_at m d E 1638400 2 (by omega) _ hI.1 (fun i j hj => listed_piece _ _ _ _ _ 2 4096 1638400 _ (show 2 < 6 by decide) rfl (by simp) i j hj) _ hE
theorem rows_t1 : R2 (φ := .f32) (win (VV m) d).k5 (row1 E (arg m d main_arg3)) := by
  refine R2.of_eq (w3 (VV m) d) (R2.of_eq (e_v6 (V2 m d)) ?_)
  rw [e_v4]
  exact slice_at m d E 1642496 3 (by omega) _ hI.2.2.1 (fun i j hj => listed_piece _ _ _ _ _ 3 4096 1642496 _ (show 3 < 6 by decide) rfl (by simp) i j hj) _ hE
theorem rows_t2 : R2 (φ := .f32) (win (VV m) d).k6 (row1 E (arg m d main_arg6)) := by
  refine R2.of_eq (w4 (VV m) d) (R2.of_eq (e_v7 (V2 m d)) ?_)
  rw [e_v4]
  exact slice_at m d E 1646592 4 (by omega) _ hI.2.2.2.2 (fun i j hj => listed_piece _ _ _ _ _ 4 4096 1646592 _ (show 4 < 6 by decide) rfl (by simp) i j hj) _ hE

omit hI in
/-- An entry of the gathered array laid out in lanes of 128: a number of the row that a sequence names. -/
theorem seq_at (o : ℕ) (s : IVec S4096x200 32) (hs : ∀ i, (s i).toNat < 1000000) (ho : o + 819200 ≤ 1671168)
    (hl : ∀ (i : Fin 819200) (j : Fin 1671168), o + i.val = j.val →
      listed (arg m d main_arg0) (arg m d main_arg1) (arg m d main_arg3) (arg m d main_arg4) (arg m d main_arg6) (at1 j) = shapeCast S819200 s shapeCasts_S4096x200_S819200 (ValueIdx.ix1 i))
    (R : Fin 208896) (l : Fin 128) (P : ℕ) (hP : P < 819200) (hR : 8 * R.val + l.val / 16 = o + P) :
    VV m d main_v8 (ValueIdx.ix2 R l) = ((row2 E s P (l.val % 16) : ℝ) : EReal) := by
  have hl2 := l.isLt
  refine (congrFun (e_v8 (V2 m d)) _).trans ?_
  rw [e_v4]
  refine (shapeCast_apply _ _ _ (ValueIdx.ix2 (⟨o + P, by omega⟩ : Fin 1671168) (⟨l.val % 16, by omega⟩ : Fin 16)) ?_).trans ?_
  · rw [Shape.rowMajor_val_two, Shape.rowMajor_val_two]
    show (o + P) * 16 + l.val % 16 = R.val * 128 + l.val
    omega
  refine (v4_at m d _ _).trans ?_
  rw [hl ⟨P, hP⟩ _ rfl, flat2 s ⟨P / 200, by omega⟩ ⟨P % 200, by omega⟩ ⟨P, hP⟩ (show P = P / 200 * 200 + P % 200 by omega)]
  refine (rowAt_R _ E hE _ (hs _) _).trans ?_
  unfold row2
  rw [dif_pos hP]

theorem rows_s1 (n : ℕ) (hn : n < 96) :
    R2 (φ := .f32) (blk1 (VV m) d n) (fun r l => row2 E (arg m d main_arg1) (posn (n % 32) r l) (l % 16)) := ⟨fun i => by
  have h0 : (i 0).val < 3200 := (i 0).isLt
  have h1 : (i 1).val < 128 := (i 1).isLt
  refine (congrArg (blk1 (VV m) d n) (ext2 rfl rfl : i = ValueIdx.ix2 (⟨(i 0).val, h0⟩ : Fin 3200) (⟨(i 1).val, h1⟩ : Fin 128))).trans ?_
  refine (blk1_at (VV m) d hn _ _).trans ?_
  exact seq_at m d E hE 0 _ hI.2.1 (by omega) (fun i j hj => listed_piece _ _ _ _ _ 0 819200 0 _ (show 0 < 6 by decide) rfl rfl i j hj) _ _ _
    (by unfold posn; omega) (by show 8 * (3200 * (n % 32) + (i 0).val) + (i 1).val / 16 = 0 + (25600 * (n % 32) + (8 * (i 0).val + (i 1).val / 16)); omega)⟩
theorem rows_s2 (n : ℕ) (hn : n < 96) :
    R2 (φ := .f32) (blk2 (VV m) d n) (fun r l => row2 E (arg m d main_arg4) (posn (n % 32) r l) (l % 16)) := ⟨fun i => by
  have h0 : (i 0).val < 3200 := (i 0).isLt
  have h1 : (i 1).val < 128 := (i 1).isLt
  refine (congrArg (blk2 (VV m) d n) (ext2 rfl rfl : i = ValueIdx.ix2 (⟨(i 0).val, h0⟩ : Fin 3200) (⟨(i 1).val, h1⟩ : Fin 128))).trans ?_
  refine (blk2_at (VV m) d hn _ _).trans ?_
  exact seq_at m d E hE 819200 _ hI.2.2.2.1 (by omega) (fun i j hj => listed_piece _ _ _ _ _ 1 819200 819200 _ (show 1 < 6 by decide) rfl (by simp) i j hj) _ _ _
    (by unfold posn; omega) (by show 8 * (102400 + 3200 * (n % 32) + (i 0).val) + (i 1).val / 16 = 819200 + (25600 * (n % 32) + (8 * (i 0).val + (i 1).val / 16)); omega)⟩

/-- The kernel's result, as real numbers. -/
theorem result_R {p : Par} {q : Mp} (H : HP (V2 m d) p q) : R2 (a := 4096) (b := 1) (φ := .f32) (result (VV m) d)
    (prob q (xmlp (row1 E (arg m d main_arg0)) (Cert.Proof.Reals.pool p (row1 E (arg m d main_arg3)) (row2 E (arg m d main_arg1)) (lenR (arg m d main_arg2))) (row1 E (arg m d main_arg3))
      (Cert.Proof.Reals.pool p (row1 E (arg m d main_arg6)) (row2 E (arg m d main_arg4)) (lenR (arg m d main_arg5))) (row1 E (arg m d main_arg6)))) := by
  have W := winR m d H
  rw [V2_arg m d main_arg2 (by decide) (by decide), V2_arg m d main_arg5 (by decide) (by decide)] at W
  exact mlp_R (winM m d H) _ _ _ _ _ (rows_u m d E hE hI) (rows_t1 m d E hE hI) (rows_t2 m d E hE hI)
    (pooled1_R W _ _ (rows_s1 m d E hE hI) (rows_t1 m d E hE hI)) (pooled2_R W _ _ (rows_s2 m d E hE hI) (rows_t2 m d E hE hI))
end

end Cert.Proof.KernelIdeal

end
-- ==== Proof.Equal.lean ====
/-
  The two results are equal: both hold the same real numbers, computed from the arguments.
-/
module

public import proofs.«01_k».proof.Proof.Finite
public import proofs.«01_k».proof.Proof.Value
public import proofs.«01_k».proof.Proof.Ref

@[expose] public section

noncomputable section

namespace Cert.Proof.KernelIdeal

open Cert.KernelIdeal Cert.KernelIdeal.Gen
open Idealize.ShloMosaic
open Cert.Proof.Reals

theorem _root_.Cert.Proof.Reals.R1.of_eq {a : ℕ} {x y : FVec Ideal (Sh1 a) .f32} {f : ℕ → ℝ} (e : x = y) (h : R1 y f) : R1 x f := e ▸ h

variable (m : (ℓ : Loc nD τ sig) → Buf (Elt Ideal) ℓ) (d : Dev nD)

/-- The numbers the attention's parameter arrays hold. -/
def parP : Par where
  w0 := re2 (a := 64) (b := 16) (arg m d main_arg8)
  b0 := re1 (a := 16) (arg m d main_arg9)
  g0 := re1 (a := 16) (arg m d main_arg10)
  be0 := re1 (a := 16) (arg m d main_arg11)
  al0 := re1 (a := 16) (arg m d main_arg12)
  w1 := re2 (a := 16) (b := 8) (arg m d main_arg13)
  b1 := re1 (a := 8) (arg m d main_arg14)
  g1 := re1 (a := 8) (arg m d main_arg15)
  be1 := re1 (a := 8) (arg m d main_arg16)
  al1 := re1 (a := 8) (arg m d main_arg17)
  w2 := fun k => re2 (a := 8) (b := 1) (arg m d main_arg18) k 0
  b2 := re1 (a := 1) (arg m d main_arg19) 0

/-- The numbers the final layers' parameter arrays hold. -/
def parQ : Mp where
  w0 := re2 (a := 80) (b := 32) (arg m d main_arg20)
  b0 := re1 (a := 32) (arg m d main_arg21)
  g0 := re1 (a := 32) (arg m d main_arg22)
  be0 := re1 (a := 32) (arg m d main_arg23)
  al0 := re1 (a := 32) (arg m d main_arg24)
  w1 := re2 (a := 32) (b := 16) (arg m d main_arg25)
  b1 := re1 (a := 16) (arg m d main_arg26)
  g1 := re1 (a := 16) (arg m d main_arg27)
  be1 := re1 (a := 16) (arg m d main_arg28)
  al1 := re1 (a := 16) (arg m d main_arg29)
  w2 := re2 (a := 16) (b := 1) (arg m d main_arg30)
  b2 := re1 (a := 1) (arg m d main_arg31) 0

/-- The precondition, of one device's arguments. -/
def Good [Cert.Pre_ids_in_rows_floats_finite.Facts] : Prop :=
  Cert.Pre_ids_in_rows_floats_finite.fn (F := Ideal) (arg m d main_arg0) (arg m d main_arg1) (arg m d main_arg2) (arg m d main_arg3) (arg m d main_arg4) (arg m d main_arg5) (arg m d main_arg6) (arg m d main_arg7) (arg m d main_arg8) (arg m d main_arg9) (arg m d main_arg10) (arg m d main_arg11) (arg m d main_arg12) (arg m d main_arg13) (arg m d main_arg14) (arg m d main_arg15) (arg m d main_arg16) (arg m d main_arg17) (arg m d main_arg18) (arg m d main_arg19) (arg m d main_arg20) (arg m d main_arg21) (arg m d main_arg22) (arg m d main_arg23) (arg m d main_arg24) (arg m d main_arg25) (arg m d main_arg26) (arg m d main_arg27) (arg m d main_arg28) (arg m d main_arg29) (arg m d main_arg30) (arg m d main_arg31) = fun _ => 1#1

/-- The reference starts from the same arguments. -/
def Same (V : RV) : Prop :=
  (V (Proc.devRef .tc Cert.ReferenceIdeal.main_arg0) : IVec S4096 32) = (arg m d main_arg0 : IVec S4096 32)
  ∧ (V (Proc.devRef .tc Cert.ReferenceIdeal.main_arg1) : IVec S4096x200 32) = (arg m d main_arg1 : IVec S4096x200 32)
  ∧ (V (Proc.devRef .tc Cert.ReferenceIdeal.main_arg2) : IVec S4096 32) = (arg m d main_arg2 : IVec S4096 32)
  ∧ (V (Proc.devRef .tc Cert.ReferenceIdeal.main_arg3) : IVec S4096 32) = (arg m d main_arg3 : IVec S4096 32)
  ∧ (V (Proc.devRef .tc Cert.ReferenceIdeal.main_arg4) : IVec S4096x200 32) = (arg m d main_arg4 : IVec S4096x200 32)
  ∧ (V (Proc.devRef .tc Cert.ReferenceIdeal.main_arg5) : IVec S4096 32) = (arg m d main_arg5 : IVec S4096 32)
  ∧ (V (Proc.devRef .tc Cert.ReferenceIdeal.main_arg6) : IVec S4096 32) = (arg m d main_arg6 : IVec S4096 32)
  ∧ (V (Proc.devRef .tc Cert.ReferenceIdeal.main_arg7) : FVec Ideal (Sh2 1000000 16) .f32) = (arg m d main_arg7 : FVec Ideal (Sh2 1000000 16) .f32)
  ∧ (V (Proc.devRef .tc Cert.ReferenceIdeal.main_arg8) : FVec Ideal (Sh2 64 16) .f32) = (arg m d main_arg8 : FVec Ideal (Sh2 64 16) .f32)
  ∧ (V (Proc.devRef .tc Cert.ReferenceIdeal.main_arg9) : FVec Ideal (Sh1 16) .f32) = (arg m d main_arg9 : FVec Ideal (Sh1 16) .f32)
  ∧ (V (Proc.devRef .tc Cert.ReferenceIdeal.main_arg10) : FVec Ideal (Sh1 16) .f32) = (arg m d main_arg10 : FVec Ideal (Sh1 16) .f32)
  ∧ (V (Proc.devRef .tc Cert.ReferenceIdeal.main_arg11) : FVec Ideal (Sh1 16) .f32) = (arg m d main_arg11 : FVec Ideal (Sh1 16) .f32)
  ∧ (V (Proc.devRef .tc Cert.ReferenceIdeal.main_arg12) : FVec Ideal (Sh1 16) .f32) = (arg m d main_arg12 : FVec Ideal (Sh1 16) .f32)
  ∧ (V (Proc.devRef .tc Cert.ReferenceIdeal.main_arg13) : FVec Ideal (Sh2 16 8) .f32) = (arg m d main_arg13 : FVec Ideal (Sh2 16 8) .f32)
  ∧ (V (Proc.devRef .tc Cert.ReferenceIdeal.main_arg14) : FVec Ideal (Sh1 8) .f32) = (arg m d main_arg14 : FVec Ideal (Sh1 8) .f32)
  ∧ (V (Proc.devRef .tc Cert.ReferenceIdeal.main_arg15) : FVec Ideal (Sh1 8) .f32) = (arg m d main_arg15 : FVec Ideal (Sh1 8) .f32)
  ∧ (V (Proc.devRef .tc Cert.ReferenceIdeal.main_arg16) : FVec Ideal (Sh1 8) .f32) = (arg m d main_arg16 : FVec Ideal (Sh1 8) .f32)
  ∧ (V (Proc.devRef .tc Cert.ReferenceIdeal.main_arg17) : FVec Ideal (Sh1 8) .f32) = (arg m d main_arg17 : FVec Ideal (Sh1 8) .f32)
  ∧ (V (Proc.devRef .tc Cert.ReferenceIdeal.main_arg18) : FVec Ideal (Sh2 8 1) .f32) = (arg m d main_arg18 : FVec Ideal (Sh2 8 1) .f32)
  ∧ (V (Proc.devRef .tc Cert.ReferenceIdeal.main_arg19) : FVec Ideal (Sh1 1) .f32) = (arg m d main_arg19 : FVec Ideal (Sh1 1) .f32)
  ∧ (V (Proc.devRef .tc Cert.ReferenceIdeal.main_arg20) : FVec Ideal (Sh2 80 32) .f32) = (arg m d main_arg20 : FVec Ideal (Sh2 80 32) .f32)
  ∧ (V (Proc.devRef .tc Cert.ReferenceIdeal.main_arg21) : FVec Ideal (Sh1 32) .f32) = (arg m d main_arg21 : FVec Ideal (Sh1 32) .f32)
  ∧ (V (Proc.devRef .tc Cert.ReferenceIdeal.main_arg22) : FVec Ideal (Sh1 32) .f32) = (arg m d main_arg22 : FVec Ideal (Sh1 32) .f32)
  ∧ (V (Proc.devRef .tc Cert.ReferenceIdeal.main_arg23) : FVec Ideal (Sh1 32) .f32) = (arg m d main_arg23 : FVec Ideal (Sh1 32) .f32)
  ∧ (V (Proc.devRef .tc Cert.ReferenceIdeal.main_arg24) : FVec Ideal (Sh1 32) .f32) = (arg m d main_arg24 : FVec Ideal (Sh1 32) .f32)
  ∧ (V (Proc.devRef .tc Cert.ReferenceIdeal.main_arg25) : FVec Ideal (Sh2 32 16) .f32) = (arg m d main_arg25 : FVec Ideal (Sh2 32 16) .f32)
  ∧ (V (Proc.devRef .tc Cert.ReferenceIdeal.main_arg26) : FVec Ideal (Sh1 16) .f32) = (arg m d main_arg26 : FVec Ideal (Sh1 16) .f32)
  ∧ (V (Proc.devRef .tc Cert.ReferenceIdeal.main_arg27) : FVec Ideal (Sh1 16) .f32) = (arg m d main_arg27 : FVec Ideal (Sh1 16) .f32)
  ∧ (V (Proc.devRef .tc Cert.ReferenceIdeal.main_arg28) : FVec Ideal (Sh1 16) .f32) = (arg m d main_arg28 : FVec Ideal (Sh1 16) .f32)
  ∧ (V (Proc.devRef .tc Cert.ReferenceIdeal.main_arg29) : FVec Ideal (Sh1 16) .f32) = (arg m d main_arg29 : FVec Ideal (Sh1 16) .f32)
  ∧ (V (Proc.devRef .tc Cert.ReferenceIdeal.main_arg30) : FVec Ideal (Sh2 16 1) .f32) = (arg m d main_arg30 : FVec Ideal (Sh2 16 1) .f32)
  ∧ (V (Proc.devRef .tc Cert.ReferenceIdeal.main_arg31) : FVec Ideal (Sh1 1) .f32) = (arg m d main_arg31 : FVec Ideal (Sh1 1) .f32)

variable [Cert.Pre_ids_in_rows_floats_finite.Facts] {m d}

theorem good_ids (e : Good m d) : Ids m d := (pre_real e).1

theorem good_tab (e : Good m d) : R2 (a := 1000000) (b := 16) (φ := .f32) (arg m d main_arg7) (re2 (a := 1000000) (b := 16) (arg m d main_arg7)) :=
  re2_R (pre_real e).2.1

theorem good_HP (e : Good m d) : HP (V2 m d) (parP m d) (parQ m d) := by
  obtain ⟨hI, h7, h8, h9, h10, h11, h12, h13, h14, h15, h16, h17, h18, h19, h20, h21, h22, h23, h24, h25, h26, h27, h28, h29, h30, h31⟩ := pre_real e
  exact ⟨R2.of_eq (V2_arg m d main_arg8 (by decide) (by decide)) (re2_R h8),
    R1.of_eq (V2_arg m d main_arg9 (by decide) (by decide)) (re1_R h9),
    R1.of_eq (V2_arg m d main_arg10 (by decide) (by decide)) (re1_R h10),
    R1.of_eq (V2_arg m d main_arg11 (by decide) (by decide)) (re1_R h11),
    R1.of_eq (V2_arg m d main_arg12 (by decide) (by decide)) (re1_R h12),
    R2.of_eq (V2_arg m d main_arg13 (by decide) (by decide)) (re2_R h13),
    R1.of_eq (V2_arg m d main_arg14 (by decide) (by decide)) (re1_R h14),
    R1.of_eq (V2_arg m d main_arg15 (by decide) (by decide)) (re1_R h15),
    R1.of_eq (V2_arg m d main_arg16 (by decide) (by decide)) (re1_R h16),
    R1.of_eq (V2_arg m d main_arg17 (by decide) (by decide)) (re1_R h17),
    R2.of_eq (V2_arg m d main_arg18 (by decide) (by decide)) (re2_col h18),
    R1.of_eq (V2_arg m d main_arg19 (by decide) (by decide)) (re1_one h19),
    R2.of_eq (V2_arg m d main_arg20 (by decide) (by decide)) (re2_R h20),
    R1.of_eq (V2_arg m d main_arg21 (by decide) (by decide)) (re1_R h21),
    R1.of_eq (V2_arg m d main_arg22 (by decide) (by decide)) (re1_R h22),
    R1.of_eq (V2_arg m d main_arg23 (by decide) (by decide)) (re1_R h23),
    R1.of_eq (V2_arg m d main_arg24 (by decide) (by decide)) (re1_R h24),
    R2.of_eq (V2_arg m d main_arg25 (by decide) (by decide)) (re2_R h25),
    R1.of_eq (V2_arg m d main_arg26 (by decide) (by decide)) (re1_R h26),
    R1.of_eq (V2_arg m d main_arg27 (by decide) (by decide)) (re1_R h27),
    R1.of_eq (V2_arg m d main_arg28 (by decide) (by decide)) (re1_R h28),
    R1.of_eq (V2_arg m d main_arg29 (by decide) (by decide)) (re1_R h29),
    R2.of_eq (V2_arg m d main_arg30 (by decide) (by decide)) (re2_R h30),
    R1.of_eq (V2_arg m d main_arg31 (by decide) (by decide)) (re1_one h31),
    fun i j h _ => re2_outC _ i j h, fun j h _ => re1_out _ j h, fun j h _ => re1_out _ j h, fun j h _ => re1_out _ j h, fun j h _ => re1_out _ j h, fun k h _ => re2_outR _ k 0 h⟩

theorem good_PR (e : Good m d) {V : RV} (A : Same m d V) : PR V (parP m d) (parQ m d) := by
  obtain ⟨A0, A1, A2, A3, A4, A5, A6, A7, A8, A9, A10, A11, A12, A13, A14, A15, A16, A17, A18, A19, A20, A21, A22, A23, A24, A25, A26, A27, A28, A29, A30, A31⟩ := A
  obtain ⟨hI, h7, h8, h9, h10, h11, h12, h13, h14, h15, h16, h17, h18, h19, h20, h21, h22, h23, h24, h25, h26, h27, h28, h29, h30, h31⟩ := pre_real e
  exact ⟨R2.of_eq A8 (re2_R h8),
    R1.of_eq A9 (re1_R h9),
    R1.of_eq A10 (re1_R h10),
    R1.of_eq A11 (re1_R h11),
    R1.of_eq A12 (re1_R h12),
    R2.of_eq A13 (re2_R h13),
    R1.of_eq A14 (re1_R h14),
    R1.of_eq A15 (re1_R h15),
    R1.of_eq A16 (re1_R h16),
    R1.of_eq A17 (re1_R h17),
    R2.of_eq A18 (re2_col h18),
    R1.of_eq A19 (re1_one h19),
    R2.of_eq A20 (re2_R h20),
    R1.of_eq A21 (re1_R h21),
    R1.of_eq A22 (re1_R h22),
    R1.of_eq A23 (re1_R h23),
    R1.of_eq A24 (re1_R h24),
    R2.of_eq A25 (re2_R h25),
    R1.of_eq A26 (re1_R h26),
    R1.of_eq A27 (re1_R h27),
    R1.of_eq A28 (re1_R h28),
    R1.of_eq A29 (re1_R h29),
    R2.of_eq A30 (re2_R h30),
    R1.of_eq A31 (re1_one h31)⟩

/-- The kernel's result is the reference's. -/
theorem equal (e : Good m d) {V : RV} (A : Same m d V) : (refOut V : FVec Ideal (Sh2 4096 1) .f32) = (result (VV m) d : FVec Ideal (Sh2 4096 1) .f32) := by
  have W := good_PR e A
  obtain ⟨A0, A1, A2, A3, A4, A5, A6, A7, A8, A9, A10, A11, A12, A13, A14, A15, A16, A17, A18, A19, A20, A21, A22, A23, A24, A25, A26, A27, A28, A29, A30, A31⟩ := A
  have hI := good_ids e
  have hE := good_tab e
  have hJ : InRows V := ⟨fun i => (congrArg BitVec.toNat (congrFun A0 i)).trans_lt (hI.1 i), fun i => (congrArg BitVec.toNat (congrFun A1 i)).trans_lt (hI.2.1 i),
    fun i => (congrArg BitVec.toNat (congrFun A3 i)).trans_lt (hI.2.2.1 i), fun i => (congrArg BitVec.toNat (congrFun A4 i)).trans_lt (hI.2.2.2.1 i),
    fun i => (congrArg BitVec.toNat (congrFun A6 i)).trans_lt (hI.2.2.2.2 i)⟩
  have r := refOut_R V (parP m d) (parQ m d) _ W (R2.of_eq A7 hE) hJ
  have k := result_R m d _ hE hI (good_HP e)
  have s0 : usr V = arg m d main_arg0 := A0
  have s1 : seq1 V = arg m d main_arg1 := A1
  have s2 : len1 V = arg m d main_arg2 := A2
  have s3 : tgt1 V = arg m d main_arg3 := A3
  have s4 : seq2 V = arg m d main_arg4 := A4
  have s5 : len2 V = arg m d main_arg5 := A5
  have s6 : tgt2 V = arg m d main_arg6 := A6
  unfold feats pl1 pl2 at r
  rw [s0, s1, s2, s3, s4, s5, s6] at r
  exact R2.ext r k fun i _ j _ => rfl

end Cert.Proof.KernelIdeal

end
-- ==== Proof.lean ====
/-
  A recommendation network.  A table of a million rows of sixteen numbers is looked up at 1671168 places by one call on the
  SparseCores; one call on the TensorCore, a grid of three passes over 32 blocks, then scores every position of two sequences
  against its target, sums the scored rows, and puts the two sums and three more rows through the final layers.  The statement
  is the whole of it: the code that makes the list of row numbers, both calls, and the code between them.

    * With every row number below a million, both readings of the program (bit patterns, exact numbers) end with their
      arguments unchanged and every semaphore at zero, and so does the reference.  The program is run once, at any reading (Proof/IdealList.lean); Proof/Same.lean and
      Proof/Bits.lean carry that to the bit patterns.
    * Nothing was rewritten between the two readings.
    * With every float a real number too, the program's result is the reference's (Proof/Equal.lean): each is shown to hold
      the same real numbers, the program's in Proof/Value.lean, the reference's in Proof/Ref.lean.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_ids_in_rows
public import proofs.«01_k».proof.Proof.Gen.Pre_ids_in_rows_floats_finite
public import Idealize.ShloMosaic.Adequacy
public import Idealize.ShloMosaic.Init
public import proofs.«01_k».proof.Proof.Bits
public import proofs.«01_k».proof.Proof.Equal

@[expose] public section

noncomputable section

namespace Cert.Proof

open Idealize.ShloMosaic Idealize.SL.Sem

set_option maxHeartbeats 0 in
/-- The program at the bit patterns. -/
theorem frame_bits : Cert.quiescent_Kernel := fun m ρ h =>
  (θ_run Cert.Kernel.defs _ _).mono (fun _ r => ⟨fun c => by
      have k := r.1 c
      repeat' apply And.intro
      all_goals exact k _ (by decide +kernel), r.2⟩)
    (Bits.run_args m ρ fun d => KernelIdeal.pre_lt (h d))

/-- What every execution at the exact numbers leaves. -/
theorem ideal_run (m) (ρ) (h : ∀ d, KernelIdeal.Ids m d) :
    θ_run (Cert.KernelIdeal.defs (F := Ideal)) (Cert.KernelIdeal.threads (F := Ideal)) ⟨m, fun _ => 0, ρ⟩ fun r =>
      (∀ d, r.2.mem ((SparseCore.T d).loc Cert.KernelIdeal.main_v109) = KernelIdeal.result (KernelIdeal.VV m) d
          ∧ ∀ b, KernelIdeal.Kept b → r.2.mem ((SparseCore.T d).loc b) = KernelIdeal.arg m d b) ∧ r.2.sem = fun _ => 0 :=
  KernelIdeal.run_args m ρ h

/-- The program at the exact numbers. -/
theorem frame_ideal : Cert.quiescent_KernelIdeal := fun m ρ h =>
  (θ_run Cert.KernelIdeal.defs _ _).mono (fun _ r => ⟨fun c => by
      have k := (r.1 c).2
      repeat' apply And.intro
      all_goals exact k _ (by decide +kernel), r.2⟩)
    (ideal_run m ρ fun d => KernelIdeal.pre_lt (h d))

/-- The same, when every float is a real number too. -/
theorem frame_ideal_real : Cert.quiescent_KernelIdeal_pre_ids_in_rows_floats_finite := fun m ρ h =>
  (θ_run Cert.KernelIdeal.defs _ _).mono (fun _ r => ⟨fun c => by
      have k := (r.1 c).2
      repeat' apply And.intro
      all_goals exact k _ (by decide +kernel), r.2⟩)
    (ideal_run m ρ fun d => KernelIdeal.good_ids (h d))

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The two results are equal. -/
theorem equal_results : Cert.algebraic_KernelIdeal_ReferenceIdeal_pre_ids_in_rows_floats_finite := by
  intro m ρ m' ρ' h ha
  refine ⟨fun c => KernelIdeal.result (KernelIdeal.VV m) c, (θ_run Cert.KernelIdeal.defs _ _).mono (fun _ r c => ?_)
    (ideal_run m ρ fun d => KernelIdeal.good_ids (h d)), ?_⟩
  · refine ⟨(r.1 c).1, ?_⟩
    have k := (r.1 c).2
    repeat' apply And.intro
    all_goals exact k _ (by decide +kernel)
  · refine (θ_run Cert.ReferenceIdeal.defs _ _).mono (fun r e c => ⟨(e c).1.trans ?_, (e c).2⟩) (Cert.ReferenceIdeal.Value.run m' ρ')
    have hV : KernelIdeal.Same m c (StableHlo.launchContents m' c) := ha c
    exact KernelIdeal.equal (h c) hV

theorem claim : Cert.Claim := ⟨Cert.Kernel.Gen.facts, Cert.KernelIdeal.Gen.facts, Cert.ReferenceIdeal.Gen.facts, Cert.Pre_ids_in_rows.Gen.facts,
  Cert.Pre_ids_in_rows_floats_finite.Gen.facts,
  frame_bits, frame_ideal, frame_ideal_real, frame_reference, fun m ρ _ => frame_reference m ρ trivial, trivial, equal_results⟩

end Cert.Proof

end
